-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference (m : (ℓ : Loc Cert.Reference.nD Cert.Reference.τ Cert.Reference.sig) → Buf (Elt Bits) ℓ) : Prop :=
  True

def Pre_MidBwd (m : (ℓ : Loc Cert.MidBwd.nD Cert.MidBwd.τ Cert.MidBwd.sig) → Buf (Elt Bits) ℓ) : Prop :=
  True

def Pre_MidBwdIdeal (m : (ℓ : Loc Cert.MidBwdIdeal.nD Cert.MidBwdIdeal.τ Cert.MidBwdIdeal.sig) → Buf (Elt Ideal) ℓ) : Prop :=
  True

def Pre_MidBwdIdeal_finite_mid [hPre_finite_mid : Cert.Pre_finite_mid.Facts] (m : (ℓ : Loc Cert.MidBwdIdeal.nD Cert.MidBwdIdeal.τ Cert.MidBwdIdeal.sig) → Buf (Elt Ideal) ℓ) : Prop :=
  ∀ c : Dev Cert.MidBwdIdeal.nD,
    (Cert.Pre_finite_mid.fn (F := Ideal) (m ((c.tc : Thread Cert.MidBwdIdeal.nD Cert.MidBwdIdeal.τ).loc Cert.MidBwdIdeal.main_arg0)) (m ((c.tc : Thread Cert.MidBwdIdeal.nD Cert.MidBwdIdeal.τ).loc Cert.MidBwdIdeal.main_arg1)) (m ((c.tc : Thread Cert.MidBwdIdeal.nD Cert.MidBwdIdeal.τ).loc Cert.MidBwdIdeal.main_arg2)) (m ((c.tc : Thread Cert.MidBwdIdeal.nD Cert.MidBwdIdeal.τ).loc Cert.MidBwdIdeal.main_arg3))) = (fun _ => 1#1)

def Pre_MidBwdRefIdeal (m : (ℓ : Loc Cert.MidBwdRefIdeal.nD Cert.MidBwdRefIdeal.τ Cert.MidBwdRefIdeal.sig) → Buf (Elt Ideal) ℓ) : Prop :=
  True

def Pre_MidBwdRefIdeal_finite_mid [hPre_finite_mid : Cert.Pre_finite_mid.Facts] (m : (ℓ : Loc Cert.MidBwdRefIdeal.nD Cert.MidBwdRefIdeal.τ Cert.MidBwdRefIdeal.sig) → Buf (Elt Ideal) ℓ) : Prop :=
  ∀ c : Dev Cert.MidBwdRefIdeal.nD,
    (Cert.Pre_finite_mid.fn (F := Ideal) (m ((c.tc : Thread Cert.MidBwdRefIdeal.nD Cert.MidBwdRefIdeal.τ).loc Cert.MidBwdRefIdeal.main_arg0)) (m ((c.tc : Thread Cert.MidBwdRefIdeal.nD Cert.MidBwdRefIdeal.τ).loc Cert.MidBwdRefIdeal.main_arg1)) (m ((c.tc : Thread Cert.MidBwdRefIdeal.nD Cert.MidBwdRefIdeal.τ).loc Cert.MidBwdRefIdeal.main_arg2)) (m ((c.tc : Thread Cert.MidBwdRefIdeal.nD Cert.MidBwdRefIdeal.τ).loc Cert.MidBwdRefIdeal.main_arg3))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OdMid (m : (ℓ : Loc Cert.OdMid.nD Cert.OdMid.τ Cert.OdMid.sig) → Buf (Elt Bits) ℓ) : Prop :=
  True

def Pre_OdMidIdeal (m : (ℓ : Loc Cert.OdMidIdeal.nD Cert.OdMidIdeal.τ Cert.OdMidIdeal.sig) → Buf (Elt Ideal) ℓ) : Prop :=
  True

def Pre_OdMidRefIdeal (m : (ℓ : Loc Cert.OdMidRefIdeal.nD Cert.OdMidRefIdeal.τ Cert.OdMidRefIdeal.sig) → Buf (Elt Ideal) ℓ) : Prop :=
  True

def Pre_OdMidBwd (m : (ℓ : Loc Cert.OdMidBwd.nD Cert.OdMidBwd.τ Cert.OdMidBwd.sig) → Buf (Elt Bits) ℓ) : Prop :=
  True

def Pre_OdMidBwdIdeal (m : (ℓ : Loc Cert.OdMidBwdIdeal.nD Cert.OdMidBwdIdeal.τ Cert.OdMidBwdIdeal.sig) → Buf (Elt Ideal) ℓ) : Prop :=
  True

def Pre_OdMidBwdRefIdeal (m : (ℓ : Loc Cert.OdMidBwdRefIdeal.nD Cert.OdMidBwdRefIdeal.τ Cert.OdMidBwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormRefIdeal (m : (ℓ : Loc Cert.MixNormRefIdeal.nD Cert.MixNormRefIdeal.τ Cert.MixNormRefIdeal.sig) → Buf (Elt Ideal) ℓ) : Prop :=
  True

def Pre_OdInDx (m : (ℓ : Loc Cert.OdInDx.nD Cert.OdInDx.τ Cert.OdInDx.sig) → Buf (Elt Bits) ℓ) : Prop :=
  True

def Pre_OdInDxIdeal (m : (ℓ : Loc Cert.OdInDxIdeal.nD Cert.OdInDxIdeal.τ Cert.OdInDxIdeal.sig) → Buf (Elt Ideal) ℓ) : Prop :=
  True

def Pre_OdInDxRefIdeal (m : (ℓ : Loc Cert.OdInDxRefIdeal.nD Cert.OdInDxRefIdeal.τ Cert.OdInDxRefIdeal.sig) → Buf (Elt Ideal) ℓ) : Prop :=
  True

def Pre_OdInDw (m : (ℓ : Loc Cert.OdInDw.nD Cert.OdInDw.τ Cert.OdInDw.sig) → Buf (Elt Bits) ℓ) : Prop :=
  True

def Pre_OdInDwIdeal (m : (ℓ : Loc Cert.OdInDwIdeal.nD Cert.OdInDwIdeal.τ Cert.OdInDwIdeal.sig) → Buf (Elt Ideal) ℓ) : Prop :=
  True

def Pre_OdInDwRefIdeal (m : (ℓ : Loc Cert.OdInDwRefIdeal.nD Cert.OdInDwRefIdeal.τ Cert.OdInDwRefIdeal.sig) → Buf (Elt Ideal) ℓ) : Prop :=
  True

def Pre_EvInDx (m : (ℓ : Loc Cert.EvInDx.nD Cert.EvInDx.τ Cert.EvInDx.sig) → Buf (Elt Bits) ℓ) : Prop :=
  True

def Pre_EvInDxIdeal (m : (ℓ : Loc Cert.EvInDxIdeal.nD Cert.EvInDxIdeal.τ Cert.EvInDxIdeal.sig) → Buf (Elt Ideal) ℓ) : Prop :=
  True

def Pre_EvInDxRefIdeal (m : (ℓ : Loc Cert.EvInDxRefIdeal.nD Cert.EvInDxRefIdeal.τ Cert.EvInDxRefIdeal.sig) → Buf (Elt Ideal) ℓ) : Prop :=
  True

def Pre_EvInDw (m : (ℓ : Loc Cert.EvInDw.nD Cert.EvInDw.τ Cert.EvInDw.sig) → Buf (Elt Bits) ℓ) : Prop :=
  True

def Pre_EvInDwIdeal (m : (ℓ : Loc Cert.EvInDwIdeal.nD Cert.EvInDwIdeal.τ Cert.EvInDwIdeal.sig) → Buf (Elt Ideal) ℓ) : Prop :=
  True

def Pre_EvInDwRefIdeal (m : (ℓ : Loc Cert.EvInDwRefIdeal.nD Cert.EvInDwRefIdeal.τ Cert.EvInDwRefIdeal.sig) → Buf (Elt Ideal) ℓ) : Prop :=
  True

def Pre_EvUqDx (m : (ℓ : Loc Cert.EvUqDx.nD Cert.EvUqDx.τ Cert.EvUqDx.sig) → Buf (Elt Bits) ℓ) : Prop :=
  True

def Pre_EvUqDxIdeal (m : (ℓ : Loc Cert.EvUqDxIdeal.nD Cert.EvUqDxIdeal.τ Cert.EvUqDxIdeal.sig) → Buf (Elt Ideal) ℓ) : Prop :=
  True

def Pre_EvUqDxRefIdeal (m : (ℓ : Loc Cert.EvUqDxRefIdeal.nD Cert.EvUqDxRefIdeal.τ Cert.EvUqDxRefIdeal.sig) → Buf (Elt Ideal) ℓ) : Prop :=
  True

def Pre_EvUqDw (m : (ℓ : Loc Cert.EvUqDw.nD Cert.EvUqDw.τ Cert.EvUqDw.sig) → Buf (Elt Bits) ℓ) : Prop :=
  True

def Pre_EvUqDwIdeal (m : (ℓ : Loc Cert.EvUqDwIdeal.nD Cert.EvUqDwIdeal.τ Cert.EvUqDwIdeal.sig) → Buf (Elt Ideal) ℓ) : Prop :=
  True

def Pre_EvUqDwRefIdeal (m : (ℓ : Loc Cert.EvUqDwRefIdeal.nD Cert.EvUqDwRefIdeal.τ Cert.EvUqDwRefIdeal.sig) → Buf (Elt Ideal) ℓ) : Prop :=
  True

def Pre_EvUkvDx (m : (ℓ : Loc Cert.EvUkvDx.nD Cert.EvUkvDx.τ Cert.EvUkvDx.sig) → Buf (Elt Bits) ℓ) : Prop :=
  True

def Pre_EvUkvDxIdeal (m : (ℓ : Loc Cert.EvUkvDxIdeal.nD Cert.EvUkvDxIdeal.τ Cert.EvUkvDxIdeal.sig) → Buf (Elt Ideal) ℓ) : Prop :=
  True

def Pre_EvUkvDxRefIdeal (m : (ℓ : Loc Cert.EvUkvDxRefIdeal.nD Cert.EvUkvDxRefIdeal.τ Cert.EvUkvDxRefIdeal.sig) → Buf (Elt Ideal) ℓ) : Prop :=
  True

def Pre_EvUkvDw (m : (ℓ : Loc Cert.EvUkvDw.nD Cert.EvUkvDw.τ Cert.EvUkvDw.sig) → Buf (Elt Bits) ℓ) : Prop :=
  True

def Pre_EvUkvDwIdeal (m : (ℓ : Loc Cert.EvUkvDwIdeal.nD Cert.EvUkvDwIdeal.τ Cert.EvUkvDwIdeal.sig) → Buf (Elt Ideal) ℓ) : Prop :=
  True

def Pre_EvUkvDwRefIdeal (m : (ℓ : Loc Cert.EvUkvDwRefIdeal.nD Cert.EvUkvDwRefIdeal.τ Cert.EvUkvDwRefIdeal.sig) → Buf (Elt Ideal) ℓ) : Prop :=
  True

def Pre_OdOutDx (m : (ℓ : Loc Cert.OdOutDx.nD Cert.OdOutDx.τ Cert.OdOutDx.sig) → Buf (Elt Bits) ℓ) : Prop :=
  True

def Pre_OdOutDxIdeal (m : (ℓ : Loc Cert.OdOutDxIdeal.nD Cert.OdOutDxIdeal.τ Cert.OdOutDxIdeal.sig) → Buf (Elt Ideal) ℓ) : Prop :=
  True

def Pre_OdOutDxRefIdeal (m : (ℓ : Loc Cert.OdOutDxRefIdeal.nD Cert.OdOutDxRefIdeal.τ Cert.OdOutDxRefIdeal.sig) → Buf (Elt Ideal) ℓ) : Prop :=
  True

def Pre_OdOutDw (m : (ℓ : Loc Cert.OdOutDw.nD Cert.OdOutDw.τ Cert.OdOutDw.sig) → Buf (Elt Bits) ℓ) : Prop :=
  True

def Pre_OdOutDwIdeal (m : (ℓ : Loc Cert.OdOutDwIdeal.nD Cert.OdOutDwIdeal.τ Cert.OdOutDwIdeal.sig) → Buf (Elt Ideal) ℓ) : Prop :=
  True

def Pre_OdOutDwRefIdeal (m : (ℓ : Loc Cert.OdOutDwRefIdeal.nD Cert.OdOutDwRefIdeal.τ Cert.OdOutDwRefIdeal.sig) → Buf (Elt Ideal) ℓ) : Prop :=
  True

def Pre_EvOutDx (m : (ℓ : Loc Cert.EvOutDx.nD Cert.EvOutDx.τ Cert.EvOutDx.sig) → Buf (Elt Bits) ℓ) : Prop :=
  True

def Pre_EvOutDxIdeal (m : (ℓ : Loc Cert.EvOutDxIdeal.nD Cert.EvOutDxIdeal.τ Cert.EvOutDxIdeal.sig) → Buf (Elt Ideal) ℓ) : Prop :=
  True

def Pre_EvOutDxRefIdeal (m : (ℓ : Loc Cert.EvOutDxRefIdeal.nD Cert.EvOutDxRefIdeal.τ Cert.EvOutDxRefIdeal.sig) → Buf (Elt Ideal) ℓ) : Prop :=
  True

def Pre_EvOutDw (m : (ℓ : Loc Cert.EvOutDw.nD Cert.EvOutDw.τ Cert.EvOutDw.sig) → Buf (Elt Bits) ℓ) : Prop :=
  True

def Pre_EvOutDwIdeal (m : (ℓ : Loc Cert.EvOutDwIdeal.nD Cert.EvOutDwIdeal.τ Cert.EvOutDwIdeal.sig) → Buf (Elt Ideal) ℓ) : Prop :=
  True

def Pre_EvOutDwRefIdeal (m : (ℓ : Loc Cert.EvOutDwRefIdeal.nD Cert.EvOutDwRefIdeal.τ Cert.EvOutDwRefIdeal.sig) → Buf (Elt Ideal) ℓ) : Prop :=
  True

def Pre_OdIn (m : (ℓ : Loc Cert.OdIn.nD Cert.OdIn.τ Cert.OdIn.sig) → Buf (Elt Bits) ℓ) : Prop :=
  True

def Pre_OdInIdeal (m : (ℓ : Loc Cert.OdInIdeal.nD Cert.OdInIdeal.τ Cert.OdInIdeal.sig) → Buf (Elt Ideal) ℓ) : Prop :=
  True

def Pre_OdInRefIdeal (m : (ℓ : Loc Cert.OdInRefIdeal.nD Cert.OdInRefIdeal.τ Cert.OdInRefIdeal.sig) → Buf (Elt Ideal) ℓ) : Prop :=
  True

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_EvInRefIdeal (m : (ℓ : Loc Cert.EvInRefIdeal.nD Cert.EvInRefIdeal.τ Cert.EvInRefIdeal.sig) → Buf (Elt Ideal) ℓ) : Prop :=
  True

def Pre_EvUq (m : (ℓ : Loc Cert.EvUq.nD Cert.EvUq.τ Cert.EvUq.sig) → Buf (Elt Bits) ℓ) : Prop :=
  True

def Pre_EvUqIdeal (m : (ℓ : Loc Cert.EvUqIdeal.nD Cert.EvUqIdeal.τ Cert.EvUqIdeal.sig) → Buf (Elt Ideal) ℓ) : Prop :=
  True

def Pre_EvUqRefIdeal (m : (ℓ : Loc Cert.EvUqRefIdeal.nD Cert.EvUqRefIdeal.τ Cert.EvUqRefIdeal.sig) → Buf (Elt Ideal) ℓ) : Prop :=
  True

def Pre_EvUkv (m : (ℓ : Loc Cert.EvUkv.nD Cert.EvUkv.τ Cert.EvUkv.sig) → Buf (Elt Bits) ℓ) : Prop :=
  True

def Pre_EvUkvIdeal (m : (ℓ : Loc Cert.EvUkvIdeal.nD Cert.EvUkvIdeal.τ Cert.EvUkvIdeal.sig) → Buf (Elt Ideal) ℓ) : Prop :=
  True

def Pre_EvUkvRefIdeal (m : (ℓ : Loc Cert.EvUkvRefIdeal.nD Cert.EvUkvRefIdeal.τ Cert.EvUkvRefIdeal.sig) → Buf (Elt Ideal) ℓ) : Prop :=
  True

def Pre_OdOut (m : (ℓ : Loc Cert.OdOut.nD Cert.OdOut.τ Cert.OdOut.sig) → Buf (Elt Bits) ℓ) : Prop :=
  True

def Pre_OdOutIdeal (m : (ℓ : Loc Cert.OdOutIdeal.nD Cert.OdOutIdeal.τ Cert.OdOutIdeal.sig) → Buf (Elt Ideal) ℓ) : Prop :=
  True

def Pre_OdOutRefIdeal (m : (ℓ : Loc Cert.OdOutRefIdeal.nD Cert.OdOutRefIdeal.τ Cert.OdOutRefIdeal.sig) → Buf (Elt Ideal) ℓ) : Prop :=
  True

def Pre_EvOut (m : (ℓ : Loc Cert.EvOut.nD Cert.EvOut.τ Cert.EvOut.sig) → Buf (Elt Bits) ℓ) : Prop :=
  True

def Pre_EvOutIdeal (m : (ℓ : Loc Cert.EvOutIdeal.nD Cert.EvOutIdeal.τ Cert.EvOutIdeal.sig) → Buf (Elt Ideal) ℓ) : Prop :=
  True

def Pre_EvOutRefIdeal (m : (ℓ : Loc Cert.EvOutRefIdeal.nD Cert.EvOutRefIdeal.τ Cert.EvOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_MidBwd [hMidBwd : Cert.MidBwd.Facts] : Prop :=
  ∀ (m : (ℓ : Loc Cert.MidBwd.nD Cert.MidBwd.τ Cert.MidBwd.sig) → Buf (Elt Bits) ℓ) (g : Dev Cert.MidBwd.nD → PrngReg), Pre_MidBwd m →
    θ_run (Cert.MidBwd.defs (F := Bits)) (onTc (τ := Cert.MidBwd.τ) (Cert.MidBwd.main (F := Bits))) ⟨m, fun _ => 0, g⟩ (fun r => (∀ c : Dev Cert.MidBwd.nD,
      r.2.mem ((c.tc : Thread Cert.MidBwd.nD Cert.MidBwd.τ).loc Cert.MidBwd.main_arg0) = m ((c.tc : Thread Cert.MidBwd.nD Cert.MidBwd.τ).loc Cert.MidBwd.main_arg0)
      ∧ r.2.mem ((c.tc : Thread Cert.MidBwd.nD Cert.MidBwd.τ).loc Cert.MidBwd.main_arg1) = m ((c.tc : Thread Cert.MidBwd.nD Cert.MidBwd.τ).loc Cert.MidBwd.main_arg1)
      ∧ r.2.mem ((c.tc : Thread Cert.MidBwd.nD Cert.MidBwd.τ).loc Cert.MidBwd.main_arg2) = m ((c.tc : Thread Cert.MidBwd.nD Cert.MidBwd.τ).loc Cert.MidBwd.main_arg2)
      ∧ r.2.mem ((c.tc : Thread Cert.MidBwd.nD Cert.MidBwd.τ).loc Cert.MidBwd.main_arg3) = m ((c.tc : Thread Cert.MidBwd.nD Cert.MidBwd.τ).loc Cert.MidBwd.main_arg3))
      ∧ r.2.sem = fun _ => 0)

def quiescent_MidBwdIdeal [hMidBwdIdeal : Cert.MidBwdIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg), Pre_MidBwdIdeal m →
    θ_run (Cert.MidBwdIdeal.defs (F := Ideal)) (onTc (τ := Cert.MidBwdIdeal.τ) (Cert.MidBwdIdeal.main (F := Ideal))) ⟨m, fun _ => 0, g⟩ (fun r => (∀ c : Dev Cert.MidBwdIdeal.nD,
      r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
      ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
      ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
      ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3))
      ∧ r.2.sem = fun _ => 0)

def quiescent_MidBwdIdeal_pre_finite_mid [hMidBwdIdeal : Cert.MidBwdIdeal.Facts] [hPre_finite_mid : Cert.Pre_finite_mid.Facts] : Prop :=
  ∀ (m : (ℓ : Loc Cert.MidBwdIdeal.nD Cert.MidBwdIdeal.τ Cert.MidBwdIdeal.sig) → Buf (Elt Ideal) ℓ) (g : Dev Cert.MidBwdIdeal.nD → PrngReg), Pre_MidBwdIdeal_finite_mid m →
    θ_run (Cert.MidBwdIdeal.defs (F := Ideal)) (onTc (τ := Cert.MidBwdIdeal.τ) (Cert.MidBwdIdeal.main (F := Ideal))) ⟨m, fun _ => 0, g⟩ (fun r => (∀ c : Dev Cert.MidBwdIdeal.nD,
      r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
      ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
      ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
      ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3))
      ∧ r.2.sem = fun _ => 0)

def quiescent_MidBwdRefIdeal [hMidBwdRefIdeal : Cert.MidBwdRefIdeal.Facts] : Prop :=
  ∀ (m : (ℓ : Loc Cert.MidBwdRefIdeal.nD Cert.MidBwdRefIdeal.τ Cert.MidBwdRefIdeal.sig) → Buf (Elt Ideal) ℓ) (g : Dev Cert.MidBwdRefIdeal.nD → PrngReg), Pre_MidBwdRefIdeal m →
    θ_run (Cert.MidBwdRefIdeal.defs (F := Ideal)) (onTc (τ := Cert.MidBwdRefIdeal.τ) (Cert.MidBwdRefIdeal.main (F := Ideal))) ⟨m, fun _ => 0, g⟩ (fun r => (∀ c : Dev Cert.MidBwdRefIdeal.nD,
      r.2.mem ((c.tc : Thread Cert.MidBwdRefIdeal.nD Cert.MidBwdRefIdeal.τ).loc Cert.MidBwdRefIdeal.main_arg0) = m ((c.tc : Thread Cert.MidBwdRefIdeal.nD Cert.MidBwdRefIdeal.τ).loc Cert.MidBwdRefIdeal.main_arg0)
      ∧ r.2.mem ((c.tc : Thread Cert.MidBwdRefIdeal.nD Cert.MidBwdRefIdeal.τ).loc Cert.MidBwdRefIdeal.main_arg1) = m ((c.tc : Thread Cert.MidBwdRefIdeal.nD Cert.MidBwdRefIdeal.τ).loc Cert.MidBwdRefIdeal.main_arg1)
      ∧ r.2.mem ((c.tc : Thread Cert.MidBwdRefIdeal.nD Cert.MidBwdRefIdeal.τ).loc Cert.MidBwdRefIdeal.main_arg2) = m ((c.tc : Thread Cert.MidBwdRefIdeal.nD Cert.MidBwdRefIdeal.τ).loc Cert.MidBwdRefIdeal.main_arg2)
      ∧ r.2.mem ((c.tc : Thread Cert.MidBwdRefIdeal.nD Cert.MidBwdRefIdeal.τ).loc Cert.MidBwdRefIdeal.main_arg3) = m ((c.tc : Thread Cert.MidBwdRefIdeal.nD Cert.MidBwdRefIdeal.τ).loc Cert.MidBwdRefIdeal.main_arg3))
      ∧ r.2.sem = fun _ => 0)

def quiescent_MidBwdRefIdeal_pre_finite_mid [hMidBwdRefIdeal : Cert.MidBwdRefIdeal.Facts] [hPre_finite_mid : Cert.Pre_finite_mid.Facts] : Prop :=
  ∀ (m : (ℓ : Loc Cert.MidBwdRefIdeal.nD Cert.MidBwdRefIdeal.τ Cert.MidBwdRefIdeal.sig) → Buf (Elt Ideal) ℓ) (g : Dev Cert.MidBwdRefIdeal.nD → PrngReg), Pre_MidBwdRefIdeal_finite_mid m →
    θ_run (Cert.MidBwdRefIdeal.defs (F := Ideal)) (onTc (τ := Cert.MidBwdRefIdeal.τ) (Cert.MidBwdRefIdeal.main (F := Ideal))) ⟨m, fun _ => 0, g⟩ (fun r => (∀ c : Dev Cert.MidBwdRefIdeal.nD,
      r.2.mem ((c.tc : Thread Cert.MidBwdRefIdeal.nD Cert.MidBwdRefIdeal.τ).loc Cert.MidBwdRefIdeal.main_arg0) = m ((c.tc : Thread Cert.MidBwdRefIdeal.nD Cert.MidBwdRefIdeal.τ).loc Cert.MidBwdRefIdeal.main_arg0)
      ∧ r.2.mem ((c.tc : Thread Cert.MidBwdRefIdeal.nD Cert.MidBwdRefIdeal.τ).loc Cert.MidBwdRefIdeal.main_arg1) = m ((c.tc : Thread Cert.MidBwdRefIdeal.nD Cert.MidBwdRefIdeal.τ).loc Cert.MidBwdRefIdeal.main_arg1)
      ∧ r.2.mem ((c.tc : Thread Cert.MidBwdRefIdeal.nD Cert.MidBwdRefIdeal.τ).loc Cert.MidBwdRefIdeal.main_arg2) = m ((c.tc : Thread Cert.MidBwdRefIdeal.nD Cert.MidBwdRefIdeal.τ).loc Cert.MidBwdRefIdeal.main_arg2)
      ∧ r.2.mem ((c.tc : Thread Cert.MidBwdRefIdeal.nD Cert.MidBwdRefIdeal.τ).loc Cert.MidBwdRefIdeal.main_arg3) = m ((c.tc : Thread Cert.MidBwdRefIdeal.nD Cert.MidBwdRefIdeal.τ).loc Cert.MidBwdRefIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_OdMid [hOdMid : Cert.OdMid.Facts] : Prop :=
  ∀ (m : (ℓ : Loc Cert.OdMid.nD Cert.OdMid.τ Cert.OdMid.sig) → Buf (Elt Bits) ℓ) (g : Dev Cert.OdMid.nD → PrngReg), Pre_OdMid m →
    θ_run (Cert.OdMid.defs (F := Bits)) (onTc (τ := Cert.OdMid.τ) (Cert.OdMid.main (F := Bits))) ⟨m, fun _ => 0, g⟩ (fun r => (∀ c : Dev Cert.OdMid.nD,
      r.2.mem ((c.tc : Thread Cert.OdMid.nD Cert.OdMid.τ).loc Cert.OdMid.main_arg0) = m ((c.tc : Thread Cert.OdMid.nD Cert.OdMid.τ).loc Cert.OdMid.main_arg0)
      ∧ r.2.mem ((c.tc : Thread Cert.OdMid.nD Cert.OdMid.τ).loc Cert.OdMid.main_arg1) = m ((c.tc : Thread Cert.OdMid.nD Cert.OdMid.τ).loc Cert.OdMid.main_arg1)
      ∧ r.2.mem ((c.tc : Thread Cert.OdMid.nD Cert.OdMid.τ).loc Cert.OdMid.main_arg2) = m ((c.tc : Thread Cert.OdMid.nD Cert.OdMid.τ).loc Cert.OdMid.main_arg2))
      ∧ r.2.sem = fun _ => 0)

def quiescent_OdMidIdeal [hOdMidIdeal : Cert.OdMidIdeal.Facts] : Prop :=
  ∀ (m : (ℓ : Loc Cert.OdMidIdeal.nD Cert.OdMidIdeal.τ Cert.OdMidIdeal.sig) → Buf (Elt Ideal) ℓ) (g : Dev Cert.OdMidIdeal.nD → PrngReg), Pre_OdMidIdeal m →
    θ_run (Cert.OdMidIdeal.defs (F := Ideal)) (onTc (τ := Cert.OdMidIdeal.τ) (Cert.OdMidIdeal.main (F := Ideal))) ⟨m, fun _ => 0, g⟩ (fun r => (∀ c : Dev Cert.OdMidIdeal.nD,
      r.2.mem ((c.tc : Thread Cert.OdMidIdeal.nD Cert.OdMidIdeal.τ).loc Cert.OdMidIdeal.main_arg0) = m ((c.tc : Thread Cert.OdMidIdeal.nD Cert.OdMidIdeal.τ).loc Cert.OdMidIdeal.main_arg0)
      ∧ r.2.mem ((c.tc : Thread Cert.OdMidIdeal.nD Cert.OdMidIdeal.τ).loc Cert.OdMidIdeal.main_arg1) = m ((c.tc : Thread Cert.OdMidIdeal.nD Cert.OdMidIdeal.τ).loc Cert.OdMidIdeal.main_arg1)
      ∧ r.2.mem ((c.tc : Thread Cert.OdMidIdeal.nD Cert.OdMidIdeal.τ).loc Cert.OdMidIdeal.main_arg2) = m ((c.tc : Thread Cert.OdMidIdeal.nD Cert.OdMidIdeal.τ).loc Cert.OdMidIdeal.main_arg2))
      ∧ r.2.sem = fun _ => 0)

def quiescent_OdMidRefIdeal [hOdMidRefIdeal : Cert.OdMidRefIdeal.Facts] : Prop :=
  ∀ (m : (ℓ : Loc Cert.OdMidRefIdeal.nD Cert.OdMidRefIdeal.τ Cert.OdMidRefIdeal.sig) → Buf (Elt Ideal) ℓ) (g : Dev Cert.OdMidRefIdeal.nD → PrngReg), Pre_OdMidRefIdeal m →
    θ_run (Cert.OdMidRefIdeal.defs (F := Ideal)) (onTc (τ := Cert.OdMidRefIdeal.τ) (Cert.OdMidRefIdeal.main (F := Ideal))) ⟨m, fun _ => 0, g⟩ (fun r => (∀ c : Dev Cert.OdMidRefIdeal.nD,
      r.2.mem ((c.tc : Thread Cert.OdMidRefIdeal.nD Cert.OdMidRefIdeal.τ).loc Cert.OdMidRefIdeal.main_arg0) = m ((c.tc : Thread Cert.OdMidRefIdeal.nD Cert.OdMidRefIdeal.τ).loc Cert.OdMidRefIdeal.main_arg0)
      ∧ r.2.mem ((c.tc : Thread Cert.OdMidRefIdeal.nD Cert.OdMidRefIdeal.τ).loc Cert.OdMidRefIdeal.main_arg1) = m ((c.tc : Thread Cert.OdMidRefIdeal.nD Cert.OdMidRefIdeal.τ).loc Cert.OdMidRefIdeal.main_arg1)
      ∧ r.2.mem ((c.tc : Thread Cert.OdMidRefIdeal.nD Cert.OdMidRefIdeal.τ).loc Cert.OdMidRefIdeal.main_arg2) = m ((c.tc : Thread Cert.OdMidRefIdeal.nD Cert.OdMidRefIdeal.τ).loc Cert.OdMidRefIdeal.main_arg2))
      ∧ r.2.sem = fun _ => 0)

def quiescent_OdMidBwd [hOdMidBwd : Cert.OdMidBwd.Facts] : Prop :=
  ∀ (m : (ℓ : Loc Cert.OdMidBwd.nD Cert.OdMidBwd.τ Cert.OdMidBwd.sig) → Buf (Elt Bits) ℓ) (g : Dev Cert.OdMidBwd.nD → PrngReg), Pre_OdMidBwd m →
    θ_run (Cert.OdMidBwd.defs (F := Bits)) (onTc (τ := Cert.OdMidBwd.τ) (Cert.OdMidBwd.main (F := Bits))) ⟨m, fun _ => 0, g⟩ (fun r => (∀ c : Dev Cert.OdMidBwd.nD,
      r.2.mem ((c.tc : Thread Cert.OdMidBwd.nD Cert.OdMidBwd.τ).loc Cert.OdMidBwd.main_arg0) = m ((c.tc : Thread Cert.OdMidBwd.nD Cert.OdMidBwd.τ).loc Cert.OdMidBwd.main_arg0)
      ∧ r.2.mem ((c.tc : Thread Cert.OdMidBwd.nD Cert.OdMidBwd.τ).loc Cert.OdMidBwd.main_arg1) = m ((c.tc : Thread Cert.OdMidBwd.nD Cert.OdMidBwd.τ).loc Cert.OdMidBwd.main_arg1)
      ∧ r.2.mem ((c.tc : Thread Cert.OdMidBwd.nD Cert.OdMidBwd.τ).loc Cert.OdMidBwd.main_arg2) = m ((c.tc : Thread Cert.OdMidBwd.nD Cert.OdMidBwd.τ).loc Cert.OdMidBwd.main_arg2)
      ∧ r.2.mem ((c.tc : Thread Cert.OdMidBwd.nD Cert.OdMidBwd.τ).loc Cert.OdMidBwd.main_arg3) = m ((c.tc : Thread Cert.OdMidBwd.nD Cert.OdMidBwd.τ).loc Cert.OdMidBwd.main_arg3))
      ∧ r.2.sem = fun _ => 0)

def quiescent_OdMidBwdIdeal [hOdMidBwdIdeal : Cert.OdMidBwdIdeal.Facts] : Prop :=
  ∀ (m : (ℓ : Loc Cert.OdMidBwdIdeal.nD Cert.OdMidBwdIdeal.τ Cert.OdMidBwdIdeal.sig) → Buf (Elt Ideal) ℓ) (g : Dev Cert.OdMidBwdIdeal.nD → PrngReg), Pre_OdMidBwdIdeal m →
    θ_run (Cert.OdMidBwdIdeal.defs (F := Ideal)) (onTc (τ := Cert.OdMidBwdIdeal.τ) (Cert.OdMidBwdIdeal.main (F := Ideal))) ⟨m, fun _ => 0, g⟩ (fun r => (∀ c : Dev Cert.OdMidBwdIdeal.nD,
      r.2.mem ((c.tc : Thread Cert.OdMidBwdIdeal.nD Cert.OdMidBwdIdeal.τ).loc Cert.OdMidBwdIdeal.main_arg0) = m ((c.tc : Thread Cert.OdMidBwdIdeal.nD Cert.OdMidBwdIdeal.τ).loc Cert.OdMidBwdIdeal.main_arg0)
      ∧ r.2.mem ((c.tc : Thread Cert.OdMidBwdIdeal.nD Cert.OdMidBwdIdeal.τ).loc Cert.OdMidBwdIdeal.main_arg1) = m ((c.tc : Thread Cert.OdMidBwdIdeal.nD Cert.OdMidBwdIdeal.τ).loc Cert.OdMidBwdIdeal.main_arg1)
      ∧ r.2.mem ((c.tc : Thread Cert.OdMidBwdIdeal.nD Cert.OdMidBwdIdeal.τ).loc Cert.OdMidBwdIdeal.main_arg2) = m ((c.tc : Thread Cert.OdMidBwdIdeal.nD Cert.OdMidBwdIdeal.τ).loc Cert.OdMidBwdIdeal.main_arg2)
      ∧ r.2.mem ((c.tc : Thread Cert.OdMidBwdIdeal.nD Cert.OdMidBwdIdeal.τ).loc Cert.OdMidBwdIdeal.main_arg3) = m ((c.tc : Thread Cert.OdMidBwdIdeal.nD Cert.OdMidBwdIdeal.τ).loc Cert.OdMidBwdIdeal.main_arg3))
      ∧ r.2.sem = fun _ => 0)

def quiescent_OdMidBwdRefIdeal [hOdMidBwdRefIdeal : Cert.OdMidBwdRefIdeal.Facts] : Prop :=
  ∀ (m : (ℓ : Loc Cert.OdMidBwdRefIdeal.nD Cert.OdMidBwdRefIdeal.τ Cert.OdMidBwdRefIdeal.sig) → Buf (Elt Ideal) ℓ) (g : Dev Cert.OdMidBwdRefIdeal.nD → PrngReg), Pre_OdMidBwdRefIdeal m →
    θ_run (Cert.OdMidBwdRefIdeal.defs (F := Ideal)) (onTc (τ := Cert.OdMidBwdRefIdeal.τ) (Cert.OdMidBwdRefIdeal.main (F := Ideal))) ⟨m, fun _ => 0, g⟩ (fun r => (∀ c : Dev Cert.OdMidBwdRefIdeal.nD,
      r.2.mem ((c.tc : Thread Cert.OdMidBwdRefIdeal.nD Cert.OdMidBwdRefIdeal.τ).loc Cert.OdMidBwdRefIdeal.main_arg0) = m ((c.tc : Thread Cert.OdMidBwdRefIdeal.nD Cert.OdMidBwdRefIdeal.τ).loc Cert.OdMidBwdRefIdeal.main_arg0)
      ∧ r.2.mem ((c.tc : Thread Cert.OdMidBwdRefIdeal.nD Cert.OdMidBwdRefIdeal.τ).loc Cert.OdMidBwdRefIdeal.main_arg1) = m ((c.tc : Thread Cert.OdMidBwdRefIdeal.nD Cert.OdMidBwdRefIdeal.τ).loc Cert.OdMidBwdRefIdeal.main_arg1)
      ∧ r.2.mem ((c.tc : Thread Cert.OdMidBwdRefIdeal.nD Cert.OdMidBwdRefIdeal.τ).loc Cert.OdMidBwdRefIdeal.main_arg2) = m ((c.tc : Thread Cert.OdMidBwdRefIdeal.nD Cert.OdMidBwdRefIdeal.τ).loc Cert.OdMidBwdRefIdeal.main_arg2)
      ∧ r.2.mem ((c.tc : Thread Cert.OdMidBwdRefIdeal.nD Cert.OdMidBwdRefIdeal.τ).loc Cert.OdMidBwdRefIdeal.main_arg3) = m ((c.tc : Thread Cert.OdMidBwdRefIdeal.nD Cert.OdMidBwdRefIdeal.τ).loc Cert.OdMidBwdRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1)
      ∧ r.2.mem ((c.tc : Thread Cert.MixNorm.nD Cert.MixNorm.τ).loc Cert.MixNorm.main_arg2) = m ((c.tc : Thread Cert.MixNorm.nD Cert.MixNorm.τ).loc Cert.MixNorm.main_arg2)
      ∧ r.2.mem ((c.tc : Thread Cert.MixNorm.nD Cert.MixNorm.τ).loc Cert.MixNorm.main_arg3) = m ((c.tc : Thread Cert.MixNorm.nD Cert.MixNorm.τ).loc Cert.MixNorm.main_arg3))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3))
      ∧ r.2.sem = fun _ => 0)

def quiescent_OdInDx [hOdInDx : Cert.OdInDx.Facts] : Prop :=
  ∀ (m : (ℓ : Loc Cert.OdInDx.nD Cert.OdInDx.τ Cert.OdInDx.sig) → Buf (Elt Bits) ℓ) (g : Dev Cert.OdInDx.nD → PrngReg), Pre_OdInDx m →
    θ_run (Cert.OdInDx.defs (F := Bits)) (onTc (τ := Cert.OdInDx.τ) (Cert.OdInDx.main (F := Bits))) ⟨m, fun _ => 0, g⟩ (fun r => (∀ c : Dev Cert.OdInDx.nD,
      r.2.mem ((c.tc : Thread Cert.OdInDx.nD Cert.OdInDx.τ).loc Cert.OdInDx.main_arg0) = m ((c.tc : Thread Cert.OdInDx.nD Cert.OdInDx.τ).loc Cert.OdInDx.main_arg0)
      ∧ r.2.mem ((c.tc : Thread Cert.OdInDx.nD Cert.OdInDx.τ).loc Cert.OdInDx.main_arg1) = m ((c.tc : Thread Cert.OdInDx.nD Cert.OdInDx.τ).loc Cert.OdInDx.main_arg1))
      ∧ r.2.sem = fun _ => 0)

def quiescent_OdInDxIdeal [hOdInDxIdeal : Cert.OdInDxIdeal.Facts] : Prop :=
  ∀ (m : (ℓ : Loc Cert.OdInDxIdeal.nD Cert.OdInDxIdeal.τ Cert.OdInDxIdeal.sig) → Buf (Elt Ideal) ℓ) (g : Dev Cert.OdInDxIdeal.nD → PrngReg), Pre_OdInDxIdeal m →
    θ_run (Cert.OdInDxIdeal.defs (F := Ideal)) (onTc (τ := Cert.OdInDxIdeal.τ) (Cert.OdInDxIdeal.main (F := Ideal))) ⟨m, fun _ => 0, g⟩ (fun r => (∀ c : Dev Cert.OdInDxIdeal.nD,
      r.2.mem ((c.tc : Thread Cert.OdInDxIdeal.nD Cert.OdInDxIdeal.τ).loc Cert.OdInDxIdeal.main_arg0) = m ((c.tc : Thread Cert.OdInDxIdeal.nD Cert.OdInDxIdeal.τ).loc Cert.OdInDxIdeal.main_arg0)
      ∧ r.2.mem ((c.tc : Thread Cert.OdInDxIdeal.nD Cert.OdInDxIdeal.τ).loc Cert.OdInDxIdeal.main_arg1) = m ((c.tc : Thread Cert.OdInDxIdeal.nD Cert.OdInDxIdeal.τ).loc Cert.OdInDxIdeal.main_arg1))
      ∧ r.2.sem = fun _ => 0)

def quiescent_OdInDxRefIdeal [hOdInDxRefIdeal : Cert.OdInDxRefIdeal.Facts] : Prop :=
  ∀ (m : (ℓ : Loc Cert.OdInDxRefIdeal.nD Cert.OdInDxRefIdeal.τ Cert.OdInDxRefIdeal.sig) → Buf (Elt Ideal) ℓ) (g : Dev Cert.OdInDxRefIdeal.nD → PrngReg), Pre_OdInDxRefIdeal m →
    θ_run (Cert.OdInDxRefIdeal.defs (F := Ideal)) (onTc (τ := Cert.OdInDxRefIdeal.τ) (Cert.OdInDxRefIdeal.main (F := Ideal))) ⟨m, fun _ => 0, g⟩ (fun r => (∀ c : Dev Cert.OdInDxRefIdeal.nD,
      r.2.mem ((c.tc : Thread Cert.OdInDxRefIdeal.nD Cert.OdInDxRefIdeal.τ).loc Cert.OdInDxRefIdeal.main_arg0) = m ((c.tc : Thread Cert.OdInDxRefIdeal.nD Cert.OdInDxRefIdeal.τ).loc Cert.OdInDxRefIdeal.main_arg0)
      ∧ r.2.mem ((c.tc : Thread Cert.OdInDxRefIdeal.nD Cert.OdInDxRefIdeal.τ).loc Cert.OdInDxRefIdeal.main_arg1) = m ((c.tc : Thread Cert.OdInDxRefIdeal.nD Cert.OdInDxRefIdeal.τ).loc Cert.OdInDxRefIdeal.main_arg1))
      ∧ r.2.sem = fun _ => 0)

def quiescent_OdInDw [hOdInDw : Cert.OdInDw.Facts] : Prop :=
  ∀ (m : (ℓ : Loc Cert.OdInDw.nD Cert.OdInDw.τ Cert.OdInDw.sig) → Buf (Elt Bits) ℓ) (g : Dev Cert.OdInDw.nD → PrngReg), Pre_OdInDw m →
    θ_run (Cert.OdInDw.defs (F := Bits)) (onTc (τ := Cert.OdInDw.τ) (Cert.OdInDw.main (F := Bits))) ⟨m, fun _ => 0, g⟩ (fun r => (∀ c : Dev Cert.OdInDw.nD,
      r.2.mem ((c.tc : Thread Cert.OdInDw.nD Cert.OdInDw.τ).loc Cert.OdInDw.main_arg0) = m ((c.tc : Thread Cert.OdInDw.nD Cert.OdInDw.τ).loc Cert.OdInDw.main_arg0)
      ∧ r.2.mem ((c.tc : Thread Cert.OdInDw.nD Cert.OdInDw.τ).loc Cert.OdInDw.main_arg1) = m ((c.tc : Thread Cert.OdInDw.nD Cert.OdInDw.τ).loc Cert.OdInDw.main_arg1))
      ∧ r.2.sem = fun _ => 0)

def quiescent_OdInDwIdeal [hOdInDwIdeal : Cert.OdInDwIdeal.Facts] : Prop :=
  ∀ (m : (ℓ : Loc Cert.OdInDwIdeal.nD Cert.OdInDwIdeal.τ Cert.OdInDwIdeal.sig) → Buf (Elt Ideal) ℓ) (g : Dev Cert.OdInDwIdeal.nD → PrngReg), Pre_OdInDwIdeal m →
    θ_run (Cert.OdInDwIdeal.defs (F := Ideal)) (onTc (τ := Cert.OdInDwIdeal.τ) (Cert.OdInDwIdeal.main (F := Ideal))) ⟨m, fun _ => 0, g⟩ (fun r => (∀ c : Dev Cert.OdInDwIdeal.nD,
      r.2.mem ((c.tc : Thread Cert.OdInDwIdeal.nD Cert.OdInDwIdeal.τ).loc Cert.OdInDwIdeal.main_arg0) = m ((c.tc : Thread Cert.OdInDwIdeal.nD Cert.OdInDwIdeal.τ).loc Cert.OdInDwIdeal.main_arg0)
      ∧ r.2.mem ((c.tc : Thread Cert.OdInDwIdeal.nD Cert.OdInDwIdeal.τ).loc Cert.OdInDwIdeal.main_arg1) = m ((c.tc : Thread Cert.OdInDwIdeal.nD Cert.OdInDwIdeal.τ).loc Cert.OdInDwIdeal.main_arg1))
      ∧ r.2.sem = fun _ => 0)

def quiescent_OdInDwRefIdeal [hOdInDwRefIdeal : Cert.OdInDwRefIdeal.Facts] : Prop :=
  ∀ (m : (ℓ : Loc Cert.OdInDwRefIdeal.nD Cert.OdInDwRefIdeal.τ Cert.OdInDwRefIdeal.sig) → Buf (Elt Ideal) ℓ) (g : Dev Cert.OdInDwRefIdeal.nD → PrngReg), Pre_OdInDwRefIdeal m →
    θ_run (Cert.OdInDwRefIdeal.defs (F := Ideal)) (onTc (τ := Cert.OdInDwRefIdeal.τ) (Cert.OdInDwRefIdeal.main (F := Ideal))) ⟨m, fun _ => 0, g⟩ (fun r => (∀ c : Dev Cert.OdInDwRefIdeal.nD,
      r.2.mem ((c.tc : Thread Cert.OdInDwRefIdeal.nD Cert.OdInDwRefIdeal.τ).loc Cert.OdInDwRefIdeal.main_arg0) = m ((c.tc : Thread Cert.OdInDwRefIdeal.nD Cert.OdInDwRefIdeal.τ).loc Cert.OdInDwRefIdeal.main_arg0)
      ∧ r.2.mem ((c.tc : Thread Cert.OdInDwRefIdeal.nD Cert.OdInDwRefIdeal.τ).loc Cert.OdInDwRefIdeal.main_arg1) = m ((c.tc : Thread Cert.OdInDwRefIdeal.nD Cert.OdInDwRefIdeal.τ).loc Cert.OdInDwRefIdeal.main_arg1))
      ∧ r.2.sem = fun _ => 0)

def quiescent_EvInDx [hEvInDx : Cert.EvInDx.Facts] : Prop :=
  ∀ (m : (ℓ : Loc Cert.EvInDx.nD Cert.EvInDx.τ Cert.EvInDx.sig) → Buf (Elt Bits) ℓ) (g : Dev Cert.EvInDx.nD → PrngReg), Pre_EvInDx m →
    θ_run (Cert.EvInDx.defs (F := Bits)) (onTc (τ := Cert.EvInDx.τ) (Cert.EvInDx.main (F := Bits))) ⟨m, fun _ => 0, g⟩ (fun r => (∀ c : Dev Cert.EvInDx.nD,
      r.2.mem ((c.tc : Thread Cert.EvInDx.nD Cert.EvInDx.τ).loc Cert.EvInDx.main_arg0) = m ((c.tc : Thread Cert.EvInDx.nD Cert.EvInDx.τ).loc Cert.EvInDx.main_arg0)
      ∧ r.2.mem ((c.tc : Thread Cert.EvInDx.nD Cert.EvInDx.τ).loc Cert.EvInDx.main_arg1) = m ((c.tc : Thread Cert.EvInDx.nD Cert.EvInDx.τ).loc Cert.EvInDx.main_arg1))
      ∧ r.2.sem = fun _ => 0)

def quiescent_EvInDxIdeal [hEvInDxIdeal : Cert.EvInDxIdeal.Facts] : Prop :=
  ∀ (m : (ℓ : Loc Cert.EvInDxIdeal.nD Cert.EvInDxIdeal.τ Cert.EvInDxIdeal.sig) → Buf (Elt Ideal) ℓ) (g : Dev Cert.EvInDxIdeal.nD → PrngReg), Pre_EvInDxIdeal m →
    θ_run (Cert.EvInDxIdeal.defs (F := Ideal)) (onTc (τ := Cert.EvInDxIdeal.τ) (Cert.EvInDxIdeal.main (F := Ideal))) ⟨m, fun _ => 0, g⟩ (fun r => (∀ c : Dev Cert.EvInDxIdeal.nD,
      r.2.mem ((c.tc : Thread Cert.EvInDxIdeal.nD Cert.EvInDxIdeal.τ).loc Cert.EvInDxIdeal.main_arg0) = m ((c.tc : Thread Cert.EvInDxIdeal.nD Cert.EvInDxIdeal.τ).loc Cert.EvInDxIdeal.main_arg0)
      ∧ r.2.mem ((c.tc : Thread Cert.EvInDxIdeal.nD Cert.EvInDxIdeal.τ).loc Cert.EvInDxIdeal.main_arg1) = m ((c.tc : Thread Cert.EvInDxIdeal.nD Cert.EvInDxIdeal.τ).loc Cert.EvInDxIdeal.main_arg1))
      ∧ r.2.sem = fun _ => 0)

def quiescent_EvInDxRefIdeal [hEvInDxRefIdeal : Cert.EvInDxRefIdeal.Facts] : Prop :=
  ∀ (m : (ℓ : Loc Cert.EvInDxRefIdeal.nD Cert.EvInDxRefIdeal.τ Cert.EvInDxRefIdeal.sig) → Buf (Elt Ideal) ℓ) (g : Dev Cert.EvInDxRefIdeal.nD → PrngReg), Pre_EvInDxRefIdeal m →
    θ_run (Cert.EvInDxRefIdeal.defs (F := Ideal)) (onTc (τ := Cert.EvInDxRefIdeal.τ) (Cert.EvInDxRefIdeal.main (F := Ideal))) ⟨m, fun _ => 0, g⟩ (fun r => (∀ c : Dev Cert.EvInDxRefIdeal.nD,
      r.2.mem ((c.tc : Thread Cert.EvInDxRefIdeal.nD Cert.EvInDxRefIdeal.τ).loc Cert.EvInDxRefIdeal.main_arg0) = m ((c.tc : Thread Cert.EvInDxRefIdeal.nD Cert.EvInDxRefIdeal.τ).loc Cert.EvInDxRefIdeal.main_arg0)
      ∧ r.2.mem ((c.tc : Thread Cert.EvInDxRefIdeal.nD Cert.EvInDxRefIdeal.τ).loc Cert.EvInDxRefIdeal.main_arg1) = m ((c.tc : Thread Cert.EvInDxRefIdeal.nD Cert.EvInDxRefIdeal.τ).loc Cert.EvInDxRefIdeal.main_arg1))
      ∧ r.2.sem = fun _ => 0)

def quiescent_EvInDw [hEvInDw : Cert.EvInDw.Facts] : Prop :=
  ∀ (m : (ℓ : Loc Cert.EvInDw.nD Cert.EvInDw.τ Cert.EvInDw.sig) → Buf (Elt Bits) ℓ) (g : Dev Cert.EvInDw.nD → PrngReg), Pre_EvInDw m →
    θ_run (Cert.EvInDw.defs (F := Bits)) (onTc (τ := Cert.EvInDw.τ) (Cert.EvInDw.main (F := Bits))) ⟨m, fun _ => 0, g⟩ (fun r => (∀ c : Dev Cert.EvInDw.nD,
      r.2.mem ((c.tc : Thread Cert.EvInDw.nD Cert.EvInDw.τ).loc Cert.EvInDw.main_arg0) = m ((c.tc : Thread Cert.EvInDw.nD Cert.EvInDw.τ).loc Cert.EvInDw.main_arg0)
      ∧ r.2.mem ((c.tc : Thread Cert.EvInDw.nD Cert.EvInDw.τ).loc Cert.EvInDw.main_arg1) = m ((c.tc : Thread Cert.EvInDw.nD Cert.EvInDw.τ).loc Cert.EvInDw.main_arg1))
      ∧ r.2.sem = fun _ => 0)

def quiescent_EvInDwIdeal [hEvInDwIdeal : Cert.EvInDwIdeal.Facts] : Prop :=
  ∀ (m : (ℓ : Loc Cert.EvInDwIdeal.nD Cert.EvInDwIdeal.τ Cert.EvInDwIdeal.sig) → Buf (Elt Ideal) ℓ) (g : Dev Cert.EvInDwIdeal.nD → PrngReg), Pre_EvInDwIdeal m →
    θ_run (Cert.EvInDwIdeal.defs (F := Ideal)) (onTc (τ := Cert.EvInDwIdeal.τ) (Cert.EvInDwIdeal.main (F := Ideal))) ⟨m, fun _ => 0, g⟩ (fun r => (∀ c : Dev Cert.EvInDwIdeal.nD,
      r.2.mem ((c.tc : Thread Cert.EvInDwIdeal.nD Cert.EvInDwIdeal.τ).loc Cert.EvInDwIdeal.main_arg0) = m ((c.tc : Thread Cert.EvInDwIdeal.nD Cert.EvInDwIdeal.τ).loc Cert.EvInDwIdeal.main_arg0)
      ∧ r.2.mem ((c.tc : Thread Cert.EvInDwIdeal.nD Cert.EvInDwIdeal.τ).loc Cert.EvInDwIdeal.main_arg1) = m ((c.tc : Thread Cert.EvInDwIdeal.nD Cert.EvInDwIdeal.τ).loc Cert.EvInDwIdeal.main_arg1))
      ∧ r.2.sem = fun _ => 0)

def quiescent_EvInDwRefIdeal [hEvInDwRefIdeal : Cert.EvInDwRefIdeal.Facts] : Prop :=
  ∀ (m : (ℓ : Loc Cert.EvInDwRefIdeal.nD Cert.EvInDwRefIdeal.τ Cert.EvInDwRefIdeal.sig) → Buf (Elt Ideal) ℓ) (g : Dev Cert.EvInDwRefIdeal.nD → PrngReg), Pre_EvInDwRefIdeal m →
    θ_run (Cert.EvInDwRefIdeal.defs (F := Ideal)) (onTc (τ := Cert.EvInDwRefIdeal.τ) (Cert.EvInDwRefIdeal.main (F := Ideal))) ⟨m, fun _ => 0, g⟩ (fun r => (∀ c : Dev Cert.EvInDwRefIdeal.nD,
      r.2.mem ((c.tc : Thread Cert.EvInDwRefIdeal.nD Cert.EvInDwRefIdeal.τ).loc Cert.EvInDwRefIdeal.main_arg0) = m ((c.tc : Thread Cert.EvInDwRefIdeal.nD Cert.EvInDwRefIdeal.τ).loc Cert.EvInDwRefIdeal.main_arg0)
      ∧ r.2.mem ((c.tc : Thread Cert.EvInDwRefIdeal.nD Cert.EvInDwRefIdeal.τ).loc Cert.EvInDwRefIdeal.main_arg1) = m ((c.tc : Thread Cert.EvInDwRefIdeal.nD Cert.EvInDwRefIdeal.τ).loc Cert.EvInDwRefIdeal.main_arg1))
      ∧ r.2.sem = fun _ => 0)

def quiescent_EvUqDx [hEvUqDx : Cert.EvUqDx.Facts] : Prop :=
  ∀ (m : (ℓ : Loc Cert.EvUqDx.nD Cert.EvUqDx.τ Cert.EvUqDx.sig) → Buf (Elt Bits) ℓ) (g : Dev Cert.EvUqDx.nD → PrngReg), Pre_EvUqDx m →
    θ_run (Cert.EvUqDx.defs (F := Bits)) (onTc (τ := Cert.EvUqDx.τ) (Cert.EvUqDx.main (F := Bits))) ⟨m, fun _ => 0, g⟩ (fun r => (∀ c : Dev Cert.EvUqDx.nD,
      r.2.mem ((c.tc : Thread Cert.EvUqDx.nD Cert.EvUqDx.τ).loc Cert.EvUqDx.main_arg0) = m ((c.tc : Thread Cert.EvUqDx.nD Cert.EvUqDx.τ).loc Cert.EvUqDx.main_arg0)
      ∧ r.2.mem ((c.tc : Thread Cert.EvUqDx.nD Cert.EvUqDx.τ).loc Cert.EvUqDx.main_arg1) = m ((c.tc : Thread Cert.EvUqDx.nD Cert.EvUqDx.τ).loc Cert.EvUqDx.main_arg1))
      ∧ r.2.sem = fun _ => 0)

def quiescent_EvUqDxIdeal [hEvUqDxIdeal : Cert.EvUqDxIdeal.Facts] : Prop :=
  ∀ (m : (ℓ : Loc Cert.EvUqDxIdeal.nD Cert.EvUqDxIdeal.τ Cert.EvUqDxIdeal.sig) → Buf (Elt Ideal) ℓ) (g : Dev Cert.EvUqDxIdeal.nD → PrngReg), Pre_EvUqDxIdeal m →
    θ_run (Cert.EvUqDxIdeal.defs (F := Ideal)) (onTc (τ := Cert.EvUqDxIdeal.τ) (Cert.EvUqDxIdeal.main (F := Ideal))) ⟨m, fun _ => 0, g⟩ (fun r => (∀ c : Dev Cert.EvUqDxIdeal.nD,
      r.2.mem ((c.tc : Thread Cert.EvUqDxIdeal.nD Cert.EvUqDxIdeal.τ).loc Cert.EvUqDxIdeal.main_arg0) = m ((c.tc : Thread Cert.EvUqDxIdeal.nD Cert.EvUqDxIdeal.τ).loc Cert.EvUqDxIdeal.main_arg0)
      ∧ r.2.mem ((c.tc : Thread Cert.EvUqDxIdeal.nD Cert.EvUqDxIdeal.τ).loc Cert.EvUqDxIdeal.main_arg1) = m ((c.tc : Thread Cert.EvUqDxIdeal.nD Cert.EvUqDxIdeal.τ).loc Cert.EvUqDxIdeal.main_arg1))
      ∧ r.2.sem = fun _ => 0)

def quiescent_EvUqDxRefIdeal [hEvUqDxRefIdeal : Cert.EvUqDxRefIdeal.Facts] : Prop :=
  ∀ (m : (ℓ : Loc Cert.EvUqDxRefIdeal.nD Cert.EvUqDxRefIdeal.τ Cert.EvUqDxRefIdeal.sig) → Buf (Elt Ideal) ℓ) (g : Dev Cert.EvUqDxRefIdeal.nD → PrngReg), Pre_EvUqDxRefIdeal m →
    θ_run (Cert.EvUqDxRefIdeal.defs (F := Ideal)) (onTc (τ := Cert.EvUqDxRefIdeal.τ) (Cert.EvUqDxRefIdeal.main (F := Ideal))) ⟨m, fun _ => 0, g⟩ (fun r => (∀ c : Dev Cert.EvUqDxRefIdeal.nD,
      r.2.mem ((c.tc : Thread Cert.EvUqDxRefIdeal.nD Cert.EvUqDxRefIdeal.τ).loc Cert.EvUqDxRefIdeal.main_arg0) = m ((c.tc : Thread Cert.EvUqDxRefIdeal.nD Cert.EvUqDxRefIdeal.τ).loc Cert.EvUqDxRefIdeal.main_arg0)
      ∧ r.2.mem ((c.tc : Thread Cert.EvUqDxRefIdeal.nD Cert.EvUqDxRefIdeal.τ).loc Cert.EvUqDxRefIdeal.main_arg1) = m ((c.tc : Thread Cert.EvUqDxRefIdeal.nD Cert.EvUqDxRefIdeal.τ).loc Cert.EvUqDxRefIdeal.main_arg1))
      ∧ r.2.sem = fun _ => 0)

def quiescent_EvUqDw [hEvUqDw : Cert.EvUqDw.Facts] : Prop :=
  ∀ (m : (ℓ : Loc Cert.EvUqDw.nD Cert.EvUqDw.τ Cert.EvUqDw.sig) → Buf (Elt Bits) ℓ) (g : Dev Cert.EvUqDw.nD → PrngReg), Pre_EvUqDw m →
    θ_run (Cert.EvUqDw.defs (F := Bits)) (onTc (τ := Cert.EvUqDw.τ) (Cert.EvUqDw.main (F := Bits))) ⟨m, fun _ => 0, g⟩ (fun r => (∀ c : Dev Cert.EvUqDw.nD,
      r.2.mem ((c.tc : Thread Cert.EvUqDw.nD Cert.EvUqDw.τ).loc Cert.EvUqDw.main_arg0) = m ((c.tc : Thread Cert.EvUqDw.nD Cert.EvUqDw.τ).loc Cert.EvUqDw.main_arg0)
      ∧ r.2.mem ((c.tc : Thread Cert.EvUqDw.nD Cert.EvUqDw.τ).loc Cert.EvUqDw.main_arg1) = m ((c.tc : Thread Cert.EvUqDw.nD Cert.EvUqDw.τ).loc Cert.EvUqDw.main_arg1))
      ∧ r.2.sem = fun _ => 0)

def quiescent_EvUqDwIdeal [hEvUqDwIdeal : Cert.EvUqDwIdeal.Facts] : Prop :=
  ∀ (m : (ℓ : Loc Cert.EvUqDwIdeal.nD Cert.EvUqDwIdeal.τ Cert.EvUqDwIdeal.sig) → Buf (Elt Ideal) ℓ) (g : Dev Cert.EvUqDwIdeal.nD → PrngReg), Pre_EvUqDwIdeal m →
    θ_run (Cert.EvUqDwIdeal.defs (F := Ideal)) (onTc (τ := Cert.EvUqDwIdeal.τ) (Cert.EvUqDwIdeal.main (F := Ideal))) ⟨m, fun _ => 0, g⟩ (fun r => (∀ c : Dev Cert.EvUqDwIdeal.nD,
      r.2.mem ((c.tc : Thread Cert.EvUqDwIdeal.nD Cert.EvUqDwIdeal.τ).loc Cert.EvUqDwIdeal.main_arg0) = m ((c.tc : Thread Cert.EvUqDwIdeal.nD Cert.EvUqDwIdeal.τ).loc Cert.EvUqDwIdeal.main_arg0)
      ∧ r.2.mem ((c.tc : Thread Cert.EvUqDwIdeal.nD Cert.EvUqDwIdeal.τ).loc Cert.EvUqDwIdeal.main_arg1) = m ((c.tc : Thread Cert.EvUqDwIdeal.nD Cert.EvUqDwIdeal.τ).loc Cert.EvUqDwIdeal.main_arg1))
      ∧ r.2.sem = fun _ => 0)

def quiescent_EvUqDwRefIdeal [hEvUqDwRefIdeal : Cert.EvUqDwRefIdeal.Facts] : Prop :=
  ∀ (m : (ℓ : Loc Cert.EvUqDwRefIdeal.nD Cert.EvUqDwRefIdeal.τ Cert.EvUqDwRefIdeal.sig) → Buf (Elt Ideal) ℓ) (g : Dev Cert.EvUqDwRefIdeal.nD → PrngReg), Pre_EvUqDwRefIdeal m →
    θ_run (Cert.EvUqDwRefIdeal.defs (F := Ideal)) (onTc (τ := Cert.EvUqDwRefIdeal.τ) (Cert.EvUqDwRefIdeal.main (F := Ideal))) ⟨m, fun _ => 0, g⟩ (fun r => (∀ c : Dev Cert.EvUqDwRefIdeal.nD,
      r.2.mem ((c.tc : Thread Cert.EvUqDwRefIdeal.nD Cert.EvUqDwRefIdeal.τ).loc Cert.EvUqDwRefIdeal.main_arg0) = m ((c.tc : Thread Cert.EvUqDwRefIdeal.nD Cert.EvUqDwRefIdeal.τ).loc Cert.EvUqDwRefIdeal.main_arg0)
      ∧ r.2.mem ((c.tc : Thread Cert.EvUqDwRefIdeal.nD Cert.EvUqDwRefIdeal.τ).loc Cert.EvUqDwRefIdeal.main_arg1) = m ((c.tc : Thread Cert.EvUqDwRefIdeal.nD Cert.EvUqDwRefIdeal.τ).loc Cert.EvUqDwRefIdeal.main_arg1))
      ∧ r.2.sem = fun _ => 0)

def quiescent_EvUkvDx [hEvUkvDx : Cert.EvUkvDx.Facts] : Prop :=
  ∀ (m : (ℓ : Loc Cert.EvUkvDx.nD Cert.EvUkvDx.τ Cert.EvUkvDx.sig) → Buf (Elt Bits) ℓ) (g : Dev Cert.EvUkvDx.nD → PrngReg), Pre_EvUkvDx m →
    θ_run (Cert.EvUkvDx.defs (F := Bits)) (onTc (τ := Cert.EvUkvDx.τ) (Cert.EvUkvDx.main (F := Bits))) ⟨m, fun _ => 0, g⟩ (fun r => (∀ c : Dev Cert.EvUkvDx.nD,
      r.2.mem ((c.tc : Thread Cert.EvUkvDx.nD Cert.EvUkvDx.τ).loc Cert.EvUkvDx.main_arg0) = m ((c.tc : Thread Cert.EvUkvDx.nD Cert.EvUkvDx.τ).loc Cert.EvUkvDx.main_arg0)
      ∧ r.2.mem ((c.tc : Thread Cert.EvUkvDx.nD Cert.EvUkvDx.τ).loc Cert.EvUkvDx.main_arg1) = m ((c.tc : Thread Cert.EvUkvDx.nD Cert.EvUkvDx.τ).loc Cert.EvUkvDx.main_arg1))
      ∧ r.2.sem = fun _ => 0)

def quiescent_EvUkvDxIdeal [hEvUkvDxIdeal : Cert.EvUkvDxIdeal.Facts] : Prop :=
  ∀ (m : (ℓ : Loc Cert.EvUkvDxIdeal.nD Cert.EvUkvDxIdeal.τ Cert.EvUkvDxIdeal.sig) → Buf (Elt Ideal) ℓ) (g : Dev Cert.EvUkvDxIdeal.nD → PrngReg), Pre_EvUkvDxIdeal m →
    θ_run (Cert.EvUkvDxIdeal.defs (F := Ideal)) (onTc (τ := Cert.EvUkvDxIdeal.τ) (Cert.EvUkvDxIdeal.main (F := Ideal))) ⟨m, fun _ => 0, g⟩ (fun r => (∀ c : Dev Cert.EvUkvDxIdeal.nD,
      r.2.mem ((c.tc : Thread Cert.EvUkvDxIdeal.nD Cert.EvUkvDxIdeal.τ).loc Cert.EvUkvDxIdeal.main_arg0) = m ((c.tc : Thread Cert.EvUkvDxIdeal.nD Cert.EvUkvDxIdeal.τ).loc Cert.EvUkvDxIdeal.main_arg0)
      ∧ r.2.mem ((c.tc : Thread Cert.EvUkvDxIdeal.nD Cert.EvUkvDxIdeal.τ).loc Cert.EvUkvDxIdeal.main_arg1) = m ((c.tc : Thread Cert.EvUkvDxIdeal.nD Cert.EvUkvDxIdeal.τ).loc Cert.EvUkvDxIdeal.main_arg1))
      ∧ r.2.sem = fun _ => 0)

def quiescent_EvUkvDxRefIdeal [hEvUkvDxRefIdeal : Cert.EvUkvDxRefIdeal.Facts] : Prop :=
  ∀ (m : (ℓ : Loc Cert.EvUkvDxRefIdeal.nD Cert.EvUkvDxRefIdeal.τ Cert.EvUkvDxRefIdeal.sig) → Buf (Elt Ideal) ℓ) (g : Dev Cert.EvUkvDxRefIdeal.nD → PrngReg), Pre_EvUkvDxRefIdeal m →
    θ_run (Cert.EvUkvDxRefIdeal.defs (F := Ideal)) (onTc (τ := Cert.EvUkvDxRefIdeal.τ) (Cert.EvUkvDxRefIdeal.main (F := Ideal))) ⟨m, fun _ => 0, g⟩ (fun r => (∀ c : Dev Cert.EvUkvDxRefIdeal.nD,
      r.2.mem ((c.tc : Thread Cert.EvUkvDxRefIdeal.nD Cert.EvUkvDxRefIdeal.τ).loc Cert.EvUkvDxRefIdeal.main_arg0) = m ((c.tc : Thread Cert.EvUkvDxRefIdeal.nD Cert.EvUkvDxRefIdeal.τ).loc Cert.EvUkvDxRefIdeal.main_arg0)
      ∧ r.2.mem ((c.tc : Thread Cert.EvUkvDxRefIdeal.nD Cert.EvUkvDxRefIdeal.τ).loc Cert.EvUkvDxRefIdeal.main_arg1) = m ((c.tc : Thread Cert.EvUkvDxRefIdeal.nD Cert.EvUkvDxRefIdeal.τ).loc Cert.EvUkvDxRefIdeal.main_arg1))
      ∧ r.2.sem = fun _ => 0)

def quiescent_EvUkvDw [hEvUkvDw : Cert.EvUkvDw.Facts] : Prop :=
  ∀ (m : (ℓ : Loc Cert.EvUkvDw.nD Cert.EvUkvDw.τ Cert.EvUkvDw.sig) → Buf (Elt Bits) ℓ) (g : Dev Cert.EvUkvDw.nD → PrngReg), Pre_EvUkvDw m →
    θ_run (Cert.EvUkvDw.defs (F := Bits)) (onTc (τ := Cert.EvUkvDw.τ) (Cert.EvUkvDw.main (F := Bits))) ⟨m, fun _ => 0, g⟩ (fun r => (∀ c : Dev Cert.EvUkvDw.nD,
      r.2.mem ((c.tc : Thread Cert.EvUkvDw.nD Cert.EvUkvDw.τ).loc Cert.EvUkvDw.main_arg0) = m ((c.tc : Thread Cert.EvUkvDw.nD Cert.EvUkvDw.τ).loc Cert.EvUkvDw.main_arg0)
      ∧ r.2.mem ((c.tc : Thread Cert.EvUkvDw.nD Cert.EvUkvDw.τ).loc Cert.EvUkvDw.main_arg1) = m ((c.tc : Thread Cert.EvUkvDw.nD Cert.EvUkvDw.τ).loc Cert.EvUkvDw.main_arg1))
      ∧ r.2.sem = fun _ => 0)

def quiescent_EvUkvDwIdeal [hEvUkvDwIdeal : Cert.EvUkvDwIdeal.Facts] : Prop :=
  ∀ (m : (ℓ : Loc Cert.EvUkvDwIdeal.nD Cert.EvUkvDwIdeal.τ Cert.EvUkvDwIdeal.sig) → Buf (Elt Ideal) ℓ) (g : Dev Cert.EvUkvDwIdeal.nD → PrngReg), Pre_EvUkvDwIdeal m →
    θ_run (Cert.EvUkvDwIdeal.defs (F := Ideal)) (onTc (τ := Cert.EvUkvDwIdeal.τ) (Cert.EvUkvDwIdeal.main (F := Ideal))) ⟨m, fun _ => 0, g⟩ (fun r => (∀ c : Dev Cert.EvUkvDwIdeal.nD,
      r.2.mem ((c.tc : Thread Cert.EvUkvDwIdeal.nD Cert.EvUkvDwIdeal.τ).loc Cert.EvUkvDwIdeal.main_arg0) = m ((c.tc : Thread Cert.EvUkvDwIdeal.nD Cert.EvUkvDwIdeal.τ).loc Cert.EvUkvDwIdeal.main_arg0)
      ∧ r.2.mem ((c.tc : Thread Cert.EvUkvDwIdeal.nD Cert.EvUkvDwIdeal.τ).loc Cert.EvUkvDwIdeal.main_arg1) = m ((c.tc : Thread Cert.EvUkvDwIdeal.nD Cert.EvUkvDwIdeal.τ).loc Cert.EvUkvDwIdeal.main_arg1))
      ∧ r.2.sem = fun _ => 0)

def quiescent_EvUkvDwRefIdeal [hEvUkvDwRefIdeal : Cert.EvUkvDwRefIdeal.Facts] : Prop :=
  ∀ (m : (ℓ : Loc Cert.EvUkvDwRefIdeal.nD Cert.EvUkvDwRefIdeal.τ Cert.EvUkvDwRefIdeal.sig) → Buf (Elt Ideal) ℓ) (g : Dev Cert.EvUkvDwRefIdeal.nD → PrngReg), Pre_EvUkvDwRefIdeal m →
    θ_run (Cert.EvUkvDwRefIdeal.defs (F := Ideal)) (onTc (τ := Cert.EvUkvDwRefIdeal.τ) (Cert.EvUkvDwRefIdeal.main (F := Ideal))) ⟨m, fun _ => 0, g⟩ (fun r => (∀ c : Dev Cert.EvUkvDwRefIdeal.nD,
      r.2.mem ((c.tc : Thread Cert.EvUkvDwRefIdeal.nD Cert.EvUkvDwRefIdeal.τ).loc Cert.EvUkvDwRefIdeal.main_arg0) = m ((c.tc : Thread Cert.EvUkvDwRefIdeal.nD Cert.EvUkvDwRefIdeal.τ).loc Cert.EvUkvDwRefIdeal.main_arg0)
      ∧ r.2.mem ((c.tc : Thread Cert.EvUkvDwRefIdeal.nD Cert.EvUkvDwRefIdeal.τ).loc Cert.EvUkvDwRefIdeal.main_arg1) = m ((c.tc : Thread Cert.EvUkvDwRefIdeal.nD Cert.EvUkvDwRefIdeal.τ).loc Cert.EvUkvDwRefIdeal.main_arg1))
      ∧ r.2.sem = fun _ => 0)

def quiescent_OdOutDx [hOdOutDx : Cert.OdOutDx.Facts] : Prop :=
  ∀ (m : (ℓ : Loc Cert.OdOutDx.nD Cert.OdOutDx.τ Cert.OdOutDx.sig) → Buf (Elt Bits) ℓ) (g : Dev Cert.OdOutDx.nD → PrngReg), Pre_OdOutDx m →
    θ_run (Cert.OdOutDx.defs (F := Bits)) (onTc (τ := Cert.OdOutDx.τ) (Cert.OdOutDx.main (F := Bits))) ⟨m, fun _ => 0, g⟩ (fun r => (∀ c : Dev Cert.OdOutDx.nD,
      r.2.mem ((c.tc : Thread Cert.OdOutDx.nD Cert.OdOutDx.τ).loc Cert.OdOutDx.main_arg0) = m ((c.tc : Thread Cert.OdOutDx.nD Cert.OdOutDx.τ).loc Cert.OdOutDx.main_arg0)
      ∧ r.2.mem ((c.tc : Thread Cert.OdOutDx.nD Cert.OdOutDx.τ).loc Cert.OdOutDx.main_arg1) = m ((c.tc : Thread Cert.OdOutDx.nD Cert.OdOutDx.τ).loc Cert.OdOutDx.main_arg1))
      ∧ r.2.sem = fun _ => 0)

def quiescent_OdOutDxIdeal [hOdOutDxIdeal : Cert.OdOutDxIdeal.Facts] : Prop :=
  ∀ (m : (ℓ : Loc Cert.OdOutDxIdeal.nD Cert.OdOutDxIdeal.τ Cert.OdOutDxIdeal.sig) → Buf (Elt Ideal) ℓ) (g : Dev Cert.OdOutDxIdeal.nD → PrngReg), Pre_OdOutDxIdeal m →
    θ_run (Cert.OdOutDxIdeal.defs (F := Ideal)) (onTc (τ := Cert.OdOutDxIdeal.τ) (Cert.OdOutDxIdeal.main (F := Ideal))) ⟨m, fun _ => 0, g⟩ (fun r => (∀ c : Dev Cert.OdOutDxIdeal.nD,
      r.2.mem ((c.tc : Thread Cert.OdOutDxIdeal.nD Cert.OdOutDxIdeal.τ).loc Cert.OdOutDxIdeal.main_arg0) = m ((c.tc : Thread Cert.OdOutDxIdeal.nD Cert.OdOutDxIdeal.τ).loc Cert.OdOutDxIdeal.main_arg0)
      ∧ r.2.mem ((c.tc : Thread Cert.OdOutDxIdeal.nD Cert.OdOutDxIdeal.τ).loc Cert.OdOutDxIdeal.main_arg1) = m ((c.tc : Thread Cert.OdOutDxIdeal.nD Cert.OdOutDxIdeal.τ).loc Cert.OdOutDxIdeal.main_arg1))
      ∧ r.2.sem = fun _ => 0)

def quiescent_OdOutDxRefIdeal [hOdOutDxRefIdeal : Cert.OdOutDxRefIdeal.Facts] : Prop :=
  ∀ (m : (ℓ : Loc Cert.OdOutDxRefIdeal.nD Cert.OdOutDxRefIdeal.τ Cert.OdOutDxRefIdeal.sig) → Buf (Elt Ideal) ℓ) (g : Dev Cert.OdOutDxRefIdeal.nD → PrngReg), Pre_OdOutDxRefIdeal m →
    θ_run (Cert.OdOutDxRefIdeal.defs (F := Ideal)) (onTc (τ := Cert.OdOutDxRefIdeal.τ) (Cert.OdOutDxRefIdeal.main (F := Ideal))) ⟨m, fun _ => 0, g⟩ (fun r => (∀ c : Dev Cert.OdOutDxRefIdeal.nD,
      r.2.mem ((c.tc : Thread Cert.OdOutDxRefIdeal.nD Cert.OdOutDxRefIdeal.τ).loc Cert.OdOutDxRefIdeal.main_arg0) = m ((c.tc : Thread Cert.OdOutDxRefIdeal.nD Cert.OdOutDxRefIdeal.τ).loc Cert.OdOutDxRefIdeal.main_arg0)
      ∧ r.2.mem ((c.tc : Thread Cert.OdOutDxRefIdeal.nD Cert.OdOutDxRefIdeal.τ).loc Cert.OdOutDxRefIdeal.main_arg1) = m ((c.tc : Thread Cert.OdOutDxRefIdeal.nD Cert.OdOutDxRefIdeal.τ).loc Cert.OdOutDxRefIdeal.main_arg1))
      ∧ r.2.sem = fun _ => 0)

def quiescent_OdOutDw [hOdOutDw : Cert.OdOutDw.Facts] : Prop :=
  ∀ (m : (ℓ : Loc Cert.OdOutDw.nD Cert.OdOutDw.τ Cert.OdOutDw.sig) → Buf (Elt Bits) ℓ) (g : Dev Cert.OdOutDw.nD → PrngReg), Pre_OdOutDw m →
    θ_run (Cert.OdOutDw.defs (F := Bits)) (onTc (τ := Cert.OdOutDw.τ) (Cert.OdOutDw.main (F := Bits))) ⟨m, fun _ => 0, g⟩ (fun r => (∀ c : Dev Cert.OdOutDw.nD,
      r.2.mem ((c.tc : Thread Cert.OdOutDw.nD Cert.OdOutDw.τ).loc Cert.OdOutDw.main_arg0) = m ((c.tc : Thread Cert.OdOutDw.nD Cert.OdOutDw.τ).loc Cert.OdOutDw.main_arg0)
      ∧ r.2.mem ((c.tc : Thread Cert.OdOutDw.nD Cert.OdOutDw.τ).loc Cert.OdOutDw.main_arg1) = m ((c.tc : Thread Cert.OdOutDw.nD Cert.OdOutDw.τ).loc Cert.OdOutDw.main_arg1))
      ∧ r.2.sem = fun _ => 0)

def quiescent_OdOutDwIdeal [hOdOutDwIdeal : Cert.OdOutDwIdeal.Facts] : Prop :=
  ∀ (m : (ℓ : Loc Cert.OdOutDwIdeal.nD Cert.OdOutDwIdeal.τ Cert.OdOutDwIdeal.sig) → Buf (Elt Ideal) ℓ) (g : Dev Cert.OdOutDwIdeal.nD → PrngReg), Pre_OdOutDwIdeal m →
    θ_run (Cert.OdOutDwIdeal.defs (F := Ideal)) (onTc (τ := Cert.OdOutDwIdeal.τ) (Cert.OdOutDwIdeal.main (F := Ideal))) ⟨m, fun _ => 0, g⟩ (fun r => (∀ c : Dev Cert.OdOutDwIdeal.nD,
      r.2.mem ((c.tc : Thread Cert.OdOutDwIdeal.nD Cert.OdOutDwIdeal.τ).loc Cert.OdOutDwIdeal.main_arg0) = m ((c.tc : Thread Cert.OdOutDwIdeal.nD Cert.OdOutDwIdeal.τ).loc Cert.OdOutDwIdeal.main_arg0)
      ∧ r.2.mem ((c.tc : Thread Cert.OdOutDwIdeal.nD Cert.OdOutDwIdeal.τ).loc Cert.OdOutDwIdeal.main_arg1) = m ((c.tc : Thread Cert.OdOutDwIdeal.nD Cert.OdOutDwIdeal.τ).loc Cert.OdOutDwIdeal.main_arg1))
      ∧ r.2.sem = fun _ => 0)

def quiescent_OdOutDwRefIdeal [hOdOutDwRefIdeal : Cert.OdOutDwRefIdeal.Facts] : Prop :=
  ∀ (m : (ℓ : Loc Cert.OdOutDwRefIdeal.nD Cert.OdOutDwRefIdeal.τ Cert.OdOutDwRefIdeal.sig) → Buf (Elt Ideal) ℓ) (g : Dev Cert.OdOutDwRefIdeal.nD → PrngReg), Pre_OdOutDwRefIdeal m →
    θ_run (Cert.OdOutDwRefIdeal.defs (F := Ideal)) (onTc (τ := Cert.OdOutDwRefIdeal.τ) (Cert.OdOutDwRefIdeal.main (F := Ideal))) ⟨m, fun _ => 0, g⟩ (fun r => (∀ c : Dev Cert.OdOutDwRefIdeal.nD,
      r.2.mem ((c.tc : Thread Cert.OdOutDwRefIdeal.nD Cert.OdOutDwRefIdeal.τ).loc Cert.OdOutDwRefIdeal.main_arg0) = m ((c.tc : Thread Cert.OdOutDwRefIdeal.nD Cert.OdOutDwRefIdeal.τ).loc Cert.OdOutDwRefIdeal.main_arg0)
      ∧ r.2.mem ((c.tc : Thread Cert.OdOutDwRefIdeal.nD Cert.OdOutDwRefIdeal.τ).loc Cert.OdOutDwRefIdeal.main_arg1) = m ((c.tc : Thread Cert.OdOutDwRefIdeal.nD Cert.OdOutDwRefIdeal.τ).loc Cert.OdOutDwRefIdeal.main_arg1))
      ∧ r.2.sem = fun _ => 0)

def quiescent_EvOutDx [hEvOutDx : Cert.EvOutDx.Facts] : Prop :=
  ∀ (m : (ℓ : Loc Cert.EvOutDx.nD Cert.EvOutDx.τ Cert.EvOutDx.sig) → Buf (Elt Bits) ℓ) (g : Dev Cert.EvOutDx.nD → PrngReg), Pre_EvOutDx m →
    θ_run (Cert.EvOutDx.defs (F := Bits)) (onTc (τ := Cert.EvOutDx.τ) (Cert.EvOutDx.main (F := Bits))) ⟨m, fun _ => 0, g⟩ (fun r => (∀ c : Dev Cert.EvOutDx.nD,
      r.2.mem ((c.tc : Thread Cert.EvOutDx.nD Cert.EvOutDx.τ).loc Cert.EvOutDx.main_arg0) = m ((c.tc : Thread Cert.EvOutDx.nD Cert.EvOutDx.τ).loc Cert.EvOutDx.main_arg0)
      ∧ r.2.mem ((c.tc : Thread Cert.EvOutDx.nD Cert.EvOutDx.τ).loc Cert.EvOutDx.main_arg1) = m ((c.tc : Thread Cert.EvOutDx.nD Cert.EvOutDx.τ).loc Cert.EvOutDx.main_arg1))
      ∧ r.2.sem = fun _ => 0)

def quiescent_EvOutDxIdeal [hEvOutDxIdeal : Cert.EvOutDxIdeal.Facts] : Prop :=
  ∀ (m : (ℓ : Loc Cert.EvOutDxIdeal.nD Cert.EvOutDxIdeal.τ Cert.EvOutDxIdeal.sig) → Buf (Elt Ideal) ℓ) (g : Dev Cert.EvOutDxIdeal.nD → PrngReg), Pre_EvOutDxIdeal m →
    θ_run (Cert.EvOutDxIdeal.defs (F := Ideal)) (onTc (τ := Cert.EvOutDxIdeal.τ) (Cert.EvOutDxIdeal.main (F := Ideal))) ⟨m, fun _ => 0, g⟩ (fun r => (∀ c : Dev Cert.EvOutDxIdeal.nD,
      r.2.mem ((c.tc : Thread Cert.EvOutDxIdeal.nD Cert.EvOutDxIdeal.τ).loc Cert.EvOutDxIdeal.main_arg0) = m ((c.tc : Thread Cert.EvOutDxIdeal.nD Cert.EvOutDxIdeal.τ).loc Cert.EvOutDxIdeal.main_arg0)
      ∧ r.2.mem ((c.tc : Thread Cert.EvOutDxIdeal.nD Cert.EvOutDxIdeal.τ).loc Cert.EvOutDxIdeal.main_arg1) = m ((c.tc : Thread Cert.EvOutDxIdeal.nD Cert.EvOutDxIdeal.τ).loc Cert.EvOutDxIdeal.main_arg1))
      ∧ r.2.sem = fun _ => 0)

def quiescent_EvOutDxRefIdeal [hEvOutDxRefIdeal : Cert.EvOutDxRefIdeal.Facts] : Prop :=
  ∀ (m : (ℓ : Loc Cert.EvOutDxRefIdeal.nD Cert.EvOutDxRefIdeal.τ Cert.EvOutDxRefIdeal.sig) → Buf (Elt Ideal) ℓ) (g : Dev Cert.EvOutDxRefIdeal.nD → PrngReg), Pre_EvOutDxRefIdeal m →
    θ_run (Cert.EvOutDxRefIdeal.defs (F := Ideal)) (onTc (τ := Cert.EvOutDxRefIdeal.τ) (Cert.EvOutDxRefIdeal.main (F := Ideal))) ⟨m, fun _ => 0, g⟩ (fun r => (∀ c : Dev Cert.EvOutDxRefIdeal.nD,
      r.2.mem ((c.tc : Thread Cert.EvOutDxRefIdeal.nD Cert.EvOutDxRefIdeal.τ).loc Cert.EvOutDxRefIdeal.main_arg0) = m ((c.tc : Thread Cert.EvOutDxRefIdeal.nD Cert.EvOutDxRefIdeal.τ).loc Cert.EvOutDxRefIdeal.main_arg0)
      ∧ r.2.mem ((c.tc : Thread Cert.EvOutDxRefIdeal.nD Cert.EvOutDxRefIdeal.τ).loc Cert.EvOutDxRefIdeal.main_arg1) = m ((c.tc : Thread Cert.EvOutDxRefIdeal.nD Cert.EvOutDxRefIdeal.τ).loc Cert.EvOutDxRefIdeal.main_arg1))
      ∧ r.2.sem = fun _ => 0)

def quiescent_EvOutDw [hEvOutDw : Cert.EvOutDw.Facts] : Prop :=
  ∀ (m : (ℓ : Loc Cert.EvOutDw.nD Cert.EvOutDw.τ Cert.EvOutDw.sig) → Buf (Elt Bits) ℓ) (g : Dev Cert.EvOutDw.nD → PrngReg), Pre_EvOutDw m →
    θ_run (Cert.EvOutDw.defs (F := Bits)) (onTc (τ := Cert.EvOutDw.τ) (Cert.EvOutDw.main (F := Bits))) ⟨m, fun _ => 0, g⟩ (fun r => (∀ c : Dev Cert.EvOutDw.nD,
      r.2.mem ((c.tc : Thread Cert.EvOutDw.nD Cert.EvOutDw.τ).loc Cert.EvOutDw.main_arg0) = m ((c.tc : Thread Cert.EvOutDw.nD Cert.EvOutDw.τ).loc Cert.EvOutDw.main_arg0)
      ∧ r.2.mem ((c.tc : Thread Cert.EvOutDw.nD Cert.EvOutDw.τ).loc Cert.EvOutDw.main_arg1) = m ((c.tc : Thread Cert.EvOutDw.nD Cert.EvOutDw.τ).loc Cert.EvOutDw.main_arg1))
      ∧ r.2.sem = fun _ => 0)

def quiescent_EvOutDwIdeal [hEvOutDwIdeal : Cert.EvOutDwIdeal.Facts] : Prop :=
  ∀ (m : (ℓ : Loc Cert.EvOutDwIdeal.nD Cert.EvOutDwIdeal.τ Cert.EvOutDwIdeal.sig) → Buf (Elt Ideal) ℓ) (g : Dev Cert.EvOutDwIdeal.nD → PrngReg), Pre_EvOutDwIdeal m →
    θ_run (Cert.EvOutDwIdeal.defs (F := Ideal)) (onTc (τ := Cert.EvOutDwIdeal.τ) (Cert.EvOutDwIdeal.main (F := Ideal))) ⟨m, fun _ => 0, g⟩ (fun r => (∀ c : Dev Cert.EvOutDwIdeal.nD,
      r.2.mem ((c.tc : Thread Cert.EvOutDwIdeal.nD Cert.EvOutDwIdeal.τ).loc Cert.EvOutDwIdeal.main_arg0) = m ((c.tc : Thread Cert.EvOutDwIdeal.nD Cert.EvOutDwIdeal.τ).loc Cert.EvOutDwIdeal.main_arg0)
      ∧ r.2.mem ((c.tc : Thread Cert.EvOutDwIdeal.nD Cert.EvOutDwIdeal.τ).loc Cert.EvOutDwIdeal.main_arg1) = m ((c.tc : Thread Cert.EvOutDwIdeal.nD Cert.EvOutDwIdeal.τ).loc Cert.EvOutDwIdeal.main_arg1))
      ∧ r.2.sem = fun _ => 0)

def quiescent_EvOutDwRefIdeal [hEvOutDwRefIdeal : Cert.EvOutDwRefIdeal.Facts] : Prop :=
  ∀ (m : (ℓ : Loc Cert.EvOutDwRefIdeal.nD Cert.EvOutDwRefIdeal.τ Cert.EvOutDwRefIdeal.sig) → Buf (Elt Ideal) ℓ) (g : Dev Cert.EvOutDwRefIdeal.nD → PrngReg), Pre_EvOutDwRefIdeal m →
    θ_run (Cert.EvOutDwRefIdeal.defs (F := Ideal)) (onTc (τ := Cert.EvOutDwRefIdeal.τ) (Cert.EvOutDwRefIdeal.main (F := Ideal))) ⟨m, fun _ => 0, g⟩ (fun r => (∀ c : Dev Cert.EvOutDwRefIdeal.nD,
      r.2.mem ((c.tc : Thread Cert.EvOutDwRefIdeal.nD Cert.EvOutDwRefIdeal.τ).loc Cert.EvOutDwRefIdeal.main_arg0) = m ((c.tc : Thread Cert.EvOutDwRefIdeal.nD Cert.EvOutDwRefIdeal.τ).loc Cert.EvOutDwRefIdeal.main_arg0)
      ∧ r.2.mem ((c.tc : Thread Cert.EvOutDwRefIdeal.nD Cert.EvOutDwRefIdeal.τ).loc Cert.EvOutDwRefIdeal.main_arg1) = m ((c.tc : Thread Cert.EvOutDwRefIdeal.nD Cert.EvOutDwRefIdeal.τ).loc Cert.EvOutDwRefIdeal.main_arg1))
      ∧ r.2.sem = fun _ => 0)

def quiescent_OdIn [hOdIn : Cert.OdIn.Facts] : Prop :=
  ∀ (m : (ℓ : Loc Cert.OdIn.nD Cert.OdIn.τ Cert.OdIn.sig) → Buf (Elt Bits) ℓ) (g : Dev Cert.OdIn.nD → PrngReg), Pre_OdIn m →
    θ_run (Cert.OdIn.defs (F := Bits)) (onTc (τ := Cert.OdIn.τ) (Cert.OdIn.main (F := Bits))) ⟨m, fun _ => 0, g⟩ (fun r => (∀ c : Dev Cert.OdIn.nD,
      r.2.mem ((c.tc : Thread Cert.OdIn.nD Cert.OdIn.τ).loc Cert.OdIn.main_arg0) = m ((c.tc : Thread Cert.OdIn.nD Cert.OdIn.τ).loc Cert.OdIn.main_arg0)
      ∧ r.2.mem ((c.tc : Thread Cert.OdIn.nD Cert.OdIn.τ).loc Cert.OdIn.main_arg1) = m ((c.tc : Thread Cert.OdIn.nD Cert.OdIn.τ).loc Cert.OdIn.main_arg1))
      ∧ r.2.sem = fun _ => 0)

def quiescent_OdInIdeal [hOdInIdeal : Cert.OdInIdeal.Facts] : Prop :=
  ∀ (m : (ℓ : Loc Cert.OdInIdeal.nD Cert.OdInIdeal.τ Cert.OdInIdeal.sig) → Buf (Elt Ideal) ℓ) (g : Dev Cert.OdInIdeal.nD → PrngReg), Pre_OdInIdeal m →
    θ_run (Cert.OdInIdeal.defs (F := Ideal)) (onTc (τ := Cert.OdInIdeal.τ) (Cert.OdInIdeal.main (F := Ideal))) ⟨m, fun _ => 0, g⟩ (fun r => (∀ c : Dev Cert.OdInIdeal.nD,
      r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
      ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ r.2.sem = fun _ => 0)

def quiescent_OdInRefIdeal [hOdInRefIdeal : Cert.OdInRefIdeal.Facts] : Prop :=
  ∀ (m : (ℓ : Loc Cert.OdInRefIdeal.nD Cert.OdInRefIdeal.τ Cert.OdInRefIdeal.sig) → Buf (Elt Ideal) ℓ) (g : Dev Cert.OdInRefIdeal.nD → PrngReg), Pre_OdInRefIdeal m →
    θ_run (Cert.OdInRefIdeal.defs (F := Ideal)) (onTc (τ := Cert.OdInRefIdeal.τ) (Cert.OdInRefIdeal.main (F := Ideal))) ⟨m, fun _ => 0, g⟩ (fun r => (∀ c : Dev Cert.OdInRefIdeal.nD,
      r.2.mem ((c.tc : Thread Cert.OdInRefIdeal.nD Cert.OdInRefIdeal.τ).loc Cert.OdInRefIdeal.main_arg0) = m ((c.tc : Thread Cert.OdInRefIdeal.nD Cert.OdInRefIdeal.τ).loc Cert.OdInRefIdeal.main_arg0)
      ∧ r.2.mem ((c.tc : Thread Cert.OdInRefIdeal.nD Cert.OdInRefIdeal.τ).loc Cert.OdInRefIdeal.main_arg1) = m ((c.tc : Thread Cert.OdInRefIdeal.nD Cert.OdInRefIdeal.τ).loc Cert.OdInRefIdeal.main_arg1))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ r.2.sem = fun _ => 0)

def quiescent_EvInRefIdeal [hEvInRefIdeal : Cert.EvInRefIdeal.Facts] : Prop :=
  ∀ (m : (ℓ : Loc Cert.EvInRefIdeal.nD Cert.EvInRefIdeal.τ Cert.EvInRefIdeal.sig) → Buf (Elt Ideal) ℓ) (g : Dev Cert.EvInRefIdeal.nD → PrngReg), Pre_EvInRefIdeal m →
    θ_run (Cert.EvInRefIdeal.defs (F := Ideal)) (onTc (τ := Cert.EvInRefIdeal.τ) (Cert.EvInRefIdeal.main (F := Ideal))) ⟨m, fun _ => 0, g⟩ (fun r => (∀ c : Dev Cert.EvInRefIdeal.nD,
      r.2.mem ((c.tc : Thread Cert.EvInRefIdeal.nD Cert.EvInRefIdeal.τ).loc Cert.EvInRefIdeal.main_arg0) = m ((c.tc : Thread Cert.EvInRefIdeal.nD Cert.EvInRefIdeal.τ).loc Cert.EvInRefIdeal.main_arg0)
      ∧ r.2.mem ((c.tc : Thread Cert.EvInRefIdeal.nD Cert.EvInRefIdeal.τ).loc Cert.EvInRefIdeal.main_arg1) = m ((c.tc : Thread Cert.EvInRefIdeal.nD Cert.EvInRefIdeal.τ).loc Cert.EvInRefIdeal.main_arg1))
      ∧ r.2.sem = fun _ => 0)

def quiescent_EvUq [hEvUq : Cert.EvUq.Facts] : Prop :=
  ∀ (m : (ℓ : Loc Cert.EvUq.nD Cert.EvUq.τ Cert.EvUq.sig) → Buf (Elt Bits) ℓ) (g : Dev Cert.EvUq.nD → PrngReg), Pre_EvUq m →
    θ_run (Cert.EvUq.defs (F := Bits)) (onTc (τ := Cert.EvUq.τ) (Cert.EvUq.main (F := Bits))) ⟨m, fun _ => 0, g⟩ (fun r => (∀ c : Dev Cert.EvUq.nD,
      r.2.mem ((c.tc : Thread Cert.EvUq.nD Cert.EvUq.τ).loc Cert.EvUq.main_arg0) = m ((c.tc : Thread Cert.EvUq.nD Cert.EvUq.τ).loc Cert.EvUq.main_arg0)
      ∧ r.2.mem ((c.tc : Thread Cert.EvUq.nD Cert.EvUq.τ).loc Cert.EvUq.main_arg1) = m ((c.tc : Thread Cert.EvUq.nD Cert.EvUq.τ).loc Cert.EvUq.main_arg1))
      ∧ r.2.sem = fun _ => 0)

def quiescent_EvUqIdeal [hEvUqIdeal : Cert.EvUqIdeal.Facts] : Prop :=
  ∀ (m : (ℓ : Loc Cert.EvUqIdeal.nD Cert.EvUqIdeal.τ Cert.EvUqIdeal.sig) → Buf (Elt Ideal) ℓ) (g : Dev Cert.EvUqIdeal.nD → PrngReg), Pre_EvUqIdeal m →
    θ_run (Cert.EvUqIdeal.defs (F := Ideal)) (onTc (τ := Cert.EvUqIdeal.τ) (Cert.EvUqIdeal.main (F := Ideal))) ⟨m, fun _ => 0, g⟩ (fun r => (∀ c : Dev Cert.EvUqIdeal.nD,
      r.2.mem ((c.tc : Thread Cert.EvUqIdeal.nD Cert.EvUqIdeal.τ).loc Cert.EvUqIdeal.main_arg0) = m ((c.tc : Thread Cert.EvUqIdeal.nD Cert.EvUqIdeal.τ).loc Cert.EvUqIdeal.main_arg0)
      ∧ r.2.mem ((c.tc : Thread Cert.EvUqIdeal.nD Cert.EvUqIdeal.τ).loc Cert.EvUqIdeal.main_arg1) = m ((c.tc : Thread Cert.EvUqIdeal.nD Cert.EvUqIdeal.τ).loc Cert.EvUqIdeal.main_arg1))
      ∧ r.2.sem = fun _ => 0)

def quiescent_EvUqRefIdeal [hEvUqRefIdeal : Cert.EvUqRefIdeal.Facts] : Prop :=
  ∀ (m : (ℓ : Loc Cert.EvUqRefIdeal.nD Cert.EvUqRefIdeal.τ Cert.EvUqRefIdeal.sig) → Buf (Elt Ideal) ℓ) (g : Dev Cert.EvUqRefIdeal.nD → PrngReg), Pre_EvUqRefIdeal m →
    θ_run (Cert.EvUqRefIdeal.defs (F := Ideal)) (onTc (τ := Cert.EvUqRefIdeal.τ) (Cert.EvUqRefIdeal.main (F := Ideal))) ⟨m, fun _ => 0, g⟩ (fun r => (∀ c : Dev Cert.EvUqRefIdeal.nD,
      r.2.mem ((c.tc : Thread Cert.EvUqRefIdeal.nD Cert.EvUqRefIdeal.τ).loc Cert.EvUqRefIdeal.main_arg0) = m ((c.tc : Thread Cert.EvUqRefIdeal.nD Cert.EvUqRefIdeal.τ).loc Cert.EvUqRefIdeal.main_arg0)
      ∧ r.2.mem ((c.tc : Thread Cert.EvUqRefIdeal.nD Cert.EvUqRefIdeal.τ).loc Cert.EvUqRefIdeal.main_arg1) = m ((c.tc : Thread Cert.EvUqRefIdeal.nD Cert.EvUqRefIdeal.τ).loc Cert.EvUqRefIdeal.main_arg1))
      ∧ r.2.sem = fun _ => 0)

def quiescent_EvUkv [hEvUkv : Cert.EvUkv.Facts] : Prop :=
  ∀ (m : (ℓ : Loc Cert.EvUkv.nD Cert.EvUkv.τ Cert.EvUkv.sig) → Buf (Elt Bits) ℓ) (g : Dev Cert.EvUkv.nD → PrngReg), Pre_EvUkv m →
    θ_run (Cert.EvUkv.defs (F := Bits)) (onTc (τ := Cert.EvUkv.τ) (Cert.EvUkv.main (F := Bits))) ⟨m, fun _ => 0, g⟩ (fun r => (∀ c : Dev Cert.EvUkv.nD,
      r.2.mem ((c.tc : Thread Cert.EvUkv.nD Cert.EvUkv.τ).loc Cert.EvUkv.main_arg0) = m ((c.tc : Thread Cert.EvUkv.nD Cert.EvUkv.τ).loc Cert.EvUkv.main_arg0)
      ∧ r.2.mem ((c.tc : Thread Cert.EvUkv.nD Cert.EvUkv.τ).loc Cert.EvUkv.main_arg1) = m ((c.tc : Thread Cert.EvUkv.nD Cert.EvUkv.τ).loc Cert.EvUkv.main_arg1))
      ∧ r.2.sem = fun _ => 0)

def quiescent_EvUkvIdeal [hEvUkvIdeal : Cert.EvUkvIdeal.Facts] : Prop :=
  ∀ (m : (ℓ : Loc Cert.EvUkvIdeal.nD Cert.EvUkvIdeal.τ Cert.EvUkvIdeal.sig) → Buf (Elt Ideal) ℓ) (g : Dev Cert.EvUkvIdeal.nD → PrngReg), Pre_EvUkvIdeal m →
    θ_run (Cert.EvUkvIdeal.defs (F := Ideal)) (onTc (τ := Cert.EvUkvIdeal.τ) (Cert.EvUkvIdeal.main (F := Ideal))) ⟨m, fun _ => 0, g⟩ (fun r => (∀ c : Dev Cert.EvUkvIdeal.nD,
      r.2.mem ((c.tc : Thread Cert.EvUkvIdeal.nD Cert.EvUkvIdeal.τ).loc Cert.EvUkvIdeal.main_arg0) = m ((c.tc : Thread Cert.EvUkvIdeal.nD Cert.EvUkvIdeal.τ).loc Cert.EvUkvIdeal.main_arg0)
      ∧ r.2.mem ((c.tc : Thread Cert.EvUkvIdeal.nD Cert.EvUkvIdeal.τ).loc Cert.EvUkvIdeal.main_arg1) = m ((c.tc : Thread Cert.EvUkvIdeal.nD Cert.EvUkvIdeal.τ).loc Cert.EvUkvIdeal.main_arg1))
      ∧ r.2.sem = fun _ => 0)

def quiescent_EvUkvRefIdeal [hEvUkvRefIdeal : Cert.EvUkvRefIdeal.Facts] : Prop :=
  ∀ (m : (ℓ : Loc Cert.EvUkvRefIdeal.nD Cert.EvUkvRefIdeal.τ Cert.EvUkvRefIdeal.sig) → Buf (Elt Ideal) ℓ) (g : Dev Cert.EvUkvRefIdeal.nD → PrngReg), Pre_EvUkvRefIdeal m →
    θ_run (Cert.EvUkvRefIdeal.defs (F := Ideal)) (onTc (τ := Cert.EvUkvRefIdeal.τ) (Cert.EvUkvRefIdeal.main (F := Ideal))) ⟨m, fun _ => 0, g⟩ (fun r => (∀ c : Dev Cert.EvUkvRefIdeal.nD,
      r.2.mem ((c.tc : Thread Cert.EvUkvRefIdeal.nD Cert.EvUkvRefIdeal.τ).loc Cert.EvUkvRefIdeal.main_arg0) = m ((c.tc : Thread Cert.EvUkvRefIdeal.nD Cert.EvUkvRefIdeal.τ).loc Cert.EvUkvRefIdeal.main_arg0)
      ∧ r.2.mem ((c.tc : Thread Cert.EvUkvRefIdeal.nD Cert.EvUkvRefIdeal.τ).loc Cert.EvUkvRefIdeal.main_arg1) = m ((c.tc : Thread Cert.EvUkvRefIdeal.nD Cert.EvUkvRefIdeal.τ).loc Cert.EvUkvRefIdeal.main_arg1))
      ∧ r.2.sem = fun _ => 0)

def quiescent_OdOut [hOdOut : Cert.OdOut.Facts] : Prop :=
  ∀ (m : (ℓ : Loc Cert.OdOut.nD Cert.OdOut.τ Cert.OdOut.sig) → Buf (Elt Bits) ℓ) (g : Dev Cert.OdOut.nD → PrngReg), Pre_OdOut m →
    θ_run (Cert.OdOut.defs (F := Bits)) (onTc (τ := Cert.OdOut.τ) (Cert.OdOut.main (F := Bits))) ⟨m, fun _ => 0, g⟩ (fun r => (∀ c : Dev Cert.OdOut.nD,
      r.2.mem ((c.tc : Thread Cert.OdOut.nD Cert.OdOut.τ).loc Cert.OdOut.main_arg0) = m ((c.tc : Thread Cert.OdOut.nD Cert.OdOut.τ).loc Cert.OdOut.main_arg0)
      ∧ r.2.mem ((c.tc : Thread Cert.OdOut.nD Cert.OdOut.τ).loc Cert.OdOut.main_arg1) = m ((c.tc : Thread Cert.OdOut.nD Cert.OdOut.τ).loc Cert.OdOut.main_arg1)
      ∧ r.2.mem ((c.tc : Thread Cert.OdOut.nD Cert.OdOut.τ).loc Cert.OdOut.main_arg2) = m ((c.tc : Thread Cert.OdOut.nD Cert.OdOut.τ).loc Cert.OdOut.main_arg2)
      ∧ r.2.mem ((c.tc : Thread Cert.OdOut.nD Cert.OdOut.τ).loc Cert.OdOut.main_arg3) = m ((c.tc : Thread Cert.OdOut.nD Cert.OdOut.τ).loc Cert.OdOut.main_arg3))
      ∧ r.2.sem = fun _ => 0)

def quiescent_OdOutIdeal [hOdOutIdeal : Cert.OdOutIdeal.Facts] : Prop :=
  ∀ (m : (ℓ : Loc Cert.OdOutIdeal.nD Cert.OdOutIdeal.τ Cert.OdOutIdeal.sig) → Buf (Elt Ideal) ℓ) (g : Dev Cert.OdOutIdeal.nD → PrngReg), Pre_OdOutIdeal m →
    θ_run (Cert.OdOutIdeal.defs (F := Ideal)) (onTc (τ := Cert.OdOutIdeal.τ) (Cert.OdOutIdeal.main (F := Ideal))) ⟨m, fun _ => 0, g⟩ (fun r => (∀ c : Dev Cert.OdOutIdeal.nD,
      r.2.mem ((c.tc : Thread Cert.OdOutIdeal.nD Cert.OdOutIdeal.τ).loc Cert.OdOutIdeal.main_arg0) = m ((c.tc : Thread Cert.OdOutIdeal.nD Cert.OdOutIdeal.τ).loc Cert.OdOutIdeal.main_arg0)
      ∧ r.2.mem ((c.tc : Thread Cert.OdOutIdeal.nD Cert.OdOutIdeal.τ).loc Cert.OdOutIdeal.main_arg1) = m ((c.tc : Thread Cert.OdOutIdeal.nD Cert.OdOutIdeal.τ).loc Cert.OdOutIdeal.main_arg1)
      ∧ r.2.mem ((c.tc : Thread Cert.OdOutIdeal.nD Cert.OdOutIdeal.τ).loc Cert.OdOutIdeal.main_arg2) = m ((c.tc : Thread Cert.OdOutIdeal.nD Cert.OdOutIdeal.τ).loc Cert.OdOutIdeal.main_arg2)
      ∧ r.2.mem ((c.tc : Thread Cert.OdOutIdeal.nD Cert.OdOutIdeal.τ).loc Cert.OdOutIdeal.main_arg3) = m ((c.tc : Thread Cert.OdOutIdeal.nD Cert.OdOutIdeal.τ).loc Cert.OdOutIdeal.main_arg3))
      ∧ r.2.sem = fun _ => 0)

def quiescent_OdOutRefIdeal [hOdOutRefIdeal : Cert.OdOutRefIdeal.Facts] : Prop :=
  ∀ (m : (ℓ : Loc Cert.OdOutRefIdeal.nD Cert.OdOutRefIdeal.τ Cert.OdOutRefIdeal.sig) → Buf (Elt Ideal) ℓ) (g : Dev Cert.OdOutRefIdeal.nD → PrngReg), Pre_OdOutRefIdeal m →
    θ_run (Cert.OdOutRefIdeal.defs (F := Ideal)) (onTc (τ := Cert.OdOutRefIdeal.τ) (Cert.OdOutRefIdeal.main (F := Ideal))) ⟨m, fun _ => 0, g⟩ (fun r => (∀ c : Dev Cert.OdOutRefIdeal.nD,
      r.2.mem ((c.tc : Thread Cert.OdOutRefIdeal.nD Cert.OdOutRefIdeal.τ).loc Cert.OdOutRefIdeal.main_arg0) = m ((c.tc : Thread Cert.OdOutRefIdeal.nD Cert.OdOutRefIdeal.τ).loc Cert.OdOutRefIdeal.main_arg0)
      ∧ r.2.mem ((c.tc : Thread Cert.OdOutRefIdeal.nD Cert.OdOutRefIdeal.τ).loc Cert.OdOutRefIdeal.main_arg1) = m ((c.tc : Thread Cert.OdOutRefIdeal.nD Cert.OdOutRefIdeal.τ).loc Cert.OdOutRefIdeal.main_arg1)
      ∧ r.2.mem ((c.tc : Thread Cert.OdOutRefIdeal.nD Cert.OdOutRefIdeal.τ).loc Cert.OdOutRefIdeal.main_arg2) = m ((c.tc : Thread Cert.OdOutRefIdeal.nD Cert.OdOutRefIdeal.τ).loc Cert.OdOutRefIdeal.main_arg2)
      ∧ r.2.mem ((c.tc : Thread Cert.OdOutRefIdeal.nD Cert.OdOutRefIdeal.τ).loc Cert.OdOutRefIdeal.main_arg3) = m ((c.tc : Thread Cert.OdOutRefIdeal.nD Cert.OdOutRefIdeal.τ).loc Cert.OdOutRefIdeal.main_arg3))
      ∧ r.2.sem = fun _ => 0)

def quiescent_EvOut [hEvOut : Cert.EvOut.Facts] : Prop :=
  ∀ (m : (ℓ : Loc Cert.EvOut.nD Cert.EvOut.τ Cert.EvOut.sig) → Buf (Elt Bits) ℓ) (g : Dev Cert.EvOut.nD → PrngReg), Pre_EvOut m →
    θ_run (Cert.EvOut.defs (F := Bits)) (onTc (τ := Cert.EvOut.τ) (Cert.EvOut.main (F := Bits))) ⟨m, fun _ => 0, g⟩ (fun r => (∀ c : Dev Cert.EvOut.nD,
      r.2.mem ((c.tc : Thread Cert.EvOut.nD Cert.EvOut.τ).loc Cert.EvOut.main_arg0) = m ((c.tc : Thread Cert.EvOut.nD Cert.EvOut.τ).loc Cert.EvOut.main_arg0)
      ∧ r.2.mem ((c.tc : Thread Cert.EvOut.nD Cert.EvOut.τ).loc Cert.EvOut.main_arg1) = m ((c.tc : Thread Cert.EvOut.nD Cert.EvOut.τ).loc Cert.EvOut.main_arg1)
      ∧ r.2.mem ((c.tc : Thread Cert.EvOut.nD Cert.EvOut.τ).loc Cert.EvOut.main_arg2) = m ((c.tc : Thread Cert.EvOut.nD Cert.EvOut.τ).loc Cert.EvOut.main_arg2)
      ∧ r.2.mem ((c.tc : Thread Cert.EvOut.nD Cert.EvOut.τ).loc Cert.EvOut.main_arg3) = m ((c.tc : Thread Cert.EvOut.nD Cert.EvOut.τ).loc Cert.EvOut.main_arg3))
      ∧ r.2.sem = fun _ => 0)

def quiescent_EvOutIdeal [hEvOutIdeal : Cert.EvOutIdeal.Facts] : Prop :=
  ∀ (m : (ℓ : Loc Cert.EvOutIdeal.nD Cert.EvOutIdeal.τ Cert.EvOutIdeal.sig) → Buf (Elt Ideal) ℓ) (g : Dev Cert.EvOutIdeal.nD → PrngReg), Pre_EvOutIdeal m →
    θ_run (Cert.EvOutIdeal.defs (F := Ideal)) (onTc (τ := Cert.EvOutIdeal.τ) (Cert.EvOutIdeal.main (F := Ideal))) ⟨m, fun _ => 0, g⟩ (fun r => (∀ c : Dev Cert.EvOutIdeal.nD,
      r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
      ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
      ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2)
      ∧ r.2.mem ((c.tc : Thread Cert.EvOutIdeal.nD Cert.EvOutIdeal.τ).loc Cert.EvOutIdeal.main_arg3) = m ((c.tc : Thread Cert.EvOutIdeal.nD Cert.EvOutIdeal.τ).loc Cert.EvOutIdeal.main_arg3))
      ∧ r.2.sem = fun _ => 0)

def quiescent_EvOutRefIdeal [hEvOutRefIdeal : Cert.EvOutRefIdeal.Facts] : Prop :=
  ∀ (m : (ℓ : Loc Cert.EvOutRefIdeal.nD Cert.EvOutRefIdeal.τ Cert.EvOutRefIdeal.sig) → Buf (Elt Ideal) ℓ) (g : Dev Cert.EvOutRefIdeal.nD → PrngReg), Pre_EvOutRefIdeal m →
    θ_run (Cert.EvOutRefIdeal.defs (F := Ideal)) (onTc (τ := Cert.EvOutRefIdeal.τ) (Cert.EvOutRefIdeal.main (F := Ideal))) ⟨m, fun _ => 0, g⟩ (fun r => (∀ c : Dev Cert.EvOutRefIdeal.nD,
      r.2.mem ((c.tc : Thread Cert.EvOutRefIdeal.nD Cert.EvOutRefIdeal.τ).loc Cert.EvOutRefIdeal.main_arg0) = m ((c.tc : Thread Cert.EvOutRefIdeal.nD Cert.EvOutRefIdeal.τ).loc Cert.EvOutRefIdeal.main_arg0)
      ∧ r.2.mem ((c.tc : Thread Cert.EvOutRefIdeal.nD Cert.EvOutRefIdeal.τ).loc Cert.EvOutRefIdeal.main_arg1) = m ((c.tc : Thread Cert.EvOutRefIdeal.nD Cert.EvOutRefIdeal.τ).loc Cert.EvOutRefIdeal.main_arg1)
      ∧ r.2.mem ((c.tc : Thread Cert.EvOutRefIdeal.nD Cert.EvOutRefIdeal.τ).loc Cert.EvOutRefIdeal.main_arg2) = m ((c.tc : Thread Cert.EvOutRefIdeal.nD Cert.EvOutRefIdeal.τ).loc Cert.EvOutRefIdeal.main_arg2)
      ∧ r.2.mem ((c.tc : Thread Cert.EvOutRefIdeal.nD Cert.EvOutRefIdeal.τ).loc Cert.EvOutRefIdeal.main_arg3) = m ((c.tc : Thread Cert.EvOutRefIdeal.nD Cert.EvOutRefIdeal.τ).loc Cert.EvOutRefIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MidBwd_MidBwdIdeal : Prop :=
  True

def algebraic_MidBwdIdeal_MidBwdRefIdeal_pre_finite_mid [hMidBwdIdeal : Cert.MidBwdIdeal.Facts] [hMidBwdRefIdeal : Cert.MidBwdRefIdeal.Facts] [hPre_finite_mid : Cert.Pre_finite_mid.Facts] : Prop :=
  ∀ (m : (ℓ : Loc Cert.MidBwdIdeal.nD Cert.MidBwdIdeal.τ Cert.MidBwdIdeal.sig) → Buf (Elt Ideal) ℓ) (g : Dev Cert.MidBwdIdeal.nD → PrngReg)
    (m' : (ℓ : Loc Cert.MidBwdRefIdeal.nD Cert.MidBwdRefIdeal.τ Cert.MidBwdRefIdeal.sig) → Buf (Elt Ideal) ℓ) (g' : Dev Cert.MidBwdRefIdeal.nD → PrngReg), Pre_MidBwdIdeal_finite_mid m →
    (∀ c : Dev Cert.MidBwdIdeal.nD,
      m' ((c.tc : Thread Cert.MidBwdRefIdeal.nD Cert.MidBwdRefIdeal.τ).loc Cert.MidBwdRefIdeal.main_arg0) = m ((c.tc : Thread Cert.MidBwdIdeal.nD Cert.MidBwdIdeal.τ).loc Cert.MidBwdIdeal.main_arg0)
      ∧ m' ((c.tc : Thread Cert.MidBwdRefIdeal.nD Cert.MidBwdRefIdeal.τ).loc Cert.MidBwdRefIdeal.main_arg1) = m ((c.tc : Thread Cert.MidBwdIdeal.nD Cert.MidBwdIdeal.τ).loc Cert.MidBwdIdeal.main_arg1)
      ∧ m' ((c.tc : Thread Cert.MidBwdRefIdeal.nD Cert.MidBwdRefIdeal.τ).loc Cert.MidBwdRefIdeal.main_arg2) = m ((c.tc : Thread Cert.MidBwdIdeal.nD Cert.MidBwdIdeal.τ).loc Cert.MidBwdIdeal.main_arg2)
      ∧ m' ((c.tc : Thread Cert.MidBwdRefIdeal.nD Cert.MidBwdRefIdeal.τ).loc Cert.MidBwdRefIdeal.main_arg3) = m ((c.tc : Thread Cert.MidBwdIdeal.nD Cert.MidBwdIdeal.τ).loc Cert.MidBwdIdeal.main_arg3)) →
    ∃ (v0 : (c : Dev Cert.MidBwdIdeal.nD) → Buf (Elt Ideal) ((c.tc : Thread Cert.MidBwdIdeal.nD Cert.MidBwdIdeal.τ).loc Cert.MidBwdIdeal.main_v0_0)) (v1 : (c : Dev Cert.MidBwdIdeal.nD) → Buf (Elt Ideal) ((c.tc : Thread Cert.MidBwdIdeal.nD Cert.MidBwdIdeal.τ).loc Cert.MidBwdIdeal.main_v0_1)) (v2 : (c : Dev Cert.MidBwdIdeal.nD) → Buf (Elt Ideal) ((c.tc : Thread Cert.MidBwdIdeal.nD Cert.MidBwdIdeal.τ).loc Cert.MidBwdIdeal.main_v0_2)),
      θ_run (Cert.MidBwdIdeal.defs (F := Ideal)) (onTc (τ := Cert.MidBwdIdeal.τ) (Cert.MidBwdIdeal.main (F := Ideal))) ⟨m, fun _ => 0, g⟩ (fun r => ∀ c : Dev Cert.MidBwdIdeal.nD,
          r.2.mem ((c.tc : Thread Cert.MidBwdIdeal.nD Cert.MidBwdIdeal.τ).loc Cert.MidBwdIdeal.main_v0_0) = v0 c
          ∧ r.2.mem ((c.tc : Thread Cert.MidBwdIdeal.nD Cert.MidBwdIdeal.τ).loc Cert.MidBwdIdeal.main_v0_1) = v1 c
          ∧ r.2.mem ((c.tc : Thread Cert.MidBwdIdeal.nD Cert.MidBwdIdeal.τ).loc Cert.MidBwdIdeal.main_v0_2) = v2 c
          ∧ r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
          ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
          ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
          ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3))
      ∧ θ_run (Cert.MidBwdRefIdeal.defs (F := Ideal)) (onTc (τ := Cert.MidBwdRefIdeal.τ) (Cert.MidBwdRefIdeal.main (F := Ideal))) ⟨m', fun _ => 0, g'⟩ (fun r => ∀ c : Dev Cert.MidBwdRefIdeal.nD,
          r.2.mem ((c.tc : Thread Cert.MidBwdRefIdeal.nD Cert.MidBwdRefIdeal.τ).loc Cert.MidBwdRefIdeal.main_v65) = v0 c
          ∧ r.2.mem ((c.tc : Thread Cert.MidBwdRefIdeal.nD Cert.MidBwdRefIdeal.τ).loc Cert.MidBwdRefIdeal.main_v61) = v1 c
          ∧ r.2.mem ((c.tc : Thread Cert.MidBwdRefIdeal.nD Cert.MidBwdRefIdeal.τ).loc Cert.MidBwdRefIdeal.main_v33) = v2 c
          ∧ r.2.mem ((c.tc : Thread Cert.MidBwdRefIdeal.nD Cert.MidBwdRefIdeal.τ).loc Cert.MidBwdRefIdeal.main_arg0) = m' ((c.tc : Thread Cert.MidBwdRefIdeal.nD Cert.MidBwdRefIdeal.τ).loc Cert.MidBwdRefIdeal.main_arg0)
          ∧ r.2.mem ((c.tc : Thread Cert.MidBwdRefIdeal.nD Cert.MidBwdRefIdeal.τ).loc Cert.MidBwdRefIdeal.main_arg1) = m' ((c.tc : Thread Cert.MidBwdRefIdeal.nD Cert.MidBwdRefIdeal.τ).loc Cert.MidBwdRefIdeal.main_arg1)
          ∧ r.2.mem ((c.tc : Thread Cert.MidBwdRefIdeal.nD Cert.MidBwdRefIdeal.τ).loc Cert.MidBwdRefIdeal.main_arg2) = m' ((c.tc : Thread Cert.MidBwdRefIdeal.nD Cert.MidBwdRefIdeal.τ).loc Cert.MidBwdRefIdeal.main_arg2)
          ∧ r.2.mem ((c.tc : Thread Cert.MidBwdRefIdeal.nD Cert.MidBwdRefIdeal.τ).loc Cert.MidBwdRefIdeal.main_arg3) = m' ((c.tc : Thread Cert.MidBwdRefIdeal.nD Cert.MidBwdRefIdeal.τ).loc Cert.MidBwdRefIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v6) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v7) = v0 c
          ∧ r.2.mem ((c.tc : Thread Cert.GateBwdRefIdeal.nD Cert.GateBwdRefIdeal.τ).loc Cert.GateBwdRefIdeal.main_v4) = v1 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)) →
    ∃ (v0 : (c : Dev Cert.MidIdeal.nD) → Buf (Elt Ideal) ((c.tc : Thread Cert.MidIdeal.nD Cert.MidIdeal.τ).loc Cert.MidIdeal.main_v0)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v25) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v2) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_OdMid_OdMidIdeal : Prop :=
  True

def algebraic_OdMidIdeal_OdMidRefIdeal [hOdMidIdeal : Cert.OdMidIdeal.Facts] [hOdMidRefIdeal : Cert.OdMidRefIdeal.Facts] : Prop :=
  ∀ (m : (ℓ : Loc Cert.OdMidIdeal.nD Cert.OdMidIdeal.τ Cert.OdMidIdeal.sig) → Buf (Elt Ideal) ℓ) (g : Dev Cert.OdMidIdeal.nD → PrngReg)
    (m' : (ℓ : Loc Cert.OdMidRefIdeal.nD Cert.OdMidRefIdeal.τ Cert.OdMidRefIdeal.sig) → Buf (Elt Ideal) ℓ) (g' : Dev Cert.OdMidRefIdeal.nD → PrngReg), Pre_OdMidIdeal m →
    (∀ c : Dev Cert.OdMidIdeal.nD,
      m' ((c.tc : Thread Cert.OdMidRefIdeal.nD Cert.OdMidRefIdeal.τ).loc Cert.OdMidRefIdeal.main_arg0) = m ((c.tc : Thread Cert.OdMidIdeal.nD Cert.OdMidIdeal.τ).loc Cert.OdMidIdeal.main_arg0)
      ∧ m' ((c.tc : Thread Cert.OdMidRefIdeal.nD Cert.OdMidRefIdeal.τ).loc Cert.OdMidRefIdeal.main_arg1) = m ((c.tc : Thread Cert.OdMidIdeal.nD Cert.OdMidIdeal.τ).loc Cert.OdMidIdeal.main_arg1)
      ∧ m' ((c.tc : Thread Cert.OdMidRefIdeal.nD Cert.OdMidRefIdeal.τ).loc Cert.OdMidRefIdeal.main_arg2) = m ((c.tc : Thread Cert.OdMidIdeal.nD Cert.OdMidIdeal.τ).loc Cert.OdMidIdeal.main_arg2)) →
    ∃ (v0 : (c : Dev Cert.OdMidIdeal.nD) → Buf (Elt Ideal) ((c.tc : Thread Cert.OdMidIdeal.nD Cert.OdMidIdeal.τ).loc Cert.OdMidIdeal.main_v0)),
      θ_run (Cert.OdMidIdeal.defs (F := Ideal)) (onTc (τ := Cert.OdMidIdeal.τ) (Cert.OdMidIdeal.main (F := Ideal))) ⟨m, fun _ => 0, g⟩ (fun r => ∀ c : Dev Cert.OdMidIdeal.nD,
          r.2.mem ((c.tc : Thread Cert.OdMidIdeal.nD Cert.OdMidIdeal.τ).loc Cert.OdMidIdeal.main_v0) = v0 c
          ∧ r.2.mem ((c.tc : Thread Cert.OdMidIdeal.nD Cert.OdMidIdeal.τ).loc Cert.OdMidIdeal.main_arg0) = m ((c.tc : Thread Cert.OdMidIdeal.nD Cert.OdMidIdeal.τ).loc Cert.OdMidIdeal.main_arg0)
          ∧ r.2.mem ((c.tc : Thread Cert.OdMidIdeal.nD Cert.OdMidIdeal.τ).loc Cert.OdMidIdeal.main_arg1) = m ((c.tc : Thread Cert.OdMidIdeal.nD Cert.OdMidIdeal.τ).loc Cert.OdMidIdeal.main_arg1)
          ∧ r.2.mem ((c.tc : Thread Cert.OdMidIdeal.nD Cert.OdMidIdeal.τ).loc Cert.OdMidIdeal.main_arg2) = m ((c.tc : Thread Cert.OdMidIdeal.nD Cert.OdMidIdeal.τ).loc Cert.OdMidIdeal.main_arg2))
      ∧ θ_run (Cert.OdMidRefIdeal.defs (F := Ideal)) (onTc (τ := Cert.OdMidRefIdeal.τ) (Cert.OdMidRefIdeal.main (F := Ideal))) ⟨m', fun _ => 0, g'⟩ (fun r => ∀ c : Dev Cert.OdMidRefIdeal.nD,
          r.2.mem ((c.tc : Thread Cert.OdMidRefIdeal.nD Cert.OdMidRefIdeal.τ).loc Cert.OdMidRefIdeal.main_v24) = v0 c
          ∧ r.2.mem ((c.tc : Thread Cert.OdMidRefIdeal.nD Cert.OdMidRefIdeal.τ).loc Cert.OdMidRefIdeal.main_arg0) = m' ((c.tc : Thread Cert.OdMidRefIdeal.nD Cert.OdMidRefIdeal.τ).loc Cert.OdMidRefIdeal.main_arg0)
          ∧ r.2.mem ((c.tc : Thread Cert.OdMidRefIdeal.nD Cert.OdMidRefIdeal.τ).loc Cert.OdMidRefIdeal.main_arg1) = m' ((c.tc : Thread Cert.OdMidRefIdeal.nD Cert.OdMidRefIdeal.τ).loc Cert.OdMidRefIdeal.main_arg1)
          ∧ r.2.mem ((c.tc : Thread Cert.OdMidRefIdeal.nD Cert.OdMidRefIdeal.τ).loc Cert.OdMidRefIdeal.main_arg2) = m' ((c.tc : Thread Cert.OdMidRefIdeal.nD Cert.OdMidRefIdeal.τ).loc Cert.OdMidRefIdeal.main_arg2))

def preserves_OdMidBwd_OdMidBwdIdeal : Prop :=
  True

def algebraic_OdMidBwdIdeal_OdMidBwdRefIdeal [hOdMidBwdIdeal : Cert.OdMidBwdIdeal.Facts] [hOdMidBwdRefIdeal : Cert.OdMidBwdRefIdeal.Facts] : Prop :=
  ∀ (m : (ℓ : Loc Cert.OdMidBwdIdeal.nD Cert.OdMidBwdIdeal.τ Cert.OdMidBwdIdeal.sig) → Buf (Elt Ideal) ℓ) (g : Dev Cert.OdMidBwdIdeal.nD → PrngReg)
    (m' : (ℓ : Loc Cert.OdMidBwdRefIdeal.nD Cert.OdMidBwdRefIdeal.τ Cert.OdMidBwdRefIdeal.sig) → Buf (Elt Ideal) ℓ) (g' : Dev Cert.OdMidBwdRefIdeal.nD → PrngReg), Pre_OdMidBwdIdeal m →
    (∀ c : Dev Cert.OdMidBwdIdeal.nD,
      m' ((c.tc : Thread Cert.OdMidBwdRefIdeal.nD Cert.OdMidBwdRefIdeal.τ).loc Cert.OdMidBwdRefIdeal.main_arg0) = m ((c.tc : Thread Cert.OdMidBwdIdeal.nD Cert.OdMidBwdIdeal.τ).loc Cert.OdMidBwdIdeal.main_arg0)
      ∧ m' ((c.tc : Thread Cert.OdMidBwdRefIdeal.nD Cert.OdMidBwdRefIdeal.τ).loc Cert.OdMidBwdRefIdeal.main_arg1) = m ((c.tc : Thread Cert.OdMidBwdIdeal.nD Cert.OdMidBwdIdeal.τ).loc Cert.OdMidBwdIdeal.main_arg1)
      ∧ m' ((c.tc : Thread Cert.OdMidBwdRefIdeal.nD Cert.OdMidBwdRefIdeal.τ).loc Cert.OdMidBwdRefIdeal.main_arg2) = m ((c.tc : Thread Cert.OdMidBwdIdeal.nD Cert.OdMidBwdIdeal.τ).loc Cert.OdMidBwdIdeal.main_arg2)
      ∧ m' ((c.tc : Thread Cert.OdMidBwdRefIdeal.nD Cert.OdMidBwdRefIdeal.τ).loc Cert.OdMidBwdRefIdeal.main_arg3) = m ((c.tc : Thread Cert.OdMidBwdIdeal.nD Cert.OdMidBwdIdeal.τ).loc Cert.OdMidBwdIdeal.main_arg3)) →
    ∃ (v0 : (c : Dev Cert.OdMidBwdIdeal.nD) → Buf (Elt Ideal) ((c.tc : Thread Cert.OdMidBwdIdeal.nD Cert.OdMidBwdIdeal.τ).loc Cert.OdMidBwdIdeal.main_v0_0)) (v1 : (c : Dev Cert.OdMidBwdIdeal.nD) → Buf (Elt Ideal) ((c.tc : Thread Cert.OdMidBwdIdeal.nD Cert.OdMidBwdIdeal.τ).loc Cert.OdMidBwdIdeal.main_v0_1)) (v2 : (c : Dev Cert.OdMidBwdIdeal.nD) → Buf (Elt Ideal) ((c.tc : Thread Cert.OdMidBwdIdeal.nD Cert.OdMidBwdIdeal.τ).loc Cert.OdMidBwdIdeal.main_v0_2)) (v3 : (c : Dev Cert.OdMidBwdIdeal.nD) → Buf (Elt Ideal) ((c.tc : Thread Cert.OdMidBwdIdeal.nD Cert.OdMidBwdIdeal.τ).loc Cert.OdMidBwdIdeal.main_v0_3)) (v4 : (c : Dev Cert.OdMidBwdIdeal.nD) → Buf (Elt Ideal) ((c.tc : Thread Cert.OdMidBwdIdeal.nD Cert.OdMidBwdIdeal.τ).loc Cert.OdMidBwdIdeal.main_v0_4)),
      θ_run (Cert.OdMidBwdIdeal.defs (F := Ideal)) (onTc (τ := Cert.OdMidBwdIdeal.τ) (Cert.OdMidBwdIdeal.main (F := Ideal))) ⟨m, fun _ => 0, g⟩ (fun r => ∀ c : Dev Cert.OdMidBwdIdeal.nD,
          r.2.mem ((c.tc : Thread Cert.OdMidBwdIdeal.nD Cert.OdMidBwdIdeal.τ).loc Cert.OdMidBwdIdeal.main_v0_0) = v0 c
          ∧ r.2.mem ((c.tc : Thread Cert.OdMidBwdIdeal.nD Cert.OdMidBwdIdeal.τ).loc Cert.OdMidBwdIdeal.main_v0_1) = v1 c
          ∧ r.2.mem ((c.tc : Thread Cert.OdMidBwdIdeal.nD Cert.OdMidBwdIdeal.τ).loc Cert.OdMidBwdIdeal.main_v0_2) = v2 c
          ∧ r.2.mem ((c.tc : Thread Cert.OdMidBwdIdeal.nD Cert.OdMidBwdIdeal.τ).loc Cert.OdMidBwdIdeal.main_v0_3) = v3 c
          ∧ r.2.mem ((c.tc : Thread Cert.OdMidBwdIdeal.nD Cert.OdMidBwdIdeal.τ).loc Cert.OdMidBwdIdeal.main_v0_4) = v4 c
          ∧ r.2.mem ((c.tc : Thread Cert.OdMidBwdIdeal.nD Cert.OdMidBwdIdeal.τ).loc Cert.OdMidBwdIdeal.main_arg0) = m ((c.tc : Thread Cert.OdMidBwdIdeal.nD Cert.OdMidBwdIdeal.τ).loc Cert.OdMidBwdIdeal.main_arg0)
          ∧ r.2.mem ((c.tc : Thread Cert.OdMidBwdIdeal.nD Cert.OdMidBwdIdeal.τ).loc Cert.OdMidBwdIdeal.main_arg1) = m ((c.tc : Thread Cert.OdMidBwdIdeal.nD Cert.OdMidBwdIdeal.τ).loc Cert.OdMidBwdIdeal.main_arg1)
          ∧ r.2.mem ((c.tc : Thread Cert.OdMidBwdIdeal.nD Cert.OdMidBwdIdeal.τ).loc Cert.OdMidBwdIdeal.main_arg2) = m ((c.tc : Thread Cert.OdMidBwdIdeal.nD Cert.OdMidBwdIdeal.τ).loc Cert.OdMidBwdIdeal.main_arg2)
          ∧ r.2.mem ((c.tc : Thread Cert.OdMidBwdIdeal.nD Cert.OdMidBwdIdeal.τ).loc Cert.OdMidBwdIdeal.main_arg3) = m ((c.tc : Thread Cert.OdMidBwdIdeal.nD Cert.OdMidBwdIdeal.τ).loc Cert.OdMidBwdIdeal.main_arg3))
      ∧ θ_run (Cert.OdMidBwdRefIdeal.defs (F := Ideal)) (onTc (τ := Cert.OdMidBwdRefIdeal.τ) (Cert.OdMidBwdRefIdeal.main (F := Ideal))) ⟨m', fun _ => 0, g'⟩ (fun r => ∀ c : Dev Cert.OdMidBwdRefIdeal.nD,
          r.2.mem ((c.tc : Thread Cert.OdMidBwdRefIdeal.nD Cert.OdMidBwdRefIdeal.τ).loc Cert.OdMidBwdRefIdeal.main_v64) = v0 c
          ∧ r.2.mem ((c.tc : Thread Cert.OdMidBwdRefIdeal.nD Cert.OdMidBwdRefIdeal.τ).loc Cert.OdMidBwdRefIdeal.main_v65) = v1 c
          ∧ r.2.mem ((c.tc : Thread Cert.OdMidBwdRefIdeal.nD Cert.OdMidBwdRefIdeal.τ).loc Cert.OdMidBwdRefIdeal.main_v66) = v2 c
          ∧ r.2.mem ((c.tc : Thread Cert.OdMidBwdRefIdeal.nD Cert.OdMidBwdRefIdeal.τ).loc Cert.OdMidBwdRefIdeal.main_v57) = v3 c
          ∧ r.2.mem ((c.tc : Thread Cert.OdMidBwdRefIdeal.nD Cert.OdMidBwdRefIdeal.τ).loc Cert.OdMidBwdRefIdeal.main_v29) = v4 c
          ∧ r.2.mem ((c.tc : Thread Cert.OdMidBwdRefIdeal.nD Cert.OdMidBwdRefIdeal.τ).loc Cert.OdMidBwdRefIdeal.main_arg0) = m' ((c.tc : Thread Cert.OdMidBwdRefIdeal.nD Cert.OdMidBwdRefIdeal.τ).loc Cert.OdMidBwdRefIdeal.main_arg0)
          ∧ r.2.mem ((c.tc : Thread Cert.OdMidBwdRefIdeal.nD Cert.OdMidBwdRefIdeal.τ).loc Cert.OdMidBwdRefIdeal.main_arg1) = m' ((c.tc : Thread Cert.OdMidBwdRefIdeal.nD Cert.OdMidBwdRefIdeal.τ).loc Cert.OdMidBwdRefIdeal.main_arg1)
          ∧ r.2.mem ((c.tc : Thread Cert.OdMidBwdRefIdeal.nD Cert.OdMidBwdRefIdeal.τ).loc Cert.OdMidBwdRefIdeal.main_arg2) = m' ((c.tc : Thread Cert.OdMidBwdRefIdeal.nD Cert.OdMidBwdRefIdeal.τ).loc Cert.OdMidBwdRefIdeal.main_arg2)
          ∧ r.2.mem ((c.tc : Thread Cert.OdMidBwdRefIdeal.nD Cert.OdMidBwdRefIdeal.τ).loc Cert.OdMidBwdRefIdeal.main_arg3) = m' ((c.tc : Thread Cert.OdMidBwdRefIdeal.nD Cert.OdMidBwdRefIdeal.τ).loc Cert.OdMidBwdRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v20) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_MixNorm_MixNormIdeal : Prop :=
  True

def algebraic_MixNormIdeal_MixNormRefIdeal [hMixNormIdeal : Cert.MixNormIdeal.Facts] [hMixNormRefIdeal : Cert.MixNormRefIdeal.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)
      ∧ m' ((c.tc : Thread Cert.MixNormRefIdeal.nD Cert.MixNormRefIdeal.τ).loc Cert.MixNormRefIdeal.main_arg2) = m ((c.tc : Thread Cert.MixNormIdeal.nD Cert.MixNormIdeal.τ).loc Cert.MixNormIdeal.main_arg2)
      ∧ m' ((c.tc : Thread Cert.MixNormRefIdeal.nD Cert.MixNormRefIdeal.τ).loc Cert.MixNormRefIdeal.main_arg3) = m ((c.tc : Thread Cert.MixNormIdeal.nD Cert.MixNormIdeal.τ).loc Cert.MixNormIdeal.main_arg3)) →
    ∃ (v0 : (c : Dev Cert.MixNormIdeal.nD) → Buf (Elt Ideal) ((c.tc : Thread Cert.MixNormIdeal.nD Cert.MixNormIdeal.τ).loc Cert.MixNormIdeal.main_v0)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v0) = v0 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
          ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
          ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v47) = v0 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1)
          ∧ r.2.mem ((c.tc : Thread Cert.MixNormRefIdeal.nD Cert.MixNormRefIdeal.τ).loc Cert.MixNormRefIdeal.main_arg2) = m' ((c.tc : Thread Cert.MixNormRefIdeal.nD Cert.MixNormRefIdeal.τ).loc Cert.MixNormRefIdeal.main_arg2)
          ∧ r.2.mem ((c.tc : Thread Cert.MixNormRefIdeal.nD Cert.MixNormRefIdeal.τ).loc Cert.MixNormRefIdeal.main_arg3) = m' ((c.tc : Thread Cert.MixNormRefIdeal.nD Cert.MixNormRefIdeal.τ).loc Cert.MixNormRefIdeal.main_arg3))

def preserves_OdInDx_OdInDxIdeal : Prop :=
  True

def algebraic_OdInDxIdeal_OdInDxRefIdeal [hOdInDxIdeal : Cert.OdInDxIdeal.Facts] [hOdInDxRefIdeal : Cert.OdInDxRefIdeal.Facts] : Prop :=
  ∀ (m : (ℓ : Loc Cert.OdInDxIdeal.nD Cert.OdInDxIdeal.τ Cert.OdInDxIdeal.sig) → Buf (Elt Ideal) ℓ) (g : Dev Cert.OdInDxIdeal.nD → PrngReg)
    (m' : (ℓ : Loc Cert.OdInDxRefIdeal.nD Cert.OdInDxRefIdeal.τ Cert.OdInDxRefIdeal.sig) → Buf (Elt Ideal) ℓ) (g' : Dev Cert.OdInDxRefIdeal.nD → PrngReg), Pre_OdInDxIdeal m →
    (∀ c : Dev Cert.OdInDxIdeal.nD,
      m' ((c.tc : Thread Cert.OdInDxRefIdeal.nD Cert.OdInDxRefIdeal.τ).loc Cert.OdInDxRefIdeal.main_arg0) = m ((c.tc : Thread Cert.OdInDxIdeal.nD Cert.OdInDxIdeal.τ).loc Cert.OdInDxIdeal.main_arg0)
      ∧ m' ((c.tc : Thread Cert.OdInDxRefIdeal.nD Cert.OdInDxRefIdeal.τ).loc Cert.OdInDxRefIdeal.main_arg1) = m ((c.tc : Thread Cert.OdInDxIdeal.nD Cert.OdInDxIdeal.τ).loc Cert.OdInDxIdeal.main_arg1)) →
    ∃ (v0 : (c : Dev Cert.OdInDxIdeal.nD) → Buf (Elt Ideal) ((c.tc : Thread Cert.OdInDxIdeal.nD Cert.OdInDxIdeal.τ).loc Cert.OdInDxIdeal.main_v0)),
      θ_run (Cert.OdInDxIdeal.defs (F := Ideal)) (onTc (τ := Cert.OdInDxIdeal.τ) (Cert.OdInDxIdeal.main (F := Ideal))) ⟨m, fun _ => 0, g⟩ (fun r => ∀ c : Dev Cert.OdInDxIdeal.nD,
          r.2.mem ((c.tc : Thread Cert.OdInDxIdeal.nD Cert.OdInDxIdeal.τ).loc Cert.OdInDxIdeal.main_v0) = v0 c
          ∧ r.2.mem ((c.tc : Thread Cert.OdInDxIdeal.nD Cert.OdInDxIdeal.τ).loc Cert.OdInDxIdeal.main_arg0) = m ((c.tc : Thread Cert.OdInDxIdeal.nD Cert.OdInDxIdeal.τ).loc Cert.OdInDxIdeal.main_arg0)
          ∧ r.2.mem ((c.tc : Thread Cert.OdInDxIdeal.nD Cert.OdInDxIdeal.τ).loc Cert.OdInDxIdeal.main_arg1) = m ((c.tc : Thread Cert.OdInDxIdeal.nD Cert.OdInDxIdeal.τ).loc Cert.OdInDxIdeal.main_arg1))
      ∧ θ_run (Cert.OdInDxRefIdeal.defs (F := Ideal)) (onTc (τ := Cert.OdInDxRefIdeal.τ) (Cert.OdInDxRefIdeal.main (F := Ideal))) ⟨m', fun _ => 0, g'⟩ (fun r => ∀ c : Dev Cert.OdInDxRefIdeal.nD,
          r.2.mem ((c.tc : Thread Cert.OdInDxRefIdeal.nD Cert.OdInDxRefIdeal.τ).loc Cert.OdInDxRefIdeal.main_v4) = v0 c
          ∧ r.2.mem ((c.tc : Thread Cert.OdInDxRefIdeal.nD Cert.OdInDxRefIdeal.τ).loc Cert.OdInDxRefIdeal.main_arg0) = m' ((c.tc : Thread Cert.OdInDxRefIdeal.nD Cert.OdInDxRefIdeal.τ).loc Cert.OdInDxRefIdeal.main_arg0)
          ∧ r.2.mem ((c.tc : Thread Cert.OdInDxRefIdeal.nD Cert.OdInDxRefIdeal.τ).loc Cert.OdInDxRefIdeal.main_arg1) = m' ((c.tc : Thread Cert.OdInDxRefIdeal.nD Cert.OdInDxRefIdeal.τ).loc Cert.OdInDxRefIdeal.main_arg1))

def preserves_OdInDw_OdInDwIdeal : Prop :=
  True

def algebraic_OdInDwIdeal_OdInDwRefIdeal [hOdInDwIdeal : Cert.OdInDwIdeal.Facts] [hOdInDwRefIdeal : Cert.OdInDwRefIdeal.Facts] : Prop :=
  ∀ (m : (ℓ : Loc Cert.OdInDwIdeal.nD Cert.OdInDwIdeal.τ Cert.OdInDwIdeal.sig) → Buf (Elt Ideal) ℓ) (g : Dev Cert.OdInDwIdeal.nD → PrngReg)
    (m' : (ℓ : Loc Cert.OdInDwRefIdeal.nD Cert.OdInDwRefIdeal.τ Cert.OdInDwRefIdeal.sig) → Buf (Elt Ideal) ℓ) (g' : Dev Cert.OdInDwRefIdeal.nD → PrngReg), Pre_OdInDwIdeal m →
    (∀ c : Dev Cert.OdInDwIdeal.nD,
      m' ((c.tc : Thread Cert.OdInDwRefIdeal.nD Cert.OdInDwRefIdeal.τ).loc Cert.OdInDwRefIdeal.main_arg0) = m ((c.tc : Thread Cert.OdInDwIdeal.nD Cert.OdInDwIdeal.τ).loc Cert.OdInDwIdeal.main_arg0)
      ∧ m' ((c.tc : Thread Cert.OdInDwRefIdeal.nD Cert.OdInDwRefIdeal.τ).loc Cert.OdInDwRefIdeal.main_arg1) = m ((c.tc : Thread Cert.OdInDwIdeal.nD Cert.OdInDwIdeal.τ).loc Cert.OdInDwIdeal.main_arg1)) →
    ∃ (v0 : (c : Dev Cert.OdInDwIdeal.nD) → Buf (Elt Ideal) ((c.tc : Thread Cert.OdInDwIdeal.nD Cert.OdInDwIdeal.τ).loc Cert.OdInDwIdeal.main_v0)),
      θ_run (Cert.OdInDwIdeal.defs (F := Ideal)) (onTc (τ := Cert.OdInDwIdeal.τ) (Cert.OdInDwIdeal.main (F := Ideal))) ⟨m, fun _ => 0, g⟩ (fun r => ∀ c : Dev Cert.OdInDwIdeal.nD,
          r.2.mem ((c.tc : Thread Cert.OdInDwIdeal.nD Cert.OdInDwIdeal.τ).loc Cert.OdInDwIdeal.main_v0) = v0 c
          ∧ r.2.mem ((c.tc : Thread Cert.OdInDwIdeal.nD Cert.OdInDwIdeal.τ).loc Cert.OdInDwIdeal.main_arg0) = m ((c.tc : Thread Cert.OdInDwIdeal.nD Cert.OdInDwIdeal.τ).loc Cert.OdInDwIdeal.main_arg0)
          ∧ r.2.mem ((c.tc : Thread Cert.OdInDwIdeal.nD Cert.OdInDwIdeal.τ).loc Cert.OdInDwIdeal.main_arg1) = m ((c.tc : Thread Cert.OdInDwIdeal.nD Cert.OdInDwIdeal.τ).loc Cert.OdInDwIdeal.main_arg1))
      ∧ θ_run (Cert.OdInDwRefIdeal.defs (F := Ideal)) (onTc (τ := Cert.OdInDwRefIdeal.τ) (Cert.OdInDwRefIdeal.main (F := Ideal))) ⟨m', fun _ => 0, g'⟩ (fun r => ∀ c : Dev Cert.OdInDwRefIdeal.nD,
          r.2.mem ((c.tc : Thread Cert.OdInDwRefIdeal.nD Cert.OdInDwRefIdeal.τ).loc Cert.OdInDwRefIdeal.main_v5) = v0 c
          ∧ r.2.mem ((c.tc : Thread Cert.OdInDwRefIdeal.nD Cert.OdInDwRefIdeal.τ).loc Cert.OdInDwRefIdeal.main_arg0) = m' ((c.tc : Thread Cert.OdInDwRefIdeal.nD Cert.OdInDwRefIdeal.τ).loc Cert.OdInDwRefIdeal.main_arg0)
          ∧ r.2.mem ((c.tc : Thread Cert.OdInDwRefIdeal.nD Cert.OdInDwRefIdeal.τ).loc Cert.OdInDwRefIdeal.main_arg1) = m' ((c.tc : Thread Cert.OdInDwRefIdeal.nD Cert.OdInDwRefIdeal.τ).loc Cert.OdInDwRefIdeal.main_arg1))

def preserves_EvInDx_EvInDxIdeal : Prop :=
  True

def algebraic_EvInDxIdeal_EvInDxRefIdeal [hEvInDxIdeal : Cert.EvInDxIdeal.Facts] [hEvInDxRefIdeal : Cert.EvInDxRefIdeal.Facts] : Prop :=
  ∀ (m : (ℓ : Loc Cert.EvInDxIdeal.nD Cert.EvInDxIdeal.τ Cert.EvInDxIdeal.sig) → Buf (Elt Ideal) ℓ) (g : Dev Cert.EvInDxIdeal.nD → PrngReg)
    (m' : (ℓ : Loc Cert.EvInDxRefIdeal.nD Cert.EvInDxRefIdeal.τ Cert.EvInDxRefIdeal.sig) → Buf (Elt Ideal) ℓ) (g' : Dev Cert.EvInDxRefIdeal.nD → PrngReg), Pre_EvInDxIdeal m →
    (∀ c : Dev Cert.EvInDxIdeal.nD,
      m' ((c.tc : Thread Cert.EvInDxRefIdeal.nD Cert.EvInDxRefIdeal.τ).loc Cert.EvInDxRefIdeal.main_arg0) = m ((c.tc : Thread Cert.EvInDxIdeal.nD Cert.EvInDxIdeal.τ).loc Cert.EvInDxIdeal.main_arg0)
      ∧ m' ((c.tc : Thread Cert.EvInDxRefIdeal.nD Cert.EvInDxRefIdeal.τ).loc Cert.EvInDxRefIdeal.main_arg1) = m ((c.tc : Thread Cert.EvInDxIdeal.nD Cert.EvInDxIdeal.τ).loc Cert.EvInDxIdeal.main_arg1)) →
    ∃ (v0 : (c : Dev Cert.EvInDxIdeal.nD) → Buf (Elt Ideal) ((c.tc : Thread Cert.EvInDxIdeal.nD Cert.EvInDxIdeal.τ).loc Cert.EvInDxIdeal.main_v0)),
      θ_run (Cert.EvInDxIdeal.defs (F := Ideal)) (onTc (τ := Cert.EvInDxIdeal.τ) (Cert.EvInDxIdeal.main (F := Ideal))) ⟨m, fun _ => 0, g⟩ (fun r => ∀ c : Dev Cert.EvInDxIdeal.nD,
          r.2.mem ((c.tc : Thread Cert.EvInDxIdeal.nD Cert.EvInDxIdeal.τ).loc Cert.EvInDxIdeal.main_v0) = v0 c
          ∧ r.2.mem ((c.tc : Thread Cert.EvInDxIdeal.nD Cert.EvInDxIdeal.τ).loc Cert.EvInDxIdeal.main_arg0) = m ((c.tc : Thread Cert.EvInDxIdeal.nD Cert.EvInDxIdeal.τ).loc Cert.EvInDxIdeal.main_arg0)
          ∧ r.2.mem ((c.tc : Thread Cert.EvInDxIdeal.nD Cert.EvInDxIdeal.τ).loc Cert.EvInDxIdeal.main_arg1) = m ((c.tc : Thread Cert.EvInDxIdeal.nD Cert.EvInDxIdeal.τ).loc Cert.EvInDxIdeal.main_arg1))
      ∧ θ_run (Cert.EvInDxRefIdeal.defs (F := Ideal)) (onTc (τ := Cert.EvInDxRefIdeal.τ) (Cert.EvInDxRefIdeal.main (F := Ideal))) ⟨m', fun _ => 0, g'⟩ (fun r => ∀ c : Dev Cert.EvInDxRefIdeal.nD,
          r.2.mem ((c.tc : Thread Cert.EvInDxRefIdeal.nD Cert.EvInDxRefIdeal.τ).loc Cert.EvInDxRefIdeal.main_v4) = v0 c
          ∧ r.2.mem ((c.tc : Thread Cert.EvInDxRefIdeal.nD Cert.EvInDxRefIdeal.τ).loc Cert.EvInDxRefIdeal.main_arg0) = m' ((c.tc : Thread Cert.EvInDxRefIdeal.nD Cert.EvInDxRefIdeal.τ).loc Cert.EvInDxRefIdeal.main_arg0)
          ∧ r.2.mem ((c.tc : Thread Cert.EvInDxRefIdeal.nD Cert.EvInDxRefIdeal.τ).loc Cert.EvInDxRefIdeal.main_arg1) = m' ((c.tc : Thread Cert.EvInDxRefIdeal.nD Cert.EvInDxRefIdeal.τ).loc Cert.EvInDxRefIdeal.main_arg1))

def preserves_EvInDw_EvInDwIdeal : Prop :=
  True

def algebraic_EvInDwIdeal_EvInDwRefIdeal [hEvInDwIdeal : Cert.EvInDwIdeal.Facts] [hEvInDwRefIdeal : Cert.EvInDwRefIdeal.Facts] : Prop :=
  ∀ (m : (ℓ : Loc Cert.EvInDwIdeal.nD Cert.EvInDwIdeal.τ Cert.EvInDwIdeal.sig) → Buf (Elt Ideal) ℓ) (g : Dev Cert.EvInDwIdeal.nD → PrngReg)
    (m' : (ℓ : Loc Cert.EvInDwRefIdeal.nD Cert.EvInDwRefIdeal.τ Cert.EvInDwRefIdeal.sig) → Buf (Elt Ideal) ℓ) (g' : Dev Cert.EvInDwRefIdeal.nD → PrngReg), Pre_EvInDwIdeal m →
    (∀ c : Dev Cert.EvInDwIdeal.nD,
      m' ((c.tc : Thread Cert.EvInDwRefIdeal.nD Cert.EvInDwRefIdeal.τ).loc Cert.EvInDwRefIdeal.main_arg0) = m ((c.tc : Thread Cert.EvInDwIdeal.nD Cert.EvInDwIdeal.τ).loc Cert.EvInDwIdeal.main_arg0)
      ∧ m' ((c.tc : Thread Cert.EvInDwRefIdeal.nD Cert.EvInDwRefIdeal.τ).loc Cert.EvInDwRefIdeal.main_arg1) = m ((c.tc : Thread Cert.EvInDwIdeal.nD Cert.EvInDwIdeal.τ).loc Cert.EvInDwIdeal.main_arg1)) →
    ∃ (v0 : (c : Dev Cert.EvInDwIdeal.nD) → Buf (Elt Ideal) ((c.tc : Thread Cert.EvInDwIdeal.nD Cert.EvInDwIdeal.τ).loc Cert.EvInDwIdeal.main_v0)),
      θ_run (Cert.EvInDwIdeal.defs (F := Ideal)) (onTc (τ := Cert.EvInDwIdeal.τ) (Cert.EvInDwIdeal.main (F := Ideal))) ⟨m, fun _ => 0, g⟩ (fun r => ∀ c : Dev Cert.EvInDwIdeal.nD,
          r.2.mem ((c.tc : Thread Cert.EvInDwIdeal.nD Cert.EvInDwIdeal.τ).loc Cert.EvInDwIdeal.main_v0) = v0 c
          ∧ r.2.mem ((c.tc : Thread Cert.EvInDwIdeal.nD Cert.EvInDwIdeal.τ).loc Cert.EvInDwIdeal.main_arg0) = m ((c.tc : Thread Cert.EvInDwIdeal.nD Cert.EvInDwIdeal.τ).loc Cert.EvInDwIdeal.main_arg0)
          ∧ r.2.mem ((c.tc : Thread Cert.EvInDwIdeal.nD Cert.EvInDwIdeal.τ).loc Cert.EvInDwIdeal.main_arg1) = m ((c.tc : Thread Cert.EvInDwIdeal.nD Cert.EvInDwIdeal.τ).loc Cert.EvInDwIdeal.main_arg1))
      ∧ θ_run (Cert.EvInDwRefIdeal.defs (F := Ideal)) (onTc (τ := Cert.EvInDwRefIdeal.τ) (Cert.EvInDwRefIdeal.main (F := Ideal))) ⟨m', fun _ => 0, g'⟩ (fun r => ∀ c : Dev Cert.EvInDwRefIdeal.nD,
          r.2.mem ((c.tc : Thread Cert.EvInDwRefIdeal.nD Cert.EvInDwRefIdeal.τ).loc Cert.EvInDwRefIdeal.main_v5) = v0 c
          ∧ r.2.mem ((c.tc : Thread Cert.EvInDwRefIdeal.nD Cert.EvInDwRefIdeal.τ).loc Cert.EvInDwRefIdeal.main_arg0) = m' ((c.tc : Thread Cert.EvInDwRefIdeal.nD Cert.EvInDwRefIdeal.τ).loc Cert.EvInDwRefIdeal.main_arg0)
          ∧ r.2.mem ((c.tc : Thread Cert.EvInDwRefIdeal.nD Cert.EvInDwRefIdeal.τ).loc Cert.EvInDwRefIdeal.main_arg1) = m' ((c.tc : Thread Cert.EvInDwRefIdeal.nD Cert.EvInDwRefIdeal.τ).loc Cert.EvInDwRefIdeal.main_arg1))

def preserves_EvUqDx_EvUqDxIdeal : Prop :=
  True

def algebraic_EvUqDxIdeal_EvUqDxRefIdeal [hEvUqDxIdeal : Cert.EvUqDxIdeal.Facts] [hEvUqDxRefIdeal : Cert.EvUqDxRefIdeal.Facts] : Prop :=
  ∀ (m : (ℓ : Loc Cert.EvUqDxIdeal.nD Cert.EvUqDxIdeal.τ Cert.EvUqDxIdeal.sig) → Buf (Elt Ideal) ℓ) (g : Dev Cert.EvUqDxIdeal.nD → PrngReg)
    (m' : (ℓ : Loc Cert.EvUqDxRefIdeal.nD Cert.EvUqDxRefIdeal.τ Cert.EvUqDxRefIdeal.sig) → Buf (Elt Ideal) ℓ) (g' : Dev Cert.EvUqDxRefIdeal.nD → PrngReg), Pre_EvUqDxIdeal m →
    (∀ c : Dev Cert.EvUqDxIdeal.nD,
      m' ((c.tc : Thread Cert.EvUqDxRefIdeal.nD Cert.EvUqDxRefIdeal.τ).loc Cert.EvUqDxRefIdeal.main_arg0) = m ((c.tc : Thread Cert.EvUqDxIdeal.nD Cert.EvUqDxIdeal.τ).loc Cert.EvUqDxIdeal.main_arg0)
      ∧ m' ((c.tc : Thread Cert.EvUqDxRefIdeal.nD Cert.EvUqDxRefIdeal.τ).loc Cert.EvUqDxRefIdeal.main_arg1) = m ((c.tc : Thread Cert.EvUqDxIdeal.nD Cert.EvUqDxIdeal.τ).loc Cert.EvUqDxIdeal.main_arg1)) →
    ∃ (v0 : (c : Dev Cert.EvUqDxIdeal.nD) → Buf (Elt Ideal) ((c.tc : Thread Cert.EvUqDxIdeal.nD Cert.EvUqDxIdeal.τ).loc Cert.EvUqDxIdeal.main_v0)),
      θ_run (Cert.EvUqDxIdeal.defs (F := Ideal)) (onTc (τ := Cert.EvUqDxIdeal.τ) (Cert.EvUqDxIdeal.main (F := Ideal))) ⟨m, fun _ => 0, g⟩ (fun r => ∀ c : Dev Cert.EvUqDxIdeal.nD,
          r.2.mem ((c.tc : Thread Cert.EvUqDxIdeal.nD Cert.EvUqDxIdeal.τ).loc Cert.EvUqDxIdeal.main_v0) = v0 c
          ∧ r.2.mem ((c.tc : Thread Cert.EvUqDxIdeal.nD Cert.EvUqDxIdeal.τ).loc Cert.EvUqDxIdeal.main_arg0) = m ((c.tc : Thread Cert.EvUqDxIdeal.nD Cert.EvUqDxIdeal.τ).loc Cert.EvUqDxIdeal.main_arg0)
          ∧ r.2.mem ((c.tc : Thread Cert.EvUqDxIdeal.nD Cert.EvUqDxIdeal.τ).loc Cert.EvUqDxIdeal.main_arg1) = m ((c.tc : Thread Cert.EvUqDxIdeal.nD Cert.EvUqDxIdeal.τ).loc Cert.EvUqDxIdeal.main_arg1))
      ∧ θ_run (Cert.EvUqDxRefIdeal.defs (F := Ideal)) (onTc (τ := Cert.EvUqDxRefIdeal.τ) (Cert.EvUqDxRefIdeal.main (F := Ideal))) ⟨m', fun _ => 0, g'⟩ (fun r => ∀ c : Dev Cert.EvUqDxRefIdeal.nD,
          r.2.mem ((c.tc : Thread Cert.EvUqDxRefIdeal.nD Cert.EvUqDxRefIdeal.τ).loc Cert.EvUqDxRefIdeal.main_v4) = v0 c
          ∧ r.2.mem ((c.tc : Thread Cert.EvUqDxRefIdeal.nD Cert.EvUqDxRefIdeal.τ).loc Cert.EvUqDxRefIdeal.main_arg0) = m' ((c.tc : Thread Cert.EvUqDxRefIdeal.nD Cert.EvUqDxRefIdeal.τ).loc Cert.EvUqDxRefIdeal.main_arg0)
          ∧ r.2.mem ((c.tc : Thread Cert.EvUqDxRefIdeal.nD Cert.EvUqDxRefIdeal.τ).loc Cert.EvUqDxRefIdeal.main_arg1) = m' ((c.tc : Thread Cert.EvUqDxRefIdeal.nD Cert.EvUqDxRefIdeal.τ).loc Cert.EvUqDxRefIdeal.main_arg1))

def preserves_EvUqDw_EvUqDwIdeal : Prop :=
  True

def algebraic_EvUqDwIdeal_EvUqDwRefIdeal [hEvUqDwIdeal : Cert.EvUqDwIdeal.Facts] [hEvUqDwRefIdeal : Cert.EvUqDwRefIdeal.Facts] : Prop :=
  ∀ (m : (ℓ : Loc Cert.EvUqDwIdeal.nD Cert.EvUqDwIdeal.τ Cert.EvUqDwIdeal.sig) → Buf (Elt Ideal) ℓ) (g : Dev Cert.EvUqDwIdeal.nD → PrngReg)
    (m' : (ℓ : Loc Cert.EvUqDwRefIdeal.nD Cert.EvUqDwRefIdeal.τ Cert.EvUqDwRefIdeal.sig) → Buf (Elt Ideal) ℓ) (g' : Dev Cert.EvUqDwRefIdeal.nD → PrngReg), Pre_EvUqDwIdeal m →
    (∀ c : Dev Cert.EvUqDwIdeal.nD,
      m' ((c.tc : Thread Cert.EvUqDwRefIdeal.nD Cert.EvUqDwRefIdeal.τ).loc Cert.EvUqDwRefIdeal.main_arg0) = m ((c.tc : Thread Cert.EvUqDwIdeal.nD Cert.EvUqDwIdeal.τ).loc Cert.EvUqDwIdeal.main_arg0)
      ∧ m' ((c.tc : Thread Cert.EvUqDwRefIdeal.nD Cert.EvUqDwRefIdeal.τ).loc Cert.EvUqDwRefIdeal.main_arg1) = m ((c.tc : Thread Cert.EvUqDwIdeal.nD Cert.EvUqDwIdeal.τ).loc Cert.EvUqDwIdeal.main_arg1)) →
    ∃ (v0 : (c : Dev Cert.EvUqDwIdeal.nD) → Buf (Elt Ideal) ((c.tc : Thread Cert.EvUqDwIdeal.nD Cert.EvUqDwIdeal.τ).loc Cert.EvUqDwIdeal.main_v0)),
      θ_run (Cert.EvUqDwIdeal.defs (F := Ideal)) (onTc (τ := Cert.EvUqDwIdeal.τ) (Cert.EvUqDwIdeal.main (F := Ideal))) ⟨m, fun _ => 0, g⟩ (fun r => ∀ c : Dev Cert.EvUqDwIdeal.nD,
          r.2.mem ((c.tc : Thread Cert.EvUqDwIdeal.nD Cert.EvUqDwIdeal.τ).loc Cert.EvUqDwIdeal.main_v0) = v0 c
          ∧ r.2.mem ((c.tc : Thread Cert.EvUqDwIdeal.nD Cert.EvUqDwIdeal.τ).loc Cert.EvUqDwIdeal.main_arg0) = m ((c.tc : Thread Cert.EvUqDwIdeal.nD Cert.EvUqDwIdeal.τ).loc Cert.EvUqDwIdeal.main_arg0)
          ∧ r.2.mem ((c.tc : Thread Cert.EvUqDwIdeal.nD Cert.EvUqDwIdeal.τ).loc Cert.EvUqDwIdeal.main_arg1) = m ((c.tc : Thread Cert.EvUqDwIdeal.nD Cert.EvUqDwIdeal.τ).loc Cert.EvUqDwIdeal.main_arg1))
      ∧ θ_run (Cert.EvUqDwRefIdeal.defs (F := Ideal)) (onTc (τ := Cert.EvUqDwRefIdeal.τ) (Cert.EvUqDwRefIdeal.main (F := Ideal))) ⟨m', fun _ => 0, g'⟩ (fun r => ∀ c : Dev Cert.EvUqDwRefIdeal.nD,
          r.2.mem ((c.tc : Thread Cert.EvUqDwRefIdeal.nD Cert.EvUqDwRefIdeal.τ).loc Cert.EvUqDwRefIdeal.main_v5) = v0 c
          ∧ r.2.mem ((c.tc : Thread Cert.EvUqDwRefIdeal.nD Cert.EvUqDwRefIdeal.τ).loc Cert.EvUqDwRefIdeal.main_arg0) = m' ((c.tc : Thread Cert.EvUqDwRefIdeal.nD Cert.EvUqDwRefIdeal.τ).loc Cert.EvUqDwRefIdeal.main_arg0)
          ∧ r.2.mem ((c.tc : Thread Cert.EvUqDwRefIdeal.nD Cert.EvUqDwRefIdeal.τ).loc Cert.EvUqDwRefIdeal.main_arg1) = m' ((c.tc : Thread Cert.EvUqDwRefIdeal.nD Cert.EvUqDwRefIdeal.τ).loc Cert.EvUqDwRefIdeal.main_arg1))

def preserves_EvUkvDx_EvUkvDxIdeal : Prop :=
  True

def algebraic_EvUkvDxIdeal_EvUkvDxRefIdeal [hEvUkvDxIdeal : Cert.EvUkvDxIdeal.Facts] [hEvUkvDxRefIdeal : Cert.EvUkvDxRefIdeal.Facts] : Prop :=
  ∀ (m : (ℓ : Loc Cert.EvUkvDxIdeal.nD Cert.EvUkvDxIdeal.τ Cert.EvUkvDxIdeal.sig) → Buf (Elt Ideal) ℓ) (g : Dev Cert.EvUkvDxIdeal.nD → PrngReg)
    (m' : (ℓ : Loc Cert.EvUkvDxRefIdeal.nD Cert.EvUkvDxRefIdeal.τ Cert.EvUkvDxRefIdeal.sig) → Buf (Elt Ideal) ℓ) (g' : Dev Cert.EvUkvDxRefIdeal.nD → PrngReg), Pre_EvUkvDxIdeal m →
    (∀ c : Dev Cert.EvUkvDxIdeal.nD,
      m' ((c.tc : Thread Cert.EvUkvDxRefIdeal.nD Cert.EvUkvDxRefIdeal.τ).loc Cert.EvUkvDxRefIdeal.main_arg0) = m ((c.tc : Thread Cert.EvUkvDxIdeal.nD Cert.EvUkvDxIdeal.τ).loc Cert.EvUkvDxIdeal.main_arg0)
      ∧ m' ((c.tc : Thread Cert.EvUkvDxRefIdeal.nD Cert.EvUkvDxRefIdeal.τ).loc Cert.EvUkvDxRefIdeal.main_arg1) = m ((c.tc : Thread Cert.EvUkvDxIdeal.nD Cert.EvUkvDxIdeal.τ).loc Cert.EvUkvDxIdeal.main_arg1)) →
    ∃ (v0 : (c : Dev Cert.EvUkvDxIdeal.nD) → Buf (Elt Ideal) ((c.tc : Thread Cert.EvUkvDxIdeal.nD Cert.EvUkvDxIdeal.τ).loc Cert.EvUkvDxIdeal.main_v0)),
      θ_run (Cert.EvUkvDxIdeal.defs (F := Ideal)) (onTc (τ := Cert.EvUkvDxIdeal.τ) (Cert.EvUkvDxIdeal.main (F := Ideal))) ⟨m, fun _ => 0, g⟩ (fun r => ∀ c : Dev Cert.EvUkvDxIdeal.nD,
          r.2.mem ((c.tc : Thread Cert.EvUkvDxIdeal.nD Cert.EvUkvDxIdeal.τ).loc Cert.EvUkvDxIdeal.main_v0) = v0 c
          ∧ r.2.mem ((c.tc : Thread Cert.EvUkvDxIdeal.nD Cert.EvUkvDxIdeal.τ).loc Cert.EvUkvDxIdeal.main_arg0) = m ((c.tc : Thread Cert.EvUkvDxIdeal.nD Cert.EvUkvDxIdeal.τ).loc Cert.EvUkvDxIdeal.main_arg0)
          ∧ r.2.mem ((c.tc : Thread Cert.EvUkvDxIdeal.nD Cert.EvUkvDxIdeal.τ).loc Cert.EvUkvDxIdeal.main_arg1) = m ((c.tc : Thread Cert.EvUkvDxIdeal.nD Cert.EvUkvDxIdeal.τ).loc Cert.EvUkvDxIdeal.main_arg1))
      ∧ θ_run (Cert.EvUkvDxRefIdeal.defs (F := Ideal)) (onTc (τ := Cert.EvUkvDxRefIdeal.τ) (Cert.EvUkvDxRefIdeal.main (F := Ideal))) ⟨m', fun _ => 0, g'⟩ (fun r => ∀ c : Dev Cert.EvUkvDxRefIdeal.nD,
          r.2.mem ((c.tc : Thread Cert.EvUkvDxRefIdeal.nD Cert.EvUkvDxRefIdeal.τ).loc Cert.EvUkvDxRefIdeal.main_v4) = v0 c
          ∧ r.2.mem ((c.tc : Thread Cert.EvUkvDxRefIdeal.nD Cert.EvUkvDxRefIdeal.τ).loc Cert.EvUkvDxRefIdeal.main_arg0) = m' ((c.tc : Thread Cert.EvUkvDxRefIdeal.nD Cert.EvUkvDxRefIdeal.τ).loc Cert.EvUkvDxRefIdeal.main_arg0)
          ∧ r.2.mem ((c.tc : Thread Cert.EvUkvDxRefIdeal.nD Cert.EvUkvDxRefIdeal.τ).loc Cert.EvUkvDxRefIdeal.main_arg1) = m' ((c.tc : Thread Cert.EvUkvDxRefIdeal.nD Cert.EvUkvDxRefIdeal.τ).loc Cert.EvUkvDxRefIdeal.main_arg1))

def preserves_EvUkvDw_EvUkvDwIdeal : Prop :=
  True

def algebraic_EvUkvDwIdeal_EvUkvDwRefIdeal [hEvUkvDwIdeal : Cert.EvUkvDwIdeal.Facts] [hEvUkvDwRefIdeal : Cert.EvUkvDwRefIdeal.Facts] : Prop :=
  ∀ (m : (ℓ : Loc Cert.EvUkvDwIdeal.nD Cert.EvUkvDwIdeal.τ Cert.EvUkvDwIdeal.sig) → Buf (Elt Ideal) ℓ) (g : Dev Cert.EvUkvDwIdeal.nD → PrngReg)
    (m' : (ℓ : Loc Cert.EvUkvDwRefIdeal.nD Cert.EvUkvDwRefIdeal.τ Cert.EvUkvDwRefIdeal.sig) → Buf (Elt Ideal) ℓ) (g' : Dev Cert.EvUkvDwRefIdeal.nD → PrngReg), Pre_EvUkvDwIdeal m →
    (∀ c : Dev Cert.EvUkvDwIdeal.nD,
      m' ((c.tc : Thread Cert.EvUkvDwRefIdeal.nD Cert.EvUkvDwRefIdeal.τ).loc Cert.EvUkvDwRefIdeal.main_arg0) = m ((c.tc : Thread Cert.EvUkvDwIdeal.nD Cert.EvUkvDwIdeal.τ).loc Cert.EvUkvDwIdeal.main_arg0)
      ∧ m' ((c.tc : Thread Cert.EvUkvDwRefIdeal.nD Cert.EvUkvDwRefIdeal.τ).loc Cert.EvUkvDwRefIdeal.main_arg1) = m ((c.tc : Thread Cert.EvUkvDwIdeal.nD Cert.EvUkvDwIdeal.τ).loc Cert.EvUkvDwIdeal.main_arg1)) →
    ∃ (v0 : (c : Dev Cert.EvUkvDwIdeal.nD) → Buf (Elt Ideal) ((c.tc : Thread Cert.EvUkvDwIdeal.nD Cert.EvUkvDwIdeal.τ).loc Cert.EvUkvDwIdeal.main_v0)),
      θ_run (Cert.EvUkvDwIdeal.defs (F := Ideal)) (onTc (τ := Cert.EvUkvDwIdeal.τ) (Cert.EvUkvDwIdeal.main (F := Ideal))) ⟨m, fun _ => 0, g⟩ (fun r => ∀ c : Dev Cert.EvUkvDwIdeal.nD,
          r.2.mem ((c.tc : Thread Cert.EvUkvDwIdeal.nD Cert.EvUkvDwIdeal.τ).loc Cert.EvUkvDwIdeal.main_v0) = v0 c
          ∧ r.2.mem ((c.tc : Thread Cert.EvUkvDwIdeal.nD Cert.EvUkvDwIdeal.τ).loc Cert.EvUkvDwIdeal.main_arg0) = m ((c.tc : Thread Cert.EvUkvDwIdeal.nD Cert.EvUkvDwIdeal.τ).loc Cert.EvUkvDwIdeal.main_arg0)
          ∧ r.2.mem ((c.tc : Thread Cert.EvUkvDwIdeal.nD Cert.EvUkvDwIdeal.τ).loc Cert.EvUkvDwIdeal.main_arg1) = m ((c.tc : Thread Cert.EvUkvDwIdeal.nD Cert.EvUkvDwIdeal.τ).loc Cert.EvUkvDwIdeal.main_arg1))
      ∧ θ_run (Cert.EvUkvDwRefIdeal.defs (F := Ideal)) (onTc (τ := Cert.EvUkvDwRefIdeal.τ) (Cert.EvUkvDwRefIdeal.main (F := Ideal))) ⟨m', fun _ => 0, g'⟩ (fun r => ∀ c : Dev Cert.EvUkvDwRefIdeal.nD,
          r.2.mem ((c.tc : Thread Cert.EvUkvDwRefIdeal.nD Cert.EvUkvDwRefIdeal.τ).loc Cert.EvUkvDwRefIdeal.main_v5) = v0 c
          ∧ r.2.mem ((c.tc : Thread Cert.EvUkvDwRefIdeal.nD Cert.EvUkvDwRefIdeal.τ).loc Cert.EvUkvDwRefIdeal.main_arg0) = m' ((c.tc : Thread Cert.EvUkvDwRefIdeal.nD Cert.EvUkvDwRefIdeal.τ).loc Cert.EvUkvDwRefIdeal.main_arg0)
          ∧ r.2.mem ((c.tc : Thread Cert.EvUkvDwRefIdeal.nD Cert.EvUkvDwRefIdeal.τ).loc Cert.EvUkvDwRefIdeal.main_arg1) = m' ((c.tc : Thread Cert.EvUkvDwRefIdeal.nD Cert.EvUkvDwRefIdeal.τ).loc Cert.EvUkvDwRefIdeal.main_arg1))

def preserves_OdOutDx_OdOutDxIdeal : Prop :=
  True

def algebraic_OdOutDxIdeal_OdOutDxRefIdeal [hOdOutDxIdeal : Cert.OdOutDxIdeal.Facts] [hOdOutDxRefIdeal : Cert.OdOutDxRefIdeal.Facts] : Prop :=
  ∀ (m : (ℓ : Loc Cert.OdOutDxIdeal.nD Cert.OdOutDxIdeal.τ Cert.OdOutDxIdeal.sig) → Buf (Elt Ideal) ℓ) (g : Dev Cert.OdOutDxIdeal.nD → PrngReg)
    (m' : (ℓ : Loc Cert.OdOutDxRefIdeal.nD Cert.OdOutDxRefIdeal.τ Cert.OdOutDxRefIdeal.sig) → Buf (Elt Ideal) ℓ) (g' : Dev Cert.OdOutDxRefIdeal.nD → PrngReg), Pre_OdOutDxIdeal m →
    (∀ c : Dev Cert.OdOutDxIdeal.nD,
      m' ((c.tc : Thread Cert.OdOutDxRefIdeal.nD Cert.OdOutDxRefIdeal.τ).loc Cert.OdOutDxRefIdeal.main_arg0) = m ((c.tc : Thread Cert.OdOutDxIdeal.nD Cert.OdOutDxIdeal.τ).loc Cert.OdOutDxIdeal.main_arg0)
      ∧ m' ((c.tc : Thread Cert.OdOutDxRefIdeal.nD Cert.OdOutDxRefIdeal.τ).loc Cert.OdOutDxRefIdeal.main_arg1) = m ((c.tc : Thread Cert.OdOutDxIdeal.nD Cert.OdOutDxIdeal.τ).loc Cert.OdOutDxIdeal.main_arg1)) →
    ∃ (v0 : (c : Dev Cert.OdOutDxIdeal.nD) → Buf (Elt Ideal) ((c.tc : Thread Cert.OdOutDxIdeal.nD Cert.OdOutDxIdeal.τ).loc Cert.OdOutDxIdeal.main_v0)),
      θ_run (Cert.OdOutDxIdeal.defs (F := Ideal)) (onTc (τ := Cert.OdOutDxIdeal.τ) (Cert.OdOutDxIdeal.main (F := Ideal))) ⟨m, fun _ => 0, g⟩ (fun r => ∀ c : Dev Cert.OdOutDxIdeal.nD,
          r.2.mem ((c.tc : Thread Cert.OdOutDxIdeal.nD Cert.OdOutDxIdeal.τ).loc Cert.OdOutDxIdeal.main_v0) = v0 c
          ∧ r.2.mem ((c.tc : Thread Cert.OdOutDxIdeal.nD Cert.OdOutDxIdeal.τ).loc Cert.OdOutDxIdeal.main_arg0) = m ((c.tc : Thread Cert.OdOutDxIdeal.nD Cert.OdOutDxIdeal.τ).loc Cert.OdOutDxIdeal.main_arg0)
          ∧ r.2.mem ((c.tc : Thread Cert.OdOutDxIdeal.nD Cert.OdOutDxIdeal.τ).loc Cert.OdOutDxIdeal.main_arg1) = m ((c.tc : Thread Cert.OdOutDxIdeal.nD Cert.OdOutDxIdeal.τ).loc Cert.OdOutDxIdeal.main_arg1))
      ∧ θ_run (Cert.OdOutDxRefIdeal.defs (F := Ideal)) (onTc (τ := Cert.OdOutDxRefIdeal.τ) (Cert.OdOutDxRefIdeal.main (F := Ideal))) ⟨m', fun _ => 0, g'⟩ (fun r => ∀ c : Dev Cert.OdOutDxRefIdeal.nD,
          r.2.mem ((c.tc : Thread Cert.OdOutDxRefIdeal.nD Cert.OdOutDxRefIdeal.τ).loc Cert.OdOutDxRefIdeal.main_v4) = v0 c
          ∧ r.2.mem ((c.tc : Thread Cert.OdOutDxRefIdeal.nD Cert.OdOutDxRefIdeal.τ).loc Cert.OdOutDxRefIdeal.main_arg0) = m' ((c.tc : Thread Cert.OdOutDxRefIdeal.nD Cert.OdOutDxRefIdeal.τ).loc Cert.OdOutDxRefIdeal.main_arg0)
          ∧ r.2.mem ((c.tc : Thread Cert.OdOutDxRefIdeal.nD Cert.OdOutDxRefIdeal.τ).loc Cert.OdOutDxRefIdeal.main_arg1) = m' ((c.tc : Thread Cert.OdOutDxRefIdeal.nD Cert.OdOutDxRefIdeal.τ).loc Cert.OdOutDxRefIdeal.main_arg1))

def preserves_OdOutDw_OdOutDwIdeal : Prop :=
  True

def algebraic_OdOutDwIdeal_OdOutDwRefIdeal [hOdOutDwIdeal : Cert.OdOutDwIdeal.Facts] [hOdOutDwRefIdeal : Cert.OdOutDwRefIdeal.Facts] : Prop :=
  ∀ (m : (ℓ : Loc Cert.OdOutDwIdeal.nD Cert.OdOutDwIdeal.τ Cert.OdOutDwIdeal.sig) → Buf (Elt Ideal) ℓ) (g : Dev Cert.OdOutDwIdeal.nD → PrngReg)
    (m' : (ℓ : Loc Cert.OdOutDwRefIdeal.nD Cert.OdOutDwRefIdeal.τ Cert.OdOutDwRefIdeal.sig) → Buf (Elt Ideal) ℓ) (g' : Dev Cert.OdOutDwRefIdeal.nD → PrngReg), Pre_OdOutDwIdeal m →
    (∀ c : Dev Cert.OdOutDwIdeal.nD,
      m' ((c.tc : Thread Cert.OdOutDwRefIdeal.nD Cert.OdOutDwRefIdeal.τ).loc Cert.OdOutDwRefIdeal.main_arg0) = m ((c.tc : Thread Cert.OdOutDwIdeal.nD Cert.OdOutDwIdeal.τ).loc Cert.OdOutDwIdeal.main_arg0)
      ∧ m' ((c.tc : Thread Cert.OdOutDwRefIdeal.nD Cert.OdOutDwRefIdeal.τ).loc Cert.OdOutDwRefIdeal.main_arg1) = m ((c.tc : Thread Cert.OdOutDwIdeal.nD Cert.OdOutDwIdeal.τ).loc Cert.OdOutDwIdeal.main_arg1)) →
    ∃ (v0 : (c : Dev Cert.OdOutDwIdeal.nD) → Buf (Elt Ideal) ((c.tc : Thread Cert.OdOutDwIdeal.nD Cert.OdOutDwIdeal.τ).loc Cert.OdOutDwIdeal.main_v0)),
      θ_run (Cert.OdOutDwIdeal.defs (F := Ideal)) (onTc (τ := Cert.OdOutDwIdeal.τ) (Cert.OdOutDwIdeal.main (F := Ideal))) ⟨m, fun _ => 0, g⟩ (fun r => ∀ c : Dev Cert.OdOutDwIdeal.nD,
          r.2.mem ((c.tc : Thread Cert.OdOutDwIdeal.nD Cert.OdOutDwIdeal.τ).loc Cert.OdOutDwIdeal.main_v0) = v0 c
          ∧ r.2.mem ((c.tc : Thread Cert.OdOutDwIdeal.nD Cert.OdOutDwIdeal.τ).loc Cert.OdOutDwIdeal.main_arg0) = m ((c.tc : Thread Cert.OdOutDwIdeal.nD Cert.OdOutDwIdeal.τ).loc Cert.OdOutDwIdeal.main_arg0)
          ∧ r.2.mem ((c.tc : Thread Cert.OdOutDwIdeal.nD Cert.OdOutDwIdeal.τ).loc Cert.OdOutDwIdeal.main_arg1) = m ((c.tc : Thread Cert.OdOutDwIdeal.nD Cert.OdOutDwIdeal.τ).loc Cert.OdOutDwIdeal.main_arg1))
      ∧ θ_run (Cert.OdOutDwRefIdeal.defs (F := Ideal)) (onTc (τ := Cert.OdOutDwRefIdeal.τ) (Cert.OdOutDwRefIdeal.main (F := Ideal))) ⟨m', fun _ => 0, g'⟩ (fun r => ∀ c : Dev Cert.OdOutDwRefIdeal.nD,
          r.2.mem ((c.tc : Thread Cert.OdOutDwRefIdeal.nD Cert.OdOutDwRefIdeal.τ).loc Cert.OdOutDwRefIdeal.main_v5) = v0 c
          ∧ r.2.mem ((c.tc : Thread Cert.OdOutDwRefIdeal.nD Cert.OdOutDwRefIdeal.τ).loc Cert.OdOutDwRefIdeal.main_arg0) = m' ((c.tc : Thread Cert.OdOutDwRefIdeal.nD Cert.OdOutDwRefIdeal.τ).loc Cert.OdOutDwRefIdeal.main_arg0)
          ∧ r.2.mem ((c.tc : Thread Cert.OdOutDwRefIdeal.nD Cert.OdOutDwRefIdeal.τ).loc Cert.OdOutDwRefIdeal.main_arg1) = m' ((c.tc : Thread Cert.OdOutDwRefIdeal.nD Cert.OdOutDwRefIdeal.τ).loc Cert.OdOutDwRefIdeal.main_arg1))

def preserves_EvOutDx_EvOutDxIdeal : Prop :=
  True

def algebraic_EvOutDxIdeal_EvOutDxRefIdeal [hEvOutDxIdeal : Cert.EvOutDxIdeal.Facts] [hEvOutDxRefIdeal : Cert.EvOutDxRefIdeal.Facts] : Prop :=
  ∀ (m : (ℓ : Loc Cert.EvOutDxIdeal.nD Cert.EvOutDxIdeal.τ Cert.EvOutDxIdeal.sig) → Buf (Elt Ideal) ℓ) (g : Dev Cert.EvOutDxIdeal.nD → PrngReg)
    (m' : (ℓ : Loc Cert.EvOutDxRefIdeal.nD Cert.EvOutDxRefIdeal.τ Cert.EvOutDxRefIdeal.sig) → Buf (Elt Ideal) ℓ) (g' : Dev Cert.EvOutDxRefIdeal.nD → PrngReg), Pre_EvOutDxIdeal m →
    (∀ c : Dev Cert.EvOutDxIdeal.nD,
      m' ((c.tc : Thread Cert.EvOutDxRefIdeal.nD Cert.EvOutDxRefIdeal.τ).loc Cert.EvOutDxRefIdeal.main_arg0) = m ((c.tc : Thread Cert.EvOutDxIdeal.nD Cert.EvOutDxIdeal.τ).loc Cert.EvOutDxIdeal.main_arg0)
      ∧ m' ((c.tc : Thread Cert.EvOutDxRefIdeal.nD Cert.EvOutDxRefIdeal.τ).loc Cert.EvOutDxRefIdeal.main_arg1) = m ((c.tc : Thread Cert.EvOutDxIdeal.nD Cert.EvOutDxIdeal.τ).loc Cert.EvOutDxIdeal.main_arg1)) →
    ∃ (v0 : (c : Dev Cert.EvOutDxIdeal.nD) → Buf (Elt Ideal) ((c.tc : Thread Cert.EvOutDxIdeal.nD Cert.EvOutDxIdeal.τ).loc Cert.EvOutDxIdeal.main_v0)),
      θ_run (Cert.EvOutDxIdeal.defs (F := Ideal)) (onTc (τ := Cert.EvOutDxIdeal.τ) (Cert.EvOutDxIdeal.main (F := Ideal))) ⟨m, fun _ => 0, g⟩ (fun r => ∀ c : Dev Cert.EvOutDxIdeal.nD,
          r.2.mem ((c.tc : Thread Cert.EvOutDxIdeal.nD Cert.EvOutDxIdeal.τ).loc Cert.EvOutDxIdeal.main_v0) = v0 c
          ∧ r.2.mem ((c.tc : Thread Cert.EvOutDxIdeal.nD Cert.EvOutDxIdeal.τ).loc Cert.EvOutDxIdeal.main_arg0) = m ((c.tc : Thread Cert.EvOutDxIdeal.nD Cert.EvOutDxIdeal.τ).loc Cert.EvOutDxIdeal.main_arg0)
          ∧ r.2.mem ((c.tc : Thread Cert.EvOutDxIdeal.nD Cert.EvOutDxIdeal.τ).loc Cert.EvOutDxIdeal.main_arg1) = m ((c.tc : Thread Cert.EvOutDxIdeal.nD Cert.EvOutDxIdeal.τ).loc Cert.EvOutDxIdeal.main_arg1))
      ∧ θ_run (Cert.EvOutDxRefIdeal.defs (F := Ideal)) (onTc (τ := Cert.EvOutDxRefIdeal.τ) (Cert.EvOutDxRefIdeal.main (F := Ideal))) ⟨m', fun _ => 0, g'⟩ (fun r => ∀ c : Dev Cert.EvOutDxRefIdeal.nD,
          r.2.mem ((c.tc : Thread Cert.EvOutDxRefIdeal.nD Cert.EvOutDxRefIdeal.τ).loc Cert.EvOutDxRefIdeal.main_v4) = v0 c
          ∧ r.2.mem ((c.tc : Thread Cert.EvOutDxRefIdeal.nD Cert.EvOutDxRefIdeal.τ).loc Cert.EvOutDxRefIdeal.main_arg0) = m' ((c.tc : Thread Cert.EvOutDxRefIdeal.nD Cert.EvOutDxRefIdeal.τ).loc Cert.EvOutDxRefIdeal.main_arg0)
          ∧ r.2.mem ((c.tc : Thread Cert.EvOutDxRefIdeal.nD Cert.EvOutDxRefIdeal.τ).loc Cert.EvOutDxRefIdeal.main_arg1) = m' ((c.tc : Thread Cert.EvOutDxRefIdeal.nD Cert.EvOutDxRefIdeal.τ).loc Cert.EvOutDxRefIdeal.main_arg1))

def preserves_EvOutDw_EvOutDwIdeal : Prop :=
  True

def algebraic_EvOutDwIdeal_EvOutDwRefIdeal [hEvOutDwIdeal : Cert.EvOutDwIdeal.Facts] [hEvOutDwRefIdeal : Cert.EvOutDwRefIdeal.Facts] : Prop :=
  ∀ (m : (ℓ : Loc Cert.EvOutDwIdeal.nD Cert.EvOutDwIdeal.τ Cert.EvOutDwIdeal.sig) → Buf (Elt Ideal) ℓ) (g : Dev Cert.EvOutDwIdeal.nD → PrngReg)
    (m' : (ℓ : Loc Cert.EvOutDwRefIdeal.nD Cert.EvOutDwRefIdeal.τ Cert.EvOutDwRefIdeal.sig) → Buf (Elt Ideal) ℓ) (g' : Dev Cert.EvOutDwRefIdeal.nD → PrngReg), Pre_EvOutDwIdeal m →
    (∀ c : Dev Cert.EvOutDwIdeal.nD,
      m' ((c.tc : Thread Cert.EvOutDwRefIdeal.nD Cert.EvOutDwRefIdeal.τ).loc Cert.EvOutDwRefIdeal.main_arg0) = m ((c.tc : Thread Cert.EvOutDwIdeal.nD Cert.EvOutDwIdeal.τ).loc Cert.EvOutDwIdeal.main_arg0)
      ∧ m' ((c.tc : Thread Cert.EvOutDwRefIdeal.nD Cert.EvOutDwRefIdeal.τ).loc Cert.EvOutDwRefIdeal.main_arg1) = m ((c.tc : Thread Cert.EvOutDwIdeal.nD Cert.EvOutDwIdeal.τ).loc Cert.EvOutDwIdeal.main_arg1)) →
    ∃ (v0 : (c : Dev Cert.EvOutDwIdeal.nD) → Buf (Elt Ideal) ((c.tc : Thread Cert.EvOutDwIdeal.nD Cert.EvOutDwIdeal.τ).loc Cert.EvOutDwIdeal.main_v0)),
      θ_run (Cert.EvOutDwIdeal.defs (F := Ideal)) (onTc (τ := Cert.EvOutDwIdeal.τ) (Cert.EvOutDwIdeal.main (F := Ideal))) ⟨m, fun _ => 0, g⟩ (fun r => ∀ c : Dev Cert.EvOutDwIdeal.nD,
          r.2.mem ((c.tc : Thread Cert.EvOutDwIdeal.nD Cert.EvOutDwIdeal.τ).loc Cert.EvOutDwIdeal.main_v0) = v0 c
          ∧ r.2.mem ((c.tc : Thread Cert.EvOutDwIdeal.nD Cert.EvOutDwIdeal.τ).loc Cert.EvOutDwIdeal.main_arg0) = m ((c.tc : Thread Cert.EvOutDwIdeal.nD Cert.EvOutDwIdeal.τ).loc Cert.EvOutDwIdeal.main_arg0)
          ∧ r.2.mem ((c.tc : Thread Cert.EvOutDwIdeal.nD Cert.EvOutDwIdeal.τ).loc Cert.EvOutDwIdeal.main_arg1) = m ((c.tc : Thread Cert.EvOutDwIdeal.nD Cert.EvOutDwIdeal.τ).loc Cert.EvOutDwIdeal.main_arg1))
      ∧ θ_run (Cert.EvOutDwRefIdeal.defs (F := Ideal)) (onTc (τ := Cert.EvOutDwRefIdeal.τ) (Cert.EvOutDwRefIdeal.main (F := Ideal))) ⟨m', fun _ => 0, g'⟩ (fun r => ∀ c : Dev Cert.EvOutDwRefIdeal.nD,
          r.2.mem ((c.tc : Thread Cert.EvOutDwRefIdeal.nD Cert.EvOutDwRefIdeal.τ).loc Cert.EvOutDwRefIdeal.main_v5) = v0 c
          ∧ r.2.mem ((c.tc : Thread Cert.EvOutDwRefIdeal.nD Cert.EvOutDwRefIdeal.τ).loc Cert.EvOutDwRefIdeal.main_arg0) = m' ((c.tc : Thread Cert.EvOutDwRefIdeal.nD Cert.EvOutDwRefIdeal.τ).loc Cert.EvOutDwRefIdeal.main_arg0)
          ∧ r.2.mem ((c.tc : Thread Cert.EvOutDwRefIdeal.nD Cert.EvOutDwRefIdeal.τ).loc Cert.EvOutDwRefIdeal.main_arg1) = m' ((c.tc : Thread Cert.EvOutDwRefIdeal.nD Cert.EvOutDwRefIdeal.τ).loc Cert.EvOutDwRefIdeal.main_arg1))

def preserves_OdIn_OdInIdeal : Prop :=
  True

def algebraic_OdInIdeal_OdInRefIdeal [hOdInIdeal : Cert.OdInIdeal.Facts] [hOdInRefIdeal : Cert.OdInRefIdeal.Facts] : Prop :=
  ∀ (m : (ℓ : Loc Cert.OdInIdeal.nD Cert.OdInIdeal.τ Cert.OdInIdeal.sig) → Buf (Elt Ideal) ℓ) (g : Dev Cert.OdInIdeal.nD → PrngReg)
    (m' : (ℓ : Loc Cert.OdInRefIdeal.nD Cert.OdInRefIdeal.τ Cert.OdInRefIdeal.sig) → Buf (Elt Ideal) ℓ) (g' : Dev Cert.OdInRefIdeal.nD → PrngReg), Pre_OdInIdeal m →
    (∀ c : Dev Cert.OdInIdeal.nD,
      m' ((c.tc : Thread Cert.OdInRefIdeal.nD Cert.OdInRefIdeal.τ).loc Cert.OdInRefIdeal.main_arg0) = m ((c.tc : Thread Cert.OdInIdeal.nD Cert.OdInIdeal.τ).loc Cert.OdInIdeal.main_arg0)
      ∧ m' ((c.tc : Thread Cert.OdInRefIdeal.nD Cert.OdInRefIdeal.τ).loc Cert.OdInRefIdeal.main_arg1) = m ((c.tc : Thread Cert.OdInIdeal.nD Cert.OdInIdeal.τ).loc Cert.OdInIdeal.main_arg1)) →
    ∃ (v0 : (c : Dev Cert.OdInIdeal.nD) → Buf (Elt Ideal) ((c.tc : Thread Cert.OdInIdeal.nD Cert.OdInIdeal.τ).loc Cert.OdInIdeal.main_v0)),
      θ_run (Cert.OdInIdeal.defs (F := Ideal)) (onTc (τ := Cert.OdInIdeal.τ) (Cert.OdInIdeal.main (F := Ideal))) ⟨m, fun _ => 0, g⟩ (fun r => ∀ c : Dev Cert.OdInIdeal.nD,
          r.2.mem ((c.tc : Thread Cert.OdInIdeal.nD Cert.OdInIdeal.τ).loc Cert.OdInIdeal.main_v0) = v0 c
          ∧ r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
          ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ θ_run (Cert.OdInRefIdeal.defs (F := Ideal)) (onTc (τ := Cert.OdInRefIdeal.τ) (Cert.OdInRefIdeal.main (F := Ideal))) ⟨m', fun _ => 0, g'⟩ (fun r => ∀ c : Dev Cert.OdInRefIdeal.nD,
          r.2.mem ((c.tc : Thread Cert.OdInRefIdeal.nD Cert.OdInRefIdeal.τ).loc Cert.OdInRefIdeal.main_v2) = v0 c
          ∧ r.2.mem ((c.tc : Thread Cert.OdInRefIdeal.nD Cert.OdInRefIdeal.τ).loc Cert.OdInRefIdeal.main_arg0) = m' ((c.tc : Thread Cert.OdInRefIdeal.nD Cert.OdInRefIdeal.τ).loc Cert.OdInRefIdeal.main_arg0)
          ∧ r.2.mem ((c.tc : Thread Cert.OdInRefIdeal.nD Cert.OdInRefIdeal.τ).loc Cert.OdInRefIdeal.main_arg1) = m' ((c.tc : Thread Cert.OdInRefIdeal.nD Cert.OdInRefIdeal.τ).loc Cert.OdInRefIdeal.main_arg1))

def preserves_EvIn_EvInIdeal : Prop :=
  True

def algebraic_EvInIdeal_EvInRefIdeal [hEvInIdeal : Cert.EvInIdeal.Facts] [hEvInRefIdeal : Cert.EvInRefIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.EvInRefIdeal.nD Cert.EvInRefIdeal.τ Cert.EvInRefIdeal.sig) → Buf (Elt Ideal) ℓ) (g' : Dev Cert.EvInRefIdeal.nD → PrngReg), Pre_EvInIdeal m →
    (∀ c : Dev Cert.EvInIdeal.nD,
      m' ((c.tc : Thread Cert.EvInRefIdeal.nD Cert.EvInRefIdeal.τ).loc Cert.EvInRefIdeal.main_arg0) = m ((c.tc : Thread Cert.EvInIdeal.nD Cert.EvInIdeal.τ).loc Cert.EvInIdeal.main_arg0)
      ∧ m' ((c.tc : Thread Cert.EvInRefIdeal.nD Cert.EvInRefIdeal.τ).loc Cert.EvInRefIdeal.main_arg1) = m ((c.tc : Thread Cert.EvInIdeal.nD Cert.EvInIdeal.τ).loc Cert.EvInIdeal.main_arg1)) →
    ∃ (v0 : (c : Dev Cert.EvInIdeal.nD) → Buf (Elt Ideal) ((c.tc : Thread Cert.EvInIdeal.nD Cert.EvInIdeal.τ).loc Cert.EvInIdeal.main_v0)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v0) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ θ_run (Cert.EvInRefIdeal.defs (F := Ideal)) (onTc (τ := Cert.EvInRefIdeal.τ) (Cert.EvInRefIdeal.main (F := Ideal))) ⟨m', fun _ => 0, g'⟩ (fun r => ∀ c : Dev Cert.EvInRefIdeal.nD,
          r.2.mem ((c.tc : Thread Cert.EvInRefIdeal.nD Cert.EvInRefIdeal.τ).loc Cert.EvInRefIdeal.main_v2) = v0 c
          ∧ r.2.mem ((c.tc : Thread Cert.EvInRefIdeal.nD Cert.EvInRefIdeal.τ).loc Cert.EvInRefIdeal.main_arg0) = m' ((c.tc : Thread Cert.EvInRefIdeal.nD Cert.EvInRefIdeal.τ).loc Cert.EvInRefIdeal.main_arg0)
          ∧ r.2.mem ((c.tc : Thread Cert.EvInRefIdeal.nD Cert.EvInRefIdeal.τ).loc Cert.EvInRefIdeal.main_arg1) = m' ((c.tc : Thread Cert.EvInRefIdeal.nD Cert.EvInRefIdeal.τ).loc Cert.EvInRefIdeal.main_arg1))

def preserves_EvUq_EvUqIdeal : Prop :=
  True

def algebraic_EvUqIdeal_EvUqRefIdeal [hEvUqIdeal : Cert.EvUqIdeal.Facts] [hEvUqRefIdeal : Cert.EvUqRefIdeal.Facts] : Prop :=
  ∀ (m : (ℓ : Loc Cert.EvUqIdeal.nD Cert.EvUqIdeal.τ Cert.EvUqIdeal.sig) → Buf (Elt Ideal) ℓ) (g : Dev Cert.EvUqIdeal.nD → PrngReg)
    (m' : (ℓ : Loc Cert.EvUqRefIdeal.nD Cert.EvUqRefIdeal.τ Cert.EvUqRefIdeal.sig) → Buf (Elt Ideal) ℓ) (g' : Dev Cert.EvUqRefIdeal.nD → PrngReg), Pre_EvUqIdeal m →
    (∀ c : Dev Cert.EvUqIdeal.nD,
      m' ((c.tc : Thread Cert.EvUqRefIdeal.nD Cert.EvUqRefIdeal.τ).loc Cert.EvUqRefIdeal.main_arg0) = m ((c.tc : Thread Cert.EvUqIdeal.nD Cert.EvUqIdeal.τ).loc Cert.EvUqIdeal.main_arg0)
      ∧ m' ((c.tc : Thread Cert.EvUqRefIdeal.nD Cert.EvUqRefIdeal.τ).loc Cert.EvUqRefIdeal.main_arg1) = m ((c.tc : Thread Cert.EvUqIdeal.nD Cert.EvUqIdeal.τ).loc Cert.EvUqIdeal.main_arg1)) →
    ∃ (v0 : (c : Dev Cert.EvUqIdeal.nD) → Buf (Elt Ideal) ((c.tc : Thread Cert.EvUqIdeal.nD Cert.EvUqIdeal.τ).loc Cert.EvUqIdeal.main_v0)),
      θ_run (Cert.EvUqIdeal.defs (F := Ideal)) (onTc (τ := Cert.EvUqIdeal.τ) (Cert.EvUqIdeal.main (F := Ideal))) ⟨m, fun _ => 0, g⟩ (fun r => ∀ c : Dev Cert.EvUqIdeal.nD,
          r.2.mem ((c.tc : Thread Cert.EvUqIdeal.nD Cert.EvUqIdeal.τ).loc Cert.EvUqIdeal.main_v0) = v0 c
          ∧ r.2.mem ((c.tc : Thread Cert.EvUqIdeal.nD Cert.EvUqIdeal.τ).loc Cert.EvUqIdeal.main_arg0) = m ((c.tc : Thread Cert.EvUqIdeal.nD Cert.EvUqIdeal.τ).loc Cert.EvUqIdeal.main_arg0)
          ∧ r.2.mem ((c.tc : Thread Cert.EvUqIdeal.nD Cert.EvUqIdeal.τ).loc Cert.EvUqIdeal.main_arg1) = m ((c.tc : Thread Cert.EvUqIdeal.nD Cert.EvUqIdeal.τ).loc Cert.EvUqIdeal.main_arg1))
      ∧ θ_run (Cert.EvUqRefIdeal.defs (F := Ideal)) (onTc (τ := Cert.EvUqRefIdeal.τ) (Cert.EvUqRefIdeal.main (F := Ideal))) ⟨m', fun _ => 0, g'⟩ (fun r => ∀ c : Dev Cert.EvUqRefIdeal.nD,
          r.2.mem ((c.tc : Thread Cert.EvUqRefIdeal.nD Cert.EvUqRefIdeal.τ).loc Cert.EvUqRefIdeal.main_v2) = v0 c
          ∧ r.2.mem ((c.tc : Thread Cert.EvUqRefIdeal.nD Cert.EvUqRefIdeal.τ).loc Cert.EvUqRefIdeal.main_arg0) = m' ((c.tc : Thread Cert.EvUqRefIdeal.nD Cert.EvUqRefIdeal.τ).loc Cert.EvUqRefIdeal.main_arg0)
          ∧ r.2.mem ((c.tc : Thread Cert.EvUqRefIdeal.nD Cert.EvUqRefIdeal.τ).loc Cert.EvUqRefIdeal.main_arg1) = m' ((c.tc : Thread Cert.EvUqRefIdeal.nD Cert.EvUqRefIdeal.τ).loc Cert.EvUqRefIdeal.main_arg1))

def preserves_EvUkv_EvUkvIdeal : Prop :=
  True

def algebraic_EvUkvIdeal_EvUkvRefIdeal [hEvUkvIdeal : Cert.EvUkvIdeal.Facts] [hEvUkvRefIdeal : Cert.EvUkvRefIdeal.Facts] : Prop :=
  ∀ (m : (ℓ : Loc Cert.EvUkvIdeal.nD Cert.EvUkvIdeal.τ Cert.EvUkvIdeal.sig) → Buf (Elt Ideal) ℓ) (g : Dev Cert.EvUkvIdeal.nD → PrngReg)
    (m' : (ℓ : Loc Cert.EvUkvRefIdeal.nD Cert.EvUkvRefIdeal.τ Cert.EvUkvRefIdeal.sig) → Buf (Elt Ideal) ℓ) (g' : Dev Cert.EvUkvRefIdeal.nD → PrngReg), Pre_EvUkvIdeal m →
    (∀ c : Dev Cert.EvUkvIdeal.nD,
      m' ((c.tc : Thread Cert.EvUkvRefIdeal.nD Cert.EvUkvRefIdeal.τ).loc Cert.EvUkvRefIdeal.main_arg0) = m ((c.tc : Thread Cert.EvUkvIdeal.nD Cert.EvUkvIdeal.τ).loc Cert.EvUkvIdeal.main_arg0)
      ∧ m' ((c.tc : Thread Cert.EvUkvRefIdeal.nD Cert.EvUkvRefIdeal.τ).loc Cert.EvUkvRefIdeal.main_arg1) = m ((c.tc : Thread Cert.EvUkvIdeal.nD Cert.EvUkvIdeal.τ).loc Cert.EvUkvIdeal.main_arg1)) →
    ∃ (v0 : (c : Dev Cert.EvUkvIdeal.nD) → Buf (Elt Ideal) ((c.tc : Thread Cert.EvUkvIdeal.nD Cert.EvUkvIdeal.τ).loc Cert.EvUkvIdeal.main_v0)),
      θ_run (Cert.EvUkvIdeal.defs (F := Ideal)) (onTc (τ := Cert.EvUkvIdeal.τ) (Cert.EvUkvIdeal.main (F := Ideal))) ⟨m, fun _ => 0, g⟩ (fun r => ∀ c : Dev Cert.EvUkvIdeal.nD,
          r.2.mem ((c.tc : Thread Cert.EvUkvIdeal.nD Cert.EvUkvIdeal.τ).loc Cert.EvUkvIdeal.main_v0) = v0 c
          ∧ r.2.mem ((c.tc : Thread Cert.EvUkvIdeal.nD Cert.EvUkvIdeal.τ).loc Cert.EvUkvIdeal.main_arg0) = m ((c.tc : Thread Cert.EvUkvIdeal.nD Cert.EvUkvIdeal.τ).loc Cert.EvUkvIdeal.main_arg0)
          ∧ r.2.mem ((c.tc : Thread Cert.EvUkvIdeal.nD Cert.EvUkvIdeal.τ).loc Cert.EvUkvIdeal.main_arg1) = m ((c.tc : Thread Cert.EvUkvIdeal.nD Cert.EvUkvIdeal.τ).loc Cert.EvUkvIdeal.main_arg1))
      ∧ θ_run (Cert.EvUkvRefIdeal.defs (F := Ideal)) (onTc (τ := Cert.EvUkvRefIdeal.τ) (Cert.EvUkvRefIdeal.main (F := Ideal))) ⟨m', fun _ => 0, g'⟩ (fun r => ∀ c : Dev Cert.EvUkvRefIdeal.nD,
          r.2.mem ((c.tc : Thread Cert.EvUkvRefIdeal.nD Cert.EvUkvRefIdeal.τ).loc Cert.EvUkvRefIdeal.main_v2) = v0 c
          ∧ r.2.mem ((c.tc : Thread Cert.EvUkvRefIdeal.nD Cert.EvUkvRefIdeal.τ).loc Cert.EvUkvRefIdeal.main_arg0) = m' ((c.tc : Thread Cert.EvUkvRefIdeal.nD Cert.EvUkvRefIdeal.τ).loc Cert.EvUkvRefIdeal.main_arg0)
          ∧ r.2.mem ((c.tc : Thread Cert.EvUkvRefIdeal.nD Cert.EvUkvRefIdeal.τ).loc Cert.EvUkvRefIdeal.main_arg1) = m' ((c.tc : Thread Cert.EvUkvRefIdeal.nD Cert.EvUkvRefIdeal.τ).loc Cert.EvUkvRefIdeal.main_arg1))

def preserves_OdOut_OdOutIdeal : Prop :=
  True

def algebraic_OdOutIdeal_OdOutRefIdeal [hOdOutIdeal : Cert.OdOutIdeal.Facts] [hOdOutRefIdeal : Cert.OdOutRefIdeal.Facts] : Prop :=
  ∀ (m : (ℓ : Loc Cert.OdOutIdeal.nD Cert.OdOutIdeal.τ Cert.OdOutIdeal.sig) → Buf (Elt Ideal) ℓ) (g : Dev Cert.OdOutIdeal.nD → PrngReg)
    (m' : (ℓ : Loc Cert.OdOutRefIdeal.nD Cert.OdOutRefIdeal.τ Cert.OdOutRefIdeal.sig) → Buf (Elt Ideal) ℓ) (g' : Dev Cert.OdOutRefIdeal.nD → PrngReg), Pre_OdOutIdeal m →
    (∀ c : Dev Cert.OdOutIdeal.nD,
      m' ((c.tc : Thread Cert.OdOutRefIdeal.nD Cert.OdOutRefIdeal.τ).loc Cert.OdOutRefIdeal.main_arg0) = m ((c.tc : Thread Cert.OdOutIdeal.nD Cert.OdOutIdeal.τ).loc Cert.OdOutIdeal.main_arg0)
      ∧ m' ((c.tc : Thread Cert.OdOutRefIdeal.nD Cert.OdOutRefIdeal.τ).loc Cert.OdOutRefIdeal.main_arg1) = m ((c.tc : Thread Cert.OdOutIdeal.nD Cert.OdOutIdeal.τ).loc Cert.OdOutIdeal.main_arg1)
      ∧ m' ((c.tc : Thread Cert.OdOutRefIdeal.nD Cert.OdOutRefIdeal.τ).loc Cert.OdOutRefIdeal.main_arg2) = m ((c.tc : Thread Cert.OdOutIdeal.nD Cert.OdOutIdeal.τ).loc Cert.OdOutIdeal.main_arg2)
      ∧ m' ((c.tc : Thread Cert.OdOutRefIdeal.nD Cert.OdOutRefIdeal.τ).loc Cert.OdOutRefIdeal.main_arg3) = m ((c.tc : Thread Cert.OdOutIdeal.nD Cert.OdOutIdeal.τ).loc Cert.OdOutIdeal.main_arg3)) →
    ∃ (v0 : (c : Dev Cert.OdOutIdeal.nD) → Buf (Elt Ideal) ((c.tc : Thread Cert.OdOutIdeal.nD Cert.OdOutIdeal.τ).loc Cert.OdOutIdeal.main_v0_0)) (v1 : (c : Dev Cert.OdOutIdeal.nD) → Buf (Elt Ideal) ((c.tc : Thread Cert.OdOutIdeal.nD Cert.OdOutIdeal.τ).loc Cert.OdOutIdeal.main_v0_1)),
      θ_run (Cert.OdOutIdeal.defs (F := Ideal)) (onTc (τ := Cert.OdOutIdeal.τ) (Cert.OdOutIdeal.main (F := Ideal))) ⟨m, fun _ => 0, g⟩ (fun r => ∀ c : Dev Cert.OdOutIdeal.nD,
          r.2.mem ((c.tc : Thread Cert.OdOutIdeal.nD Cert.OdOutIdeal.τ).loc Cert.OdOutIdeal.main_v0_0) = v0 c
          ∧ r.2.mem ((c.tc : Thread Cert.OdOutIdeal.nD Cert.OdOutIdeal.τ).loc Cert.OdOutIdeal.main_v0_1) = v1 c
          ∧ r.2.mem ((c.tc : Thread Cert.OdOutIdeal.nD Cert.OdOutIdeal.τ).loc Cert.OdOutIdeal.main_arg0) = m ((c.tc : Thread Cert.OdOutIdeal.nD Cert.OdOutIdeal.τ).loc Cert.OdOutIdeal.main_arg0)
          ∧ r.2.mem ((c.tc : Thread Cert.OdOutIdeal.nD Cert.OdOutIdeal.τ).loc Cert.OdOutIdeal.main_arg1) = m ((c.tc : Thread Cert.OdOutIdeal.nD Cert.OdOutIdeal.τ).loc Cert.OdOutIdeal.main_arg1)
          ∧ r.2.mem ((c.tc : Thread Cert.OdOutIdeal.nD Cert.OdOutIdeal.τ).loc Cert.OdOutIdeal.main_arg2) = m ((c.tc : Thread Cert.OdOutIdeal.nD Cert.OdOutIdeal.τ).loc Cert.OdOutIdeal.main_arg2)
          ∧ r.2.mem ((c.tc : Thread Cert.OdOutIdeal.nD Cert.OdOutIdeal.τ).loc Cert.OdOutIdeal.main_arg3) = m ((c.tc : Thread Cert.OdOutIdeal.nD Cert.OdOutIdeal.τ).loc Cert.OdOutIdeal.main_arg3))
      ∧ θ_run (Cert.OdOutRefIdeal.defs (F := Ideal)) (onTc (τ := Cert.OdOutRefIdeal.τ) (Cert.OdOutRefIdeal.main (F := Ideal))) ⟨m', fun _ => 0, g'⟩ (fun r => ∀ c : Dev Cert.OdOutRefIdeal.nD,
          r.2.mem ((c.tc : Thread Cert.OdOutRefIdeal.nD Cert.OdOutRefIdeal.τ).loc Cert.OdOutRefIdeal.main_v5) = v0 c
          ∧ r.2.mem ((c.tc : Thread Cert.OdOutRefIdeal.nD Cert.OdOutRefIdeal.τ).loc Cert.OdOutRefIdeal.main_v2) = v1 c
          ∧ r.2.mem ((c.tc : Thread Cert.OdOutRefIdeal.nD Cert.OdOutRefIdeal.τ).loc Cert.OdOutRefIdeal.main_arg0) = m' ((c.tc : Thread Cert.OdOutRefIdeal.nD Cert.OdOutRefIdeal.τ).loc Cert.OdOutRefIdeal.main_arg0)
          ∧ r.2.mem ((c.tc : Thread Cert.OdOutRefIdeal.nD Cert.OdOutRefIdeal.τ).loc Cert.OdOutRefIdeal.main_arg1) = m' ((c.tc : Thread Cert.OdOutRefIdeal.nD Cert.OdOutRefIdeal.τ).loc Cert.OdOutRefIdeal.main_arg1)
          ∧ r.2.mem ((c.tc : Thread Cert.OdOutRefIdeal.nD Cert.OdOutRefIdeal.τ).loc Cert.OdOutRefIdeal.main_arg2) = m' ((c.tc : Thread Cert.OdOutRefIdeal.nD Cert.OdOutRefIdeal.τ).loc Cert.OdOutRefIdeal.main_arg2)
          ∧ r.2.mem ((c.tc : Thread Cert.OdOutRefIdeal.nD Cert.OdOutRefIdeal.τ).loc Cert.OdOutRefIdeal.main_arg3) = m' ((c.tc : Thread Cert.OdOutRefIdeal.nD Cert.OdOutRefIdeal.τ).loc Cert.OdOutRefIdeal.main_arg3))

def preserves_EvOut_EvOutIdeal : Prop :=
  True

def algebraic_EvOutIdeal_EvOutRefIdeal [hEvOutIdeal : Cert.EvOutIdeal.Facts] [hEvOutRefIdeal : Cert.EvOutRefIdeal.Facts] : Prop :=
  ∀ (m : (ℓ : Loc Cert.EvOutIdeal.nD Cert.EvOutIdeal.τ Cert.EvOutIdeal.sig) → Buf (Elt Ideal) ℓ) (g : Dev Cert.EvOutIdeal.nD → PrngReg)
    (m' : (ℓ : Loc Cert.EvOutRefIdeal.nD Cert.EvOutRefIdeal.τ Cert.EvOutRefIdeal.sig) → Buf (Elt Ideal) ℓ) (g' : Dev Cert.EvOutRefIdeal.nD → PrngReg), Pre_EvOutIdeal m →
    (∀ c : Dev Cert.EvOutIdeal.nD,
      m' ((c.tc : Thread Cert.EvOutRefIdeal.nD Cert.EvOutRefIdeal.τ).loc Cert.EvOutRefIdeal.main_arg0) = m ((c.tc : Thread Cert.EvOutIdeal.nD Cert.EvOutIdeal.τ).loc Cert.EvOutIdeal.main_arg0)
      ∧ m' ((c.tc : Thread Cert.EvOutRefIdeal.nD Cert.EvOutRefIdeal.τ).loc Cert.EvOutRefIdeal.main_arg1) = m ((c.tc : Thread Cert.EvOutIdeal.nD Cert.EvOutIdeal.τ).loc Cert.EvOutIdeal.main_arg1)
      ∧ m' ((c.tc : Thread Cert.EvOutRefIdeal.nD Cert.EvOutRefIdeal.τ).loc Cert.EvOutRefIdeal.main_arg2) = m ((c.tc : Thread Cert.EvOutIdeal.nD Cert.EvOutIdeal.τ).loc Cert.EvOutIdeal.main_arg2)
      ∧ m' ((c.tc : Thread Cert.EvOutRefIdeal.nD Cert.EvOutRefIdeal.τ).loc Cert.EvOutRefIdeal.main_arg3) = m ((c.tc : Thread Cert.EvOutIdeal.nD Cert.EvOutIdeal.τ).loc Cert.EvOutIdeal.main_arg3)) →
    ∃ (v0 : (c : Dev Cert.EvOutIdeal.nD) → Buf (Elt Ideal) ((c.tc : Thread Cert.EvOutIdeal.nD Cert.EvOutIdeal.τ).loc Cert.EvOutIdeal.main_v0_0)) (v1 : (c : Dev Cert.EvOutIdeal.nD) → Buf (Elt Ideal) ((c.tc : Thread Cert.EvOutIdeal.nD Cert.EvOutIdeal.τ).loc Cert.EvOutIdeal.main_v0_1)),
      θ_run (Cert.EvOutIdeal.defs (F := Ideal)) (onTc (τ := Cert.EvOutIdeal.τ) (Cert.EvOutIdeal.main (F := Ideal))) ⟨m, fun _ => 0, g⟩ (fun r => ∀ c : Dev Cert.EvOutIdeal.nD,
          r.2.mem ((c.tc : Thread Cert.EvOutIdeal.nD Cert.EvOutIdeal.τ).loc Cert.EvOutIdeal.main_v0_0) = v0 c
          ∧ r.2.mem ((c.tc : Thread Cert.EvOutIdeal.nD Cert.EvOutIdeal.τ).loc Cert.EvOutIdeal.main_v0_1) = v1 c
          ∧ r.2.mem ((c.tc : Thread Cert.EvOutIdeal.nD Cert.EvOutIdeal.τ).loc Cert.EvOutIdeal.main_arg0) = m ((c.tc : Thread Cert.EvOutIdeal.nD Cert.EvOutIdeal.τ).loc Cert.EvOutIdeal.main_arg0)
          ∧ r.2.mem ((c.tc : Thread Cert.EvOutIdeal.nD Cert.EvOutIdeal.τ).loc Cert.EvOutIdeal.main_arg1) = m ((c.tc : Thread Cert.EvOutIdeal.nD Cert.EvOutIdeal.τ).loc Cert.EvOutIdeal.main_arg1)
          ∧ r.2.mem ((c.tc : Thread Cert.EvOutIdeal.nD Cert.EvOutIdeal.τ).loc Cert.EvOutIdeal.main_arg2) = m ((c.tc : Thread Cert.EvOutIdeal.nD Cert.EvOutIdeal.τ).loc Cert.EvOutIdeal.main_arg2)
          ∧ r.2.mem ((c.tc : Thread Cert.EvOutIdeal.nD Cert.EvOutIdeal.τ).loc Cert.EvOutIdeal.main_arg3) = m ((c.tc : Thread Cert.EvOutIdeal.nD Cert.EvOutIdeal.τ).loc Cert.EvOutIdeal.main_arg3))
      ∧ θ_run (Cert.EvOutRefIdeal.defs (F := Ideal)) (onTc (τ := Cert.EvOutRefIdeal.τ) (Cert.EvOutRefIdeal.main (F := Ideal))) ⟨m', fun _ => 0, g'⟩ (fun r => ∀ c : Dev Cert.EvOutRefIdeal.nD,
          r.2.mem ((c.tc : Thread Cert.EvOutRefIdeal.nD Cert.EvOutRefIdeal.τ).loc Cert.EvOutRefIdeal.main_v5) = v0 c
          ∧ r.2.mem ((c.tc : Thread Cert.EvOutRefIdeal.nD Cert.EvOutRefIdeal.τ).loc Cert.EvOutRefIdeal.main_v2) = v1 c
          ∧ r.2.mem ((c.tc : Thread Cert.EvOutRefIdeal.nD Cert.EvOutRefIdeal.τ).loc Cert.EvOutRefIdeal.main_arg0) = m' ((c.tc : Thread Cert.EvOutRefIdeal.nD Cert.EvOutRefIdeal.τ).loc Cert.EvOutRefIdeal.main_arg0)
          ∧ r.2.mem ((c.tc : Thread Cert.EvOutRefIdeal.nD Cert.EvOutRefIdeal.τ).loc Cert.EvOutRefIdeal.main_arg1) = m' ((c.tc : Thread Cert.EvOutRefIdeal.nD Cert.EvOutRefIdeal.τ).loc Cert.EvOutRefIdeal.main_arg1)
          ∧ r.2.mem ((c.tc : Thread Cert.EvOutRefIdeal.nD Cert.EvOutRefIdeal.τ).loc Cert.EvOutRefIdeal.main_arg2) = m' ((c.tc : Thread Cert.EvOutRefIdeal.nD Cert.EvOutRefIdeal.τ).loc Cert.EvOutRefIdeal.main_arg2)
          ∧ r.2.mem ((c.tc : Thread Cert.EvOutRefIdeal.nD Cert.EvOutRefIdeal.τ).loc Cert.EvOutRefIdeal.main_arg3) = m' ((c.tc : Thread Cert.EvOutRefIdeal.nD Cert.EvOutRefIdeal.τ).loc Cert.EvOutRefIdeal.main_arg3))

def Claim : Prop :=
  ∃ (hKernel : Cert.Kernel.Facts) (hKernelIdeal : Cert.KernelIdeal.Facts) (hReferenceIdeal : Cert.ReferenceIdeal.Facts) (hReference : Cert.Reference.Facts) (hMidBwd : Cert.MidBwd.Facts) (hMidBwdIdeal : Cert.MidBwdIdeal.Facts) (hMidBwdRefIdeal : Cert.MidBwdRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hGateBwd : Cert.GateBwd.Facts) (hGateBwdIdeal : Cert.GateBwdIdeal.Facts) (hGateBwdRefIdeal : Cert.GateBwdRefIdeal.Facts) (hUp : Cert.Up.Facts) (hUpIdeal : Cert.UpIdeal.Facts) (hUpRefIdeal : Cert.UpRefIdeal.Facts) (hMid : Cert.Mid.Facts) (hMidIdeal : Cert.MidIdeal.Facts) (hMidRefIdeal : Cert.MidRefIdeal.Facts) (hDown : Cert.Down.Facts) (hDownIdeal : Cert.DownIdeal.Facts) (hDownRefIdeal : Cert.DownRefIdeal.Facts) (hOdMid : Cert.OdMid.Facts) (hOdMidIdeal : Cert.OdMidIdeal.Facts) (hOdMidRefIdeal : Cert.OdMidRefIdeal.Facts) (hOdMidBwd : Cert.OdMidBwd.Facts) (hOdMidBwdIdeal : Cert.OdMidBwdIdeal.Facts) (hOdMidBwdRefIdeal : Cert.OdMidBwdRefIdeal.Facts) (hNorm : Cert.Norm.Facts) (hNormIdeal : Cert.NormIdeal.Facts) (hNormRefIdeal : Cert.NormRefIdeal.Facts) (hMixNorm : Cert.MixNorm.Facts) (hMixNormIdeal : Cert.MixNormIdeal.Facts) (hMixNormRefIdeal : Cert.MixNormRefIdeal.Facts) (hOdInDx : Cert.OdInDx.Facts) (hOdInDxIdeal : Cert.OdInDxIdeal.Facts) (hOdInDxRefIdeal : Cert.OdInDxRefIdeal.Facts) (hOdInDw : Cert.OdInDw.Facts) (hOdInDwIdeal : Cert.OdInDwIdeal.Facts) (hOdInDwRefIdeal : Cert.OdInDwRefIdeal.Facts) (hEvInDx : Cert.EvInDx.Facts) (hEvInDxIdeal : Cert.EvInDxIdeal.Facts) (hEvInDxRefIdeal : Cert.EvInDxRefIdeal.Facts) (hEvInDw : Cert.EvInDw.Facts) (hEvInDwIdeal : Cert.EvInDwIdeal.Facts) (hEvInDwRefIdeal : Cert.EvInDwRefIdeal.Facts) (hEvUqDx : Cert.EvUqDx.Facts) (hEvUqDxIdeal : Cert.EvUqDxIdeal.Facts) (hEvUqDxRefIdeal : Cert.EvUqDxRefIdeal.Facts) (hEvUqDw : Cert.EvUqDw.Facts) (hEvUqDwIdeal : Cert.EvUqDwIdeal.Facts) (hEvUqDwRefIdeal : Cert.EvUqDwRefIdeal.Facts) (hEvUkvDx : Cert.EvUkvDx.Facts) (hEvUkvDxIdeal : Cert.EvUkvDxIdeal.Facts) (hEvUkvDxRefIdeal : Cert.EvUkvDxRefIdeal.Facts) (hEvUkvDw : Cert.EvUkvDw.Facts) (hEvUkvDwIdeal : Cert.EvUkvDwIdeal.Facts) (hEvUkvDwRefIdeal : Cert.EvUkvDwRefIdeal.Facts) (hOdOutDx : Cert.OdOutDx.Facts) (hOdOutDxIdeal : Cert.OdOutDxIdeal.Facts) (hOdOutDxRefIdeal : Cert.OdOutDxRefIdeal.Facts) (hOdOutDw : Cert.OdOutDw.Facts) (hOdOutDwIdeal : Cert.OdOutDwIdeal.Facts) (hOdOutDwRefIdeal : Cert.OdOutDwRefIdeal.Facts) (hEvOutDx : Cert.EvOutDx.Facts) (hEvOutDxIdeal : Cert.EvOutDxIdeal.Facts) (hEvOutDxRefIdeal : Cert.EvOutDxRefIdeal.Facts) (hEvOutDw : Cert.EvOutDw.Facts) (hEvOutDwIdeal : Cert.EvOutDwIdeal.Facts) (hEvOutDwRefIdeal : Cert.EvOutDwRefIdeal.Facts) (hOdIn : Cert.OdIn.Facts) (hOdInIdeal : Cert.OdInIdeal.Facts) (hOdInRefIdeal : Cert.OdInRefIdeal.Facts) (hEvIn : Cert.EvIn.Facts) (hEvInIdeal : Cert.EvInIdeal.Facts) (hEvInRefIdeal : Cert.EvInRefIdeal.Facts) (hEvUq : Cert.EvUq.Facts) (hEvUqIdeal : Cert.EvUqIdeal.Facts) (hEvUqRefIdeal : Cert.EvUqRefIdeal.Facts) (hEvUkv : Cert.EvUkv.Facts) (hEvUkvIdeal : Cert.EvUkvIdeal.Facts) (hEvUkvRefIdeal : Cert.EvUkvRefIdeal.Facts) (hOdOut : Cert.OdOut.Facts) (hOdOutIdeal : Cert.OdOutIdeal.Facts) (hOdOutRefIdeal : Cert.OdOutRefIdeal.Facts) (hEvOut : Cert.EvOut.Facts) (hEvOutIdeal : Cert.EvOutIdeal.Facts) (hEvOutRefIdeal : Cert.EvOutRefIdeal.Facts) (hPre_finite : Cert.Pre_finite.Facts) (hPre_finite_mid : Cert.Pre_finite_mid.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_MidBwd (hMidBwd := hMidBwd)
    ∧ quiescent_MidBwdIdeal (hMidBwdIdeal := hMidBwdIdeal)
    ∧ quiescent_MidBwdIdeal_pre_finite_mid (hMidBwdIdeal := hMidBwdIdeal) (hPre_finite_mid := hPre_finite_mid)
    ∧ quiescent_MidBwdRefIdeal (hMidBwdRefIdeal := hMidBwdRefIdeal)
    ∧ quiescent_MidBwdRefIdeal_pre_finite_mid (hMidBwdRefIdeal := hMidBwdRefIdeal) (hPre_finite_mid := hPre_finite_mid)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_Up (hUp := hUp)
    ∧ quiescent_UpIdeal (hUpIdeal := hUpIdeal)
    ∧ quiescent_UpRefIdeal (hUpRefIdeal := hUpRefIdeal)
    ∧ quiescent_Mid (hMid := hMid)
    ∧ quiescent_MidIdeal (hMidIdeal := hMidIdeal)
    ∧ quiescent_MidRefIdeal (hMidRefIdeal := hMidRefIdeal)
    ∧ quiescent_Down (hDown := hDown)
    ∧ quiescent_DownIdeal (hDownIdeal := hDownIdeal)
    ∧ quiescent_DownRefIdeal (hDownRefIdeal := hDownRefIdeal)
    ∧ quiescent_OdMid (hOdMid := hOdMid)
    ∧ quiescent_OdMidIdeal (hOdMidIdeal := hOdMidIdeal)
    ∧ quiescent_OdMidRefIdeal (hOdMidRefIdeal := hOdMidRefIdeal)
    ∧ quiescent_OdMidBwd (hOdMidBwd := hOdMidBwd)
    ∧ quiescent_OdMidBwdIdeal (hOdMidBwdIdeal := hOdMidBwdIdeal)
    ∧ quiescent_OdMidBwdRefIdeal (hOdMidBwdRefIdeal := hOdMidBwdRefIdeal)
    ∧ quiescent_Norm (hNorm := hNorm)
    ∧ quiescent_NormIdeal (hNormIdeal := hNormIdeal)
    ∧ quiescent_NormRefIdeal (hNormRefIdeal := hNormRefIdeal)
    ∧ quiescent_MixNorm (hMixNorm := hMixNorm)
    ∧ quiescent_MixNormIdeal (hMixNormIdeal := hMixNormIdeal)
    ∧ quiescent_MixNormRefIdeal (hMixNormRefIdeal := hMixNormRefIdeal)
    ∧ quiescent_OdInDx (hOdInDx := hOdInDx)
    ∧ quiescent_OdInDxIdeal (hOdInDxIdeal := hOdInDxIdeal)
    ∧ quiescent_OdInDxRefIdeal (hOdInDxRefIdeal := hOdInDxRefIdeal)
    ∧ quiescent_OdInDw (hOdInDw := hOdInDw)
    ∧ quiescent_OdInDwIdeal (hOdInDwIdeal := hOdInDwIdeal)
    ∧ quiescent_OdInDwRefIdeal (hOdInDwRefIdeal := hOdInDwRefIdeal)
    ∧ quiescent_EvInDx (hEvInDx := hEvInDx)
    ∧ quiescent_EvInDxIdeal (hEvInDxIdeal := hEvInDxIdeal)
    ∧ quiescent_EvInDxRefIdeal (hEvInDxRefIdeal := hEvInDxRefIdeal)
    ∧ quiescent_EvInDw (hEvInDw := hEvInDw)
    ∧ quiescent_EvInDwIdeal (hEvInDwIdeal := hEvInDwIdeal)
    ∧ quiescent_EvInDwRefIdeal (hEvInDwRefIdeal := hEvInDwRefIdeal)
    ∧ quiescent_EvUqDx (hEvUqDx := hEvUqDx)
    ∧ quiescent_EvUqDxIdeal (hEvUqDxIdeal := hEvUqDxIdeal)
    ∧ quiescent_EvUqDxRefIdeal (hEvUqDxRefIdeal := hEvUqDxRefIdeal)
    ∧ quiescent_EvUqDw (hEvUqDw := hEvUqDw)
    ∧ quiescent_EvUqDwIdeal (hEvUqDwIdeal := hEvUqDwIdeal)
    ∧ quiescent_EvUqDwRefIdeal (hEvUqDwRefIdeal := hEvUqDwRefIdeal)
    ∧ quiescent_EvUkvDx (hEvUkvDx := hEvUkvDx)
    ∧ quiescent_EvUkvDxIdeal (hEvUkvDxIdeal := hEvUkvDxIdeal)
    ∧ quiescent_EvUkvDxRefIdeal (hEvUkvDxRefIdeal := hEvUkvDxRefIdeal)
    ∧ quiescent_EvUkvDw (hEvUkvDw := hEvUkvDw)
    ∧ quiescent_EvUkvDwIdeal (hEvUkvDwIdeal := hEvUkvDwIdeal)
    ∧ quiescent_EvUkvDwRefIdeal (hEvUkvDwRefIdeal := hEvUkvDwRefIdeal)
    ∧ quiescent_OdOutDx (hOdOutDx := hOdOutDx)
    ∧ quiescent_OdOutDxIdeal (hOdOutDxIdeal := hOdOutDxIdeal)
    ∧ quiescent_OdOutDxRefIdeal (hOdOutDxRefIdeal := hOdOutDxRefIdeal)
    ∧ quiescent_OdOutDw (hOdOutDw := hOdOutDw)
    ∧ quiescent_OdOutDwIdeal (hOdOutDwIdeal := hOdOutDwIdeal)
    ∧ quiescent_OdOutDwRefIdeal (hOdOutDwRefIdeal := hOdOutDwRefIdeal)
    ∧ quiescent_EvOutDx (hEvOutDx := hEvOutDx)
    ∧ quiescent_EvOutDxIdeal (hEvOutDxIdeal := hEvOutDxIdeal)
    ∧ quiescent_EvOutDxRefIdeal (hEvOutDxRefIdeal := hEvOutDxRefIdeal)
    ∧ quiescent_EvOutDw (hEvOutDw := hEvOutDw)
    ∧ quiescent_EvOutDwIdeal (hEvOutDwIdeal := hEvOutDwIdeal)
    ∧ quiescent_EvOutDwRefIdeal (hEvOutDwRefIdeal := hEvOutDwRefIdeal)
    ∧ quiescent_OdIn (hOdIn := hOdIn)
    ∧ quiescent_OdInIdeal (hOdInIdeal := hOdInIdeal)
    ∧ quiescent_OdInRefIdeal (hOdInRefIdeal := hOdInRefIdeal)
    ∧ quiescent_EvIn (hEvIn := hEvIn)
    ∧ quiescent_EvInIdeal (hEvInIdeal := hEvInIdeal)
    ∧ quiescent_EvInRefIdeal (hEvInRefIdeal := hEvInRefIdeal)
    ∧ quiescent_EvUq (hEvUq := hEvUq)
    ∧ quiescent_EvUqIdeal (hEvUqIdeal := hEvUqIdeal)
    ∧ quiescent_EvUqRefIdeal (hEvUqRefIdeal := hEvUqRefIdeal)
    ∧ quiescent_EvUkv (hEvUkv := hEvUkv)
    ∧ quiescent_EvUkvIdeal (hEvUkvIdeal := hEvUkvIdeal)
    ∧ quiescent_EvUkvRefIdeal (hEvUkvRefIdeal := hEvUkvRefIdeal)
    ∧ quiescent_OdOut (hOdOut := hOdOut)
    ∧ quiescent_OdOutIdeal (hOdOutIdeal := hOdOutIdeal)
    ∧ quiescent_OdOutRefIdeal (hOdOutRefIdeal := hOdOutRefIdeal)
    ∧ quiescent_EvOut (hEvOut := hEvOut)
    ∧ quiescent_EvOutIdeal (hEvOutIdeal := hEvOutIdeal)
    ∧ quiescent_EvOutRefIdeal (hEvOutRefIdeal := hEvOutRefIdeal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_MidBwd_MidBwdIdeal
    ∧ algebraic_MidBwdIdeal_MidBwdRefIdeal_pre_finite_mid (hMidBwdIdeal := hMidBwdIdeal) (hMidBwdRefIdeal := hMidBwdRefIdeal) (hPre_finite_mid := hPre_finite_mid)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_GateBwd_GateBwdIdeal
    ∧ algebraic_GateBwdIdeal_GateBwdRefIdeal (hGateBwdIdeal := hGateBwdIdeal) (hGateBwdRefIdeal := hGateBwdRefIdeal)
    ∧ preserves_Up_UpIdeal
    ∧ algebraic_UpIdeal_UpRefIdeal (hUpIdeal := hUpIdeal) (hUpRefIdeal := hUpRefIdeal)
    ∧ preserves_Mid_MidIdeal
    ∧ algebraic_MidIdeal_MidRefIdeal (hMidIdeal := hMidIdeal) (hMidRefIdeal := hMidRefIdeal)
    ∧ preserves_Down_DownIdeal
    ∧ algebraic_DownIdeal_DownRefIdeal (hDownIdeal := hDownIdeal) (hDownRefIdeal := hDownRefIdeal)
    ∧ preserves_OdMid_OdMidIdeal
    ∧ algebraic_OdMidIdeal_OdMidRefIdeal (hOdMidIdeal := hOdMidIdeal) (hOdMidRefIdeal := hOdMidRefIdeal)
    ∧ preserves_OdMidBwd_OdMidBwdIdeal
    ∧ algebraic_OdMidBwdIdeal_OdMidBwdRefIdeal (hOdMidBwdIdeal := hOdMidBwdIdeal) (hOdMidBwdRefIdeal := hOdMidBwdRefIdeal)
    ∧ preserves_Norm_NormIdeal
    ∧ algebraic_NormIdeal_NormRefIdeal (hNormIdeal := hNormIdeal) (hNormRefIdeal := hNormRefIdeal)
    ∧ preserves_MixNorm_MixNormIdeal
    ∧ algebraic_MixNormIdeal_MixNormRefIdeal (hMixNormIdeal := hMixNormIdeal) (hMixNormRefIdeal := hMixNormRefIdeal)
    ∧ preserves_OdInDx_OdInDxIdeal
    ∧ algebraic_OdInDxIdeal_OdInDxRefIdeal (hOdInDxIdeal := hOdInDxIdeal) (hOdInDxRefIdeal := hOdInDxRefIdeal)
    ∧ preserves_OdInDw_OdInDwIdeal
    ∧ algebraic_OdInDwIdeal_OdInDwRefIdeal (hOdInDwIdeal := hOdInDwIdeal) (hOdInDwRefIdeal := hOdInDwRefIdeal)
    ∧ preserves_EvInDx_EvInDxIdeal
    ∧ algebraic_EvInDxIdeal_EvInDxRefIdeal (hEvInDxIdeal := hEvInDxIdeal) (hEvInDxRefIdeal := hEvInDxRefIdeal)
    ∧ preserves_EvInDw_EvInDwIdeal
    ∧ algebraic_EvInDwIdeal_EvInDwRefIdeal (hEvInDwIdeal := hEvInDwIdeal) (hEvInDwRefIdeal := hEvInDwRefIdeal)
    ∧ preserves_EvUqDx_EvUqDxIdeal
    ∧ algebraic_EvUqDxIdeal_EvUqDxRefIdeal (hEvUqDxIdeal := hEvUqDxIdeal) (hEvUqDxRefIdeal := hEvUqDxRefIdeal)
    ∧ preserves_EvUqDw_EvUqDwIdeal
    ∧ algebraic_EvUqDwIdeal_EvUqDwRefIdeal (hEvUqDwIdeal := hEvUqDwIdeal) (hEvUqDwRefIdeal := hEvUqDwRefIdeal)
    ∧ preserves_EvUkvDx_EvUkvDxIdeal
    ∧ algebraic_EvUkvDxIdeal_EvUkvDxRefIdeal (hEvUkvDxIdeal := hEvUkvDxIdeal) (hEvUkvDxRefIdeal := hEvUkvDxRefIdeal)
    ∧ preserves_EvUkvDw_EvUkvDwIdeal
    ∧ algebraic_EvUkvDwIdeal_EvUkvDwRefIdeal (hEvUkvDwIdeal := hEvUkvDwIdeal) (hEvUkvDwRefIdeal := hEvUkvDwRefIdeal)
    ∧ preserves_OdOutDx_OdOutDxIdeal
    ∧ algebraic_OdOutDxIdeal_OdOutDxRefIdeal (hOdOutDxIdeal := hOdOutDxIdeal) (hOdOutDxRefIdeal := hOdOutDxRefIdeal)
    ∧ preserves_OdOutDw_OdOutDwIdeal
    ∧ algebraic_OdOutDwIdeal_OdOutDwRefIdeal (hOdOutDwIdeal := hOdOutDwIdeal) (hOdOutDwRefIdeal := hOdOutDwRefIdeal)
    ∧ preserves_EvOutDx_EvOutDxIdeal
    ∧ algebraic_EvOutDxIdeal_EvOutDxRefIdeal (hEvOutDxIdeal := hEvOutDxIdeal) (hEvOutDxRefIdeal := hEvOutDxRefIdeal)
    ∧ preserves_EvOutDw_EvOutDwIdeal
    ∧ algebraic_EvOutDwIdeal_EvOutDwRefIdeal (hEvOutDwIdeal := hEvOutDwIdeal) (hEvOutDwRefIdeal := hEvOutDwRefIdeal)
    ∧ preserves_OdIn_OdInIdeal
    ∧ algebraic_OdInIdeal_OdInRefIdeal (hOdInIdeal := hOdInIdeal) (hOdInRefIdeal := hOdInRefIdeal)
    ∧ preserves_EvIn_EvInIdeal
    ∧ algebraic_EvInIdeal_EvInRefIdeal (hEvInIdeal := hEvInIdeal) (hEvInRefIdeal := hEvInRefIdeal)
    ∧ preserves_EvUq_EvUqIdeal
    ∧ algebraic_EvUqIdeal_EvUqRefIdeal (hEvUqIdeal := hEvUqIdeal) (hEvUqRefIdeal := hEvUqRefIdeal)
    ∧ preserves_EvUkv_EvUkvIdeal
    ∧ algebraic_EvUkvIdeal_EvUkvRefIdeal (hEvUkvIdeal := hEvUkvIdeal) (hEvUkvRefIdeal := hEvUkvRefIdeal)
    ∧ preserves_OdOut_OdOutIdeal
    ∧ algebraic_OdOutIdeal_OdOutRefIdeal (hOdOutIdeal := hOdOutIdeal) (hOdOutRefIdeal := hOdOutRefIdeal)
    ∧ preserves_EvOut_EvOutIdeal
    ∧ algebraic_EvOutIdeal_EvOutRefIdeal (hEvOutIdeal := hEvOutIdeal) (hEvOutRefIdeal := hEvOutRefIdeal)
-- ==== Pre_finite.lean ====
abbrev S8192x8x96 : Shape := ⟨3, ![8192, 8, 96]⟩
abbrev S8448x8x96 : Shape := ⟨3, ![8448, 8, 96]⟩
abbrev S8448x8x64 : Shape := ⟨3, ![8448, 8, 64]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8448x8x96 : S_.BroadcastsInDim S8448x8x96 (![] : Fin 0 → Fin S8448x8x96.rank)
  reducesTo_S8448x8x96_S_d0_1_2 : S8448x8x96.ReducesTo [0, 1, 2] S_
  bcast_S_S8448x8x64 : S_.BroadcastsInDim S8448x8x64 (![] : Fin 0 → Fin S8448x8x64.rank)
  reducesTo_S8448x8x64_S_d0_1_2 : S8448x8x64.ReducesTo [0, 1, 2] S_
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part1 {F : FTy → Type} [FloatOps F] (main_v13 : IVec S_ 1) (main_v16 : IVec S8192x8x64 1) : IVec S_ 1 :=
  let main_c_5 : IVec S_ 1 := constantI S_ 1 1#1
  let main_v17 : IVec S_ 1 := (fun x v => Host.reduce IntOp.andi x v reducesTo_S8192x8x64_S_d0_1_2 h_S_) main_v16 main_c_5
  let main_v18 : IVec S_ 1 := andi main_v13 main_v17
  main_v18

def fn {F : FTy → Type} [FloatOps F] (main_arg0 : FVec F S8192x8x96 .f32) (main_arg1 : FVec F S8448x8x96 .f32) (main_arg2 : FVec F S8448x8x64 .f32) (main_arg3 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8448x8x96 .f32 := Host.absf main_arg1
  let main_cst_0 : FVec F S_ .f32 := constant S_ .f32 0x7F800000#32
  let main_v5 : FVec F S8448x8x96 .f32 := broadcastInDim S8448x8x96 ![] bcast_S_S8448x8x96 main_cst_0
  let main_v6 : IVec S8448x8x96 1 := cmpf .olt main_v4 main_v5
  let main_c_1 : IVec S_ 1 := constantI S_ 1 1#1
  let main_v7 : IVec S_ 1 := (fun x v => Host.reduce IntOp.andi x v reducesTo_S8448x8x96_S_d0_1_2 h_S_) main_v6 main_c_1
  let main_v8 : IVec S_ 1 := andi main_v3 main_v7
  let main_v9 : FVec F S8448x8x64 .f32 := Host.absf main_arg2
  let main_cst_2 : FVec F S_ .f32 := constant S_ .f32 0x7F800000#32
  let main_v10 : FVec F S8448x8x64 .f32 := broadcastInDim S8448x8x64 ![] bcast_S_S8448x8x64 main_cst_2
  let main_v11 : IVec S8448x8x64 1 := cmpf .olt main_v9 main_v10
  let main_c_3 : IVec S_ 1 := constantI S_ 1 1#1
  let main_v12 : IVec S_ 1 := (fun x v => Host.reduce IntOp.andi x v reducesTo_S8448x8x64_S_d0_1_2 h_S_) main_v11 main_c_3
  let main_v13 : IVec S_ 1 := andi main_v8 main_v12
  let main_v14 : FVec F S8192x8x64 .f32 := Host.absf main_arg3
  let main_cst_4 : FVec F S_ .f32 := constant S_ .f32 0x7F800000#32
  let main_v15 : FVec F S8192x8x64 .f32 := broadcastInDim S8192x8x64 ![] bcast_S_S8192x8x64 main_cst_4
  let main_v16 : IVec S8192x8x64 1 := cmpf .olt main_v14 main_v15
  fn_part1 (F := F) main_v13 main_v16
-- ==== Pre_finite_mid.lean ====
abbrev S2x4x8192x704 : Shape := ⟨4, ![2, 4, 8192, 704]⟩
abbrev S4x8192x704 : Shape := ⟨3, ![4, 8192, 704]⟩
abbrev S4x3x704 : Shape := ⟨3, ![4, 3, 704]⟩
abbrev S4x1x704 : Shape := ⟨3, ![4, 1, 704]⟩
abbrev S1x4x8192x704 : Shape := ⟨4, ![1, 4, 8192, 704]⟩
abbrev S_ : Shape := ⟨0, ![]⟩

class Facts : Prop where
  slices_S2x4x8192x704_S1x4x8192x704_1_0_0_0 : S2x4x8192x704.Slices ![1, 0, 0, 0] S1x4x8192x704
  shapeCasts_S1x4x8192x704_S4x8192x704 : S1x4x8192x704.ShapeCasts S4x8192x704
  bcast_S_S4x8192x704 : S_.BroadcastsInDim S4x8192x704 (![] : Fin 0 → Fin S4x8192x704.rank)
  reducesTo_S4x8192x704_S_d0_1_2 : S4x8192x704.ReducesTo [0, 1, 2] S_
  h_S_ : 0 < S_.numel

variable [Facts]

def fn {F : FTy → Type} [FloatOps F] (main_arg0 : FVec F S2x4x8192x704 .f32) (main_arg1 : FVec F S4x8192x704 .f32) (main_arg2 : FVec F S4x3x704 .f32) (main_arg3 : FVec F S4x1x704 .f32) : IVec S_ 1 :=
  let main_v0 : FVec F S1x4x8192x704 .f32 := (extractStridedSlice S1x4x8192x704 ![1, 0, 0, 0] · slices_S2x4x8192x704_S1x4x8192x704_1_0_0_0) main_arg0
  let main_v1 : FVec F S4x8192x704 .f32 := shapeCast S4x8192x704 main_v0 shapeCasts_S1x4x8192x704_S4x8192x704
  let main_v2 : FVec F S4x8192x704 .f32 := mulf main_arg1 main_v1
  let main_v3 : FVec F S4x8192x704 .f32 := Host.absf main_v2
  let main_cst : FVec F S_ .f32 := constant S_ .f32 0x7F800000#32
  let main_v4 : FVec F S4x8192x704 .f32 := broadcastInDim S4x8192x704 ![] bcast_S_S4x8192x704 main_cst
  let main_v5 : IVec S4x8192x704 1 := cmpf .olt main_v3 main_v4
  let main_c : IVec S_ 1 := constantI S_ 1 1#1
  let main_v6 : IVec S_ 1 := (fun x v => Host.reduce IntOp.andi x v reducesTo_S4x8192x704_S_d0_1_2 h_S_) main_v5 main_c
  main_v6
-- ==== Kernel.lean ====
abbrev S8192x8x96 : Shape := ⟨3, ![8192, 8, 96]⟩
abbrev S8448x8x96 : Shape := ⟨3, ![8448, 8, 96]⟩
abbrev S8448x8x64 : Shape := ⟨3, ![8448, 8, 64]⟩
abbrev S8192x8x64 : Shape := ⟨3, ![8192, 8, 64]⟩
abbrev S_ : Shape := ⟨0, ![]⟩
abbrev S8192x8x128 : Shape := ⟨3, ![8192, 8, 128]⟩
abbrev S8192x1024 : Shape := ⟨2, ![8192, 1024]⟩
abbrev S8448x8x128 : Shape := ⟨3, ![8448, 8, 128]⟩
abbrev S8448x1024 : Shape := ⟨2, ![8448, 1024]⟩
abbrev S1024x128 : Shape := ⟨2, ![1024, 128]⟩
abbrev S8448x128 : Shape := ⟨2, ![8448, 128]⟩
abbrev S768x128 : Shape := ⟨2, ![768, 128]⟩
abbrev S1024x768 : Shape := ⟨2, ![1024, 768]⟩
abbrev S1024 : Shape := ⟨1, ![1024]⟩
abbrev S1024x1 : Shape := ⟨2, ![1024, 1]⟩
abbrev S8192x512 : Shape := ⟨2, ![8192, 512]⟩
abbrev S8192x1536 : Shape := ⟨2, ![8192, 1536]⟩
abbrev S256x1536 : Shape := ⟨2, ![256, 1536]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S8192x128 : Shape := ⟨2, ![8192, 128]⟩
abbrev S512x128 : Shape := ⟨2, ![512, 128]⟩
abbrev S512x768 : Shape := ⟨2, ![512, 768]⟩
abbrev S512x1 : Shape := ⟨2, ![512, 1]⟩

abbrev nBuf : Space → Nat
  | .hbm => 50
  | .vmem => 41
  | .smem => 0
  | _ => 0

abbrev bufTy : (tb : Table) → Fin (tcTables nBuf tb) → BufTy
  | .hbm, ⟨0, _⟩ => ⟨S8192x8x96, .f32⟩
  | .hbm, ⟨1, _⟩ => ⟨S8448x8x96, .f32⟩
  | .hbm, ⟨2, _⟩ => ⟨S8448x8x64, .f32⟩
  | .hbm, ⟨3, _⟩ => ⟨S8192x8x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i32⟩
  | .hbm, ⟨9, _⟩ => ⟨S_, .f32⟩
  | .hbm, ⟨10, _⟩ => ⟨S8192x8x128, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S_, .i32⟩
  | .hbm, ⟨16, _⟩ => ⟨S_, .f32⟩
  | .hbm, ⟨17, _⟩ => ⟨S8448x8x128, .f32⟩
  | .hbm, ⟨18, _⟩ => ⟨S8448x1024, .f32⟩
  | .hbm, ⟨19, _⟩ => ⟨S8448x1024, .bf16⟩
  | .hbm, ⟨20, _⟩ => ⟨S_, .i32⟩
  | .hbm, ⟨21, _⟩ => ⟨S_, .f32⟩
  | .hbm, ⟨22, _⟩ => ⟨S8448x8x128, .f32⟩
  | .hbm, ⟨23, _⟩ => ⟨S8448x1024, .f32⟩
  | .hbm, ⟨24, _⟩ => ⟨S8448x1024, .bf16⟩
  | .hbm, ⟨25, _⟩ => ⟨S8192x1024, .bf16⟩
  | .hbm, ⟨26, _⟩ => ⟨S8192x1024, .f32⟩
  | .hbm, ⟨27, _⟩ => ⟨S_, .f32⟩
  | .hbm, ⟨28, _⟩ => ⟨S8192x512, .f32⟩
  | .hbm, ⟨29, _⟩ => ⟨S_, .i32⟩
  | .hbm, ⟨30, _⟩ => ⟨S_, .f32⟩
  | .hbm, ⟨31, _⟩ => ⟨S8192x8x128, .f32⟩
  | .hbm, ⟨32, _⟩ => ⟨S8192x1024, .f32⟩
  | .hbm, ⟨33, _⟩ => ⟨S8192x1536, .f32⟩
  | .hbm, ⟨34, _⟩ => ⟨S8192x1024, .bf16⟩
  | .hbm, ⟨35, _⟩ => ⟨S8192x1024, .f32⟩
  | .hbm, ⟨36, _⟩ => ⟨S8192x1024, .f32⟩
  | .hbm, ⟨37, _⟩ => ⟨S8448x1024, .f32⟩
  | .hbm, ⟨38, _⟩ => ⟨S8448x1024, .f32⟩
  | .hbm, ⟨39, _⟩ => ⟨S8192x1024, .f32⟩
  | .hbm, ⟨40, _⟩ => ⟨S8192x8x128, .f32⟩
  | .hbm, ⟨41, _⟩ => ⟨S8192x8x64, .f32⟩
  | .hbm, ⟨42, _⟩ => ⟨S8192x1024, .f32⟩
  | .hbm, ⟨43, _⟩ => ⟨S8192x1024, .f32⟩
  | .hbm, ⟨44, _⟩ => ⟨S8192x8x128, .f32⟩
  | .hbm, ⟨45, _⟩ => ⟨S8192x8x96, .f32⟩
  | .hbm, ⟨46, _⟩ => ⟨S8448x8x128, .f32⟩
  | .hbm, ⟨47, _⟩ => ⟨S8448x8x96, .f32⟩
  | .hbm, ⟨48, _⟩ => ⟨S8448x8x128, .f32⟩
  | .hbm, ⟨49, _⟩ => ⟨S8448x8x64, .f32⟩
  | .local _ .vmem, ⟨0, _⟩ => ⟨S1024x128, .bf16⟩
  | .local _ .vmem, ⟨1, _⟩ => ⟨S1024x128, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S256x1536, .f32⟩
  | .local _ .vmem, ⟨14, _⟩ => ⟨S256x1536, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S8192x128, .bf16⟩
  | .local _ .vmem, ⟨22, _⟩ => ⟨S8192x128, .bf16⟩
  | .local _ .vmem, ⟨23, _⟩ => ⟨S768x128, .bf16⟩
  | .local _ .vmem, ⟨24, _⟩ => ⟨S768x128, .bf16⟩
  | .local _ .vmem, ⟨25, _⟩ => ⟨S768x128, .bf16⟩
  | .local _ .vmem, ⟨26, _⟩ => ⟨S768x128, .bf16⟩
  | .local _ .vmem, ⟨27, _⟩ => ⟨S8192x128, .bf16⟩
  | .local _ .vmem, ⟨28, _⟩ => ⟨S8192x128, .bf16⟩
  | .local _ .vmem, ⟨29, _⟩ => ⟨S8192x128, .f32⟩
  | .local _ .vmem, ⟨30, _⟩ => ⟨S8192x128, .f32⟩
  | .local _ .vmem, ⟨31, _⟩ => ⟨S8192x128, .f32⟩
  | .local _ .vmem, ⟨32, _⟩ => ⟨S8192x128, .f32⟩
  | .local _ .vmem, ⟨33, _⟩ => ⟨S8192x128, .f32⟩
  | .local _ .vmem, ⟨34, _⟩ => ⟨S8192x128, .f32⟩
  | .local _ .vmem, ⟨35, _⟩ => ⟨S768x128, .f32⟩
  | .local _ .vmem, ⟨36, _⟩ => ⟨S768x128, .f32⟩
  | .local _ .vmem, ⟨37, _⟩ => ⟨S768x128, .f32⟩
  | .local _ .vmem, ⟨38, _⟩ => ⟨S768x128, .f32⟩
  | .local _ .vmem, ⟨39, _⟩ => ⟨S768x128, .f32⟩
  | .local _ .vmem, ⟨40, _⟩ => ⟨S768x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_cst_3 : Ref sig .tc := ⟨.hbm, 27, rfl⟩
abbrev main_v14 : Ref sig .tc := ⟨.hbm, 28, rfl⟩
abbrev main_c_4 : Ref sig .tc := ⟨.hbm, 29, rfl⟩
abbrev main_call3_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v19_0 : Ref sig .tc := ⟨.hbm, 36, rfl⟩
abbrev main_v19_1 : Ref sig .tc := ⟨.hbm, 37, rfl⟩
abbrev main_v19_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg8_1 : Ref sig .tc := ⟨.vmem, 38, rfl⟩
abbrev cc2_scratch0 : Ref sig .tc := ⟨.vmem, 39, rfl⟩
abbrev cc2_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  let c768_i32 : BitVec 32 := 768#32
  let v14 : BitVec 32 := Scalar.muli c0_i32 c768_i32
  v14
def k0_off1 (c0_i32 : BitVec 32) : Fin 2 → Nat :=
  let c768_i32 : BitVec 32 := 768#32
  let v14 : BitVec 32 := Scalar.muli c0_i32 c768_i32
  let v15 : BitVec 32 := v14
  let v16 : Index := Scalar.indexCast v15
  let c0_9 : Index := 0#32
  ![v16.toNat, 0]
def k0_mult2 : BitVec 32 :=
  let c0_i32 : BitVec 32 := 0#32
  let c768_i32_21 : BitVec 32 := 768#32
  let v43 : BitVec 32 := Scalar.muli c0_i32 c768_i32_21
  v43
def k0_mult3 : BitVec 32 :=
  let c1_i32 : BitVec 32 := 1#32
  let c768_i32_28 : BitVec 32 := 768#32
  let v56 : BitVec 32 := Scalar.muli c1_i32 c768_i32_28
  v56
def k0_mult4 : BitVec 32 :=
  let c1_i32 : BitVec 32 := 1#32
  let c768_i32_41 : BitVec 32 := 768#32
  let v85 : BitVec 32 := Scalar.muli c1_i32 c768_i32_41
  v85
def k0_mult5 : BitVec 32 :=
  let c2_i32 : BitVec 32 := 2#32
  let c768_i32_48 : BitVec 32 := 768#32
  let v98 : BitVec 32 := Scalar.muli c2_i32 c768_i32_48
  v98
def k0_mult6 : BitVec 32 :=
  let c2_i32 : BitVec 32 := 2#32
  let c768_i32_61 : BitVec 32 := 768#32
  let v127 : BitVec 32 := Scalar.muli c2_i32 c768_i32_61
  v127
def k0_mult7 : BitVec 32 :=
  let c3_i32 : BitVec 32 := 3#32
  let c768_i32_68 : BitVec 32 := 768#32
  let v140 : BitVec 32 := Scalar.muli c3_i32 c768_i32_68
  v140
def k0_mult8 : BitVec 32 :=
  let c3_i32 : BitVec 32 := 3#32
  let c768_i32_81 : BitVec 32 := 768#32
  let v169 : BitVec 32 := Scalar.muli c3_i32 c768_i32_81
  v169
def k0_mult9 : BitVec 32 :=
  let c4_i32 : BitVec 32 := 4#32
  let c768_i32_88 : BitVec 32 := 768#32
  let v182 : BitVec 32 := Scalar.muli c4_i32 c768_i32_88
  v182
def k0_mult10 : BitVec 32 :=
  let c4_i32 : BitVec 32 := 4#32
  let c768_i32_101 : BitVec 32 := 768#32
  let v211 : BitVec 32 := Scalar.muli c4_i32 c768_i32_101
  v211
def k0_mult11 : BitVec 32 :=
  let c5_i32 : BitVec 32 := 5#32
  let c768_i32_108 : BitVec 32 := 768#32
  let v224 : BitVec 32 := Scalar.muli c5_i32 c768_i32_108
  v224
def k0_mult12 : BitVec 32 :=
  let c5_i32 : BitVec 32 := 5#32
  let c768_i32_121 : BitVec 32 := 768#32
  let v253 : BitVec 32 := Scalar.muli c5_i32 c768_i32_121
  v253
def k0_mult13 : BitVec 32 :=
  let c6_i32 : BitVec 32 := 6#32
  let c768_i32_128 : BitVec 32 := 768#32
  let v266 : BitVec 32 := Scalar.muli c6_i32 c768_i32_128
  v266
def k0_mult14 : BitVec 32 :=
  let c6_i32 : BitVec 32 := 6#32
  let c768_i32_141 : BitVec 32 := 768#32
  let v295 : BitVec 32 := Scalar.muli c6_i32 c768_i32_141
  v295
def k0_mult15 : BitVec 32 :=
  let c7_i32 : BitVec 32 := 7#32
  let c768_i32_148 : BitVec 32 := 768#32
  let v308 : BitVec 32 := Scalar.muli c7_i32 c768_i32_148
  v308
def k0_mult16 : BitVec 32 :=
  let c7_i32 : BitVec 32 := 7#32
  let c768_i32_161 : BitVec 32 := 768#32
  let v337 : BitVec 32 := Scalar.muli c7_i32 c768_i32_161
  v337
def k0_mult17 : BitVec 32 :=
  let c8_i32 : BitVec 32 := 8#32
  let c768_i32_168 : BitVec 32 := 768#32
  let v350 : BitVec 32 := Scalar.muli c8_i32 c768_i32_168
  v350
def k0_mult18 : BitVec 32 :=
  let c8_i32 : BitVec 32 := 8#32
  let c768_i32_181 : BitVec 32 := 768#32
  let v379 : BitVec 32 := Scalar.muli c8_i32 c768_i32_181
  v379
def k0_mult19 : BitVec 32 :=
  let c9_i32 : BitVec 32 := 9#32
  let c768_i32_188 : BitVec 32 := 768#32
  let v392 : BitVec 32 := Scalar.muli c9_i32 c768_i32_188
  v392
def k0_mult20 : BitVec 32 :=
  let c9_i32 : BitVec 32 := 9#32
  let c768_i32_201 : BitVec 32 := 768#32
  let v421 : BitVec 32 := Scalar.muli c9_i32 c768_i32_201
  v421
def k0_mult21 : BitVec 32 :=
  let c10_i32 : BitVec 32 := 10#32
  let c768_i32_208 : BitVec 32 := 768#32
  let v434 : BitVec 32 := Scalar.muli c10_i32 c768_i32_208
  v434
def k0_mult22 : BitVec 32 :=
  let c10_i32 : BitVec 32 := 10#32
  let c768_i32_221 : BitVec 32 := 768#32
  let v463 : BitVec 32 := Scalar.muli c10_i32 c768_i32_221
  v463
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage1_0 : Fin 2 → Memref sig .tc .vmem S256x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 11], ![false, false]⟩

@[reducible] def k2_t1_loop : Scf.Loop 32 :=
  let c0_i32_9 : BitVec 32 := 0#32
  let c16_i32 : BitVec 32 := 16#32
  let v15 : BitVec 32 := Scalar.addi c0_i32_9 c16_i32
  let c1_i32 : BitVec 32 := 1#32
  ⟨c0_i32_9, v15, c1_i32⟩
def k2_mult1 (k2_t1 : Fin k2_t1_loop.trips) : BitVec 32 :=
  let c0_i32_9 : BitVec 32 := 0#32
  let c1_i32 : BitVec 32 := 1#32
  let arg13 : BitVec 32 := Scf.iv c0_i32_9 c1_i32 k2_t1
  let c512_i32 : BitVec 32 := 512#32
  let v25 : BitVec 32 := Scalar.muli arg13 c512_i32
  v25
def k2_off1 (k2_t1 : Fin k2_t1_loop.trips) : Fin 2 → Nat :=
  let c0_i32_9 : BitVec 32 := 0#32
  let c1_i32 : BitVec 32 := 1#32
  let arg13 : BitVec 32 := Scf.iv c0_i32_9 c1_i32 k2_t1
  let c512_i32 : BitVec 32 := 512#32
  let v25 : BitVec 32 := Scalar.muli arg13 c512_i32
  let v26 : BitVec 32 := v25
  let v27 : Index := Scalar.indexCast v26
  let c0_21 : Index := 0#32
  ![v27.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S8192x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S768x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S768x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S8192x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S8192x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S8192x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S8192x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S768x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S768x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== Reference.lean ====
abbrev S8192x8x96 : Shape := ⟨3, ![8192, 8, 96]⟩
abbrev S8448x8x96 : Shape := ⟨3, ![8448, 8, 96]⟩
abbrev S8448x8x64 : Shape := ⟨3, ![8448, 8, 64]⟩
abbrev S8192x8x64 : Shape := ⟨3, ![8192, 8, 64]⟩
abbrev S8x8192x8448 : Shape := ⟨3, ![8, 8192, 8448]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x64x8448 : Shape := ⟨3, ![8, 64, 8448]⟩
abbrev S8x8448x96 : Shape := ⟨3, ![8, 8448, 96]⟩
abbrev S8x8192x96 : Shape := ⟨3, ![8, 8192, 96]⟩

abbrev nBuf : Space → Nat
  | .hbm => 73
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8448x8x96, .f32⟩
  | .hbm, ⟨2, _⟩ => ⟨S8448x8x64, .f32⟩
  | .hbm, ⟨3, _⟩ => ⟨S8192x8x64, .f32⟩
  | .hbm, ⟨4, _⟩ => ⟨S8x8192x8448, .f32⟩
  | .hbm, ⟨5, _⟩ => ⟨S_, .f32⟩
  | .hbm, ⟨6, _⟩ => ⟨S8x8192x8448, .f32⟩
  | .hbm, ⟨7, _⟩ => ⟨S8x8192x8448, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S8x8192x8448, .f32⟩
  | .hbm, ⟨12, _⟩ => ⟨S8x8192x8448, .i1⟩
  | .hbm, ⟨13, _⟩ => ⟨S8x8192x8448, .f32⟩
  | .hbm, ⟨14, _⟩ => ⟨S_, .f32⟩
  | .hbm, ⟨15, _⟩ => ⟨S8x8192, .f32⟩
  | .hbm, ⟨16, _⟩ => ⟨S_, .f32⟩
  | .hbm, ⟨17, _⟩ => ⟨S8x8192, .f32⟩
  | .hbm, ⟨18, _⟩ => ⟨S8x8192, .f32⟩
  | .hbm, ⟨19, _⟩ => ⟨S_, .f32⟩
  | .hbm, ⟨20, _⟩ => ⟨S8x8192, .f32⟩
  | .hbm, ⟨21, _⟩ => ⟨S8x8192, .i1⟩
  | .hbm, ⟨22, _⟩ => ⟨S_, .f32⟩
  | .hbm, ⟨23, _⟩ => ⟨S8x8192, .f32⟩
  | .hbm, ⟨24, _⟩ => ⟨S8x8192, .i1⟩
  | .hbm, ⟨25, _⟩ => ⟨S_, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192, .f32⟩
  | .hbm, ⟨33, _⟩ => ⟨S8x8192x1, .f32⟩
  | .hbm, ⟨34, _⟩ => ⟨S8x8192x8448, .f32⟩
  | .hbm, ⟨35, _⟩ => ⟨S8x8192x8448, .f32⟩
  | .hbm, ⟨36, _⟩ => ⟨S8x8192x8448, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8448, .f32⟩
  | .hbm, ⟨41, _⟩ => ⟨S8x8192x8448, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S8x64x8192, .f32⟩
  | .hbm, ⟨47, _⟩ => ⟨S8192x8x64, .f32⟩
  | .hbm, ⟨48, _⟩ => ⟨S8x64x8192, .f32⟩
  | .hbm, ⟨49, _⟩ => ⟨S8x8192x8448, .f32⟩
  | .hbm, ⟨50, _⟩ => ⟨S8x64x8448, .f32⟩
  | .hbm, ⟨51, _⟩ => ⟨S8448x8x64, .f32⟩
  | .hbm, ⟨52, _⟩ => ⟨S8x8192x8448, .f32⟩
  | .hbm, ⟨53, _⟩ => ⟨S8x8192x8448, .f32⟩
  | .hbm, ⟨54, _⟩ => ⟨S8x8192x8448, .f32⟩
  | .hbm, ⟨55, _⟩ => ⟨S_, .f32⟩
  | .hbm, ⟨56, _⟩ => ⟨S8x8192, .f32⟩
  | .hbm, ⟨57, _⟩ => ⟨S8x8192x1, .f32⟩
  | .hbm, ⟨58, _⟩ => ⟨S8x8192x1, .f32⟩
  | .hbm, ⟨59, _⟩ => ⟨S8x8192x8448, .f32⟩
  | .hbm, ⟨60, _⟩ => ⟨S8x8192x8448, .f32⟩
  | .hbm, ⟨61, _⟩ => ⟨S_, .f32⟩
  | .hbm, ⟨62, _⟩ => ⟨S8x8192, .f32⟩
  | .hbm, ⟨63, _⟩ => ⟨S8x8192x8448, .f32⟩
  | .hbm, ⟨64, _⟩ => ⟨S8x8192x8448, .f32⟩
  | .hbm, ⟨65, _⟩ => ⟨S8x8192x8448, .f32⟩
  | .hbm, ⟨66, _⟩ => ⟨S_, .f32⟩
  | .hbm, ⟨67, _⟩ => ⟨S8x8192x8448, .f32⟩
  | .hbm, ⟨68, _⟩ => ⟨S8x8192x8448, .f32⟩
  | .hbm, ⟨69, _⟩ => ⟨S8x8448x96, .f32⟩
  | .hbm, ⟨70, _⟩ => ⟨S8448x8x96, .f32⟩
  | .hbm, ⟨71, _⟩ => ⟨S8x8192x96, .f32⟩
  | .hbm, ⟨72, _⟩ => ⟨S8192x8x96, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== MidBwd.lean ====
abbrev S2x4x8192x704 : Shape := ⟨4, ![2, 4, 8192, 704]⟩
abbrev S4x8192x704 : Shape := ⟨3, ![4, 8192, 704]⟩
abbrev S4x3x704 : Shape := ⟨3, ![4, 3, 704]⟩
abbrev S4x1x704 : Shape := ⟨3, ![4, 1, 704]⟩
abbrev S2x1x16x704 : Shape := ⟨4, ![2, 1, 16, 704]⟩
abbrev S2x1x256x704 : Shape := ⟨4, ![2, 1, 256, 704]⟩
abbrev S1x16x704 : Shape := ⟨3, ![1, 16, 704]⟩
abbrev S1x256x704 : Shape := ⟨3, ![1, 256, 704]⟩
abbrev S1x3x704 : Shape := ⟨3, ![1, 3, 704]⟩
abbrev S1x1x704 : Shape := ⟨3, ![1, 1, 704]⟩
abbrev S2x16x704 : Shape := ⟨3, ![2, 16, 704]⟩
abbrev S2x256x704 : Shape := ⟨3, ![2, 256, 704]⟩
abbrev S2x288x704 : Shape := ⟨3, ![2, 288, 704]⟩
abbrev S1x288x704 : Shape := ⟨3, ![1, 288, 704]⟩
abbrev S288x704 : Shape := ⟨2, ![288, 704]⟩
abbrev S16x704 : Shape := ⟨2, ![16, 704]⟩
abbrev S256x704 : Shape := ⟨2, ![256, 704]⟩
abbrev S1x704 : Shape := ⟨2, ![1, 704]⟩
abbrev S1x1x256x704 : Shape := ⟨4, ![1, 1, 256, 704]⟩
abbrev S3x704 : Shape := ⟨2, ![3, 704]⟩
abbrev S704 : Shape := ⟨1, ![704]⟩

abbrev nBuf : Space → Nat
  | .hbm => 7
  | .vmem => 22
  | .smem => 0
  | _ => 0

abbrev bufTy : (tb : Table) → Fin (tcTables nBuf tb) → BufTy
  | .hbm, ⟨0, _⟩ => ⟨S2x4x8192x704, .f32⟩
  | .hbm, ⟨1, _⟩ => ⟨S4x8192x704, .f32⟩
  | .hbm, ⟨2, _⟩ => ⟨S4x3x704, .f32⟩
  | .hbm, ⟨3, _⟩ => ⟨S4x1x704, .f32⟩
  | .hbm, ⟨4, _⟩ => ⟨S2x4x8192x704, .bf16⟩
  | .hbm, ⟨5, _⟩ => ⟨S4x3x704, .f32⟩
  | .hbm, ⟨6, _⟩ => ⟨S4x1x704, .f32⟩
  | .local _ .vmem, ⟨0, _⟩ => ⟨S2x1x16x704, .f32⟩
  | .local _ .vmem, ⟨1, _⟩ => ⟨S2x1x16x704, .f32⟩
  | .local _ .vmem, ⟨2, _⟩ => ⟨S2x1x256x704, .f32⟩
  | .local _ .vmem, ⟨3, _⟩ => ⟨S2x1x256x704, .f32⟩
  | .local _ .vmem, ⟨4, _⟩ => ⟨S2x1x16x704, .f32⟩
  | .local _ .vmem, ⟨5, _⟩ => ⟨S2x1x16x704, .f32⟩
  | .local _ .vmem, ⟨6, _⟩ => ⟨S1x16x704, .f32⟩
  | .local _ .vmem, ⟨7, _⟩ => ⟨S1x16x704, .f32⟩
  | .local _ .vmem, ⟨8, _⟩ => ⟨S1x256x704, .f32⟩
  | .local _ .vmem, ⟨9, _⟩ => ⟨S1x256x704, .f32⟩
  | .local _ .vmem, ⟨10, _⟩ => ⟨S1x16x704, .f32⟩
  | .local _ .vmem, ⟨11, _⟩ => ⟨S1x16x704, .f32⟩
  | .local _ .vmem, ⟨12, _⟩ => ⟨S1x3x704, .f32⟩
  | .local _ .vmem, ⟨13, _⟩ => ⟨S1x3x704, .f32⟩
  | .local _ .vmem, ⟨14, _⟩ => ⟨S1x1x704, .f32⟩
  | .local _ .vmem, ⟨15, _⟩ => ⟨S1x1x704, .f32⟩
  | .local _ .vmem, ⟨16, _⟩ => ⟨S2x1x256x704, .bf16⟩
  | .local _ .vmem, ⟨17, _⟩ => ⟨S2x1x256x704, .bf16⟩
  | .local _ .vmem, ⟨18, _⟩ => ⟨S1x3x704, .f32⟩
  | .local _ .vmem, ⟨19, _⟩ => ⟨S1x3x704, .f32⟩
  | .local _ .vmem, ⟨20, _⟩ => ⟨S1x1x704, .f32⟩
  | .local _ .vmem, ⟨21, _⟩ => ⟨S1x1x704, .f32⟩
  | _, _ => ⟨S2x4x8192x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![c0_i32_6.toNat, arg0.toNat, v19.toNat, c0_i32_7.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c511_i32 : BitVec 32 := 511#32
  let v19 : BitVec 32 := Scalar.minsi v18 c511_i32
  let c0_i32_5 : BitVec 32 := 0#32
  let c0_i32_6 : BitVec 32 := 0#32
  let c0_i32_7 : BitVec 32 := 0#32
  ![c0_i32_5.toNat, arg0.toNat, v19.toNat, c0_i32_6.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  ![arg0.toNat, v19.toNat, c0_i32_6.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c511_i32 : BitVec 32 := 511#32
  let v19 : BitVec 32 := Scalar.minsi v18 c511_i32
  let c0_i32_5 : BitVec 32 := 0#32
  let c0_i32_6 : BitVec 32 := 0#32
  ![arg0.toNat, v19.toNat, c0_i32_5.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x16x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x16x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MidBwdRefIdeal.lean ====
abbrev S2x4x8192x704 : Shape := ⟨4, ![2, 4, 8192, 704]⟩
abbrev S4x8192x704 : Shape := ⟨3, ![4, 8192, 704]⟩
abbrev S4x3x704 : Shape := ⟨3, ![4, 3, 704]⟩
abbrev S4x1x704 : Shape := ⟨3, ![4, 1, 704]⟩
abbrev S1x4x8192x704 : Shape := ⟨4, ![1, 4, 8192, 704]⟩
abbrev S_ : Shape := ⟨0, ![]⟩
abbrev S4x8191x704 : Shape := ⟨3, ![4, 8191, 704]⟩
abbrev S4x704 : Shape := ⟨2, ![4, 704]⟩

abbrev nBuf : Space → Nat
  | .hbm => 100
  | .vmem => 0
  | .smem => 0
  | _ => 0

abbrev bufTy : (tb : Table) → Fin (tcTables nBuf tb) → BufTy
  | .hbm, ⟨0, _⟩ => ⟨S2x4x8192x704, .f32⟩
  | .hbm, ⟨1, _⟩ => ⟨S4x8192x704, .f32⟩
  | .hbm, ⟨2, _⟩ => ⟨S4x3x704, .f32⟩
  | .hbm, ⟨3, _⟩ => ⟨S4x1x704, .f32⟩
  | .hbm, ⟨4, _⟩ => ⟨S1x4x8192x704, .f32⟩
  | .hbm, ⟨5, _⟩ => ⟨S4x8192x704, .f32⟩
  | .hbm, ⟨6, _⟩ => ⟨S4x1x704, .f32⟩
  | .hbm, ⟨7, _⟩ => ⟨S_, .f32⟩
  | .hbm, ⟨8, _⟩ => ⟨S4x1x704, .f32⟩
  | .hbm, ⟨9, _⟩ => ⟨S4x8191x704, .f32⟩
  | .hbm, ⟨10, _⟩ => ⟨S4x8192x704, .f32⟩
  | .hbm, ⟨11, _⟩ => ⟨S_, .f32⟩
  | .hbm, ⟨12, _⟩ => ⟨S4x1x704, .f32⟩
  | .hbm, ⟨13, _⟩ => ⟨S4x8192x704, .f32⟩
  | .hbm, ⟨14, _⟩ => ⟨S4x8192x704, .f32⟩
  | .hbm, ⟨15, _⟩ => ⟨S4x1x704, .f32⟩
  | .hbm, ⟨16, _⟩ => ⟨S4x8192x704, .f32⟩
  | .hbm, ⟨17, _⟩ => ⟨S4x8192x704, .f32⟩
  | .hbm, ⟨18, _⟩ => ⟨S4x8192x704, .f32⟩
  | .hbm, ⟨19, _⟩ => ⟨S4x1x704, .f32⟩
  | .hbm, ⟨20, _⟩ => ⟨S_, .f32⟩
  | .hbm, ⟨21, _⟩ => ⟨S4x1x704, .f32⟩
  | .hbm, ⟨22, _⟩ => ⟨S4x8191x704, .f32⟩
  | .hbm, ⟨23, _⟩ => ⟨S4x8192x704, .f32⟩
  | .hbm, ⟨24, _⟩ => ⟨S_, .f32⟩
  | .hbm, ⟨25, _⟩ => ⟨S4x1x704, .f32⟩
  | .hbm, ⟨26, _⟩ => ⟨S4x8192x704, .f32⟩
  | .hbm, ⟨27, _⟩ => ⟨S4x8192x704, .f32⟩
  | .hbm, ⟨28, _⟩ => ⟨S4x8192x704, .f32⟩
  | .hbm, ⟨29, _⟩ => ⟨S4x8192x704, .f32⟩
  | .hbm, ⟨30, _⟩ => ⟨S4x8192x704, .f32⟩
  | .hbm, ⟨31, _⟩ => ⟨S4x8192x704, .f32⟩
  | .hbm, ⟨32, _⟩ => ⟨S4x8192x704, .f32⟩
  | .hbm, ⟨33, _⟩ => ⟨S_, .f32⟩
  | .hbm, ⟨34, _⟩ => ⟨S4x8192x704, .f32⟩
  | .hbm, ⟨35, _⟩ => ⟨S4x8192x704, .f32⟩
  | .hbm, ⟨36, _⟩ => ⟨S_, .f32⟩
  | .hbm, ⟨37, _⟩ => ⟨S4x8192x704, .f32⟩
  | .hbm, ⟨38, _⟩ => ⟨S4x8192x704, .f32⟩
  | .hbm, ⟨39, _⟩ => ⟨S_, .f32⟩
  | .hbm, ⟨40, _⟩ => ⟨S4x8192x704, .f32⟩
  | .hbm, ⟨41, _⟩ => ⟨S4x8192x704, .f32⟩
  | .hbm, ⟨42, _⟩ => ⟨S4x8192x704, .f32⟩
  | .hbm, ⟨43, _⟩ => ⟨S4x8192x704, .f32⟩
  | .hbm, ⟨44, _⟩ => ⟨S1x4x8192x704, .f32⟩
  | .hbm, ⟨45, _⟩ => ⟨S4x8192x704, .f32⟩
  | .hbm, ⟨46, _⟩ => ⟨S4x8192x704, .f32⟩
  | .hbm, ⟨47, _⟩ => ⟨S4x8192x704, .f32⟩
  | .hbm, ⟨48, _⟩ => ⟨S4x8192x704, .f32⟩
  | .hbm, ⟨49, _⟩ => ⟨S1x4x8192x704, .f32⟩
  | .hbm, ⟨50, _⟩ => ⟨S_, .f32⟩
  | .hbm, ⟨51, _⟩ => ⟨S2x4x8192x704, .f32⟩
  | .hbm, ⟨52, _⟩ => ⟨S4x8192x704, .f32⟩
  | .hbm, ⟨53, _⟩ => ⟨S4x8192x704, .f32⟩
  | .hbm, ⟨54, _⟩ => ⟨S4x8192x704, .f32⟩
  | .hbm, ⟨55, _⟩ => ⟨S4x8192x704, .f32⟩
  | .hbm, ⟨56, _⟩ => ⟨S_, .f32⟩
  | .hbm, ⟨57, _⟩ => ⟨S4x704, .f32⟩
  | .hbm, ⟨58, _⟩ => ⟨S4x1x704, .f32⟩
  | .hbm, ⟨59, _⟩ => ⟨S4x8192x704, .f32⟩
  | .hbm, ⟨60, _⟩ => ⟨S4x8192x704, .f32⟩
  | .hbm, ⟨61, _⟩ => ⟨S4x8192x704, .f32⟩
  | .hbm, ⟨62, _⟩ => ⟨S_, .f32⟩
  | .hbm, ⟨63, _⟩ => ⟨S4x704, .f32⟩
  | .hbm, ⟨64, _⟩ => ⟨S4x1x704, .f32⟩
  | .hbm, ⟨65, _⟩ => ⟨S4x8191x704, .f32⟩
  | .hbm, ⟨66, _⟩ => ⟨S4x1x704, .f32⟩
  | .hbm, ⟨67, _⟩ => ⟨S_, .f32⟩
  | .hbm, ⟨68, _⟩ => ⟨S4x8192x704, .f32⟩
  | .hbm, ⟨69, _⟩ => ⟨S_, .f32⟩
  | .hbm, ⟨70, _⟩ => ⟨S4x3x704, .f32⟩
  | .hbm, ⟨71, _⟩ => ⟨S4x8192x704, .f32⟩
  | .hbm, ⟨72, _⟩ => ⟨S4x8192x704, .f32⟩
  | .hbm, ⟨73, _⟩ => ⟨S4x8192x704, .f32⟩
  | .hbm, ⟨74, _⟩ => ⟨S4x8192x704, .f32⟩
  | .hbm, ⟨75, _⟩ => ⟨S_, .f32⟩
  | .hbm, ⟨76, _⟩ => ⟨S4x704, .f32⟩
  | .hbm, ⟨77, _⟩ => ⟨S4x1x704, .f32⟩
  | .hbm, ⟨78, _⟩ => ⟨S_, .f32⟩
  | .hbm, ⟨79, _⟩ => ⟨S4x3x704, .f32⟩
  | .hbm, ⟨80, _⟩ => ⟨S4x3x704, .f32⟩
  | .hbm, ⟨81, _⟩ => ⟨S4x8192x704, .f32⟩
  | .hbm, ⟨82, _⟩ => ⟨S4x8192x704, .f32⟩
  | .hbm, ⟨83, _⟩ => ⟨S4x8192x704, .f32⟩
  | .hbm, ⟨84, _⟩ => ⟨S_, .f32⟩
  | .hbm, ⟨85, _⟩ => ⟨S4x704, .f32⟩
  | .hbm, ⟨86, _⟩ => ⟨S4x1x704, .f32⟩
  | .hbm, ⟨87, _⟩ => ⟨S4x1x704, .f32⟩
  | .hbm, ⟨88, _⟩ => ⟨S4x8191x704, .f32⟩
  | .hbm, ⟨89, _⟩ => ⟨S_, .f32⟩
  | .hbm, ⟨90, _⟩ => ⟨S4x8192x704, .f32⟩
  | .hbm, ⟨91, _⟩ => ⟨S4x8192x704, .f32⟩
  | .hbm, ⟨92, _⟩ => ⟨S_, .f32⟩
  | .hbm, ⟨93, _⟩ => ⟨S4x3x704, .f32⟩
  | .hbm, ⟨94, _⟩ => ⟨S4x3x704, .f32⟩
  | .hbm, ⟨95, _⟩ => ⟨S1x4x8192x704, .f32⟩
  | .hbm, ⟨96, _⟩ => ⟨S_, .f32⟩
  | .hbm, ⟨97, _⟩ => ⟨S2x4x8192x704, .f32⟩
  | .hbm, ⟨98, _⟩ => ⟨S2x4x8192x704, .f32⟩
  | .hbm, ⟨99, _⟩ => ⟨S2x4x8192x704, .bf16⟩
  | _, _ => ⟨S2x4x8192x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v23_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v23_1 : Ref sig .tc := ⟨.hbm, 42, rfl⟩
abbrev main_v23_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== UpDx.lean ====
abbrev S8x8192x704 : Shape := ⟨3, ![8, 8192, 704]⟩
abbrev S8x1024x704 : Shape := ⟨3, ![8, 1024, 704]⟩
abbrev S8192x1024 : Shape := ⟨2, ![8192, 1024]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x8192x704, .bf16⟩
  | .hbm, ⟨1, _⟩ => ⟨S8x1024x704, .bf16⟩
  | .hbm, ⟨2, _⟩ => ⟨S8192x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 8, 1, 8, 1], ![false, false, false, false, false]⟩

def k0_cond2 (i : grid0.Coords) : BitVec 1 :=
  let arg3 : BitVec 32 := BitVec.ofNat 32 (i 3).val
  let c7_i32 : BitVec 32 := 7#32
  let v15 : BitVec 1 := Scalar.cmpi .eq arg3 c7_i32
  let arg4 : BitVec 32 := BitVec.ofNat 32 (i 4).val
  let c0_i32_11 : BitVec 32 := 0#32
  let v16 : BitVec 1 := Scalar.cmpi .eq arg4 c0_i32_11
  let v17 : BitVec 1 := Scalar.andi v15 v16
  let v18 : BitVec 32 := Scalar.extui v17
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== UpDxRefIdeal.lean ====
abbrev S8x8192x704 : Shape := ⟨3, ![8, 8192, 704]⟩
abbrev S8x1024x704 : Shape := ⟨3, ![8, 1024, 704]⟩
abbrev S_ : Shape := ⟨0, ![]⟩
abbrev S8192x1024 : Shape := ⟨2, ![8192, 1024]⟩
abbrev S8x704x8192 : Shape := ⟨3, ![8, 704, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x1024x704, .bf16⟩
  | .hbm, ⟨2, _⟩ => ⟨S_, .f32⟩
  | .hbm, ⟨3, _⟩ => ⟨S8192x1024, .f32⟩
  | .hbm, ⟨4, _⟩ => ⟨S8x1024x704, .f32⟩
  | .hbm, ⟨5, _⟩ => ⟨S8x704x8192, .f32⟩
  | .hbm, ⟨6, _⟩ => ⟨S8x8192x704, .f32⟩
  | .hbm, ⟨7, _⟩ => ⟨S8x8192x704, .f32⟩
  | .hbm, ⟨8, _⟩ => ⟨S8x704x8192, .f32⟩
  | .hbm, ⟨9, _⟩ => ⟨S8192x1024, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S8192x1024 : Shape := ⟨2, ![8192, 1024]⟩
abbrev S8x8192x704 : Shape := ⟨3, ![8, 8192, 704]⟩
abbrev S8x1024x704 : Shape := ⟨3, ![8, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8x8192x704, .bf16⟩
  | .hbm, ⟨2, _⟩ => ⟨S8x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![8, 1, 1, 1, 4], ![false, false, false, false, false]⟩

def k0_cond2 (i : grid0.Coords) : BitVec 1 :=
  let arg3 : BitVec 32 := BitVec.ofNat 32 (i 3).val
  let c0_i32_10 : BitVec 32 := 0#32
  let v14 : BitVec 1 := Scalar.cmpi .eq arg3 c0_i32_10
  let arg4 : BitVec 32 := BitVec.ofNat 32 (i 4).val
  let c3_i32 : BitVec 32 := 3#32
  let v15 : BitVec 1 := Scalar.cmpi .eq arg4 c3_i32
  let v16 : BitVec 1 := Scalar.andi v14 v15
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== UpDwRefIdeal.lean ====
abbrev S8192x1024 : Shape := ⟨2, ![8192, 1024]⟩
abbrev S8x8192x704 : Shape := ⟨3, ![8, 8192, 704]⟩
abbrev S_ : Shape := ⟨0, ![]⟩
abbrev S8x1024x704 : Shape := ⟨3, ![8, 1024, 704]⟩
abbrev S8x704x8192 : Shape := ⟨3, ![8, 704, 8192]⟩
abbrev S8x704x1024 : Shape := ⟨3, ![8, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x8192x704, .bf16⟩
  | .hbm, ⟨2, _⟩ => ⟨S_, .f32⟩
  | .hbm, ⟨3, _⟩ => ⟨S8x1024x704, .f32⟩
  | .hbm, ⟨4, _⟩ => ⟨S8192x1024, .f32⟩
  | .hbm, ⟨5, _⟩ => ⟨S8x704x8192, .f32⟩
  | .hbm, ⟨6, _⟩ => ⟨S8x8192x704, .f32⟩
  | .hbm, ⟨7, _⟩ => ⟨S8x8192x704, .f32⟩
  | .hbm, ⟨8, _⟩ => ⟨S8x704x8192, .f32⟩
  | .hbm, ⟨9, _⟩ => ⟨S8x704x1024, .f32⟩
  | .hbm, ⟨10, _⟩ => ⟨S8x1024x704, .f32⟩
  | .hbm, ⟨11, _⟩ => ⟨S8x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownDx.lean ====
abbrev S8192x1024 : Shape := ⟨2, ![8192, 1024]⟩
abbrev S4x704x1024 : Shape := ⟨3, ![4, 704, 1024]⟩
abbrev S4x8192x704 : Shape := ⟨3, ![4, 8192, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024x704 : Shape := ⟨2, ![1024, 704]⟩
abbrev S704x1024 : Shape := ⟨2, ![704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x704x1024, .bf16⟩
  | .hbm, ⟨2, _⟩ => ⟨S4x8192x704, .f32⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .f32⟩
  | .local _ .vmem, ⟨5, _⟩ => ⟨S1x1024x704, .f32⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![4, 8, 1, 1, 1], ![false, false, false, false, false]⟩

def k0_cond2 (i : grid0.Coords) : BitVec 1 :=
  let arg3 : BitVec 32 := BitVec.ofNat 32 (i 3).val
  let c0_i32_10 : BitVec 32 := 0#32
  let v14 : BitVec 1 := Scalar.cmpi .eq arg3 c0_i32_10
  let arg4 : BitVec 32 := BitVec.ofNat 32 (i 4).val
  let c0_i32_11 : BitVec 32 := 0#32
  let v15 : BitVec 1 := Scalar.cmpi .eq arg4 c0_i32_11
  let v16 : BitVec 1 := Scalar.andi v14 v15
  let v17 : BitVec 32 := Scalar.extui v16
  let c0_i32_12 : BitVec 32 := 0#32
  let v18 : BitVec 1 := Scalar.cmpi .ne v17 c0_i32_12
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg2.toNat, arg4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== DownDxRefIdeal.lean ====
abbrev S8192x1024 : Shape := ⟨2, ![8192, 1024]⟩
abbrev S4x704x1024 : Shape := ⟨3, ![4, 704, 1024]⟩
abbrev S_ : Shape := ⟨0, ![]⟩
abbrev S4x8192x704 : Shape := ⟨3, ![4, 8192, 704]⟩
abbrev S8192x4x704 : Shape := ⟨3, ![8192, 4, 704]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x704x1024, .bf16⟩
  | .hbm, ⟨2, _⟩ => ⟨S_, .f32⟩
  | .hbm, ⟨3, _⟩ => ⟨S4x8192x704, .f32⟩
  | .hbm, ⟨4, _⟩ => ⟨S4x704x1024, .f32⟩
  | .hbm, ⟨5, _⟩ => ⟨S8192x1024, .f32⟩
  | .hbm, ⟨6, _⟩ => ⟨S8192x1024, .f32⟩
  | .hbm, ⟨7, _⟩ => ⟨S8192x4x704, .f32⟩
  | .hbm, ⟨8, _⟩ => ⟨S4x8192x704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S4x8192x704 : Shape := ⟨3, ![4, 8192, 704]⟩
abbrev S8192x1024 : Shape := ⟨2, ![8192, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![4, 1, 1, 1, 4], ![false, false, false, false, false]⟩

def k0_cond2 (i : grid0.Coords) : BitVec 1 :=
  let arg3 : BitVec 32 := BitVec.ofNat 32 (i 3).val
  let c0_i32_10 : BitVec 32 := 0#32
  let v14 : BitVec 1 := Scalar.cmpi .eq arg3 c0_i32_10
  let arg4 : BitVec 32 := BitVec.ofNat 32 (i 4).val
  let c3_i32 : BitVec 32 := 3#32
  let v15 : BitVec 1 := Scalar.cmpi .eq arg4 c3_i32
  let v16 : BitVec 1 := Scalar.andi v14 v15
  let v17 : BitVec 32 := Scalar.extui v16
  let c0_i32_11 : BitVec 32 := 0#32
  let v18 : BitVec 1 := Scalar.cmpi .ne v17 c0_i32_11
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== DownDwRefIdeal.lean ====
abbrev S4x8192x704 : Shape := ⟨3, ![4, 8192, 704]⟩
abbrev S8192x1024 : Shape := ⟨2, ![8192, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S_, .f32⟩
  | .hbm, ⟨3, _⟩ => ⟨S4x704x1024, .f32⟩
  | .hbm, ⟨4, _⟩ => ⟨S4x8192x704, .f32⟩
  | .hbm, ⟨5, _⟩ => ⟨S8192x1024, .f32⟩
  | .hbm, ⟨6, _⟩ => ⟨S8192x1024, .f32⟩
  | .hbm, ⟨7, _⟩ => ⟨S1024x4x704, .f32⟩
  | .hbm, ⟨8, _⟩ => ⟨S4x704x1024, .f32⟩
  | .hbm, ⟨9, _⟩ => ⟨S4x704x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateBwd.lean ====
abbrev S8192x1024 : Shape := ⟨2, ![8192, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateBwdRefIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Up.lean ====
abbrev S8192x1024 : Shape := ⟨2, ![8192, 1024]⟩
abbrev S8x1024x704 : Shape := ⟨3, ![8, 1024, 704]⟩
abbrev S8x8192x704 : Shape := ⟨3, ![8, 8192, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S8x8192x704, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .f32⟩
  | .local _ .vmem, ⟨5, _⟩ => ⟨S1x1024x704, .f32⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![8, 8, 1, 1, 1], ![false, false, false, false, false]⟩

def k0_cond2 (i : grid0.Coords) : BitVec 1 :=
  let arg3 : BitVec 32 := BitVec.ofNat 32 (i 3).val
  let c0_i32_10 : BitVec 32 := 0#32
  let v14 : BitVec 1 := Scalar.cmpi .eq arg3 c0_i32_10
  let arg4 : BitVec 32 := BitVec.ofNat 32 (i 4).val
  let c0_i32_11 : BitVec 32 := 0#32
  let v15 : BitVec 1 := Scalar.cmpi .eq arg4 c0_i32_11
  let v16 : BitVec 1 := Scalar.andi v14 v15
  let v17 : BitVec 32 := Scalar.extui v16
  let c0_i32_12 : BitVec 32 := 0#32
  let v18 : BitVec 1 := Scalar.cmpi .ne v17 c0_i32_12
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== UpRefIdeal.lean ====
abbrev S8192x1024 : Shape := ⟨2, ![8192, 1024]⟩
abbrev S8x1024x704 : Shape := ⟨3, ![8, 1024, 704]⟩
abbrev S8x704x8192 : Shape := ⟨3, ![8, 704, 8192]⟩
abbrev S8x8192x704 : Shape := ⟨3, ![8, 8192, 704]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S8192x1024, .f32⟩
  | .hbm, ⟨3, _⟩ => ⟨S8x1024x704, .f32⟩
  | .hbm, ⟨4, _⟩ => ⟨S8x704x8192, .f32⟩
  | .hbm, ⟨5, _⟩ => ⟨S8x8192x704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mid.lean ====
abbrev S2x4x8192x704 : Shape := ⟨4, ![2, 4, 8192, 704]⟩
abbrev S4x3x704 : Shape := ⟨3, ![4, 3, 704]⟩
abbrev S4x1x704 : Shape := ⟨3, ![4, 1, 704]⟩
abbrev S4x8192x704 : Shape := ⟨3, ![4, 8192, 704]⟩
abbrev S2x1x16x704 : Shape := ⟨4, ![2, 1, 16, 704]⟩
abbrev S2x1x256x704 : Shape := ⟨4, ![2, 1, 256, 704]⟩
abbrev S1x3x704 : Shape := ⟨3, ![1, 3, 704]⟩
abbrev S1x1x704 : Shape := ⟨3, ![1, 1, 704]⟩
abbrev S1x256x704 : Shape := ⟨3, ![1, 256, 704]⟩
abbrev S2x16x704 : Shape := ⟨3, ![2, 16, 704]⟩
abbrev S2x256x704 : Shape := ⟨3, ![2, 256, 704]⟩
abbrev S2x288x704 : Shape := ⟨3, ![2, 288, 704]⟩
abbrev S1x288x704 : Shape := ⟨3, ![1, 288, 704]⟩
abbrev S288x704 : Shape := ⟨2, ![288, 704]⟩
abbrev S1x704 : Shape := ⟨2, ![1, 704]⟩
abbrev S256x704 : Shape := ⟨2, ![256, 704]⟩
abbrev S1x1x256x704 : Shape := ⟨4, ![1, 1, 256, 704]⟩

abbrev nBuf : Space → Nat
  | .hbm => 4
  | .vmem => 12
  | .smem => 0
  | _ => 0

abbrev bufTy : (tb : Table) → Fin (tcTables nBuf tb) → BufTy
  | .hbm, ⟨0, _⟩ => ⟨S2x4x8192x704, .f32⟩
  | .hbm, ⟨1, _⟩ => ⟨S4x3x704, .f32⟩
  | .hbm, ⟨2, _⟩ => ⟨S4x1x704, .f32⟩
  | .hbm, ⟨3, _⟩ => ⟨S4x8192x704, .bf16⟩
  | .local _ .vmem, ⟨0, _⟩ => ⟨S2x1x16x704, .f32⟩
  | .local _ .vmem, ⟨1, _⟩ => ⟨S2x1x16x704, .f32⟩
  | .local _ .vmem, ⟨2, _⟩ => ⟨S2x1x256x704, .f32⟩
  | .local _ .vmem, ⟨3, _⟩ => ⟨S2x1x256x704, .f32⟩
  | .local _ .vmem, ⟨4, _⟩ => ⟨S2x1x16x704, .f32⟩
  | .local _ .vmem, ⟨5, _⟩ => ⟨S2x1x16x704, .f32⟩
  | .local _ .vmem, ⟨6, _⟩ => ⟨S1x3x704, .f32⟩
  | .local _ .vmem, ⟨7, _⟩ => ⟨S1x3x704, .f32⟩
  | .local _ .vmem, ⟨8, _⟩ => ⟨S1x1x704, .f32⟩
  | .local _ .vmem, ⟨9, _⟩ => ⟨S1x1x704, .f32⟩
  | .local _ .vmem, ⟨10, _⟩ => ⟨S1x256x704, .bf16⟩
  | .local _ .vmem, ⟨11, _⟩ => ⟨S1x256x704, .bf16⟩
  | _, _ => ⟨S2x4x8192x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![c0_i32_6.toNat, arg0.toNat, v19.toNat, c0_i32_7.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c511_i32 : BitVec 32 := 511#32
  let v19 : BitVec 32 := Scalar.minsi v18 c511_i32
  let c0_i32_5 : BitVec 32 := 0#32
  let c0_i32_6 : BitVec 32 := 0#32
  let c0_i32_7 : BitVec 32 := 0#32
  ![c0_i32_5.toNat, arg0.toNat, v19.toNat, c0_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x1x16x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x16x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MidRefIdeal.lean ====
abbrev S2x4x8192x704 : Shape := ⟨4, ![2, 4, 8192, 704]⟩
abbrev S4x3x704 : Shape := ⟨3, ![4, 3, 704]⟩
abbrev S4x1x704 : Shape := ⟨3, ![4, 1, 704]⟩
abbrev S1x4x8192x704 : Shape := ⟨4, ![1, 4, 8192, 704]⟩
abbrev S4x8192x704 : Shape := ⟨3, ![4, 8192, 704]⟩
abbrev S_ : Shape := ⟨0, ![]⟩
abbrev S4x8191x704 : Shape := ⟨3, ![4, 8191, 704]⟩

abbrev nBuf : Space → Nat
  | .hbm => 39
  | .vmem => 0
  | .smem => 0
  | _ => 0

abbrev bufTy : (tb : Table) → Fin (tcTables nBuf tb) → BufTy
  | .hbm, ⟨0, _⟩ => ⟨S2x4x8192x704, .f32⟩
  | .hbm, ⟨1, _⟩ => ⟨S4x3x704, .f32⟩
  | .hbm, ⟨2, _⟩ => ⟨S4x1x704, .f32⟩
  | .hbm, ⟨3, _⟩ => ⟨S1x4x8192x704, .f32⟩
  | .hbm, ⟨4, _⟩ => ⟨S4x8192x704, .f32⟩
  | .hbm, ⟨5, _⟩ => ⟨S4x1x704, .f32⟩
  | .hbm, ⟨6, _⟩ => ⟨S_, .f32⟩
  | .hbm, ⟨7, _⟩ => ⟨S4x1x704, .f32⟩
  | .hbm, ⟨8, _⟩ => ⟨S4x8191x704, .f32⟩
  | .hbm, ⟨9, _⟩ => ⟨S4x8192x704, .f32⟩
  | .hbm, ⟨10, _⟩ => ⟨S4x8192x704, .f32⟩
  | .hbm, ⟨11, _⟩ => ⟨S4x8192x704, .f32⟩
  | .hbm, ⟨12, _⟩ => ⟨S4x1x704, .f32⟩
  | .hbm, ⟨13, _⟩ => ⟨S4x8192x704, .f32⟩
  | .hbm, ⟨14, _⟩ => ⟨S4x8192x704, .f32⟩
  | .hbm, ⟨15, _⟩ => ⟨S4x8192x704, .f32⟩
  | .hbm, ⟨16, _⟩ => ⟨S4x1x704, .f32⟩
  | .hbm, ⟨17, _⟩ => ⟨S_, .f32⟩
  | .hbm, ⟨18, _⟩ => ⟨S4x1x704, .f32⟩
  | .hbm, ⟨19, _⟩ => ⟨S4x8191x704, .f32⟩
  | .hbm, ⟨20, _⟩ => ⟨S4x8192x704, .f32⟩
  | .hbm, ⟨21, _⟩ => ⟨S4x8192x704, .f32⟩
  | .hbm, ⟨22, _⟩ => ⟨S4x8192x704, .f32⟩
  | .hbm, ⟨23, _⟩ => ⟨S4x8192x704, .f32⟩
  | .hbm, ⟨24, _⟩ => ⟨S4x8192x704, .f32⟩
  | .hbm, ⟨25, _⟩ => ⟨S4x8192x704, .f32⟩
  | .hbm, ⟨26, _⟩ => ⟨S4x8192x704, .f32⟩
  | .hbm, ⟨27, _⟩ => ⟨S4x8192x704, .f32⟩
  | .hbm, ⟨28, _⟩ => ⟨S_, .f32⟩
  | .hbm, ⟨29, _⟩ => ⟨S4x8192x704, .f32⟩
  | .hbm, ⟨30, _⟩ => ⟨S4x8192x704, .f32⟩
  | .hbm, ⟨31, _⟩ => ⟨S_, .f32⟩
  | .hbm, ⟨32, _⟩ => ⟨S4x8192x704, .f32⟩
  | .hbm, ⟨33, _⟩ => ⟨S4x8192x704, .f32⟩
  | .hbm, ⟨34, _⟩ => ⟨S4x8192x704, .f32⟩
  | .hbm, ⟨35, _⟩ => ⟨S1x4x8192x704, .f32⟩
  | .hbm, ⟨36, _⟩ => ⟨S4x8192x704, .f32⟩
  | .hbm, ⟨37, _⟩ => ⟨S4x8192x704, .f32⟩
  | .hbm, ⟨38, _⟩ => ⟨S4x8192x704, .bf16⟩
  | _, _ => ⟨S2x4x8192x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Down.lean ====
abbrev S4x8192x704 : Shape := ⟨3, ![4, 8192, 704]⟩
abbrev S4x704x1024 : Shape := ⟨3, ![4, 704, 1024]⟩
abbrev S8192x1024 : Shape := ⟨2, ![8192, 1024]⟩
abbrev S1x1024 : Shape := ⟨2, ![1, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨5, ![1, 8, 1, 4, 1], ![false, false, false, false, false]⟩

def k0_cond2 (i : grid0.Coords) : BitVec 1 :=
  let arg3 : BitVec 32 := BitVec.ofNat 32 (i 3).val
  let c3_i32 : BitVec 32 := 3#32
  let v15 : BitVec 1 := Scalar.cmpi .eq arg3 c3_i32
  let arg4 : BitVec 32 := BitVec.ofNat 32 (i 4).val
  let c0_i32_11 : BitVec 32 := 0#32
  let v16 : BitVec 1 := Scalar.cmpi .eq arg4 c0_i32_11
  let v17 : BitVec 1 := Scalar.andi v15 v16
  let v18 : BitVec 32 := Scalar.extui v17
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg1.toNat, arg4.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg3.toNat, arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true, false, false]
-- ==== DownRefIdeal.lean ====
abbrev S4x8192x704 : Shape := ⟨3, ![4, 8192, 704]⟩
abbrev S4x704x1024 : Shape := ⟨3, ![4, 704, 1024]⟩
abbrev S8192x1024 : Shape := ⟨2, ![8192, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .f32⟩
  | .hbm, ⟨3, _⟩ => ⟨S1x1024, .f32⟩
  | .hbm, ⟨4, _⟩ => ⟨S4x8192x704, .f32⟩
  | .hbm, ⟨5, _⟩ => ⟨S4x704x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OdMid.lean ====
abbrev S8192x3072 : Shape := ⟨2, ![8192, 3072]⟩
abbrev S3x1024 : Shape := ⟨2, ![3, 1024]⟩
abbrev S1x1024 : Shape := ⟨2, ![1, 1024]⟩
abbrev S8192x1024 : Shape := ⟨2, ![8192, 1024]⟩
abbrev S256x1024 : Shape := ⟨2, ![256, 1024]⟩
abbrev S16x1024 : Shape := ⟨2, ![16, 1024]⟩
abbrev S288x1024 : Shape := ⟨2, ![288, 1024]⟩

abbrev nBuf : Space → Nat
  | .hbm => 4
  | .vmem => 18
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S1x1024, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x1024, .f32⟩
  | .local _ .vmem, ⟨5, _⟩ => ⟨S256x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S256x1024, .f32⟩
  | .local _ .vmem, ⟨11, _⟩ => ⟨S256x1024, .f32⟩
  | .local _ .vmem, ⟨12, _⟩ => ⟨S16x1024, .f32⟩
  | .local _ .vmem, ⟨13, _⟩ => ⟨S16x1024, .f32⟩
  | .local _ .vmem, ⟨14, _⟩ => ⟨S3x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.subi v18 c1_i32_5
  let c0_i32_6 : BitVec 32 := 0#32
  let v20 : BitVec 32 := Scalar.maxsi v19 c0_i32_6
  let c1_i32_7 : BitVec 32 := 1#32
  let v21 : BitVec 32 := Scalar.addi arg0 c1_i32_7
  let c0_i32_8 : BitVec 32 := 0#32
  ![v20.toNat, v21.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.addi arg0 c1_i32
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32 : BitVec 32 := 0#32
  let v2 : BitVec 32 := Scalar.addi v1 c0_i32
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c511_i32 : BitVec 32 := 511#32
  let v20 : BitVec 32 := Scalar.minsi v19 c511_i32
  let c1_i32_6 : BitVec 32 := 1#32
  let v21 : BitVec 32 := Scalar.addi arg0 c1_i32_6
  let c0_i32_7 : BitVec 32 := 0#32
  ![v20.toNat, v21.toNat]

def cc0_transform_4 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.subi v18 c1_i32_5
  let c0_i32_6 : BitVec 32 := 0#32
  let v20 : BitVec 32 := Scalar.maxsi v19 c0_i32_6
  let c2_i32 : BitVec 32 := 2#32
  let v21 : BitVec 32 := Scalar.addi arg0 c2_i32
  let c0_i32_7 : BitVec 32 := 0#32
  ![v20.toNat, v21.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let v1 : BitVec 32 := Scalar.addi arg0 c2_i32
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32 : BitVec 32 := 0#32
  let v2 : BitVec 32 := Scalar.addi v1 c0_i32
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c511_i32 : BitVec 32 := 511#32
  let v20 : BitVec 32 := Scalar.minsi v19 c511_i32
  let c2_i32 : BitVec 32 := 2#32
  let v21 : BitVec 32 := Scalar.addi arg0 c2_i32
  let c0_i32_6 : BitVec 32 := 0#32
  ![v20.toNat, v21.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OdMidRefIdeal.lean ====
abbrev S8192x3072 : Shape := ⟨2, ![8192, 3072]⟩
abbrev S3x1024 : Shape := ⟨2, ![3, 1024]⟩
abbrev S1x1024 : Shape := ⟨2, ![1, 1024]⟩
abbrev S8192x1024 : Shape := ⟨2, ![8192, 1024]⟩
abbrev S_ : Shape := ⟨0, ![]⟩
abbrev S8191x1024 : Shape := ⟨2, ![8191, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S8191x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S8191x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== OdMidBwd.lean ====
abbrev S8192x3072 : Shape := ⟨2, ![8192, 3072]⟩
abbrev S8192x1024 : Shape := ⟨2, ![8192, 1024]⟩
abbrev S3x1024 : Shape := ⟨2, ![3, 1024]⟩
abbrev S1x1024 : Shape := ⟨2, ![1, 1024]⟩
abbrev S16x1024 : Shape := ⟨2, ![16, 1024]⟩
abbrev S256x1024 : Shape := ⟨2, ![256, 1024]⟩
abbrev S288x1024 : Shape := ⟨2, ![288, 1024]⟩
abbrev S1024 : Shape := ⟨1, ![1024]⟩

abbrev nBuf : Space → Nat
  | .hbm => 9
  | .vmem => 34
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S3x1024, .f32⟩
  | .hbm, ⟨3, _⟩ => ⟨S1x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S3x1024, .f32⟩
  | .hbm, ⟨8, _⟩ => ⟨S1x1024, .f32⟩
  | .local _ .vmem, ⟨0, _⟩ => ⟨S16x1024, .f32⟩
  | .local _ .vmem, ⟨1, _⟩ => ⟨S16x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S256x1024, .f32⟩
  | .local _ .vmem, ⟨9, _⟩ => ⟨S256x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S256x1024, .f32⟩
  | .local _ .vmem, ⟨15, _⟩ => ⟨S256x1024, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | .local _ .vmem, ⟨19, _⟩ => ⟨S16x1024, .f32⟩
  | .local _ .vmem, ⟨20, _⟩ => ⟨S256x1024, .f32⟩
  | .local _ .vmem, ⟨21, _⟩ => ⟨S256x1024, .f32⟩
  | .local _ .vmem, ⟨22, _⟩ => ⟨S16x1024, .f32⟩
  | .local _ .vmem, ⟨23, _⟩ => ⟨S16x1024, .f32⟩
  | .local _ .vmem, ⟨24, _⟩ => ⟨S3x1024, .f32⟩
  | .local _ .vmem, ⟨25, _⟩ => ⟨S1x1024, .f32⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S3x1024, .f32⟩
  | .local _ .vmem, ⟨33, _⟩ => ⟨S1x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg18_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem18_0 : DmaSem sig := 33

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.subi v18 c1_i32_5
  let c0_i32_6 : BitVec 32 := 0#32
  let v20 : BitVec 32 := Scalar.maxsi v19 c0_i32_6
  let c0_i32_7 : BitVec 32 := 0#32
  let v21 : BitVec 32 := Scalar.addi arg0 c0_i32_7
  let c0_i32_8 : BitVec 32 := 0#32
  ![v20.toNat, v21.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi arg0 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32 : BitVec 32 := 0#32
  let v2 : BitVec 32 := Scalar.addi v1 c0_i32
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c511_i32 : BitVec 32 := 511#32
  let v20 : BitVec 32 := Scalar.minsi v19 c511_i32
  let c0_i32_6 : BitVec 32 := 0#32
  let v21 : BitVec 32 := Scalar.addi arg0 c0_i32_6
  let c0_i32_7 : BitVec 32 := 0#32
  ![v20.toNat, v21.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.subi v18 c1_i32_5
  let c0_i32_6 : BitVec 32 := 0#32
  let v20 : BitVec 32 := Scalar.maxsi v19 c0_i32_6
  let c1_i32_7 : BitVec 32 := 1#32
  let v21 : BitVec 32 := Scalar.addi arg0 c1_i32_7
  let c0_i32_8 : BitVec 32 := 0#32
  ![v20.toNat, v21.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.addi arg0 c1_i32
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32 : BitVec 32 := 0#32
  let v2 : BitVec 32 := Scalar.addi v1 c0_i32
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c511_i32 : BitVec 32 := 511#32
  let v20 : BitVec 32 := Scalar.minsi v19 c511_i32
  let c1_i32_6 : BitVec 32 := 1#32
  let v21 : BitVec 32 := Scalar.addi arg0 c1_i32_6
  let c0_i32_7 : BitVec 32 := 0#32
  ![v20.toNat, v21.toNat]

def cc0_transform_6 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.subi v18 c1_i32_5
  let c0_i32_6 : BitVec 32 := 0#32
  let v20 : BitVec 32 := Scalar.maxsi v19 c0_i32_6
  let c2_i32 : BitVec 32 := 2#32
  let v21 : BitVec 32 := Scalar.addi arg0 c2_i32
  let c0_i32_7 : BitVec 32 := 0#32
  ![v20.toNat, v21.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let v1 : BitVec 32 := Scalar.addi arg0 c2_i32
  let c0_i32_0 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32 : BitVec 32 := 0#32
  let v2 : BitVec 32 := Scalar.addi v1 c0_i32
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c511_i32 : BitVec 32 := 511#32
  let v20 : BitVec 32 := Scalar.minsi v19 c511_i32
  let c2_i32 : BitVec 32 := 2#32
  let v21 : BitVec 32 := Scalar.addi arg0 c2_i32
  let c0_i32_6 : BitVec 32 := 0#32
  ![v20.toNat, v21.toNat]

def cc0_transform_9 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.subi v18 c1_i32_5
  let c0_i32_6 : BitVec 32 := 0#32
  let v20 : BitVec 32 := Scalar.maxsi v19 c0_i32_6
  let c0_i32_7 : BitVec 32 := 0#32
  let v21 : BitVec 32 := Scalar.addi arg0 c0_i32_7
  let c0_i32_8 : BitVec 32 := 0#32
  ![v20.toNat, v21.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.addi arg0 c0_i32_0
  let c0_i32_1 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32 : BitVec 32 := 0#32
  let v2 : BitVec 32 := Scalar.addi v1 c0_i32
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c511_i32 : BitVec 32 := 511#32
  let v20 : BitVec 32 := Scalar.minsi v19 c511_i32
  let c0_i32_6 : BitVec 32 := 0#32
  let v21 : BitVec 32 := Scalar.addi arg0 c0_i32_6
  let c0_i32_7 : BitVec 32 := 0#32
  ![v20.toNat, v21.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S3x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]
-- ==== OdMidBwdRefIdeal.lean ====
abbrev S8192x3072 : Shape := ⟨2, ![8192, 3072]⟩
abbrev S8192x1024 : Shape := ⟨2, ![8192, 1024]⟩
abbrev S3x1024 : Shape := ⟨2, ![3, 1024]⟩
abbrev S1x1024 : Shape := ⟨2, ![1, 1024]⟩
abbrev S_ : Shape := ⟨0, ![]⟩
abbrev S8191x1024 : Shape := ⟨2, ![8191, 1024]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S3x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S8191x1024, .f32⟩
  | .hbm, ⟨12, _⟩ => ⟨S8192x1024, .f32⟩
  | .hbm, ⟨13, _⟩ => ⟨S_, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S8191x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8191x1024, .f32⟩
  | .hbm, ⟨46, _⟩ => ⟨S1x1024, .f32⟩
  | .hbm, ⟨47, _⟩ => ⟨S_, .f32⟩
  | .hbm, ⟨48, _⟩ => ⟨S8192x1024, .f32⟩
  | .hbm, ⟨49, _⟩ => ⟨S_, .f32⟩
  | .hbm, ⟨50, _⟩ => ⟨S3x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S3x1024, .f32⟩
  | .hbm, ⟨60, _⟩ => ⟨S3x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S1x1024, .f32⟩
  | .hbm, ⟨68, _⟩ => ⟨S8191x1024, .f32⟩
  | .hbm, ⟨69, _⟩ => ⟨S_, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S3x1024, .f32⟩
  | .hbm, ⟨74, _⟩ => ⟨S3x1024, .f32⟩
  | .hbm, ⟨75, _⟩ => ⟨S8192x1024, .f32⟩
  | .hbm, ⟨76, _⟩ => ⟨S8192x1024, .f32⟩
  | .hbm, ⟨77, _⟩ => ⟨S8192x3072, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .bf16⟩
  | .hbm, ⟨82, _⟩ => ⟨S8192x1024, .bf16⟩
  | .hbm, ⟨83, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S256x1024, .bf16⟩
  | .local _ .vmem, ⟨6, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S8192x1024 : Shape := ⟨2, ![8192, 1024]⟩
abbrev S1x1024 : Shape := ⟨2, ![1, 1024]⟩
abbrev S1x1x1024 : Shape := ⟨3, ![1, 1, 1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== MixNorm.lean ====
abbrev S8448x1024 : Shape := ⟨2, ![8448, 1024]⟩
abbrev S1x1024 : Shape := ⟨2, ![1, 1024]⟩
abbrev S2x1x1024 : Shape := ⟨3, ![2, 1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S256x1024, .bf16⟩
  | .local _ .vmem, ⟨8, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixNormRefIdeal.lean ====
abbrev S8448x1024 : Shape := ⟨2, ![8448, 1024]⟩
abbrev S1x1024 : Shape := ⟨2, ![1, 1024]⟩
abbrev S2x1x1024 : Shape := ⟨3, ![2, 1, 1024]⟩
abbrev S256x1024 : Shape := ⟨2, ![256, 1024]⟩
abbrev S1x1x1024 : Shape := ⟨3, ![1, 1, 1024]⟩
abbrev S_ : Shape := ⟨0, ![]⟩
abbrev S256 : Shape := ⟨1, ![256]⟩
abbrev S256x1 : Shape := ⟨2, ![256, 1]⟩
abbrev S8192x1024 : Shape := ⟨2, ![8192, 1024]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S256x1024, .f32⟩
  | .hbm, ⟨5, _⟩ => ⟨S1x1x1024, .f32⟩
  | .hbm, ⟨6, _⟩ => ⟨S1x1024, .f32⟩
  | .hbm, ⟨7, _⟩ => ⟨S1x1x1024, .f32⟩
  | .hbm, ⟨8, _⟩ => ⟨S1x1024, .f32⟩
  | .hbm, ⟨9, _⟩ => ⟨S256x1024, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S8192x1024, .f32⟩
  | .hbm, ⟨32, _⟩ => ⟨S1x1x1024, .f32⟩
  | .hbm, ⟨33, _⟩ => ⟨S1x1024, .f32⟩
  | .hbm, ⟨34, _⟩ => ⟨S1x1x1024, .f32⟩
  | .hbm, ⟨35, _⟩ => ⟨S1x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8448x1024, .f32⟩
  | .hbm, ⟨59, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== OdInDx.lean ====
abbrev S8192x3072 : Shape := ⟨2, ![8192, 3072]⟩
abbrev S1024x3072 : Shape := ⟨2, ![1024, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInDxIdeal.lean ====
abbrev S8192x3072 : Shape := ⟨2, ![8192, 3072]⟩
abbrev S1024x3072 : Shape := ⟨2, ![1024, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInDxRefIdeal.lean ====
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S_, .f32⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OdInDw.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInDwIdeal.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInDwRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvInDx.lean ====
abbrev S8448x1792 : Shape := ⟨2, ![8448, 1792]⟩
abbrev S1024x1792 : Shape := ⟨2, ![1024, 1792]⟩
abbrev S8448x1024 : Shape := ⟨2, ![8448, 1024]⟩
abbrev S768x1792 : Shape := ⟨2, ![768, 1792]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1792, .bf16⟩
  | .hbm, ⟨1, _⟩ => ⟨S1024x1792, .bf16⟩
  | .hbm, ⟨2, _⟩ => ⟨S8448x1024, .f32⟩
  | .local _ .vmem, ⟨0, _⟩ => ⟨S768x1792, .bf16⟩
  | .local _ .vmem, ⟨1, _⟩ => ⟨S768x1792, .bf16⟩
  | .local _ .vmem, ⟨2, _⟩ => ⟨S1024x1792, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | _, _ => ⟨S8448x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInDxIdeal.lean ====
abbrev S8448x1792 : Shape := ⟨2, ![8448, 1792]⟩
abbrev S1024x1792 : Shape := ⟨2, ![1024, 1792]⟩
abbrev S8448x1024 : Shape := ⟨2, ![8448, 1024]⟩
abbrev S768x1792 : Shape := ⟨2, ![768, 1792]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1792, .bf16⟩
  | .hbm, ⟨1, _⟩ => ⟨S1024x1792, .bf16⟩
  | .hbm, ⟨2, _⟩ => ⟨S8448x1024, .f32⟩
  | .local _ .vmem, ⟨0, _⟩ => ⟨S768x1792, .bf16⟩
  | .local _ .vmem, ⟨1, _⟩ => ⟨S768x1792, .bf16⟩
  | .local _ .vmem, ⟨2, _⟩ => ⟨S1024x1792, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | _, _ => ⟨S8448x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInDxRefIdeal.lean ====
abbrev S8448x1792 : Shape := ⟨2, ![8448, 1792]⟩
abbrev S1024x1792 : Shape := ⟨2, ![1024, 1792]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x1792, .bf16⟩
  | .hbm, ⟨1, _⟩ => ⟨S1024x1792, .bf16⟩
  | .hbm, ⟨2, _⟩ => ⟨S_, .f32⟩
  | .hbm, ⟨3, _⟩ => ⟨S8448x1024, .f32⟩
  | .hbm, ⟨4, _⟩ => ⟨S1024x1792, .f32⟩
  | .hbm, ⟨5, _⟩ => ⟨S8448x1792, .f32⟩
  | .hbm, ⟨6, _⟩ => ⟨S8448x1792, .f32⟩
  | .hbm, ⟨7, _⟩ => ⟨S8448x1024, .f32⟩
  | _, _ => ⟨S8448x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvInDw.lean ====
abbrev S8448x1024 : Shape := ⟨2, ![8448, 1024]⟩
abbrev S8448x1792 : Shape := ⟨2, ![8448, 1792]⟩
abbrev S1024x1792 : Shape := ⟨2, ![1024, 1792]⟩
abbrev S1408x1024 : Shape := ⟨2, ![1408, 1024]⟩
abbrev S1408x896 : Shape := ⟨2, ![1408, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x1792, .bf16⟩
  | .hbm, ⟨2, _⟩ => ⟨S1024x1792, .f32⟩
  | .local _ .vmem, ⟨0, _⟩ => ⟨S1408x1024, .bf16⟩
  | .local _ .vmem, ⟨1, _⟩ => ⟨S1408x1024, .bf16⟩
  | .local _ .vmem, ⟨2, _⟩ => ⟨S1408x896, .bf16⟩
  | .local _ .vmem, ⟨3, _⟩ => ⟨S1408x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInDwIdeal.lean ====
abbrev S8448x1024 : Shape := ⟨2, ![8448, 1024]⟩
abbrev S8448x1792 : Shape := ⟨2, ![8448, 1792]⟩
abbrev S1024x1792 : Shape := ⟨2, ![1024, 1792]⟩
abbrev S1408x1024 : Shape := ⟨2, ![1408, 1024]⟩
abbrev S1408x896 : Shape := ⟨2, ![1408, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x1792, .bf16⟩
  | .hbm, ⟨2, _⟩ => ⟨S1024x1792, .f32⟩
  | .local _ .vmem, ⟨0, _⟩ => ⟨S1408x1024, .bf16⟩
  | .local _ .vmem, ⟨1, _⟩ => ⟨S1408x1024, .bf16⟩
  | .local _ .vmem, ⟨2, _⟩ => ⟨S1408x896, .bf16⟩
  | .local _ .vmem, ⟨3, _⟩ => ⟨S1408x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInDwRefIdeal.lean ====
abbrev S8448x1024 : Shape := ⟨2, ![8448, 1024]⟩
abbrev S8448x1792 : Shape := ⟨2, ![8448, 1792]⟩
abbrev S_ : Shape := ⟨0, ![]⟩
abbrev S1024x1792 : Shape := ⟨2, ![1024, 1792]⟩
abbrev S1792x1024 : Shape := ⟨2, ![1792, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1792, .bf16⟩
  | .hbm, ⟨2, _⟩ => ⟨S_, .f32⟩
  | .hbm, ⟨3, _⟩ => ⟨S1024x1792, .f32⟩
  | .hbm, ⟨4, _⟩ => ⟨S8448x1024, .f32⟩
  | .hbm, ⟨5, _⟩ => ⟨S8448x1792, .f32⟩
  | .hbm, ⟨6, _⟩ => ⟨S8448x1792, .f32⟩
  | .hbm, ⟨7, _⟩ => ⟨S1792x1024, .f32⟩
  | .hbm, ⟨8, _⟩ => ⟨S1024x1792, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvUqDx.lean ====
abbrev S8448x1024 : Shape := ⟨2, ![8448, 1024]⟩
abbrev S384x1024 : Shape := ⟨2, ![384, 1024]⟩
abbrev S8448x384 : Shape := ⟨2, ![8448, 384]⟩
abbrev S768x1024 : Shape := ⟨2, ![768, 1024]⟩
abbrev S768x384 : Shape := ⟨2, ![768, 384]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S384x1024, .bf16⟩
  | .hbm, ⟨2, _⟩ => ⟨S8448x384, .f32⟩
  | .local _ .vmem, ⟨0, _⟩ => ⟨S768x1024, .bf16⟩
  | .local _ .vmem, ⟨1, _⟩ => ⟨S768x1024, .bf16⟩
  | .local _ .vmem, ⟨2, _⟩ => ⟨S384x1024, .bf16⟩
  | .local _ .vmem, ⟨3, _⟩ => ⟨S768x384, .f32⟩
  | .local _ .vmem, ⟨4, _⟩ => ⟨S768x384, .f32⟩
  | .local _ .vmem, ⟨5, _⟩ => ⟨S768x384, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvUqDxIdeal.lean ====
abbrev S8448x1024 : Shape := ⟨2, ![8448, 1024]⟩
abbrev S384x1024 : Shape := ⟨2, ![384, 1024]⟩
abbrev S8448x384 : Shape := ⟨2, ![8448, 384]⟩
abbrev S768x1024 : Shape := ⟨2, ![768, 1024]⟩
abbrev S768x384 : Shape := ⟨2, ![768, 384]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S384x1024, .bf16⟩
  | .hbm, ⟨2, _⟩ => ⟨S8448x384, .f32⟩
  | .local _ .vmem, ⟨0, _⟩ => ⟨S768x1024, .bf16⟩
  | .local _ .vmem, ⟨1, _⟩ => ⟨S768x1024, .bf16⟩
  | .local _ .vmem, ⟨2, _⟩ => ⟨S384x1024, .bf16⟩
  | .local _ .vmem, ⟨3, _⟩ => ⟨S768x384, .f32⟩
  | .local _ .vmem, ⟨4, _⟩ => ⟨S768x384, .f32⟩
  | .local _ .vmem, ⟨5, _⟩ => ⟨S768x384, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvUqDxRefIdeal.lean ====
abbrev S8448x1024 : Shape := ⟨2, ![8448, 1024]⟩
abbrev S384x1024 : Shape := ⟨2, ![384, 1024]⟩
abbrev S_ : Shape := ⟨0, ![]⟩
abbrev S8448x384 : Shape := ⟨2, ![8448, 384]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S384x1024, .bf16⟩
  | .hbm, ⟨2, _⟩ => ⟨S_, .f32⟩
  | .hbm, ⟨3, _⟩ => ⟨S8448x384, .f32⟩
  | .hbm, ⟨4, _⟩ => ⟨S384x1024, .f32⟩
  | .hbm, ⟨5, _⟩ => ⟨S8448x1024, .f32⟩
  | .hbm, ⟨6, _⟩ => ⟨S8448x1024, .f32⟩
  | .hbm, ⟨7, _⟩ => ⟨S8448x384, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvUqDw.lean ====
abbrev S8448x384 : Shape := ⟨2, ![8448, 384]⟩
abbrev S8448x1024 : Shape := ⟨2, ![8448, 1024]⟩
abbrev S384x1024 : Shape := ⟨2, ![384, 1024]⟩
abbrev S1408x384 : Shape := ⟨2, ![1408, 384]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x384, .bf16⟩
  | .hbm, ⟨1, _⟩ => ⟨S8448x1024, .bf16⟩
  | .hbm, ⟨2, _⟩ => ⟨S384x1024, .f32⟩
  | .local _ .vmem, ⟨0, _⟩ => ⟨S1408x384, .bf16⟩
  | .local _ .vmem, ⟨1, _⟩ => ⟨S1408x384, .bf16⟩
  | .local _ .vmem, ⟨2, _⟩ => ⟨S1408x1024, .bf16⟩
  | .local _ .vmem, ⟨3, _⟩ => ⟨S1408x1024, .bf16⟩
  | .local _ .vmem, ⟨4, _⟩ => ⟨S384x1024, .f32⟩
  | .local _ .vmem, ⟨5, _⟩ => ⟨S384x1024, .f32⟩
  | _, _ => ⟨S8448x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvUqDwIdeal.lean ====
abbrev S8448x384 : Shape := ⟨2, ![8448, 384]⟩
abbrev S8448x1024 : Shape := ⟨2, ![8448, 1024]⟩
abbrev S384x1024 : Shape := ⟨2, ![384, 1024]⟩
abbrev S1408x384 : Shape := ⟨2, ![1408, 384]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x384, .bf16⟩
  | .hbm, ⟨1, _⟩ => ⟨S8448x1024, .bf16⟩
  | .hbm, ⟨2, _⟩ => ⟨S384x1024, .f32⟩
  | .local _ .vmem, ⟨0, _⟩ => ⟨S1408x384, .bf16⟩
  | .local _ .vmem, ⟨1, _⟩ => ⟨S1408x384, .bf16⟩
  | .local _ .vmem, ⟨2, _⟩ => ⟨S1408x1024, .bf16⟩
  | .local _ .vmem, ⟨3, _⟩ => ⟨S1408x1024, .bf16⟩
  | .local _ .vmem, ⟨4, _⟩ => ⟨S384x1024, .f32⟩
  | .local _ .vmem, ⟨5, _⟩ => ⟨S384x1024, .f32⟩
  | _, _ => ⟨S8448x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvUqDwRefIdeal.lean ====
abbrev S8448x384 : Shape := ⟨2, ![8448, 384]⟩
abbrev S8448x1024 : Shape := ⟨2, ![8448, 1024]⟩
abbrev S_ : Shape := ⟨0, ![]⟩
abbrev S384x1024 : Shape := ⟨2, ![384, 1024]⟩
abbrev S1024x384 : Shape := ⟨2, ![1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S8448x384, .bf16⟩
  | .hbm, ⟨1, _⟩ => ⟨S8448x1024, .bf16⟩
  | .hbm, ⟨2, _⟩ => ⟨S_, .f32⟩
  | .hbm, ⟨3, _⟩ => ⟨S384x1024, .f32⟩
  | .hbm, ⟨4, _⟩ => ⟨S8448x384, .f32⟩
  | .hbm, ⟨5, _⟩ => ⟨S8448x1024, .f32⟩
  | .hbm, ⟨6, _⟩ => ⟨S8448x1024, .f32⟩
  | .hbm, ⟨7, _⟩ => ⟨S1024x384, .f32⟩
  | .hbm, ⟨8, _⟩ => ⟨S384x1024, .f32⟩
  | _, _ => ⟨S8448x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvUkvDx.lean ====
abbrev S8448x1024 : Shape := ⟨2, ![8448, 1024]⟩
abbrev S256x1024 : Shape := ⟨2, ![256, 1024]⟩
abbrev S8448x256 : Shape := ⟨2, ![8448, 256]⟩
abbrev S768x1024 : Shape := ⟨2, ![768, 1024]⟩
abbrev S768x256 : Shape := ⟨2, ![768, 256]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S256x1024, .bf16⟩
  | .hbm, ⟨2, _⟩ => ⟨S8448x256, .f32⟩
  | .local _ .vmem, ⟨0, _⟩ => ⟨S768x1024, .bf16⟩
  | .local _ .vmem, ⟨1, _⟩ => ⟨S768x1024, .bf16⟩
  | .local _ .vmem, ⟨2, _⟩ => ⟨S256x1024, .bf16⟩
  | .local _ .vmem, ⟨3, _⟩ => ⟨S768x256, .f32⟩
  | .local _ .vmem, ⟨4, _⟩ => ⟨S768x256, .f32⟩
  | .local _ .vmem, ⟨5, _⟩ => ⟨S768x256, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvUkvDxIdeal.lean ====
abbrev S8448x1024 : Shape := ⟨2, ![8448, 1024]⟩
abbrev S256x1024 : Shape := ⟨2, ![256, 1024]⟩
abbrev S8448x256 : Shape := ⟨2, ![8448, 256]⟩
abbrev S768x1024 : Shape := ⟨2, ![768, 1024]⟩
abbrev S768x256 : Shape := ⟨2, ![768, 256]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S256x1024, .bf16⟩
  | .hbm, ⟨2, _⟩ => ⟨S8448x256, .f32⟩
  | .local _ .vmem, ⟨0, _⟩ => ⟨S768x1024, .bf16⟩
  | .local _ .vmem, ⟨1, _⟩ => ⟨S768x1024, .bf16⟩
  | .local _ .vmem, ⟨2, _⟩ => ⟨S256x1024, .bf16⟩
  | .local _ .vmem, ⟨3, _⟩ => ⟨S768x256, .f32⟩
  | .local _ .vmem, ⟨4, _⟩ => ⟨S768x256, .f32⟩
  | .local _ .vmem, ⟨5, _⟩ => ⟨S768x256, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvUkvDxRefIdeal.lean ====
abbrev S8448x1024 : Shape := ⟨2, ![8448, 1024]⟩
abbrev S256x1024 : Shape := ⟨2, ![256, 1024]⟩
abbrev S_ : Shape := ⟨0, ![]⟩
abbrev S8448x256 : Shape := ⟨2, ![8448, 256]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S256x1024, .bf16⟩
  | .hbm, ⟨2, _⟩ => ⟨S_, .f32⟩
  | .hbm, ⟨3, _⟩ => ⟨S8448x256, .f32⟩
  | .hbm, ⟨4, _⟩ => ⟨S256x1024, .f32⟩
  | .hbm, ⟨5, _⟩ => ⟨S8448x1024, .f32⟩
  | .hbm, ⟨6, _⟩ => ⟨S8448x1024, .f32⟩
  | .hbm, ⟨7, _⟩ => ⟨S8448x256, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvUkvDw.lean ====
abbrev S8448x256 : Shape := ⟨2, ![8448, 256]⟩
abbrev S8448x1024 : Shape := ⟨2, ![8448, 1024]⟩
abbrev S256x1024 : Shape := ⟨2, ![256, 1024]⟩
abbrev S1408x256 : Shape := ⟨2, ![1408, 256]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x256, .bf16⟩
  | .hbm, ⟨1, _⟩ => ⟨S8448x1024, .bf16⟩
  | .hbm, ⟨2, _⟩ => ⟨S256x1024, .f32⟩
  | .local _ .vmem, ⟨0, _⟩ => ⟨S1408x256, .bf16⟩
  | .local _ .vmem, ⟨1, _⟩ => ⟨S1408x256, .bf16⟩
  | .local _ .vmem, ⟨2, _⟩ => ⟨S1408x1024, .bf16⟩
  | .local _ .vmem, ⟨3, _⟩ => ⟨S1408x1024, .bf16⟩
  | .local _ .vmem, ⟨4, _⟩ => ⟨S256x1024, .f32⟩
  | .local _ .vmem, ⟨5, _⟩ => ⟨S256x1024, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvUkvDwIdeal.lean ====
abbrev S8448x256 : Shape := ⟨2, ![8448, 256]⟩
abbrev S8448x1024 : Shape := ⟨2, ![8448, 1024]⟩
abbrev S256x1024 : Shape := ⟨2, ![256, 1024]⟩
abbrev S1408x256 : Shape := ⟨2, ![1408, 256]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x256, .bf16⟩
  | .hbm, ⟨1, _⟩ => ⟨S8448x1024, .bf16⟩
  | .hbm, ⟨2, _⟩ => ⟨S256x1024, .f32⟩
  | .local _ .vmem, ⟨0, _⟩ => ⟨S1408x256, .bf16⟩
  | .local _ .vmem, ⟨1, _⟩ => ⟨S1408x256, .bf16⟩
  | .local _ .vmem, ⟨2, _⟩ => ⟨S1408x1024, .bf16⟩
  | .local _ .vmem, ⟨3, _⟩ => ⟨S1408x1024, .bf16⟩
  | .local _ .vmem, ⟨4, _⟩ => ⟨S256x1024, .f32⟩
  | .local _ .vmem, ⟨5, _⟩ => ⟨S256x1024, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== EvUkvDwRefIdeal.lean ====
abbrev S8448x256 : Shape := ⟨2, ![8448, 256]⟩
abbrev S8448x1024 : Shape := ⟨2, ![8448, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S8448x1024, .bf16⟩
  | .hbm, ⟨2, _⟩ => ⟨S_, .f32⟩
  | .hbm, ⟨3, _⟩ => ⟨S256x1024, .f32⟩
  | .hbm, ⟨4, _⟩ => ⟨S8448x256, .f32⟩
  | .hbm, ⟨5, _⟩ => ⟨S8448x1024, .f32⟩
  | .hbm, ⟨6, _⟩ => ⟨S8448x1024, .f32⟩
  | .hbm, ⟨7, _⟩ => ⟨S1024x256, .f32⟩
  | .hbm, ⟨8, _⟩ => ⟨S256x1024, .f32⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OdOutDx.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdOutDxIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdOutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OdOutDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OdOutDwIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OdOutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvOutDx.lean ====
abbrev S8192x1024 : Shape := ⟨2, ![8192, 1024]⟩
abbrev S1536x1024 : Shape := ⟨2, ![1536, 1024]⟩
abbrev S8192x1536 : Shape := ⟨2, ![8192, 1536]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvOutDxRefIdeal.lean ====
abbrev S8192x1024 : Shape := ⟨2, ![8192, 1024]⟩
abbrev S1536x1024 : Shape := ⟨2, ![1536, 1024]⟩
abbrev S_ : Shape := ⟨0, ![]⟩
abbrev S8192x1536 : Shape := ⟨2, ![8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S_, .f32⟩
  | .hbm, ⟨3, _⟩ => ⟨S8192x1536, .f32⟩
  | .hbm, ⟨4, _⟩ => ⟨S1536x1024, .f32⟩
  | .hbm, ⟨5, _⟩ => ⟨S8192x1024, .f32⟩
  | .hbm, ⟨6, _⟩ => ⟨S8192x1024, .f32⟩
  | .hbm, ⟨7, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvOutDw.lean ====
abbrev S8192x1536 : Shape := ⟨2, ![8192, 1536]⟩
abbrev S8192x1024 : Shape := ⟨2, ![8192, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1536x1024, .f32⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvOutDwRefIdeal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S_, .f32⟩
  | .hbm, ⟨3, _⟩ => ⟨S1536x1024, .f32⟩
  | .hbm, ⟨4, _⟩ => ⟨S8192x1536, .f32⟩
  | .hbm, ⟨5, _⟩ => ⟨S8192x1024, .f32⟩
  | .hbm, ⟨6, _⟩ => ⟨S8192x1024, .f32⟩
  | .hbm, ⟨7, _⟩ => ⟨S1024x1536, .f32⟩
  | .hbm, ⟨8, _⟩ => ⟨S1536x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OdIn.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInIdeal.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdInRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvIn.lean ====
abbrev S8448x1024 : Shape := ⟨2, ![8448, 1024]⟩
abbrev S1024x1792 : Shape := ⟨2, ![1024, 1792]⟩
abbrev S8448x1792 : Shape := ⟨2, ![8448, 1792]⟩
abbrev S768x1024 : Shape := ⟨2, ![768, 1024]⟩
abbrev S1024x896 : Shape := ⟨2, ![1024, 896]⟩
abbrev S768x896 : Shape := ⟨2, ![768, 896]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x1792, .bf16⟩
  | .hbm, ⟨2, _⟩ => ⟨S8448x1792, .f32⟩
  | .local _ .vmem, ⟨0, _⟩ => ⟨S768x1024, .bf16⟩
  | .local _ .vmem, ⟨1, _⟩ => ⟨S768x1024, .bf16⟩
  | .local _ .vmem, ⟨2, _⟩ => ⟨S1024x896, .bf16⟩
  | .local _ .vmem, ⟨3, _⟩ => ⟨S1024x896, .bf16⟩
  | .local _ .vmem, ⟨4, _⟩ => ⟨S768x896, .f32⟩
  | .local _ .vmem, ⟨5, _⟩ => ⟨S768x896, .f32⟩
  | .local _ .vmem, ⟨6, _⟩ => ⟨S768x896, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInIdeal.lean ====
abbrev S8448x1024 : Shape := ⟨2, ![8448, 1024]⟩
abbrev S1024x1792 : Shape := ⟨2, ![1024, 1792]⟩
abbrev S8448x1792 : Shape := ⟨2, ![8448, 1792]⟩
abbrev S768x1024 : Shape := ⟨2, ![768, 1024]⟩
abbrev S1024x896 : Shape := ⟨2, ![1024, 896]⟩
abbrev S768x896 : Shape := ⟨2, ![768, 896]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x1792, .bf16⟩
  | .hbm, ⟨2, _⟩ => ⟨S8448x1792, .f32⟩
  | .local _ .vmem, ⟨0, _⟩ => ⟨S768x1024, .bf16⟩
  | .local _ .vmem, ⟨1, _⟩ => ⟨S768x1024, .bf16⟩
  | .local _ .vmem, ⟨2, _⟩ => ⟨S1024x896, .bf16⟩
  | .local _ .vmem, ⟨3, _⟩ => ⟨S1024x896, .bf16⟩
  | .local _ .vmem, ⟨4, _⟩ => ⟨S768x896, .f32⟩
  | .local _ .vmem, ⟨5, _⟩ => ⟨S768x896, .f32⟩
  | .local _ .vmem, ⟨6, _⟩ => ⟨S768x896, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInRefIdeal.lean ====
abbrev S8448x1024 : Shape := ⟨2, ![8448, 1024]⟩
abbrev S1024x1792 : Shape := ⟨2, ![1024, 1792]⟩
abbrev S8448x1792 : Shape := ⟨2, ![8448, 1792]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1792, .bf16⟩
  | .hbm, ⟨2, _⟩ => ⟨S8448x1024, .f32⟩
  | .hbm, ⟨3, _⟩ => ⟨S1024x1792, .f32⟩
  | .hbm, ⟨4, _⟩ => ⟨S8448x1792, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvUq.lean ====
abbrev S8448x384 : Shape := ⟨2, ![8448, 384]⟩
abbrev S384x1024 : Shape := ⟨2, ![384, 1024]⟩
abbrev S8448x1024 : Shape := ⟨2, ![8448, 1024]⟩
abbrev S768x384 : Shape := ⟨2, ![768, 384]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x384, .bf16⟩
  | .hbm, ⟨1, _⟩ => ⟨S384x1024, .bf16⟩
  | .hbm, ⟨2, _⟩ => ⟨S8448x1024, .f32⟩
  | .local _ .vmem, ⟨0, _⟩ => ⟨S768x384, .bf16⟩
  | .local _ .vmem, ⟨1, _⟩ => ⟨S768x384, .bf16⟩
  | .local _ .vmem, ⟨2, _⟩ => ⟨S384x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | _, _ => ⟨S8448x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvUqIdeal.lean ====
abbrev S8448x384 : Shape := ⟨2, ![8448, 384]⟩
abbrev S384x1024 : Shape := ⟨2, ![384, 1024]⟩
abbrev S8448x1024 : Shape := ⟨2, ![8448, 1024]⟩
abbrev S768x384 : Shape := ⟨2, ![768, 384]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x384, .bf16⟩
  | .hbm, ⟨1, _⟩ => ⟨S384x1024, .bf16⟩
  | .hbm, ⟨2, _⟩ => ⟨S8448x1024, .f32⟩
  | .local _ .vmem, ⟨0, _⟩ => ⟨S768x384, .bf16⟩
  | .local _ .vmem, ⟨1, _⟩ => ⟨S768x384, .bf16⟩
  | .local _ .vmem, ⟨2, _⟩ => ⟨S384x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | _, _ => ⟨S8448x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvUqRefIdeal.lean ====
abbrev S8448x384 : Shape := ⟨2, ![8448, 384]⟩
abbrev S384x1024 : Shape := ⟨2, ![384, 1024]⟩
abbrev S8448x1024 : Shape := ⟨2, ![8448, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x384, .bf16⟩
  | .hbm, ⟨1, _⟩ => ⟨S384x1024, .bf16⟩
  | .hbm, ⟨2, _⟩ => ⟨S8448x384, .f32⟩
  | .hbm, ⟨3, _⟩ => ⟨S384x1024, .f32⟩
  | .hbm, ⟨4, _⟩ => ⟨S8448x1024, .f32⟩
  | _, _ => ⟨S8448x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvUkv.lean ====
abbrev S8448x256 : Shape := ⟨2, ![8448, 256]⟩
abbrev S256x1024 : Shape := ⟨2, ![256, 1024]⟩
abbrev S8448x1024 : Shape := ⟨2, ![8448, 1024]⟩
abbrev S768x256 : Shape := ⟨2, ![768, 256]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x256, .bf16⟩
  | .hbm, ⟨1, _⟩ => ⟨S256x1024, .bf16⟩
  | .hbm, ⟨2, _⟩ => ⟨S8448x1024, .f32⟩
  | .local _ .vmem, ⟨0, _⟩ => ⟨S768x256, .bf16⟩
  | .local _ .vmem, ⟨1, _⟩ => ⟨S768x256, .bf16⟩
  | .local _ .vmem, ⟨2, _⟩ => ⟨S256x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvUkvRefIdeal.lean ====
abbrev S8448x256 : Shape := ⟨2, ![8448, 256]⟩
abbrev S256x1024 : Shape := ⟨2, ![256, 1024]⟩
abbrev S8448x1024 : Shape := ⟨2, ![8448, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S256x1024, .bf16⟩
  | .hbm, ⟨2, _⟩ => ⟨S8448x256, .f32⟩
  | .hbm, ⟨3, _⟩ => ⟨S256x1024, .f32⟩
  | .hbm, ⟨4, _⟩ => ⟨S8448x1024, .f32⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OdOut.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OdOutIdeal.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OdOutRefIdeal.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== EvOut.lean ====
abbrev S8192x1536 : Shape := ⟨2, ![8192, 1536]⟩
abbrev S1536x1024 : Shape := ⟨2, ![1536, 1024]⟩
abbrev S8192x1024 : Shape := ⟨2, ![8192, 1024]⟩
abbrev S1x1024 : Shape := ⟨2, ![1, 1024]⟩
abbrev S1024x1536 : Shape := ⟨2, ![1024, 1536]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== EvOutRefIdeal.lean ====
abbrev S8192x1536 : Shape := ⟨2, ![8192, 1536]⟩
abbrev S1536x1024 : Shape := ⟨2, ![1536, 1024]⟩
abbrev S8192x1024 : Shape := ⟨2, ![8192, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S1x1024, .f32⟩
  | .hbm, ⟨4, _⟩ => ⟨S8192x1536, .f32⟩
  | .hbm, ⟨5, _⟩ => ⟨S1536x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Run.lean ====
/- The whole program's run, keeping its four results: what the attention output and the gradients with respect to
   q, k and v hold when the program has ended is what the chain of contents, from the launch through the host operations
   and the three kernel calls, says they hold. -/
module

public import proofs.«01_k».proof.Proof.Gen.KernelIdeal.Frame

@[expose] public section

set_option maxRecDepth 16384

noncomputable section

namespace Cert.Proof.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- Every execution ends with each result at the last contents of the chain, and with the arguments as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v22) = W14 m ρ c (Proc.devRef .tc main_v22)
      ∧ r.2.mem ((c.tc : Thread nD τ).loc main_v26) = W14 m ρ c (Proc.devRef .tc main_v26)
      ∧ r.2.mem ((c.tc : Thread nD τ).loc main_v28) = W14 m ρ c (Proc.devRef .tc main_v28)
      ∧ r.2.mem ((c.tc : Thread nD τ).loc main_v30) = W14 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => fun c =>
      ⟨h c _ (mem_uc main_v22 (by decide)), h c _ (mem_uc main_v26 (by decide)),
       h c _ (mem_uc main_v28 (by decide)), h c _ (mem_uc main_v30 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c)⟩)

end Cert.Proof.Run

end
-- ==== Proof.Math.lean ====
/-
  The mathematics of softmax attention that the two programs share, apart from any program: finite sums of real numbers
  inside the extended reals, one step of the running softmax (a running maximum, a running denominator, a running
  weighted sum), and the identities between the base-2 spelling of the kernel and the natural spelling of the
  reference.
-/
module

public import Idealize.ShloMosaic.PureOps.Ideal

@[expose] public section

noncomputable section

namespace Cert.Proof.Math

open Idealize.ShloMosaic
open scoped BigOperators

/-! ### Real sums inside the extended reals -/

/-- A finite sum of real numbers, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A dot product of real vectors, taken in the extended reals, is the real dot product. -/
theorem coe_dot {ι : Type*} (s : Finset ι) (f g : ι → ℝ) :
    (∑ i ∈ s, ((f i : ℝ) : EReal) * ((g i : ℝ) : EReal)) = ((∑ i ∈ s, f i * g i : ℝ) : EReal) := by
  simp only [← EReal.coe_mul]; exact coe_sum s _

/-- The maximum of a nonempty finite family of real numbers, begun at `⊥`, is a real number. -/
theorem fold_max_coe {ι : Type*} (s : Finset ι) (hs : s.Nonempty) (f : ι → ℝ) :
    ∃ μ : ℝ, s.fold max (⊥ : EReal) (fun i => ((f i : ℝ) : EReal)) = (μ : EReal) := by
  classical
  induction hs using Finset.Nonempty.cons_induction with
  | singleton a => exact ⟨f a, by simp⟩
  | cons a s ha hs ih =>
    obtain ⟨μ, h⟩ := ih
    refine ⟨max (f a) μ, ?_⟩
    rw [Finset.fold_cons, h]
    exact (EReal.coe_strictMono.monotone.map_max (a := f a) (b := μ)).symm

/-- The quotient of two real numbers, the divisor positive. -/
theorem div_coe (a b : ℝ) (hb : 0 < b) : Ideal.div (a : EReal) (b : EReal) = ((a / b : ℝ) : EReal) := by
  have h0 : (b : EReal) ≠ 0 := by exact_mod_cast hb.ne'
  unfold Ideal.div
  rw [if_neg h0, div_eq_mul_inv, EReal.coe_mul, EReal.coe_inv]

/-! ### Powers of two -/

/-- `2 ^ x` over the reals. -/
def e2 (x : ℝ) : ℝ := Real.rpow 2 x

theorem e2_pos (x : ℝ) : 0 < e2 x := Real.rpow_pos_of_pos (by norm_num) x

theorem e2_add (x y : ℝ) : e2 (x + y) = e2 x * e2 y := Real.rpow_add (by norm_num) x y

theorem e2_eq_exp (x : ℝ) : e2 x = Real.exp (x * Real.log 2) := by
  unfold e2
  rw [show Real.rpow 2 x = (2 : ℝ) ^ x from rfl, Real.rpow_def_of_pos (by norm_num), mul_comm]

theorem exp2_coe (x : ℝ) : Ideal.exp2 (x : EReal) = ((e2 x : ℝ) : EReal) := rfl

theorem log2_pos : 0 < Real.log 2 := Real.log_pos (by norm_num)

theorem e2_shift (a m m' : ℝ) : e2 (m - m') * e2 (a - m) = e2 (a - m') := by
  rw [← e2_add]; congr 1; ring

/-! ### One row of the running softmax -/

/-- The state of one row (and one lane of the weighted sum) after `n` keys with scores `s` and values `v`: nothing seen
    yet, or a real reference point `μ` with the denominator and the weighted sum taken relative to it. -/
def Row (n : ℕ) (s v : ℕ → ℝ) (m l a : EReal) : Prop :=
  (n = 0 ∧ m = ⊥ ∧ l = 0 ∧ a = 0) ∨
  ∃ μ : ℝ, m = (μ : EReal) ∧ l = ((∑ j ∈ Finset.range n, e2 (s j - μ) : ℝ) : EReal)
    ∧ a = ((∑ j ∈ Finset.range n, e2 (s j - μ) * v j : ℝ) : EReal)

theorem Row.zero (s v : ℕ → ℝ) : Row 0 s v ⊥ 0 0 := .inl ⟨rfl, rfl, rfl, rfl⟩

/-- What a state contributes once it is rescaled to another real reference point. -/
theorem Row.rescale {n : ℕ} {s v : ℕ → ℝ} {m l a : EReal} (h : Row n s v m l a) (μ' : ℝ) :
    Ideal.exp2 (m - (μ' : EReal)) * l = ((∑ j ∈ Finset.range n, e2 (s j - μ') : ℝ) : EReal)
    ∧ Ideal.exp2 (m - (μ' : EReal)) * a = ((∑ j ∈ Finset.range n, e2 (s j - μ') * v j : ℝ) : EReal) := by
  rcases h with ⟨rfl, rfl, rfl, rfl⟩ | ⟨μ, rfl, rfl, rfl⟩
  · constructor <;> simp
  · rw [← EReal.coe_sub, exp2_coe, ← EReal.coe_mul, ← EReal.coe_mul, Finset.mul_sum, Finset.mul_sum]
    constructor
    · simp only [e2_shift]
    · simp only [← mul_assoc, e2_shift]

/-- The new reference point is a real number. -/
theorem Row.max_real {n c : ℕ} (hc : 0 < c) {s v : ℕ → ℝ} {m l a : EReal} (h : Row n s v m l a) :
    ∃ μ' : ℝ, max m (Finset.univ.fold max (⊥ : EReal) (fun k : Fin c => ((s (n + k.val) : ℝ) : EReal))) = (μ' : EReal) := by
  obtain ⟨μ₁, h₁⟩ := fold_max_coe (Finset.univ : Finset (Fin c)) ⟨⟨0, hc⟩, Finset.mem_univ _⟩ (fun k => s (n + k.val))
  rw [h₁]
  rcases h with ⟨rfl, rfl, rfl, rfl⟩ | ⟨μ, rfl, rfl, rfl⟩
  · exact ⟨μ₁, by simp⟩
  · exact ⟨max μ μ₁, (EReal.coe_strictMono.monotone.map_max (a := μ) (b := μ₁)).symm⟩

/-- One step over the next `c` keys, at any real reference point. -/
theorem Row.step {n c : ℕ} {s v : ℕ → ℝ} {m l a : EReal} (h : Row n s v m l a) (μ' : ℝ) :
    Row (n + c) s v (μ' : EReal)
      (Ideal.exp2 (m - (μ' : EReal)) * l + ∑ k : Fin c, Ideal.exp2 (((s (n + k.val) : ℝ) : EReal) - (μ' : EReal)))
      (Ideal.exp2 (m - (μ' : EReal)) * a
        + ∑ k : Fin c, Ideal.exp2 (((s (n + k.val) : ℝ) : EReal) - (μ' : EReal)) * ((v (n + k.val) : ℝ) : EReal)) := by
  obtain ⟨h₁, h₂⟩ := h.rescale μ'
  refine .inr ⟨μ', rfl, ?_, ?_⟩
  · rw [h₁]
    simp only [← EReal.coe_sub, exp2_coe]
    rw [coe_sum, ← EReal.coe_add, Finset.sum_range_add, ← Fin.sum_univ_eq_sum_range (fun k => e2 (s (n + k) - μ')) c]
  · rw [h₂]
    simp only [← EReal.coe_sub, exp2_coe]
    rw [coe_dot, ← EReal.coe_add, Finset.sum_range_add,
      ← Fin.sum_univ_eq_sum_range (fun k => e2 (s (n + k) - μ') * v (n + k)) c]

theorem sum_e2_pos {n : ℕ} (hn : 0 < n) (s : ℕ → ℝ) : 0 < ∑ j ∈ Finset.range n, e2 (s j) :=
  Finset.sum_pos (fun _ _ => e2_pos _) ⟨0, Finset.mem_range.2 hn⟩

theorem sum_e2_shift (n : ℕ) (s : ℕ → ℝ) (μ : ℝ) :
    ∑ j ∈ Finset.range n, e2 (s j - μ) = e2 (-μ) * ∑ j ∈ Finset.range n, e2 (s j) := by
  rw [Finset.mul_sum]; refine Finset.sum_congr rfl fun j _ => ?_
  rw [← e2_add]; congr 1; ring

/-- The attention row's output: the weighted mean of the values, weights `2 ^ s`. -/
theorem Row.out {n : ℕ} (hn : 0 < n) {s v : ℕ → ℝ} {m l a : EReal} (h : Row n s v m l a) :
    Ideal.div a l = (((∑ j ∈ Finset.range n, e2 (s j) * v j) / ∑ j ∈ Finset.range n, e2 (s j) : ℝ) : EReal) := by
  rcases h with ⟨rfl, -⟩ | ⟨μ, rfl, rfl, rfl⟩
  · exact absurd hn (lt_irrefl 0)
  · have hp := sum_e2_pos hn s
    rw [div_coe _ _ (sum_e2_pos hn fun j => s j - μ), sum_e2_shift]
    have : ∑ j ∈ Finset.range n, e2 (s j - μ) * v j = e2 (-μ) * ∑ j ∈ Finset.range n, e2 (s j) * v j := by
      rw [Finset.mul_sum]; refine Finset.sum_congr rfl fun j _ => ?_
      rw [← mul_assoc, ← e2_add]; congr 2; ring
    rw [this, mul_div_mul_left _ _ (e2_pos _).ne']

/-- The attention row's logarithm of the denominator, to base 2. -/
theorem Row.lse {n : ℕ} (hn : 0 < n) {s v : ℕ → ℝ} {m l a : EReal} (h : Row n s v m l a) :
    m + Ideal.log l * (((Real.log 2)⁻¹ : ℝ) : EReal)
      = ((Real.log (∑ j ∈ Finset.range n, e2 (s j)) * (Real.log 2)⁻¹ : ℝ) : EReal) := by
  rcases h with ⟨rfl, -⟩ | ⟨μ, rfl, rfl, rfl⟩
  · exact absurd hn (lt_irrefl 0)
  · have hp := sum_e2_pos hn s
    have hq := sum_e2_pos hn fun j => s j - μ
    rw [Ideal.log_coe, if_neg (not_le.2 hq), ← EReal.coe_mul, ← EReal.coe_add, sum_e2_shift,
      Real.log_mul (e2_pos _).ne' hp.ne', e2_eq_exp (-μ), Real.log_exp]
    congr 1
    have := log2_pos.ne'
    field_simp
    ring

/-- The weight the backward pass recomputes from the saved logarithm. -/
theorem e2_sub_lse {n : ℕ} (hn : 0 < n) (s : ℕ → ℝ) (x : ℝ) :
    e2 (x - Real.log (∑ j ∈ Finset.range n, e2 (s j)) * (Real.log 2)⁻¹) = e2 x / ∑ j ∈ Finset.range n, e2 (s j) := by
  have hp := sum_e2_pos hn s
  rw [sub_eq_add_neg, e2_add, div_eq_mul_inv]; congr 1
  rw [e2_eq_exp, neg_mul, mul_assoc, inv_mul_cancel₀ log2_pos.ne', mul_one, Real.exp_neg, Real.exp_log hp]

end Cert.Proof.Math

end
-- ==== Proof.FwdStep.lean ====
/-
  One step of the forward kernel's running softmax on whole blocks, at the extended reals, read row by row: from a state
  whose rows satisfy `Math.Row`, the step over the next 768 keys leaves such a state again.
-/
module

public import proofs.«01_k».proof.Proof.Math
public import proofs.«01_k».proof.Proof.Gen.KernelIdeal.Skeleton
public import Idealize.ShloMosaic.Lib.Pointwise

@[expose] public section

set_option maxRecDepth 16384

noncomputable section

namespace Cert.Proof.Fwd

open Idealize.ShloMosaic Cert.KernelIdeal Cert.KernelIdeal.Gen Cert.Proof.Math
open scoped BigOperators

section Defs
variable {F : FTy → Type} [FloatOps F]

/-- The scores of a query block against a chunk of keys. -/
def score (q : FVec F S1024x128 .bf16) (k : FVec F S768x128 .bf16) : FVec F S1024x768 .f32 :=
  matmul dot_S1024x128_S768x128_S1024x768_1_1_0_0_n_n none q k (constant S1024x768 .f32 0x00000000#32)

/-- The running maximum after the chunk. -/
def newMax (sc : FVec F S1024x768 .f32) (m : FVec F S1024x128 .f32) : FVec F S1024x128 .f32 :=
  maximumf m (broadcastTo S1024x128
    (shapeCast S1024x1 (multiReduction .maximumf [1] S1024 sc 0xFF800000#32 reduces_S1024x768_S1024 (.inl rfl) rfl)
      shapeCasts_S1024_S1024x1) broadcasts_S1024x1_S1024x128)

/-- The factor that takes the old state to the new reference point. -/
def factor (m m' : FVec F S1024x128 .f32) : FVec F S1024x128 .f32 := exp2 (subf m m')

/-- The chunk's weights relative to the new reference point. -/
def weight (sc : FVec F S1024x768 .f32) (m' : FVec F S1024x128 .f32) : FVec F S1024x768 .f32 :=
  exp2 (subf sc (broadcastTo S1024x768 (extractStridedSlice S1024x1 ![0, 0] m' slices_S1024x128_o0_0_S1024x1)
    broadcasts_S1024x1_S1024x768))

/-- The running denominator after the chunk. -/
def newDen (al : FVec F S1024x128 .f32) (w : FVec F S1024x768 .f32) (l : FVec F S1024x128 .f32) : FVec F S1024x128 .f32 :=
  addf (mulf al l) (broadcastTo S1024x128
    (shapeCast S1024x1 (multiReduction .add [1] S1024 w 0x00000000#32 reduces_S1024x768_S1024 (.inl rfl) rfl)
      shapeCasts_S1024_S1024x1) broadcasts_S1024x1_S1024x128)

/-- The running weighted sum after the chunk. -/
def newAcc (al : FVec F S1024x128 .f32) (w : FVec F S1024x768 .f32) (a : FVec F S1024x128 .f32)
    (v : FVec F S768x128 .bf16) : FVec F S1024x128 .f32 :=
  addf (mulf al a) (matmul dot_S1024x768_S768x128_S1024x128_1_0_0_1_n_n none (truncf .bf16 w bitsLt_bf16_f32) v
    (constant S1024x128 .f32 0x00000000#32))

/-- The three running arrays. -/
structure State (F : FTy → Type) where
  m : FVec F S1024x128 .f32
  l : FVec F S1024x128 .f32
  a : FVec F S1024x128 .f32

def init : State F := ⟨k0_pay1, k0_pay2, k0_pay3⟩

def step (q : FVec F S1024x128 .bf16) (k v : FVec F S768x128 .bf16) (s : State F) : State F where
  m := newMax (score q k) s.m
  l := newDen (factor s.m (newMax (score q k) s.m)) (weight (score q k) (newMax (score q k) s.m)) s.l
  a := newAcc (factor s.m (newMax (score q k) s.m)) (weight (score q k) (newMax (score q k) s.m)) s.a v

end Defs

/-! ### The pieces at an index -/

theorem ofBits_negInf : Ideal.ofBits .f32 0xFF800000#32 = ⊥ := by
  simp [Ideal.ofBits, Ideal.ieee]

theorem score_apply (q : FVec Ideal S1024x128 .bf16) (k : FVec Ideal S768x128 .bf16) (r : Fin 1024) (j : Fin 768) :
    score q k (ix2 r j) = ∑ d : Fin 128, q (ix2 r d) * k (ix2 j d) := by
  pointwise [score]

theorem newMax_apply (sc : FVec Ideal S1024x768 .f32) (m : FVec Ideal S1024x128 .f32) (r : Fin 1024) (x : Fin 128) :
    newMax sc m (ix2 r x) = max (m (ix2 r x)) (Finset.univ.fold max ⊥ fun j : Fin 768 => sc (ix2 r j)) := by
  pointwise [newMax]
  rw [ofBits_negInf]

theorem factor_apply (m m' : FVec Ideal S1024x128 .f32) (r : Fin 1024) (x : Fin 128) :
    factor m m' (ix2 r x) = Ideal.exp2 (m (ix2 r x) - m' (ix2 r x)) := by
  pointwise [factor]
  rfl

theorem weight_apply (sc : FVec Ideal S1024x768 .f32) (m' : FVec Ideal S1024x128 .f32) (r : Fin 1024) (j : Fin 768) :
    weight sc m' (ix2 r j) = Ideal.exp2 (sc (ix2 r j) - m' (ix2 r 0)) := by
  pointwise [weight]
  rfl

theorem newDen_apply (al : FVec Ideal S1024x128 .f32) (w : FVec Ideal S1024x768 .f32) (l : FVec Ideal S1024x128 .f32)
    (r : Fin 1024) (x : Fin 128) :
    newDen al w l (ix2 r x) = al (ix2 r x) * l (ix2 r x) + ∑ j : Fin 768, w (ix2 r j) := by
  pointwise [newDen]

theorem newAcc_apply (al : FVec Ideal S1024x128 .f32) (w : FVec Ideal S1024x768 .f32) (a : FVec Ideal S1024x128 .f32)
    (v : FVec Ideal S768x128 .bf16) (r : Fin 1024) (x : Fin 128) :
    newAcc al w a v (ix2 r x) = al (ix2 r x) * a (ix2 r x) + ∑ j : Fin 768, w (ix2 r j) * v (ix2 j x) := by
  pointwise [newAcc]

/-! ### The step keeps the rows' invariant -/

/-- After `n` keys: every row's state is `Math.Row` for the row's scores and each lane's values, and the running
    maximum is the same in all lanes. -/
def Good (n : ℕ) (s : ℕ → ℕ → ℝ) (v : ℕ → ℕ → ℝ) (S : State Ideal) : Prop :=
  ∀ (r : Fin 1024) (x : Fin 128),
    Row n (s r.val) (fun j => v j x.val) (S.m (ix2 r x)) (S.l (ix2 r x)) (S.a (ix2 r x)) ∧ S.m (ix2 r x) = S.m (ix2 r 0)

theorem good_init (s v : ℕ → ℕ → ℝ) : Good 0 s v init := by
  intro r x
  have hm : ∀ x : Fin 128, (init (F := Ideal)).m (ix2 r x) = ⊥ := fun x => by
    show k0_pay1 (F := Ideal) (ix2 r x) = ⊥
    pointwise [k0_pay1]; exact ofBits_negInf
  have hl : (init (F := Ideal)).l (ix2 r x) = 0 := by show k0_pay2 (F := Ideal) (ix2 r x) = 0; pointwise [k0_pay2]
  have ha : (init (F := Ideal)).a (ix2 r x) = 0 := by show k0_pay3 (F := Ideal) (ix2 r x) = 0; pointwise [k0_pay3]
  rw [hm, hl, ha, hm]
  exact ⟨Row.zero _ _, rfl⟩

theorem good_step {n : ℕ} {Q K V : ℕ → ℕ → ℝ} {S : State Ideal}
    (h : Good n (fun r j => ∑ d ∈ Finset.range 128, Q r d * K j d) V S)
    (q : FVec Ideal S1024x128 .bf16) (k v : FVec Ideal S768x128 .bf16)
    (hq : ∀ (r : Fin 1024) (d : Fin 128), q (ix2 r d) = ((Q r.val d.val : ℝ) : EReal))
    (hk : ∀ (j : Fin 768) (d : Fin 128), k (ix2 j d) = ((K (n + j.val) d.val : ℝ) : EReal))
    (hv : ∀ (j : Fin 768) (d : Fin 128), v (ix2 j d) = ((V (n + j.val) d.val : ℝ) : EReal)) :
    Good (n + 768) (fun r j => ∑ d ∈ Finset.range 128, Q r d * K j d) V (step q k v S) := by
  intro r x
  have hsc : ∀ j : Fin 768, score q k (ix2 r j) = ((∑ d ∈ Finset.range 128, Q r.val d * K (n + j.val) d : ℝ) : EReal) := by
    intro j
    rw [score_apply]
    simp only [hq, hk]
    rw [coe_dot, Fin.sum_univ_eq_sum_range (fun d => Q r.val d * K (n + j.val) d) 128]
  obtain ⟨hrow, hlane⟩ := h r x
  obtain ⟨μ, hμ⟩ := hrow.max_real (c := 768) (by norm_num)
  have hm' : newMax (score q k) S.m (ix2 r x) = (μ : EReal) := by
    rw [newMax_apply]; simp only [hsc]; exact hμ
  have hm0 : newMax (score q k) S.m (ix2 r 0) = (μ : EReal) := by
    rw [newMax_apply, ← hlane]; simp only [hsc]; exact hμ
  constructor
  · have := hrow.step (c := 768) μ
    simp only [step]
    rw [newDen_apply, newAcc_apply, factor_apply, hm']
    simp only [weight_apply, hsc, hm0, hv]
    exact this
  · show newMax (score q k) S.m (ix2 r x) = newMax (score q k) S.m (ix2 r 0)
    rw [hm', hm0]

end Cert.Proof.Fwd

end
-- ==== Proof.FwdRun.lean ====
/-
  What the forward kernel's body leaves in its two output blocks: eleven steps of `Fwd.step` from `Fwd.init`, then the
  quotient and the logarithm. The body's run names every value it reads back from its three scratch arrays; each is
  identified here with the state of the step it belongs to.
-/
module

public import proofs.«01_k».proof.Proof.FwdStep
public import proofs.«01_k».proof.Proof.Gen.KernelIdeal.Frame
public import Idealize.ShloMosaic.Lib.Pipeline.ValueKit.Acc
public import Idealize.ShloMosaic.Lib.Pipeline.ValueKit.Tiles

@[expose] public section

set_option maxRecDepth 16384

noncomputable section

namespace Cert.Proof.Fwd

open Idealize.ShloMosaic Idealize.ShloMosaic.TcCoe Idealize.SL.Sem
open Cert.KernelIdeal Cert.KernelIdeal.Gen

variable {F : FTy → Type} [FloatOps F] [Named F]

theorem inb_chunk (n : ℕ) : ∀ a, (![768 * (n % 11), 0] : Fin 2 → ℕ) a + S768x128.size a ≤ S8448x128.size a := by
  have := Nat.mod_lt n (show 0 < 11 by norm_num)
  intro a
  match a with
  | 0 => show 768 * (n % 11) + 768 ≤ 8448; omega
  | 1 => show 0 + 128 ≤ 128; omega

/-- Rows `768 n … 768 n + 767` of an array of 8448 rows. -/
def chunk (x : Vec F S8448x128 .bf16) (n : ℕ) : Vec F S768x128 .bf16 :=
  View.ld (Val := Elt F) x (Rect.unit (s := S8448x128) ![768 * (n % 11), 0] S768x128.size (inb_chunk n))

theorem chunk_apply (x : Vec F S8448x128 .bf16) (n : ℕ) (hn : n < 11) (r : Fin 768) (d : Fin 128) :
    chunk x n (ix2 r d) = x (ix2 ⟨768 * n + r.val, by omega⟩ d) := by
  show x _ = x _
  congr 1
  funext a
  apply Fin.ext
  match a with
  | 0 => rw [Rect.idx_unit_val]
         show 768 * (n % 11) + r.val = 768 * n + r.val
         rw [Nat.mod_eq_of_lt hn]
  | 1 => rw [Rect.idx_unit_val]
         show 0 + d.val = d.val
         rw [Nat.zero_add]

/-- The state after `n` steps. -/
def states (q : Vec F S1024x128 .bf16) (k v : Vec F S8448x128 .bf16) : ℕ → State F
  | 0 => init
  | n + 1 => step q (chunk k n) (chunk v n) (states q k v n)

theorem off0 : ∀ a : Fin 2, (![0, 0] : Fin 2 → ℕ) a = 0 := by decide

theorem hz : (![0, 0] : Fin 2 → ℕ) = fun _ => 0 := funext off0

theorem q_ld (x : Vec F S1024x128 .bf16)
    (inb : ∀ a, (![0, 0] : Fin 2 → ℕ) a + S1024x128.size a ≤ S1024x128.size a) :
    View.ld (Val := Elt F) x (Rect.unit (s := S1024x128) ![0, 0] ![1024, 128] inb) = x :=
  View.ld_unit_zero (S := S1024x128) hz inb x

section Run

open kernelRun0_A.sl

variable (c : Dev nD) (arg2 : Memref sig .tc .vmem S1024x128 .bf16) (harg2 : arg2.IsWhole)
  (arg3 : Memref sig .tc .vmem S8448x128 .bf16) (harg3 : arg3.IsWhole) (arg4 : Memref sig .tc .vmem S8448x128 .bf16)
  (harg4 : arg4.IsWhole) (arg7 arg8 arg9 : Memref sig .tc .vmem S1024x128 .f32) (x0 : Vec F S1024x128 .bf16)
  (x1 x2 : Vec F S8448x128 .bf16)

include c arg2 harg2 arg3 harg3 arg4 harg4 arg7 arg8 arg9 x0 x1 x2

theorem m_0 :
    v20 (F := F) c arg7 = (states x0 x1 x2 0).m := by
  unfold v20 HS0_1
  rw [View.readCov_cons_unit_lit' (S := S1024x128) _ _ _ _ _ off0 off0]
  rfl

theorem l_0 :
    v31 (F := F) c arg8 = (states x0 x1 x2 0).l := by
  unfold v31 HS1_1
  rw [View.readCov_cons_unit_lit' (S := S1024x128) _ _ _ _ _ off0 off0]
  rfl

theorem a_0 :
    v40 (F := F) c arg9 = (states x0 x1 x2 0).a := by
  unfold v40 HS2_1
  rw [View.readCov_cons_unit_lit' (S := S1024x128) _ _ _ _ _ off0 off0]
  rfl

theorem m_1 :
    v62 (F := F) c arg2 harg2 arg3 harg3 arg7 x0 x1 = (states x0 x1 x2 1).m := by
  unfold v62 HS0_2
  rw [View.readCov_cons_unit_lit' (S := S1024x128) _ _ _ _ _ off0 off0]
  have hm := m_0 c arg2 harg2 arg3 harg3 arg4 harg4 arg7 arg8 arg9 x0 x1 x2
  simp only [k0_pay13, r_1, k0_pay6, hm, k0_pay5, k0_pay4, View.readAt_eq_ld, harg2.read_unread, q_ld,
    shapeCast_self, harg3.read_unread]
  rfl

theorem l_1 :
    v73 (F := F) c arg2 harg2 arg3 harg3 arg7 arg8 x0 x1 = (states x0 x1 x2 1).l := by
  unfold v73 HS1_2
  rw [View.readCov_cons_unit_lit' (S := S1024x128) _ _ _ _ _ off0 off0]
  have hm := m_0 c arg2 harg2 arg3 harg3 arg4 harg4 arg7 arg8 arg9 x0 x1 x2
  have hl := l_0 c arg2 harg2 arg3 harg3 arg4 harg4 arg7 arg8 arg9 x0 x1 x2
  simp only [k0_pay11, r_4, k0_pay9, k0_pay7, hm, k0_pay6, k0_pay5, k0_pay4, View.readAt_eq_ld,
    harg2.read_unread, q_ld, shapeCast_self, harg3.read_unread, hl, r_5, k0_pay10, k0_pay8]
  rfl

theorem a_1 :
    v82 (F := F) c arg2 harg2 arg3 harg3 arg4 harg4 arg7 arg9 x0 x1 x2 = (states x0 x1 x2 1).a := by
  unfold v82 HS2_2
  rw [View.readCov_cons_unit_lit' (S := S1024x128) _ _ _ _ _ off0 off0]
  have hm := m_0 c arg2 harg2 arg3 harg3 arg4 harg4 arg7 arg8 arg9 x0 x1 x2
  have ha := a_0 c arg2 harg2 arg3 harg3 arg4 harg4 arg7 arg8 arg9 x0 x1 x2
  simp only [k0_pay12, r_2, k0_pay7, hm, k0_pay6, k0_pay5, k0_pay4, View.readAt_eq_ld, harg2.read_unread,
    q_ld, shapeCast_self, harg3.read_unread, ha, r_3, k0_pay8, harg4.read_unread]
  rfl

theorem m_2 :
    v104 (F := F) c arg2 harg2 arg3 harg3 arg7 x0 x1 = (states x0 x1 x2 2).m := by
  unfold v104 HS0_3
  rw [View.readCov_cons_unit_lit' (S := S1024x128) _ _ _ _ _ off0 off0]
  have hm := m_1 c arg2 harg2 arg3 harg3 arg4 harg4 arg7 arg8 arg9 x0 x1 x2
  simp only [k0_pay20, r_6, k0_pay15, hm, k0_pay14, r, k0_pay4, View.readAt_eq_ld,
    harg2.read_unread, q_ld, shapeCast_self, harg3.read_unread]
  rfl

theorem l_2 :
    v115 (F := F) c arg2 harg2 arg3 harg3 arg7 arg8 x0 x1 = (states x0 x1 x2 2).l := by
  unfold v115 HS1_3
  rw [View.readCov_cons_unit_lit' (S := S1024x128) _ _ _ _ _ off0 off0]
  have hm := m_1 c arg2 harg2 arg3 harg3 arg4 harg4 arg7 arg8 arg9 x0 x1 x2
  have hl := l_1 c arg2 harg2 arg3 harg3 arg4 harg4 arg7 arg8 arg9 x0 x1 x2
  simp only [k0_pay18, r_7, k0_pay16, hm, k0_pay15, k0_pay14, r, k0_pay4, View.readAt_eq_ld,
    harg2.read_unread, q_ld, shapeCast_self, harg3.read_unread, hl, r_8, k0_pay17]
  rfl

theorem a_2 :
    v124 (F := F) c arg2 harg2 arg3 harg3 arg4 harg4 arg7 arg9 x0 x1 x2 = (states x0 x1 x2 2).a := by
  unfold v124 HS2_3
  rw [View.readCov_cons_unit_lit' (S := S1024x128) _ _ _ _ _ off0 off0]
  have hm := m_1 c arg2 harg2 arg3 harg3 arg4 harg4 arg7 arg8 arg9 x0 x1 x2
  have ha := a_1 c arg2 harg2 arg3 harg3 arg4 harg4 arg7 arg8 arg9 x0 x1 x2
  simp only [k0_pay19, r_7, k0_pay16, hm, k0_pay15, k0_pay14, r, k0_pay4, View.readAt_eq_ld,
    harg2.read_unread, q_ld, shapeCast_self, harg3.read_unread, ha, r_8, k0_pay17, harg4.read_unread]
  rfl

theorem m_3 :
    v146 (F := F) c arg2 harg2 arg3 harg3 arg7 x0 x1 = (states x0 x1 x2 3).m := by
  unfold v146 HS0_4
  rw [View.readCov_cons_unit_lit' (S := S1024x128) _ _ _ _ _ off0 off0]
  have hm := m_2 c arg2 harg2 arg3 harg3 arg4 harg4 arg7 arg8 arg9 x0 x1 x2
  simp only [k0_pay27, r_10, k0_pay22, hm, k0_pay21, r, k0_pay4, View.readAt_eq_ld,
    harg2.read_unread, q_ld, shapeCast_self, harg3.read_unread]
  rfl

theorem l_3 :
    v157 (F := F) c arg2 harg2 arg3 harg3 arg7 arg8 x0 x1 = (states x0 x1 x2 3).l := by
  unfold v157 HS1_4
  rw [View.readCov_cons_unit_lit' (S := S1024x128) _ _ _ _ _ off0 off0]
  have hm := m_2 c arg2 harg2 arg3 harg3 arg4 harg4 arg7 arg8 arg9 x0 x1 x2
  have hl := l_2 c arg2 harg2 arg3 harg3 arg4 harg4 arg7 arg8 arg9 x0 x1 x2
  simp only [k0_pay25, k0_pay23, hm, r_10, k0_pay22, k0_pay21, r, k0_pay4, View.readAt_eq_ld,
    harg2.read_unread, q_ld, shapeCast_self, harg3.read_unread, hl, k0_pay24, r_9]
  rfl

theorem a_3 :
    v166 (F := F) c arg2 harg2 arg3 harg3 arg4 harg4 arg7 arg9 x0 x1 x2 = (states x0 x1 x2 3).a := by
  unfold v166 HS2_4
  rw [View.readCov_cons_unit_lit' (S := S1024x128) _ _ _ _ _ off0 off0]
  have hm := m_2 c arg2 harg2 arg3 harg3 arg4 harg4 arg7 arg8 arg9 x0 x1 x2
  have ha := a_2 c arg2 harg2 arg3 harg3 arg4 harg4 arg7 arg8 arg9 x0 x1 x2
  simp only [k0_pay26, k0_pay23, hm, r_10, k0_pay22, k0_pay21, r, k0_pay4, View.readAt_eq_ld,
    harg2.read_unread, q_ld, shapeCast_self, harg3.read_unread, ha, k0_pay24, r_9, harg4.read_unread]
  rfl

theorem m_4 :
    v188 (F := F) c arg2 harg2 arg3 harg3 arg7 x0 x1 = (states x0 x1 x2 4).m := by
  unfold v188 HS0_5
  rw [View.readCov_cons_unit_lit' (S := S1024x128) _ _ _ _ _ off0 off0]
  have hm := m_3 c arg2 harg2 arg3 harg3 arg4 harg4 arg7 arg8 arg9 x0 x1 x2
  simp only [k0_pay34, k0_pay29, hm, r_11, k0_pay28, r, k0_pay4, View.readAt_eq_ld,
    harg2.read_unread, q_ld, shapeCast_self, harg3.read_unread]
  rfl

theorem l_4 :
    v199 (F := F) c arg2 harg2 arg3 harg3 arg7 arg8 x0 x1 = (states x0 x1 x2 4).l := by
  unfold v199 HS1_5
  rw [View.readCov_cons_unit_lit' (S := S1024x128) _ _ _ _ _ off0 off0]
  have hm := m_3 c arg2 harg2 arg3 harg3 arg4 harg4 arg7 arg8 arg9 x0 x1 x2
  have hl := l_3 c arg2 harg2 arg3 harg3 arg4 harg4 arg7 arg8 arg9 x0 x1 x2
  simp only [k0_pay32, k0_pay30, hm, k0_pay29, r_11, k0_pay28, r, k0_pay4, View.readAt_eq_ld,
    harg2.read_unread, q_ld, shapeCast_self, harg3.read_unread, hl, k0_pay31]
  rfl

theorem a_4 :
    v208 (F := F) c arg2 harg2 arg3 harg3 arg4 harg4 arg7 arg9 x0 x1 x2 = (states x0 x1 x2 4).a := by
  unfold v208 HS2_5
  rw [View.readCov_cons_unit_lit' (S := S1024x128) _ _ _ _ _ off0 off0]
  have hm := m_3 c arg2 harg2 arg3 harg3 arg4 harg4 arg7 arg8 arg9 x0 x1 x2
  have ha := a_3 c arg2 harg2 arg3 harg3 arg4 harg4 arg7 arg8 arg9 x0 x1 x2
  simp only [k0_pay33, k0_pay30, hm, k0_pay29, r_11, k0_pay28, r, k0_pay4, View.readAt_eq_ld,
    harg2.read_unread, q_ld, shapeCast_self, harg3.read_unread, ha, k0_pay31, harg4.read_unread]
  rfl

theorem m_5 :
    v230 (F := F) c arg2 harg2 arg3 harg3 arg7 x0 x1 = (states x0 x1 x2 5).m := by
  unfold v230 HS0_6
  rw [View.readCov_cons_unit_lit' (S := S1024x128) _ _ _ _ _ off0 off0]
  have hm := m_4 c arg2 harg2 arg3 harg3 arg4 harg4 arg7 arg8 arg9 x0 x1 x2
  simp only [k0_pay41, k0_pay36, hm, k0_pay35, r, k0_pay4, View.readAt_eq_ld, harg2.read_unread, q_ld,
    shapeCast_self, harg3.read_unread]
  rfl

theorem l_5 :
    v241 (F := F) c arg2 harg2 arg3 harg3 arg7 arg8 x0 x1 = (states x0 x1 x2 5).l := by
  unfold v241 HS1_6
  rw [View.readCov_cons_unit_lit' (S := S1024x128) _ _ _ _ _ off0 off0]
  have hm := m_4 c arg2 harg2 arg3 harg3 arg4 harg4 arg7 arg8 arg9 x0 x1 x2
  have hl := l_4 c arg2 harg2 arg3 harg3 arg4 harg4 arg7 arg8 arg9 x0 x1 x2
  simp only [k0_pay39, k0_pay37, hm, k0_pay36, k0_pay35, r, k0_pay4, View.readAt_eq_ld, harg2.read_unread,
    q_ld, shapeCast_self, harg3.read_unread, hl, k0_pay38]
  rfl

theorem a_5 :
    v250 (F := F) c arg2 harg2 arg3 harg3 arg4 harg4 arg7 arg9 x0 x1 x2 = (states x0 x1 x2 5).a := by
  unfold v250 HS2_6
  rw [View.readCov_cons_unit_lit' (S := S1024x128) _ _ _ _ _ off0 off0]
  have hm := m_4 c arg2 harg2 arg3 harg3 arg4 harg4 arg7 arg8 arg9 x0 x1 x2
  have ha := a_4 c arg2 harg2 arg3 harg3 arg4 harg4 arg7 arg8 arg9 x0 x1 x2
  simp only [k0_pay40, k0_pay37, hm, k0_pay36, k0_pay35, r, k0_pay4, View.readAt_eq_ld, harg2.read_unread,
    q_ld, shapeCast_self, harg3.read_unread, ha, k0_pay38, harg4.read_unread]
  rfl

theorem m_6 :
    v272 (F := F) c arg2 harg2 arg3 harg3 arg7 x0 x1 = (states x0 x1 x2 6).m := by
  unfold v272 HS0_7
  rw [View.readCov_cons_unit_lit' (S := S1024x128) _ _ _ _ _ off0 off0]
  have hm := m_5 c arg2 harg2 arg3 harg3 arg4 harg4 arg7 arg8 arg9 x0 x1 x2
  simp only [k0_pay48, r_12, k0_pay43, hm, k0_pay42, r, k0_pay4, View.readAt_eq_ld,
    harg2.read_unread, q_ld, shapeCast_self, harg3.read_unread]
  rfl

theorem l_6 :
    v283 (F := F) c arg2 harg2 arg3 harg3 arg7 arg8 x0 x1 = (states x0 x1 x2 6).l := by
  unfold v283 HS1_7
  rw [View.readCov_cons_unit_lit' (S := S1024x128) _ _ _ _ _ off0 off0]
  have hm := m_5 c arg2 harg2 arg3 harg3 arg4 harg4 arg7 arg8 arg9 x0 x1 x2
  have hl := l_5 c arg2 harg2 arg3 harg3 arg4 harg4 arg7 arg8 arg9 x0 x1 x2
  simp only [k0_pay46, k0_pay44, hm, k0_pay43, k0_pay42, r, k0_pay4, View.readAt_eq_ld, harg2.read_unread,
    q_ld, shapeCast_self, harg3.read_unread, hl, k0_pay45]
  rfl

theorem a_6 :
    v292 (F := F) c arg2 harg2 arg3 harg3 arg4 harg4 arg7 arg9 x0 x1 x2 = (states x0 x1 x2 6).a := by
  unfold v292 HS2_7
  rw [View.readCov_cons_unit_lit' (S := S1024x128) _ _ _ _ _ off0 off0]
  have hm := m_5 c arg2 harg2 arg3 harg3 arg4 harg4 arg7 arg8 arg9 x0 x1 x2
  have ha := a_5 c arg2 harg2 arg3 harg3 arg4 harg4 arg7 arg8 arg9 x0 x1 x2
  simp only [k0_pay47, k0_pay44, hm, k0_pay43, k0_pay42, r, k0_pay4, View.readAt_eq_ld, harg2.read_unread,
    q_ld, shapeCast_self, harg3.read_unread, ha, k0_pay45, harg4.read_unread]
  rfl

theorem m_7 :
    v314 (F := F) c arg2 harg2 arg3 harg3 arg7 x0 x1 = (states x0 x1 x2 7).m := by
  unfold v314 HS0_8
  rw [View.readCov_cons_unit_lit' (S := S1024x128) _ _ _ _ _ off0 off0]
  have hm := m_6 c arg2 harg2 arg3 harg3 arg4 harg4 arg7 arg8 arg9 x0 x1 x2
  simp only [k0_pay56, r_13, k0_pay50, hm, k0_pay49, r, k0_pay4, View.readAt_eq_ld,
    harg2.read_unread, q_ld, shapeCast_self, harg3.read_unread]
  rfl

theorem l_7 :
    v325 (F := F) c arg2 harg2 arg3 harg3 arg7 arg8 x0 x1 = (states x0 x1 x2 7).l := by
  unfold v325 HS1_8
  rw [View.readCov_cons_unit_lit' (S := S1024x128) _ _ _ _ _ off0 off0]
  have hm := m_6 c arg2 harg2 arg3 harg3 arg4 harg4 arg7 arg8 arg9 x0 x1 x2
  have hl := l_6 c arg2 harg2 arg3 harg3 arg4 harg4 arg7 arg8 arg9 x0 x1 x2
  simp only [k0_pay53, k0_pay51, hm, k0_pay50, k0_pay49, r, k0_pay4, View.readAt_eq_ld, harg2.read_unread,
    q_ld, shapeCast_self, harg3.read_unread, hl, k0_pay52]
  rfl

theorem a_7 :
    v334 (F := F) c arg2 harg2 arg3 harg3 arg4 harg4 arg7 arg9 x0 x1 x2 = (states x0 x1 x2 7).a := by
  unfold v334 HS2_8
  rw [View.readCov_cons_unit_lit' (S := S1024x128) _ _ _ _ _ off0 off0]
  have hm := m_6 c arg2 harg2 arg3 harg3 arg4 harg4 arg7 arg8 arg9 x0 x1 x2
  have ha := a_6 c arg2 harg2 arg3 harg3 arg4 harg4 arg7 arg8 arg9 x0 x1 x2
  simp only [k0_pay55, r_14, k0_pay54, k0_pay51, hm, k0_pay50, k0_pay49, r, k0_pay4,
    View.readAt_eq_ld, harg2.read_unread, q_ld, shapeCast_self, harg3.read_unread, ha, k0_pay52, harg4.read_unread]
  rfl

theorem m_8 :
    v356 (F := F) c arg2 harg2 arg3 harg3 arg7 x0 x1 = (states x0 x1 x2 8).m := by
  unfold v356 HS0_9
  rw [View.readCov_cons_unit_lit' (S := S1024x128) _ _ _ _ _ off0 off0]
  have hm := m_7 c arg2 harg2 arg3 harg3 arg4 harg4 arg7 arg8 arg9 x0 x1 x2
  simp only [k0_pay65, r_15, k0_pay58, hm, k0_pay57, r, k0_pay4, View.readAt_eq_ld,
    harg2.read_unread, q_ld, shapeCast_self, harg3.read_unread]
  rfl

theorem l_8 :
    v367 (F := F) c arg2 harg2 arg3 harg3 arg7 arg8 x0 x1 = (states x0 x1 x2 8).l := by
  unfold v367 HS1_9
  rw [View.readCov_cons_unit_lit' (S := S1024x128) _ _ _ _ _ off0 off0]
  have hm := m_7 c arg2 harg2 arg3 harg3 arg4 harg4 arg7 arg8 arg9 x0 x1 x2
  have hl := l_7 c arg2 harg2 arg3 harg3 arg4 harg4 arg7 arg8 arg9 x0 x1 x2
  simp only [k0_pay61, k0_pay59, hm, k0_pay58, k0_pay57, r, k0_pay4, View.readAt_eq_ld, harg2.read_unread,
    q_ld, shapeCast_self, harg3.read_unread, hl, k0_pay60]
  rfl

theorem a_8 :
    v376 (F := F) c arg2 harg2 arg3 harg3 arg4 harg4 arg7 arg9 x0 x1 x2 = (states x0 x1 x2 8).a := by
  unfold v376 HS2_9
  rw [View.readCov_cons_unit_lit' (S := S1024x128) _ _ _ _ _ off0 off0]
  have hm := m_7 c arg2 harg2 arg3 harg3 arg4 harg4 arg7 arg8 arg9 x0 x1 x2
  have ha := a_7 c arg2 harg2 arg3 harg3 arg4 harg4 arg7 arg8 arg9 x0 x1 x2
  simp only [k0_pay64, r_16, k0_pay62, k0_pay59, hm, k0_pay58, k0_pay57, r, k0_pay4,
    View.readAt_eq_ld, harg2.read_unread, q_ld, shapeCast_self, harg3.read_unread, ha, r_17, k0_pay63,
    k0_pay60, harg4.read_unread]
  rfl

theorem m_9 :
    v398 (F := F) c arg2 harg2 arg3 harg3 arg7 x0 x1 = (states x0 x1 x2 9).m := by
  unfold v398 HS0_10
  rw [View.readCov_cons_unit_lit' (S := S1024x128) _ _ _ _ _ off0 off0]
  have hm := m_8 c arg2 harg2 arg3 harg3 arg4 harg4 arg7 arg8 arg9 x0 x1 x2
  simp only [k0_pay72, r_18, k0_pay67, hm, k0_pay66, r, k0_pay4, View.readAt_eq_ld,
    harg2.read_unread, q_ld, shapeCast_self, harg3.read_unread]
  rfl

theorem l_9 :
    v409 (F := F) c arg2 harg2 arg3 harg3 arg7 arg8 x0 x1 = (states x0 x1 x2 9).l := by
  unfold v409 HS1_10
  rw [View.readCov_cons_unit_lit' (S := S1024x128) _ _ _ _ _ off0 off0]
  have hm := m_8 c arg2 harg2 arg3 harg3 arg4 harg4 arg7 arg8 arg9 x0 x1 x2
  have hl := l_8 c arg2 harg2 arg3 harg3 arg4 harg4 arg7 arg8 arg9 x0 x1 x2
  simp only [k0_pay70, k0_pay68, hm, k0_pay67, k0_pay66, r, k0_pay4, View.readAt_eq_ld, harg2.read_unread,
    q_ld, shapeCast_self, harg3.read_unread, hl, k0_pay69]
  rfl

theorem a_9 :
    v418 (F := F) c arg2 harg2 arg3 harg3 arg4 harg4 arg7 arg9 x0 x1 x2 = (states x0 x1 x2 9).a := by
  unfold v418 HS2_10
  rw [View.readCov_cons_unit_lit' (S := S1024x128) _ _ _ _ _ off0 off0]
  have hm := m_8 c arg2 harg2 arg3 harg3 arg4 harg4 arg7 arg8 arg9 x0 x1 x2
  have ha := a_8 c arg2 harg2 arg3 harg3 arg4 harg4 arg7 arg8 arg9 x0 x1 x2
  simp only [k0_pay71, r_19, k0_pay68, hm, k0_pay67, k0_pay66, r, k0_pay4, View.readAt_eq_ld,
    harg2.read_unread, q_ld, shapeCast_self, harg3.read_unread, ha, r_20, k0_pay69, harg4.read_unread]
  rfl

theorem m_10 :
    v440 (F := F) c arg2 harg2 arg3 harg3 arg7 x0 x1 = (states x0 x1 x2 10).m := by
  unfold v440 HS0_11
  rw [View.readCov_cons_unit_lit' (S := S1024x128) _ _ _ _ _ off0 off0]
  have hm := m_9 c arg2 harg2 arg3 harg3 arg4 harg4 arg7 arg8 arg9 x0 x1 x2
  simp only [k0_pay80, r_21, k0_pay74, hm, k0_pay73, r, k0_pay4, View.readAt_eq_ld,
    harg2.read_unread, q_ld, shapeCast_self, harg3.read_unread]
  rfl

theorem l_10 :
    v451 (F := F) c arg2 harg2 arg3 harg3 arg7 arg8 x0 x1 = (states x0 x1 x2 10).l := by
  unfold v451 HS1_11
  rw [View.readCov_cons_unit_lit' (S := S1024x128) _ _ _ _ _ off0 off0]
  have hm := m_9 c arg2 harg2 arg3 harg3 arg4 harg4 arg7 arg8 arg9 x0 x1 x2
  have hl := l_9 c arg2 harg2 arg3 harg3 arg4 harg4 arg7 arg8 arg9 x0 x1 x2
  simp only [k0_pay78, r_24, k0_pay77, k0_pay75, hm, k0_pay74, k0_pay73, r, k0_pay4,
    View.readAt_eq_ld, harg2.read_unread, q_ld, shapeCast_self, harg3.read_unread, hl, k0_pay76]
  rfl

theorem a_10 :
    v460 (F := F) c arg2 harg2 arg3 harg3 arg4 harg4 arg7 arg9 x0 x1 x2 = (states x0 x1 x2 10).a := by
  unfold v460 HS2_11
  rw [View.readCov_cons_unit_lit' (S := S1024x128) _ _ _ _ _ off0 off0]
  have hm := m_9 c arg2 harg2 arg3 harg3 arg4 harg4 arg7 arg8 arg9 x0 x1 x2
  have ha := a_9 c arg2 harg2 arg3 harg3 arg4 harg4 arg7 arg8 arg9 x0 x1 x2
  simp only [k0_pay79, r_22, k0_pay75, hm, k0_pay74, k0_pay73, r, k0_pay4, View.readAt_eq_ld,
    harg2.read_unread, q_ld, shapeCast_self, harg3.read_unread, ha, r_23, k0_pay76, harg4.read_unread]
  rfl

theorem m_11 :
    v481 (F := F) c arg2 harg2 arg3 harg3 arg7 x0 x1 = (states x0 x1 x2 11).m := by
  unfold v481 HS0_12
  rw [View.readCov_cons_unit_lit' (S := S1024x128) _ _ _ _ _ off0 off0]
  have hm := m_10 c arg2 harg2 arg3 harg3 arg4 harg4 arg7 arg8 arg9 x0 x1 x2
  simp only [k0_pay89, r_25, k0_pay82, hm, k0_pay81, r, k0_pay4, View.readAt_eq_ld,
    harg2.read_unread, q_ld, shapeCast_self, harg3.read_unread]
  rfl

theorem l_11 :
    v477 (F := F) c arg2 harg2 arg3 harg3 arg7 arg8 x0 x1 = (states x0 x1 x2 11).l := by
  unfold v477 HS1_12
  rw [View.readCov_cons_unit_lit' (S := S1024x128) _ _ _ _ _ off0 off0]
  have hm := m_10 c arg2 harg2 arg3 harg3 arg4 harg4 arg7 arg8 arg9 x0 x1 x2
  have hl := l_10 c arg2 harg2 arg3 harg3 arg4 harg4 arg7 arg8 arg9 x0 x1 x2
  simp only [k0_pay87, r_28, k0_pay85, k0_pay83, hm, k0_pay82, k0_pay81, r, k0_pay4,
    View.readAt_eq_ld, harg2.read_unread, q_ld, shapeCast_self, harg3.read_unread, hl, r_29, k0_pay86,
    k0_pay84]
  rfl

theorem a_11 :
    v476 (F := F) c arg2 harg2 arg3 harg3 arg4 harg4 arg7 arg9 x0 x1 x2 = (states x0 x1 x2 11).a := by
  unfold v476 HS2_12
  rw [View.readCov_cons_unit_lit' (S := S1024x128) _ _ _ _ _ off0 off0]
  have hm := m_10 c arg2 harg2 arg3 harg3 arg4 harg4 arg7 arg8 arg9 x0 x1 x2
  have ha := a_10 c arg2 harg2 arg3 harg3 arg4 harg4 arg7 arg8 arg9 x0 x1 x2
  simp only [k0_pay88, r_26, k0_pay83, hm, k0_pay82, k0_pay81, r, k0_pay4, View.readAt_eq_ld,
    harg2.read_unread, q_ld, shapeCast_self, harg3.read_unread, ha, r_27, k0_pay84, harg4.read_unread]
  rfl

end Run

end Cert.Proof.Fwd

end
-- ==== Proof.Place.lean ====
/-
  Where the element of a block lies in the array that the block is cut from.
-/
module

public import Idealize.ShloMosaic.Lib.Pointwise
public import Idealize.ShloMosaic.Lib.Quiescent
public import Idealize.ShloMosaic.Lib.VecWindow

@[expose] public section

namespace Cert.Proof

open Idealize.ShloMosaic

theorem hz : (![0, 0] : Fin 2 → Nat) = fun _ => 0 := funext fun a => by fin_cases a <;> rfl
theorem hz3 : (![0, 0, 0] : Fin 3 → Nat) = fun _ => 0 := funext fun a => by fin_cases a <;> rfl

/-- An index is known from its coordinates. -/
theorem at2 {n0 n1 : ℕ} (i : (⟨2, ![n0, n1]⟩ : Shape).Idx) (a : Fin n0) (b : Fin n1) (h0 : (i 0).val = a.val) (h1 : (i 1).val = b.val) :
    i = ix2 a b :=
  funext fun d => Fin.ext (by
    match d with
    | ⟨0, _⟩ => exact h0
    | ⟨1, _⟩ => exact h1)

theorem at3 {n0 n1 n2 : ℕ} (i : (⟨3, ![n0, n1, n2]⟩ : Shape).Idx) (a : Fin n0) (b : Fin n1) (c : Fin n2) (h0 : (i 0).val = a.val)
    (h1 : (i 1).val = b.val) (h2 : (i 2).val = c.val) : i = ix3 a b c :=
  funext fun d => Fin.ext (by
    match d with
    | ⟨0, _⟩ => exact h0
    | ⟨1, _⟩ => exact h1
    | ⟨2, _⟩ => exact h2)

theorem at4 {n0 n1 n2 n3 : ℕ} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d :=
  funext fun d => Fin.ext (by
    match d with
    | ⟨0, _⟩ => exact h0
    | ⟨1, _⟩ => exact h1
    | ⟨2, _⟩ => exact h2
    | ⟨3, _⟩ => exact h3)

/-- A coordinate of a block's element: the block's number times the block's length, and the element's own coordinate. -/
def along (x n u : ℕ) : ℕ := x * n + 1 * u

theorem along_eq {x k : ℕ} (e : x = k) (n u : ℕ) : along x n u = n * k + u := by
  rw [e]; unfold along; rw [Nat.mul_comm, Nat.one_mul]

/-- Where an element of a block lies, if the block's numbers are known: `n` and `u` are the block's lengths and the element's coordinates. -/
theorem put2 {n0 n1 x0 x1 k0 k1 : ℕ} {i : (⟨2, ![n0, n1]⟩ : Shape).Idx} {a : Fin n0} {b : Fin n1} (e : x0 = k0 ∧ x1 = k1) (l0 u0 l1 u1 : ℕ)
    (h0 : (i 0).val = along x0 l0 u0 := by rfl) (h1 : (i 1).val = along x1 l1 u1 := by rfl) (ha : l0 * k0 + u0 = a.val := by first | rfl | omega | (dsimp only; omega)) (hb : l1 * k1 + u1 = b.val := by first | rfl | omega | (dsimp only; omega)) :
    i = ix2 a b :=
  at2 i a b ((h0.trans (along_eq e.1 l0 u0)).trans ha) ((h1.trans (along_eq e.2 l1 u1)).trans hb)

theorem put3 {n0 n1 n2 x0 x1 x2 k0 k1 k2 : ℕ} {i : (⟨3, ![n0, n1, n2]⟩ : Shape).Idx} {a : Fin n0} {b : Fin n1} {c : Fin n2}
    (e : x0 = k0 ∧ x1 = k1 ∧ x2 = k2) (l0 u0 l1 u1 l2 u2 : ℕ) (h0 : (i 0).val = along x0 l0 u0 := by rfl) (h1 : (i 1).val = along x1 l1 u1 := by rfl)
    (h2 : (i 2).val = along x2 l2 u2 := by rfl) (ha : l0 * k0 + u0 = a.val := by first | rfl | omega | (dsimp only; omega)) (hb : l1 * k1 + u1 = b.val := by first | rfl | omega | (dsimp only; omega)) (hc : l2 * k2 + u2 = c.val := by first | rfl | omega | (dsimp only; omega)) : i = ix3 a b c :=
  at3 i a b c ((h0.trans (along_eq e.1 l0 u0)).trans ha) ((h1.trans (along_eq e.2.1 l1 u1)).trans hb) ((h2.trans (along_eq e.2.2 l2 u2)).trans hc)

theorem put4 {n0 n1 n2 n3 x0 x1 x2 x3 k0 k1 k2 k3 : ℕ} {i : (⟨4, ![n0, n1, n2, n3]⟩ : Shape).Idx} {a : Fin n0} {b : Fin n1} {c : Fin n2}
    {d : Fin n3} (e : x0 = k0 ∧ x1 = k1 ∧ x2 = k2 ∧ x3 = k3) (l0 u0 l1 u1 l2 u2 l3 u3 : ℕ) (h0 : (i 0).val = along x0 l0 u0 := by rfl)
    (h1 : (i 1).val = along x1 l1 u1 := by rfl) (h2 : (i 2).val = along x2 l2 u2 := by rfl) (h3 : (i 3).val = along x3 l3 u3 := by rfl) (ha : l0 * k0 + u0 = a.val := by first | rfl | omega | (dsimp only; omega))
    (hb : l1 * k1 + u1 = b.val := by first | rfl | omega | (dsimp only; omega)) (hc : l2 * k2 + u2 = c.val := by first | rfl | omega | (dsimp only; omega)) (hd : l3 * k3 + u3 = d.val := by first | rfl | omega | (dsimp only; omega)) : i = ix4 a b c d :=
  at4 i a b c d ((h0.trans (along_eq e.1 l0 u0)).trans ha) ((h1.trans (along_eq e.2.1 l1 u1)).trans hb)
    ((h2.trans (along_eq e.2.2.1 l2 u2)).trans hc) ((h3.trans (along_eq e.2.2.2 l3 u3)).trans hd)

/-- What a view shows at `j` lies in the view. -/
theorem mem_at {sig : RefSig} {κ : Kind} {sp : Space} {s : Shape} {e : EltTy} (v : View sig κ sp s e) (j : s.Idx) {i : v.ty.Idx} (h : v.emb j = i) :
    i ∈ v.set := h ▸ v.emb_mem_set j

end Cert.Proof

end
-- ==== Proof.FwdArr.lean ====
/-
  The forward call as a whole: from real arrays of queries, keys and values (1024 lanes, 128 per head) the first result
  array is the attention's output of each head and the second the base-2 logarithm of its denominators, in every lane of
  the head.
-/
module

public import proofs.«01_k».proof.Proof.FwdRun
public import proofs.«01_k».proof.Proof.Place

@[expose] public section

set_option maxRecDepth 16384

noncomputable section

namespace Cert.Proof.Fwd

open Idealize.ShloMosaic Idealize.ShloMosaic.TcCoe Idealize.SL.Sem
open Cert.KernelIdeal Cert.KernelIdeal.Gen Cert.Proof.Math
open Idealize.ShloMosaic.Pipeline
open scoped BigOperators

section Blocks
variable {F : FTy → Type} [FloatOps F] [Named F]

theorem out_o (c : Dev nD) (i : grid0.Coords) (arg2 : Memref sig .tc .vmem S1024x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
    (x0 : Vec F S1024x128 .bf16) (x1 x2 : Vec F S8448x128 .bf16) :
    out0_A_3 c i arg2 harg2 arg3 harg3 arg4 harg4 arg5 harg5 arg6 harg6 arg7 harg7 arg8 harg8 arg9 harg9 x0 x1 x2
      = k0_pay90 (states x0 x1 x2 11).a (states x0 x1 x2 11).l := by
  unfold out0_A_3
  rw [View.read_writes_eq_canon _ _ _ (cover0_A_3 c i arg2 harg2 arg3 harg3 arg4 harg4 arg5 harg5 arg6 harg6 arg7 harg7 arg8 harg8 arg9 harg9 x0 x1 x2)]
  unfold kernelRun0_A; dsimp only
  rw [View.canon_cons_unit_zero (S := S1024x128) hz,
    a_11 c arg2 harg2 arg3 harg3 arg4 harg4 arg7 arg8 arg9 x0 x1 x2, l_11 c arg2 harg2 arg3 harg3 arg4 harg4 arg7 arg8 arg9 x0 x1 x2]

theorem out_lse (c : Dev nD) (i : grid0.Coords) (arg2 : Memref sig .tc .vmem S1024x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
    (x0 : Vec F S1024x128 .bf16) (x1 x2 : Vec F S8448x128 .bf16) :
    out0_A_4 c i arg2 harg2 arg3 harg3 arg4 harg4 arg5 harg5 arg6 harg6 arg7 harg7 arg8 harg8 arg9 harg9 x0 x1 x2
      = k0_pay91 (states x0 x1 x2 11).m (states x0 x1 x2 11).l := by
  unfold out0_A_4
  rw [View.read_writes_eq_canon _ _ _ (cover0_A_4 c i arg2 harg2 arg3 harg3 arg4 harg4 arg5 harg5 arg6 harg6 arg7 harg7 arg8 harg8 arg9 harg9 x0 x1 x2)]
  unfold kernelRun0_A; dsimp only
  rw [View.canon_cons_unit_zero (S := S1024x128) hz]
  simp only [kernelRun0_A.sl.r_30]
  rw [m_11 c arg2 harg2 arg3 harg3 arg4 harg4 arg7 arg8 arg9 x0 x1 x2, l_11 c arg2 harg2 arg3 harg3 arg4 harg4 arg7 arg8 arg9 x0 x1 x2]

end Blocks

/-! ### At the reals -/

theorem good_states {Q K V : ℕ → ℕ → ℝ} {x0 : Vec Ideal S1024x128 .bf16} {x1 x2 : Vec Ideal S8448x128 .bf16}
    (h0 : ∀ (r : Fin 1024) (d : Fin 128), x0 (ix2 r d) = ((Q r.val d.val : ℝ) : EReal))
    (h1 : ∀ (j : Fin 8448) (d : Fin 128), x1 (ix2 j d) = ((K j.val d.val : ℝ) : EReal))
    (h2 : ∀ (j : Fin 8448) (d : Fin 128), x2 (ix2 j d) = ((V j.val d.val : ℝ) : EReal)) (n : ℕ) (hn : n ≤ 11) :
    Good (768 * n) (fun r j => ∑ d ∈ Finset.range 128, Q r d * K j d) V (states x0 x1 x2 n) := by
  induction n with
  | zero => exact good_init _ _
  | succ n ih =>
    have h := good_step (ih (by omega)) x0 (chunk x1 n) (chunk x2 n) h0
      (fun j d => by rw [chunk_apply x1 n (by omega), h1]) (fun j d => by rw [chunk_apply x2 n (by omega), h2])
    rw [show 768 * (n + 1) = 768 * n + 768 by ring]
    exact h

/-- The scores of one head, to base 2. -/
def sc (Q K : ℕ → ℕ → ℝ) (h i j : ℕ) : ℝ := ∑ d ∈ Finset.range 128, Q i (128 * h + d) * K j (128 * h + d)

/-- A row's denominator. -/
def den (Q K : ℕ → ℕ → ℝ) (h i : ℕ) : ℝ := ∑ j ∈ Finset.range 8448, e2 (sc Q K h i j)

theorem den_pos (Q K : ℕ → ℕ → ℝ) (h i : ℕ) : 0 < den Q K h i := sum_e2_pos (by norm_num) _

/-- The attention's output at row `i`, lane `l`. -/
def outR (Q K V : ℕ → ℕ → ℝ) (i l : ℕ) : ℝ :=
  (∑ j ∈ Finset.range 8448, e2 (sc Q K (l / 128) i j) * V j l) / den Q K (l / 128) i

def lseR (Q K : ℕ → ℕ → ℝ) (i l : ℕ) : ℝ := Real.log (den Q K (l / 128) i) * (Real.log 2)⁻¹

/-- An array of the extended reals holds the reals `X`. -/
def Holds {a b : ℕ} (x : (⟨2, ![a, b]⟩ : Shape).Idx → EReal) (X : ℕ → ℕ → ℝ) : Prop :=
  ∀ (i : Fin a) (l : Fin b), x (ix2 i l) = ((X i.val l.val : ℝ) : EReal)

theorem named_log2e : Named.named (F := Ideal) κ "log2e" (φ := .f32) 0x3FB8AA3B#32 = (((Real.log 2)⁻¹ : ℝ) : EReal) :=
  IdealRules.named_const.ideal_named_scalar _ _ _ _ rfl

theorem pay90_apply (a l : Vec Ideal S1024x128 .f32) (r : Fin 1024) (x : Fin 128) :
    k0_pay90 a l (ix2 r x) = Ideal.div (a (ix2 r x)) (l (ix2 r x)) := by
  pointwise [k0_pay90]

theorem pay91_apply (m l : Vec Ideal S1024x128 .f32) (r : Fin 1024) (x : Fin 128) :
    k0_pay91 m l (ix2 r x) = m (ix2 r x) + Ideal.log (l (ix2 r x)) * (((Real.log 2)⁻¹ : ℝ) : EReal) := by
  rw [← named_log2e]
  pointwise [k0_pay91]

/-! ### The call's arrays -/

section Arrays

variable (V : (c : Dev nD) → (b : Ref sig .tc) → Buf (Elt Ideal) ((c : Thread nD τ).loc b))
variable {Q K W : ℕ → ℕ → ℝ}

/-- Where each window's block lies at a point: head `t / 8`, row tile `t % 8`. -/
theorem idx0 : ∀ t : Fin cfg0.N, win0_0.index t (0 : Fin 2) = t.val % 8 ∧ win0_0.index t (1 : Fin 2) = t.val / 8 :=
  (by decide +kernel : ∀ t : Fin grid0.N, _)
theorem idx1 : ∀ t : Fin cfg0.N, win0_1.index t (0 : Fin 2) = 0 ∧ win0_1.index t (1 : Fin 2) = t.val / 8 :=
  (by decide +kernel : ∀ t : Fin grid0.N, _)
theorem idx2 : ∀ t : Fin cfg0.N, win0_2.index t (0 : Fin 2) = 0 ∧ win0_2.index t (1 : Fin 2) = t.val / 8 :=
  (by decide +kernel : ∀ t : Fin grid0.N, _)
theorem idx3 : ∀ t : Fin cfg0.N, win0_3.index t (0 : Fin 2) = t.val % 8 ∧ win0_3.index t (1 : Fin 2) = t.val / 8 :=
  (by decide +kernel : ∀ t : Fin grid0.N, _)
theorem idx4 : ∀ t : Fin cfg0.N, win0_4.index t (0 : Fin 2) = t.val % 8 ∧ win0_4.index t (1 : Fin 2) = t.val / 8 :=
  (by decide +kernel : ∀ t : Fin grid0.N, _)

theorem lt64 (t : Fin cfg0.N) : t.val < 64 := by have := t.isLt; have h : cfg0.N = 64 := N_0; omega

theorem blk_q (c : Dev nD) (h : Holds (a := 8192) (b := 1024) (V c main_v6) Q) (t : Fin cfg0.N) (r : Fin 1024) (d : Fin 128) :
    (iblk0 V c 0 t : Vec Ideal S1024x128 .bf16) (ix2 r d) = ((Q (1024 * (t.val % 8) + r.val) (128 * (t.val / 8) + d.val) : ℝ) : EReal) := by
  have ht := lt64 t
  rw [← h ⟨1024 * (t.val % 8) + r.val, by omega⟩ ⟨128 * (t.val / 8) + d.val, by omega⟩]
  exact congrArg (V c main_v6) (put2 (idx0 t) 1024 r.val 128 d.val)

theorem blk_k (c : Dev nD) (h : Holds (a := 8448) (b := 1024) (V c main_v9) K) (t : Fin cfg0.N) (r : Fin 8448) (d : Fin 128) :
    (iblk0 V c 1 t : Vec Ideal S8448x128 .bf16) (ix2 r d) = ((K r.val (128 * (t.val / 8) + d.val) : ℝ) : EReal) := by
  have ht := lt64 t
  rw [← h r ⟨128 * (t.val / 8) + d.val, by omega⟩]
  exact congrArg (V c main_v9) (put2 (idx1 t) 8448 r.val 128 d.val)

theorem blk_v (c : Dev nD) (h : Holds (a := 8448) (b := 1024) (V c main_v12) W) (t : Fin cfg0.N) (r : Fin 8448) (d : Fin 128) :
    (iblk0 V c 2 t : Vec Ideal S8448x128 .bf16) (ix2 r d) = ((W r.val (128 * (t.val / 8) + d.val) : ℝ) : EReal) := by
  have ht := lt64 t
  rw [← h r ⟨128 * (t.val / 8) + d.val, by omega⟩]
  exact congrArg (V c main_v12) (put2 (idx2 t) 8448 r.val 128 d.val)

/-- After eleven chunks the point's state is that of its rows over all 8448 keys of its head. -/
theorem good_at (c : Dev nD) (hq : Holds (a := 8192) (b := 1024) (V c main_v6) Q) (hk : Holds (a := 8448) (b := 1024) (V c main_v9) K)
    (hv : Holds (a := 8448) (b := 1024) (V c main_v12) W) (t : Fin cfg0.N) :
    Good 8448 (fun r j => sc Q K (t.val / 8) (1024 * (t.val % 8) + r) j) (fun j d => W j (128 * (t.val / 8) + d))
      (states (iblk0 V c 0 t) (iblk0 V c 1 t) (iblk0 V c 2 t) 11) :=
  good_states (Q := fun r d => Q (1024 * (t.val % 8) + r) (128 * (t.val / 8) + d))
    (K := fun j d => K j (128 * (t.val / 8) + d)) (V := fun j d => W j (128 * (t.val / 8) + d))
    (blk_q V c hq t) (blk_k V c hk t) (blk_v V c hv t) 11 le_rfl

theorem flushed_o (c : Dev nD) (hq : Holds (a := 8192) (b := 1024) (V c main_v6) Q) (hk : Holds (a := 8448) (b := 1024) (V c main_v9) K)
    (hv : Holds (a := 8448) (b := 1024) (V c main_v12) W) (t : Fin cfg0.N) :
    (dat0 V c).flushed 3 t = ((cfg0.win 3).blk t).view.read (Elt Ideal)
      (fun i : S8192x1024.Idx => ((outR Q K W (i 0).val (i 1).val : ℝ) : EReal)) := by
  have ht := lt64 t
  obtain ⟨e0, e1⟩ := idx3 t
  show (cfg0.win 3).cut (grid0.coords t) ((dat0 V c).after 3 t) = _
  rw [after0_3]; unfold outsAt0; dsimp only; rw [out_o]
  funext j
  obtain ⟨r, d, rfl⟩ : ∃ (r : Fin 1024) (d : Fin 128), j = ix2 r d := ⟨j 0, j 1, eq_ix2 j⟩
  show k0_pay90 (F := Ideal) _ _ (ix2 r d) = ((outR Q K W (((cfg0.win 3).blk t).view.emb (ix2 r d) 0).val (((cfg0.win 3).blk t).view.emb (ix2 r d) 1).val : ℝ) : EReal)
  rw [pay90_apply, (good_at V c hq hk hv t r d).1.out (by norm_num)]
  have h0 : (((cfg0.win 3).blk t).view.emb (ix2 r d) 0).val = 1024 * (t.val % 8) + r.val := by
    show win0_3.index t (0 : Fin 2) * 1024 + 1 * r.val = _; omega
  have h1 : (((cfg0.win 3).blk t).view.emb (ix2 r d) 1).val = 128 * (t.val / 8) + d.val := by
    show win0_3.index t (1 : Fin 2) * 128 + 1 * d.val = _; omega
  rw [h0, h1]; unfold outR den
  rw [show (128 * (t.val / 8) + d.val) / 128 = t.val / 8 by omega]

theorem flushed_lse (c : Dev nD) (hq : Holds (a := 8192) (b := 1024) (V c main_v6) Q) (hk : Holds (a := 8448) (b := 1024) (V c main_v9) K)
    (hv : Holds (a := 8448) (b := 1024) (V c main_v12) W) (t : Fin cfg0.N) :
    (dat0 V c).flushed 4 t = ((cfg0.win 4).blk t).view.read (Elt Ideal)
      (fun i : S8192x1024.Idx => ((lseR Q K (i 0).val (i 1).val : ℝ) : EReal)) := by
  have ht := lt64 t
  obtain ⟨e0, e1⟩ := idx4 t
  show (cfg0.win 4).cut (grid0.coords t) ((dat0 V c).after 4 t) = _
  rw [after0_4]; unfold outsAt0; dsimp only; rw [out_lse]
  funext j
  obtain ⟨r, d, rfl⟩ : ∃ (r : Fin 1024) (d : Fin 128), j = ix2 r d := ⟨j 0, j 1, eq_ix2 j⟩
  show k0_pay91 (F := Ideal) _ _ (ix2 r d) = ((lseR Q K (((cfg0.win 4).blk t).view.emb (ix2 r d) 0).val (((cfg0.win 4).blk t).view.emb (ix2 r d) 1).val : ℝ) : EReal)
  rw [pay91_apply, (good_at V c hq hk hv t r d).1.lse (by norm_num)]
  have h0 : (((cfg0.win 4).blk t).view.emb (ix2 r d) 0).val = 1024 * (t.val % 8) + r.val := by
    show win0_4.index t (0 : Fin 2) * 1024 + 1 * r.val = _; omega
  have h1 : (((cfg0.win 4).blk t).view.emb (ix2 r d) 1).val = 128 * (t.val / 8) + d.val := by
    show win0_4.index t (1 : Fin 2) * 128 + 1 * d.val = _; omega
  rw [h0, h1]; unfold lseR den
  rw [show (128 * (t.val / 8) + d.val) / 128 = t.val / 8 by omega]

/-- The point whose block holds an index of the results. -/
def pt (i : S8192x1024.Idx) : Fin cfg0.N :=
  ⟨8 * ((i 1).val / 128) + (i 0).val / 1024, by
    have h : cfg0.N = 64 := N_0
    have h0 : (i 0).val < 8192 := (i 0).isLt
    have h1 : (i 1).val < 1024 := (i 1).isLt
    omega⟩

theorem cover_o (i : S8192x1024.Idx) : ∃ t : Fin cfg0.N, (cfg0.win 3).flush t = true ∧ i ∈ ((cfg0.win 3).blk t).view.set := by
  refine ⟨pt i, flush0_3 _, ?_⟩
  have h0 : (i 0).val < 8192 := (i 0).isLt
  have h1 : (i 1).val < 1024 := (i 1).isLt
  have hp : (pt i).val = 8 * ((i 1).val / 128) + (i 0).val / 1024 := rfl
  exact mem_at _ (ix2 ⟨(i 0).val % 1024, Nat.mod_lt _ (by norm_num)⟩ ⟨(i 1).val % 128, Nat.mod_lt _ (by norm_num)⟩ : S1024x128.Idx) ((put2 (a := i 0) (b := i 1) (idx3 (pt i)) 1024 ((i 0).val % 1024) 128 ((i 1).val % 128)).trans (eq_ix2 i).symm)

theorem cover_lse (i : S8192x1024.Idx) : ∃ t : Fin cfg0.N, (cfg0.win 4).flush t = true ∧ i ∈ ((cfg0.win 4).blk t).view.set := by
  refine ⟨pt i, flush0_4 _, ?_⟩
  have h0 : (i 0).val < 8192 := (i 0).isLt
  have h1 : (i 1).val < 1024 := (i 1).isLt
  have hp : (pt i).val = 8 * ((i 1).val / 128) + (i 0).val / 1024 := rfl
  exact mem_at _ (ix2 ⟨(i 0).val % 1024, Nat.mod_lt _ (by norm_num)⟩ ⟨(i 1).val % 128, Nat.mod_lt _ (by norm_num)⟩ : S1024x128.Idx) ((put2 (a := i 0) (b := i 1) (idx4 (pt i)) 1024 ((i 0).val % 1024) 128 ((i 1).val % 128)).trans (eq_ix2 i).symm)

/-- The attention's output of all heads, -/
theorem arr_o (c : Dev nD) (hq : Holds (a := 8192) (b := 1024) (V c main_v6) Q) (hk : Holds (a := 8448) (b := 1024) (V c main_v9) K)
    (hv : Holds (a := 8448) (b := 1024) (V c main_v12) W) :
    (dat0 V c).arrAt 3 cfg0.N = (fun i : S8192x1024.Idx => ((outR Q K W (i 0).val (i 1).val : ℝ) : EReal)) :=
  (dat0 V c).arrAt_eq_of_cover 3 _ (fun t _ => flushed_o V c hq hk hv t) cover_o

/-- and the logarithms of its denominators. -/
theorem arr_lse (c : Dev nD) (hq : Holds (a := 8192) (b := 1024) (V c main_v6) Q) (hk : Holds (a := 8448) (b := 1024) (V c main_v9) K)
    (hv : Holds (a := 8448) (b := 1024) (V c main_v12) W) :
    (dat0 V c).arrAt 4 cfg0.N = (fun i : S8192x1024.Idx => ((lseR Q K (i 0).val (i 1).val : ℝ) : EReal)) :=
  (dat0 V c).arrAt_eq_of_cover 4 _ (fun t _ => flushed_lse V c hq hk hv t) cover_lse

end Arrays

end Cert.Proof.Fwd

end
-- ==== Proof.BwdTrip.lean ====
/-
  One trip of the backward kernel's loop over row tiles, at the reals: tile `k` (rows `512 k … 512 k + 511`) adds its
  share of the key and value gradients to the two accumulators and the keys' share of the query gradient to its own rows.
-/
module

public import proofs.«01_k».proof.Proof.FwdArr

@[expose] public section

set_option maxRecDepth 16384

noncomputable section

namespace Cert.Proof.Bwd

open Idealize.ShloMosaic Idealize.ShloMosaic.TcCoe Idealize.SL.Sem
open Cert.KernelIdeal Cert.KernelIdeal.Gen Cert.Proof.Math Cert.Proof.Fwd
open scoped BigOperators

/-- The recomputed weight of row `i` at key `j`, from the saved logarithms `L`. -/
def wt (Q K L : ℕ → ℕ → ℝ) (i j : ℕ) : ℝ := e2 ((∑ d ∈ Finset.range 128, Q i d * K j d) - L i 0)

/-- The gradient of the score of row `i` at key `j`, from the row sums `E`. -/
def gs (Q K L D W E : ℕ → ℕ → ℝ) (i j : ℕ) : ℝ := wt Q K L i j * ((∑ d ∈ Finset.range 128, D i d * W j d) - E i 0)

theorem lt16 (k : Fin k2_t1_loop.trips) : k.val < 16 := Nat.lt_of_lt_of_le k.isLt k2_t1_abs.2.1

section Words

variable {arg2 arg5 : Memref sig .tc .vmem S8192x128 .bf16} {arg6 arg7 arg8 : Memref sig .tc .vmem S8192x128 .f32}
  {arg11 arg12 : Memref sig .tc .vmem S768x128 .f32} {v11 v13 : Vec Ideal S768x128 .bf16}
  {X2 : BufTy.Contents (Elt Ideal) arg2.view.ty} {X5 : BufTy.Contents (Elt Ideal) arg5.view.ty}
  {X6 : BufTy.Contents (Elt Ideal) arg6.view.ty} {X7 : BufTy.Contents (Elt Ideal) arg7.view.ty}
  {Q K L D W E : ℕ → ℕ → ℝ}

/-- A tile of rows, read at an index. -/
theorem rows_apply {e : EltTy} (a : Memref sig .tc .vmem S8192x128 e) (X : BufTy.Contents (Elt Ideal) a.view.ty) (k : Fin k2_t1_loop.trips)
    (inb : ∀ b, k2_off1 k b + S512x128.size b ≤ S8192x128.size b) (r : Fin 512) (d : Fin 128) :
    View.readAt (Elt Ideal) a.view (Rect.unit (s := S8192x128) (k2_off1 k) S512x128.size inb).toLoadRect X (ix2 r d)
      = a.view.read (Elt Ideal) X (ix2 ⟨512 * k.val + r.val, by have := lt16 k; omega⟩ d) := by
  rw [View.readAt_eq_ld]
  show a.view.read (Elt Ideal) X _ = _
  congr 1
  funext b; apply Fin.ext
  rw [Rect.idx_unit_val]
  refine (congrArg (· + (ix2 r d b).val) (congrFun (k2_off1_eq k) b)).trans ?_
  match b with
  | ⟨0, _⟩ => rfl
  | ⟨1, _⟩ => show 0 + d.val = d.val; omega

theorem v29_apply (hq : Holds (a := 8192) (b := 128) (arg2.view.read (Elt Ideal) X2) Q) (k : Fin k2_t1_loop.trips) (r : Fin 512) (d : Fin 128) :
    trip_k2_t1.sl.v29 (F := Ideal) arg2 X2 k (ix2 r d) = ((Q (512 * k.val + r.val) d.val : ℝ) : EReal) := by
  unfold trip_k2_t1.sl.v29; rw [shapeCast_self]; exact (rows_apply arg2 X2 k _ r d).trans (hq _ _)

theorem v32_apply (hd : Holds (a := 8192) (b := 128) (arg5.view.read (Elt Ideal) X5) D) (k : Fin k2_t1_loop.trips) (r : Fin 512) (d : Fin 128) :
    trip_k2_t1.sl.v32 (F := Ideal) arg5 X5 k (ix2 r d) = ((D (512 * k.val + r.val) d.val : ℝ) : EReal) := by
  unfold trip_k2_t1.sl.v32; rw [shapeCast_self]; exact (rows_apply arg5 X5 k _ r d).trans (hd _ _)

theorem v36_apply (hl : Holds (a := 8192) (b := 128) (arg6.view.read (Elt Ideal) X6) L) (k : Fin k2_t1_loop.trips) (r : Fin 512) (d : Fin 128) :
    trip_k2_t1.sl.v36 (F := Ideal) arg6 X6 k (ix2 r d) = ((L (512 * k.val + r.val) d.val : ℝ) : EReal) := by
  unfold trip_k2_t1.sl.v36; rw [shapeCast_self]; exact (rows_apply arg6 X6 k _ r d).trans (hl _ _)

theorem v44_apply (he : Holds (a := 8192) (b := 128) (arg7.view.read (Elt Ideal) X7) E) (k : Fin k2_t1_loop.trips) (r : Fin 512) (d : Fin 128) :
    trip_k2_t1.sl.v44 (F := Ideal) arg7 X7 k (ix2 r d) = ((E (512 * k.val + r.val) d.val : ℝ) : EReal) := by
  unfold trip_k2_t1.sl.v44; rw [shapeCast_self]; exact (rows_apply arg7 X7 k _ r d).trans (he _ _)

theorem v40_apply (hq : Holds (a := 8192) (b := 128) (arg2.view.read (Elt Ideal) X2) Q) (hk : Holds (a := 768) (b := 128) v11 K)
    (hl : Holds (a := 8192) (b := 128) (arg6.view.read (Elt Ideal) X6) L) (k : Fin k2_t1_loop.trips) (r : Fin 512) (j : Fin 768) :
    trip_k2_t1.sl.v40 (F := Ideal) arg2 arg6 v11 X2 X6 k (ix2 r j) = ((wt Q K L (512 * k.val + r.val) j.val : ℝ) : EReal) := by
  have h1 : trip_k2_t1.sl.v33 (F := Ideal) arg2 v11 X2 k (ix2 r j)
      = ((∑ d ∈ Finset.range 128, Q (512 * k.val + r.val) d * K j.val d : ℝ) : EReal) := by
    have e : trip_k2_t1.sl.v33 (F := Ideal) arg2 v11 X2 k (ix2 r j) = ∑ d : Fin 128, trip_k2_t1.sl.v29 (F := Ideal) arg2 X2 k (ix2 r d) * v11 (ix2 j d) := by
      generalize hx : trip_k2_t1.sl.v29 (F := Ideal) arg2 X2 k = x
      unfold trip_k2_t1.sl.v33; rw [hx]
      pointwise [trip_k2_t1.sl.cst_23, k2_pay11]
    rw [e, ← Fin.sum_univ_eq_sum_range (fun d => Q (512 * k.val + r.val) d * K j.val d) 128, ← coe_dot]
    exact Finset.sum_congr rfl fun d _ => congrArg₂ _ (v29_apply hq k r d) (hk j d)
  have h2 : trip_k2_t1.sl.v38 (F := Ideal) arg6 X6 k (ix2 r j) = ((L (512 * k.val + r.val) 0 : ℝ) : EReal) := by
    have e : trip_k2_t1.sl.v38 (F := Ideal) arg6 X6 k (ix2 r j) = trip_k2_t1.sl.v36 (F := Ideal) arg6 X6 k (ix2 r 0) := by
      generalize hx : trip_k2_t1.sl.v36 (F := Ideal) arg6 X6 k = x
      unfold trip_k2_t1.sl.v38 trip_k2_t1.sl.v37; rw [hx]
      pointwise
    rw [e]; exact v36_apply hl k r 0
  show Ideal.exp2 (trip_k2_t1.sl.v33 (F := Ideal) arg2 v11 X2 k (ix2 r j) - trip_k2_t1.sl.v38 (F := Ideal) arg6 X6 k (ix2 r j)) = _
  rw [h1, h2, ← EReal.coe_sub, exp2_coe]; rfl

theorem v48_apply (hq : Holds (a := 8192) (b := 128) (arg2.view.read (Elt Ideal) X2) Q) (hk : Holds (a := 768) (b := 128) v11 K)
    (hl : Holds (a := 8192) (b := 128) (arg6.view.read (Elt Ideal) X6) L) (hd : Holds (a := 8192) (b := 128) (arg5.view.read (Elt Ideal) X5) D)
    (hw : Holds (a := 768) (b := 128) v13 W) (he : Holds (a := 8192) (b := 128) (arg7.view.read (Elt Ideal) X7) E)
    (k : Fin k2_t1_loop.trips) (r : Fin 512) (j : Fin 768) :
    trip_k2_t1.sl.v48 (F := Ideal) arg2 arg5 arg6 arg7 v11 v13 X2 X5 X6 X7 k (ix2 r j) = ((gs Q K L D W E (512 * k.val + r.val) j.val : ℝ) : EReal) := by
  have h1 : trip_k2_t1.sl.v41 (F := Ideal) arg5 v13 X5 k (ix2 r j)
      = ((∑ d ∈ Finset.range 128, D (512 * k.val + r.val) d * W j.val d : ℝ) : EReal) := by
    have e : trip_k2_t1.sl.v41 (F := Ideal) arg5 v13 X5 k (ix2 r j) = ∑ d : Fin 128, trip_k2_t1.sl.v32 (F := Ideal) arg5 X5 k (ix2 r d) * v13 (ix2 j d) := by
      generalize hx : trip_k2_t1.sl.v32 (F := Ideal) arg5 X5 k = x
      unfold trip_k2_t1.sl.v41; rw [hx]
      pointwise [trip_k2_t1.sl.cst_23, k2_pay12]
    rw [e, ← Fin.sum_univ_eq_sum_range (fun d => D (512 * k.val + r.val) d * W j.val d) 128, ← coe_dot]
    exact Finset.sum_congr rfl fun d _ => congrArg₂ _ (v32_apply hd k r d) (hw j d)
  have h2 : trip_k2_t1.sl.v46 (F := Ideal) arg7 X7 k (ix2 r j) = ((E (512 * k.val + r.val) 0 : ℝ) : EReal) := by
    have e : trip_k2_t1.sl.v46 (F := Ideal) arg7 X7 k (ix2 r j) = trip_k2_t1.sl.v44 (F := Ideal) arg7 X7 k (ix2 r 0) := by
      generalize hx : trip_k2_t1.sl.v44 (F := Ideal) arg7 X7 k = x
      unfold trip_k2_t1.sl.v46 trip_k2_t1.sl.v45; rw [hx]
      pointwise
    rw [e]; exact v44_apply he k r 0
  show trip_k2_t1.sl.v40 (F := Ideal) arg2 arg6 v11 X2 X6 k (ix2 r j)
      * (trip_k2_t1.sl.v41 (F := Ideal) arg5 v13 X5 k (ix2 r j) - trip_k2_t1.sl.v46 (F := Ideal) arg7 X7 k (ix2 r j)) = _
  rw [v40_apply hq hk hl, h1, h2, ← EReal.coe_sub, ← EReal.coe_mul]; rfl

/-- The tile's share of the value gradient, added to the accumulator, -/
theorem v56_apply (hq : Holds (a := 8192) (b := 128) (arg2.view.read (Elt Ideal) X2) Q) (hk : Holds (a := 768) (b := 128) v11 K)
    (hl : Holds (a := 8192) (b := 128) (arg6.view.read (Elt Ideal) X6) L) (hd : Holds (a := 8192) (b := 128) (arg5.view.read (Elt Ideal) X5) D)
    {f : BufTy.Contents (Elt Ideal) arg12.view.ty} {H : ℕ → ℕ → ℝ} (hf : Holds (a := 768) (b := 128) (arg12.view.read (Elt Ideal) f) H)
    (k : Fin k2_t1_loop.trips) (j : Fin 768) (x : Fin 128) :
    trip_k2_t1.sl.v56 (F := Ideal) arg2 arg5 arg6 arg12 v11 X2 X5 X6 k f (ix2 j x)
      = ((H j.val x.val + ∑ r ∈ Finset.range 512, wt Q K L (512 * k.val + r) j.val * D (512 * k.val + r) x.val : ℝ) : EReal) := by
  have h1 : trip_k2_t1.sl.v52 (F := Ideal) arg2 arg5 arg6 v11 X2 X5 X6 k (ix2 j x)
      = ((∑ r ∈ Finset.range 512, wt Q K L (512 * k.val + r) j.val * D (512 * k.val + r) x.val : ℝ) : EReal) := by
    have e : trip_k2_t1.sl.v52 (F := Ideal) arg2 arg5 arg6 v11 X2 X5 X6 k (ix2 j x)
        = ∑ r : Fin 512, trip_k2_t1.sl.v40 (F := Ideal) arg2 arg6 v11 X2 X6 k (ix2 r j) * trip_k2_t1.sl.v32 (F := Ideal) arg5 X5 k (ix2 r x) := by
      generalize hx : trip_k2_t1.sl.v32 (F := Ideal) arg5 X5 k = y
      generalize hz : trip_k2_t1.sl.v40 (F := Ideal) arg2 arg6 v11 X2 X6 k = z
      unfold trip_k2_t1.sl.v52 trip_k2_t1.sl.v51; rw [hx, hz]
      pointwise [trip_k2_t1.sl.cst_29]
    rw [e, ← Fin.sum_univ_eq_sum_range (fun r => wt Q K L (512 * k.val + r) j.val * D (512 * k.val + r) x.val) 512, ← coe_dot]
    exact Finset.sum_congr rfl fun r _ => congrArg₂ _ (v40_apply hq hk hl k r j) (v32_apply hd k r x)
  unfold trip_k2_t1.sl.v56 trip_k2_t1.sl.v53; rw [shapeCast_self, View.readAt_eq_ld, View.ld_unit_zero (S := S768x128) hz]
  show arg12.view.read (Elt Ideal) f (ix2 j x) + trip_k2_t1.sl.v52 (F := Ideal) arg2 arg5 arg6 v11 X2 X5 X6 k (ix2 j x) = _
  rw [h1, hf, ← EReal.coe_add]

/-- of the key gradient, -/
theorem v62_apply (hq : Holds (a := 8192) (b := 128) (arg2.view.read (Elt Ideal) X2) Q) (hk : Holds (a := 768) (b := 128) v11 K)
    (hl : Holds (a := 8192) (b := 128) (arg6.view.read (Elt Ideal) X6) L) (hd : Holds (a := 8192) (b := 128) (arg5.view.read (Elt Ideal) X5) D)
    (hw : Holds (a := 768) (b := 128) v13 W) (he : Holds (a := 8192) (b := 128) (arg7.view.read (Elt Ideal) X7) E)
    {f : BufTy.Contents (Elt Ideal) arg11.view.ty} {H : ℕ → ℕ → ℝ} (hf : Holds (a := 768) (b := 128) (arg11.view.read (Elt Ideal) f) H)
    (k : Fin k2_t1_loop.trips) (j : Fin 768) (x : Fin 128) :
    trip_k2_t1.sl.v62 (F := Ideal) arg2 arg5 arg6 arg7 arg11 v11 v13 X2 X5 X6 X7 k f (ix2 j x)
      = ((H j.val x.val + ∑ r ∈ Finset.range 512, gs Q K L D W E (512 * k.val + r) j.val * Q (512 * k.val + r) x.val : ℝ) : EReal) := by
  have h1 : trip_k2_t1.sl.v58 (F := Ideal) arg2 arg5 arg6 arg7 v11 v13 X2 X5 X6 X7 k (ix2 j x)
      = ((∑ r ∈ Finset.range 512, gs Q K L D W E (512 * k.val + r) j.val * Q (512 * k.val + r) x.val : ℝ) : EReal) := by
    have e : trip_k2_t1.sl.v58 (F := Ideal) arg2 arg5 arg6 arg7 v11 v13 X2 X5 X6 X7 k (ix2 j x)
        = ∑ r : Fin 512, trip_k2_t1.sl.v48 (F := Ideal) arg2 arg5 arg6 arg7 v11 v13 X2 X5 X6 X7 k (ix2 r j) * trip_k2_t1.sl.v29 (F := Ideal) arg2 X2 k (ix2 r x) := by
      generalize hx : trip_k2_t1.sl.v29 (F := Ideal) arg2 X2 k = y
      generalize hz : trip_k2_t1.sl.v48 (F := Ideal) arg2 arg5 arg6 arg7 v11 v13 X2 X5 X6 X7 k = z
      unfold trip_k2_t1.sl.v58 trip_k2_t1.sl.v49; rw [hx, hz]
      pointwise [trip_k2_t1.sl.cst_29]
    rw [e, ← Fin.sum_univ_eq_sum_range (fun r => gs Q K L D W E (512 * k.val + r) j.val * Q (512 * k.val + r) x.val) 512, ← coe_dot]
    exact Finset.sum_congr rfl fun r _ => congrArg₂ _ (v48_apply hq hk hl hd hw he k r j) (v29_apply hq k r x)
  unfold trip_k2_t1.sl.v62 trip_k2_t1.sl.v59; rw [shapeCast_self, View.readAt_eq_ld, View.ld_unit_zero (S := S768x128) hz]
  show arg11.view.read (Elt Ideal) f (ix2 j x) + trip_k2_t1.sl.v58 (F := Ideal) arg2 arg5 arg6 arg7 v11 v13 X2 X5 X6 X7 k (ix2 j x) = _
  rw [h1, hf, ← EReal.coe_add]

/-- and what the keys of the point add to the tile's rows of the query gradient. -/
theorem pay13_apply (hq : Holds (a := 8192) (b := 128) (arg2.view.read (Elt Ideal) X2) Q) (hk : Holds (a := 768) (b := 128) v11 K)
    (hl : Holds (a := 8192) (b := 128) (arg6.view.read (Elt Ideal) X6) L) (hd : Holds (a := 8192) (b := 128) (arg5.view.read (Elt Ideal) X5) D)
    (hw : Holds (a := 768) (b := 128) v13 W) (he : Holds (a := 8192) (b := 128) (arg7.view.read (Elt Ideal) X7) E)
    (k : Fin k2_t1_loop.trips) (g : Vec Ideal S512x128 .f32) (r : Fin 512) (x : Fin 128) :
    k2_pay13 v11 (trip_k2_t1.sl.v49 (F := Ideal) arg2 arg5 arg6 arg7 v11 v13 X2 X5 X6 X7 k) g (ix2 r x)
      = g (ix2 r x) + ((∑ j ∈ Finset.range 768, gs Q K L D W E (512 * k.val + r.val) j * K j x.val : ℝ) : EReal) := by
  have e : k2_pay13 v11 (trip_k2_t1.sl.v49 (F := Ideal) arg2 arg5 arg6 arg7 v11 v13 X2 X5 X6 X7 k) g (ix2 r x)
      = g (ix2 r x) + ∑ j : Fin 768, trip_k2_t1.sl.v48 (F := Ideal) arg2 arg5 arg6 arg7 v11 v13 X2 X5 X6 X7 k (ix2 r j) * v11 (ix2 j x) := by
    generalize hz : trip_k2_t1.sl.v48 (F := Ideal) arg2 arg5 arg6 arg7 v11 v13 X2 X5 X6 X7 k = z
    unfold trip_k2_t1.sl.v49; rw [hz]
    pointwise [k2_pay13, k2_pay11]
  rw [e, ← Fin.sum_univ_eq_sum_range (fun j => gs Q K L D W E (512 * k.val + r.val) j * K j x.val) 768, ← coe_dot]
  congr 1
  exact Finset.sum_congr rfl fun j _ => congrArg₂ _ (v48_apply hq hk hl hd hw he k r j) (hk j x)

end Words

end Cert.Proof.Bwd

end
-- ==== Proof.BwdLoop.lean ====
/-
  The backward kernel's loop over the sixteen row tiles, at the reals: after `n` trips the rows of the first `n` tiles
  have received the keys' share of the query gradient, and the two accumulators the shares of those tiles.
-/
module

public import Idealize.ShloMosaic.Lib.WritesUnit
public import Idealize.ShloMosaic.Lib.VecWindow
public import proofs.«01_k».proof.Proof.BwdTrip

@[expose] public section

set_option maxRecDepth 16384

noncomputable section

namespace Cert.Proof.Bwd

open Idealize.ShloMosaic Idealize.ShloMosaic.TcCoe Idealize.SL.Sem
open Cert.KernelIdeal Cert.KernelIdeal.Gen Cert.Proof.Math Cert.Proof.Fwd
open scoped BigOperators

theorem trips_eq : k2_t1_loop.trips = 16 := by decide +kernel

/-- What the keys of one block add to row `i` of the query gradient. -/
def dqS (Q K L D W E : ℕ → ℕ → ℝ) (i x : ℕ) : ℝ := ∑ j ∈ Finset.range 768, gs Q K L D W E i j * K j x

/-- What the first `n` rows add to key `j` of the key gradient, -/
def dkS (Q K L D W E : ℕ → ℕ → ℝ) (n j x : ℕ) : ℝ := ∑ i ∈ Finset.range n, gs Q K L D W E i j * Q i x

/-- and of the value gradient. -/
def dvS (Q K L D : ℕ → ℕ → ℝ) (n j x : ℕ) : ℝ := ∑ i ∈ Finset.range n, wt Q K L i j * D i x

theorem sum_tile (f : ℕ → ℝ) (n : ℕ) :
    (∑ i ∈ Finset.range (512 * (n + 1)), f i) = (∑ i ∈ Finset.range (512 * n), f i) + ∑ r ∈ Finset.range 512, f (512 * n + r) := by
  rw [show 512 * (n + 1) = 512 * n + 512 by omega, Finset.sum_range_add]

variable (𝒱 : Variants) (c : Dev nD) (bd : Option 𝒱.V) (i : grid2.Coords)
  {arg2 : Memref sig .tc .vmem S8192x128 .bf16} {harg2 : arg2.IsWhole} {arg3 : Memref sig .tc .vmem S768x128 .bf16} {harg3 : arg3.IsWhole} {arg4 : Memref sig .tc .vmem S768x128 .bf16} {harg4 : arg4.IsWhole} {arg5 : Memref sig .tc .vmem S8192x128 .bf16} {harg5 : arg5.IsWhole} {arg6 : Memref sig .tc .vmem S8192x128 .f32} {harg6 : arg6.IsWhole} {arg7 : Memref sig .tc .vmem S8192x128 .f32} {harg7 : arg7.IsWhole} {arg8 : Memref sig .tc .vmem S8192x128 .f32} {harg8 : arg8.IsWhole} {arg9 : Memref sig .tc .vmem S768x128 .f32} {harg9 : arg9.IsWhole} {arg10 : Memref sig .tc .vmem S768x128 .f32} {harg10 : arg10.IsWhole} {arg11 : Memref sig .tc .vmem S768x128 .f32} {harg11 : arg11.IsWhole} {arg12 : Memref sig .tc .vmem S768x128 .f32} {harg12 : arg12.IsWhole}
  {v11 v13 : Vec Ideal S768x128 .bf16}
  {X2 : BufTy.Contents (Elt Ideal) arg2.view.ty} {X5 : BufTy.Contents (Elt Ideal) arg5.view.ty}
  {X6 : BufTy.Contents (Elt Ideal) arg6.view.ty} {X7 : BufTy.Contents (Elt Ideal) arg7.view.ty}
  {G8 : BufTy.Contents (Elt Ideal) arg8.view.ty} {G11 : BufTy.Contents (Elt Ideal) arg11.view.ty}
  {G12 : BufTy.Contents (Elt Ideal) arg12.view.ty}
  {Q K L D W E A B C : ℕ → ℕ → ℝ}

theorem loop_good (hq : Holds (a := 8192) (b := 128) (arg2.view.read (Elt Ideal) X2) Q) (hk : Holds (a := 768) (b := 128) v11 K)
    (hl : Holds (a := 8192) (b := 128) (arg6.view.read (Elt Ideal) X6) L) (hd : Holds (a := 8192) (b := 128) (arg5.view.read (Elt Ideal) X5) D)
    (hw : Holds (a := 768) (b := 128) v13 W) (he : Holds (a := 8192) (b := 128) (arg7.view.read (Elt Ideal) X7) E)
    (ha : Holds (a := 8192) (b := 128) (arg8.view.read (Elt Ideal) G8) A) (hb : Holds (a := 768) (b := 128) (arg11.view.read (Elt Ideal) G11) B)
    (hc : Holds (a := 768) (b := 128) (arg12.view.read (Elt Ideal) G12) C) (n : ℕ) (hn : n ≤ k2_t1_loop.trips) :
    Holds (a := 8192) (b := 128) (arg8.view.read (Elt Ideal) (arg8.view.writes (Elt Ideal) G8 (pb_k2_t1 (F := Ideal) 𝒱 c bd i arg2 harg2 arg3 harg3 arg4 harg4 arg5 harg5 arg6 harg6 arg7 harg7 arg8 harg8 arg9 harg9 arg10 harg10 arg11 harg11 arg12 harg12 v11 v13 X2 X5 X6 X7 G8 G11 G12 n).1))
        (fun i x => A i x + if i < 512 * n then dqS Q K L D W E i x else 0)
      ∧ Holds (a := 768) (b := 128) (arg11.view.read (Elt Ideal) (arg11.view.writes (Elt Ideal) G11 (pb_k2_t1 (F := Ideal) 𝒱 c bd i arg2 harg2 arg3 harg3 arg4 harg4 arg5 harg5 arg6 harg6 arg7 harg7 arg8 harg8 arg9 harg9 arg10 harg10 arg11 harg11 arg12 harg12 v11 v13 X2 X5 X6 X7 G8 G11 G12 n).2.1))
        (fun j x => B j x + dkS Q K L D W E (512 * n) j x)
      ∧ Holds (a := 768) (b := 128) (arg12.view.read (Elt Ideal) (arg12.view.writes (Elt Ideal) G12 (pb_k2_t1 (F := Ideal) 𝒱 c bd i arg2 harg2 arg3 harg3 arg4 harg4 arg5 harg5 arg6 harg6 arg7 harg7 arg8 harg8 arg9 harg9 arg10 harg10 arg11 harg11 arg12 harg12 v11 v13 X2 X5 X6 X7 G8 G11 G12 n).2.2))
        (fun j x => C j x + dvS Q K L D (512 * n) j x) := by
  induction n with
  | zero =>
    refine ⟨fun i x => (ha i x).trans ?_, fun j x => (hb j x).trans ?_, fun j x => (hc j x).trans ?_⟩
    · simp
    · simp [dkS]
    · simp [dvS]
  | succ n ih =>
    obtain ⟨i8, i11, i12⟩ := ih (by omega)
    have hn16 : n < 16 := by have := trips_eq; omega
    rw [pb_k2_t1_succ (F := Ideal) 𝒱 c bd i arg2 harg2 arg3 harg3 arg4 harg4 arg5 harg5 arg6 harg6 arg7 harg7 arg8 harg8 arg9 harg9 arg10 harg10 arg11 harg11 arg12 harg12 v11 v13 X2 X5 X6 X7 G8 G11 G12 ⟨n, hn⟩]
    unfold tripL_k2_t1 trip_k2_t1
    dsimp only
    simp only [List.singleton_append]
    refine ⟨?_, ?_, ?_⟩
    · intro i x
      by_cases h : 512 * n ≤ i.val ∧ i.val < 512 * n + 512
      · refine (View.read_writes_cons_rows_of_mem arg8.view G8 _ _ _ (ix2 i x) (ix2 (⟨i.val - 512 * n, by omega⟩ : Fin 512) x)
          (k2_off1_eq ⟨n, hn⟩) (by show i.val = 512 * n + (i.val - 512 * n); omega) rfl).trans ?_
        refine (pay13_apply hq hk hl hd hw he ⟨n, hn⟩ _ (⟨i.val - 512 * n, by omega⟩ : Fin 512) x).trans ?_
        rw [rows_apply arg8, i8, ← EReal.coe_add]
        have e : 512 * n + (i.val - 512 * n) = i.val := by omega
        dsimp only
        rw [e, if_neg (by omega), if_pos (by omega), add_zero]; rfl
      · refine (View.read_writes_cons_rows_of_not_mem arg8.view G8 (W := 512) _ _ _ (ix2 i x)
          (k2_off1_eq ⟨n, hn⟩) rfl (by show i.val < 512 * n ∨ 512 * n + 512 ≤ i.val; omega)).trans ?_
        refine (i8 i x).trans ?_
        dsimp only
        by_cases h' : i.val < 512 * n
        · rw [if_pos h', if_pos (by omega)]
        · rw [if_neg h', if_neg (by omega)]
    · intro j x
      rw [View.read_writes_full]
      refine (v62_apply hq hk hl hd hw he i11 ⟨n, hn⟩ j x).trans ?_
      congr 1
      show _ + _ + _ = _ + _
      rw [add_assoc, dkS, dkS, sum_tile]
    · intro j x
      rw [View.read_writes_full]
      refine (v56_apply hq hk hl hd i12 ⟨n, hn⟩ j x).trans ?_
      congr 1
      show _ + _ + _ = _ + _
      rw [add_assoc, dvS, dvS, sum_tile]

/-- After the last trip. -/
theorem loop_end (hq : Holds (a := 8192) (b := 128) (arg2.view.read (Elt Ideal) X2) Q) (hk : Holds (a := 768) (b := 128) v11 K)
    (hl : Holds (a := 8192) (b := 128) (arg6.view.read (Elt Ideal) X6) L) (hd : Holds (a := 8192) (b := 128) (arg5.view.read (Elt Ideal) X5) D)
    (hw : Holds (a := 768) (b := 128) v13 W) (he : Holds (a := 8192) (b := 128) (arg7.view.read (Elt Ideal) X7) E)
    (ha : Holds (a := 8192) (b := 128) (arg8.view.read (Elt Ideal) G8) A) (hb : Holds (a := 768) (b := 128) (arg11.view.read (Elt Ideal) G11) B)
    (hc : Holds (a := 768) (b := 128) (arg12.view.read (Elt Ideal) G12) C) :
    Holds (a := 8192) (b := 128) (arg8.view.read (Elt Ideal) (arg8.view.writes (Elt Ideal) G8 (pb_k2_t1 (F := Ideal) 𝒱 c bd i arg2 harg2 arg3 harg3 arg4 harg4 arg5 harg5 arg6 harg6 arg7 harg7 arg8 harg8 arg9 harg9 arg10 harg10 arg11 harg11 arg12 harg12 v11 v13 X2 X5 X6 X7 G8 G11 G12 k2_t1_loop.trips).1))
        (fun i x => A i x + dqS Q K L D W E i x)
      ∧ Holds (a := 768) (b := 128) (arg11.view.read (Elt Ideal) (arg11.view.writes (Elt Ideal) G11 (pb_k2_t1 (F := Ideal) 𝒱 c bd i arg2 harg2 arg3 harg3 arg4 harg4 arg5 harg5 arg6 harg6 arg7 harg7 arg8 harg8 arg9 harg9 arg10 harg10 arg11 harg11 arg12 harg12 v11 v13 X2 X5 X6 X7 G8 G11 G12 k2_t1_loop.trips).2.1))
        (fun j x => B j x + dkS Q K L D W E 8192 j x)
      ∧ Holds (a := 768) (b := 128) (arg12.view.read (Elt Ideal) (arg12.view.writes (Elt Ideal) G12 (pb_k2_t1 (F := Ideal) 𝒱 c bd i arg2 harg2 arg3 harg3 arg4 harg4 arg5 harg5 arg6 harg6 arg7 harg7 arg8 harg8 arg9 harg9 arg10 harg10 arg11 harg11 arg12 harg12 v11 v13 X2 X5 X6 X7 G8 G11 G12 k2_t1_loop.trips).2.2))
        (fun j x => C j x + dvS Q K L D 8192 j x) := by
  have h := loop_good 𝒱 c bd i (harg2 := harg2) (harg3 := harg3) (harg4 := harg4) (harg5 := harg5) (harg6 := harg6) (harg7 := harg7) (harg8 := harg8)
    (harg9 := harg9) (harg10 := harg10) (harg11 := harg11) (harg12 := harg12) hq hk hl hd hw he ha hb hc k2_t1_loop.trips le_rfl
  have e : 512 * k2_t1_loop.trips = 8192 := by rw [trips_eq]
  rw [e] at h
  refine ⟨fun i x => (h.1 i x).trans ?_, h.2.1, h.2.2⟩
  dsimp only
  rw [if_pos i.isLt]

end Cert.Proof.Bwd

end
-- ==== Proof.BwdPoint.lean ====
/-
  One grid point of the backward kernel, at the reals: a first point of a head starts the query gradient from zero, the
  others add to what the point before left, and the last one scales it; every point writes its own block of keys.
-/
module

public import Idealize.ShloMosaic.Lib.WritesUnit
public import Idealize.ShloMosaic.Lib.VecWindow
public import proofs.«01_k».proof.Proof.BwdLoop

@[expose] public section

set_option maxRecDepth 16384

noncomputable section

namespace Cert.Proof.Bwd

open Idealize.ShloMosaic Idealize.ShloMosaic.TcCoe Idealize.SL.Sem
open Cert.KernelIdeal Cert.KernelIdeal.Gen Cert.Proof.Math Cert.Proof.Fwd
open scoped BigOperators

theorem named_ln2 : Named.named (F := Ideal) κ "ln2" (φ := .f32) 0x3F317218#32 = ((Real.log 2 : ℝ) : EReal) :=
  IdealRules.named_const.ideal_named_scalar _ _ _ _ rfl

theorem pay1_apply (v : Vec Ideal S8192x128 .f32) (r : Fin 8192) (x : Fin 128) :
    k2_pay1 v (ix2 r x) = v (ix2 r x) * ((Real.log 2 : ℝ) : EReal) := by
  rw [← named_ln2]
  pointwise [k2_pay1]

theorem pay14_apply (v : Vec Ideal S768x128 .f32) (r : Fin 768) (x : Fin 128) :
    k2_pay14 v (ix2 r x) = v (ix2 r x) * ((Real.log 2 : ℝ) : EReal) := by
  rw [← named_ln2]
  pointwise [k2_pay14]

theorem pay8_apply (r : Fin 8192) (x : Fin 128) : k2_pay8 (F := Ideal) (ix2 r x) = ((0 : ℝ) : EReal) := by
  pointwise [k2_pay8]
  exact EReal.coe_zero.symm

theorem pay9_apply (r : Fin 768) (x : Fin 128) : k2_pay9 (F := Ideal) (ix2 r x) = ((0 : ℝ) : EReal) := by
  pointwise [k2_pay9]
  exact EReal.coe_zero.symm

theorem pay10_apply (r : Fin 768) (x : Fin 128) : k2_pay10 (F := Ideal) (ix2 r x) = ((0 : ℝ) : EReal) := by
  pointwise [k2_pay10]
  exact EReal.coe_zero.symm

variable (c : Dev nD) (i : grid2.Coords)
  (arg2 : Memref sig .tc .vmem S8192x128 .bf16) (harg2 : arg2.IsWhole)
  (arg3 : Memref sig .tc .vmem S768x128 .bf16) (harg3 : arg3.IsWhole)
  (arg4 : Memref sig .tc .vmem S768x128 .bf16) (harg4 : arg4.IsWhole)
  (arg5 : Memref sig .tc .vmem S8192x128 .bf16) (harg5 : arg5.IsWhole)
  (arg6 : Memref sig .tc .vmem S8192x128 .f32) (harg6 : arg6.IsWhole)
  (arg7 : Memref sig .tc .vmem S8192x128 .f32) (harg7 : arg7.IsWhole)
  (arg8 : Memref sig .tc .vmem S8192x128 .f32) (harg8 : arg8.IsWhole)
  (arg9 : Memref sig .tc .vmem S768x128 .f32) (harg9 : arg9.IsWhole)
  (arg10 : Memref sig .tc .vmem S768x128 .f32) (harg10 : arg10.IsWhole)
  (arg11 : Memref sig .tc .vmem S768x128 .f32) (harg11 : arg11.IsWhole)
  (arg12 : Memref sig .tc .vmem S768x128 .f32) (harg12 : arg12.IsWhole)
  {x0 : Vec Ideal S8192x128 .bf16} {x1 x2 : Vec Ideal S768x128 .bf16} {x3 : Vec Ideal S8192x128 .bf16} {x4 x5 xo6 : Vec Ideal S8192x128 .f32}
  {Q K L D W E A : ℕ → ℕ → ℝ}

/-- A whole block of keys, loaded. -/
theorem whole_holds {a : Memref sig .tc .vmem S768x128 .bf16} (ha : a.IsWhole) {x : Vec Ideal S768x128 .bf16} {X : ℕ → ℕ → ℝ}
    (inb : ∀ b, (![0, 0] : Fin 2 → ℕ) b + S768x128.size b ≤ S768x128.size b) (h : Holds (a := 768) (b := 128) x X) :
    Holds (a := 768) (b := 128) (View.readAt (Elt Ideal) a.view (Rect.unit (s := S768x128) ![0, 0] S768x128.size inb).toLoadRect (ha.unread x)) X := by
  intro r d
  rw [View.readAt_eq_ld, View.ld_unit_zero (S := S768x128) hz, ha.read_unread]; exact h r d

/-- The first point of a head. -/
theorem point_A (hc0 : cond2_0 i) (hc1 : ¬cond2_1 i) (hq : Holds (a := 8192) (b := 128) x0 Q) (hk : Holds (a := 768) (b := 128) x1 K)
    (hw : Holds (a := 768) (b := 128) x2 W) (hd : Holds (a := 8192) (b := 128) x3 D)
    (hl : Holds (a := 8192) (b := 128) x4 L) (he : Holds (a := 8192) (b := 128) x5 E) :
    Holds (a := 8192) (b := 128) (out2_A_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5) (fun i x => 0 + dqS Q K L D W E i x)
      ∧ Holds (a := 768) (b := 128) (out2_A_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5) (fun j x => (0 + dkS Q K L D W E 8192 j x) * Real.log 2)
      ∧ Holds (a := 768) (b := 128) (out2_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5) (fun j x => 0 + dvS Q K L D 8192 j x) := by
  have h := loop_end Variants.none c none i (harg2 := harg2) (harg3 := harg3) (harg4 := harg4) (harg5 := harg5) (harg6 := harg6) (harg7 := harg7)
    (harg8 := harg8) (harg9 := harg9) (harg10 := harg10) (harg11 := harg11) (harg12 := harg12)
    (X2 := harg2.unread x0) (X5 := harg5.unread x3) (X6 := harg6.unread x4) (X7 := harg7.unread x5)
    (G8 := (arg8.view.writes (Elt Ideal) arg8.view.junk (kernelRun2_A.sl.H6_1 (F := Ideal)))) (G11 := arg11.view.writes (Elt Ideal) arg11.view.junk (kernelRun2_A.sl.HS0_1 (F := Ideal)))
    (G12 := arg12.view.writes (Elt Ideal) arg12.view.junk (kernelRun2_A.sl.HS1_1 (F := Ideal)))
    (A := fun _ _ => 0) (B := fun _ _ => 0) (C := fun _ _ => 0)
    (by rw [harg2.read_unread]; exact hq) (whole_holds harg3 inb_S768x128_S768x128_0_0 hk) (by rw [harg6.read_unread]; exact hl)
    (by rw [harg5.read_unread]; exact hd) (whole_holds harg4 inb_S768x128_S768x128_0_0 hw) (by rw [harg7.read_unread]; exact he)
    (fun r d => by rw [kernelRun2_A.sl.H6_1, View.read_writes_full]; exact pay8_apply r d)
    (fun r d => by rw [kernelRun2_A.sl.HS0_1, View.read_writes_full]; exact pay9_apply r d)
    (fun r d => by rw [kernelRun2_A.sl.HS1_1, View.read_writes_full]; exact pay10_apply r d)
  refine ⟨?_, ?_, ?_⟩
  · intro r x
    unfold out2_A_6
    rw [View.read_writes_of_cover VO2_6 VO2_6.junk arg8.view arg8.view.junk _ (cover2_A_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5)]
    unfold kernelRun2_A; dsimp only
    rw [View.writes_append]
    exact h.1 r x
  · intro r x
    unfold out2_A_7
    unfold kernelRun2_A; dsimp only
    rw [View.read_writes_full]
    refine (pay14_apply _ r x).trans ?_
    rw [EReal.coe_mul]
    congr 1
    unfold kernelRun2_A.sl.v16 View.readCov
    rw [View.readAt_eq_ld, View.ld_unit_zero (S := S768x128) hz, View.writes_append]
    exact h.2.1 r x
  · intro r x
    unfold out2_A_8
    unfold kernelRun2_A; dsimp only
    rw [View.read_writes_full]
    unfold kernelRun2_A.sl.v20 View.readCov
    rw [View.readAt_eq_ld, View.ld_unit_zero (S := S768x128) hz, View.writes_append]
    exact h.2.2 r x

/-- A point in between. -/
theorem point_B (hc0 : ¬cond2_0 i) (hc1 : ¬cond2_1 i) (hq : Holds (a := 8192) (b := 128) x0 Q) (hk : Holds (a := 768) (b := 128) x1 K)
    (hw : Holds (a := 768) (b := 128) x2 W) (hd : Holds (a := 8192) (b := 128) x3 D)
    (hl : Holds (a := 8192) (b := 128) x4 L) (he : Holds (a := 8192) (b := 128) x5 E)
    (ha : Holds (a := 8192) (b := 128) xo6 A) :
    Holds (a := 8192) (b := 128) (out2_B_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6) (fun i x => A i x + dqS Q K L D W E i x)
      ∧ Holds (a := 768) (b := 128) (out2_B_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6) (fun j x => (0 + dkS Q K L D W E 8192 j x) * Real.log 2)
      ∧ Holds (a := 768) (b := 128) (out2_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6) (fun j x => 0 + dvS Q K L D 8192 j x) := by
  have h := loop_end Variants.none c none i (harg2 := harg2) (harg3 := harg3) (harg4 := harg4) (harg5 := harg5) (harg6 := harg6) (harg7 := harg7)
    (harg8 := harg8) (harg9 := harg9) (harg10 := harg10) (harg11 := harg11) (harg12 := harg12)
    (X2 := harg2.unread x0) (X5 := harg5.unread x3) (X6 := harg6.unread x4) (X7 := harg7.unread x5)
    (G8 := (harg8.unread xo6)) (G11 := arg11.view.writes (Elt Ideal) arg11.view.junk (kernelRun2_B.sl.HS0_1 (F := Ideal)))
    (G12 := arg12.view.writes (Elt Ideal) arg12.view.junk (kernelRun2_B.sl.HS1_1 (F := Ideal)))
    (A := A) (B := fun _ _ => 0) (C := fun _ _ => 0)
    (by rw [harg2.read_unread]; exact hq) (whole_holds harg3 inb_S768x128_S768x128_0_0 hk) (by rw [harg6.read_unread]; exact hl)
    (by rw [harg5.read_unread]; exact hd) (whole_holds harg4 inb_S768x128_S768x128_0_0 hw) (by rw [harg7.read_unread]; exact he)
    (by rw [harg8.read_unread]; exact ha)
    (fun r d => by rw [kernelRun2_B.sl.HS0_1, View.read_writes_full]; exact pay9_apply r d)
    (fun r d => by rw [kernelRun2_B.sl.HS1_1, View.read_writes_full]; exact pay10_apply r d)
  refine ⟨?_, ?_, ?_⟩
  · intro r x
    unfold out2_B_6
    rw [View.read_writes_of_cover VO2_6 VO2_6.junk arg8.view (harg8.unread xo6) _ (cover2_B_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6)]
    unfold kernelRun2_B; dsimp only
    exact h.1 r x
  · intro r x
    unfold out2_B_7
    unfold kernelRun2_B; dsimp only
    rw [View.read_writes_full]
    refine (pay14_apply _ r x).trans ?_
    rw [EReal.coe_mul]
    congr 1
    unfold kernelRun2_B.sl.v16 View.readCov
    rw [View.readAt_eq_ld, View.ld_unit_zero (S := S768x128) hz, View.writes_append]
    exact h.2.1 r x
  · intro r x
    unfold out2_B_8
    unfold kernelRun2_B; dsimp only
    rw [View.read_writes_full]
    unfold kernelRun2_B.sl.v20 View.readCov
    rw [View.readAt_eq_ld, View.ld_unit_zero (S := S768x128) hz, View.writes_append]
    exact h.2.2 r x

/-- The last point of a head. -/
theorem point_C (hc0 : ¬cond2_0 i) (hc1 : cond2_1 i) (hq : Holds (a := 8192) (b := 128) x0 Q) (hk : Holds (a := 768) (b := 128) x1 K)
    (hw : Holds (a := 768) (b := 128) x2 W) (hd : Holds (a := 8192) (b := 128) x3 D)
    (hl : Holds (a := 8192) (b := 128) x4 L) (he : Holds (a := 8192) (b := 128) x5 E)
    (ha : Holds (a := 8192) (b := 128) xo6 A) :
    Holds (a := 8192) (b := 128) (out2_C_6 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6) (fun i x => (A i x + dqS Q K L D W E i x) * Real.log 2)
      ∧ Holds (a := 768) (b := 128) (out2_C_7 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6) (fun j x => (0 + dkS Q K L D W E 8192 j x) * Real.log 2)
      ∧ Holds (a := 768) (b := 128) (out2_C_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 xo6) (fun j x => 0 + dvS Q K L D 8192 j x) := by
  have h := loop_end Variants.none c none i (harg2 := harg2) (harg3 := harg3) (harg4 := harg4) (harg5 := harg5) (harg6 := harg6) (harg7 := harg7)
    (harg8 := harg8) (harg9 := harg9) (harg10 := harg10) (harg11 := harg11) (harg12 := harg12)
    (X2 := harg2.unread x0) (X5 := harg5.unread x3) (X6 := harg6.unread x4) (X7 := harg7.unread x5)
    (G8 := (harg8.unread xo6)) (G11 := arg11.view.writes (Elt Ideal) arg11.view.junk (kernelRun2_C.sl.HS0_1 (F := Ideal)))
    (G12 := arg12.view.writes (Elt Ideal) arg12.view.junk (kernelRun2_C.sl.HS1_1 (F := Ideal)))
    (A := A) (B := fun _ _ => 0) (C := fun _ _ => 0)
    (by rw [harg2.read_unread]; exact hq) (whole_holds harg3 inb_S768x128_S768x128_0_0 hk) (by rw [harg6.read_unread]; exact hl)
    (by rw [harg5.read_unread]; exact hd) (whole_holds harg4 inb_S768x128_S768x128_0_0 hw) (by rw [harg7.read_unread]; exact he)
    (by rw [harg8.read_unread]; exact ha)
    (fun r d => by rw [kernelRun2_C.sl.HS0_1, View.read_writes_full]; exact pay9_apply r d)
    (fun r d => by rw [kernelRun2_C.sl.HS1_1, View.read_writes_full]; exact pay10_apply r d)
  refine ⟨?_, ?_, ?_⟩
  · intro r x
    unfold out2_C_6
    unfold kernelRun2_C; dsimp only
    rw [View.read_writes_full]
    refine (pay1_apply _ r x).trans ?_
    rw [EReal.coe_mul]
    congr 1
    unfold kernelRun2_C.sl.v25
    rw [View.readAt_eq_ld, View.ld_unit_zero (S := S8192x128) hz]
    exact h.1 r x
  · intro r x
    unfold out2_C_7
    unfold kernelRun2_C; dsimp only
    rw [View.read_writes_full]
    refine (pay14_apply _ r x).trans ?_
    rw [EReal.coe_mul]
    congr 1
    unfold kernelRun2_C.sl.v16 View.readCov
    rw [View.readAt_eq_ld, View.ld_unit_zero (S := S768x128) hz, View.writes_append]
    exact h.2.1 r x
  · intro r x
    unfold out2_C_8
    unfold kernelRun2_C; dsimp only
    rw [View.read_writes_full]
    unfold kernelRun2_C.sl.v20 View.readCov
    rw [View.readAt_eq_ld, View.ld_unit_zero (S := S768x128) hz, View.writes_append]
    exact h.2.2 r x

end Cert.Proof.Bwd

end
-- ==== Proof.BwdArr.lean ====
/-
  The backward kernel's three results: the gradients of the queries, keys and values of all heads, from the saved
  logarithms `L` and the row sums `E`.
-/
module

public import Idealize.ShloMosaic.Lib.Pipeline.Kit
public import proofs.«01_k».proof.Proof.BwdPoint
public import proofs.«01_k».proof.Proof.Place

@[expose] public section

set_option maxRecDepth 16384

noncomputable section

namespace Cert.Proof.Bwd

open Idealize.ShloMosaic Idealize.ShloMosaic.TcCoe Idealize.SL.Sem
open Cert.KernelIdeal Cert.KernelIdeal.Gen Cert.Proof.Math Cert.Proof.Fwd
open Idealize.ShloMosaic.Pipeline
open scoped BigOperators

/-- The lanes of head `h`. -/
def lane (h : ℕ) (X : ℕ → ℕ → ℝ) : ℕ → ℕ → ℝ := fun i d => X i (128 * h + d)

/-- Head `h`'s weight of row `i` at key `j`, -/
def wtH (Q K L : ℕ → ℕ → ℝ) (h i j : ℕ) : ℝ := wt (lane h Q) (lane h K) (lane h L) i j

/-- and the gradient of its score. -/
def gsH (Q K L D W E : ℕ → ℕ → ℝ) (h i j : ℕ) : ℝ := gs (lane h Q) (lane h K) (lane h L) (lane h D) (lane h W) (lane h E) i j

def dqR (Q K L D W E : ℕ → ℕ → ℝ) (i l : ℕ) : ℝ := (∑ j ∈ Finset.range 8448, gsH Q K L D W E (l / 128) i j * K j l) * Real.log 2

def dkR (Q K L D W E : ℕ → ℕ → ℝ) (j l : ℕ) : ℝ := (∑ i ∈ Finset.range 8192, gsH Q K L D W E (l / 128) i j * Q i l) * Real.log 2

def dvR (Q K L D : ℕ → ℕ → ℝ) (j l : ℕ) : ℝ := ∑ i ∈ Finset.range 8192, wtH Q K L (l / 128) i j * D i l

variable (V : (c : Dev nD) → (b : Ref sig .tc) → Buf (Elt Ideal) ((c : Thread nD τ).loc b))
variable {Q K L D W E : ℕ → ℕ → ℝ}

/-- Where each window's block lies at a point: head `t / 11`, block of keys `t % 11`. -/
theorem idx0 : ∀ t : Fin cfg2.N, win2_0.index t (0 : Fin 2) = 0 ∧ win2_0.index t (1 : Fin 2) = t.val / 11 :=
  (by decide +kernel : ∀ t : Fin grid2.N, _)
theorem idx1 : ∀ t : Fin cfg2.N, win2_1.index t (0 : Fin 2) = t.val % 11 ∧ win2_1.index t (1 : Fin 2) = t.val / 11 :=
  (by decide +kernel : ∀ t : Fin grid2.N, _)
theorem idx2 : ∀ t : Fin cfg2.N, win2_2.index t (0 : Fin 2) = t.val % 11 ∧ win2_2.index t (1 : Fin 2) = t.val / 11 :=
  (by decide +kernel : ∀ t : Fin grid2.N, _)
theorem idx3 : ∀ t : Fin cfg2.N, win2_3.index t (0 : Fin 2) = 0 ∧ win2_3.index t (1 : Fin 2) = t.val / 11 :=
  (by decide +kernel : ∀ t : Fin grid2.N, _)
theorem idx4 : ∀ t : Fin cfg2.N, win2_4.index t (0 : Fin 2) = 0 ∧ win2_4.index t (1 : Fin 2) = t.val / 11 :=
  (by decide +kernel : ∀ t : Fin grid2.N, _)
theorem idx5 : ∀ t : Fin cfg2.N, win2_5.index t (0 : Fin 2) = 0 ∧ win2_5.index t (1 : Fin 2) = t.val / 11 :=
  (by decide +kernel : ∀ t : Fin grid2.N, _)
theorem idx6 : ∀ t : Fin cfg2.N, win2_6.index t (0 : Fin 2) = 0 ∧ win2_6.index t (1 : Fin 2) = t.val / 11 :=
  (by decide +kernel : ∀ t : Fin grid2.N, _)
theorem idx7 : ∀ t : Fin cfg2.N, win2_7.index t (0 : Fin 2) = t.val % 11 ∧ win2_7.index t (1 : Fin 2) = t.val / 11 :=
  (by decide +kernel : ∀ t : Fin grid2.N, _)
theorem idx8 : ∀ t : Fin cfg2.N, win2_8.index t (0 : Fin 2) = t.val % 11 ∧ win2_8.index t (1 : Fin 2) = t.val / 11 :=
  (by decide +kernel : ∀ t : Fin grid2.N, _)

theorem lt88 (t : Fin cfg2.N) : t.val < 88 := by have := t.isLt; have h : cfg2.N = 88 := N_2; omega

theorem blk_q (c : Dev nD) (h : Holds (a := 8192) (b := 1024) (V c main_v6) Q) (t : Fin cfg2.N) :
    Holds (a := 8192) (b := 128) (iblk2 V c 0 t : Vec Ideal S8192x128 .bf16) (lane (t.val / 11) Q) := by
  intro r d
  have ht := lt88 t
  refine Eq.trans ?_ (h r ⟨128 * (t.val / 11) + d.val, by omega⟩)
  exact congrArg (V c main_v6) (put2 (idx0 t) 8192 r.val 128 d.val)

theorem blk_k (c : Dev nD) (h : Holds (a := 8448) (b := 1024) (V c main_v9) K) (t : Fin cfg2.N) :
    Holds (a := 768) (b := 128) (iblk2 V c 1 t : Vec Ideal S768x128 .bf16) (fun j d => lane (t.val / 11) K (768 * (t.val % 11) + j) d) := by
  intro r d
  have ht := lt88 t
  refine Eq.trans ?_ (h ⟨768 * (t.val % 11) + r.val, by omega⟩ ⟨128 * (t.val / 11) + d.val, by omega⟩)
  exact congrArg (V c main_v9) (put2 (idx1 t) 768 r.val 128 d.val)

theorem blk_w (c : Dev nD) (h : Holds (a := 8448) (b := 1024) (V c main_v12) W) (t : Fin cfg2.N) :
    Holds (a := 768) (b := 128) (iblk2 V c 2 t : Vec Ideal S768x128 .bf16) (fun j d => lane (t.val / 11) W (768 * (t.val % 11) + j) d) := by
  intro r d
  have ht := lt88 t
  refine Eq.trans ?_ (h ⟨768 * (t.val % 11) + r.val, by omega⟩ ⟨128 * (t.val / 11) + d.val, by omega⟩)
  exact congrArg (V c main_v12) (put2 (idx2 t) 768 r.val 128 d.val)

theorem blk_d (c : Dev nD) (h : Holds (a := 8192) (b := 1024) (V c main_v18_0) D) (t : Fin cfg2.N) :
    Holds (a := 8192) (b := 128) (iblk2 V c 3 t : Vec Ideal S8192x128 .bf16) (lane (t.val / 11) D) := by
  intro r d
  have ht := lt88 t
  refine Eq.trans ?_ (h r ⟨128 * (t.val / 11) + d.val, by omega⟩)
  exact congrArg (V c main_v18_0) (put2 (idx3 t) 8192 r.val 128 d.val)

theorem blk_l (c : Dev nD) (h : Holds (a := 8192) (b := 1024) (V c main_v13_1) L) (t : Fin cfg2.N) :
    Holds (a := 8192) (b := 128) (iblk2 V c 4 t : Vec Ideal S8192x128 .f32) (lane (t.val / 11) L) := by
  intro r d
  have ht := lt88 t
  refine Eq.trans ?_ (h r ⟨128 * (t.val / 11) + d.val, by omega⟩)
  exact congrArg (V c main_v13_1) (put2 (idx4 t) 8192 r.val 128 d.val)

theorem blk_e (c : Dev nD) (h : Holds (a := 8192) (b := 1024) (V c main_v18_1) E) (t : Fin cfg2.N) :
    Holds (a := 8192) (b := 128) (iblk2 V c 5 t : Vec Ideal S8192x128 .f32) (lane (t.val / 11) E) := by
  intro r d
  have ht := lt88 t
  refine Eq.trans ?_ (h r ⟨128 * (t.val / 11) + d.val, by omega⟩)
  exact congrArg (V c main_v18_1) (put2 (idx5 t) 8192 r.val 128 d.val)

/-- What the keys before `n` add to row `i` of head `h`'s query gradient. -/
def dqP (Q K L D W E : ℕ → ℕ → ℝ) (h n i x : ℕ) : ℝ := ∑ j ∈ Finset.range n, gsH Q K L D W E h i j * lane h K j x

theorem dqP_succ (h m i x : ℕ) : dqP Q K L D W E h (768 * m) i x
    + dqS (lane h Q) (fun j d => lane h K (768 * m + j) d) (lane h L) (lane h D) (fun j d => lane h W (768 * m + j) d) (lane h E) i x
      = dqP Q K L D W E h (768 * (m + 1)) i x := by
  unfold dqP dqS
  rw [show 768 * (m + 1) = 768 * m + 768 by omega, Finset.sum_range_add]
  rfl

/-- Before the last point of a head, the query gradient of the keys so far. -/
theorem dq_part (c : Dev nD) (hq : Holds (a := 8192) (b := 1024) (V c main_v6) Q) (hk : Holds (a := 8448) (b := 1024) (V c main_v9) K)
    (hw : Holds (a := 8448) (b := 1024) (V c main_v12) W) (hd : Holds (a := 8192) (b := 1024) (V c main_v18_0) D)
    (hl : Holds (a := 8192) (b := 1024) (V c main_v13_1) L) (he : Holds (a := 8192) (b := 1024) (V c main_v18_1) E) :
    ∀ (n : ℕ) (hn : n < cfg2.N), n % 11 ≠ 10 →
      Holds (a := 8192) (b := 128) (outsAt2 V c n hn).1 (dqP Q K L D W E (n / 11) (768 * (n % 11 + 1))) := by
  have first : ∀ t : Fin cfg2.N, t.val % 11 = 0 →
      Holds (a := 8192) (b := 128) (outsAt2 V c t.val t.isLt).1 (dqP Q K L D W E (t.val / 11) (768 * (t.val % 11 + 1))) := by
    intro t h0
    have h1 : ¬t.val % 11 = 10 := by omega
    rw [outsAt2_A V c t h0 h1]
    dsimp only
    intro i x
    refine ((point_A c (grid2.coords t) _ _ _ _ _ _ _ _ _ _ _ _ _ _ _ _ _ _ _ _ _ _ ((hcond2_0 t).mpr h0) (fun h => h1 ((hcond2_1 t).mp h)) (blk_q V c hq t) (blk_k V c hk t) (blk_w V c hw t) (blk_d V c hd t) (blk_l V c hl t) (blk_e V c he t)).1 i x).trans ?_
    rw [← dqP_succ]
    dsimp only
    rw [h0]
    simp [dqP]
  intro n
  induction n with
  | zero => intro hn _; exact first ⟨0, hn⟩ rfl
  | succ n ih =>
    intro hn h10
    by_cases h00 : (n + 1) % 11 = 0
    · exact first ⟨n + 1, hn⟩ h00
    have hp := ih (by omega) (by omega)
    obtain ⟨t, ht⟩ : ∃ t : Fin cfg2.N, t = ⟨n + 1, hn⟩ := ⟨_, rfl⟩
    have htv : t.val = n + 1 := by rw [ht]
    have h0 : ¬t.val % 11 = 0 := by omega
    have h1 : ¬t.val % 11 = 10 := by omega
    have e := outsAt2_B V c t h0 h1
    have hp' : Holds (a := 8192) (b := 128) (outsAt2 V c (t.val - 1) (Nat.lt_of_le_of_lt (Nat.sub_le _ _) t.isLt)).1
        (dqP Q K L D W E (t.val / 11) (768 * (t.val % 11))) := by
      have e1 : n / 11 = t.val / 11 := by omega
      have e2 : n % 11 + 1 = t.val % 11 := by omega
      rw [← e1, ← e2]; subst ht; exact hp
    have goal : Holds (a := 8192) (b := 128) (outsAt2 V c t.val t.isLt).1 (dqP Q K L D W E (t.val / 11) (768 * (t.val % 11 + 1))) := by
      rw [e]
      dsimp only
      intro i x
      refine ((point_B c (grid2.coords t) _ _ _ _ _ _ _ _ _ _ _ _ _ _ _ _ _ _ _ _ _ _ (fun h => h0 ((hcond2_0 t).mp h)) (fun h => h1 ((hcond2_1 t).mp h)) (blk_q V c hq t) (blk_k V c hk t) (blk_w V c hw t) (blk_d V c hd t) (blk_l V c hl t) (blk_e V c he t) hp').1 i x).trans ?_
      rw [← dqP_succ]
    subst ht; exact goal

/-- At the last point of a head, the whole of it, scaled. -/
theorem dq_last (c : Dev nD) (hq : Holds (a := 8192) (b := 1024) (V c main_v6) Q) (hk : Holds (a := 8448) (b := 1024) (V c main_v9) K)
    (hw : Holds (a := 8448) (b := 1024) (V c main_v12) W) (hd : Holds (a := 8192) (b := 1024) (V c main_v18_0) D)
    (hl : Holds (a := 8192) (b := 1024) (V c main_v13_1) L) (he : Holds (a := 8192) (b := 1024) (V c main_v18_1) E)
    (t : Fin cfg2.N) (h1 : t.val % 11 = 10) :
    Holds (a := 8192) (b := 128) (outsAt2 V c t.val t.isLt).1 (fun i x => dqP Q K L D W E (t.val / 11) 8448 i x * Real.log 2) := by
  have h0 : ¬t.val % 11 = 0 := by omega
  have ht := lt88 t
  have hp' : Holds (a := 8192) (b := 128) (outsAt2 V c (t.val - 1) (Nat.lt_of_le_of_lt (Nat.sub_le _ _) t.isLt)).1
      (dqP Q K L D W E (t.val / 11) (768 * (t.val % 11))) := by
    have e1 : (t.val - 1) / 11 = t.val / 11 := by omega
    have e2 : (t.val - 1) % 11 + 1 = t.val % 11 := by omega
    rw [← e1, ← e2]
    exact dq_part V c hq hk hw hd hl he (t.val - 1) _ (by omega)
  rw [outsAt2_C V c t h0 h1]
  dsimp only
  intro i x
  refine ((point_C c (grid2.coords t) _ _ _ _ _ _ _ _ _ _ _ _ _ _ _ _ _ _ _ _ _ _ (fun h => h0 ((hcond2_0 t).mp h)) ((hcond2_1 t).mpr h1) (blk_q V c hq t) (blk_k V c hk t) (blk_w V c hw t) (blk_d V c hd t) (blk_l V c hl t) (blk_e V c he t) hp').1 i x).trans ?_
  dsimp only
  rw [dqP_succ, h1]

set_option maxHeartbeats 1600000 in
/-- Every point's block of keys. -/
theorem dkv_at (c : Dev nD) (hq : Holds (a := 8192) (b := 1024) (V c main_v6) Q) (hk : Holds (a := 8448) (b := 1024) (V c main_v9) K)
    (hw : Holds (a := 8448) (b := 1024) (V c main_v12) W) (hd : Holds (a := 8192) (b := 1024) (V c main_v18_0) D)
    (hl : Holds (a := 8192) (b := 1024) (V c main_v13_1) L) (he : Holds (a := 8192) (b := 1024) (V c main_v18_1) E) (t : Fin cfg2.N) :
    Holds (a := 768) (b := 128) (outsAt2 V c t.val t.isLt).2.1 (fun j x => dkR Q K L D W E (768 * (t.val % 11) + j) (128 * (t.val / 11) + x % 128))
      ∧ Holds (a := 768) (b := 128) (outsAt2 V c t.val t.isLt).2.2 (fun j x => dvR Q K L D (768 * (t.val % 11) + j) (128 * (t.val / 11) + x % 128)) := by
  have ht := lt88 t
  have key : Holds (a := 768) (b := 128) (outsAt2 V c t.val t.isLt).2.1
        (fun j x => (0 + dkS (lane (t.val / 11) Q) (fun j d => lane (t.val / 11) K (768 * (t.val % 11) + j) d) (lane (t.val / 11) L) (lane (t.val / 11) D)
          (fun j d => lane (t.val / 11) W (768 * (t.val % 11) + j) d) (lane (t.val / 11) E) 8192 j x) * Real.log 2)
      ∧ Holds (a := 768) (b := 128) (outsAt2 V c t.val t.isLt).2.2
        (fun j x => 0 + dvS (lane (t.val / 11) Q) (fun j d => lane (t.val / 11) K (768 * (t.val % 11) + j) d) (lane (t.val / 11) L) (lane (t.val / 11) D) 8192 j x) := by
    by_cases h0 : t.val % 11 = 0
    · have h1 : ¬t.val % 11 = 10 := by omega
      rw [outsAt2_A V c t h0 h1]
      dsimp only
      refine ⟨fun j x => ?_, fun j x => ?_⟩
      · exact (point_A c (grid2.coords t) _ _ _ _ _ _ _ _ _ _ _ _ _ _ _ _ _ _ _ _ _ _ ((hcond2_0 t).mpr h0) (fun h => h1 ((hcond2_1 t).mp h)) (blk_q V c hq t) (blk_k V c hk t) (blk_w V c hw t) (blk_d V c hd t) (blk_l V c hl t) (blk_e V c he t)).2.1 j x
      · exact (point_A c (grid2.coords t) _ _ _ _ _ _ _ _ _ _ _ _ _ _ _ _ _ _ _ _ _ _ ((hcond2_0 t).mpr h0) (fun h => h1 ((hcond2_1 t).mp h)) (blk_q V c hq t) (blk_k V c hk t) (blk_w V c hw t) (blk_d V c hd t) (blk_l V c hl t) (blk_e V c he t)).2.2 j x
    have hp' : Holds (a := 8192) (b := 128) (outsAt2 V c (t.val - 1) (Nat.lt_of_le_of_lt (Nat.sub_le _ _) t.isLt)).1
        (dqP Q K L D W E ((t.val - 1) / 11) (768 * ((t.val - 1) % 11 + 1))) :=
      dq_part V c hq hk hw hd hl he (t.val - 1) _ (by omega)
    by_cases h1 : t.val % 11 = 10
    · rw [outsAt2_C V c t h0 h1]
      dsimp only
      refine ⟨fun j x => ?_, fun j x => ?_⟩
      · exact (point_C c (grid2.coords t) _ _ _ _ _ _ _ _ _ _ _ _ _ _ _ _ _ _ _ _ _ _ (fun h => h0 ((hcond2_0 t).mp h)) ((hcond2_1 t).mpr h1) (blk_q V c hq t) (blk_k V c hk t) (blk_w V c hw t) (blk_d V c hd t) (blk_l V c hl t) (blk_e V c he t) hp').2.1 j x
      · exact (point_C c (grid2.coords t) _ _ _ _ _ _ _ _ _ _ _ _ _ _ _ _ _ _ _ _ _ _ (fun h => h0 ((hcond2_0 t).mp h)) ((hcond2_1 t).mpr h1) (blk_q V c hq t) (blk_k V c hk t) (blk_w V c hw t) (blk_d V c hd t) (blk_l V c hl t) (blk_e V c he t) hp').2.2 j x
    · rw [outsAt2_B V c t h0 h1]
      dsimp only
      refine ⟨fun j x => ?_, fun j x => ?_⟩
      · exact (point_B c (grid2.coords t) _ _ _ _ _ _ _ _ _ _ _ _ _ _ _ _ _ _ _ _ _ _ (fun h => h0 ((hcond2_0 t).mp h)) (fun h => h1 ((hcond2_1 t).mp h)) (blk_q V c hq t) (blk_k V c hk t) (blk_w V c hw t) (blk_d V c hd t) (blk_l V c hl t) (blk_e V c he t) hp').2.1 j x
      · exact (point_B c (grid2.coords t) _ _ _ _ _ _ _ _ _ _ _ _ _ _ _ _ _ _ _ _ _ _ (fun h => h0 ((hcond2_0 t).mp h)) (fun h => h1 ((hcond2_1 t).mp h)) (blk_q V c hq t) (blk_k V c hk t) (blk_w V c hw t) (blk_d V c hd t) (blk_l V c hl t) (blk_e V c he t) hp').2.2 j x
  refine ⟨fun j x => (key.1 j x).trans ?_, fun j x => (key.2 j x).trans ?_⟩
  · dsimp only
    rw [Nat.mod_eq_of_lt x.isLt, zero_add]
    unfold dkR dkS
    rw [show (128 * (t.val / 11) + x.val) / 128 = t.val / 11 by omega]
    rfl
  · dsimp only
    rw [Nat.mod_eq_of_lt x.isLt, zero_add]
    unfold dvR dvS
    rw [show (128 * (t.val / 11) + x.val) / 128 = t.val / 11 by omega]
    rfl

theorem flushed_dq (c : Dev nD) (hq : Holds (a := 8192) (b := 1024) (V c main_v6) Q) (hk : Holds (a := 8448) (b := 1024) (V c main_v9) K)
    (hw : Holds (a := 8448) (b := 1024) (V c main_v12) W) (hd : Holds (a := 8192) (b := 1024) (V c main_v18_0) D)
    (hl : Holds (a := 8192) (b := 1024) (V c main_v13_1) L) (he : Holds (a := 8192) (b := 1024) (V c main_v18_1) E)
    (t : Fin cfg2.N) (h1 : t.val % 11 = 10) :
    (dat2 V c).flushed 6 t = ((cfg2.win 6).blk t).view.read (Elt Ideal)
      (fun i : S8192x1024.Idx => ((dqR Q K L D W E (i 0).val (i 1).val : ℝ) : EReal)) := by
  have ht := lt88 t
  obtain ⟨e0, e1⟩ := idx6 t
  show (cfg2.win 6).cut (grid2.coords t) ((dat2 V c).after 6 t) = _
  rw [after2_6]
  funext j
  obtain ⟨r, d, rfl⟩ : ∃ (r : Fin 8192) (d : Fin 128), j = ix2 r d := ⟨j 0, j 1, eq_ix2 j⟩
  show (outsAt2 V c t.val t.isLt).1 (ix2 r d) = ((dqR Q K L D W E (((cfg2.win 6).blk t).view.emb (ix2 r d) 0).val (((cfg2.win 6).blk t).view.emb (ix2 r d) 1).val : ℝ) : EReal)
  have h0' : (((cfg2.win 6).blk t).view.emb (ix2 r d) 0).val = r.val := by
    show win2_6.index t (0 : Fin 2) * 8192 + 1 * r.val = _; omega
  have h1' : (((cfg2.win 6).blk t).view.emb (ix2 r d) 1).val = 128 * (t.val / 11) + d.val := by
    show win2_6.index t (1 : Fin 2) * 128 + 1 * d.val = _; omega
  refine (dq_last V c hq hk hw hd hl he t h1 r d).trans ?_
  rw [h0', h1']
  unfold dqR dqP
  rw [show (128 * (t.val / 11) + d.val) / 128 = t.val / 11 by omega]
  rfl

theorem cover_dq (i : S8192x1024.Idx) : ∃ t : Fin cfg2.N, (cfg2.win 6).flush t = true ∧ i ∈ ((cfg2.win 6).blk t).view.set := by
  have h0 : (i 0).val < 8192 := (i 0).isLt
  have h1 : (i 1).val < 1024 := (i 1).isLt
  have hN : cfg2.N = 88 := N_2
  obtain ⟨t, hp⟩ : ∃ t : Fin cfg2.N, t.val = 11 * ((i 1).val / 128) + 10 := ⟨⟨11 * ((i 1).val / 128) + 10, by omega⟩, rfl⟩
  refine ⟨t, (flush2_6 _).mpr (by rw [hp]; omega), ?_⟩
  exact mem_at _ (ix2 (i 0) ⟨(i 1).val % 128, Nat.mod_lt _ (by norm_num)⟩ : S8192x128.Idx) ((put2 (a := i 0) (b := i 1) (idx6 t) 8192 ((i 0).val) 128 ((i 1).val % 128)).trans (eq_ix2 i).symm)

theorem arr_dq (c : Dev nD) (hq : Holds (a := 8192) (b := 1024) (V c main_v6) Q) (hk : Holds (a := 8448) (b := 1024) (V c main_v9) K)
    (hw : Holds (a := 8448) (b := 1024) (V c main_v12) W) (hd : Holds (a := 8192) (b := 1024) (V c main_v18_0) D)
    (hl : Holds (a := 8192) (b := 1024) (V c main_v13_1) L) (he : Holds (a := 8192) (b := 1024) (V c main_v18_1) E) :
    (dat2 V c).arrAt 6 cfg2.N = (fun i : S8192x1024.Idx => ((dqR Q K L D W E (i 0).val (i 1).val : ℝ) : EReal)) :=
  (dat2 V c).arrAt_eq_of_cover 6 _ (fun t hf => flushed_dq V c hq hk hw hd hl he t ((flush2_6 t).mp hf)) cover_dq

theorem flushed_dk (c : Dev nD) (hq : Holds (a := 8192) (b := 1024) (V c main_v6) Q) (hk : Holds (a := 8448) (b := 1024) (V c main_v9) K)
    (hw : Holds (a := 8448) (b := 1024) (V c main_v12) W) (hd : Holds (a := 8192) (b := 1024) (V c main_v18_0) D)
    (hl : Holds (a := 8192) (b := 1024) (V c main_v13_1) L) (he : Holds (a := 8192) (b := 1024) (V c main_v18_1) E)
    (t : Fin cfg2.N) :
    (dat2 V c).flushed 7 t = ((cfg2.win 7).blk t).view.read (Elt Ideal)
      (fun i : S8448x1024.Idx => ((dkR Q K L D W E (i 0).val (i 1).val : ℝ) : EReal)) := by
  have ht := lt88 t
  obtain ⟨e0, e1⟩ := idx7 t
  show (cfg2.win 7).cut (grid2.coords t) ((dat2 V c).after 7 t) = _
  rw [after2_7]
  funext j
  obtain ⟨r, d, rfl⟩ : ∃ (r : Fin 768) (d : Fin 128), j = ix2 r d := ⟨j 0, j 1, eq_ix2 j⟩
  show (outsAt2 V c t.val t.isLt).2.1 (ix2 r d) = ((dkR Q K L D W E (((cfg2.win 7).blk t).view.emb (ix2 r d) 0).val (((cfg2.win 7).blk t).view.emb (ix2 r d) 1).val : ℝ) : EReal)
  have h0' : (((cfg2.win 7).blk t).view.emb (ix2 r d) 0).val = 768 * (t.val % 11) + r.val := by
    show win2_7.index t (0 : Fin 2) * 768 + 1 * r.val = _; omega
  have h1' : (((cfg2.win 7).blk t).view.emb (ix2 r d) 1).val = 128 * (t.val / 11) + d.val := by
    show win2_7.index t (1 : Fin 2) * 128 + 1 * d.val = _; omega
  refine ((dkv_at V c hq hk hw hd hl he t).1 r d).trans ?_
  rw [h0', h1']
  dsimp only
  rw [Nat.mod_eq_of_lt d.isLt]

theorem cover_dk (i : S8448x1024.Idx) : ∃ t : Fin cfg2.N, (cfg2.win 7).flush t = true ∧ i ∈ ((cfg2.win 7).blk t).view.set := by
  have h0 : (i 0).val < 8448 := (i 0).isLt
  have h1 : (i 1).val < 1024 := (i 1).isLt
  have hN : cfg2.N = 88 := N_2
  obtain ⟨t, hp⟩ : ∃ t : Fin cfg2.N, t.val = 11 * ((i 1).val / 128) + (i 0).val / 768 := ⟨⟨11 * ((i 1).val / 128) + (i 0).val / 768, by omega⟩, rfl⟩
  refine ⟨t, flush2_7 _, ?_⟩
  exact mem_at _ (ix2 ⟨(i 0).val % 768, Nat.mod_lt _ (by norm_num)⟩ ⟨(i 1).val % 128, Nat.mod_lt _ (by norm_num)⟩ : S768x128.Idx) ((put2 (a := i 0) (b := i 1) (idx7 t) 768 ((i 0).val % 768) 128 ((i 1).val % 128)).trans (eq_ix2 i).symm)

theorem arr_dk (c : Dev nD) (hq : Holds (a := 8192) (b := 1024) (V c main_v6) Q) (hk : Holds (a := 8448) (b := 1024) (V c main_v9) K)
    (hw : Holds (a := 8448) (b := 1024) (V c main_v12) W) (hd : Holds (a := 8192) (b := 1024) (V c main_v18_0) D)
    (hl : Holds (a := 8192) (b := 1024) (V c main_v13_1) L) (he : Holds (a := 8192) (b := 1024) (V c main_v18_1) E) :
    (dat2 V c).arrAt 7 cfg2.N = (fun i : S8448x1024.Idx => ((dkR Q K L D W E (i 0).val (i 1).val : ℝ) : EReal)) :=
  (dat2 V c).arrAt_eq_of_cover 7 _ (fun t _ => flushed_dk V c hq hk hw hd hl he t) cover_dk

theorem flushed_dv (c : Dev nD) (hq : Holds (a := 8192) (b := 1024) (V c main_v6) Q) (hk : Holds (a := 8448) (b := 1024) (V c main_v9) K)
    (hw : Holds (a := 8448) (b := 1024) (V c main_v12) W) (hd : Holds (a := 8192) (b := 1024) (V c main_v18_0) D)
    (hl : Holds (a := 8192) (b := 1024) (V c main_v13_1) L) (he : Holds (a := 8192) (b := 1024) (V c main_v18_1) E)
    (t : Fin cfg2.N) :
    (dat2 V c).flushed 8 t = ((cfg2.win 8).blk t).view.read (Elt Ideal)
      (fun i : S8448x1024.Idx => ((dvR Q K L D (i 0).val (i 1).val : ℝ) : EReal)) := by
  have ht := lt88 t
  obtain ⟨e0, e1⟩ := idx8 t
  show (cfg2.win 8).cut (grid2.coords t) ((dat2 V c).after 8 t) = _
  rw [after2_8]
  funext j
  obtain ⟨r, d, rfl⟩ : ∃ (r : Fin 768) (d : Fin 128), j = ix2 r d := ⟨j 0, j 1, eq_ix2 j⟩
  show (outsAt2 V c t.val t.isLt).2.2 (ix2 r d) = ((dvR Q K L D (((cfg2.win 8).blk t).view.emb (ix2 r d) 0).val (((cfg2.win 8).blk t).view.emb (ix2 r d) 1).val : ℝ) : EReal)
  have h0' : (((cfg2.win 8).blk t).view.emb (ix2 r d) 0).val = 768 * (t.val % 11) + r.val := by
    show win2_8.index t (0 : Fin 2) * 768 + 1 * r.val = _; omega
  have h1' : (((cfg2.win 8).blk t).view.emb (ix2 r d) 1).val = 128 * (t.val / 11) + d.val := by
    show win2_8.index t (1 : Fin 2) * 128 + 1 * d.val = _; omega
  refine ((dkv_at V c hq hk hw hd hl he t).2 r d).trans ?_
  rw [h0', h1']
  dsimp only
  rw [Nat.mod_eq_of_lt d.isLt]

theorem cover_dv (i : S8448x1024.Idx) : ∃ t : Fin cfg2.N, (cfg2.win 8).flush t = true ∧ i ∈ ((cfg2.win 8).blk t).view.set := by
  have h0 : (i 0).val < 8448 := (i 0).isLt
  have h1 : (i 1).val < 1024 := (i 1).isLt
  have hN : cfg2.N = 88 := N_2
  obtain ⟨t, hp⟩ : ∃ t : Fin cfg2.N, t.val = 11 * ((i 1).val / 128) + (i 0).val / 768 := ⟨⟨11 * ((i 1).val / 128) + (i 0).val / 768, by omega⟩, rfl⟩
  refine ⟨t, flush2_8 _, ?_⟩
  exact mem_at _ (ix2 ⟨(i 0).val % 768, Nat.mod_lt _ (by norm_num)⟩ ⟨(i 1).val % 128, Nat.mod_lt _ (by norm_num)⟩ : S768x128.Idx) ((put2 (a := i 0) (b := i 1) (idx8 t) 768 ((i 0).val % 768) 128 ((i 1).val % 128)).trans (eq_ix2 i).symm)

theorem arr_dv (c : Dev nD) (hq : Holds (a := 8192) (b := 1024) (V c main_v6) Q) (hk : Holds (a := 8448) (b := 1024) (V c main_v9) K)
    (hw : Holds (a := 8448) (b := 1024) (V c main_v12) W) (hd : Holds (a := 8192) (b := 1024) (V c main_v18_0) D)
    (hl : Holds (a := 8192) (b := 1024) (V c main_v13_1) L) (he : Holds (a := 8192) (b := 1024) (V c main_v18_1) E) :
    (dat2 V c).arrAt 8 cfg2.N = (fun i : S8448x1024.Idx => ((dvR Q K L D (i 0).val (i 1).val : ℝ) : EReal)) :=
  (dat2 V c).arrAt_eq_of_cover 8 _ (fun t _ => flushed_dv V c hq hk hw hd hl he t) cover_dv

end Cert.Proof.Bwd

end
-- ==== Proof.Delta.lean ====
/-
  The row sums between the two passes: the call's first result is the cotangent's attention lanes, the second the sum,
  over each head's lanes, of the cotangent times the output, in every lane of the head.
-/
module

public import proofs.«01_k».proof.Proof.FwdArr

@[expose] public section

set_option maxRecDepth 16384

noncomputable section

namespace Cert.Proof.Delta

open Idealize.ShloMosaic Idealize.ShloMosaic.TcCoe Idealize.SL.Sem
open Cert.KernelIdeal Cert.KernelIdeal.Gen Cert.Proof.Math Cert.Proof.Fwd
open Idealize.ShloMosaic.Pipeline
open scoped BigOperators

/-- The last 1024 of 1536 columns hold `D`. -/
def Tail (x : S8192x1536.Idx → EReal) (D : ℕ → ℕ → ℝ) : Prop :=
  ∀ (i : Fin 8192) (l : Fin 1024), x (ix2 i (⟨512 + l.val, by omega⟩ : Fin 1536)) = ((D i.val l.val : ℝ) : EReal)

/-- The row sum of head `l / 128`. -/
def dltR (D O : ℕ → ℕ → ℝ) (i l : ℕ) : ℝ :=
  ∑ d ∈ Finset.range 128, D i (128 * (l / 128) + d) * O i (128 * (l / 128) + d)

theorem piece_0 {D O : ℕ → ℕ → ℝ} (x : Vec Ideal S256x1024 .f32) (y : Vec Ideal S256x1024 .bf16) (hx : Holds (a := 256) (b := 1024) x D)
    (hy : Holds (a := 256) (b := 1024) y O) (r : Fin 256) (l : Fin 128) :
    k1_pay4 x y (ix2 r l) = ((∑ d ∈ Finset.range 128, D r.val (128 * 0 + d) * O r.val (128 * 0 + d) : ℝ) : EReal) := by
  have e : k1_pay4 x y (ix2 r l) = ∑ d : Fin 128, x (ix2 r ⟨0 + d.val, by omega⟩) * y (ix2 r ⟨0 + d.val, by omega⟩) := by
    pointwise [k1_pay4, k1_pay3, k1_pay2]
  rw [e, ← Fin.sum_univ_eq_sum_range (fun d => D r.val (128 * 0 + d) * O r.val (128 * 0 + d)) 128, ← coe_dot]
  exact Finset.sum_congr rfl fun d _ => congrArg₂ _ (hx r _) (hy r _)

theorem piece_1 {D O : ℕ → ℕ → ℝ} (x : Vec Ideal S256x1024 .f32) (y : Vec Ideal S256x1024 .bf16) (hx : Holds (a := 256) (b := 1024) x D)
    (hy : Holds (a := 256) (b := 1024) y O) (r : Fin 256) (l : Fin 128) :
    k1_pay5 x y (ix2 r l) = ((∑ d ∈ Finset.range 128, D r.val (128 * 1 + d) * O r.val (128 * 1 + d) : ℝ) : EReal) := by
  have e : k1_pay5 x y (ix2 r l) = ∑ d : Fin 128, x (ix2 r ⟨128 + d.val, by omega⟩) * y (ix2 r ⟨128 + d.val, by omega⟩) := by
    pointwise [k1_pay5, k1_pay3, k1_pay2]
  rw [e, ← Fin.sum_univ_eq_sum_range (fun d => D r.val (128 * 1 + d) * O r.val (128 * 1 + d)) 128, ← coe_dot]
  exact Finset.sum_congr rfl fun d _ => congrArg₂ _ (hx r _) (hy r _)

theorem piece_2 {D O : ℕ → ℕ → ℝ} (x : Vec Ideal S256x1024 .f32) (y : Vec Ideal S256x1024 .bf16) (hx : Holds (a := 256) (b := 1024) x D)
    (hy : Holds (a := 256) (b := 1024) y O) (r : Fin 256) (l : Fin 128) :
    k1_pay6 x y (ix2 r l) = ((∑ d ∈ Finset.range 128, D r.val (128 * 2 + d) * O r.val (128 * 2 + d) : ℝ) : EReal) := by
  have e : k1_pay6 x y (ix2 r l) = ∑ d : Fin 128, x (ix2 r ⟨256 + d.val, by omega⟩) * y (ix2 r ⟨256 + d.val, by omega⟩) := by
    pointwise [k1_pay6, k1_pay3, k1_pay2]
  rw [e, ← Fin.sum_univ_eq_sum_range (fun d => D r.val (128 * 2 + d) * O r.val (128 * 2 + d)) 128, ← coe_dot]
  exact Finset.sum_congr rfl fun d _ => congrArg₂ _ (hx r _) (hy r _)

theorem piece_3 {D O : ℕ → ℕ → ℝ} (x : Vec Ideal S256x1024 .f32) (y : Vec Ideal S256x1024 .bf16) (hx : Holds (a := 256) (b := 1024) x D)
    (hy : Holds (a := 256) (b := 1024) y O) (r : Fin 256) (l : Fin 128) :
    k1_pay7 x y (ix2 r l) = ((∑ d ∈ Finset.range 128, D r.val (128 * 3 + d) * O r.val (128 * 3 + d) : ℝ) : EReal) := by
  have e : k1_pay7 x y (ix2 r l) = ∑ d : Fin 128, x (ix2 r ⟨384 + d.val, by omega⟩) * y (ix2 r ⟨384 + d.val, by omega⟩) := by
    pointwise [k1_pay7, k1_pay3, k1_pay2]
  rw [e, ← Fin.sum_univ_eq_sum_range (fun d => D r.val (128 * 3 + d) * O r.val (128 * 3 + d)) 128, ← coe_dot]
  exact Finset.sum_congr rfl fun d _ => congrArg₂ _ (hx r _) (hy r _)

theorem piece_4 {D O : ℕ → ℕ → ℝ} (x : Vec Ideal S256x1024 .f32) (y : Vec Ideal S256x1024 .bf16) (hx : Holds (a := 256) (b := 1024) x D)
    (hy : Holds (a := 256) (b := 1024) y O) (r : Fin 256) (l : Fin 128) :
    k1_pay8 x y (ix2 r l) = ((∑ d ∈ Finset.range 128, D r.val (128 * 4 + d) * O r.val (128 * 4 + d) : ℝ) : EReal) := by
  have e : k1_pay8 x y (ix2 r l) = ∑ d : Fin 128, x (ix2 r ⟨512 + d.val, by omega⟩) * y (ix2 r ⟨512 + d.val, by omega⟩) := by
    pointwise [k1_pay8, k1_pay3, k1_pay2]
  rw [e, ← Fin.sum_univ_eq_sum_range (fun d => D r.val (128 * 4 + d) * O r.val (128 * 4 + d)) 128, ← coe_dot]
  exact Finset.sum_congr rfl fun d _ => congrArg₂ _ (hx r _) (hy r _)

theorem piece_5 {D O : ℕ → ℕ → ℝ} (x : Vec Ideal S256x1024 .f32) (y : Vec Ideal S256x1024 .bf16) (hx : Holds (a := 256) (b := 1024) x D)
    (hy : Holds (a := 256) (b := 1024) y O) (r : Fin 256) (l : Fin 128) :
    k1_pay9 x y (ix2 r l) = ((∑ d ∈ Finset.range 128, D r.val (128 * 5 + d) * O r.val (128 * 5 + d) : ℝ) : EReal) := by
  have e : k1_pay9 x y (ix2 r l) = ∑ d : Fin 128, x (ix2 r ⟨640 + d.val, by omega⟩) * y (ix2 r ⟨640 + d.val, by omega⟩) := by
    pointwise [k1_pay9, k1_pay3, k1_pay2]
  rw [e, ← Fin.sum_univ_eq_sum_range (fun d => D r.val (128 * 5 + d) * O r.val (128 * 5 + d)) 128, ← coe_dot]
  exact Finset.sum_congr rfl fun d _ => congrArg₂ _ (hx r _) (hy r _)

theorem piece_6 {D O : ℕ → ℕ → ℝ} (x : Vec Ideal S256x1024 .f32) (y : Vec Ideal S256x1024 .bf16) (hx : Holds (a := 256) (b := 1024) x D)
    (hy : Holds (a := 256) (b := 1024) y O) (r : Fin 256) (l : Fin 128) :
    k1_pay10 x y (ix2 r l) = ((∑ d ∈ Finset.range 128, D r.val (128 * 6 + d) * O r.val (128 * 6 + d) : ℝ) : EReal) := by
  have e : k1_pay10 x y (ix2 r l) = ∑ d : Fin 128, x (ix2 r ⟨768 + d.val, by omega⟩) * y (ix2 r ⟨768 + d.val, by omega⟩) := by
    pointwise [k1_pay10, k1_pay3, k1_pay2]
  rw [e, ← Fin.sum_univ_eq_sum_range (fun d => D r.val (128 * 6 + d) * O r.val (128 * 6 + d)) 128, ← coe_dot]
  exact Finset.sum_congr rfl fun d _ => congrArg₂ _ (hx r _) (hy r _)

theorem piece_7 {D O : ℕ → ℕ → ℝ} (x : Vec Ideal S256x1024 .f32) (y : Vec Ideal S256x1024 .bf16) (hx : Holds (a := 256) (b := 1024) x D)
    (hy : Holds (a := 256) (b := 1024) y O) (r : Fin 256) (l : Fin 128) :
    k1_pay11 x y (ix2 r l) = ((∑ d ∈ Finset.range 128, D r.val (128 * 7 + d) * O r.val (128 * 7 + d) : ℝ) : EReal) := by
  have e : k1_pay11 x y (ix2 r l) = ∑ d : Fin 128, x (ix2 r ⟨896 + d.val, by omega⟩) * y (ix2 r ⟨896 + d.val, by omega⟩) := by
    pointwise [k1_pay11, k1_pay3, k1_pay2]
  rw [e, ← Fin.sum_univ_eq_sum_range (fun d => D r.val (128 * 7 + d) * O r.val (128 * 7 + d)) 128, ← coe_dot]
  exact Finset.sum_congr rfl fun d _ => congrArg₂ _ (hx r _) (hy r _)

theorem pay12_apply (x : Vec Ideal S256x1024 .f32) (r : Fin 256) (l : Fin 1024) : k1_pay12 x (ix2 r l) = x (ix2 r l) := by
  pointwise [k1_pay12, k1_pay2]

theorem sums_apply {D O : ℕ → ℕ → ℝ} (x : Vec Ideal S256x1024 .f32) (y : Vec Ideal S256x1024 .bf16)
    (hx : Holds (a := 256) (b := 1024) x D) (hy : Holds (a := 256) (b := 1024) y O) (r : Fin 256) (l : Fin 1024) :
    k1_pay1 (k1_pay4 x y) (k1_pay5 x y) (k1_pay6 x y) (k1_pay7 x y) (k1_pay8 x y) (k1_pay9 x y) (k1_pay10 x y) (k1_pay11 x y)
      (ix2 r l) = ((dltR D O r.val l.val : ℝ) : EReal) := by
  have hl := l.isLt
  generalize h4 : k1_pay4 x y = p4
  generalize h5 : k1_pay5 x y = p5
  generalize h6 : k1_pay6 x y = p6
  generalize h7 : k1_pay7 x y = p7
  generalize h8 : k1_pay8 x y = p8
  generalize h9 : k1_pay9 x y = p9
  generalize h10 : k1_pay10 x y = p10
  generalize h11 : k1_pay11 x y = p11
  unfold dltR
  pointwise [k1_pay1]
  by_cases c0 : l.val < 128
  · rw [dif_pos c0, ← h4, piece_0 x y hx hy, show l.val / 128 = 0 by omega]
  by_cases c1 : l.val - 128 < 128
  · rw [dif_neg c0, dif_pos c1, ← h5, piece_1 x y hx hy, show l.val / 128 = 1 by omega]
  by_cases c2 : l.val - 128 - 128 < 128
  · rw [dif_neg c0, dif_neg c1, dif_pos c2, ← h6, piece_2 x y hx hy, show l.val / 128 = 2 by omega]
  by_cases c3 : l.val - 128 - 128 - 128 < 128
  · rw [dif_neg c0, dif_neg c1, dif_neg c2, dif_pos c3, ← h7, piece_3 x y hx hy, show l.val / 128 = 3 by omega]
  by_cases c4 : l.val - 128 - 128 - 128 - 128 < 128
  · rw [dif_neg c0, dif_neg c1, dif_neg c2, dif_neg c3, dif_pos c4, ← h8, piece_4 x y hx hy, show l.val / 128 = 4 by omega]
  by_cases c5 : l.val - 128 - 128 - 128 - 128 - 128 < 128
  · rw [dif_neg c0, dif_neg c1, dif_neg c2, dif_neg c3, dif_neg c4, dif_pos c5, ← h9, piece_5 x y hx hy, show l.val / 128 = 5 by omega]
  by_cases c6 : l.val - 128 - 128 - 128 - 128 - 128 - 128 < 128
  · rw [dif_neg c0, dif_neg c1, dif_neg c2, dif_neg c3, dif_neg c4, dif_neg c5, dif_pos c6, ← h10, piece_6 x y hx hy, show l.val / 128 = 6 by omega]
  rw [dif_neg c0, dif_neg c1, dif_neg c2, dif_neg c3, dif_neg c4, dif_neg c5, dif_neg c6, ← h11, piece_7 x y hx hy, show l.val / 128 = 7 by omega]

section Arrays

variable (V : (c : Dev nD) → (b : Ref sig .tc) → Buf (Elt Ideal) ((c : Thread nD τ).loc b))
variable {D O : ℕ → ℕ → ℝ}

/-- Every window's block at a point is the point's tile of 256 rows. -/
theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 2) = t.val ∧ win1_3.index t (1 : Fin 2) = 0 :=
  (by decide +kernel : ∀ t : Fin grid1.N, _)

theorem lt32 (t : Fin cfg1.N) : t.val < 32 := by have := t.isLt; have h : cfg1.N = 32 := N_1; omega

/-- The lanes of the cotangent that a point reads, -/
theorem blk_d (c : Dev nD) (h : Tail (V c main_v17) D) (t : Fin cfg1.N) :
    Holds (a := 256) (b := 1024) (View.ld (Val := Elt Ideal) (iblk1 V c 0 t : Vec Ideal S256x1536 .f32) r1_0)
      fun r l => D (256 * t.val + r) l := by
  intro r l
  have ht := lt32 t
  rw [← h ⟨256 * t.val + r.val, by omega⟩ l]
  exact congrArg (V c main_v17) (put2 (idx0 t) 256 (0 + 1 * r.val) 1536 (512 + 1 * l.val))

/-- and of the output. -/
theorem blk_o (c : Dev nD) (h : Holds (a := 8192) (b := 1024) (V c main_v13_0) O) (t : Fin cfg1.N) :
    Holds (a := 256) (b := 1024) (View.ld (Val := Elt Ideal) (iblk1 V c 1 t : Vec Ideal S256x1024 .bf16) r1_1)
      fun r l => O (256 * t.val + r) l := by
  intro r l
  have ht := lt32 t
  rw [← h ⟨256 * t.val + r.val, by omega⟩ l]
  exact congrArg (V c main_v13_0) (put2 (idx1 t) 256 (0 + 1 * r.val) 1024 (0 + 1 * l.val))

theorem flushed_do (c : Dev nD) (hd : Tail (V c main_v17) D) (t : Fin cfg1.N) :
    (dat1 V c).flushed 2 t = ((cfg1.win 2).blk t).view.read (Elt Ideal)
      (fun i : S8192x1024.Idx => ((D (i 0).val (i 1).val : ℝ) : EReal)) := by
  have ht := lt32 t
  obtain ⟨e0, e1⟩ := idx2 t
  show (cfg1.win 2).cut (grid1.coords t) ((dat1 V c).after 2 t) = _
  rw [after1_2]; unfold out1_2; rw [View.canon_unit_zero hz]
  funext j
  obtain ⟨r, d, rfl⟩ : ∃ (r : Fin 256) (d : Fin 1024), j = ix2 r d := ⟨j 0, j 1, eq_ix2 j⟩
  show k1_pay12 (F := Ideal) _ (ix2 r d) = ((D (((cfg1.win 2).blk t).view.emb (ix2 r d) 0).val (((cfg1.win 2).blk t).view.emb (ix2 r d) 1).val : ℝ) : EReal)
  rw [pay12_apply]
  have h0 : (((cfg1.win 2).blk t).view.emb (ix2 r d) 0).val = 256 * t.val + r.val := by
    show win1_2.index t (0 : Fin 2) * 256 + 1 * r.val = _; omega
  have h1 : (((cfg1.win 2).blk t).view.emb (ix2 r d) 1).val = d.val := by
    show win1_2.index t (1 : Fin 2) * 1024 + 1 * d.val = _; omega
  rw [h0, h1]; exact blk_d V c hd t r d

theorem flushed_dl (c : Dev nD) (hd : Tail (V c main_v17) D)
    (ho : Holds (a := 8192) (b := 1024) (V c main_v13_0) O) (t : Fin cfg1.N) :
    (dat1 V c).flushed 3 t = ((cfg1.win 3).blk t).view.read (Elt Ideal)
      (fun i : S8192x1024.Idx => ((dltR D O (i 0).val (i 1).val : ℝ) : EReal)) := by
  have ht := lt32 t
  obtain ⟨e0, e1⟩ := idx3 t
  show (cfg1.win 3).cut (grid1.coords t) ((dat1 V c).after 3 t) = _
  rw [after1_3]; unfold out1_3; rw [View.canon_unit_zero hz]
  funext j
  obtain ⟨r, d, rfl⟩ : ∃ (r : Fin 256) (d : Fin 1024), j = ix2 r d := ⟨j 0, j 1, eq_ix2 j⟩
  show k1_pay1 (F := Ideal) _ _ _ _ _ _ _ _ (ix2 r d) = ((dltR D O (((cfg1.win 3).blk t).view.emb (ix2 r d) 0).val (((cfg1.win 3).blk t).view.emb (ix2 r d) 1).val : ℝ) : EReal)
  have h0 : (((cfg1.win 3).blk t).view.emb (ix2 r d) 0).val = 256 * t.val + r.val := by
    show win1_3.index t (0 : Fin 2) * 256 + 1 * r.val = _; omega
  have h1 : (((cfg1.win 3).blk t).view.emb (ix2 r d) 1).val = d.val := by
    show win1_3.index t (1 : Fin 2) * 1024 + 1 * d.val = _; omega
  rw [h0, h1]; exact sums_apply _ _ (blk_d V c hd t) (blk_o V c ho t) r d

def pt (i : S8192x1024.Idx) : Fin cfg1.N :=
  ⟨(i 0).val / 256, by
    have h : cfg1.N = 32 := N_1
    have h0 : (i 0).val < 8192 := (i 0).isLt
    omega⟩

theorem cover_do (i : S8192x1024.Idx) : ∃ t : Fin cfg1.N, (cfg1.win 2).flush t = true ∧ i ∈ ((cfg1.win 2).blk t).view.set := by
  refine ⟨pt i, flush1_2 _, ?_⟩
  have h0 : (i 0).val < 8192 := (i 0).isLt
  have hp : (pt i).val = (i 0).val / 256 := rfl
  exact mem_at _ (ix2 ⟨(i 0).val % 256, Nat.mod_lt _ (by norm_num)⟩ (i 1) : S256x1024.Idx) ((put2 (a := i 0) (b := i 1) (idx2 (pt i)) 256 ((i 0).val % 256) 1024 ((i 1).val)).trans (eq_ix2 i).symm)

theorem cover_dl (i : S8192x1024.Idx) : ∃ t : Fin cfg1.N, (cfg1.win 3).flush t = true ∧ i ∈ ((cfg1.win 3).blk t).view.set := by
  refine ⟨pt i, flush1_3 _, ?_⟩
  have h0 : (i 0).val < 8192 := (i 0).isLt
  have hp : (pt i).val = (i 0).val / 256 := rfl
  exact mem_at _ (ix2 ⟨(i 0).val % 256, Nat.mod_lt _ (by norm_num)⟩ (i 1) : S256x1024.Idx) ((put2 (a := i 0) (b := i 1) (idx3 (pt i)) 256 ((i 0).val % 256) 1024 ((i 1).val)).trans (eq_ix2 i).symm)

theorem arr_do (c : Dev nD) (hd : Tail (V c main_v17) D) :
    (dat1 V c).arrAt 2 cfg1.N = (fun i : S8192x1024.Idx => ((D (i 0).val (i 1).val : ℝ) : EReal)) :=
  (dat1 V c).arrAt_eq_of_cover 2 _ (fun t _ => flushed_do V c hd t) cover_do

theorem arr_dl (c : Dev nD) (hd : Tail (V c main_v17) D)
    (ho : Holds (a := 8192) (b := 1024) (V c main_v13_0) O) :
    (dat1 V c).arrAt 3 cfg1.N = (fun i : S8192x1024.Idx => ((dltR D O (i 0).val (i 1).val : ℝ) : EReal)) :=
  (dat1 V c).arrAt_eq_of_cover 3 _ (fun t _ => flushed_dl V c hd ho t) cover_dl

end Arrays

end Cert.Proof.Delta

end
-- ==== Proof.Host.lean ====
/- What the host operations before and between the kernel calls hand them, and what the ones after make of their
   results: every argument's heads spread over 128 lanes each, the query multiplied by the softmax scale over log 2. -/
module

public import proofs.«01_k».proof.Proof.BwdArr
public import proofs.«01_k».proof.Proof.Delta

@[expose] public section

set_option maxRecDepth 16384

noncomputable section

namespace Cert.Proof.Host

open Idealize.ShloMosaic Idealize.ShloMosaic.TcCoe Idealize.SL.Sem
open Cert.KernelIdeal Cert.KernelIdeal.Gen Cert.Proof.Math Cert.Proof.Fwd
open Idealize.ShloMosaic.Pipeline Cert.Proof
open scoped BigOperators

/-- The array holds the real numbers `X`. -/
def Holds3 {a b c : ℕ} (x : (⟨3, ![a, b, c]⟩ : Shape).Idx → EReal) (X : ℕ → ℕ → ℕ → ℝ) : Prop :=
  ∀ (i : Fin a) (j : Fin b) (k : Fin c), x (ix3 i j k) = ((X i.val j.val k.val : ℝ) : EReal)

/-- Each head's `n` numbers in the first of its 128 lanes, zeros in the others. -/
def spread (n : ℕ) (X : ℕ → ℕ → ℕ → ℝ) (i l : ℕ) : ℝ := if l % 128 < n then X i (l / 128) (l % 128) else 0

/-- The softmax scale, as the programs round it. -/
def sm : ℝ := 13698540 / 134217728

theorem sm_word : Ideal.ofBits .f32 0x3DD105EC#32 = ((sm : ℝ) : EReal) := by
  simp [Ideal.ofBits, Ideal.ieee, -EReal.coe_mul, sm]
  norm_num

theorem two_word : Ideal.ofBits .f32 0x40000000#32 = ((2 : ℝ) : EReal) := by
  simp [Ideal.ofBits, Ideal.ieee, -EReal.coe_mul]
  norm_num

theorem int_zero : (FloatOps.sitofp (F := Ideal) .f32 0#32 : EReal) = ((0 : ℝ) : EReal) := by
  simp [FloatOps.sitofp]

/-- The scale the query is multiplied by: the softmax scale over log 2. -/
theorem scale_at (i : S_.Idx) :
    (Host.divf (constant S_ .f32 0x3DD105EC#32) (Host.log (constant S_ .f32 0x40000000#32)) : FVec Ideal S_ .f32) i
      = ((sm / Real.log 2 : ℝ) : EReal) := by
  show Ideal.div (Ideal.ofBits .f32 0x3DD105EC#32) (Ideal.log (Ideal.ofBits .f32 0x40000000#32)) = _
  rw [sm_word, two_word, Ideal.log_coe, if_neg (by norm_num), div_coe _ _ log2_pos]

/-- A query-shaped argument, its heads spread. -/
theorem lanes_q {X : ℕ → ℕ → ℕ → ℝ} (x : Vec Ideal S8192x8x96 .f32) (hx : Holds3 (a := 8192) (b := 8) (c := 96) x X) (i : Fin 8192) (l : Fin 1024) :
    shapeCast S8192x1024 (pad S8192x8x128 ![0, 0, 0] ![0, 0, 32] ![0, 0, 0] x (sitofp (F := Ideal) .f32 (constantI S_ 32 0#32)) pads_S8192x8x96_S8192x8x128_000_000_0320 h_S_) shapeCasts_S8192x8x128_S8192x1024 (ix2 i l) = ((spread 96 X i.val l.val : ℝ) : EReal) := by
  pointwise []
  rw [int_zero]
  have hl : l.val / 128 < 8 := by omega
  unfold spread
  split_ifs with h1 h2 h2
  · exact hx _ _ _
  · exact absurd h1.2 h2
  · exact absurd ⟨hl, h2⟩ h1
  · rfl

/-- A key-shaped argument, its heads spread. -/
theorem lanes_k {X : ℕ → ℕ → ℕ → ℝ} (x : Vec Ideal S8448x8x96 .f32) (hx : Holds3 (a := 8448) (b := 8) (c := 96) x X) (i : Fin 8448) (l : Fin 1024) :
    shapeCast S8448x1024 (pad S8448x8x128 ![0, 0, 0] ![0, 0, 32] ![0, 0, 0] x (sitofp (F := Ideal) .f32 (constantI S_ 32 0#32)) pads_S8448x8x96_S8448x8x128_000_000_0320 h_S_) shapeCasts_S8448x8x128_S8448x1024 (ix2 i l) = ((spread 96 X i.val l.val : ℝ) : EReal) := by
  pointwise []
  rw [int_zero]
  have hl : l.val / 128 < 8 := by omega
  unfold spread
  split_ifs with h1 h2 h2
  · exact hx _ _ _
  · exact absurd h1.2 h2
  · exact absurd ⟨hl, h2⟩ h1
  · rfl

/-- A value-shaped argument, its heads spread. -/
theorem lanes_v {X : ℕ → ℕ → ℕ → ℝ} (x : Vec Ideal S8448x8x64 .f32) (hx : Holds3 (a := 8448) (b := 8) (c := 64) x X) (i : Fin 8448) (l : Fin 1024) :
    shapeCast S8448x1024 (pad S8448x8x128 ![0, 0, 0] ![0, 0, 64] ![0, 0, 0] x (sitofp (F := Ideal) .f32 (constantI S_ 32 0#32)) pads_S8448x8x64_S8448x8x128_000_000_0640 h_S_) shapeCasts_S8448x8x128_S8448x1024 (ix2 i l) = ((spread 64 X i.val l.val : ℝ) : EReal) := by
  pointwise []
  rw [int_zero]
  have hl : l.val / 128 < 8 := by omega
  unfold spread
  split_ifs with h1 h2 h2
  · exact hx _ _ _
  · exact absurd h1.2 h2
  · exact absurd ⟨hl, h2⟩ h1
  · rfl

/-- A cotangent-shaped argument, its heads spread. -/
theorem lanes_ct {X : ℕ → ℕ → ℕ → ℝ} (x : Vec Ideal S8192x8x64 .f32) (hx : Holds3 (a := 8192) (b := 8) (c := 64) x X) (i : Fin 8192) (l : Fin 1024) :
    shapeCast S8192x1024 (pad S8192x8x128 ![0, 0, 0] ![0, 0, 64] ![0, 0, 0] x (sitofp (F := Ideal) .f32 (constantI S_ 32 0#32)) pads_S8192x8x64_S8192x8x128_000_000_0640 h_S_) shapeCasts_S8192x8x128_S8192x1024 (ix2 i l) = ((spread 64 X i.val l.val : ℝ) : EReal) := by
  pointwise []
  rw [int_zero]
  have hl : l.val / 128 < 8 := by omega
  unfold spread
  split_ifs with h1 h2 h2
  · exact hx _ _ _
  · exact absurd h1.2 h2
  · exact absurd ⟨hl, h2⟩ h1
  · rfl

variable (m : (ℓ : Loc nD τ sig) → Buf (Elt Ideal) ℓ) (ρ : Dev nD → PrngReg)

/-- What the query operand holds when the first call starts. -/
theorem w7_v6 (c : Dev nD) : W7 m ρ c (Proc.devRef .tc main_v6)
    = (truncf .bf16 (mulf (shapeCast S8192x1024 (pad S8192x8x128 ![0, 0, 0] ![0, 0, 32] ![0, 0, 0] (m ((c.tc : Thread nD τ).loc main_arg0) : Vec Ideal S8192x8x96 .f32) (sitofp (F := Ideal) .f32 (constantI S_ 32 0#32)) pads_S8192x8x96_S8192x8x128_000_000_0320 h_S_) shapeCasts_S8192x8x128_S8192x1024)
        (broadcastInDim S8192x1024 ![] bcast_S_S8192x1024 (Host.divf (constant S_ .f32 0x3DD105EC#32) (Host.log (constant S_ .f32 0x40000000#32))))) bitsLt_bf16_f32 : FVec Ideal S8192x1024 .bf16) := by
  rw [W7_of m ρ c main_v6 (by decide), W6_of m ρ c main_v6 (by decide), W5_of m ρ c main_v6 (by decide), W4_of m ρ c main_v6 (by decide)]
  show StableHlo.after hostOps0_2 (W2 m ρ c) (Proc.devRef .tc main_v6) = _
  after_results_simp
  rfl

/-- What the key operand holds. -/
theorem w7_v9 (c : Dev nD) : W7 m ρ c (Proc.devRef .tc main_v9)
    = (truncf .bf16 (shapeCast S8448x1024 (pad S8448x8x128 ![0, 0, 0] ![0, 0, 32] ![0, 0, 0] (m ((c.tc : Thread nD τ).loc main_arg1) : Vec Ideal S8448x8x96 .f32) (sitofp (F := Ideal) .f32 (constantI S_ 32 0#32)) pads_S8448x8x96_S8448x8x128_000_000_0320 h_S_) shapeCasts_S8448x8x128_S8448x1024) bitsLt_bf16_f32 : FVec Ideal S8448x1024 .bf16) := by
  rw [W7_of m ρ c main_v9 (by decide), W6_of m ρ c main_v9 (by decide)]
  show StableHlo.after hostOps0_4 (W4 m ρ c) (Proc.devRef .tc main_v9) = _
  after_results_simp
  rfl

/-- What the value operand holds. -/
theorem w7_v12 (c : Dev nD) : W7 m ρ c (Proc.devRef .tc main_v12)
    = (truncf .bf16 (shapeCast S8448x1024 (pad S8448x8x128 ![0, 0, 0] ![0, 0, 64] ![0, 0, 0] (m ((c.tc : Thread nD τ).loc main_arg2) : Vec Ideal S8448x8x64 .f32) (sitofp (F := Ideal) .f32 (constantI S_ 32 0#32)) pads_S8448x8x64_S8448x8x128_000_000_0640 h_S_) shapeCasts_S8448x8x128_S8448x1024) bitsLt_bf16_f32 : FVec Ideal S8448x1024 .bf16) := by
  show StableHlo.after hostOps0_6 (W6 m ρ c) (Proc.devRef .tc main_v12) = _
  after_results_simp
  rfl

/-- The scale is still there when the last host operations start. -/
theorem w13_v1 (c : Dev nD) : W13 m ρ c (Proc.devRef .tc main_v1) = ((Host.divf (constant S_ .f32 0x3DD105EC#32) (Host.log (constant S_ .f32 0x40000000#32))) : FVec Ideal S_ .f32) := by
  rw [W13_of m ρ c main_v1 (by decide), W12_of m ρ c main_v1 (by decide), W11_of m ρ c main_v1 (by decide), W10_of m ρ c main_v1 (by decide),
    W9_of m ρ c main_v1 (by decide), W8_of m ρ c main_v1 (by decide), W7_of m ρ c main_v1 (by decide), W6_of m ρ c main_v1 (by decide),
    W5_of m ρ c main_v1 (by decide), W4_of m ρ c main_v1 (by decide), W3_of m ρ c main_v1 (by decide), W2_of m ρ c main_v1 (by decide)]
  show StableHlo.after hostOps0 (W0 m ρ c) (Proc.devRef .tc main_v1) = _
  after_results_simp <;> rfl

/-- The padded cotangent operand of the second call. -/
theorem w11_v17 (c : Dev nD) : W11 m ρ c (Proc.devRef .tc main_v17)
    = (concatenate S8192x1536 1 [⟨S8192x512, broadcastInDim S8192x512 ![] bcast_S_S8192x512 (constant S_ .f32 0x00000000#32)⟩,
        ⟨S8192x1024, shapeCast S8192x1024 (pad S8192x8x128 ![0, 0, 0] ![0, 0, 64] ![0, 0, 0] (W9 m ρ c (Proc.devRef .tc main_arg3) : Vec Ideal S8192x8x64 .f32) (sitofp (F := Ideal) .f32 (constantI S_ 32 0#32)) pads_S8192x8x64_S8192x8x128_000_000_0640 h_S_) shapeCasts_S8192x8x128_S8192x1024⟩] concatenates_S8192x512_S8192x1024_S8192x1536_d1 : FVec Ideal S8192x1536 .f32) := by
  show StableHlo.after hostOps1_2 (StableHlo.after hostOps1_1 (W9 m ρ c)) (Proc.devRef .tc main_v17) = _
  after_results_simp
  rfl

/-- The numbers the four arguments hold. -/
structure Args (c : Dev nD) (q k v ct : ℕ → ℕ → ℕ → ℝ) : Prop where
  hq : Holds3 (a := 8192) (b := 8) (c := 96) (m ((c.tc : Thread nD τ).loc main_arg0) : Vec Ideal S8192x8x96 .f32) q
  hk : Holds3 (a := 8448) (b := 8) (c := 96) (m ((c.tc : Thread nD τ).loc main_arg1) : Vec Ideal S8448x8x96 .f32) k
  hv : Holds3 (a := 8448) (b := 8) (c := 64) (m ((c.tc : Thread nD τ).loc main_arg2) : Vec Ideal S8448x8x64 .f32) v
  hct : Holds3 (a := 8192) (b := 8) (c := 64) (m ((c.tc : Thread nD τ).loc main_arg3) : Vec Ideal S8192x8x64 .f32) ct

/-- The query rows the kernels read. -/
def qR (q : ℕ → ℕ → ℕ → ℝ) (i l : ℕ) : ℝ := spread 96 q i l * (sm / Real.log 2)

variable {m} {c : Dev nD} {q k v ct : ℕ → ℕ → ℕ → ℝ}

theorem at_v6 (h : Args m c q k v ct) : Holds (a := 8192) (b := 1024) (V7 m ρ c main_v6 : Vec Ideal S8192x1024 .bf16) (qR q) := by
  intro i l
  show (W7 m ρ c (Proc.devRef .tc main_v6) : Vec Ideal S8192x1024 .bf16) (ix2 i l) = _
  rw [w7_v6]
  refine (congrArg₂ (· * ·) (lanes_q _ h.hq i l) ((broadcastInDim_apply _ _ _ _ (fun a => a.elim0) (fun a => a.elim0)).trans (scale_at _))).trans ?_
  exact (EReal.coe_mul _ _).symm

theorem at_v9 (h : Args m c q k v ct) : Holds (a := 8448) (b := 1024) (V7 m ρ c main_v9 : Vec Ideal S8448x1024 .bf16) (spread 96 k) := by
  intro i l
  show (W7 m ρ c (Proc.devRef .tc main_v9) : Vec Ideal S8448x1024 .bf16) (ix2 i l) = _
  rw [w7_v9]
  exact lanes_k _ h.hk i l

theorem at_v12 (h : Args m c q k v ct) : Holds (a := 8448) (b := 1024) (V7 m ρ c main_v12 : Vec Ideal S8448x1024 .bf16) (spread 64 v) := by
  intro i l
  show (W7 m ρ c (Proc.devRef .tc main_v12) : Vec Ideal S8448x1024 .bf16) (ix2 i l) = _
  rw [w7_v12]
  exact lanes_v _ h.hv i l

/-- The attention's output after the first call. -/
theorem w8_o (h : Args m c q k v ct) : W8 m ρ c (Proc.devRef .tc main_v13_0)
    = fun i : S8192x1024.Idx => ((outR (qR q) (spread 96 k) (spread 64 v) (i 0).val (i 1).val : ℝ) : EReal) :=
  (W8_arr m ρ c 3).trans (arr_o (V7 m ρ) c (at_v6 ρ h) (at_v9 ρ h) (at_v12 ρ h))

/-- The logarithms of the denominators. -/
theorem w8_lse (h : Args m c q k v ct) : W8 m ρ c (Proc.devRef .tc main_v13_1)
    = fun i : S8192x1024.Idx => ((lseR (qR q) (spread 96 k) (i 0).val (i 1).val : ℝ) : EReal) :=
  (W8_arr m ρ c 4).trans (arr_lse (V7 m ρ) c (at_v6 ρ h) (at_v9 ρ h) (at_v12 ρ h))

theorem at_v17 (h : Args m c q k v ct) : Delta.Tail (V11 m ρ c main_v17 : Vec Ideal S8192x1536 .f32) (spread 64 ct) := by
  intro i l
  show (W11 m ρ c (Proc.devRef .tc main_v17) : Vec Ideal S8192x1536 .f32) _ = _
  rw [w11_v17, W9_args m ρ c main_arg3 (by decide)]
  refine (concatenate_pair_apply_right (t := S8192x1536) (s₁ := S8192x512) (s₂ := S8192x1024) (1 : Fin 2) _ _ _ _ rfl rfl (ix2 i l) ?_ ?_).trans (lanes_ct _ h.hct i l)
  · intro b hb
    match b with
    | 0 => rfl
    | 1 => exact absurd rfl hb
  · exact Nat.add_comm _ _

theorem at_v13_0 (h : Args m c q k v ct) : Holds (a := 8192) (b := 1024) (V11 m ρ c main_v13_0 : Vec Ideal S8192x1024 .bf16)
    (outR (qR q) (spread 96 k) (spread 64 v)) := by
  intro i l
  show (W11 m ρ c (Proc.devRef .tc main_v13_0) : Vec Ideal S8192x1024 .bf16) (ix2 i l) = _
  rw [W11_of m ρ c main_v13_0 (by decide), W10_of m ρ c main_v13_0 (by decide), W9_of m ρ c main_v13_0 (by decide), w8_o ρ h]
  rfl

/-- The cotangent's lanes after the second call. -/
theorem w12_do (h : Args m c q k v ct) : W12 m ρ c (Proc.devRef .tc main_v18_0)
    = fun i : S8192x1024.Idx => ((spread 64 ct (i 0).val (i 1).val : ℝ) : EReal) :=
  (W12_arr m ρ c 2).trans (Delta.arr_do (V11 m ρ) c (at_v17 ρ h))

/-- The row sums of the cotangent times the output. -/
def dltK (q k v ct : ℕ → ℕ → ℕ → ℝ) : ℕ → ℕ → ℝ := Delta.dltR (spread 64 ct) (outR (qR q) (spread 96 k) (spread 64 v))

theorem w12_dl (h : Args m c q k v ct) : W12 m ρ c (Proc.devRef .tc main_v18_1)
    = fun i : S8192x1024.Idx => ((dltK q k v ct (i 0).val (i 1).val : ℝ) : EReal) :=
  (W12_arr m ρ c 3).trans (Delta.arr_dl (V11 m ρ) c (at_v17 ρ h) (at_v13_0 ρ h))

/-- A buffer neither the second call nor the operations before it write is as the first call left it. -/
theorem w12_of_w8 (r : Ref sig .tc) (h1 : ∀ w : Fin cfg1.W, Pipeline.arrRef spec1 w = r → (cfg1.win w).isOut = false)
    (h2 : r ∉ hostOps1_2_W) (h3 : r ∉ hostOps1_1_W) (h4 : r ∉ hostOps1_W) :
    W12 m ρ c (Proc.devRef .tc r) = W8 m ρ c (Proc.devRef .tc r) := by
  rw [W12_of m ρ c r h1, W11_of m ρ c r h2, W10_of m ρ c r h3, W9_of m ρ c r h4]

theorem at12_v6 (h : Args m c q k v ct) : Holds (a := 8192) (b := 1024) (V12 m ρ c main_v6 : Vec Ideal S8192x1024 .bf16) (qR q) := by
  intro i l
  show (W12 m ρ c (Proc.devRef .tc main_v6) : Vec Ideal S8192x1024 .bf16) (ix2 i l) = _
  rw [w12_of_w8 ρ main_v6 (by decide) (by decide) (by decide) (by decide), W8_of m ρ c main_v6 (by decide)]
  exact at_v6 ρ h i l

theorem at12_v9 (h : Args m c q k v ct) : Holds (a := 8448) (b := 1024) (V12 m ρ c main_v9 : Vec Ideal S8448x1024 .bf16) (spread 96 k) := by
  intro i l
  show (W12 m ρ c (Proc.devRef .tc main_v9) : Vec Ideal S8448x1024 .bf16) (ix2 i l) = _
  rw [w12_of_w8 ρ main_v9 (by decide) (by decide) (by decide) (by decide), W8_of m ρ c main_v9 (by decide)]
  exact at_v9 ρ h i l

theorem at12_v12 (h : Args m c q k v ct) : Holds (a := 8448) (b := 1024) (V12 m ρ c main_v12 : Vec Ideal S8448x1024 .bf16) (spread 64 v) := by
  intro i l
  show (W12 m ρ c (Proc.devRef .tc main_v12) : Vec Ideal S8448x1024 .bf16) (ix2 i l) = _
  rw [w12_of_w8 ρ main_v12 (by decide) (by decide) (by decide) (by decide), W8_of m ρ c main_v12 (by decide)]
  exact at_v12 ρ h i l

theorem at12_do (h : Args m c q k v ct) : Holds (a := 8192) (b := 1024) (V12 m ρ c main_v18_0 : Vec Ideal S8192x1024 .bf16) (spread 64 ct) := by
  intro i l
  show (W12 m ρ c (Proc.devRef .tc main_v18_0) : Vec Ideal S8192x1024 .bf16) (ix2 i l) = _
  rw [w12_do ρ h]
  rfl

theorem at12_lse (h : Args m c q k v ct) : Holds (a := 8192) (b := 1024) (V12 m ρ c main_v13_1 : Vec Ideal S8192x1024 .f32) (lseR (qR q) (spread 96 k)) := by
  intro i l
  show (W12 m ρ c (Proc.devRef .tc main_v13_1) : Vec Ideal S8192x1024 .f32) (ix2 i l) = _
  rw [w12_of_w8 ρ main_v13_1 (by decide) (by decide) (by decide) (by decide), w8_lse ρ h]
  rfl

theorem at12_dl (h : Args m c q k v ct) : Holds (a := 8192) (b := 1024) (V12 m ρ c main_v18_1 : Vec Ideal S8192x1024 .f32) (dltK q k v ct) := by
  intro i l
  show (W12 m ρ c (Proc.devRef .tc main_v18_1) : Vec Ideal S8192x1024 .f32) (ix2 i l) = _
  rw [w12_dl ρ h]
  rfl

/-- The gradients, as the third call leaves them. -/
def dqK (q k v ct : ℕ → ℕ → ℕ → ℝ) : ℕ → ℕ → ℝ :=
  Bwd.dqR (qR q) (spread 96 k) (lseR (qR q) (spread 96 k)) (spread 64 ct) (spread 64 v) (dltK q k v ct)

def dkK (q k v ct : ℕ → ℕ → ℕ → ℝ) : ℕ → ℕ → ℝ :=
  Bwd.dkR (qR q) (spread 96 k) (lseR (qR q) (spread 96 k)) (spread 64 ct) (spread 64 v) (dltK q k v ct)

def dvK (q k ct : ℕ → ℕ → ℕ → ℝ) : ℕ → ℕ → ℝ :=
  Bwd.dvR (qR q) (spread 96 k) (lseR (qR q) (spread 96 k)) (spread 64 ct)

theorem w13_dq (h : Args m c q k v ct) : W13 m ρ c (Proc.devRef .tc main_v19_0)
    = fun i : S8192x1024.Idx => ((dqK q k v ct (i 0).val (i 1).val : ℝ) : EReal) :=
  (W13_arr m ρ c 6).trans (Bwd.arr_dq (V12 m ρ) c (at12_v6 ρ h) (at12_v9 ρ h) (at12_v12 ρ h) (at12_do ρ h) (at12_lse ρ h) (at12_dl ρ h))

theorem w13_dk (h : Args m c q k v ct) : W13 m ρ c (Proc.devRef .tc main_v19_1)
    = fun i : S8448x1024.Idx => ((dkK q k v ct (i 0).val (i 1).val : ℝ) : EReal) :=
  (W13_arr m ρ c 7).trans (Bwd.arr_dk (V12 m ρ) c (at12_v6 ρ h) (at12_v9 ρ h) (at12_v12 ρ h) (at12_do ρ h) (at12_lse ρ h) (at12_dl ρ h))

theorem w13_dv (h : Args m c q k v ct) : W13 m ρ c (Proc.devRef .tc main_v19_2)
    = fun i : S8448x1024.Idx => ((dvK q k ct (i 0).val (i 1).val : ℝ) : EReal) :=
  (W13_arr m ρ c 8).trans (Bwd.arr_dv (V12 m ρ) c (at12_v6 ρ h) (at12_v9 ρ h) (at12_v12 ρ h) (at12_do ρ h) (at12_lse ρ h) (at12_dl ρ h))

/-- The first result: the attention's output, head by head. -/
theorem w14_o (h : Args m c q k v ct) (i : Fin 8192) (n : Fin 8) (x : Fin 64) :
    (W14 m ρ c (Proc.devRef .tc main_v22) : Vec Ideal S8192x8x64 .f32) (ix3 i n x)
      = ((outR (qR q) (spread 96 k) (spread 64 v) i.val (128 * n.val + x.val) : ℝ) : EReal) := by
  have e : W14 m ρ c (Proc.devRef .tc main_v22) = (extractStridedSlice S8192x8x64 ![0, 0, 0] (shapeCast S8192x8x128
      (extf .f32 (W13 m ρ c (Proc.devRef .tc main_v13_0) : Vec Ideal S8192x1024 .bf16) bitsLt_bf16_f32 : FVec Ideal S8192x1024 .f32) shapeCasts_S8192x1024_S8192x8x128)
      slices_S8192x8x128_S8192x8x64_0_0_0 : FVec Ideal S8192x8x64 .f32) := by
    show StableHlo.after hostOps3 (W13 m ρ c) (Proc.devRef .tc main_v22) = _
    after_results_simp <;> rfl
  rw [e, W13_of m ρ c main_v13_0 (by decide), w12_of_w8 ρ main_v13_0 (by decide) (by decide) (by decide) (by decide), w8_o ρ h]
  pointwise []
  rw [Nat.mul_comm n.val 128]

/-- The gradient with respect to the query. -/
theorem w14_dq (h : Args m c q k v ct) (i : Fin 8192) (n : Fin 8) (x : Fin 96) :
    (W14 m ρ c (Proc.devRef .tc main_v26) : Vec Ideal S8192x8x96 .f32) (ix3 i n x)
      = ((dqK q k v ct i.val (128 * n.val + x.val) * (sm / Real.log 2) : ℝ) : EReal) := by
  have e : W14 m ρ c (Proc.devRef .tc main_v26) = (extractStridedSlice S8192x8x96 ![0, 0, 0] (shapeCast S8192x8x128
      (mulf (W13 m ρ c (Proc.devRef .tc main_v19_0) : Vec Ideal S8192x1024 .f32) (broadcastInDim S8192x1024 ![] bcast_S_S8192x1024 (W13 m ρ c (Proc.devRef .tc main_v1) : FVec Ideal S_ .f32)) : FVec Ideal S8192x1024 .f32) shapeCasts_S8192x1024_S8192x8x128)
      slices_S8192x8x128_S8192x8x96_0_0_0 : FVec Ideal S8192x8x96 .f32) := by
    show StableHlo.after hostOps3 (W13 m ρ c) (Proc.devRef .tc main_v26) = _
    after_results_simp <;> rfl
  rw [e, w13_dq ρ h, w13_v1]
  generalize hs : (Host.divf (constant S_ .f32 0x3DD105EC#32) (Host.log (constant S_ .f32 0x40000000#32)) : FVec Ideal S_ .f32) = s
  pointwise []
  rw [← hs, scale_at, Nat.mul_comm n.val 128, ← EReal.coe_mul]

/-- The gradient with respect to the key. -/
theorem w14_dk (h : Args m c q k v ct) (i : Fin 8448) (n : Fin 8) (x : Fin 96) :
    (W14 m ρ c (Proc.devRef .tc main_v28) : Vec Ideal S8448x8x96 .f32) (ix3 i n x)
      = ((dkK q k v ct i.val (128 * n.val + x.val) : ℝ) : EReal) := by
  have e : W14 m ρ c (Proc.devRef .tc main_v28) = (extractStridedSlice S8448x8x96 ![0, 0, 0] (shapeCast S8448x8x128
      (W13 m ρ c (Proc.devRef .tc main_v19_1) : Vec Ideal S8448x1024 .f32) shapeCasts_S8448x1024_S8448x8x128)
      slices_S8448x8x128_S8448x8x96_0_0_0 : FVec Ideal S8448x8x96 .f32) := by
    show StableHlo.after hostOps3 (W13 m ρ c) (Proc.devRef .tc main_v28) = _
    after_results_simp <;> rfl
  rw [e, w13_dk ρ h]
  pointwise []
  rw [Nat.mul_comm n.val 128]

/-- The gradient with respect to the value. -/
theorem w14_dv (h : Args m c q k v ct) (i : Fin 8448) (n : Fin 8) (x : Fin 64) :
    (W14 m ρ c (Proc.devRef .tc main_v30) : Vec Ideal S8448x8x64 .f32) (ix3 i n x)
      = ((dvK q k ct i.val (128 * n.val + x.val) : ℝ) : EReal) := by
  have e : W14 m ρ c (Proc.devRef .tc main_v30) = (extractStridedSlice S8448x8x64 ![0, 0, 0] (shapeCast S8448x8x128
      (W13 m ρ c (Proc.devRef .tc main_v19_2) : Vec Ideal S8448x1024 .f32) shapeCasts_S8448x1024_S8448x8x128)
      slices_S8448x8x128_S8448x8x64_0_0_0 : FVec Ideal S8448x8x64 .f32) := by
    show StableHlo.after hostOps3 (W13 m ρ c) (Proc.devRef .tc main_v30) = _
    after_results_simp <;> rfl
  rw [e, w13_dv ρ h]
  pointwise []
  rw [Nat.mul_comm n.val 128]

end Cert.Proof.Host

end
-- ==== Proof.RefValue.lean ====
/- What the reference computes when its arguments are real numbers: each of its operations, read one at a time, is the
   real operation on real numbers. `μ` is each row's maximum, which the softmax subtracts. -/
module

public import proofs.«01_k».proof.Proof.Host
public import proofs.«01_k».proof.Proof.Gen.ReferenceIdeal.Read

@[expose] public section

set_option maxRecDepth 16384

noncomputable section

namespace Cert.Proof.RefValue

open Idealize.ShloMosaic Idealize.ShloMosaic.TcCoe Idealize.SL.Sem
open Cert.ReferenceIdeal Cert.ReferenceIdeal.Gen Cert.ReferenceIdeal.Read Cert.Proof.Math
open scoped BigOperators

/-- The array holds the real numbers `X`. -/
def R3 {a b c : ℕ} (x : (⟨3, ![a, b, c]⟩ : Shape).Idx → EReal) (X : ℕ → ℕ → ℕ → ℝ) : Prop :=
  ∀ j, x j = ((X (j 0).val (j 1).val (j 2).val : ℝ) : EReal)

def R2 {a b : ℕ} (x : (⟨2, ![a, b]⟩ : Shape).Idx → EReal) (X : ℕ → ℕ → ℝ) : Prop :=
  ∀ j, x j = ((X (j 0).val (j 1).val : ℝ) : EReal)

/-- The scores of head `h`. -/
def sR (q k : ℕ → ℕ → ℕ → ℝ) (h i j : ℕ) : ℝ := (∑ d ∈ Finset.range 96, q i h d * k j h d) * Host.sm
/-- Their exponentials, shifted by the row's `μ`. -/
def eR (q k : ℕ → ℕ → ℕ → ℝ) (μ : ℕ → ℕ → ℝ) (h i j : ℕ) : ℝ := Real.exp (sR q k h i j - μ h i)
def nR (q k : ℕ → ℕ → ℕ → ℝ) (μ : ℕ → ℕ → ℝ) (h i : ℕ) : ℝ := ∑ j ∈ Finset.range 8448, eR q k μ h i j
/-- The gradient with respect to the softmax. -/
def dpR (v ct : ℕ → ℕ → ℕ → ℝ) (h i j : ℕ) : ℝ := ∑ x ∈ Finset.range 64, ct i h x * v j h x
/-- The gradient with respect to the scores before scaling, times the scale. -/
def gR (q k v ct : ℕ → ℕ → ℕ → ℝ) (μ : ℕ → ℕ → ℝ) (h i j : ℕ) : ℝ :=
  (dpR v ct h i j / nR q k μ h i
    + -(∑ t ∈ Finset.range 8448, dpR v ct h i t * (1 / (nR q k μ h i * nR q k μ h i)) * eR q k μ h i t)) * eR q k μ h i j * Host.sm

theorem nR_pos (q k : ℕ → ℕ → ℕ → ℝ) (μ : ℕ → ℕ → ℝ) (h i : ℕ) : 0 < nR q k μ h i :=
  Finset.sum_pos (fun _ _ => Real.exp_pos _) ⟨0, Finset.mem_range.2 (by norm_num)⟩

theorem one_word : Ideal.ofBits .f32 0x3F800000#32 = ((1 : ℝ) : EReal) := by
  simp [Ideal.ofBits, Ideal.ieee, -EReal.coe_mul]
  norm_num

theorem bot_word : Ideal.ofBits .f32 0xFF800000#32 = (⊥ : EReal) := by
  simp [Ideal.ofBits, Ideal.ieee]

theorem zero_word : Ideal.ofBits .f32 0x00000000#32 = ((0 : ℝ) : EReal) := by
  simp [Ideal.ofBits, Ideal.ieee]

variable {x0 : (⟨S8192x8x96, .f32⟩ : BufTy).Contents (Elt Ideal)} {x1 : (⟨S8448x8x96, .f32⟩ : BufTy).Contents (Elt Ideal)}
  {x2 : (⟨S8448x8x64, .f32⟩ : BufTy).Contents (Elt Ideal)} {x3 : (⟨S8192x8x64, .f32⟩ : BufTy).Contents (Elt Ideal)}
  {q k v ct : ℕ → ℕ → ℕ → ℝ} {μ : ℕ → ℕ → ℝ}

theorem v2 (h0 : R3 (a := 8192) (b := 8) (c := 96) x0 q) (h1 : R3 (a := 8448) (b := 8) (c := 96) x1 k) :
    R3 (a := 8) (b := 8192) (c := 8448) (val_main_v2 (F := Ideal) x0 x1) (sR q k) := by
  intro j
  rw [val_main_v2_apply, val_main_v0_apply, val_main_v1_apply, val_main_cst_apply]
  show (_ : EReal) * Ideal.ofBits .f32 0x3DD105EC#32 = _
  unfold sR
  rw [Host.sm_word, EReal.coe_mul, ← Fin.sum_univ_eq_sum_range (fun d => q (j 1).val (j 0).val d * k (j 2).val (j 0).val d) 96, ← coe_dot]
  exact congrArg (· * _) (Finset.sum_congr rfl fun d _ => congrArg₂ _ (h0 _) (h1 _))

/-- Every row's maximum is a real number. -/
theorem max_real (h0 : R3 (a := 8192) (b := 8) (c := 96) x0 q) (h1 : R3 (a := 8448) (b := 8) (c := 96) x1 k) :
    ∃ μ : ℕ → ℕ → ℝ, R2 (a := 8) (b := 8192) (val_main_v10 (F := Ideal) x0 x1) μ := by
  have e : ∀ j, ∃ r : ℝ, val_main_v10 (F := Ideal) x0 x1 j = (r : EReal) := by
    intro j
    obtain ⟨a, b, rfl⟩ : ∃ (a : Fin 8) (b : Fin 8192), j = ix2 a b := ⟨j 0, j 1, eq_ix2 j⟩
    have e3 : val_main_v3 (F := Ideal) x0 x1 (ix2 a b) = Finset.univ.fold max (⊥ : EReal) (fun t : Fin 8448 => ((sR q k a.val b.val t.val : ℝ) : EReal)) := by
      unfold val_main_v3
      have h2 := v2 h0 h1
      generalize val_main_v2 (F := Ideal) x0 x1 = y at h2 ⊢
      pointwise [val_main_cst_0]
      rw [bot_word]
      exact congrArg (fun f => Finset.fold max (⊥ : EReal) f Finset.univ) (funext fun t => h2 (ix3 a b t))
    obtain ⟨r, hr⟩ := fold_max_coe (Finset.univ : Finset (Fin 8448)) ⟨0, Finset.mem_univ _⟩ (fun t => sR q k a.val b.val t.val)
    refine ⟨r, ?_⟩
    rw [val_main_v10_apply, val_main_v9_apply, val_main_cst_2_apply, e3, hr]
    show max (Ideal.ofBits .f32 0xFF800000#32) (r : EReal) = _
    rw [bot_word]; exact max_bot_left _
  choose f hf using e
  refine ⟨fun a b => if h : a < 8 ∧ b < 8192 then f (ix2 ⟨a, h.1⟩ ⟨b, h.2⟩) else 0, fun j => ?_⟩
  dsimp only
  rw [hf j, dif_pos ⟨(j 0).isLt, (j 1).isLt⟩]
  exact congrArg (fun t => ((f t : ℝ) : EReal)) (eq_ix2 j)

theorem v23 (h0 : R3 (a := 8192) (b := 8) (c := 96) x0 q) (h1 : R3 (a := 8448) (b := 8) (c := 96) x1 k)
    (hμ : R2 (a := 8) (b := 8192) (val_main_v10 (F := Ideal) x0 x1) μ) :
    R3 (a := 8) (b := 8192) (c := 8448) (val_main_v23 (F := Ideal) x0 x1) (eR q k μ) := by
  intro j
  rw [val_main_v23_apply, val_main_v22_apply, val_main_v21_apply, val_main_v20_apply, v2 h0 h1 j, hμ]
  show Ideal.hostUnary .exp ((_ : EReal) - _) = _
  rw [← EReal.coe_sub]
  rfl

theorem v24 (h0 : R3 (a := 8192) (b := 8) (c := 96) x0 q) (h1 : R3 (a := 8448) (b := 8) (c := 96) x1 k)
    (hμ : R2 (a := 8) (b := 8192) (val_main_v10 (F := Ideal) x0 x1) μ) :
    R2 (a := 8) (b := 8192) (val_main_v24 (F := Ideal) x0 x1) (nR q k μ) := by
  intro j
  rw [val_main_v24_apply, val_main_cst_8_apply]
  show Ideal.ofBits .f32 0x00000000#32 + _ = _
  unfold nR
  rw [zero_word, EReal.coe_zero, zero_add, ← Fin.sum_univ_eq_sum_range (fun t => eR q k μ (j 0).val (j 1).val t) 8448, ← coe_sum]
  exact Finset.sum_congr rfl fun t _ => v23 h0 h1 hμ _

theorem v27 (h0 : R3 (a := 8192) (b := 8) (c := 96) x0 q) (h1 : R3 (a := 8448) (b := 8) (c := 96) x1 k)
    (hμ : R2 (a := 8) (b := 8192) (val_main_v10 (F := Ideal) x0 x1) μ) :
    R3 (a := 8) (b := 8192) (c := 8448) (val_main_v27 (F := Ideal) x0 x1) (fun h i j => eR q k μ h i j / nR q k μ h i) := by
  intro j
  rw [val_main_v27_apply, val_main_v26_apply, val_main_v25_apply, v23 h0 h1 hμ j, v24 h0 h1 hμ]
  exact div_coe _ _ (nR_pos q k μ _ _)

/-- The attention's output. -/
theorem v32 (h0 : R3 (a := 8192) (b := 8) (c := 96) x0 q) (h1 : R3 (a := 8448) (b := 8) (c := 96) x1 k)
    (h2 : R3 (a := 8448) (b := 8) (c := 64) x2 v) (hμ : R2 (a := 8) (b := 8192) (val_main_v10 (F := Ideal) x0 x1) μ) :
    R3 (a := 8192) (b := 8) (c := 64) (val_main_v32 (F := Ideal) x0 x1 x2)
      (fun i h x => ∑ j ∈ Finset.range 8448, v j h x * (eR q k μ h i j / nR q k μ h i)) := by
  intro j
  rw [val_main_v32_apply, val_main_v31_apply]
  dsimp only
  rw [← Fin.sum_univ_eq_sum_range (fun t => v t (j 1).val (j 2).val * (eR q k μ (j 1).val (j 0).val t / nR q k μ (j 1).val (j 0).val)) 8448, ← coe_dot]
  exact Finset.sum_congr rfl fun t _ => congrArg₂ _ (h2 _) (v27 h0 h1 hμ _)

/-- The gradient with respect to the value. -/
theorem v36 (h0 : R3 (a := 8192) (b := 8) (c := 96) x0 q) (h1 : R3 (a := 8448) (b := 8) (c := 96) x1 k)
    (h3 : R3 (a := 8192) (b := 8) (c := 64) x3 ct) (hμ : R2 (a := 8) (b := 8192) (val_main_v10 (F := Ideal) x0 x1) μ) :
    R3 (a := 8448) (b := 8) (c := 64) (val_main_v36 (F := Ideal) x0 x1 x3)
      (fun j h x => ∑ i ∈ Finset.range 8192, ct i h x * (eR q k μ h i j / nR q k μ h i)) := by
  intro j
  rw [val_main_v36_apply, val_main_v35_apply]
  dsimp only
  rw [← Fin.sum_univ_eq_sum_range (fun t => ct t (j 1).val (j 2).val * (eR q k μ (j 1).val t (j 0).val / nR q k μ (j 1).val t)) 8192, ← coe_dot]
  exact Finset.sum_congr rfl fun t _ => congrArg₂ _ ((val_main_v33_apply _ _).trans (h3 _)) (v27 h0 h1 hμ _)

theorem v34 (h2 : R3 (a := 8448) (b := 8) (c := 64) x2 v) (h3 : R3 (a := 8192) (b := 8) (c := 64) x3 ct) :
    R3 (a := 8) (b := 8192) (c := 8448) (val_main_v34 (F := Ideal) x2 x3) (dpR v ct) := by
  intro j
  rw [val_main_v34_apply]
  unfold dpR
  rw [← Fin.sum_univ_eq_sum_range (fun t => ct (j 1).val (j 0).val t * v (j 2).val (j 0).val t) 64, ← coe_dot]
  exact Finset.sum_congr rfl fun t _ => congrArg₂ _ ((val_main_v33_apply _ _).trans (h3 _)) (h2 _)

theorem v39 (h0 : R3 (a := 8192) (b := 8) (c := 96) x0 q) (h1 : R3 (a := 8448) (b := 8) (c := 96) x1 k)
    (h2 : R3 (a := 8448) (b := 8) (c := 64) x2 v) (h3 : R3 (a := 8192) (b := 8) (c := 64) x3 ct)
    (hμ : R2 (a := 8) (b := 8192) (val_main_v10 (F := Ideal) x0 x1) μ) :
    R3 (a := 8) (b := 8192) (c := 8448) (val_main_v39 (F := Ideal) x0 x1 x2 x3)
      (fun h i j => dpR v ct h i j * (1 / (nR q k μ h i * nR q k μ h i)) * eR q k μ h i j) := by
  intro j
  rw [val_main_v39_apply, val_main_v38_apply, val_main_v37_apply, val_main_v30_apply, val_main_v29_apply, val_main_cst_9_apply,
    val_main_v28_apply, val_main_v25_apply, v23 h0 h1 hμ j, v34 h2 h3 j, v24 h0 h1 hμ]
  show (_ : EReal) * Ideal.div (Ideal.ofBits .f32 0x3F800000#32) (_ * _) * _ = _
  rw [one_word, ← EReal.coe_mul, div_coe _ _ (mul_pos (nR_pos q k μ _ _) (nR_pos q k μ _ _)), ← EReal.coe_mul, ← EReal.coe_mul]

theorem v45 (h0 : R3 (a := 8192) (b := 8) (c := 96) x0 q) (h1 : R3 (a := 8448) (b := 8) (c := 96) x1 k)
    (h2 : R3 (a := 8448) (b := 8) (c := 64) x2 v) (h3 : R3 (a := 8192) (b := 8) (c := 64) x3 ct)
    (hμ : R2 (a := 8) (b := 8192) (val_main_v10 (F := Ideal) x0 x1) μ) :
    R2 (a := 8) (b := 8192) (val_main_v45 (F := Ideal) x0 x1 x2 x3)
      (fun h i => -(∑ t ∈ Finset.range 8448, dpR v ct h i t * (1 / (nR q k μ h i * nR q k μ h i)) * eR q k μ h i t)) := by
  have e40 : R2 (a := 8) (b := 8192) (val_main_v40 (F := Ideal) x0 x1 x2 x3)
      (fun h i => ∑ t ∈ Finset.range 8448, dpR v ct h i t * (1 / (nR q k μ h i * nR q k μ h i)) * eR q k μ h i t) := by
    intro j
    rw [val_main_v40_apply, val_main_cst_10_apply]
    show Ideal.ofBits .f32 0x00000000#32 + _ = _
    rw [zero_word, EReal.coe_zero, zero_add]
    dsimp only
    rw [← Fin.sum_univ_eq_sum_range (fun t => dpR v ct (j 0).val (j 1).val t * (1 / (nR q k μ (j 0).val (j 1).val * nR q k μ (j 0).val (j 1).val)) * eR q k μ (j 0).val (j 1).val t) 8448, ← coe_sum]
    exact Finset.sum_congr rfl fun t _ => v39 h0 h1 h2 h3 hμ _
  intro j
  rw [val_main_v45_apply, val_main_cst_11_apply]
  show Ideal.ofBits .f32 0x00000000#32 + _ = _
  rw [zero_word, EReal.coe_zero, zero_add, Fin.sum_univ_one, val_main_v42_apply, val_main_v41_apply, e40]
  have a0 : (j 0).val < 8 := (j 0).isLt
  have a1 : (j 1).val < 8192 := (j 1).isLt
  have i0 : ((idx_main_v41 (idx_main_v45 j 0)) 0).val = (j 0).val := by
    show (((j 0).val * 8192 + (j 1).val) * 1 + 0) / 8192 = _
    omega
  have i1 : ((idx_main_v41 (idx_main_v45 j 0)) 1).val = (j 1).val := by
    show (((j 0).val * 8192 + (j 1).val) * 1 + 0) % 8192 = _
    omega
  rw [i0, i1]
  show -(_ : EReal) = _
  rw [← EReal.coe_neg]

theorem v50 (h0 : R3 (a := 8192) (b := 8) (c := 96) x0 q) (h1 : R3 (a := 8448) (b := 8) (c := 96) x1 k)
    (h2 : R3 (a := 8448) (b := 8) (c := 64) x2 v) (h3 : R3 (a := 8192) (b := 8) (c := 64) x3 ct)
    (hμ : R2 (a := 8) (b := 8192) (val_main_v10 (F := Ideal) x0 x1) μ) :
    R3 (a := 8) (b := 8192) (c := 8448) (val_main_v50 (F := Ideal) x0 x1 x2 x3) (gR q k v ct μ) := by
  intro j
  rw [val_main_v50_apply, val_main_v49_apply, val_main_cst_12_apply, val_main_v48_apply, val_main_v47_apply, val_main_v46_apply,
    val_main_v44_apply, val_main_v43_apply, val_main_v25_apply, v23 h0 h1 hμ j, v34 h2 h3 j, v24 h0 h1 hμ, v45 h0 h1 h2 h3 hμ]
  show ((Ideal.div _ _ : EReal) + _) * _ * Ideal.ofBits .f32 0x3DD105EC#32 = _
  rw [Host.sm_word, div_coe _ _ (nR_pos q k μ _ _), ← EReal.coe_add, ← EReal.coe_mul, ← EReal.coe_mul]
  rfl

/-- The gradient with respect to the key. -/
theorem v52 (h0 : R3 (a := 8192) (b := 8) (c := 96) x0 q) (h1 : R3 (a := 8448) (b := 8) (c := 96) x1 k)
    (h2 : R3 (a := 8448) (b := 8) (c := 64) x2 v) (h3 : R3 (a := 8192) (b := 8) (c := 64) x3 ct)
    (hμ : R2 (a := 8) (b := 8192) (val_main_v10 (F := Ideal) x0 x1) μ) :
    R3 (a := 8448) (b := 8) (c := 96) (val_main_v52 (F := Ideal) x0 x1 x2 x3)
      (fun j h d => ∑ i ∈ Finset.range 8192, gR q k v ct μ h i j * q i h d) := by
  intro j
  rw [val_main_v52_apply, val_main_v51_apply]
  dsimp only
  rw [← Fin.sum_univ_eq_sum_range (fun t => gR q k v ct μ (j 1).val t (j 0).val * q t (j 1).val (j 2).val) 8192, ← coe_dot]
  exact Finset.sum_congr rfl fun t _ => congrArg₂ _ (v50 h0 h1 h2 h3 hμ _) (h0 _)

/-- The gradient with respect to the query. -/
theorem v54 (h0 : R3 (a := 8192) (b := 8) (c := 96) x0 q) (h1 : R3 (a := 8448) (b := 8) (c := 96) x1 k)
    (h2 : R3 (a := 8448) (b := 8) (c := 64) x2 v) (h3 : R3 (a := 8192) (b := 8) (c := 64) x3 ct)
    (hμ : R2 (a := 8) (b := 8192) (val_main_v10 (F := Ideal) x0 x1) μ) :
    R3 (a := 8192) (b := 8) (c := 96) (val_main_v54 (F := Ideal) x0 x1 x2 x3)
      (fun i h d => ∑ j ∈ Finset.range 8448, gR q k v ct μ h i j * k j h d) := by
  intro j
  rw [val_main_v54_apply, val_main_v53_apply]
  dsimp only
  rw [← Fin.sum_univ_eq_sum_range (fun t => gR q k v ct μ (j 1).val (j 0).val t * k t (j 1).val (j 2).val) 8448, ← coe_dot]
  exact Finset.sum_congr rfl fun t _ => congrArg₂ _ (v50 h0 h1 h2 h3 hμ _) (h1 _)

end Cert.Proof.RefValue

end
-- ==== Proof.Algebra.lean ====
/- Over the real numbers, what the three calls compute is what the reference computes: the base-2 exponentials of the
   prescaled scores are the exponentials of the scores, the shift by the row's maximum cancels, the lanes that pad a
   head add nothing, and the softmax's gradient is its weight times the difference from the row's mean. -/
module

public import proofs.«01_k».proof.Proof.RefValue

@[expose] public section

noncomputable section

namespace Cert.Proof.Algebra

open Cert.Proof.Math Cert.Proof.Fwd Cert.Proof.Host Cert.Proof.RefValue
open scoped BigOperators

theorem spread_at (n : ℕ) (X : ℕ → ℕ → ℕ → ℝ) (i h x : ℕ) (hx : x < 128) :
    spread n X i (128 * h + x) = if x < n then X i h x else 0 := by
  unfold spread
  rw [show (128 * h + x) % 128 = x by omega, show (128 * h + x) / 128 = h by omega]

/-- The padding lanes add nothing. -/
theorem sum_spread (n : ℕ) (hn : n ≤ 128) (X : ℕ → ℕ → ℕ → ℝ) (i h : ℕ) (f : ℕ → ℝ) :
    ∑ d ∈ Finset.range 128, spread n X i (128 * h + d) * f d = ∑ d ∈ Finset.range n, X i h d * f d := by
  rw [← Finset.sum_subset (Finset.range_subset_range.2 hn) (fun d hd hd' => by
    rw [spread_at _ _ _ _ _ (Finset.mem_range.1 hd), if_neg (fun h => hd' (Finset.mem_range.2 h)), zero_mul])]
  refine Finset.sum_congr rfl fun d hd => ?_
  have := Finset.mem_range.1 hd
  rw [spread_at _ _ _ _ _ (by omega), if_pos this]

variable (q k v ct : ℕ → ℕ → ℕ → ℝ) (μ : ℕ → ℕ → ℝ)

/-- The softmax's weights. -/
def P (h i j : ℕ) : ℝ := Real.exp (sR q k h i j) / ∑ t ∈ Finset.range 8448, Real.exp (sR q k h i t)

theorem sc_eq (h i j : ℕ) : sc (qR q) (spread 96 k) h i j = sR q k h i j / Real.log 2 := by
  unfold sc qR sR
  have e := sum_spread 96 (by norm_num) q i h (fun d => (sm / Real.log 2) * spread 96 k j (128 * h + d))
  simp only [mul_assoc]
  rw [e]
  rw [Finset.sum_mul, Finset.sum_div]
  refine Finset.sum_congr rfl fun d hd => ?_
  have := Finset.mem_range.1 hd
  rw [spread_at _ _ _ _ _ (by omega), if_pos this]
  ring

theorem e2_sc (h i j : ℕ) : e2 (sc (qR q) (spread 96 k) h i j) = Real.exp (sR q k h i j) := by
  rw [sc_eq, e2_eq_exp, div_mul_cancel₀ _ log2_pos.ne']

theorem den_eq (h i : ℕ) : den (qR q) (spread 96 k) h i = ∑ t ∈ Finset.range 8448, Real.exp (sR q k h i t) := by
  unfold den
  exact Finset.sum_congr rfl fun j _ => e2_sc q k h i j

/-- The shift by the row's maximum cancels. -/
theorem ref_weight (h i j : ℕ) : eR q k μ h i j / nR q k μ h i = P q k h i j := by
  have e : ∀ t, eR q k μ h i t = Real.exp (sR q k h i t) * Real.exp (-μ h i) := fun t => by
    unfold eR; rw [sub_eq_add_neg, Real.exp_add]
  have n : nR q k μ h i = (∑ t ∈ Finset.range 8448, Real.exp (sR q k h i t)) * Real.exp (-μ h i) := by
    unfold nR; rw [Finset.sum_mul]; exact Finset.sum_congr rfl fun t _ => e t
  rw [e, n, mul_div_mul_right _ _ (Real.exp_pos _).ne']
  rfl

/-- The attention's output. -/
theorem out_eq (i h x : ℕ) (hx : x < 64) :
    outR (qR q) (spread 96 k) (spread 64 v) i (128 * h + x) = ∑ j ∈ Finset.range 8448, v j h x * P q k h i j := by
  unfold outR
  rw [show (128 * h + x) / 128 = h by omega, den_eq, Finset.sum_div]
  refine Finset.sum_congr rfl fun j _ => ?_
  rw [e2_sc, spread_at _ _ _ _ _ (by omega), if_pos hx]
  unfold P
  ring

/-- The weights the backward call recomputes. -/
theorem wt_eq (h i j : ℕ) : Bwd.wtH (qR q) (spread 96 k) (lseR (qR q) (spread 96 k)) h i j = P q k h i j := by
  have e := e2_sub_lse (n := 8448) (by norm_num) (fun t => sc (qR q) (spread 96 k) h i t) (sc (qR q) (spread 96 k) h i j)
  unfold Bwd.wtH Bwd.wt Bwd.lane lseR
  rw [show (128 * h + 0) / 128 = h by omega]
  refine Eq.trans ?_ (e.trans ?_)
  · rfl
  · rw [e2_sc]
    unfold P
    exact congrArg _ (den_eq q k h i)

/-- The row's mean of the softmax's gradient. -/
theorem dlt_eq (h i l : ℕ) (hl : l / 128 = h) : dltK q k v ct i l = ∑ j ∈ Finset.range 8448, dpR v ct h i j * P q k h i j := by
  unfold dltK Delta.dltR
  rw [hl, sum_spread 64 (by norm_num)]
  have e : ∀ x ∈ Finset.range 64, ct i h x * outR (qR q) (spread 96 k) (spread 64 v) i (128 * h + x)
      = ∑ j ∈ Finset.range 8448, ct i h x * v j h x * P q k h i j := fun x hx => by
    rw [out_eq q k v i h x (Finset.mem_range.1 hx), Finset.mul_sum]
    exact Finset.sum_congr rfl fun j _ => by ring
  rw [Finset.sum_congr rfl e, Finset.sum_comm]
  refine Finset.sum_congr rfl fun j _ => ?_
  unfold dpR
  rw [Finset.sum_mul]

/-- The gradient with respect to the scaled scores. -/
theorem gs_eq (h i j : ℕ) : Bwd.gsH (qR q) (spread 96 k) (lseR (qR q) (spread 96 k)) (spread 64 ct) (spread 64 v) (dltK q k v ct) h i j
    = P q k h i j * (dpR v ct h i j - ∑ t ∈ Finset.range 8448, dpR v ct h i t * P q k h i t) := by
  have e : Bwd.gsH (qR q) (spread 96 k) (lseR (qR q) (spread 96 k)) (spread 64 ct) (spread 64 v) (dltK q k v ct) h i j
      = Bwd.wtH (qR q) (spread 96 k) (lseR (qR q) (spread 96 k)) h i j
        * ((∑ d ∈ Finset.range 128, spread 64 ct i (128 * h + d) * spread 64 v j (128 * h + d)) - dltK q k v ct i (128 * h + 0)) := rfl
  rw [e, wt_eq, dlt_eq q k v ct h i _ (by omega), sum_spread 64 (by norm_num)]
  congr 2
  unfold dpR
  refine Finset.sum_congr rfl fun x hx => ?_
  have := Finset.mem_range.1 hx
  rw [spread_at _ _ _ _ _ (by omega), if_pos this]

theorem ref_grad (h i j : ℕ) : gR q k v ct μ h i j
    = P q k h i j * (dpR v ct h i j - ∑ t ∈ Finset.range 8448, dpR v ct h i t * P q k h i t) * sm := by
  have hn := (nR_pos q k μ h i).ne'
  have e : ∑ t ∈ Finset.range 8448, dpR v ct h i t * (1 / (nR q k μ h i * nR q k μ h i)) * eR q k μ h i t
      = (∑ t ∈ Finset.range 8448, dpR v ct h i t * P q k h i t) / nR q k μ h i := by
    rw [Finset.sum_div]
    refine Finset.sum_congr rfl fun t _ => ?_
    rw [← ref_weight q k μ h i t]
    field_simp
  unfold gR
  rw [e, ← ref_weight q k μ h i j]
  field_simp
  ring

/-- The gradient with respect to the query. -/
theorem dq_eq (i h x : ℕ) (hx : x < 96) :
    dqK q k v ct i (128 * h + x) * (sm / Real.log 2) = ∑ j ∈ Finset.range 8448, gR q k v ct μ h i j * k j h x := by
  have e : ∀ s : ℝ, s * Real.log 2 * (sm / Real.log 2) = s * sm := fun s => by
    have := log2_pos.ne'; field_simp
  unfold dqK Bwd.dqR
  rw [show (128 * h + x) / 128 = h by omega, e, Finset.sum_mul]
  refine Finset.sum_congr rfl fun j _ => ?_
  rw [gs_eq, ref_grad, spread_at _ _ _ _ _ (by omega), if_pos hx]
  ring

/-- The gradient with respect to the key. -/
theorem dk_eq (j h x : ℕ) (hx : x < 96) :
    dkK q k v ct j (128 * h + x) = ∑ i ∈ Finset.range 8192, gR q k v ct μ h i j * q i h x := by
  unfold dkK Bwd.dkR
  rw [show (128 * h + x) / 128 = h by omega, Finset.sum_mul]
  refine Finset.sum_congr rfl fun i _ => ?_
  have eq : qR q i (128 * h + x) = q i h x * (sm / Real.log 2) := by
    unfold qR; rw [spread_at _ _ _ _ _ (by omega), if_pos hx]
  rw [gs_eq, ref_grad, eq]
  have := log2_pos.ne'
  field_simp

/-- The gradient with respect to the value. -/
theorem dv_eq (j h x : ℕ) (hx : x < 64) :
    dvK q k ct j (128 * h + x) = ∑ i ∈ Finset.range 8192, ct i h x * P q k h i j := by
  unfold dvK Bwd.dvR
  rw [show (128 * h + x) / 128 = h by omega]
  refine Finset.sum_congr rfl fun i _ => ?_
  rw [wt_eq, spread_at _ _ _ _ _ (by omega), if_pos hx, mul_comm]

end Cert.Proof.Algebra

end
-- ==== Proof.Finite.lean ====
/- What the precondition says: every element of the four arguments is a real number, so each argument is an array of
   real numbers. -/
module

public import proofs.«01_k».proof.Proof.Algebra
public import proofs.«01_k».proof.Proof.Gen.Pre_finite
public import proofs.«01_k».proof.Defs
public import Idealize.ShloMosaic.Lib.ReduceAll

@[expose] public section

noncomputable section

namespace Cert.Proof.Finite

open Idealize.ShloMosaic Idealize.ShloMosaic.TcCoe Idealize.SL.Sem
open Cert.Proof.Host Cert.Proof.RefValue

theorem top_word : Ideal.ofBits .f32 0x7F800000#32 = (⊤ : EReal) := by
  simp [Ideal.ofBits, Ideal.ieee]

/-- An extended real whose absolute value is below `⊤` is a real number. -/
theorem real_of_abs {x : EReal} (h : Ideal.cmp .olt (max x (-x)) ⊤ = 1#1) : ∃ r : ℝ, x = (r : EReal) := by
  have h' : max x (-x) < ⊤ := by
    by_contra hn
    have e : Ideal.cmp .olt (max x (-x)) ⊤ = BitVec.ofBool (decide (max x (-x) < ⊤)) := rfl
    rw [e, decide_eq_false hn] at h
    exact absurd h (by decide)
  induction x using EReal.rec with
  | bot => simp at h'
  | coe r => exact ⟨r, rfl⟩
  | top => simp at h'

instance : Subsingleton (Pre_finite.S_).Idx := ⟨fun a b => funext fun d => d.elim0⟩

/-- A test of the precondition that came out true: the array it tests holds real numbers. -/
theorem real_of_test {s : Shape} {axes : List (Fin s.rank)} (x : FVec Ideal s .f32)
    (hb : (Pre_finite.S_).BroadcastsInDim s (![] : Fin 0 → Fin s.rank)) (init : IVec Pre_finite.S_ 1) (hr : s.ReducesTo axes Pre_finite.S_)
    (hu : 0 < (Pre_finite.S_).numel) (j : (Pre_finite.S_).Idx)
    (e : Host.reduce IntOp.andi (cmpf .olt (Host.absf x)
      (broadcastInDim s ![] hb (constant (F := Ideal) Pre_finite.S_ .f32 0x7F800000#32))) init hr hu j = 1#1) (i : s.Idx) :
    ∃ r : ℝ, x i = (r : EReal) := by
  have t := Host.reduce_andi_all _ init hr hu j e i
  refine real_of_abs (x := x i) ?_
  rw [← top_word]
  exact t

/-- The precondition: all four arguments hold real numbers. -/
theorem reals (x0 : FVec Ideal Pre_finite.S8192x8x96 .f32) (x1 : FVec Ideal Pre_finite.S8448x8x96 .f32)
    (x2 : FVec Ideal Pre_finite.S8448x8x64 .f32) (x3 : FVec Ideal Pre_finite.S8192x8x64 .f32)
    (h : Pre_finite.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h (fun d => d.elim0)
  unfold Pre_finite.fn Pre_finite.fn_part1 at h0
  obtain ⟨h1, e3⟩ := IntOp.andi_eq_one.1 h0
  obtain ⟨h2, e2⟩ := IntOp.andi_eq_one.1 h1
  obtain ⟨e0, e1⟩ := IntOp.andi_eq_one.1 h2
  exact ⟨real_of_test x0 _ _ _ _ _ e0, real_of_test x1 _ _ _ _ _ e1, real_of_test x2 _ _ _ _ _ e2, real_of_test x3 _ _ _ _ _ e3⟩

/-- The numbers of an array of real numbers. -/
def nums {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

theorem holds_nums {a b c : ℕ} (x : (⟨3, ![a, b, c]⟩ : Shape).Idx → EReal) (h : ∀ i, ∃ r : ℝ, x i = (r : EReal)) :
    Holds3 x (nums x) := by
  intro i j k
  obtain ⟨r, hr⟩ := h (ix3 i j k)
  unfold nums
  rw [dif_pos ⟨i.isLt, j.isLt, k.isLt⟩]
  show x (ix3 i j k) = (((x (ix3 i j k)).toReal : ℝ) : EReal)
  rw [hr, EReal.toReal_coe]

/-- The same statement at an index that is not written as a triple. -/
theorem r3_of_holds {a b c : ℕ} {x : (⟨3, ![a, b, c]⟩ : Shape).Idx → EReal} {X : ℕ → ℕ → ℕ → ℝ} (h : Holds3 x X) : R3 x X := by
  intro j
  have e := h (j 0) (j 1) (j 2)
  rw [← eq_ix3 j] at e
  exact e

/-- Two arrays of the same numbers are equal. -/
theorem eq_of_nums {a b c : ℕ} {x y : (⟨3, ![a, b, c]⟩ : Shape).Idx → EReal} {X : ℕ → ℕ → ℕ → ℝ} (hx : R3 x X)
    (hy : ∀ (i : Fin a) (j : Fin b) (k : Fin c), y (ix3 i j k) = ((X i.val j.val k.val : ℝ) : EReal)) : x = y := by
  funext j
  rw [hx j]
  have e := hy (j 0) (j 1) (j 2)
  rw [← eq_ix3 j] at e
  exact e.symm

/-- Under the precondition the arguments are arrays of real numbers. -/
theorem args (m : (ℓ : Loc KernelIdeal.nD KernelIdeal.τ KernelIdeal.sig) → Buf (Elt Ideal) ℓ) (hm : Pre_KernelIdeal_finite m)
    (c : Dev KernelIdeal.nD) : ∃ q k v ct, Args m c q k v ct := by
  obtain ⟨h0, h1, h2, h3⟩ := reals _ _ _ _ (hm c)
  exact ⟨_, _, _, _, ⟨holds_nums _ h0, holds_nums _ h1, holds_nums _ h2, holds_nums _ h3⟩⟩

end Cert.Proof.Finite

end
-- ==== Proof.MidBwdPoint.lean ====
/-
  One grid point of the backward of the convolution and gate: what it leaves in its three output
  blocks, element by element, from the rows it has staged.
-/
module

public import proofs.«01_k».proof.Defs
public import proofs.«01_k».proof.Proof.Place
public import proofs.«01_k».proof.Proof.Gen.MidBwdIdeal.Value
public import Idealize.ShloMosaic.Lib.Pipeline.ReadBack

@[expose] public section

set_option maxRecDepth 16384

noncomputable section

namespace Cert.Proof.MidBwd

open Idealize.ShloMosaic Idealize.ShloMosaic.TcCoe Idealize.SL.Sem
open Cert.MidBwdIdeal Cert.MidBwdIdeal.Gen
open Idealize.ShloMosaic.Pipeline (Dat)
open scoped BigOperators

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ### Reading a list of stored planes or rows -/

section Lists
variable {F : FTy → Type} [FloatOps F]

theorem plane_one (P : Vec F S1x1x256x704 .bf16) (L : List (View.Piece (Elt F) S2x1x256x704 .bf16))
    (inb : ∀ a, (![1, 0, 0, 0] : Fin 4 → ℕ) a + (![1, 1, 256, 704] : Fin 4 → ℕ) a ≤ S2x1x256x704.size a) (r : Fin 256) (q : Fin 704) :
    View.canon (Val := Elt F) (⟨Rect.unit (s := S2x1x256x704) ![1, 0, 0, 0] ![1, 1, 256, 704] inb, P⟩ :: L) (ix4 1 0 r q) = P (ix4 0 0 r q) := by
  have e : (Rect.unit (s := S2x1x256x704) ![1, 0, 0, 0] ![1, 1, 256, 704] inb).emb (ix4 0 0 r q : S1x1x256x704.Idx) = ix4 1 0 r q := by
    funext a; apply Fin.ext
    match a with
    | ⟨0, _⟩ => rfl
    | ⟨1, _⟩ => rfl
    | ⟨2, _⟩ => show 0 + 1 * r.val = r.val; omega
    | ⟨3, _⟩ => show 0 + 1 * q.val = q.val; omega
  have h := View.canon_cons_emb (Val := Elt F) (e := .bf16) (Rect.unit (s := S2x1x256x704) ![1, 0, 0, 0] ![1, 1, 256, 704] inb) P L (ix4 0 0 r q : S1x1x256x704.Idx)
  rwa [e] at h

theorem plane_zero (P Q : Vec F S1x1x256x704 .bf16)
    (inb : ∀ a, (![1, 0, 0, 0] : Fin 4 → ℕ) a + (![1, 1, 256, 704] : Fin 4 → ℕ) a ≤ S2x1x256x704.size a)
    (inb' : ∀ a, (![0, 0, 0, 0] : Fin 4 → ℕ) a + (![1, 1, 256, 704] : Fin 4 → ℕ) a ≤ S2x1x256x704.size a) (r : Fin 256) (q : Fin 704) :
    View.canon (Val := Elt F) [⟨Rect.unit (s := S2x1x256x704) ![1, 0, 0, 0] ![1, 1, 256, 704] inb, P⟩,
      ⟨Rect.unit (s := S2x1x256x704) ![0, 0, 0, 0] ![1, 1, 256, 704] inb', Q⟩] (ix4 0 0 r q) = Q (ix4 0 0 r q) := by
  have e : (Rect.unit (s := S2x1x256x704) ![0, 0, 0, 0] ![1, 1, 256, 704] inb').emb (ix4 0 0 r q : S1x1x256x704.Idx) = ix4 0 0 r q := by
    funext a; apply Fin.ext
    match a with
    | ⟨0, _⟩ => rfl
    | ⟨1, _⟩ => rfl
    | ⟨2, _⟩ => show 0 + 1 * r.val = r.val; omega
    | ⟨3, _⟩ => show 0 + 1 * q.val = q.val; omega
  rw [View.canon_cons_of_not_mem]
  · have h := View.canon_cons_emb (Val := Elt F) (e := .bf16) (Rect.unit (s := S2x1x256x704) ![0, 0, 0, 0] ![1, 1, 256, 704] inb') Q [] (ix4 0 0 r q : S1x1x256x704.Idx)
    rwa [e] at h
  · intro hm
    have h := ((Rect.mem_set_unit (inb := inb)).mp hm 0).1
    exact absurd (show 1 ≤ 0 from h) (by norm_num)

theorem row_here (n : ℕ) (k : Fin 3) (hk : k.val = n) (P : Vec F S1x1x704 .f32) (L : List (View.Piece (Elt F) S1x3x704 .f32))
    (inb : ∀ a, (![0, n, 0] : Fin 3 → ℕ) a + (![1, 1, 704] : Fin 3 → ℕ) a ≤ S1x3x704.size a) (q : Fin 704) :
    View.canon (Val := Elt F) (⟨Rect.unit (s := S1x3x704) ![0, n, 0] ![1, 1, 704] inb, P⟩ :: L) (ix3 0 k q) = P (ix3 0 0 q) := by
  have e : (Rect.unit (s := S1x3x704) ![0, n, 0] ![1, 1, 704] inb).emb (ix3 0 0 q : S1x1x704.Idx) = ix3 0 k q := by
    funext a; apply Fin.ext
    match a with
    | ⟨0, _⟩ => rfl
    | ⟨1, _⟩ => show n + 1 * 0 = k.val; omega
    | ⟨2, _⟩ => show 0 + 1 * q.val = q.val; omega
  have h := View.canon_cons_emb (Val := Elt F) (e := .f32) (Rect.unit (s := S1x3x704) ![0, n, 0] ![1, 1, 704] inb) P L (ix3 0 0 q : S1x1x704.Idx)
  rwa [e] at h

theorem row_skip (n : ℕ) (k : Fin 3) (hk : k.val ≠ n) (P : Vec F S1x1x704 .f32) (L : List (View.Piece (Elt F) S1x3x704 .f32))
    (inb : ∀ a, (![0, n, 0] : Fin 3 → ℕ) a + (![1, 1, 704] : Fin 3 → ℕ) a ≤ S1x3x704.size a) (q : Fin 704) :
    View.canon (Val := Elt F) (⟨Rect.unit (s := S1x3x704) ![0, n, 0] ![1, 1, 704] inb, P⟩ :: L) (ix3 0 k q)
      = View.canon (Val := Elt F) L (ix3 0 k q) := by
  rw [View.canon_cons_of_not_mem]
  intro hm
  have h := (Rect.mem_set_unit (inb := inb)).mp hm 1
  have h1 : n ≤ k.val := h.1
  have h2 : k.val < n + 1 := h.2
  omega

theorem row_load (n : ℕ) (k : Fin 3) (hk : k.val = n) (x : Vec F S1x3x704 .f32)
    (inb : ∀ a, (![0, n, 0] : Fin 3 → ℕ) a + (![1, 1, 704] : Fin 3 → ℕ) a ≤ S1x3x704.size a) (q : Fin 704) :
    View.ld x (Rect.unit (s := S1x3x704) ![0, n, 0] ![1, 1, 704] inb) (ix3 0 0 q : S1x1x704.Idx) = x (ix3 0 k q) :=
  (show View.ld x (Rect.unit (s := S1x3x704) ![0, n, 0] ![1, 1, 704] inb) _ = x ((Rect.unit (s := S1x3x704) ![0, n, 0] ![1, 1, 704] inb).idx _) from rfl).trans
    (congrArg x (funext fun a => Fin.ext (by
      match a with
      | ⟨0, _⟩ => rfl
      | ⟨1, _⟩ => show n + 1 * 0 = k.val; omega
      | ⟨2, _⟩ => show 0 + 1 * q.val = q.val; omega)))

/-- A load of some rows after the whole block has been filled reads the fill. -/
theorem fill_load (a : Memref sig .tc .vmem S1x3x704 .f32) (x : Vec F S1x3x704 .f32) (r : Rect S1x3x704) :
    a.view.readCov (Val := Elt F) [⟨Rect.unit (s := S1x3x704) ![0, 0, 0] ![1, 3, 704] inb_S1x3x704_S1x3x704_0_0_0, x⟩] r.toLoadRect
      = View.ld (Val := Elt F) x r :=
  View.readCov_fill (Val := Elt F) (s := S1x3x704) (off := ![0, 0, 0]) a.view inb_S1x3x704_S1x3x704_0_0_0 x [] r (fun a => congrFun hz3 a)

end Lists

/-! ### The blocks a point leaves -/

section Pieces
variable {F : FTy → Type} [FloatOps F]

/-- The taps' rows as a point loads them. -/
abbrev tap0 (x6 : Vec F S1x3x704 .f32) : Vec F S1x1x704 .f32 := View.ld x6 (Rect.unit (s := S1x3x704) ![0, 0, 0] ![1, 1, 704] inb_S1x3x704_S1x1x704_0_0_0)
abbrev tap1 (x6 : Vec F S1x3x704 .f32) : Vec F S1x1x704 .f32 := View.ld x6 (Rect.unit (s := S1x3x704) ![0, 1, 0] ![1, 1, 704] inb_S1x3x704_S1x1x704_0_1_0)
abbrev tap2 (x6 : Vec F S1x3x704 .f32) : Vec F S1x1x704 .f32 := View.ld x6 (Rect.unit (s := S1x3x704) ![0, 2, 0] ![1, 1, 704] inb_S1x3x704_S1x1x704_0_2_0)

/-- The gradient at the convolution's result, on the staged rows. -/
abbrev slope (i : grid0.Coords) (x0 : Vec F S2x1x16x704 .f32) (x1 : Vec F S2x1x256x704 .f32) (x2 : Vec F S2x1x16x704 .f32)
    (x3 : Vec F S1x16x704 .f32) (x4 : Vec F S1x256x704 .f32) (x5 : Vec F S1x16x704 .f32) (x6 : Vec F S1x3x704 .f32)
    (x7 : Vec F S1x1x704 .f32) : FVec F S288x704 .f32 :=
  k0_pay11 (k0_pay3 i x0 x2 x1) (k0_pay4 i x0 x2 x1) (k0_pay5 i x3) (k0_pay6 i x5) (k0_pay7 x4) (tap0 x6) (tap1 x6) (tap2 x6) x7

/-- The two planes of the first output block. -/
def planes (P Q : Vec F S1x1x256x704 .bf16) : Vec F S2x1x256x704 .bf16 :=
  View.canon (Val := Elt F) [⟨Rect.unit (s := S2x1x256x704) ![1, 0, 0, 0] ![1, 1, 256, 704] inb_S2x1x256x704_S1x1x256x704_1_0_0_0, P⟩,
    ⟨Rect.unit (s := S2x1x256x704) ![0, 0, 0, 0] ![1, 1, 256, 704] inb_S2x1x256x704_S1x1x256x704_0_0_0_0, Q⟩]

/-- The three rows of the second output block, each the row `xo` held before and what the point adds. -/
def taps (D G : FVec F S288x704 .f32) (xo : Vec F S1x3x704 .f32) (L : List (View.Piece (Elt F) S1x3x704 .f32)) : Vec F S1x3x704 .f32 :=
  View.canon (Val := Elt F) (⟨(Rect.unit (s := S1x3x704) ![0, 2, 0] ![1, 1, 704] inb_S1x3x704_S1x1x704_0_2_0), k0_pay20 G (k0_pay15 D) (View.ld xo (Rect.unit (s := S1x3x704) ![0, 2, 0] ![1, 1, 704] inb_S1x3x704_S1x1x704_0_2_0))⟩
    :: ⟨(Rect.unit (s := S1x3x704) ![0, 1, 0] ![1, 1, 704] inb_S1x3x704_S1x1x704_0_1_0), k0_pay19 G (k0_pay15 D) (View.ld xo (Rect.unit (s := S1x3x704) ![0, 1, 0] ![1, 1, 704] inb_S1x3x704_S1x1x704_0_1_0))⟩
    :: ⟨(Rect.unit (s := S1x3x704) ![0, 0, 0] ![1, 1, 704] inb_S1x3x704_S1x1x704_0_0_0), k0_pay18 (k0_pay17 G D (View.ld xo (Rect.unit (s := S1x3x704) ![0, 0, 0] ![1, 1, 704] inb_S1x3x704_S1x1x704_0_0_0)))⟩ :: L)

variable (c : Dev nD) (i : grid0.Coords) (a2 : Memref sig .tc .vmem S2x1x16x704 .f32) (h2 : a2.IsWhole)
  (a3 : Memref sig .tc .vmem S2x1x256x704 .f32) (h3 : a3.IsWhole) (a4 : Memref sig .tc .vmem S2x1x16x704 .f32) (h4 : a4.IsWhole)
  (a5 : Memref sig .tc .vmem S1x16x704 .f32) (h5 : a5.IsWhole) (a6 : Memref sig .tc .vmem S1x256x704 .f32) (h6 : a6.IsWhole)
  (a7 : Memref sig .tc .vmem S1x16x704 .f32) (h7 : a7.IsWhole) (a8 : Memref sig .tc .vmem S1x3x704 .f32) (h8 : a8.IsWhole)
  (a9 : Memref sig .tc .vmem S1x1x704 .f32) (h9 : a9.IsWhole) (a10 : Memref sig .tc .vmem S2x1x256x704 .bf16) (h10 : a10.IsWhole)
  (a11 : Memref sig .tc .vmem S1x3x704 .f32) (h11 : a11.IsWhole) (a12 : Memref sig .tc .vmem S1x1x704 .f32) (h12 : a12.IsWhole)
  (x0 : Vec F S2x1x16x704 .f32) (x1 : Vec F S2x1x256x704 .f32) (x2 : Vec F S2x1x16x704 .f32) (x3 : Vec F S1x16x704 .f32)
  (x4 : Vec F S1x256x704 .f32) (x5 : Vec F S1x16x704 .f32) (x6 : Vec F S1x3x704 .f32) (x7 : Vec F S1x1x704 .f32)
  (xo9 : Vec F S1x3x704 .f32) (xo10 : Vec F S1x1x704 .f32)

/-- The gradient of the convolved plane. -/
abbrev first : Vec F S1x1x256x704 .bf16 :=
  k0_pay13 (slope i x0 x1 x2 x3 x4 x5 x6 x7)
    (k0_pay12 (k0_pay3 i x0 x2 x1) (k0_pay4 i x0 x2 x1) (k0_pay5 i x3) (k0_pay6 i x5) (k0_pay7 x4) (tap0 x6) (tap1 x6) (tap2 x6) x7 (tap0 x6))
    (tap1 x6) (tap2 x6)

/-- The gradient of the other plane. -/
abbrev second : Vec F S1x1x256x704 .bf16 :=
  k0_pay14 (k0_pay8 (k0_pay5 i x3) (k0_pay6 i x5) (k0_pay7 x4)) (k0_pay9 (k0_pay3 i x0 x2 x1) (tap0 x6) (tap1 x6) (tap2 x6) x7)
    (k0_pay10 (k0_pay3 i x0 x2 x1) (tap0 x6) (tap1 x6) (tap2 x6) x7)

theorem du_A (h : cond0_0 i) (h' : cond0_1 i) :
    out0_A_8 c i a2 h2 a3 h3 a4 h4 a5 h5 a6 h6 a7 h7 a8 h8 a9 h9 a10 h10 a11 h11 a12 h12 h h' x0 x1 x2 x3 x4 x5 x6 x7
      = planes (second i x0 x1 x2 x3 x4 x5 x6 x7) (first i x0 x1 x2 x3 x4 x5 x6 x7) := by
  unfold out0_A_8
  rw [View.read_writes_eq_canon _ _ _ (cover0_A_8 c i a2 h2 a3 h3 a4 h4 a5 h5 a6 h6 a7 h7 a8 h8 a9 h9 a10 h10 a11 h11 a12 h12 h h' x0 x1 x2 x3 x4 x5 x6 x7)]
  unfold kernelRun0_A
  dsimp only
  sl_unfold_words
  simp only [View.readAt_eq_ld, h2.read_unread, h3.read_unread, h4.read_unread, h5.read_unread, h6.read_unread, h7.read_unread,
    h8.read_unread, h9.read_unread, View.ld_unit_zero (S := S2x1x16x704) hz4, View.ld_unit_zero (S := S2x1x256x704) hz4,
    View.ld_unit_zero (S := S1x16x704) hz3, View.ld_unit_zero (S := S1x256x704) hz3, View.ld_unit_zero (S := S1x1x704) hz3]
  rfl

theorem du_B (h : ¬cond0_0 i) (h' : ¬cond0_1 i) :
    out0_B_8 c i a2 h2 a3 h3 a4 h4 a5 h5 a6 h6 a7 h7 a8 h8 a9 h9 a10 h10 a11 h11 a12 h12 h h' x0 x1 x2 x3 x4 x5 x6 x7 xo9 xo10
      = planes (second i x0 x1 x2 x3 x4 x5 x6 x7) (first i x0 x1 x2 x3 x4 x5 x6 x7) := by
  unfold out0_B_8
  rw [View.read_writes_eq_canon _ _ _ (cover0_B_8 c i a2 h2 a3 h3 a4 h4 a5 h5 a6 h6 a7 h7 a8 h8 a9 h9 a10 h10 a11 h11 a12 h12 h h' x0 x1 x2 x3 x4 x5 x6 x7 xo9 xo10)]
  unfold kernelRun0_B
  dsimp only
  sl_unfold_words
  simp only [View.readAt_eq_ld, h2.read_unread, h3.read_unread, h4.read_unread, h5.read_unread, h6.read_unread, h7.read_unread,
    h8.read_unread, h9.read_unread, h11.read_unread, h12.read_unread, View.ld_unit_zero (S := S2x1x16x704) hz4, View.ld_unit_zero (S := S2x1x256x704) hz4,
    View.ld_unit_zero (S := S1x16x704) hz3, View.ld_unit_zero (S := S1x256x704) hz3, View.ld_unit_zero (S := S1x1x704) hz3]
  rfl

theorem dw_A (h : cond0_0 i) (h' : cond0_1 i) :
    out0_A_9 c i a2 h2 a3 h3 a4 h4 a5 h5 a6 h6 a7 h7 a8 h8 a9 h9 a10 h10 a11 h11 a12 h12 h h' x0 x1 x2 x3 x4 x5 x6 x7
      = taps (slope i x0 x1 x2 x3 x4 x5 x6 x7) (k0_pay3 i x0 x2 x1) k0_pay16 [⟨Rect.unit (s := S1x3x704) ![0, 0, 0] ![1, 3, 704] inb_S1x3x704_S1x3x704_0_0_0, k0_pay16⟩] := by
  unfold out0_A_9
  rw [View.read_writes_eq_canon _ _ _ (cover0_A_9 c i a2 h2 a3 h3 a4 h4 a5 h5 a6 h6 a7 h7 a8 h8 a9 h9 a10 h10 a11 h11 a12 h12 h h' x0 x1 x2 x3 x4 x5 x6 x7)]
  unfold kernelRun0_A
  dsimp only
  sl_unfold_words
  simp only [View.readAt_eq_ld, h2.read_unread, h3.read_unread, h4.read_unread, h5.read_unread, h6.read_unread, h7.read_unread,
    h8.read_unread, h9.read_unread, View.ld_unit_zero (S := S2x1x16x704) hz4, View.ld_unit_zero (S := S2x1x256x704) hz4,
    View.ld_unit_zero (S := S1x16x704) hz3, View.ld_unit_zero (S := S1x256x704) hz3, View.ld_unit_zero (S := S1x1x704) hz3]
  unfold taps slope
  generalize k0_pay11 (F := F) _ _ _ _ _ _ _ _ _ = D
  generalize k0_pay3 (F := F) _ _ _ _ = G
  rw [View.readCov_skip _ _ _ _ _ (show LoadRect.disj _ (Rect.unit (s := S1x3x704) ![0, 2, 0] ![1, 1, 704] inb_S1x3x704_S1x1x704_0_2_0).toLoadRect = true by decide),
    View.readCov_skip _ _ _ _ (Rect.unit (s := S1x3x704) ![0, 2, 0] ![1, 1, 704] inb_S1x3x704_S1x1x704_0_2_0).toLoadRect (by decide),
    View.readCov_skip _ _ _ _ (Rect.unit (s := S1x3x704) ![0, 1, 0] ![1, 1, 704] inb_S1x3x704_S1x1x704_0_1_0).toLoadRect (by decide)]
  rw [fill_load a11 (k0_pay16 (F := F)) (Rect.unit (s := S1x3x704) ![0, 0, 0] ![1, 1, 704] inb_S1x3x704_S1x1x704_0_0_0), fill_load a11 (k0_pay16 (F := F)) (Rect.unit (s := S1x3x704) ![0, 1, 0] ![1, 1, 704] inb_S1x3x704_S1x1x704_0_1_0), fill_load a11 (k0_pay16 (F := F)) (Rect.unit (s := S1x3x704) ![0, 2, 0] ![1, 1, 704] inb_S1x3x704_S1x1x704_0_2_0)]

theorem dw_B (h : ¬cond0_0 i) (h' : ¬cond0_1 i) :
    out0_B_9 c i a2 h2 a3 h3 a4 h4 a5 h5 a6 h6 a7 h7 a8 h8 a9 h9 a10 h10 a11 h11 a12 h12 h h' x0 x1 x2 x3 x4 x5 x6 x7 xo9 xo10
      = taps (slope i x0 x1 x2 x3 x4 x5 x6 x7) (k0_pay3 i x0 x2 x1) xo9 [] := by
  unfold out0_B_9
  rw [View.read_writes_eq_canon _ _ _ (cover0_B_9 c i a2 h2 a3 h3 a4 h4 a5 h5 a6 h6 a7 h7 a8 h8 a9 h9 a10 h10 a11 h11 a12 h12 h h' x0 x1 x2 x3 x4 x5 x6 x7 xo9 xo10)]
  unfold kernelRun0_B
  dsimp only
  sl_unfold_words
  simp only [View.readAt_eq_ld, h2.read_unread, h3.read_unread, h4.read_unread, h5.read_unread, h6.read_unread, h7.read_unread,
    h8.read_unread, h9.read_unread, h11.read_unread, h12.read_unread, View.ld_unit_zero (S := S2x1x16x704) hz4, View.ld_unit_zero (S := S2x1x256x704) hz4,
    View.ld_unit_zero (S := S1x16x704) hz3, View.ld_unit_zero (S := S1x256x704) hz3, View.ld_unit_zero (S := S1x1x704) hz3]
  rfl

theorem db_A (h : cond0_0 i) (h' : cond0_1 i) :
    out0_A_10 c i a2 h2 a3 h3 a4 h4 a5 h5 a6 h6 a7 h7 a8 h8 a9 h9 a10 h10 a11 h11 a12 h12 h h' x0 x1 x2 x3 x4 x5 x6 x7
      = k0_pay1 (k0_pay21 (k0_pay15 (slope i x0 x1 x2 x3 x4 x5 x6 x7))) (k0_pay23 k0_pay22) := by
  unfold out0_A_10
  rw [View.read_writes_eq_canon _ _ _ (cover0_A_10 c i a2 h2 a3 h3 a4 h4 a5 h5 a6 h6 a7 h7 a8 h8 a9 h9 a10 h10 a11 h11 a12 h12 h h' x0 x1 x2 x3 x4 x5 x6 x7)]
  unfold kernelRun0_A
  dsimp only
  sl_unfold_words
  simp only [View.readAt_eq_ld, h2.read_unread, h3.read_unread, h4.read_unread, h5.read_unread, h6.read_unread, h7.read_unread,
    h8.read_unread, h9.read_unread, View.ld_unit_zero (S := S2x1x16x704) hz4, View.ld_unit_zero (S := S2x1x256x704) hz4,
    View.ld_unit_zero (S := S1x16x704) hz3, View.ld_unit_zero (S := S1x256x704) hz3, View.ld_unit_zero (S := S1x1x704) hz3]
  rw [View.canon_cons_unit_zero (S := S1x1x704) hz3, View.readCov_unit_zero (S := S1x1x704) _ hz3]

theorem db_B (h : ¬cond0_0 i) (h' : ¬cond0_1 i) :
    out0_B_10 c i a2 h2 a3 h3 a4 h4 a5 h5 a6 h6 a7 h7 a8 h8 a9 h9 a10 h10 a11 h11 a12 h12 h h' x0 x1 x2 x3 x4 x5 x6 x7 xo9 xo10
      = k0_pay1 (k0_pay21 (k0_pay15 (slope i x0 x1 x2 x3 x4 x5 x6 x7))) (k0_pay23 xo10) := by
  unfold out0_B_10
  rw [View.read_writes_eq_canon _ _ _ (cover0_B_10 c i a2 h2 a3 h3 a4 h4 a5 h5 a6 h6 a7 h7 a8 h8 a9 h9 a10 h10 a11 h11 a12 h12 h h' x0 x1 x2 x3 x4 x5 x6 x7 xo9 xo10)]
  unfold kernelRun0_B
  dsimp only
  sl_unfold_words
  simp only [View.readAt_eq_ld, h2.read_unread, h3.read_unread, h4.read_unread, h5.read_unread, h6.read_unread, h7.read_unread,
    h8.read_unread, h9.read_unread, h11.read_unread, h12.read_unread, View.ld_unit_zero (S := S2x1x16x704) hz4, View.ld_unit_zero (S := S2x1x256x704) hz4,
    View.ld_unit_zero (S := S1x16x704) hz3, View.ld_unit_zero (S := S1x256x704) hz3, View.ld_unit_zero (S := S1x1x704) hz3]
  rw [View.canon_unit_zero (S := S1x1x704) hz3]

end Pieces

/-! ### What the pieces compute -/

/-- The comparisons of the second grid coordinate, as conditions on the number. -/
theorem first_word : ∀ k : Fin 32, Scalar.cmpi .eq (BitVec.ofNat 32 k.val) 0#32 = if k.val = 0 then 1#1 else 0#1 := by decide
theorem last_word : ∀ k : Fin 32, Scalar.cmpi .eq (BitVec.ofNat 32 k.val) 31#32 = if k.val = 31 then 1#1 else 0#1 := by decide

/-- The staged rows of `u`: sixteen before, the tile, sixteen after. -/
theorem u_apply (i : grid0.Coords) (v1 v6 : Vec Ideal S2x1x16x704 .f32) (v10 : Vec Ideal S2x1x256x704 .f32)
    (p : Fin 2) (r : Fin 288) (q : Fin 704) :
    k0_pay2 i v1 v6 v10 (ix3 p r q)
      = if h : r.val < 16 then (if (i 1).val = 0 then 0 else v1 (ix4 p 0 ⟨r.val, h⟩ q))
        else if h' : r.val - 16 < 256 then v10 (ix4 p 0 ⟨r.val - 16, h'⟩ q)
        else (if (i 1).val = 31 then 0 else v6 (ix4 p 0 ⟨r.val - 16 - 256, by omega⟩ q)) := by
  pointwise [k0_pay2]
  rw [first_word (i 1), last_word (i 1)]
  by_cases h : r.val < 16
  · rw [dif_pos h, dif_pos h]
    by_cases h0 : (i 1).val = 0
    · rw [if_pos h0, if_pos h0]; rfl
    · rw [if_neg h0, if_neg h0]; rfl
  · rw [dif_neg h, dif_neg h]
    by_cases h' : r.val - 16 < 256
    · rw [dif_pos h', dif_pos h']
    · rw [dif_neg h', dif_neg h']
      by_cases h0 : (i 1).val = 31
      · rw [if_pos h0, if_pos h0]; rfl
      · rw [if_neg h0, if_neg h0]; rfl

theorem g_apply (i : grid0.Coords) (v1 v6 : Vec Ideal S2x1x16x704 .f32) (v10 : Vec Ideal S2x1x256x704 .f32)
    (r : Fin 288) (q : Fin 704) : k0_pay3 i v1 v6 v10 (ix2 r q) = k0_pay2 i v1 v6 v10 (ix3 0 r q) := by
  pointwise [k0_pay3]

theorem v_apply (i : grid0.Coords) (v1 v6 : Vec Ideal S2x1x16x704 .f32) (v10 : Vec Ideal S2x1x256x704 .f32)
    (r : Fin 288) (q : Fin 704) : k0_pay4 i v1 v6 v10 (ix2 r q) = k0_pay2 i v1 v6 v10 (ix3 1 r q) := by
  pointwise [k0_pay4]

/-- The staged rows of the incoming gradient. -/
theorem z_apply (i : grid0.Coords) (x3 x5 : Vec Ideal S1x16x704 .f32) (x4 : Vec Ideal S1x256x704 .f32) (r : Fin 288) (q : Fin 704) :
    k0_pay8 (k0_pay5 i x3) (k0_pay6 i x5) (k0_pay7 x4) (ix2 r q)
      = if h : r.val < 16 then (if (i 1).val = 0 then 0 else x3 (ix3 0 ⟨r.val, h⟩ q))
        else if h' : r.val - 16 < 256 then x4 (ix3 0 ⟨r.val - 16, h'⟩ q)
        else (if (i 1).val = 31 then 0 else x5 (ix3 0 ⟨r.val - 16 - 256, by omega⟩ q)) := by
  pointwise [k0_pay8, k0_pay5, k0_pay6, k0_pay7]
  rw [first_word (i 1), last_word (i 1)]
  by_cases h : r.val < 16
  · rw [dif_pos h, dif_pos h]
    by_cases h0 : (i 1).val = 0
    · rw [if_pos h0, if_pos h0]; rfl
    · rw [if_neg h0, if_neg h0]; rfl
  · rw [dif_neg h, dif_neg h]
    by_cases h' : r.val - 16 < 256
    · rw [dif_pos h', dif_pos h']
    · rw [dif_neg h', dif_neg h']
      by_cases h0 : (i 1).val = 31
      · rw [if_pos h0, if_pos h0]; rfl
      · rw [if_neg h0, if_neg h0]; rfl

/-- Rotations by one row, either way, on rows that do not wrap around. -/
theorem back_one (r : Fin 288) (h : 1 ≤ r.val) : (⟨(r.val + 288 - 1) % 288, Nat.mod_lt _ (by norm_num)⟩ : Fin 288) = ⟨r.val - 1, by omega⟩ :=
  Fin.ext (by dsimp only; omega)
theorem stay (r : Fin 288) : (⟨(r.val + 288) % 288, Nat.mod_lt _ (by norm_num)⟩ : Fin 288) = r :=
  Fin.ext (by dsimp only; omega)
theorem ahead_one (r : Fin 288) (h : r.val < 287) : (⟨(r.val + 288 - 287) % 288, Nat.mod_lt _ (by norm_num)⟩ : Fin 288) = ⟨r.val + 1, by omega⟩ :=
  Fin.ext (by dsimp only; omega)

/-- The convolution with its bias. -/
theorem conv_apply (G : FVec Ideal S288x704 .f32) (w0 w1 w2 b : Vec Ideal S1x1x704 .f32) (r : Fin 288) (h : 1 ≤ r.val ∧ r.val < 287) (q : Fin 704) :
    k0_pay9 G w0 w1 w2 b (ix2 r q)
      = w0 (ix3 0 0 q) * G (ix2 ⟨r.val - 1, by omega⟩ q) + w1 (ix3 0 0 q) * G (ix2 r q)
        + w2 (ix3 0 0 q) * G (ix2 ⟨r.val + 1, by omega⟩ q) + b (ix3 0 0 q) := by
  pointwise [k0_pay9]
  rw [back_one r h.1, stay r, ahead_one r h.2]

theorem sigmoid_apply (G : FVec Ideal S288x704 .f32) (w0 w1 w2 b : Vec Ideal S1x1x704 .f32) (r : Fin 288) (q : Fin 704) :
    k0_pay10 G w0 w1 w2 b (ix2 r q) = Ideal.logistic (k0_pay9 G w0 w1 w2 b (ix2 r q)) := by
  pointwise [k0_pay10]

/-- The derivative of the silu, times `a`. -/
def bend (a x : EReal) : EReal := a * (Ideal.logistic x * (1 + x * (1 - Ideal.logistic x)))

theorem slope_apply (G V : FVec Ideal S288x704 .f32) (z5 z6 : FVec Ideal S16x704 .f32) (z7 : FVec Ideal S256x704 .f32)
    (w0 w1 w2 b : Vec Ideal S1x1x704 .f32) (r : Fin 288) (q : Fin 704) :
    k0_pay11 G V z5 z6 z7 w0 w1 w2 b (ix2 r q)
      = bend (k0_pay8 z5 z6 z7 (ix2 r q) * V (ix2 r q)) (k0_pay9 G w0 w1 w2 b (ix2 r q)) := by
  have hs := sigmoid_apply G w0 w1 w2 b r q
  unfold bend
  pointwise [k0_pay11]
  rw [hs]

theorem first_apply (G V : FVec Ideal S288x704 .f32) (z5 z6 : FVec Ideal S16x704 .f32) (z7 : FVec Ideal S256x704 .f32)
    (w0 w1 w2 b v60 : Vec Ideal S1x1x704 .f32) (r : Fin 288) (h : r.val < 287) (q : Fin 704) :
    k0_pay12 G V z5 z6 z7 w0 w1 w2 b v60 (ix2 r q)
      = v60 (ix3 0 0 q) * k0_pay11 G V z5 z6 z7 w0 w1 w2 b (ix2 ⟨r.val + 1, by omega⟩ q) := by
  pointwise [k0_pay12]
  rw [ahead_one r h]

theorem rest_apply (D A : FVec Ideal S288x704 .f32) (w1 w2 : Vec Ideal S1x1x704 .f32) (r : Fin 256) (q : Fin 704) :
    k0_pay13 D A w1 w2 (ix4 0 0 r q)
      = A (ix2 ⟨16 + r.val, by omega⟩ q) + w1 (ix3 0 0 q) * D (ix2 ⟨16 + r.val, by omega⟩ q)
        + w2 (ix3 0 0 q) * D (ix2 ⟨15 + r.val, by omega⟩ q) := by
  pointwise [k0_pay13]
  rw [stay ⟨16 + r.val, by omega⟩, back_one ⟨16 + r.val, by omega⟩ (by dsimp only; omega)]
  exact congrArg (fun s => _ + w2 (ix3 0 0 q) * D (ix2 s q)) (Fin.ext (by dsimp only; omega))

theorem second_apply (z x y : FVec Ideal S288x704 .f32) (r : Fin 256) (q : Fin 704) :
    k0_pay14 z x y (ix4 0 0 r q)
      = z (ix2 ⟨16 + r.val, by omega⟩ q) * x (ix2 ⟨16 + r.val, by omega⟩ q) * y (ix2 ⟨16 + r.val, by omega⟩ q) := by
  pointwise [k0_pay14]

theorem core_apply (D : FVec Ideal S288x704 .f32) (r : Fin 256) (q : Fin 704) :
    k0_pay15 D (ix2 r q) = D (ix2 ⟨16 + r.val, by omega⟩ q) := by
  pointwise [k0_pay15]

theorem zero_apply (k : Fin 3) (q : Fin 704) : k0_pay16 (F := Ideal) (ix3 0 k q) = 0 := by
  pointwise [k0_pay16]

theorem zero'_apply (q : Fin 704) : k0_pay22 (F := Ideal) (ix3 0 0 q) = 0 := by
  pointwise [k0_pay22]

theorem tap0_apply (D G : FVec Ideal S288x704 .f32) (y : Vec Ideal S1x1x704 .f32) (q : Fin 704) :
    k0_pay18 (k0_pay17 G D y) (ix3 0 0 q)
      = y (ix3 0 0 q) + ∑ r : Fin 256, D (ix2 ⟨16 + r.val, by omega⟩ q) * G (ix2 ⟨15 + r.val, by omega⟩ q) := by
  pointwise [k0_pay18, k0_pay17, k0_pay15]
  refine congrArg (y (ix3 0 0 q) + ·) (Finset.sum_congr rfl fun x _ => ?_)
  exact congrArg (fun s => D (ix2 ⟨16 + x.val, by omega⟩ q) * G (ix2 s q)) (Fin.ext (by dsimp only; omega))

theorem tap1_apply (D G : FVec Ideal S288x704 .f32) (y : Vec Ideal S1x1x704 .f32) (q : Fin 704) :
    k0_pay19 G (k0_pay15 D) y (ix3 0 0 q)
      = y (ix3 0 0 q) + ∑ r : Fin 256, D (ix2 ⟨16 + r.val, by omega⟩ q) * G (ix2 ⟨16 + r.val, by omega⟩ q) := by
  pointwise [k0_pay19, k0_pay15]
  refine congrArg (y (ix3 0 0 q) + ·) (Finset.sum_congr rfl fun x _ => ?_)
  exact congrArg (fun s => D (ix2 ⟨16 + x.val, by omega⟩ q) * G (ix2 s q)) (Fin.ext (by dsimp only; omega))

theorem tap2_apply (D G : FVec Ideal S288x704 .f32) (y : Vec Ideal S1x1x704 .f32) (q : Fin 704) :
    k0_pay20 G (k0_pay15 D) y (ix3 0 0 q)
      = y (ix3 0 0 q) + ∑ r : Fin 256, D (ix2 ⟨16 + r.val, by omega⟩ q) * G (ix2 ⟨17 + r.val, by omega⟩ q) := by
  pointwise [k0_pay20, k0_pay15]
  refine congrArg (y (ix3 0 0 q) + ·) (Finset.sum_congr rfl fun x _ => ?_)
  exact congrArg (fun s => D (ix2 ⟨16 + x.val, by omega⟩ q) * G (ix2 s q)) (Fin.ext (by dsimp only; omega))

theorem bias_apply (D : FVec Ideal S288x704 .f32) (y : Vec Ideal S1x1x704 .f32) (q : Fin 704) :
    k0_pay1 (k0_pay21 (k0_pay15 D)) (k0_pay23 y) (ix3 0 0 q)
      = y (ix3 0 0 q) + ∑ r : Fin 256, D (ix2 ⟨16 + r.val, by omega⟩ q) := by
  pointwise [k0_pay1, k0_pay21, k0_pay23, k0_pay15]

/-- A row of the second output block: what it held and the point's sum. -/
theorem taps_apply (D G : FVec Ideal S288x704 .f32) (xo : Vec Ideal S1x3x704 .f32) (L : List (View.Piece (Elt Ideal) S1x3x704 .f32))
    (k : Fin 3) (q : Fin 704) :
    taps D G xo L (ix3 0 k q)
      = xo (ix3 0 k q) + ∑ r : Fin 256, D (ix2 ⟨16 + r.val, by omega⟩ q) * G (ix2 ⟨15 + k.val + r.val, by omega⟩ q) := by
  unfold taps
  have hk : k = 0 ∨ k = 1 ∨ k = 2 := by omega
  rcases hk with rfl | rfl | rfl
  · refine (row_skip 2 0 (by decide) _ _ _ q).trans ((row_skip 1 0 (by decide) _ _ _ q).trans ((row_here 0 0 rfl _ _ _ q).trans ((tap0_apply D G _ q).trans ?_)))
    rw [row_load 0 0 rfl]
    rfl
  · refine (row_skip 2 1 (by decide) _ _ _ q).trans ((row_here 1 1 rfl _ _ _ q).trans ((tap1_apply D G _ q).trans ?_))
    rw [row_load 1 1 rfl]
    rfl
  · refine (row_here 2 2 rfl _ _ _ q).trans ((tap2_apply D G _ q).trans ?_)
    rw [row_load 2 2 rfl]
    rfl

theorem planes_zero (P Q : Vec Ideal S1x1x256x704 .bf16) (r : Fin 256) (q : Fin 704) : planes P Q (ix4 0 0 r q) = Q (ix4 0 0 r q) :=
  plane_zero P Q _ _ r q

theorem planes_one (P Q : Vec Ideal S1x1x256x704 .bf16) (r : Fin 256) (q : Fin 704) : planes P Q (ix4 1 0 r q) = P (ix4 0 0 r q) :=
  plane_one P _ _ r q

end Cert.Proof.MidBwd

end
-- ==== Proof.MidBwdArr.lean ====
/-
  The arrays that the backward of the convolution and gate leaves: the gradient of both planes, row by
  row, and the gradients of the taps and of the bias, summed over the tiles of a block.
-/
module

public import proofs.«01_k».proof.Proof.MidBwdPoint

@[expose] public section

set_option maxRecDepth 16384

noncomputable section

namespace Cert.Proof.MidBwd

open Idealize.ShloMosaic Idealize.ShloMosaic.TcCoe Idealize.SL.Sem
open Cert.MidBwdIdeal Cert.MidBwdIdeal.Gen
open Idealize.ShloMosaic.Pipeline (Dat)
open scoped BigOperators

/-! ### The gradients, as functions of the arguments -/

/-- Row `n - 2` of a column, zero before its first row and after its last. -/
def pad (f : Fin 8192 → EReal) (n : ℕ) : EReal := if h : 2 ≤ n ∧ n < 8194 then f ⟨n - 2, by omega⟩ else 0

theorem pad_row (f : Fin 8192 → EReal) (s : Fin 8192) : pad f (s.val + 2) = f s := by
  unfold pad
  rw [dif_pos ⟨by omega, by omega⟩]
  exact congrArg f (Fin.ext (by dsimp only; omega))

/-- A column of a plane of `u`, and one of the incoming gradient. -/
def col (x0 : S2x4x8192x704.Idx → EReal) (p : Fin 2) (j : Fin 4) (q : Fin 704) : ℕ → EReal := pad fun s => x0 (ix4 p j s q)
def grad (x1 : S4x8192x704.Idx → EReal) (j : Fin 4) (q : Fin 704) : ℕ → EReal := pad fun s => x1 (ix3 j s q)

section Spec

variable (x0 : S2x4x8192x704.Idx → EReal) (x1 : S4x8192x704.Idx → EReal) (x2 : S4x3x704.Idx → EReal) (x3 : S4x1x704.Idx → EReal)

/-- The convolution with its bias, centred at padded row `n + 1`. -/
def conv (j : Fin 4) (q : Fin 704) (n : ℕ) : EReal :=
  x2 (ix3 j 0 q) * col x0 0 j q n + x2 (ix3 j 1 q) * col x0 0 j q (n + 1) + x2 (ix3 j 2 q) * col x0 0 j q (n + 2) + x3 (ix3 j 0 q)

/-- The gradient at the convolution's result there. -/
def dconv (j : Fin 4) (q : Fin 704) (n : ℕ) : EReal :=
  bend (grad x1 j q (n + 1) * col x0 1 j q (n + 1)) (conv x0 x2 x3 j q n)

/-- The gradient of `u`. -/
def du : S2x4x8192x704.Idx → EReal := fun i =>
  if (i 0).val = 0 then
    x2 (ix3 (i 1) 0 (i 3)) * dconv x0 x1 x2 x3 (i 1) (i 3) ((i 2).val + 2) + x2 (ix3 (i 1) 1 (i 3)) * dconv x0 x1 x2 x3 (i 1) (i 3) ((i 2).val + 1)
      + x2 (ix3 (i 1) 2 (i 3)) * dconv x0 x1 x2 x3 (i 1) (i 3) (i 2).val
  else
    grad x1 (i 1) (i 3) ((i 2).val + 2) * conv x0 x2 x3 (i 1) (i 3) ((i 2).val + 1) * Ideal.logistic (conv x0 x2 x3 (i 1) (i 3) ((i 2).val + 1))

/-- What a row adds to the gradient of a tap, and to the gradient of the bias. -/
def term (j : Fin 4) (k : Fin 3) (q : Fin 704) (s : ℕ) : EReal := dconv x0 x1 x2 x3 j q (s + 1) * col x0 0 j q (s + 1 + k.val)
def term' (j : Fin 4) (q : Fin 704) (s : ℕ) : EReal := dconv x0 x1 x2 x3 j q (s + 1)

/-- The gradients of the taps and of the bias. -/
def dw : S4x3x704.Idx → EReal := fun i => ∑ s ∈ Finset.range 8192, term x0 x1 x2 x3 (i 0) (i 1) (i 2) s
def db : S4x1x704.Idx → EReal := fun i => ∑ s ∈ Finset.range 8192, term' x0 x1 x2 x3 (i 0) (i 2) s

end Spec

/-! ### What a point reads -/

section Array

variable (m : (ℓ : Loc nD τ sig) → Buf (Elt Ideal) ℓ) (c : Dev nD)

theorem idx0 : ∀ t : Fin cfg0.N, win0_0.index t (0 : Fin 4) = 0
    ∧ win0_0.index t (1 : Fin 4) = t.val / 32
    ∧ win0_0.index t (2 : Fin 4) = 16 * (t.val % 32) - 1
    ∧ win0_0.index t (3 : Fin 4) = 0 :=
  (by decide +kernel : ∀ t : Fin grid0.N, _)
theorem idx1 : ∀ t : Fin cfg0.N, win0_1.index t (0 : Fin 4) = 0
    ∧ win0_1.index t (1 : Fin 4) = t.val / 32
    ∧ win0_1.index t (2 : Fin 4) = t.val % 32
    ∧ win0_1.index t (3 : Fin 4) = 0 :=
  (by decide +kernel : ∀ t : Fin grid0.N, _)
theorem idx2 : ∀ t : Fin cfg0.N, win0_2.index t (0 : Fin 4) = 0
    ∧ win0_2.index t (1 : Fin 4) = t.val / 32
    ∧ win0_2.index t (2 : Fin 4) = min (16 * (t.val % 32) + 16) 511
    ∧ win0_2.index t (3 : Fin 4) = 0 :=
  (by decide +kernel : ∀ t : Fin grid0.N, _)
theorem idx3 : ∀ t : Fin cfg0.N, win0_3.index t (0 : Fin 3) = t.val / 32
    ∧ win0_3.index t (1 : Fin 3) = 16 * (t.val % 32) - 1
    ∧ win0_3.index t (2 : Fin 3) = 0 :=
  (by decide +kernel : ∀ t : Fin grid0.N, _)
theorem idx4 : ∀ t : Fin cfg0.N, win0_4.index t (0 : Fin 3) = t.val / 32
    ∧ win0_4.index t (1 : Fin 3) = t.val % 32
    ∧ win0_4.index t (2 : Fin 3) = 0 :=
  (by decide +kernel : ∀ t : Fin grid0.N, _)
theorem idx5 : ∀ t : Fin cfg0.N, win0_5.index t (0 : Fin 3) = t.val / 32
    ∧ win0_5.index t (1 : Fin 3) = min (16 * (t.val % 32) + 16) 511
    ∧ win0_5.index t (2 : Fin 3) = 0 :=
  (by decide +kernel : ∀ t : Fin grid0.N, _)
theorem idx6 : ∀ t : Fin cfg0.N, win0_6.index t (0 : Fin 3) = t.val / 32
    ∧ win0_6.index t (1 : Fin 3) = 0
    ∧ win0_6.index t (2 : Fin 3) = 0 :=
  (by decide +kernel : ∀ t : Fin grid0.N, _)
theorem idx7 : ∀ t : Fin cfg0.N, win0_7.index t (0 : Fin 3) = t.val / 32
    ∧ win0_7.index t (1 : Fin 3) = 0
    ∧ win0_7.index t (2 : Fin 3) = 0 :=
  (by decide +kernel : ∀ t : Fin grid0.N, _)
theorem idx8 : ∀ t : Fin cfg0.N, win0_8.index t (0 : Fin 4) = 0
    ∧ win0_8.index t (1 : Fin 4) = t.val / 32
    ∧ win0_8.index t (2 : Fin 4) = t.val % 32
    ∧ win0_8.index t (3 : Fin 4) = 0 :=
  (by decide +kernel : ∀ t : Fin grid0.N, _)
theorem idx9 : ∀ t : Fin cfg0.N, win0_9.index t (0 : Fin 3) = t.val / 32
    ∧ win0_9.index t (1 : Fin 3) = 0
    ∧ win0_9.index t (2 : Fin 3) = 0 :=
  (by decide +kernel : ∀ t : Fin grid0.N, _)
theorem idx10 : ∀ t : Fin cfg0.N, win0_10.index t (0 : Fin 3) = t.val / 32
    ∧ win0_10.index t (1 : Fin 3) = 0
    ∧ win0_10.index t (2 : Fin 3) = 0 :=
  (by decide +kernel : ∀ t : Fin grid0.N, _)
theorem coord : ∀ t : Fin cfg0.N, (grid0.coords t 1).val = t.val % 32 :=
  (by decide +kernel : ∀ t : Fin grid0.N, _)

theorem lt_N (t : Fin cfg0.N) : t.val < 4 * 32 := by have := t.isLt; have h : cfg0.N = 4 * 32 := N_0; omega

/-- The call's four arguments, as it finds them. -/
abbrev U : S2x4x8192x704.Idx → EReal := m ((c : Thread nD τ).loc main_arg0)
abbrev Z : S4x8192x704.Idx → EReal := m ((c : Thread nD τ).loc main_arg1)
abbrev W : S4x3x704.Idx → EReal := m ((c : Thread nD τ).loc main_arg2)
abbrev Bias : S4x1x704.Idx → EReal := m ((c : Thread nD τ).loc main_arg3)

/-- The block of a grid point. -/
def blockOf (t : Fin cfg0.N) : Fin 4 := ⟨t.val / 32, by have := lt_N t; omega⟩

theorem u_before (t : Fin cfg0.N) (p : Fin 2) (r : Fin 16) (q : Fin 704) :
    (iblk m c 0 t : Vec Ideal S2x1x16x704 .f32) (ix4 p 0 r q) = U m c (ix4 p (blockOf t) ⟨16 * (16 * (t.val % 32) - 1) + r.val, by omega⟩ q) :=
  have e : (blockOf t).val = t.val / 32 := rfl
  congrArg (U m c) (put4 (idx0 t) 2 p 1 0 16 r 704 q)

theorem u_here (t : Fin cfg0.N) (p : Fin 2) (r : Fin 256) (q : Fin 704) :
    (iblk m c 1 t : Vec Ideal S2x1x256x704 .f32) (ix4 p 0 r q) = U m c (ix4 p (blockOf t) ⟨256 * (t.val % 32) + r.val, by omega⟩ q) :=
  have e : (blockOf t).val = t.val / 32 := rfl
  congrArg (U m c) (put4 (idx1 t) 2 p 1 0 256 r 704 q)

theorem u_after (t : Fin cfg0.N) (p : Fin 2) (r : Fin 16) (q : Fin 704) :
    (iblk m c 2 t : Vec Ideal S2x1x16x704 .f32) (ix4 p 0 r q) = U m c (ix4 p (blockOf t) ⟨16 * min (16 * (t.val % 32) + 16) 511 + r.val, by omega⟩ q) :=
  have e : (blockOf t).val = t.val / 32 := rfl
  congrArg (U m c) (put4 (idx2 t) 2 p 1 0 16 r 704 q)

theorem z_before (t : Fin cfg0.N) (r : Fin 16) (q : Fin 704) :
    (iblk m c 3 t : Vec Ideal S1x16x704 .f32) (ix3 0 r q) = Z m c (ix3 (blockOf t) ⟨16 * (16 * (t.val % 32) - 1) + r.val, by omega⟩ q) :=
  have e : (blockOf t).val = t.val / 32 := rfl
  congrArg (Z m c) (put3 (idx3 t) 1 0 16 r 704 q)

theorem z_here (t : Fin cfg0.N) (r : Fin 256) (q : Fin 704) :
    (iblk m c 4 t : Vec Ideal S1x256x704 .f32) (ix3 0 r q) = Z m c (ix3 (blockOf t) ⟨256 * (t.val % 32) + r.val, by omega⟩ q) :=
  have e : (blockOf t).val = t.val / 32 := rfl
  congrArg (Z m c) (put3 (idx4 t) 1 0 256 r 704 q)

theorem z_after (t : Fin cfg0.N) (r : Fin 16) (q : Fin 704) :
    (iblk m c 5 t : Vec Ideal S1x16x704 .f32) (ix3 0 r q) = Z m c (ix3 (blockOf t) ⟨16 * min (16 * (t.val % 32) + 16) 511 + r.val, by omega⟩ q) :=
  have e : (blockOf t).val = t.val / 32 := rfl
  congrArg (Z m c) (put3 (idx5 t) 1 0 16 r 704 q)

theorem w_here (t : Fin cfg0.N) (k : Fin 3) (q : Fin 704) :
    (iblk m c 6 t : Vec Ideal S1x3x704 .f32) (ix3 0 k q) = W m c (ix3 (blockOf t) k q) :=
  have e : (blockOf t).val = t.val / 32 := rfl
  congrArg (W m c) (put3 (idx6 t) 1 0 3 k 704 q)

theorem b_here (t : Fin cfg0.N) (q : Fin 704) :
    (iblk m c 7 t : Vec Ideal S1x1x704 .f32) (ix3 0 0 q) = Bias m c (ix3 (blockOf t) 0 q) :=
  have e : (blockOf t).val = t.val / 32 := rfl
  congrArg (Bias m c) (put3 (idx7 t) 1 0 1 0 704 q)

/-- The staged rows of a point are padded rows of the whole array. -/
theorem u_pt (t : Fin cfg0.N) (p : Fin 2) (r : Fin 288) (h : 14 ≤ r.val ∧ r.val < 274) (q : Fin 704) :
    k0_pay2 (grid0.coords t) (iblk m c 0 t) (iblk m c 2 t) (iblk m c 1 t) (ix3 p r q)
      = col (U m c) p (blockOf t) q (256 * (t.val % 32) + r.val - 14) := by
  rw [u_apply]
  have hc := coord t
  have ht := lt_N t
  unfold col pad
  by_cases h1 : r.val < 16
  · rw [dif_pos h1]
    by_cases h0 : (grid0.coords t 1).val = 0
    · rw [if_pos h0, dif_neg (by omega)]
    · rw [if_neg h0, dif_pos (by omega), u_before]
      exact congrArg (fun s => U m c (ix4 p (blockOf t) s q)) (Fin.ext (by dsimp only; omega))
  · rw [dif_neg h1]
    by_cases h2 : r.val - 16 < 256
    · rw [dif_pos h2, dif_pos (by omega), u_here]
      exact congrArg (fun s => U m c (ix4 p (blockOf t) s q)) (Fin.ext (by dsimp only; omega))
    · rw [dif_neg h2]
      by_cases h0 : (grid0.coords t 1).val = 31
      · rw [if_pos h0, dif_neg (by omega)]
      · rw [if_neg h0, dif_pos (by omega), u_after]
        exact congrArg (fun s => U m c (ix4 p (blockOf t) s q)) (Fin.ext (by dsimp only; omega))

theorem z_pt (t : Fin cfg0.N) (r : Fin 288) (h : 14 ≤ r.val ∧ r.val < 274) (q : Fin 704) :
    k0_pay8 (F := Ideal) (k0_pay5 (grid0.coords t) (iblk m c 3 t)) (k0_pay6 (grid0.coords t) (iblk m c 5 t)) (k0_pay7 (iblk m c 4 t)) (ix2 r q)
      = grad (Z m c) (blockOf t) q (256 * (t.val % 32) + r.val - 14) := by
  rw [z_apply]
  have hc := coord t
  have ht := lt_N t
  unfold grad pad
  by_cases h1 : r.val < 16
  · rw [dif_pos h1]
    by_cases h0 : (grid0.coords t 1).val = 0
    · rw [if_pos h0, dif_neg (by omega)]
    · rw [if_neg h0, dif_pos (by omega), z_before]
      exact congrArg (fun s => Z m c (ix3 (blockOf t) s q)) (Fin.ext (by dsimp only; omega))
  · rw [dif_neg h1]
    by_cases h2 : r.val - 16 < 256
    · rw [dif_pos h2, dif_pos (by omega), z_here]
      exact congrArg (fun s => Z m c (ix3 (blockOf t) s q)) (Fin.ext (by dsimp only; omega))
    · rw [dif_neg h2]
      by_cases h0 : (grid0.coords t 1).val = 31
      · rw [if_pos h0, dif_neg (by omega)]
      · rw [if_neg h0, dif_pos (by omega), z_after]
        exact congrArg (fun s => Z m c (ix3 (blockOf t) s q)) (Fin.ext (by dsimp only; omega))

theorem conv_pt (t : Fin cfg0.N) (r : Fin 288) (h : 15 ≤ r.val ∧ r.val < 273) (q : Fin 704) :
    k0_pay9 (F := Ideal) (k0_pay3 (grid0.coords t) (iblk m c 0 t) (iblk m c 2 t) (iblk m c 1 t)) (tap0 (iblk m c 6 t)) (tap1 (iblk m c 6 t))
        (tap2 (iblk m c 6 t)) (iblk m c 7 t) (ix2 r q)
      = conv (U m c) (W m c) (Bias m c) (blockOf t) q (256 * (t.val % 32) + r.val - 15) := by
  rw [conv_apply _ _ _ _ _ r ⟨by omega, by omega⟩, g_apply, g_apply, g_apply, u_pt m c t 0 _ (by dsimp only; omega), u_pt m c t 0 r (by omega),
    u_pt m c t 0 _ (by dsimp only; omega), b_here]
  rw [show tap0 (F := Ideal) (iblk m c 6 t) (ix3 0 0 q) = _ from row_load 0 0 rfl _ _ q, show tap1 (F := Ideal) (iblk m c 6 t) (ix3 0 0 q) = _ from row_load 1 1 rfl _ _ q,
    show tap2 (F := Ideal) (iblk m c 6 t) (ix3 0 0 q) = _ from row_load 2 2 rfl _ _ q, w_here, w_here, w_here]
  dsimp only
  rw [show 256 * (t.val % 32) + (r.val - 1) - 14 = 256 * (t.val % 32) + r.val - 15 by omega,
    show 256 * (t.val % 32) + r.val - 14 = 256 * (t.val % 32) + r.val - 15 + 1 by omega,
    show 256 * (t.val % 32) + (r.val + 1) - 14 = 256 * (t.val % 32) + r.val - 15 + 2 by omega]
  rfl

/-- The gradient at the convolution's result, as a point holds it. -/
abbrev slopeAt (t : Fin cfg0.N) : FVec Ideal S288x704 .f32 :=
  slope (grid0.coords t) (iblk m c 0 t) (iblk m c 1 t) (iblk m c 2 t) (iblk m c 3 t) (iblk m c 4 t) (iblk m c 5 t) (iblk m c 6 t) (iblk m c 7 t)

theorem slope_pt (t : Fin cfg0.N) (r : Fin 288) (h : 15 ≤ r.val ∧ r.val < 273) (q : Fin 704) :
    slopeAt m c t (ix2 r q) = dconv (U m c) (Z m c) (W m c) (Bias m c) (blockOf t) q (256 * (t.val % 32) + r.val - 15) := by
  unfold slopeAt slope
  rw [slope_apply, v_apply, z_pt m c t r (by omega), u_pt m c t 1 r (by omega), conv_pt m c t r h,
    show 256 * (t.val % 32) + r.val - 14 = 256 * (t.val % 32) + r.val - 15 + 1 by omega]
  rfl

/-! ### The first output: written tile by tile -/

theorem first_pt (t : Fin cfg0.N) (r : Fin 256) (q : Fin 704) (hs : 256 * (t.val % 32) + r.val < 8192) :
    first (grid0.coords t) (iblk m c 0 t) (iblk m c 1 t) (iblk m c 2 t) (iblk m c 3 t) (iblk m c 4 t) (iblk m c 5 t) (iblk m c 6 t) (iblk m c 7 t) (ix4 0 0 r q)
      = du (U m c) (Z m c) (W m c) (Bias m c) (ix4 0 (blockOf t) ⟨256 * (t.val % 32) + r.val, hs⟩ q) := by
  unfold first
  rw [rest_apply, first_apply _ _ _ _ _ _ _ _ _ _ ⟨16 + r.val, by omega⟩ (by dsimp only; omega)]
  rw [show tap0 (F := Ideal) (iblk m c 6 t) (ix3 0 0 q) = _ from row_load 0 0 rfl _ _ q, show tap1 (F := Ideal) (iblk m c 6 t) (ix3 0 0 q) = _ from row_load 1 1 rfl _ _ q,
    show tap2 (F := Ideal) (iblk m c 6 t) (ix3 0 0 q) = _ from row_load 2 2 rfl _ _ q, w_here, w_here, w_here]
  have s2 := slope_pt m c t ⟨16 + r.val + 1, by omega⟩ (by dsimp only; omega) q
  have s1 := slope_pt m c t ⟨16 + r.val, by omega⟩ (by dsimp only; omega) q
  have s0 := slope_pt m c t ⟨15 + r.val, by omega⟩ (by dsimp only; omega) q
  refine (congrArg₂ (· + ·) (congrArg₂ (· + ·) (congrArg (W m c (ix3 (blockOf t) 0 q) * ·) s2) (congrArg (W m c (ix3 (blockOf t) 1 q) * ·) s1))
    (congrArg (W m c (ix3 (blockOf t) 2 q) * ·) s0)).trans ?_
  dsimp only
  rw [show 256 * (t.val % 32) + (16 + r.val + 1) - 15 = 256 * (t.val % 32) + r.val + 2 by omega,
    show 256 * (t.val % 32) + (16 + r.val) - 15 = 256 * (t.val % 32) + r.val + 1 by omega,
    show 256 * (t.val % 32) + (15 + r.val) - 15 = 256 * (t.val % 32) + r.val by omega]
  rfl

theorem second_pt (t : Fin cfg0.N) (r : Fin 256) (q : Fin 704) (hs : 256 * (t.val % 32) + r.val < 8192) :
    second (grid0.coords t) (iblk m c 0 t) (iblk m c 1 t) (iblk m c 2 t) (iblk m c 3 t) (iblk m c 4 t) (iblk m c 5 t) (iblk m c 6 t) (iblk m c 7 t) (ix4 0 0 r q)
      = du (U m c) (Z m c) (W m c) (Bias m c) (ix4 1 (blockOf t) ⟨256 * (t.val % 32) + r.val, hs⟩ q) := by
  unfold second
  rw [second_apply, sigmoid_apply, z_pt m c t _ (by dsimp only; omega), conv_pt m c t _ (by dsimp only; omega)]
  dsimp only
  rw [show 256 * (t.val % 32) + (16 + r.val) - 14 = 256 * (t.val % 32) + r.val + 2 by omega,
    show 256 * (t.val % 32) + (16 + r.val) - 15 = 256 * (t.val % 32) + r.val + 1 by omega]
  rfl

theorem flushed8 (t : Fin cfg0.N) :
    (dats m 0 c).flushed 8 t = ((cfg0.win 8).blk t).view.read (Elt Ideal) (du (U m c) (Z m c) (W m c) (Bias m c)) := by
  have ht := lt_N t
  obtain ⟨e0, e1, e2, e3⟩ := idx8 t
  have hc : (dats m 0 c).flushed 8 t = (cfg0.win 8).cut (grid0.coords t)
      (planes (second (grid0.coords t) (iblk m c 0 t) (iblk m c 1 t) (iblk m c 2 t) (iblk m c 3 t) (iblk m c 4 t) (iblk m c 5 t) (iblk m c 6 t) (iblk m c 7 t))
        (first (grid0.coords t) (iblk m c 0 t) (iblk m c 1 t) (iblk m c 2 t) (iblk m c 3 t) (iblk m c 4 t) (iblk m c 5 t) (iblk m c 6 t) (iblk m c 7 t))) := by
    by_cases h0 : t.val % 32 = 0
    · rw [Value.flushed8_A m c t h0 h0, du_A]
    · rw [Value.flushed8_B m c t h0 h0, du_B]
  rw [hc]
  funext j
  obtain ⟨p, r, q, rfl⟩ : ∃ (p : Fin 2) (r : Fin 256) (q : Fin 704), j = ix4 p 0 r q :=
    ⟨j 0, j 2, j 3, (eq_ix4 j).trans (congrArg (fun a : Fin 1 => ix4 (j 0) a (j 2) (j 3)) (Subsingleton.elim _ _))⟩
  show planes (F := Ideal) _ _ (ix4 p 0 r q) = du (U m c) (Z m c) (W m c) (Bias m c) (((cfg0.win 8).blk t).view.emb (ix4 p 0 r q))
  have he : ((cfg0.win 8).blk t).view.emb (ix4 p 0 r q) = ix4 p (blockOf t) ⟨256 * (t.val % 32) + r.val, by omega⟩ q :=
    have e : (blockOf t).val = t.val / 32 := rfl
    put4 (idx8 t) 2 p 1 0 256 r 704 q
  rw [he]
  have hp : p = 0 ∨ p = 1 := by omega
  rcases hp with rfl | rfl
  · rw [planes_zero]
    exact first_pt m c t r q _
  · rw [planes_one]
    exact second_pt m c t r q _

/-! ### The sums over a block's tiles -/

theorem step9 (t : Fin cfg0.N) (xo : Vec Ideal S1x3x704 .f32) (L : List (View.Piece (Elt Ideal) S1x3x704 .f32)) (k : Fin 3) (q : Fin 704) :
    taps (slopeAt m c t) (k0_pay3 (grid0.coords t) (iblk m c 0 t) (iblk m c 2 t) (iblk m c 1 t)) xo L (ix3 0 k q)
      = xo (ix3 0 k q) + ∑ s ∈ Finset.range 256, term (U m c) (Z m c) (W m c) (Bias m c) (blockOf t) k q (256 * (t.val % 32) + s) := by
  rw [taps_apply, ← Fin.sum_univ_eq_sum_range (fun s => term (U m c) (Z m c) (W m c) (Bias m c) (blockOf t) k q (256 * (t.val % 32) + s)) 256]
  refine congrArg _ (Finset.sum_congr rfl fun r _ => ?_)
  rw [slope_pt m c t _ (by dsimp only; omega), g_apply, u_pt m c t 0 _ (by dsimp only; omega)]
  unfold term
  dsimp only
  rw [show 256 * (t.val % 32) + (16 + r.val) - 15 = 256 * (t.val % 32) + r.val + 1 by omega,
    show 256 * (t.val % 32) + (15 + k.val + r.val) - 14 = 256 * (t.val % 32) + r.val + 1 + k.val by omega]

theorem step10 (t : Fin cfg0.N) (xo : Vec Ideal S1x1x704 .f32) (q : Fin 704) :
    k0_pay1 (k0_pay21 (k0_pay15 (slopeAt m c t))) (k0_pay23 xo) (ix3 0 0 q)
      = xo (ix3 0 0 q) + ∑ s ∈ Finset.range 256, term' (U m c) (Z m c) (W m c) (Bias m c) (blockOf t) q (256 * (t.val % 32) + s) := by
  rw [bias_apply, ← Fin.sum_univ_eq_sum_range (fun s => term' (U m c) (Z m c) (W m c) (Bias m c) (blockOf t) q (256 * (t.val % 32) + s)) 256]
  refine congrArg _ (Finset.sum_congr rfl fun r _ => ?_)
  rw [slope_pt m c t _ (by dsimp only; omega)]
  unfold term'
  dsimp only
  rw [show 256 * (t.val % 32) + (16 + r.val) - 15 = 256 * (t.val % 32) + r.val + 1 by omega]

/-- The two sums over the tiles of a block seen so far. -/
def Kept (t : Fin cfg0.N) : Prop :=
  (∀ k q, (outsAt0 m c t.val t.isLt).2.1 (ix3 0 k q)
      = ∑ s ∈ Finset.range (256 * (t.val % 32 + 1)), term (U m c) (Z m c) (W m c) (Bias m c) (blockOf t) k q s)
    ∧ ∀ q, (outsAt0 m c t.val t.isLt).2.2 (ix3 0 0 q)
      = ∑ s ∈ Finset.range (256 * (t.val % 32 + 1)), term' (U m c) (Z m c) (W m c) (Bias m c) (blockOf t) q s

theorem kept_first (t : Fin cfg0.N) (h0 : t.val % 32 = 0) : Kept m c t := by
  constructor
  · intro k q
    rw [outsAt0_A m c t h0 h0]
    dsimp only
    rw [dw_A, step9, zero_apply, zero_add, h0]
    exact Finset.sum_congr rfl fun s _ => congrArg _ (Nat.zero_add s)
  · intro q
    rw [outsAt0_A m c t h0 h0]
    dsimp only
    rw [db_A, step10, zero'_apply, zero_add, h0]
    exact Finset.sum_congr rfl fun s _ => congrArg _ (Nat.zero_add s)

theorem kept : ∀ (n : ℕ) (h : n < cfg0.N), Kept m c ⟨n, h⟩ := by
  intro n
  induction n with
  | zero => exact fun h => kept_first m c _ rfl
  | succ n ih =>
    intro h
    by_cases h0 : (n + 1) % 32 = 0
    · exact kept_first m c _ h0
    have hb : blockOf ⟨n, Nat.lt_of_succ_lt h⟩ = blockOf ⟨n + 1, h⟩ := Fin.ext (show n / 32 = (n + 1) / 32 by omega)
    have hm : (n + 1) % 32 = n % 32 + 1 := by omega
    obtain ⟨i9, i10⟩ := ih (Nat.lt_of_succ_lt h)
    rw [hb] at i9 i10
    constructor
    · intro k q
      rw [outsAt0_B m c ⟨n + 1, h⟩ h0 h0]
      dsimp only
      rw [dw_B, step9]
      dsimp only
      rw [hm, Nat.mul_add 256 (n % 32 + 1) 1, Nat.mul_one, Finset.sum_range_add]
      exact congrArg (· + _) (i9 k q)
    · intro q
      rw [outsAt0_B m c ⟨n + 1, h⟩ h0 h0]
      dsimp only
      rw [db_B, step10]
      dsimp only
      rw [hm, Nat.mul_add 256 (n % 32 + 1) 1, Nat.mul_one, Finset.sum_range_add]
      exact congrArg (· + _) (i10 q)

theorem emb9 (t : Fin cfg0.N) (k : Fin 3) (q : Fin 704) : ((cfg0.win 9).blk t).view.emb (ix3 0 k q) = ix3 (blockOf t) k q :=
  have e : (blockOf t).val = t.val / 32 := rfl
  put3 (idx9 t) 1 0 3 k 704 q

theorem emb10 (t : Fin cfg0.N) (q : Fin 704) : ((cfg0.win 10).blk t).view.emb (ix3 0 0 q) = ix3 (blockOf t) 0 q :=
  have e : (blockOf t).val = t.val / 32 := rfl
  put3 (idx10 t) 1 0 1 0 704 q

theorem flushed9 (t : Fin cfg0.N) (hf : (cfg0.win 9).flush t = true) :
    (dats m 0 c).flushed 9 t = ((cfg0.win 9).blk t).view.read (Elt Ideal) (dw (U m c) (Z m c) (W m c) (Bias m c)) := by
  have h31 : t.val % 32 = 31 := (flush0_9 t).mp hf
  rw [Value.flushed9]
  funext j
  obtain ⟨k, q, rfl⟩ : ∃ (k : Fin 3) (q : Fin 704), j = ix3 0 k q :=
    ⟨j 1, j 2, (eq_ix3 j).trans (congrArg (fun a : Fin 1 => ix3 a (j 1) (j 2)) (Subsingleton.elim _ _))⟩
  show (outsAt0 m c t.val t.isLt).2.1 (ix3 0 k q) = dw (U m c) (Z m c) (W m c) (Bias m c) (((cfg0.win 9).blk t).view.emb (ix3 0 k q))
  rw [emb9, (kept m c t.val t.isLt).1 k q]
  dsimp only
  rw [h31]
  rfl

theorem flushed10 (t : Fin cfg0.N) (hf : (cfg0.win 10).flush t = true) :
    (dats m 0 c).flushed 10 t = ((cfg0.win 10).blk t).view.read (Elt Ideal) (db (U m c) (Z m c) (W m c) (Bias m c)) := by
  have h31 : t.val % 32 = 31 := (flush0_10 t).mp hf
  rw [Value.flushed10]
  funext j
  obtain ⟨q, rfl⟩ : ∃ q : Fin 704, j = ix3 0 0 q :=
    ⟨j 2, (eq_ix3 j).trans (congrArg₂ (fun a b : Fin 1 => ix3 a b (j 2)) (Subsingleton.elim _ _) (Subsingleton.elim _ _))⟩
  show (outsAt0 m c t.val t.isLt).2.2 (ix3 0 0 q) = db (U m c) (Z m c) (W m c) (Bias m c) (((cfg0.win 10).blk t).view.emb (ix3 0 0 q))
  rw [emb10, (kept m c t.val t.isLt).2 q]
  dsimp only
  rw [h31]
  rfl

/-! ### The arrays -/

/-- The point that writes a row back, and the last point of a block. -/
def pt (i : S2x4x8192x704.Idx) : Fin cfg0.N :=
  ⟨32 * (i 1).val + (i 2).val / 256, by
    have h0 : (i 1).val < 4 := (i 1).isLt
    have h1 : (i 2).val < 8192 := (i 2).isLt
    have h : cfg0.N = 4 * 32 := N_0
    omega⟩
def lastPt (j : Fin 4) : Fin cfg0.N := ⟨32 * j.val + 31, by have h : cfg0.N = 4 * 32 := N_0; omega⟩

theorem last_block (j : Fin 4) : blockOf (lastPt j) = j := Fin.ext (show (32 * j.val + 31) / 32 = j.val by omega)

theorem cover8 (i : S2x4x8192x704.Idx) : ∃ t : Fin cfg0.N, (cfg0.win 8).flush t = true ∧ i ∈ ((cfg0.win 8).blk t).view.set := by
  refine ⟨pt i, flush0_8 _, mem_at _ (ix4 (i 0) 0 ⟨(i 2).val % 256, Nat.mod_lt _ (by norm_num)⟩ (i 3) : S2x1x256x704.Idx) ?_⟩
  have h1 : (i 2).val < 8192 := (i 2).isLt
  have hp : (pt i).val = 32 * (i 1).val + (i 2).val / 256 := rfl
  exact (put4 (a := i 0) (b := i 1) (c := i 2) (d := i 3) (idx8 (pt i)) 2 (i 0).val 1 0 256 ((i 2).val % 256) 704 (i 3).val).trans (eq_ix4 i).symm

theorem cover9 (i : S4x3x704.Idx) : ∃ t : Fin cfg0.N, (cfg0.win 9).flush t = true ∧ i ∈ ((cfg0.win 9).blk t).view.set := by
  refine ⟨lastPt (i 0), (flush0_9 _).mpr (show (32 * (i 0).val + 31) % 32 = 31 by omega), ?_⟩
  have h := ((cfg0.win 9).blk (lastPt (i 0))).view.emb_mem_set (ix3 0 (i 1) (i 2) : S1x3x704.Idx)
  have he : ((cfg0.win 9).blk (lastPt (i 0))).view.emb (ix3 0 (i 1) (i 2) : S1x3x704.Idx) = i :=
    (emb9 (lastPt (i 0)) (i 1) (i 2)).trans ((congrArg (fun a => ix3 a (i 1) (i 2)) (last_block (i 0))).trans (eq_ix3 i).symm)
  exact (congrArg (· ∈ ((cfg0.win 9).blk (lastPt (i 0))).view.set) he).mp h

theorem cover10 (i : S4x1x704.Idx) : ∃ t : Fin cfg0.N, (cfg0.win 10).flush t = true ∧ i ∈ ((cfg0.win 10).blk t).view.set := by
  refine ⟨lastPt (i 0), (flush0_10 _).mpr (show (32 * (i 0).val + 31) % 32 = 31 by omega), ?_⟩
  have h := ((cfg0.win 10).blk (lastPt (i 0))).view.emb_mem_set (ix3 0 0 (i 2) : S1x1x704.Idx)
  have hi : ix3 (i 0) (0 : Fin 1) (i 2) = i := (congrArg (fun a : Fin 1 => ix3 (i 0) a (i 2)) (Subsingleton.elim _ _)).trans (eq_ix3 i).symm
  have he : ((cfg0.win 10).blk (lastPt (i 0))).view.emb (ix3 0 0 (i 2) : S1x1x704.Idx) = i :=
    (emb10 (lastPt (i 0)) (i 2)).trans ((congrArg (fun a => ix3 a (0 : Fin 1) (i 2)) (last_block (i 0))).trans hi)
  exact (congrArg (· ∈ ((cfg0.win 10).blk (lastPt (i 0))).view.set) he).mp h

theorem final8 : (dats m 0 c).arrAt 8 cfg0.N = du (U m c) (Z m c) (W m c) (Bias m c) :=
  (dats m 0 c).arrAt_eq_of_cover 8 _ (fun t _ => flushed8 m c t) cover8

theorem final9 : (dats m 0 c).arrAt 9 cfg0.N = dw (U m c) (Z m c) (W m c) (Bias m c) :=
  (dats m 0 c).arrAt_eq_of_cover 9 _ (fun t hf => flushed9 m c t hf) cover9

theorem final10 : (dats m 0 c).arrAt 10 cfg0.N = db (U m c) (Z m c) (W m c) (Bias m c) :=
  (dats m 0 c).arrAt_eq_of_cover 10 _ (fun t hf => flushed10 m c t hf) cover10

end Array

end Cert.Proof.MidBwd

end
-- ==== Proof.MidBwd.lean ====
/-
  The backward of the convolution and gate: the gradient of its argument, of the taps and of the bias,
  as the reference computes them from the gradient of its result.
-/
module

public import proofs.«01_k».proof.Proof.MidBwdArr
public import proofs.«01_k».proof.Proof.Gen.MidBwdRefIdeal.Run
public import proofs.«01_k».proof.Proof.Gen.MidBwdRefIdeal.Read
public import proofs.«01_k».proof.Proof.Gen.Pre_finite_mid
public import proofs.«01_k».proof.Proof.Finite

@[expose] public section

set_option maxRecDepth 16384

noncomputable section

namespace Cert.Proof.MidBwd

open Idealize.ShloMosaic Idealize.ShloMosaic.TcCoe Idealize.SL.Sem
open Cert.MidBwdIdeal Cert.MidBwdIdeal.Gen
open Idealize.ShloMosaic.Pipeline (Dat)
open scoped BigOperators

/-! ### The derivative of the silu, written as a sum -/

/-- `a (σ (1 + x (1 - σ))) = a σ + (x a) (σ (1 - σ))`, of a real `a` and any `x`. -/
theorem bend_eq (r : ℝ) (x : EReal) :
    (r : EReal) * Ideal.logistic x + x * (r : EReal) * (Ideal.logistic x * (1 - Ideal.logistic x)) = bend r x := by
  unfold bend
  induction x using EReal.rec with
  | bot => rw [Ideal.logistic_bot, zero_mul, zero_mul, mul_zero, mul_zero, add_zero]
  | top =>
    have e : (1 : EReal) - 1 = 0 := by rw [← EReal.coe_one, ← EReal.coe_sub, sub_self, EReal.coe_zero]
    rw [Ideal.logistic_top, e, mul_zero, mul_zero, mul_zero, add_zero, add_zero, one_mul]
  | coe x =>
    rw [Ideal.logistic_coe]
    generalize (1 + Real.exp (-x))⁻¹ = σ
    have e : ((r * σ + x * r * (σ * (1 - σ)) : ℝ) : EReal) = ((r * (σ * (1 + x * (1 - σ))) : ℝ) : EReal) := congrArg _ (by ring)
    simpa only [EReal.coe_add, EReal.coe_mul, EReal.coe_sub, EReal.coe_one] using e

/-! ### The reference -/

section Reference

open Cert.MidBwdRefIdeal.Read

variable (x0 : S2x4x8192x704.Idx → EReal) (x1 : S4x8192x704.Idx → EReal) (x2 : S4x3x704.Idx → EReal) (x3 : S4x1x704.Idx → EReal)

/-- A row of the first plane, the row before and the row after. -/
theorem here (j : Fin 4) (s : Fin 8192) (q : Fin 704) :
    val_main_v1 (F := Ideal) x0 (ix3 j s q) = col x0 0 j q (s.val + 2) := by
  refine Eq.trans ?_ (pad_row (fun s => x0 (ix4 0 j s q)) s).symm
  pointwise [val_main_v1, val_main_v0]

theorem before (j : Fin 4) (s : Fin 8192) (q : Fin 704) :
    val_main_v5 (F := Ideal) x0 (ix3 j s q) = col x0 0 j q (s.val + 1) := by
  pointwise [val_main_v5, val_main_v4, val_main_v3, val_main_cst, val_main_v1, val_main_v0]
  unfold col pad
  have hs := s.isLt
  by_cases h : s.val < 1
  · rw [dif_pos h, dif_neg (by omega)]
  · rw [dif_neg h, dif_pos (by omega)]
    exact congrArg (fun r => x0 (ix4 0 j r q)) (Fin.ext (by dsimp only; omega))

theorem after (j : Fin 4) (s : Fin 8192) (q : Fin 704) :
    val_main_v16 (F := Ideal) x0 (ix3 j s q) = col x0 0 j q (s.val + 3) := by
  pointwise [val_main_v16, val_main_v15, val_main_v14, val_main_cst_1, val_main_v1, val_main_v0]
  unfold col pad
  have hs := s.isLt
  by_cases h : s.val < 8191
  · rw [dif_pos h, dif_pos (by omega)]
    exact congrArg (fun r => x0 (ix4 0 j r q)) (Fin.ext (by dsimp only; omega))
  · rw [dif_neg h, dif_neg (by omega)]

/-- The convolution's result. -/
theorem conv_ref (j : Fin 4) (s : Fin 8192) (q : Fin 704) :
    val_main_v22 (F := Ideal) x0 x2 x3 (ix3 j s q) = conv x0 x2 x3 j q (s.val + 1) := by
  have h1 := here x0 j s q
  have h2 := before x0 j s q
  have h3 := after x0 j s q
  pointwise [val_main_v22, val_main_v21, val_main_v20, val_main_v19, val_main_v18, val_main_v13, val_main_v12, val_main_v11,
    val_main_v10, val_main_v9, val_main_v8, val_main_v7, val_main_v2]
  rw [h1, h2, h3]
  rfl

/-- Its sigmoid. -/
theorem sigmoid_ref (j : Fin 4) (s : Fin 8192) (q : Fin 704) :
    val_main_v23_2 (F := Ideal) x0 x2 x3 (ix3 j s q) = Ideal.logistic (conv x0 x2 x3 j q (s.val + 1)) := by
  have h := conv_ref x0 x2 x3 j s q
  pointwise [val_main_v23_2, val_main_call0_v4, val_main_call0_cst_0, val_main_call0_v3, val_main_call0_v2, val_main_call0_cst,
    val_main_call0_v1, val_main_call0_v0]
  rw [h]
  rfl

/-- The gradient at the convolution's result, where the gradient at the silu's is no infinity. -/
theorem dconv_ref (hf : ∀ j s q, ∃ r : ℝ, x1 (ix3 j s q) * x0 (ix4 1 j s q) = (r : EReal)) (j : Fin 4) (s : Fin 8192) (q : Fin 704) :
    val_main_v31 (F := Ideal) x0 x1 x2 x3 (ix3 j s q) = dconv x0 x1 x2 x3 j q (s.val + 1) := by
  have h1 := conv_ref x0 x2 x3 j s q
  have h2 := sigmoid_ref x0 x2 x3 j s q
  obtain ⟨r, hr⟩ := hf j s q
  pointwise [val_main_v31, val_main_call1_v2, val_main_call1_v1, val_main_call1_v0, val_main_v28, val_main_v25, val_main_v24,
    val_main_v23_1, val_main_call0_v7, val_main_call0_v6, val_main_call0_cst_1]
  rw [h1, h2, hr]
  refine (bend_eq r _).trans ?_
  unfold dconv grad col
  rw [pad_row (fun s => x1 (ix3 j s q)) s, pad_row (fun s => x0 (ix4 1 j s q)) s, hr]

/-- Outside the rows there is none. -/
theorem dconv_out (j : Fin 4) (q : Fin 704) (n : ℕ) (h : n = 0 ∨ n = 8193) : dconv x0 x1 x2 x3 j q n = 0 := by
  have e : grad x1 j q (n + 1) = 0 := by
    unfold grad pad
    exact dif_neg (by omega)
  unfold dconv bend
  rw [e, zero_mul, zero_mul]

section Finite
variable (hf : ∀ j s q, ∃ r : ℝ, x1 (ix3 j s q) * x0 (ix4 1 j s q) = (r : EReal))
include hf

/-- The gradient of the bias. -/
theorem reference_bias (j : Fin 4) (q : Fin 704) :
    val_main_v33 (F := Ideal) x0 x1 x2 x3 (ix3 j 0 q) = db x0 x1 x2 x3 (ix3 j 0 q) := by
  pointwise [val_main_v33, val_main_v32, val_main_cst_4]
  show _ = ∑ s ∈ Finset.range 8192, term' x0 x1 x2 x3 j q s
  rw [← Fin.sum_univ_eq_sum_range (fun s => term' x0 x1 x2 x3 j q s) 8192]
  exact Finset.sum_congr rfl fun s _ => dconv_ref x0 x1 x2 x3 hf j s q

/-- The gradient of the taps. -/
theorem reference_taps (j : Fin 4) (k : Fin 3) (q : Fin 704) :
    val_main_v61 (F := Ideal) x0 x1 x2 x3 (ix3 j k q) = dw x0 x1 x2 x3 (ix3 j k q) := by
  show _ = ∑ s ∈ Finset.range 8192, term x0 x1 x2 x3 j k q s
  rw [← Fin.sum_univ_eq_sum_range (fun s => term x0 x1 x2 x3 j k q s) 8192]
  have s0 : ∀ s : Fin 8192, val_main_v53 (F := Ideal) x0 x1 x2 x3 (ix3 j s q) = term x0 x1 x2 x3 j 0 q s.val := fun s =>
    congrArg₂ (fun a b : EReal => a * b) (dconv_ref x0 x1 x2 x3 hf j s q) (before x0 j s q)
  have s1 : ∀ s : Fin 8192, val_main_v46 (F := Ideal) x0 x1 x2 x3 (ix3 j s q) = term x0 x1 x2 x3 j 1 q s.val := fun s =>
    congrArg₂ (fun a b : EReal => a * b) (dconv_ref x0 x1 x2 x3 hf j s q) (here x0 j s q)
  have s2 : ∀ s : Fin 8192, val_main_v36 (F := Ideal) x0 x1 x2 x3 (ix3 j s q) = term x0 x1 x2 x3 j 2 q s.val := fun s =>
    congrArg₂ (fun a b : EReal => a * b) (dconv_ref x0 x1 x2 x3 hf j s q) (after x0 j s q)
  pointwise [val_main_v61, val_main_v60, val_main_v50, val_main_v42, val_main_v38, val_main_v37, val_main_v49, val_main_v48, val_main_v47,
    val_main_v55, val_main_v54, val_main_cst_5, val_main_cst_7, val_main_cst_8, val_main_cst_9, val_main_cst_10, val_main_cst_12]
  simp only [s0, s1, s2]
  have hk : k = 0 ∨ k = 1 ∨ k = 2 := by omega
  rcases hk with rfl | rfl | rfl
  · simp
  · simp
  · simp

/-- The gradient of `u`. -/
theorem reference_u (p : Fin 2) (j : Fin 4) (s : Fin 8192) (q : Fin 704) :
    val_main_v65 (F := Ideal) x0 x1 x2 x3 (ix4 p j s q) = du x0 x1 x2 x3 (ix4 p j s q) := by
  have hc := conv_ref x0 x2 x3 j s q
  have hg := sigmoid_ref x0 x2 x3 j s q
  have hd := fun s => dconv_ref x0 x1 x2 x3 hf j s q
  have hs := s.isLt
  pointwise [val_main_v65, val_main_v64, val_main_v63, val_main_v62, val_main_v30, val_main_v29, val_main_cst_13, val_main_cst_3,
    val_main_v59, val_main_v45, val_main_v58, val_main_v41, val_main_v39, val_main_v57, val_main_cst_6, val_main_cst_11, val_main_v27,
    val_main_v23_0, val_main_v35, val_main_v34, val_main_v13, val_main_v44, val_main_v43, val_main_v9, val_main_v52, val_main_v51, val_main_v2]
  simp only [hc, hg, hd]
  have hp : p = 0 ∨ p = 1 := by omega
  rcases hp with rfl | rfl
  · rw [dif_neg (by decide), dif_pos (by decide), zero_add]
    show _ = x2 (ix3 j 0 q) * dconv x0 x1 x2 x3 j q (s.val + 2) + x2 (ix3 j 1 q) * dconv x0 x1 x2 x3 j q (s.val + 1)
      + x2 (ix3 j 2 q) * dconv x0 x1 x2 x3 j q s.val
    have e2 : (if h : 1 ≤ s.val ∧ s.val - 1 < 8191 then x2 (ix3 j 2 q) * dconv x0 x1 x2 x3 j q (s.val - 1 + 1) else 0)
        = x2 (ix3 j 2 q) * dconv x0 x1 x2 x3 j q s.val := by
      by_cases h : s.val = 0
      · rw [dif_neg (by omega), dconv_out x0 x1 x2 x3 j q s.val (Or.inl h), mul_zero]
      · rw [dif_pos (by omega), Nat.sub_add_cancel (by omega)]
    have e0 : (if h : s.val < 8191 then x2 (ix3 j 0 q) * dconv x0 x1 x2 x3 j q (1 + s.val + 1) else 0)
        = x2 (ix3 j 0 q) * dconv x0 x1 x2 x3 j q (s.val + 2) := by
      by_cases h : s.val < 8191
      · rw [dif_pos h, show 1 + s.val + 1 = s.val + 2 by omega]
      · rw [dif_neg h, dconv_out x0 x1 x2 x3 j q (s.val + 2) (by omega), mul_zero]
    rw [e2, e0, add_comm, add_comm (x2 (ix3 j 2 q) * _), ← add_assoc]
  · rw [dif_pos (by decide), dif_neg (by decide), add_zero]
    show _ = grad x1 j q (s.val + 2) * conv x0 x2 x3 j q (s.val + 1) * Ideal.logistic (conv x0 x2 x3 j q (s.val + 1))
    rw [show grad x1 j q (s.val + 2) = x1 (ix3 j s q) from pad_row (fun s => x1 (ix3 j s q)) s, mul_comm, mul_assoc]

end Finite

end Reference

/-! ### The claim -/

/-- What the precondition says of the arguments. -/
theorem finite_of_test (x0 : S2x4x8192x704.Idx → EReal) (x1 : S4x8192x704.Idx → EReal) (x2 : S4x3x704.Idx → EReal) (x3 : S4x1x704.Idx → EReal)
    (h : Pre_finite_mid.fn (F := Ideal) x0 x1 x2 x3 = fun _ => 1#1) (j : Fin 4) (s : Fin 8192) (q : Fin 704) :
    ∃ r : ℝ, x1 (ix3 j s q) * x0 (ix4 1 j s q) = (r : EReal) := by
  have h0 := congrFun h (fun d => d.elim0)
  unfold Pre_finite_mid.fn at h0
  obtain ⟨r, hr⟩ := Finite.real_of_test _ _ _ _ _ _ h0 (ix3 j s q)
  refine ⟨r, Eq.trans ?_ hr⟩
  pointwise []

theorem algebraic : algebraic_MidBwdIdeal_MidBwdRefIdeal_pre_finite_mid := by
  intro m g m' g' hpre hagree
  refine ⟨fun c => du (U m c) (Z m c) (W m c) (Bias m c), fun c => dw (U m c) (Z m c) (W m c) (Bias m c),
    fun c => db (U m c) (Z m c) (W m c) (Bias m c),
    (θ_run _ _ _).mono (fun r h c => ⟨(h c).1.trans (final8 m c), (h c).2.1.trans (final9 m c), (h c).2.2.1.trans (final10 m c), (h c).2.2.2⟩)
      (Value.run_blocks m g),
    (θ_run _ _ _).mono (fun r h c => ?_) (Cert.MidBwdRefIdeal.Value.run m' g')⟩
  obtain ⟨a0, a1, a2, a3⟩ := hagree c
  obtain ⟨u, v, w, args⟩ := h c
  have hf := finite_of_test _ _ _ _ (hpre c)
  refine ⟨(u.trans (Cert.MidBwdRefIdeal.Read.val_main_v65_eq _ _)).trans ?_, (v.trans (Cert.MidBwdRefIdeal.Read.val_main_v61_eq _ _)).trans ?_,
    (w.trans (Cert.MidBwdRefIdeal.Read.val_main_v33_eq _ _)).trans ?_, args⟩
  · rw [a0, a1, a2, a3]
    funext i
    rw [eq_ix4 i]
    exact reference_u _ _ _ _ hf _ _ _ _
  · rw [a0, a1, a2, a3]
    funext i
    rw [eq_ix3 i]
    exact reference_taps _ _ _ _ hf _ _ _
  · rw [a0, a1, a2, a3]
    funext i
    obtain ⟨j, q, rfl⟩ : ∃ (j : Fin 4) (q : Fin 704), i = ix3 j 0 q :=
      ⟨i 0, i 2, (eq_ix3 i).trans (congrArg (fun a : Fin 1 => ix3 (i 0) a (i 2)) (Subsingleton.elim _ _))⟩
    exact reference_bias _ _ _ _ hf _ _

theorem frame_reference : quiescent_MidBwdRefIdeal := fun m g _ =>
  (θ_run _ _ _).mono (fun r h => ⟨fun c => (h c).2.2.2, sem_eq_zero_of_no_sems (by decide) r.2⟩) (Cert.MidBwdRefIdeal.Value.run m g)

end Cert.Proof.MidBwd

end
-- ==== Proof.UpDx.lean ====
/-
  The feed-forward up-projection's gradient with respect to its input: the call adds, block of columns by block of
  columns, the product of the incoming gradient with the transposed weights; the reference contracts the block and the
  column together.
-/
module

public import proofs.«01_k».proof.Defs
public import proofs.«01_k».proof.Proof.Place
public import proofs.«01_k».proof.Proof.Gen.UpDxIdeal.Value
public import proofs.«01_k».proof.Proof.Gen.UpDxRefIdeal.Run
public import proofs.«01_k».proof.Proof.Gen.UpDxRefIdeal.Read
public import Idealize.ShloMosaic.Lib.TwoAxisContraction

@[expose] public section

set_option maxRecDepth 16384

noncomputable section

namespace Cert.Proof.UpDx

open Idealize.ShloMosaic Idealize.ShloMosaic.TcCoe Idealize.SL.Sem
open Cert.UpDxIdeal Cert.UpDxIdeal.Gen
open Idealize.ShloMosaic.Pipeline (Dat)
open scoped BigOperators

section Pieces
variable {F : FTy → Type} [FloatOps F]
variable (c : Dev nD) (i : grid0.Coords) (a5 : Memref sig .tc .vmem S1x1024x704 .bf16) (h5 : a5.IsWhole)
  (a6 : Memref sig .tc .vmem S1x1024x704 .bf16) (h6 : a6.IsWhole) (a7 : Memref sig .tc .vmem S1024x1024 .f32) (h7 : a7.IsWhole)
  (a8 : Memref sig .tc .vmem S1024x1024 .f32) (h8 : a8.IsWhole) (x0 x1 : Vec F S1x1024x704 .bf16) (xs : Vec F S1024x1024 .f32)

theorem acc_A (h : cond0_0 i) (h' : ¬cond0_1 i) :
    sout0_A_0 c i a5 h5 a6 h6 a7 h7 a8 h8 h h' x0 x1 = k0_pay2 k0_pay1 x0 x1 := by
  unfold sout0_A_0
  rw [View.read_writes_eq_canon _ _ _ (scover0_A_0 c i a5 h5 a6 h6 a7 h7 a8 h8 h h' x0 x1)]
  unfold kernelRun0_A
  dsimp only
  sl_unfold_words
  rw [View.canon_cons_unit_zero (S := S1024x1024) hz, View.readCov_unit_zero (S := S1024x1024) _ hz]
  simp only [View.readAt_eq_ld, h5.read_unread, h6.read_unread, View.ld_unit_zero (S := S1x1024x704) hz3]

theorem acc_B (h : ¬cond0_0 i) (h' : ¬cond0_1 i) :
    sout0_B_0 c i a5 h5 a6 h6 a7 h7 a8 h8 h h' x0 x1 xs = k0_pay2 xs x0 x1 := by
  unfold sout0_B_0
  rw [View.read_writes_eq_canon _ _ _ (scover0_B_0 c i a5 h5 a6 h6 a7 h7 a8 h8 h h' x0 x1 xs)]
  unfold kernelRun0_B
  dsimp only
  sl_unfold_words
  rw [View.canon_unit_zero hz]
  simp only [View.readAt_eq_ld, h5.read_unread, h6.read_unread, h8.read_unread, View.ld_unit_zero (S := S1x1024x704) hz3,
    View.ld_unit_zero (S := S1024x1024) hz]

theorem acc_C (h : ¬cond0_0 i) (h' : cond0_1 i) :
    sout0_C_0 c i a5 h5 a6 h6 a7 h7 a8 h8 h h' x0 x1 xs = k0_pay2 xs x0 x1 := by
  unfold sout0_C_0
  rw [View.read_writes_eq_canon _ _ _ (scover0_C_0 c i a5 h5 a6 h6 a7 h7 a8 h8 h h' x0 x1 xs)]
  unfold kernelRun0_C
  dsimp only
  sl_unfold_words
  rw [View.canon_unit_zero hz]
  simp only [View.readAt_eq_ld, h5.read_unread, h6.read_unread, h8.read_unread, View.ld_unit_zero (S := S1x1024x704) hz3,
    View.ld_unit_zero (S := S1024x1024) hz]

theorem out_C (h : ¬cond0_0 i) (h' : cond0_1 i) :
    out0_C_2 c i a5 h5 a6 h6 a7 h7 a8 h8 h h' x0 x1 xs = k0_pay2 xs x0 x1 := by
  unfold out0_C_2
  rw [View.read_writes_eq_canon _ _ _ (cover0_C_2 c i a5 h5 a6 h6 a7 h7 a8 h8 h h' x0 x1 xs)]
  unfold kernelRun0_C
  dsimp only
  sl_unfold_words
  rw [View.canon_unit_zero hz, View.readCov_unit_zero (S := S1024x1024) _ hz]
  simp only [View.readAt_eq_ld, h5.read_unread, h6.read_unread, h8.read_unread, View.ld_unit_zero (S := S1x1024x704) hz3,
    View.ld_unit_zero (S := S1024x1024) hz]

end Pieces

theorem pay1_apply (r d : Fin 1024) : k0_pay1 (F := Ideal) (ix2 r d) = 0 := by
  pointwise [k0_pay1]

theorem pay2_apply (xs : Vec Ideal S1024x1024 .f32) (x0 x1 : Vec Ideal S1x1024x704 .bf16) (r d : Fin 1024) :
    k0_pay2 xs x0 x1 (ix2 r d) = xs (ix2 r d) + ∑ k : Fin 704, x0 (ix3 0 r k) * x1 (ix3 0 d k) := by
  pointwise [k0_pay2]

/-! ### The call's array -/

section Array

variable (m : (ℓ : Loc nD τ sig) → Buf (Elt Ideal) ℓ) (c : Dev nD)

theorem idx0 : ∀ t : Fin cfg0.N, win0_0.index t (0 : Fin 3) = t.val % 8 ∧ win0_0.index t (1 : Fin 3) = t.val / 8
    ∧ win0_0.index t (2 : Fin 3) = 0 :=
  (by decide +kernel : ∀ t : Fin grid0.N, _)
theorem idx1 : ∀ t : Fin cfg0.N, win0_1.index t (0 : Fin 3) = t.val % 8 ∧ win0_1.index t (1 : Fin 3) = 0
    ∧ win0_1.index t (2 : Fin 3) = 0 :=
  (by decide +kernel : ∀ t : Fin grid0.N, _)
theorem idx2 : ∀ t : Fin cfg0.N, win0_2.index t (0 : Fin 2) = t.val / 8 ∧ win0_2.index t (1 : Fin 2) = 0 :=
  (by decide +kernel : ∀ t : Fin grid0.N, _)

theorem lt64 (t : Fin cfg0.N) : t.val < 64 := by have := t.isLt; have h : cfg0.N = 64 := N_0; omega

/-- The incoming gradient and the weights, as the call finds them. -/
abbrev A : S8x8192x704.Idx → EReal := m ((c : Thread nD τ).loc main_arg0)
abbrev W : S8x1024x704.Idx → EReal := m ((c : Thread nD τ).loc main_arg1)

theorem blk_a (t : Fin cfg0.N) (r : Fin 1024) (k : Fin 704) :
    (iblk m c 0 t : Vec Ideal S1x1024x704 .bf16) (ix3 0 r k)
      = A m c (ix3 ⟨t.val % 8, by omega⟩ ⟨1024 * (t.val / 8) + r.val, by have := lt64 t; omega⟩ k) :=
  congrArg (A m c) (put3 (idx0 t) 1 0 1024 r 704 k)

theorem blk_w (t : Fin cfg0.N) (d : Fin 1024) (k : Fin 704) :
    (iblk m c 1 t : Vec Ideal S1x1024x704 .bf16) (ix3 0 d k) = W m c (ix3 ⟨t.val % 8, by omega⟩ d k) :=
  congrArg (W m c) (put3 (idx1 t) 1 0 1024 d 704 k)

/-- What one block of columns contributes at row `s`, column `d`. -/
def term (b s : ℕ) (d : Fin 1024) : EReal :=
  if h : b < 8 ∧ s < 8192 then ∑ k : Fin 704, A m c (ix3 ⟨b, h.1⟩ ⟨s, h.2⟩ k) * W m c (ix3 ⟨b, h.1⟩ d k) else 0

theorem step (t : Fin cfg0.N) (xs : Vec Ideal S1024x1024 .f32) (r d : Fin 1024) :
    k0_pay2 xs (iblk m c 0 t) (iblk m c 1 t) (ix2 r d)
      = xs (ix2 r d) + term m c (t.val % 8) (1024 * (t.val / 8) + r.val) d := by
  have ht := lt64 t
  rw [pay2_apply]
  unfold term
  rw [dif_pos ⟨by omega, by omega⟩]
  exact congrArg _ (Finset.sum_congr rfl fun k _ => congrArg₂ _ (blk_a m c t r k) (blk_w m c t d k))

/-- After a point the scratch holds the blocks of columns seen so far. -/
theorem scratch (r d : Fin 1024) : ∀ (n : ℕ) (h : n < cfg0.N),
    (outsAt0 m c n h).2 (ix2 r d) = ∑ b ∈ Finset.range (n % 8 + 1), term m c b (1024 * (n / 8) + r.val) d := by
  intro n
  induction n with
  | zero =>
    intro h
    rw [outsAt0_A m c ⟨0, h⟩ rfl (by dsimp only; omega)]
    dsimp only
    rw [acc_A, step, pay1_apply, zero_add, Finset.sum_range_one]
    rfl
  | succ n ih =>
    intro h
    by_cases h0 : (n + 1) % 8 = 0
    · rw [outsAt0_A m c ⟨n + 1, h⟩ h0 (by dsimp only; omega)]
      dsimp only
      rw [acc_A, step, pay1_apply, zero_add]
      dsimp only
      rw [h0, Finset.sum_range_one]
    · have e := ih (Nat.lt_of_succ_lt h)
      have hd : (n + 1) / 8 = n / 8 := by omega
      have hm : (n + 1) % 8 = n % 8 + 1 := by omega
      by_cases h1 : (n + 1) % 8 = 7
      · rw [outsAt0_C m c ⟨n + 1, h⟩ h0 h1]
        dsimp only
        rw [acc_C, step]
        dsimp only
        rw [hd, hm, Finset.sum_range_succ]
        exact congrArg (· + _) e
      · rw [outsAt0_B m c ⟨n + 1, h⟩ h0 h1]
        dsimp only
        rw [acc_B, step]
        dsimp only
        rw [hd, hm, Finset.sum_range_succ]
        exact congrArg (· + _) e

/-- The whole array: the sum over all blocks and columns. -/
def total : S8192x1024.Idx → EReal := fun i =>
  ∑ b : Fin 8, ∑ k : Fin 704, A m c (ix3 b (i 0) k) * W m c (ix3 b (i 1) k)

theorem total_eq (s : Fin 8192) (d : Fin 1024) :
    total m c (ix2 s d) = ∑ b ∈ Finset.range 8, term m c b s.val d := by
  rw [← Fin.sum_univ_eq_sum_range (fun b => term m c b s.val d) 8]
  refine Finset.sum_congr rfl fun b _ => ?_
  unfold term
  rw [dif_pos ⟨b.isLt, s.isLt⟩]
  rfl

theorem flushed (t : Fin cfg0.N) (hf : (cfg0.win 2).flush t = true) :
    (dats m 0 c).flushed 2 t = ((cfg0.win 2).blk t).view.read (Elt Ideal) (total m c) := by
  have ht := lt64 t
  have h7 : t.val % 8 = 7 := (flush0_2 t).mp hf
  obtain ⟨e0, e1⟩ := idx2 t
  have hs : t.val - 1 < cfg0.N := Nat.lt_of_le_of_lt (Nat.sub_le _ _) t.isLt
  rw [Value.flushed2_C m c t (by omega) h7, out_C]
  funext j
  obtain ⟨r, d, rfl⟩ : ∃ (r : Fin 1024) (d : Fin 1024), j = ix2 r d := ⟨j 0, j 1, eq_ix2 j⟩
  show k0_pay2 (F := Ideal) _ _ _ (ix2 r d) = total m c (((cfg0.win 2).blk t).view.emb (ix2 r d))
  have he : ((cfg0.win 2).blk t).view.emb (ix2 r d) = ix2 ⟨1024 * (t.val / 8) + r.val, by omega⟩ d :=
    put2 (idx2 t) 1024 r 1024 d
  rw [he, total_eq, step, scratch m c r d (t.val - 1) hs, h7,
    show (t.val - 1) % 8 + 1 = 7 by omega, show (t.val - 1) / 8 = t.val / 8 by omega]
  exact (Finset.sum_range_succ _ 7).symm

theorem final : (dats m 0 c).arrAt 2 cfg0.N = total m c :=
  (dats m 0 c).arrAt_eq_of_cover 2 _ (fun t hf => flushed m c t hf) fun i => (Value.covered_iff2 i).2 (by
    have h0 : (i 0).val < 8192 := (i 0).isLt; have h1 : (i 1).val < 1024 := (i 1).isLt; omega)

end Array

/-! ### The reference -/

theorem reference (x0 : S8x8192x704.Idx → EReal) (x1 : S8x1024x704.Idx → EReal) (s : Fin 8192) (d : Fin 1024) :
    Cert.UpDxRefIdeal.Read.val_main_v6 (F := Ideal) x0 x1 (ix2 s d)
      = ∑ b : Fin 8, ∑ k : Fin 704, x0 (ix3 b s k) * x1 (ix3 b d k) := by
  unfold Cert.UpDxRefIdeal.Read.val_main_v6
  simp only [Host.dotGeneral]
  rw [Ideal.dotGeneral_apply, ValueIdx.sum_contr2 _ 8 704 rfl rfl rfl]
  refine Finset.sum_congr rfl fun b _ => Finset.sum_congr rfl fun k _ => ?_
  have q0 := ValueIdx.contrEquiv2_symm_val0 Cert.UpDxRefIdeal.dot_S8x704x8192_S8x1024x704_S8192x1024_01_02_2_1_n_n 8 704 rfl rfl rfl (b, k)
  have q1 := ValueIdx.contrEquiv2_symm_val1 Cert.UpDxRefIdeal.dot_S8x704x8192_S8x1024x704_S8192x1024_01_02_2_1_n_n 8 704 rfl rfl rfl (b, k)
  generalize (ValueIdx.contrEquiv2 Cert.UpDxRefIdeal.dot_S8x704x8192_S8x1024x704_S8192x1024_01_02_2_1_n_n 8 704 rfl rfl rfl).symm (b, k) = q at q0 q1 ⊢
  have l : Cert.UpDxRefIdeal.dot_S8x704x8192_S8x1024x704_S8192x1024_01_02_2_1_n_n.lhsIdx (ix2 s d) q = (ix3 b k s : Cert.UpDxRefIdeal.S8x704x8192.Idx) := funext fun a => Fin.ext (by
    match a with
    | ⟨0, _⟩ => exact q0
    | ⟨1, _⟩ => exact q1
    | ⟨2, _⟩ => rfl)
  have w : Cert.UpDxRefIdeal.dot_S8x704x8192_S8x1024x704_S8192x1024_01_02_2_1_n_n.rhsIdx (ix2 s d) q = (ix3 b d k : Cert.UpDxRefIdeal.S8x1024x704.Idx) := funext fun a => Fin.ext (by
    match a with
    | ⟨0, _⟩ => exact q0
    | ⟨1, _⟩ => rfl
    | ⟨2, _⟩ => exact q1)
  have e : Cert.UpDxRefIdeal.Read.idx_main_v5 (ix3 b k s) = ix3 b s k := funext fun a => Fin.ext (by
    match a with
    | ⟨0, _⟩ => rfl
    | ⟨1, _⟩ => rfl
    | ⟨2, _⟩ => rfl)
  rw [l, w, Cert.UpDxRefIdeal.Read.val_main_v5_apply, e]
  rfl

theorem algebraic : algebraic_UpDxIdeal_UpDxRefIdeal := by
  intro m g m' g' _ hagree
  refine ⟨fun c => total m c, (θ_run _ _ _).mono (fun r h c => ⟨(h c).1.trans (final m c), (h c).2⟩) (Value.run_blocks m g),
    (θ_run _ _ _).mono (fun r h c => ?_) (Cert.UpDxRefIdeal.Value.run m' g')⟩
  obtain ⟨a0, a1⟩ := hagree c
  obtain ⟨u, uargs⟩ := h c
  refine ⟨(u.trans (Cert.UpDxRefIdeal.Read.val_main_v6_eq _ _)).trans ?_, uargs⟩
  rw [a0, a1]
  funext j
  obtain ⟨s, d, rfl⟩ : ∃ (s : Fin 8192) (d : Fin 1024), j = ix2 s d := ⟨j 0, j 1, eq_ix2 j⟩
  exact reference _ _ s d

theorem frame_reference : quiescent_UpDxRefIdeal := fun m g _ =>
  (θ_run _ _ _).mono (fun r h => ⟨fun c => (h c).2, sem_eq_zero_of_no_sems (by decide) r.2⟩) (Cert.UpDxRefIdeal.Value.run m g)

end Cert.Proof.UpDx

end
-- ==== Proof.UpDw.lean ====
/-
  The feed-forward up-projection's gradient with respect to its weights: the call adds the product of one tile of
  2048 tokens after another in its scratch and rounds the sum; the reference contracts all tokens at once.
-/
module

public import proofs.«01_k».proof.Defs
public import proofs.«01_k».proof.Proof.Place
public import proofs.«01_k».proof.Proof.Gen.UpDwIdeal.Value
public import proofs.«01_k».proof.Proof.Gen.UpDwRefIdeal.Run
public import proofs.«01_k».proof.Proof.Gen.UpDwRefIdeal.Read

@[expose] public section

set_option maxRecDepth 16384

noncomputable section

namespace Cert.Proof.UpDw

open Idealize.ShloMosaic Idealize.ShloMosaic.TcCoe Idealize.SL.Sem
open Cert.UpDwIdeal Cert.UpDwIdeal.Gen
open Idealize.ShloMosaic.Pipeline (Dat)
open scoped BigOperators

section Pieces
variable {F : FTy → Type} [FloatOps F]
variable (c : Dev nD) (i : grid0.Coords) (a5 : Memref sig .tc .vmem S2048x1024 .bf16) (h5 : a5.IsWhole)
  (a6 : Memref sig .tc .vmem S1x2048x704 .bf16) (h6 : a6.IsWhole) (a7 : Memref sig .tc .vmem S1x1024x704 .bf16) (h7 : a7.IsWhole)
  (a8 : Memref sig .tc .vmem S1024x704 .f32) (h8 : a8.IsWhole) (x0 : Vec F S2048x1024 .bf16) (x1 : Vec F S1x2048x704 .bf16)
  (xs : Vec F S1024x704 .f32)

theorem acc_A (h : cond0_0 i) (h' : ¬cond0_1 i) :
    sout0_A_0 c i a5 h5 a6 h6 a7 h7 a8 h8 h h' x0 x1 = k0_pay2 k0_pay1 x0 x1 := by
  unfold sout0_A_0
  rw [View.read_writes_eq_canon _ _ _ (scover0_A_0 c i a5 h5 a6 h6 a7 h7 a8 h8 h h' x0 x1)]
  unfold kernelRun0_A
  dsimp only
  sl_unfold_words
  rw [View.canon_cons_unit_zero (S := S1024x704) hz, View.readCov_unit_zero (S := S1024x704) _ hz]
  simp only [View.readAt_eq_ld, h5.read_unread, h6.read_unread, View.ld_unit_zero (S := S2048x1024) hz,
    View.ld_unit_zero (S := S1x2048x704) hz3]

theorem acc_B (h : ¬cond0_0 i) (h' : ¬cond0_1 i) :
    sout0_B_0 c i a5 h5 a6 h6 a7 h7 a8 h8 h h' x0 x1 xs = k0_pay2 xs x0 x1 := by
  unfold sout0_B_0
  rw [View.read_writes_eq_canon _ _ _ (scover0_B_0 c i a5 h5 a6 h6 a7 h7 a8 h8 h h' x0 x1 xs)]
  unfold kernelRun0_B
  dsimp only
  sl_unfold_words
  rw [View.canon_unit_zero hz]
  simp only [View.readAt_eq_ld, h5.read_unread, h6.read_unread, h8.read_unread, View.ld_unit_zero (S := S2048x1024) hz,
    View.ld_unit_zero (S := S1x2048x704) hz3, View.ld_unit_zero (S := S1024x704) hz]

theorem acc_C (h : ¬cond0_0 i) (h' : cond0_1 i) :
    sout0_C_0 c i a5 h5 a6 h6 a7 h7 a8 h8 h h' x0 x1 xs = k0_pay2 xs x0 x1 := by
  unfold sout0_C_0
  rw [View.read_writes_eq_canon _ _ _ (scover0_C_0 c i a5 h5 a6 h6 a7 h7 a8 h8 h h' x0 x1 xs)]
  unfold kernelRun0_C
  dsimp only
  sl_unfold_words
  rw [View.canon_unit_zero hz]
  simp only [View.readAt_eq_ld, h5.read_unread, h6.read_unread, h8.read_unread, View.ld_unit_zero (S := S2048x1024) hz,
    View.ld_unit_zero (S := S1x2048x704) hz3, View.ld_unit_zero (S := S1024x704) hz]

theorem out_C (h : ¬cond0_0 i) (h' : cond0_1 i) :
    out0_C_2 c i a5 h5 a6 h6 a7 h7 a8 h8 h h' x0 x1 xs = k0_pay3 (k0_pay2 xs x0 x1) := by
  unfold out0_C_2
  rw [View.read_writes_eq_canon _ _ _ (cover0_C_2 c i a5 h5 a6 h6 a7 h7 a8 h8 h h' x0 x1 xs)]
  unfold kernelRun0_C
  dsimp only
  sl_unfold_words
  rw [View.canon_unit_zero hz3, View.readCov_unit_zero (S := S1024x704) _ hz]
  simp only [View.readAt_eq_ld, h5.read_unread, h6.read_unread, h8.read_unread, View.ld_unit_zero (S := S2048x1024) hz,
    View.ld_unit_zero (S := S1x2048x704) hz3, View.ld_unit_zero (S := S1024x704) hz]

end Pieces

theorem pay1_apply (p : Fin 1024) (q : Fin 704) : k0_pay1 (F := Ideal) (ix2 p q) = 0 := by
  pointwise [k0_pay1]

theorem pay2_apply (xs : Vec Ideal S1024x704 .f32) (x0 : Vec Ideal S2048x1024 .bf16) (x1 : Vec Ideal S1x2048x704 .bf16)
    (p : Fin 1024) (q : Fin 704) :
    k0_pay2 xs x0 x1 (ix2 p q) = xs (ix2 p q) + ∑ k : Fin 2048, x0 (ix2 k p) * x1 (ix3 0 k q) := by
  pointwise [k0_pay2]

theorem pay3_apply (x : Vec Ideal S1024x704 .f32) (p : Fin 1024) (q : Fin 704) :
    k0_pay3 x (ix3 0 p q) = x (ix2 p q) := by
  pointwise [k0_pay3]

/-! ### The call's array -/

section Array

variable (m : (ℓ : Loc nD τ sig) → Buf (Elt Ideal) ℓ) (c : Dev nD)

theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 3) = t.val / 4 ∧ win0_1.index t (1 : Fin 3) = t.val % 4
    ∧ win0_1.index t (2 : Fin 3) = 0 :=
  (by decide +kernel : ∀ t : Fin grid0.N, _)

theorem idx2 : ∀ t : Fin cfg0.N, win0_2.index t (0 : Fin 3) = t.val / 4 ∧ win0_2.index t (1 : Fin 3) = 0
    ∧ win0_2.index t (2 : Fin 3) = 0 :=
  (by decide +kernel : ∀ t : Fin grid0.N, _)

theorem lt_N (t : Fin cfg0.N) : t.val < 4 * 8 := by have := t.isLt; have h : cfg0.N = 4 * 8 := N_0; omega

/-- The call's two arguments, as it finds them. -/
abbrev A : S8192x1024.Idx → EReal := m ((c : Thread nD τ).loc main_arg0)
abbrev B : S8x8192x704.Idx → EReal := m ((c : Thread nD τ).loc main_arg1)

theorem blk_a (t : Fin cfg0.N) (p : Fin 1024) (k : Fin 2048) :
    (iblk m c 0 t : Vec Ideal S2048x1024 .bf16) (ix2 k p) = A m c (ix2 ⟨2048 * (t.val % 4) + k.val, by omega⟩ p) :=
  congrArg (A m c) (put2 (idx0 t) 2048 k 1024 p)

theorem blk_b (t : Fin cfg0.N) (p : Fin 704) (k : Fin 2048) :
    (iblk m c 1 t : Vec Ideal S1x2048x704 .bf16) (ix3 0 k p)
      = B m c (ix3 ⟨t.val / 4, by have := lt_N t; omega⟩ ⟨2048 * (t.val % 4) + k.val, by omega⟩ p) :=
  congrArg (B m c) (put3 (idx1 t) 1 0 2048 k 704 p)

/-- What token `s` contributes to block `n` at `(p, q)`. -/
def term (n : ℕ) (p : Fin 1024) (q : Fin 704) (s : ℕ) : EReal :=
  if h : n < 8 ∧ s < 8192 then A m c (ix2 ⟨s, h.2⟩ p) * B m c (ix3 ⟨n, h.1⟩ ⟨s, h.2⟩ q) else 0

theorem step (t : Fin cfg0.N) (xs : Vec Ideal S1024x704 .f32) (p : Fin 1024) (q : Fin 704) :
    k0_pay2 xs (iblk m c 0 t) (iblk m c 1 t) (ix2 p q)
      = xs (ix2 p q) + ∑ k ∈ Finset.range 2048, term m c (t.val / 4) p q (2048 * (t.val % 4) + k) := by
  have ht := lt_N t
  rw [pay2_apply, ← Fin.sum_univ_eq_sum_range (fun k => term m c (t.val / 4) p q (2048 * (t.val % 4) + k)) 2048]
  refine congrArg _ (Finset.sum_congr rfl fun k _ => ?_)
  unfold term
  rw [dif_pos ⟨by omega, by omega⟩]
  exact congrArg₂ _ (blk_a m c t p k) (blk_b m c t q k)

/-- After a point the scratch holds the tokens seen so far. -/
theorem scratch (p : Fin 1024) (q : Fin 704) : ∀ (n : ℕ) (h : n < cfg0.N),
    (outsAt0 m c n h).2 (ix2 p q) = ∑ s ∈ Finset.range (2048 * (n % 4 + 1)), term m c (n / 4) p q s := by
  intro n
  induction n with
  | zero =>
    intro h
    rw [outsAt0_A m c ⟨0, h⟩ rfl (by dsimp only; omega)]
    dsimp only
    rw [acc_A, step, pay1_apply, zero_add]
    exact Finset.sum_congr rfl fun k _ => congrArg _ (Nat.zero_add k)
  | succ n ih =>
    intro h
    by_cases h0 : (n + 1) % 4 = 0
    · rw [outsAt0_A m c ⟨n + 1, h⟩ h0 (by dsimp only; omega)]
      dsimp only
      rw [acc_A, step, pay1_apply, zero_add]
      dsimp only
      rw [h0]
      exact Finset.sum_congr rfl fun k _ => congrArg _ (Nat.zero_add k)
    · have e := ih (Nat.lt_of_succ_lt h)
      have hd : (n + 1) / 4 = n / 4 := by omega
      have hm : (n + 1) % 4 = n % 4 + 1 := by omega
      by_cases h1 : (n + 1) % 4 = 3
      · rw [outsAt0_C m c ⟨n + 1, h⟩ h0 h1]
        dsimp only
        rw [acc_C, step]
        dsimp only
        rw [hd, hm, Nat.mul_add 2048 (n % 4 + 1) 1, Nat.mul_one, Finset.sum_range_add]
        exact congrArg (· + _) e
      · rw [outsAt0_B m c ⟨n + 1, h⟩ h0 h1]
        dsimp only
        rw [acc_B, step]
        dsimp only
        rw [hd, hm, Nat.mul_add 2048 (n % 4 + 1) 1, Nat.mul_one, Finset.sum_range_add]
        exact congrArg (· + _) e

/-- The whole array: the sum over all tokens. -/
def total : S8x1024x704.Idx → EReal := fun i => ∑ s ∈ Finset.range 8192, term m c (i 0).val (i 1) (i 2) s

theorem total_eq (n : Fin 8) (p : Fin 1024) (q : Fin 704) :
    total m c (ix3 n p q) = ∑ s : Fin 8192, A m c (ix2 s p) * B m c (ix3 n s q) := by
  show ∑ s ∈ Finset.range 8192, term m c n.val p q s = _
  rw [← Fin.sum_univ_eq_sum_range (term m c n.val p q) 8192]
  refine Finset.sum_congr rfl fun s _ => ?_
  unfold term
  rw [dif_pos ⟨n.isLt, s.isLt⟩]

theorem flushed (t : Fin cfg0.N) (hf : (cfg0.win 2).flush t = true) :
    (dats m 0 c).flushed 2 t = ((cfg0.win 2).blk t).view.read (Elt Ideal) (total m c) := by
  have ht := lt_N t
  have h3 : t.val % 4 = 3 := (flush0_2 t).mp hf
  obtain ⟨e0, e1, e2⟩ := idx2 t
  have hs : t.val - 1 < cfg0.N := Nat.lt_of_le_of_lt (Nat.sub_le _ _) t.isLt
  rw [Value.flushed2_C m c t (by omega) h3, out_C]
  funext j
  obtain ⟨p, q, rfl⟩ : ∃ (p : Fin 1024) (q : Fin 704), j = ix3 0 p q :=
    ⟨j 1, j 2, (eq_ix3 j).trans (congrArg (fun a : Fin 1 => ix3 a (j 1) (j 2)) (Subsingleton.elim _ _))⟩
  show k0_pay3 (F := Ideal) _ (ix3 0 p q) = total m c (((cfg0.win 2).blk t).view.emb (ix3 0 p q))
  have he : ((cfg0.win 2).blk t).view.emb (ix3 0 p q) = ix3 ⟨t.val / 4, by omega⟩ p q :=
    put3 (idx2 t) 1 0 1024 p 704 q
  rw [he, pay3_apply, step, scratch m c p q (t.val - 1) hs, h3,
    show (t.val - 1) % 4 + 1 = 3 by omega, show (t.val - 1) / 4 = t.val / 4 by omega]
  exact (Finset.sum_range_add (term m c (t.val / 4) p q) 6144 2048).symm

theorem final : (dats m 0 c).arrAt 2 cfg0.N = total m c :=
  (dats m 0 c).arrAt_eq_of_cover 2 _ (fun t hf => flushed m c t hf) fun i => (Value.covered_iff2 i).2 (by
    have h0 : (i 0).val < 8 := (i 0).isLt; have h1 : (i 1).val < 1024 := (i 1).isLt
    have h2 : (i 2).val < 704 := (i 2).isLt; omega)

end Array

/-! ### The reference -/

theorem reference (x0 : S8192x1024.Idx → EReal) (x1 : S8x8192x704.Idx → EReal) (n : Fin 8) (p : Fin 1024) (q : Fin 704) :
    Cert.UpDwRefIdeal.Read.val_main_v8 (F := Ideal) x0 x1 (ix3 n p q) = ∑ s : Fin 8192, x0 (ix2 s p) * x1 (ix3 n s q) := by
  rw [Cert.UpDwRefIdeal.Read.val_main_v8_apply, Cert.UpDwRefIdeal.Read.val_main_v7_apply]
  show Cert.UpDwRefIdeal.Read.val_main_v6 (F := Ideal) x0 x1 _ = _
  rw [Cert.UpDwRefIdeal.Read.val_main_v6_apply]
  refine Finset.sum_congr rfl fun s _ => ?_
  rw [Cert.UpDwRefIdeal.Read.val_main_v5_apply, mul_comm]
  exact congrArg₂ (· * ·) (congrArg x0 (at2 _ _ _ rfl rfl)) (congrArg x1 (at3 _ _ _ _ rfl rfl rfl))

theorem algebraic : algebraic_UpDwIdeal_UpDwRefIdeal := by
  intro m g m' g' _ hagree
  refine ⟨fun c => total m c, (θ_run _ _ _).mono (fun r h c => ⟨(h c).1.trans (final m c), (h c).2⟩) (Value.run_blocks m g),
    (θ_run _ _ _).mono (fun r h c => ?_) (Cert.UpDwRefIdeal.Value.run m' g')⟩
  obtain ⟨a0, a1⟩ := hagree c
  obtain ⟨u, uargs⟩ := h c
  refine ⟨(u.trans (Cert.UpDwRefIdeal.Read.val_main_v8_eq _ _)).trans ?_, uargs⟩
  rw [a0, a1]
  funext j
  obtain ⟨n, p, q, rfl⟩ : ∃ (n : Fin 8) (p : Fin 1024) (q : Fin 704), j = ix3 n p q := ⟨j 0, j 1, j 2, eq_ix3 j⟩
  exact (reference _ _ n p q).trans (total_eq m c n p q).symm

theorem frame_reference : quiescent_UpDwRefIdeal := fun m g _ =>
  (θ_run _ _ _).mono (fun r h => ⟨fun c => (h c).2, sem_eq_zero_of_no_sems (by decide) r.2⟩) (Cert.UpDwRefIdeal.Value.run m g)

end Cert.Proof.UpDw

end
-- ==== Proof.DownDx.lean ====
/-
  The feed-forward down-projection's gradient with respect to its input: the grid point of a block and a tile of 1024 tokens
  contracts the whole of the inner axis, so each point's product is the reference's on its tile.
-/
module

public import proofs.«01_k».proof.Defs
public import proofs.«01_k».proof.Proof.Place
public import proofs.«01_k».proof.Proof.Gen.DownDxIdeal.Value
public import proofs.«01_k».proof.Proof.Gen.DownDxRefIdeal.Run
public import proofs.«01_k».proof.Proof.Gen.DownDxRefIdeal.Read

@[expose] public section

set_option maxRecDepth 16384

noncomputable section

namespace Cert.Proof.DownDx

open Idealize.ShloMosaic Idealize.ShloMosaic.TcCoe Idealize.SL.Sem
open Cert.DownDxIdeal Cert.DownDxIdeal.Gen
open Idealize.ShloMosaic.Pipeline (Dat)
open scoped BigOperators

theorem out_A {F : FTy → Type} [FloatOps F] (c : Dev nD) (i : grid0.Coords)
    (a5 : Memref sig .tc .vmem S1024x1024 .bf16) (h5 : a5.IsWhole)
    (a6 : Memref sig .tc .vmem S1x704x1024 .bf16) (h6 : a6.IsWhole) (a7 : Memref sig .tc .vmem S1x1024x704 .f32) (h7 : a7.IsWhole)
    (a8 : Memref sig .tc .vmem S1024x704 .f32) (h8 : a8.IsWhole) (x0 : Vec F S1024x1024 .bf16) (x1 : Vec F S1x704x1024 .bf16)
    (h : cond0_0 i) (h' : cond0_1 i) :
    out0_A_2 c i a5 h5 a6 h6 a7 h7 a8 h8 h h' x0 x1 = k0_pay3 (k0_pay2 k0_pay1 x0 x1) := by
  unfold out0_A_2
  rw [View.read_writes_eq_canon _ _ _ (cover0_A_2 c i a5 h5 a6 h6 a7 h7 a8 h8 h h' x0 x1)]
  unfold kernelRun0_A
  dsimp only
  sl_unfold_words
  rw [View.canon_unit_zero hz3, View.readCov_full (s := S1024x704),
    View.readCov_full (s := S1024x704)]
  simp only [View.readAt_eq_ld, h5.read_unread, h6.read_unread, View.ld_unit_zero (S := S1024x1024) hz,
    View.ld_unit_zero (S := S1x704x1024) hz3]

theorem pay1_apply (p : Fin 1024) (q : Fin 704) : k0_pay1 (F := Ideal) (ix2 p q) = 0 := by
  pointwise [k0_pay1]

theorem pay2_apply (xs : Vec Ideal S1024x704 .f32) (x0 : Vec Ideal S1024x1024 .bf16) (x1 : Vec Ideal S1x704x1024 .bf16)
    (p : Fin 1024) (q : Fin 704) :
    k0_pay2 xs x0 x1 (ix2 p q) = xs (ix2 p q) + ∑ k : Fin 1024, x0 (ix2 p k) * x1 (ix3 0 q k) := by
  pointwise [k0_pay2]

theorem pay3_apply (x : Vec Ideal S1024x704 .f32) (p : Fin 1024) (q : Fin 704) :
    k0_pay3 x (ix3 0 p q) = x (ix2 p q) := by
  pointwise [k0_pay3]

/-! ### The call's array -/

section Array

variable (m : (ℓ : Loc nD τ sig) → Buf (Elt Ideal) ℓ) (c : Dev nD)

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = t.val / 8 ∧ win0_1.index t (1 : Fin 3) = 0
    ∧ win0_1.index t (2 : Fin 3) = 0 :=
  (by decide +kernel : ∀ t : Fin grid0.N, _)
theorem idx2 : ∀ t : Fin cfg0.N, win0_2.index t (0 : Fin 3) = t.val / 8 ∧ win0_2.index t (1 : Fin 3) = t.val % 8
    ∧ win0_2.index t (2 : Fin 3) = 0 :=
  (by decide +kernel : ∀ t : Fin grid0.N, _)

theorem lt_N (t : Fin cfg0.N) : t.val < 8 * 4 := by have := t.isLt; have h : cfg0.N = 8 * 4 := N_0; omega

/-- The call's two arguments, as it finds them. -/
abbrev A : S8192x1024.Idx → EReal := m ((c : Thread nD τ).loc main_arg0)
abbrev B : S4x704x1024.Idx → EReal := m ((c : Thread nD τ).loc main_arg1)

theorem blk_a (t : Fin cfg0.N) (p : Fin 1024) (k : Fin 1024) :
    (iblk m c 0 t : Vec Ideal S1024x1024 .bf16) (ix2 p k) = A m c (ix2 ⟨1024 * (t.val % 8) + p.val, by omega⟩ k) :=
  congrArg (A m c) (put2 (idx0 t) 1024 p 1024 k)

theorem blk_b (t : Fin cfg0.N) (u : Fin 704) (v : Fin 1024) :
    (iblk m c 1 t : Vec Ideal S1x704x1024 .bf16) (ix3 0 u v)
      = B m c (ix3 ⟨t.val / 8, by have := lt_N t; omega⟩ u v) :=
  congrArg (B m c) (put3 (idx1 t) 1 0 704 u 1024 v)

/-- The whole array: the product of every block. -/
def total : S4x8192x704.Idx → EReal := fun i => ∑ k : Fin 1024, A m c (ix2 (i 1) k) * B m c (ix3 (i 0) (i 2) k)

theorem flushed (t : Fin cfg0.N) :
    (dats m 0 c).flushed 2 t = ((cfg0.win 2).blk t).view.read (Elt Ideal) (total m c) := by
  have ht := lt_N t
  obtain ⟨e0, e1, e2⟩ := idx2 t
  rw [Value.flushed2_A m c t, out_A]
  funext j
  obtain ⟨p, q, rfl⟩ : ∃ (p : Fin 1024) (q : Fin 704), j = ix3 0 p q :=
    ⟨j 1, j 2, (eq_ix3 j).trans (congrArg (fun a : Fin 1 => ix3 a (j 1) (j 2)) (Subsingleton.elim _ _))⟩
  show k0_pay3 (F := Ideal) _ (ix3 0 p q) = total m c (((cfg0.win 2).blk t).view.emb (ix3 0 p q))
  have he : ((cfg0.win 2).blk t).view.emb (ix3 0 p q)
      = ix3 ⟨t.val / 8, by omega⟩ ⟨1024 * (t.val % 8) + p.val, by omega⟩ q :=
    put3 (idx2 t) 1 0 1024 p 704 q
  rw [he, pay3_apply, pay2_apply, pay1_apply, zero_add]
  exact Finset.sum_congr rfl fun k _ => congrArg₂ _ (blk_a m c t p k) (blk_b m c t q k)

/-- The point that writes an element back. -/
def pt (i : S4x8192x704.Idx) : Fin cfg0.N :=
  ⟨8 * (i 0).val + (i 1).val / 1024, by
    have h0 : (i 0).val < 4 := (i 0).isLt
    have h1 : (i 1).val < 8192 := (i 1).isLt
    have h : cfg0.N = 8 * 4 := N_0
    omega⟩

theorem cover (i : S4x8192x704.Idx) : ∃ t : Fin cfg0.N, (cfg0.win 2).flush t = true ∧ i ∈ ((cfg0.win 2).blk t).view.set := by
  refine ⟨pt i, flush0_2 _, mem_at _ (ix3 0 ⟨(i 1).val % 1024, Nat.mod_lt _ (by norm_num)⟩ (i 2) : S1x1024x704.Idx) ?_⟩
  have h1 : (i 1).val < 8192 := (i 1).isLt
  have hp : (pt i).val = 8 * (i 0).val + (i 1).val / 1024 := rfl
  exact (put3 (a := i 0) (b := i 1) (c := i 2) (idx2 (pt i)) 1 0 1024 ((i 1).val % 1024) 704 (i 2).val).trans (eq_ix3 i).symm

theorem final : (dats m 0 c).arrAt 2 cfg0.N = total m c :=
  (dats m 0 c).arrAt_eq_of_cover 2 _ (fun t _ => flushed m c t) cover

end Array

/-! ### The reference -/

theorem reference (x0 : S8192x1024.Idx → EReal) (x1 : S4x704x1024.Idx → EReal) (i : S4x8192x704.Idx) :
    Cert.DownDxRefIdeal.Read.val_main_v5 (F := Ideal) x0 x1 i = ∑ k : Fin 1024, x0 (ix2 (i 1) k) * x1 (ix3 (i 0) (i 2) k) := by
  rw [Cert.DownDxRefIdeal.Read.val_main_v5_apply, Cert.DownDxRefIdeal.Read.val_main_v4_apply]
  refine Finset.sum_congr rfl fun k _ => ?_
  exact congrArg₂ (· * ·) (congrArg x0 (at2 _ _ _ rfl rfl)) (congrArg x1 (at3 _ _ _ _ rfl rfl rfl))

theorem algebraic : algebraic_DownDxIdeal_DownDxRefIdeal := by
  intro m g m' g' _ hagree
  refine ⟨fun c => total m c, (θ_run _ _ _).mono (fun r h c => ⟨(h c).1.trans (final m c), (h c).2⟩) (Value.run_blocks m g),
    (θ_run _ _ _).mono (fun r h c => ?_) (Cert.DownDxRefIdeal.Value.run m' g')⟩
  obtain ⟨a0, a1⟩ := hagree c
  obtain ⟨u, uargs⟩ := h c
  refine ⟨(u.trans (Cert.DownDxRefIdeal.Read.val_main_v5_eq _ _)).trans ?_, uargs⟩
  rw [a0, a1]
  funext i
  exact reference _ _ i

theorem frame_reference : quiescent_DownDxRefIdeal := fun m g _ =>
  (θ_run _ _ _).mono (fun r h => ⟨fun c => (h c).2, sem_eq_zero_of_no_sems (by decide) r.2⟩) (Cert.DownDxRefIdeal.Value.run m g)

end Cert.Proof.DownDx

end
-- ==== Proof.DownDw.lean ====
/-
  The feed-forward down-projection's gradient with respect to its weights: the call adds the product of one tile of
  2048 tokens after another in its scratch and rounds the sum; the reference contracts all tokens at once.
-/
module

public import proofs.«01_k».proof.Defs
public import proofs.«01_k».proof.Proof.Place
public import proofs.«01_k».proof.Proof.Gen.DownDwIdeal.Value
public import proofs.«01_k».proof.Proof.Gen.DownDwRefIdeal.Run
public import proofs.«01_k».proof.Proof.Gen.DownDwRefIdeal.Read

@[expose] public section

set_option maxRecDepth 16384

noncomputable section

namespace Cert.Proof.DownDw

open Idealize.ShloMosaic Idealize.ShloMosaic.TcCoe Idealize.SL.Sem
open Cert.DownDwIdeal Cert.DownDwIdeal.Gen
open Idealize.ShloMosaic.Pipeline (Dat)
open scoped BigOperators

section Pieces
variable {F : FTy → Type} [FloatOps F]
variable (c : Dev nD) (i : grid0.Coords) (a5 : Memref sig .tc .vmem S1x2048x704 .bf16) (h5 : a5.IsWhole)
  (a6 : Memref sig .tc .vmem S2048x1024 .bf16) (h6 : a6.IsWhole) (a7 : Memref sig .tc .vmem S1x704x1024 .bf16) (h7 : a7.IsWhole)
  (a8 : Memref sig .tc .vmem S704x1024 .f32) (h8 : a8.IsWhole) (x0 : Vec F S1x2048x704 .bf16) (x1 : Vec F S2048x1024 .bf16)
  (xs : Vec F S704x1024 .f32)

theorem acc_A (h : cond0_0 i) (h' : ¬cond0_1 i) :
    sout0_A_0 c i a5 h5 a6 h6 a7 h7 a8 h8 h h' x0 x1 = k0_pay2 k0_pay1 x0 x1 := by
  unfold sout0_A_0
  rw [View.read_writes_eq_canon _ _ _ (scover0_A_0 c i a5 h5 a6 h6 a7 h7 a8 h8 h h' x0 x1)]
  unfold kernelRun0_A
  dsimp only
  sl_unfold_words
  rw [View.canon_cons_unit_zero (S := S704x1024) hz, View.readCov_unit_zero (S := S704x1024) _ hz]
  simp only [View.readAt_eq_ld, h5.read_unread, h6.read_unread, View.ld_unit_zero (S := S1x2048x704) hz3,
    View.ld_unit_zero (S := S2048x1024) hz]

theorem acc_B (h : ¬cond0_0 i) (h' : ¬cond0_1 i) :
    sout0_B_0 c i a5 h5 a6 h6 a7 h7 a8 h8 h h' x0 x1 xs = k0_pay2 xs x0 x1 := by
  unfold sout0_B_0
  rw [View.read_writes_eq_canon _ _ _ (scover0_B_0 c i a5 h5 a6 h6 a7 h7 a8 h8 h h' x0 x1 xs)]
  unfold kernelRun0_B
  dsimp only
  sl_unfold_words
  rw [View.canon_unit_zero hz]
  simp only [View.readAt_eq_ld, h5.read_unread, h6.read_unread, h8.read_unread, View.ld_unit_zero (S := S1x2048x704) hz3,
    View.ld_unit_zero (S := S2048x1024) hz, View.ld_unit_zero (S := S704x1024) hz]

theorem acc_C (h : ¬cond0_0 i) (h' : cond0_1 i) :
    sout0_C_0 c i a5 h5 a6 h6 a7 h7 a8 h8 h h' x0 x1 xs = k0_pay2 xs x0 x1 := by
  unfold sout0_C_0
  rw [View.read_writes_eq_canon _ _ _ (scover0_C_0 c i a5 h5 a6 h6 a7 h7 a8 h8 h h' x0 x1 xs)]
  unfold kernelRun0_C
  dsimp only
  sl_unfold_words
  rw [View.canon_unit_zero hz]
  simp only [View.readAt_eq_ld, h5.read_unread, h6.read_unread, h8.read_unread, View.ld_unit_zero (S := S1x2048x704) hz3,
    View.ld_unit_zero (S := S2048x1024) hz, View.ld_unit_zero (S := S704x1024) hz]

theorem out_C (h : ¬cond0_0 i) (h' : cond0_1 i) :
    out0_C_2 c i a5 h5 a6 h6 a7 h7 a8 h8 h h' x0 x1 xs = k0_pay3 (k0_pay2 xs x0 x1) := by
  unfold out0_C_2
  rw [View.read_writes_eq_canon _ _ _ (cover0_C_2 c i a5 h5 a6 h6 a7 h7 a8 h8 h h' x0 x1 xs)]
  unfold kernelRun0_C
  dsimp only
  sl_unfold_words
  rw [View.canon_unit_zero hz3, View.readCov_unit_zero (S := S704x1024) _ hz]
  simp only [View.readAt_eq_ld, h5.read_unread, h6.read_unread, h8.read_unread, View.ld_unit_zero (S := S1x2048x704) hz3,
    View.ld_unit_zero (S := S2048x1024) hz, View.ld_unit_zero (S := S704x1024) hz]

end Pieces

theorem pay1_apply (p : Fin 704) (q : Fin 1024) : k0_pay1 (F := Ideal) (ix2 p q) = 0 := by
  pointwise [k0_pay1]

theorem pay2_apply (xs : Vec Ideal S704x1024 .f32) (x0 : Vec Ideal S1x2048x704 .bf16) (x1 : Vec Ideal S2048x1024 .bf16)
    (p : Fin 704) (q : Fin 1024) :
    k0_pay2 xs x0 x1 (ix2 p q) = xs (ix2 p q) + ∑ k : Fin 2048, x0 (ix3 0 k p) * x1 (ix2 k q) := by
  pointwise [k0_pay2]

theorem pay3_apply (x : Vec Ideal S704x1024 .f32) (p : Fin 704) (q : Fin 1024) :
    k0_pay3 x (ix3 0 p q) = x (ix2 p q) := by
  pointwise [k0_pay3]

/-! ### The call's array -/

section Array

variable (m : (ℓ : Loc nD τ sig) → Buf (Elt Ideal) ℓ) (c : Dev nD)

theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)

theorem idx2 : ∀ t : Fin cfg0.N, win0_2.index t (0 : Fin 3) = t.val / 4 ∧ win0_2.index t (1 : Fin 3) = 0
    ∧ win0_2.index t (2 : Fin 3) = 0 :=
  (by decide +kernel : ∀ t : Fin grid0.N, _)

theorem lt_N (t : Fin cfg0.N) : t.val < 4 * 4 := by have := t.isLt; have h : cfg0.N = 4 * 4 := N_0; omega

/-- The call's two arguments, as it finds them. -/
abbrev A : S4x8192x704.Idx → EReal := m ((c : Thread nD τ).loc main_arg0)
abbrev B : S8192x1024.Idx → EReal := m ((c : Thread nD τ).loc main_arg1)

theorem blk_a (t : Fin cfg0.N) (p : Fin 704) (k : Fin 2048) :
    (iblk m c 0 t : Vec Ideal S1x2048x704 .bf16) (ix3 0 k p)
      = A m c (ix3 ⟨t.val / 4, by have := lt_N t; omega⟩ ⟨2048 * (t.val % 4) + k.val, by omega⟩ p) :=
  congrArg (A m c) (put3 (idx0 t) 1 0 2048 k 704 p)

theorem blk_b (t : Fin cfg0.N) (p : Fin 1024) (k : Fin 2048) :
    (iblk m c 1 t : Vec Ideal S2048x1024 .bf16) (ix2 k p) = B m c (ix2 ⟨2048 * (t.val % 4) + k.val, by omega⟩ p) :=
  congrArg (B m c) (put2 (idx1 t) 2048 k 1024 p)

/-- What token `s` contributes to block `n` at `(p, q)`. -/
def term (n : ℕ) (p : Fin 704) (q : Fin 1024) (s : ℕ) : EReal :=
  if h : n < 4 ∧ s < 8192 then A m c (ix3 ⟨n, h.1⟩ ⟨s, h.2⟩ p) * B m c (ix2 ⟨s, h.2⟩ q) else 0

theorem step (t : Fin cfg0.N) (xs : Vec Ideal S704x1024 .f32) (p : Fin 704) (q : Fin 1024) :
    k0_pay2 xs (iblk m c 0 t) (iblk m c 1 t) (ix2 p q)
      = xs (ix2 p q) + ∑ k ∈ Finset.range 2048, term m c (t.val / 4) p q (2048 * (t.val % 4) + k) := by
  have ht := lt_N t
  rw [pay2_apply, ← Fin.sum_univ_eq_sum_range (fun k => term m c (t.val / 4) p q (2048 * (t.val % 4) + k)) 2048]
  refine congrArg _ (Finset.sum_congr rfl fun k _ => ?_)
  unfold term
  rw [dif_pos ⟨by omega, by omega⟩]
  exact congrArg₂ _ (blk_a m c t p k) (blk_b m c t q k)

/-- After a point the scratch holds the tokens seen so far. -/
theorem scratch (p : Fin 704) (q : Fin 1024) : ∀ (n : ℕ) (h : n < cfg0.N),
    (outsAt0 m c n h).2 (ix2 p q) = ∑ s ∈ Finset.range (2048 * (n % 4 + 1)), term m c (n / 4) p q s := by
  intro n
  induction n with
  | zero =>
    intro h
    rw [outsAt0_A m c ⟨0, h⟩ rfl (by dsimp only; omega)]
    dsimp only
    rw [acc_A, step, pay1_apply, zero_add]
    exact Finset.sum_congr rfl fun k _ => congrArg _ (Nat.zero_add k)
  | succ n ih =>
    intro h
    by_cases h0 : (n + 1) % 4 = 0
    · rw [outsAt0_A m c ⟨n + 1, h⟩ h0 (by dsimp only; omega)]
      dsimp only
      rw [acc_A, step, pay1_apply, zero_add]
      dsimp only
      rw [h0]
      exact Finset.sum_congr rfl fun k _ => congrArg _ (Nat.zero_add k)
    · have e := ih (Nat.lt_of_succ_lt h)
      have hd : (n + 1) / 4 = n / 4 := by omega
      have hm : (n + 1) % 4 = n % 4 + 1 := by omega
      by_cases h1 : (n + 1) % 4 = 3
      · rw [outsAt0_C m c ⟨n + 1, h⟩ h0 h1]
        dsimp only
        rw [acc_C, step]
        dsimp only
        rw [hd, hm, Nat.mul_add 2048 (n % 4 + 1) 1, Nat.mul_one, Finset.sum_range_add]
        exact congrArg (· + _) e
      · rw [outsAt0_B m c ⟨n + 1, h⟩ h0 h1]
        dsimp only
        rw [acc_B, step]
        dsimp only
        rw [hd, hm, Nat.mul_add 2048 (n % 4 + 1) 1, Nat.mul_one, Finset.sum_range_add]
        exact congrArg (· + _) e

/-- The whole array: the sum over all tokens. -/
def total : S4x704x1024.Idx → EReal := fun i => ∑ s ∈ Finset.range 8192, term m c (i 0).val (i 1) (i 2) s

theorem total_eq (n : Fin 4) (p : Fin 704) (q : Fin 1024) :
    total m c (ix3 n p q) = ∑ s : Fin 8192, A m c (ix3 n s p) * B m c (ix2 s q) := by
  show ∑ s ∈ Finset.range 8192, term m c n.val p q s = _
  rw [← Fin.sum_univ_eq_sum_range (term m c n.val p q) 8192]
  refine Finset.sum_congr rfl fun s _ => ?_
  unfold term
  rw [dif_pos ⟨n.isLt, s.isLt⟩]

theorem flushed (t : Fin cfg0.N) (hf : (cfg0.win 2).flush t = true) :
    (dats m 0 c).flushed 2 t = ((cfg0.win 2).blk t).view.read (Elt Ideal) (total m c) := by
  have ht := lt_N t
  have h3 : t.val % 4 = 3 := (flush0_2 t).mp hf
  obtain ⟨e0, e1, e2⟩ := idx2 t
  have hs : t.val - 1 < cfg0.N := Nat.lt_of_le_of_lt (Nat.sub_le _ _) t.isLt
  rw [Value.flushed2_C m c t (by omega) h3, out_C]
  funext j
  obtain ⟨p, q, rfl⟩ : ∃ (p : Fin 704) (q : Fin 1024), j = ix3 0 p q :=
    ⟨j 1, j 2, (eq_ix3 j).trans (congrArg (fun a : Fin 1 => ix3 a (j 1) (j 2)) (Subsingleton.elim _ _))⟩
  show k0_pay3 (F := Ideal) _ (ix3 0 p q) = total m c (((cfg0.win 2).blk t).view.emb (ix3 0 p q))
  have he : ((cfg0.win 2).blk t).view.emb (ix3 0 p q) = ix3 ⟨t.val / 4, by omega⟩ p q :=
    put3 (idx2 t) 1 0 704 p 1024 q
  rw [he, pay3_apply, step, scratch m c p q (t.val - 1) hs, h3,
    show (t.val - 1) % 4 + 1 = 3 by omega, show (t.val - 1) / 4 = t.val / 4 by omega]
  exact (Finset.sum_range_add (term m c (t.val / 4) p q) 6144 2048).symm

theorem final : (dats m 0 c).arrAt 2 cfg0.N = total m c :=
  (dats m 0 c).arrAt_eq_of_cover 2 _ (fun t hf => flushed m c t hf) fun i => (Value.covered_iff2 i).2 (by
    have h0 : (i 0).val < 4 := (i 0).isLt; have h1 : (i 1).val < 704 := (i 1).isLt
    have h2 : (i 2).val < 1024 := (i 2).isLt; omega)

end Array

/-! ### The reference -/

theorem reference (x0 : S4x8192x704.Idx → EReal) (x1 : S8192x1024.Idx → EReal) (n : Fin 4) (p : Fin 704) (q : Fin 1024) :
    Cert.DownDwRefIdeal.Read.val_main_v6 (F := Ideal) x0 x1 (ix3 n p q) = ∑ s : Fin 8192, x0 (ix3 n s p) * x1 (ix2 s q) := by
  rw [Cert.DownDwRefIdeal.Read.val_main_v6_apply, Cert.DownDwRefIdeal.Read.val_main_v5_apply]
  show Cert.DownDwRefIdeal.Read.val_main_v4 (F := Ideal) x0 x1 _ = _
  rw [Cert.DownDwRefIdeal.Read.val_main_v4_apply]
  refine Finset.sum_congr rfl fun s _ => ?_
  rw [mul_comm]
  exact congrArg₂ (· * ·) (congrArg x0 (at3 _ _ _ _ rfl rfl rfl)) (congrArg x1 (at2 _ _ _ rfl rfl))

theorem algebraic : algebraic_DownDwIdeal_DownDwRefIdeal := by
  intro m g m' g' _ hagree
  refine ⟨fun c => total m c, (θ_run _ _ _).mono (fun r h c => ⟨(h c).1.trans (final m c), (h c).2⟩) (Value.run_blocks m g),
    (θ_run _ _ _).mono (fun r h c => ?_) (Cert.DownDwRefIdeal.Value.run m' g')⟩
  obtain ⟨a0, a1⟩ := hagree c
  obtain ⟨u, uargs⟩ := h c
  refine ⟨(u.trans (Cert.DownDwRefIdeal.Read.val_main_v6_eq _ _)).trans ?_, uargs⟩
  rw [a0, a1]
  funext j
  obtain ⟨n, p, q, rfl⟩ : ∃ (n : Fin 4) (p : Fin 704) (q : Fin 1024), j = ix3 n p q := ⟨j 0, j 1, j 2, eq_ix3 j⟩
  exact (reference _ _ n p q).trans (total_eq m c n p q).symm

theorem frame_reference : quiescent_DownDwRefIdeal := fun m g _ =>
  (θ_run _ _ _).mono (fun r h => ⟨fun c => (h c).2, sem_eq_zero_of_no_sems (by decide) r.2⟩) (Cert.DownDwRefIdeal.Value.run m g)

end Cert.Proof.DownDw

end
-- ==== Proof.GateBwd.lean ====
/-
  The backward of a gate: the call scales each tile of 256 rows and adds up the gate's gradient in its output block
  over the tiles; the reference does both for all rows at once.
-/
module

public import proofs.«01_k».proof.Defs
public import proofs.«01_k».proof.Proof.Place
public import proofs.«01_k».proof.Proof.Gen.GateBwdIdeal.Value
public import proofs.«01_k».proof.Proof.Gen.GateBwdRefIdeal.Run
public import proofs.«01_k».proof.Proof.Gen.GateBwdRefIdeal.Read

@[expose] public section

set_option maxRecDepth 16384

noncomputable section

namespace Cert.Proof.GateBwd

open Idealize.ShloMosaic Idealize.ShloMosaic.TcCoe Idealize.SL.Sem
open Cert.GateBwdIdeal Cert.GateBwdIdeal.Gen
open Idealize.ShloMosaic.Pipeline (Dat)
open scoped BigOperators

section Pieces
variable {F : FTy → Type} [FloatOps F]
variable (c : Dev nD) (i : grid0.Coords) (a1 : Memref sig .tc .vmem S256x1024 .f32) (h1 : a1.IsWhole)
  (a2 : Memref sig .tc .vmem S256x1024 .f32) (h2 : a2.IsWhole) (a3 : Memref sig .tc .vmem S1x1024 .f32) (h3 : a3.IsWhole)
  (a4 : Memref sig .tc .vmem S256x1024 .bf16) (h4 : a4.IsWhole) (a5 : Memref sig .tc .vmem S1x1024 .f32) (h5 : a5.IsWhole)
  (x0 x1 : Vec F S256x1024 .f32) (x2 xo : Vec F S1x1024 .f32)

theorem scaled_A (h : cond0_0 i) : out0_A_3 c i a1 h1 a2 h2 a3 h3 a4 h4 a5 h5 h x0 x1 x2 = k0_pay1 x0 x2 := by
  unfold out0_A_3
  rw [View.read_writes_eq_canon _ _ _ (cover0_A_3 c i a1 h1 a2 h2 a3 h3 a4 h4 a5 h5 h x0 x1 x2)]
  unfold kernelRun0_A
  dsimp only
  sl_unfold_words
  rw [View.canon_unit_zero hz]
  simp only [View.readAt_eq_ld, h1.read_unread, h2.read_unread, h3.read_unread, View.ld_unit_zero (S := S256x1024) hz,
    View.ld_unit_zero (S := S1x1024) hz]

theorem scaled_B (h : ¬cond0_0 i) : out0_B_3 c i a1 h1 a2 h2 a3 h3 a4 h4 a5 h5 h x0 x1 x2 xo = k0_pay1 x0 x2 := by
  unfold out0_B_3
  rw [View.read_writes_eq_canon _ _ _ (cover0_B_3 c i a1 h1 a2 h2 a3 h3 a4 h4 a5 h5 h x0 x1 x2 xo)]
  unfold kernelRun0_B
  dsimp only
  sl_unfold_words
  rw [View.canon_unit_zero hz]
  simp only [View.readAt_eq_ld, h1.read_unread, h2.read_unread, h3.read_unread, View.ld_unit_zero (S := S256x1024) hz,
    View.ld_unit_zero (S := S1x1024) hz]

theorem acc_A (h : cond0_0 i) : out0_A_4 c i a1 h1 a2 h2 a3 h3 a4 h4 a5 h5 h x0 x1 x2 = k0_pay3 x0 x1 k0_pay2 := by
  unfold out0_A_4
  rw [View.read_writes_eq_canon _ _ _ (cover0_A_4 c i a1 h1 a2 h2 a3 h3 a4 h4 a5 h5 h x0 x1 x2)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, View.ld_unit_zero (S := S256x1024) hz]

theorem acc_B (h : ¬cond0_0 i) : out0_B_4 c i a1 h1 a2 h2 a3 h3 a4 h4 a5 h5 h x0 x1 x2 xo = k0_pay3 x0 x1 xo := by
  unfold out0_B_4
  rw [View.read_writes_eq_canon _ _ _ (cover0_B_4 c i a1 h1 a2 h2 a3 h3 a4 h4 a5 h5 h x0 x1 x2 xo)]
  unfold kernelRun0_B
  dsimp only
  sl_unfold_words
  rw [View.canon_unit_zero hz]
  simp only [View.readAt_eq_ld, h1.read_unread, h2.read_unread, h5.read_unread, View.ld_unit_zero (S := S256x1024) hz,
    View.ld_unit_zero (S := S1x1024) hz]

end Pieces

theorem pay1_apply (x0 : Vec Ideal S256x1024 .f32) (x2 : Vec Ideal S1x1024 .f32) (r : Fin 256) (d : Fin 1024) :
    k0_pay1 x0 x2 (ix2 r d) = x0 (ix2 r d) * x2 (ix2 0 d) := by
  pointwise [k0_pay1]

theorem pay2_apply (d : Fin 1024) : k0_pay2 (F := Ideal) (ix2 0 d) = 0 := by
  pointwise [k0_pay2]

theorem pay3_apply (x0 x1 : Vec Ideal S256x1024 .f32) (y : Vec Ideal S1x1024 .f32) (d : Fin 1024) :
    k0_pay3 x0 x1 y (ix2 0 d) = y (ix2 0 d) + ∑ r : Fin 256, x0 (ix2 r d) * x1 (ix2 r d) := by
  pointwise [k0_pay3]

/-! ### The call's arrays -/

section Array

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

theorem lt32 (t : Fin cfg0.N) : t.val < 32 := by have := t.isLt; have h : cfg0.N = 32 := N_0; omega

/-- The incoming gradient, the gated value and the gate, as the call finds them. -/
abbrev X : S8192x1024.Idx → EReal := m ((c : Thread nD τ).loc main_arg0)
abbrev Y : S8192x1024.Idx → EReal := m ((c : Thread nD τ).loc main_arg1)
abbrev G : S1x1024.Idx → EReal := m ((c : Thread nD τ).loc main_arg2)

theorem blk_x (t : Fin cfg0.N) (r : Fin 256) (d : Fin 1024) :
    (iblk m c 0 t : Vec Ideal S256x1024 .f32) (ix2 r d) = X m c (ix2 ⟨256 * t.val + r.val, by have := lt32 t; omega⟩ d) :=
  congrArg (X m c) (put2 (idx0 t) 256 r 1024 d)

theorem blk_y (t : Fin cfg0.N) (r : Fin 256) (d : Fin 1024) :
    (iblk m c 1 t : Vec Ideal S256x1024 .f32) (ix2 r d) = Y m c (ix2 ⟨256 * t.val + r.val, by have := lt32 t; omega⟩ d) :=
  congrArg (Y m c) (put2 (idx1 t) 256 r 1024 d)

theorem blk_g (t : Fin cfg0.N) (d : Fin 1024) :
    (iblk m c 2 t : Vec Ideal S1x1024 .f32) (ix2 0 d) = G m c (ix2 0 d) :=
  congrArg (G m c) (put2 (idx2 t) 1 0 1024 d)

/-- What row `s` contributes to the gate's gradient. -/
def term (d : Fin 1024) (s : ℕ) : EReal := if h : s < 8192 then X m c (ix2 ⟨s, h⟩ d) * Y m c (ix2 ⟨s, h⟩ d) else 0

theorem step (t : Fin cfg0.N) (y : Vec Ideal S1x1024 .f32) (d : Fin 1024) :
    k0_pay3 (iblk m c 0 t) (iblk m c 1 t) y (ix2 0 d)
      = y (ix2 0 d) + ∑ k ∈ Finset.range 256, term m c d (256 * t.val + k) := by
  have ht := lt32 t
  rw [pay3_apply, ← Fin.sum_univ_eq_sum_range (fun k => term m c d (256 * t.val + k)) 256]
  refine congrArg _ (Finset.sum_congr rfl fun k _ => ?_)
  unfold term
  rw [dif_pos (by omega)]
  exact congrArg₂ _ (blk_x m c t k d) (blk_y m c t k d)

/-- After a point the block holds the rows seen so far. -/
theorem kept (d : Fin 1024) : ∀ (n : ℕ) (h : n < cfg0.N),
    (outsAt0 m c n h).2 (ix2 0 d) = ∑ s ∈ Finset.range (256 * (n + 1)), term m c d s := by
  intro n
  induction n with
  | zero =>
    intro h
    rw [outsAt0_A m c ⟨0, h⟩ rfl]
    dsimp only
    rw [acc_A, step, pay2_apply, zero_add]
    exact Finset.sum_congr rfl fun k _ => congrArg _ (Nat.zero_add k)
  | succ n ih =>
    intro h
    have h32 := lt32 ⟨n + 1, h⟩
    rw [outsAt0_B m c ⟨n + 1, h⟩ (by dsimp only at h32 ⊢; omega)]
    dsimp only
    rw [acc_B, step]
    dsimp only
    rw [Nat.mul_add 256 (n + 1) 1, Nat.mul_one, Finset.sum_range_add]
    exact congrArg (· + _) (ih (Nat.lt_of_succ_lt h))

/-- The scaled gradient, all rows. -/
def scaled : S8192x1024.Idx → EReal := fun i => X m c i * G m c (ix2 0 (i 1))

/-- The gate's gradient. -/
def total : S1x1024.Idx → EReal := fun i => ∑ s : Fin 8192, X m c (ix2 s (i 1)) * Y m c (ix2 s (i 1))

theorem total_eq (d : Fin 1024) : total m c (ix2 0 d) = ∑ s ∈ Finset.range 8192, term m c d s := by
  rw [← Fin.sum_univ_eq_sum_range (term m c d) 8192]
  refine Finset.sum_congr rfl fun s _ => ?_
  unfold term
  rw [dif_pos s.isLt]
  rfl

theorem flushed3 (t : Fin cfg0.N) :
    (dats m 0 c).flushed 3 t = ((cfg0.win 3).blk t).view.read (Elt Ideal) (scaled m c) := by
  have ht := lt32 t
  obtain ⟨e0, e1⟩ := idx3 t
  have hc : (dats m 0 c).flushed 3 t = (cfg0.win 3).cut (grid0.coords t) (k0_pay1 (iblk m c 0 t) (iblk m c 2 t)) := by
    by_cases h0 : t.val % 32 = 0
    · rw [Value.flushed3_A m c t h0, scaled_A]
    · rw [Value.flushed3_B m c t h0, scaled_B]
  rw [hc]
  funext j
  obtain ⟨r, d, rfl⟩ : ∃ (r : Fin 256) (d : Fin 1024), j = ix2 r d := ⟨j 0, j 1, eq_ix2 j⟩
  show k0_pay1 (F := Ideal) _ _ (ix2 r d) = scaled m c (((cfg0.win 3).blk t).view.emb (ix2 r d))
  have he : ((cfg0.win 3).blk t).view.emb (ix2 r d) = ix2 ⟨256 * t.val + r.val, by omega⟩ d :=
    put2 (idx3 t) 256 r 1024 d
  rw [he, pay1_apply]
  exact congrArg₂ _ (blk_x m c t r d) (blk_g m c t d)

theorem emb4 (t : Fin cfg0.N) (d : Fin 1024) : ((cfg0.win 4).blk t).view.emb (ix2 0 d) = ix2 0 d :=
  put2 (idx4 t) 1 0 1024 d

theorem row (j : S1x1024.Idx) : ∃ d : Fin 1024, j = ix2 0 d :=
  ⟨j 1, (eq_ix2 j).trans (congrArg (fun a : Fin 1 => ix2 a (j 1)) (Subsingleton.elim _ _))⟩

theorem flushed4 (t : Fin cfg0.N) (hf : (cfg0.win 4).flush t = true) :
    (dats m 0 c).flushed 4 t = ((cfg0.win 4).blk t).view.read (Elt Ideal) (total m c) := by
  have ht := lt32 t
  have h31 : t.val % 32 = 31 := (flush0_4 t).mp hf
  rw [Value.flushed4]
  funext j
  obtain ⟨d, rfl⟩ := row j
  show (outsAt0 m c t.val t.isLt).2 (ix2 0 d) = total m c (((cfg0.win 4).blk t).view.emb (ix2 0 d))
  rw [emb4, total_eq, kept, show 256 * (t.val + 1) = 8192 by omega]

/-- The point that writes a row back, and the last point. -/
def pt (i : S8192x1024.Idx) : Fin cfg0.N :=
  ⟨(i 0).val / 256, by have h0 : (i 0).val < 8192 := (i 0).isLt; have hN : cfg0.N = 32 := N_0; rw [hN]; omega⟩
def lastPt : Fin cfg0.N := ⟨31, by have hN : cfg0.N = 32 := N_0; rw [hN]; norm_num⟩

theorem cover3 (i : S8192x1024.Idx) : ∃ t : Fin cfg0.N, (cfg0.win 3).flush t = true ∧ i ∈ ((cfg0.win 3).blk t).view.set := by
  refine ⟨pt i, flush0_3 _, mem_at _ (ix2 ⟨(i 0).val % 256, Nat.mod_lt _ (by norm_num)⟩ (i 1) : S256x1024.Idx) ?_⟩
  have hp : (pt i).val = (i 0).val / 256 := rfl
  exact (put2 (a := i 0) (b := i 1) (idx3 (pt i)) 256 ((i 0).val % 256) 1024 (i 1).val).trans (eq_ix2 i).symm

theorem cover4 (i : S1x1024.Idx) : ∃ t : Fin cfg0.N, (cfg0.win 4).flush t = true ∧ i ∈ ((cfg0.win 4).blk t).view.set := by
  obtain ⟨d, rfl⟩ := row i
  refine ⟨lastPt, (flush0_4 _).mpr rfl, ?_⟩
  have h := ((cfg0.win 4).blk lastPt).view.emb_mem_set (ix2 0 d : S1x1024.Idx)
  rwa [emb4] at h

theorem final3 : (dats m 0 c).arrAt 3 cfg0.N = scaled m c :=
  (dats m 0 c).arrAt_eq_of_cover 3 _ (fun t _ => flushed3 m c t) cover3

theorem final4 : (dats m 0 c).arrAt 4 cfg0.N = total m c :=
  (dats m 0 c).arrAt_eq_of_cover 4 _ (fun t hf => flushed4 m c t hf) cover4

end Array

/-! ### The reference -/

theorem reference_scaled (x0 : S8192x1024.Idx → EReal) (x2 : S1x1024.Idx → EReal) (i : S8192x1024.Idx) :
    Cert.GateBwdRefIdeal.Read.val_main_v7 (F := Ideal) x0 x2 i = x0 i * x2 (ix2 0 (i 1)) := by
  rw [Cert.GateBwdRefIdeal.Read.val_main_v7_apply, Cert.GateBwdRefIdeal.Read.val_main_v6_apply,
    Cert.GateBwdRefIdeal.Read.val_main_v5_apply]
  refine congrArg (x0 i * ·) (congrArg x2 ?_)
  funext a; apply Fin.ext
  match a with
  | ⟨0, _⟩ => rfl
  | ⟨1, _⟩ => rfl

theorem reference_total (x0 x1 : S8192x1024.Idx → EReal) (d : Fin 1024) :
    Cert.GateBwdRefIdeal.Read.val_main_v4 (F := Ideal) x0 x1 (ix2 0 d) = ∑ s : Fin 8192, x0 (ix2 s d) * x1 (ix2 s d) := by
  rw [Cert.GateBwdRefIdeal.Read.val_main_v4_apply, Cert.GateBwdRefIdeal.Read.val_main_v3_apply,
    Cert.GateBwdRefIdeal.Read.val_main_cst_apply]
  have e : (FloatOps.ofBits .f32 0x00000000#32 : Ideal .f32) = 0 := Ideal.ofBits_zero _
  rw [e, zero_add]
  refine Finset.sum_congr rfl fun s _ => ?_
  rw [Cert.GateBwdRefIdeal.Read.val_main_v2_apply]
  have hi : Cert.GateBwdRefIdeal.Read.idx_main_v3 (Cert.GateBwdRefIdeal.Read.idx_main_v4 (ix2 0 d)) s = ix2 s d := by
    funext a; apply Fin.ext
    match a with
    | ⟨0, _⟩ => rfl
    | ⟨1, _⟩ => show 0 * 1024 + d.val = d.val; omega
  rw [hi]
  exact mul_comm _ _

theorem algebraic : algebraic_GateBwdIdeal_GateBwdRefIdeal := by
  intro m g m' g' _ hagree
  refine ⟨fun c => scaled m c, fun c => total m c,
    (θ_run _ _ _).mono (fun r h c => ⟨(h c).1.trans (final3 m c), (h c).2.1.trans (final4 m c), (h c).2.2⟩) (Value.run_blocks m g),
    (θ_run _ _ _).mono (fun r h c => ?_) (Cert.GateBwdRefIdeal.Value.run m' g')⟩
  obtain ⟨a0, a1, a2⟩ := hagree c
  obtain ⟨u, v, uargs⟩ := h c
  refine ⟨(u.trans (Cert.GateBwdRefIdeal.Read.val_main_v7_eq _ _)).trans ?_,
    (v.trans (Cert.GateBwdRefIdeal.Read.val_main_v4_eq _ _)).trans ?_, uargs⟩
  · rw [a0, a2]
    funext i
    exact reference_scaled _ _ i
  · rw [a0, a1]
    funext i
    obtain ⟨d, rfl⟩ := row i
    exact reference_total _ _ d

theorem frame_reference : quiescent_GateBwdRefIdeal := fun m g _ =>
  (θ_run _ _ _).mono (fun r h => ⟨fun c => (h c).2.2, sem_eq_zero_of_no_sems (by decide) r.2⟩) (Cert.GateBwdRefIdeal.Value.run m g)

end Cert.Proof.GateBwd

end
-- ==== Proof.Up.lean ====
/-
  The feed-forward up-projection: the grid point of a block and a tile of 1024 tokens
  contracts the whole of the inner axis, so each point's product is the reference's on its tile.
-/
module

public import proofs.«01_k».proof.Defs
public import proofs.«01_k».proof.Proof.Place
public import proofs.«01_k».proof.Proof.Gen.UpIdeal.Value
public import proofs.«01_k».proof.Proof.Gen.UpRefIdeal.Run
public import proofs.«01_k».proof.Proof.Gen.UpRefIdeal.Read

@[expose] public section

set_option maxRecDepth 16384

noncomputable section

namespace Cert.Proof.Up

open Idealize.ShloMosaic Idealize.ShloMosaic.TcCoe Idealize.SL.Sem
open Cert.UpIdeal Cert.UpIdeal.Gen
open Idealize.ShloMosaic.Pipeline (Dat)
open scoped BigOperators

theorem out_A {F : FTy → Type} [FloatOps F] (c : Dev nD) (i : grid0.Coords)
    (a5 : Memref sig .tc .vmem S1024x1024 .bf16) (h5 : a5.IsWhole)
    (a6 : Memref sig .tc .vmem S1x1024x704 .bf16) (h6 : a6.IsWhole) (a7 : Memref sig .tc .vmem S1x1024x704 .f32) (h7 : a7.IsWhole)
    (a8 : Memref sig .tc .vmem S1024x704 .f32) (h8 : a8.IsWhole) (x0 : Vec F S1024x1024 .bf16) (x1 : Vec F S1x1024x704 .bf16)
    (h : cond0_0 i) (h' : cond0_1 i) :
    out0_A_2 c i a5 h5 a6 h6 a7 h7 a8 h8 h h' x0 x1 = k0_pay3 (k0_pay2 k0_pay1 x0 x1) := by
  unfold out0_A_2
  rw [View.read_writes_eq_canon _ _ _ (cover0_A_2 c i a5 h5 a6 h6 a7 h7 a8 h8 h h' x0 x1)]
  unfold kernelRun0_A
  dsimp only
  sl_unfold_words
  rw [View.canon_unit_zero hz3, View.readCov_full (s := S1024x704),
    View.readCov_full (s := S1024x704)]
  simp only [View.readAt_eq_ld, h5.read_unread, h6.read_unread, View.ld_unit_zero (S := S1024x1024) hz,
    View.ld_unit_zero (S := S1x1024x704) hz3]

theorem pay1_apply (p : Fin 1024) (q : Fin 704) : k0_pay1 (F := Ideal) (ix2 p q) = 0 := by
  pointwise [k0_pay1]

theorem pay2_apply (xs : Vec Ideal S1024x704 .f32) (x0 : Vec Ideal S1024x1024 .bf16) (x1 : Vec Ideal S1x1024x704 .bf16)
    (p : Fin 1024) (q : Fin 704) :
    k0_pay2 xs x0 x1 (ix2 p q) = xs (ix2 p q) + ∑ k : Fin 1024, x0 (ix2 p k) * x1 (ix3 0 k q) := by
  pointwise [k0_pay2]

theorem pay3_apply (x : Vec Ideal S1024x704 .f32) (p : Fin 1024) (q : Fin 704) :
    k0_pay3 x (ix3 0 p q) = x (ix2 p q) := by
  pointwise [k0_pay3]

/-! ### The call's array -/

section Array

variable (m : (ℓ : Loc nD τ sig) → Buf (Elt Ideal) ℓ) (c : Dev nD)

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = t.val / 8 ∧ win0_1.index t (1 : Fin 3) = 0
    ∧ win0_1.index t (2 : Fin 3) = 0 :=
  (by decide +kernel : ∀ t : Fin grid0.N, _)
theorem idx2 : ∀ t : Fin cfg0.N, win0_2.index t (0 : Fin 3) = t.val / 8 ∧ win0_2.index t (1 : Fin 3) = t.val % 8
    ∧ win0_2.index t (2 : Fin 3) = 0 :=
  (by decide +kernel : ∀ t : Fin grid0.N, _)

theorem lt_N (t : Fin cfg0.N) : t.val < 8 * 8 := by have := t.isLt; have h : cfg0.N = 8 * 8 := N_0; omega

/-- The call's two arguments, as it finds them. -/
abbrev A : S8192x1024.Idx → EReal := m ((c : Thread nD τ).loc main_arg0)
abbrev B : S8x1024x704.Idx → EReal := m ((c : Thread nD τ).loc main_arg1)

theorem blk_a (t : Fin cfg0.N) (p : Fin 1024) (k : Fin 1024) :
    (iblk m c 0 t : Vec Ideal S1024x1024 .bf16) (ix2 p k) = A m c (ix2 ⟨1024 * (t.val % 8) + p.val, by omega⟩ k) :=
  congrArg (A m c) (put2 (idx0 t) 1024 p 1024 k)

theorem blk_b (t : Fin cfg0.N) (u : Fin 1024) (v : Fin 704) :
    (iblk m c 1 t : Vec Ideal S1x1024x704 .bf16) (ix3 0 u v)
      = B m c (ix3 ⟨t.val / 8, by have := lt_N t; omega⟩ u v) :=
  congrArg (B m c) (put3 (idx1 t) 1 0 1024 u 704 v)

/-- The whole array: the product of every block. -/
def total : S8x8192x704.Idx → EReal := fun i => ∑ k : Fin 1024, A m c (ix2 (i 1) k) * B m c (ix3 (i 0) k (i 2))

theorem flushed (t : Fin cfg0.N) :
    (dats m 0 c).flushed 2 t = ((cfg0.win 2).blk t).view.read (Elt Ideal) (total m c) := by
  have ht := lt_N t
  obtain ⟨e0, e1, e2⟩ := idx2 t
  rw [Value.flushed2_A m c t, out_A]
  funext j
  obtain ⟨p, q, rfl⟩ : ∃ (p : Fin 1024) (q : Fin 704), j = ix3 0 p q :=
    ⟨j 1, j 2, (eq_ix3 j).trans (congrArg (fun a : Fin 1 => ix3 a (j 1) (j 2)) (Subsingleton.elim _ _))⟩
  show k0_pay3 (F := Ideal) _ (ix3 0 p q) = total m c (((cfg0.win 2).blk t).view.emb (ix3 0 p q))
  have he : ((cfg0.win 2).blk t).view.emb (ix3 0 p q)
      = ix3 ⟨t.val / 8, by omega⟩ ⟨1024 * (t.val % 8) + p.val, by omega⟩ q :=
    put3 (idx2 t) 1 0 1024 p 704 q
  rw [he, pay3_apply, pay2_apply, pay1_apply, zero_add]
  exact Finset.sum_congr rfl fun k _ => congrArg₂ _ (blk_a m c t p k) (blk_b m c t k q)

/-- The point that writes an element back. -/
def pt (i : S8x8192x704.Idx) : Fin cfg0.N :=
  ⟨8 * (i 0).val + (i 1).val / 1024, by
    have h0 : (i 0).val < 8 := (i 0).isLt
    have h1 : (i 1).val < 8192 := (i 1).isLt
    have h : cfg0.N = 8 * 8 := N_0
    omega⟩

theorem cover (i : S8x8192x704.Idx) : ∃ t : Fin cfg0.N, (cfg0.win 2).flush t = true ∧ i ∈ ((cfg0.win 2).blk t).view.set := by
  refine ⟨pt i, flush0_2 _, mem_at _ (ix3 0 ⟨(i 1).val % 1024, Nat.mod_lt _ (by norm_num)⟩ (i 2) : S1x1024x704.Idx) ?_⟩
  have h1 : (i 1).val < 8192 := (i 1).isLt
  have hp : (pt i).val = 8 * (i 0).val + (i 1).val / 1024 := rfl
  exact (put3 (a := i 0) (b := i 1) (c := i 2) (idx2 (pt i)) 1 0 1024 ((i 1).val % 1024) 704 (i 2).val).trans (eq_ix3 i).symm

theorem final : (dats m 0 c).arrAt 2 cfg0.N = total m c :=
  (dats m 0 c).arrAt_eq_of_cover 2 _ (fun t _ => flushed m c t) cover

end Array

/-! ### The reference -/

theorem reference (x0 : S8192x1024.Idx → EReal) (x1 : S8x1024x704.Idx → EReal) (i : S8x8192x704.Idx) :
    Cert.UpRefIdeal.Read.val_main_v3 (F := Ideal) x0 x1 i = ∑ k : Fin 1024, x0 (ix2 (i 1) k) * x1 (ix3 (i 0) k (i 2)) := by
  rw [Cert.UpRefIdeal.Read.val_main_v3_apply, Cert.UpRefIdeal.Read.val_main_v2_apply]
  refine Finset.sum_congr rfl fun k _ => ?_
  rw [mul_comm]
  exact congrArg₂ (· * ·) (congrArg x0 (at2 _ _ _ rfl rfl)) (congrArg x1 (at3 _ _ _ _ rfl rfl rfl))

theorem algebraic : algebraic_UpIdeal_UpRefIdeal := by
  intro m g m' g' _ hagree
  refine ⟨fun c => total m c, (θ_run _ _ _).mono (fun r h c => ⟨(h c).1.trans (final m c), (h c).2⟩) (Value.run_blocks m g),
    (θ_run _ _ _).mono (fun r h c => ?_) (Cert.UpRefIdeal.Value.run m' g')⟩
  obtain ⟨a0, a1⟩ := hagree c
  obtain ⟨u, uargs⟩ := h c
  refine ⟨(u.trans (Cert.UpRefIdeal.Read.val_main_v3_eq _ _)).trans ?_, uargs⟩
  rw [a0, a1]
  funext i
  exact reference _ _ i

theorem frame_reference : quiescent_UpRefIdeal := fun m g _ =>
  (θ_run _ _ _).mono (fun r h => ⟨fun c => (h c).2, sem_eq_zero_of_no_sems (by decide) r.2⟩) (Cert.UpRefIdeal.Value.run m g)

end Cert.Proof.Up

end
-- ==== Proof.Mid.lean ====
/-
  The depthwise convolution over three neighbouring rows, its bias, and the gate that multiplies
  the second plane by the silu of the first: the grid point of a block and of 256 rows stages one
  tile of sixteen rows on either side, and so holds every row its convolution reads.
-/
module

public import proofs.«01_k».proof.Defs
public import proofs.«01_k».proof.Proof.Place
public import proofs.«01_k».proof.Proof.Gen.MidIdeal.Value
public import proofs.«01_k».proof.Proof.Gen.MidRefIdeal.Run
public import proofs.«01_k».proof.Proof.Gen.MidRefIdeal.Read

@[expose] public section

set_option maxRecDepth 16384

noncomputable section

namespace Cert.Proof.Mid

open Idealize.ShloMosaic Idealize.ShloMosaic.TcCoe Idealize.SL.Sem
open Cert.MidIdeal Cert.MidIdeal.Gen
open Idealize.ShloMosaic.Pipeline (Dat)
open scoped BigOperators

theorem hz4 : (![0, 0, 0, 0] : Fin 4 → Nat) = fun _ => 0 := funext fun a => by fin_cases a <;> rfl
/-- The two comparisons of the second grid coordinate, as a condition on the number. -/
theorem first_word : ∀ k : Fin 32, Scalar.cmpi .eq (BitVec.ofNat 32 k.val) 0#32 = if k.val = 0 then 1#1 else 0#1 := by decide
theorem last_word : ∀ k : Fin 32, Scalar.cmpi .eq (BitVec.ofNat 32 k.val) 31#32 = if k.val = 31 then 1#1 else 0#1 := by decide

theorem ext_apply (i : grid0.Coords) (v1 v6 : Vec Ideal S2x1x16x704 .f32) (v10 : Vec Ideal S2x1x256x704 .f32)
    (r : Fin 288) (q : Fin 704) :
    k0_pay2 i v1 v6 v10 (ix2 r q)
      = if h : r.val < 16 then (if (i 1).val = 0 then 0 else v1 (ix4 0 0 ⟨r.val, h⟩ q))
        else if h' : r.val - 16 < 256 then v10 (ix4 0 0 ⟨r.val - 16, h'⟩ q)
        else (if (i 1).val = 31 then 0 else v6 (ix4 0 0 ⟨r.val - 16 - 256, by omega⟩ q)) := by
  pointwise [k0_pay2]
  rw [first_word (i 1), last_word (i 1)]
  by_cases h : r.val < 16
  · rw [dif_pos h, dif_pos h]
    by_cases h0 : (i 1).val = 0
    · rw [if_pos h0, if_pos h0]; rfl
    · rw [if_neg h0, if_neg h0]; rfl
  · rw [dif_neg h, dif_neg h]
    by_cases h' : r.val - 16 < 256
    · rw [dif_pos h', dif_pos h']
    · rw [dif_neg h', dif_neg h']
      by_cases h0 : (i 1).val = 31
      · rw [if_pos h0, if_pos h0]; rfl
      · rw [if_neg h0, if_neg h0]; rfl

theorem pay3_apply (i : grid0.Coords) (v1 v6 : Vec Ideal S2x1x16x704 .f32) (v10 : Vec Ideal S2x1x256x704 .f32)
    (v15 v20 : Vec Ideal S1x1x704 .f32) (r : Fin 256) (q : Fin 704) :
    k0_pay3 i v1 v6 v10 v15 v20 (ix2 ⟨16 + r.val, by omega⟩ q)
      = v15 (ix3 0 0 q) * k0_pay2 i v1 v6 v10 (ix2 ⟨15 + r.val, by omega⟩ q)
        + v20 (ix3 0 0 q) * k0_pay2 i v1 v6 v10 (ix2 ⟨16 + r.val, by omega⟩ q) := by
  pointwise [k0_pay3]
  have e1 : (⟨(16 + r.val + 288 - 1) % 288, Nat.mod_lt _ (by norm_num)⟩ : Fin 288) = ⟨15 + r.val, by omega⟩ :=
    Fin.ext (by dsimp only; omega)
  have e2 : (⟨(16 + r.val + 288) % 288, Nat.mod_lt _ (by norm_num)⟩ : Fin 288) = ⟨16 + r.val, by omega⟩ :=
    Fin.ext (by dsimp only; omega)
  rw [e1, e2]

theorem pay4_apply (i : grid0.Coords) (v1 v6 : Vec Ideal S2x1x16x704 .f32) (v10 : Vec Ideal S2x1x256x704 .f32)
    (r : Fin 256) (q : Fin 704) :
    k0_pay4 i v1 v6 v10 (ix2 ⟨16 + r.val, by omega⟩ q) = k0_pay2 i v1 v6 v10 (ix2 ⟨17 + r.val, by omega⟩ q) := by
  pointwise [k0_pay4]
  have e : (⟨(16 + r.val + 288 - 287) % 288, Nat.mod_lt _ (by norm_num)⟩ : Fin 288) = ⟨17 + r.val, by omega⟩ :=
    Fin.ext (by dsimp only; omega)
  rw [e]

theorem pay5_apply (v : Vec Ideal S1x1x704 .f32) (r : Fin 288) (q : Fin 704) :
    k0_pay5 v (ix2 r q) = v (ix3 0 0 q) := by
  pointwise [k0_pay5]

/-- The silu of the first argument, times the second. -/
def gated (x y : EReal) : EReal := x * Ideal.logistic x * y

theorem pay1_apply (v25 v28 v29 : FVec Ideal S288x704 .f32) (v33 : Vec Ideal S1x1x704 .f32) (v39 : Vec Ideal S1x1x256x704 .f32)
    (r : Fin 256) (q : Fin 704) :
    k0_pay1 v25 v28 v29 v33 v39 (ix3 0 r q)
      = gated (v25 (ix2 ⟨16 + r.val, by omega⟩ q)
          + v29 (ix2 ⟨16 + r.val, by omega⟩ q) * v28 (ix2 ⟨16 + r.val, by omega⟩ q) + v33 (ix3 0 0 q))
        (v39 (ix4 0 0 r q)) := by
  unfold gated
  pointwise [k0_pay1]

/-! ### The call's array -/

section Array

variable (m : (ℓ : Loc nD τ sig) → Buf (Elt Ideal) ℓ) (c : Dev nD)

theorem idx0 : ∀ t : Fin cfg0.N, win0_0.index t (0 : Fin 4) = 0 ∧ win0_0.index t (1 : Fin 4) = t.val / 32
    ∧ win0_0.index t (2 : Fin 4) = 16 * (t.val % 32) - 1 ∧ win0_0.index t (3 : Fin 4) = 0 :=
  (by decide +kernel : ∀ t : Fin grid0.N, _)
theorem idx1 : ∀ t : Fin cfg0.N, win0_1.index t (0 : Fin 4) = 0 ∧ win0_1.index t (1 : Fin 4) = t.val / 32
    ∧ win0_1.index t (2 : Fin 4) = t.val % 32 ∧ win0_1.index t (3 : Fin 4) = 0 :=
  (by decide +kernel : ∀ t : Fin grid0.N, _)
theorem idx2 : ∀ t : Fin cfg0.N, win0_2.index t (0 : Fin 4) = 0 ∧ win0_2.index t (1 : Fin 4) = t.val / 32
    ∧ win0_2.index t (2 : Fin 4) = min (16 * (t.val % 32) + 16) 511 ∧ win0_2.index t (3 : Fin 4) = 0 :=
  (by decide +kernel : ∀ t : Fin grid0.N, _)
theorem idx3 : ∀ t : Fin cfg0.N, win0_3.index t (0 : Fin 3) = t.val / 32 ∧ win0_3.index t (1 : Fin 3) = 0
    ∧ win0_3.index t (2 : Fin 3) = 0 :=
  (by decide +kernel : ∀ t : Fin grid0.N, _)
theorem idx4 : ∀ t : Fin cfg0.N, win0_4.index t (0 : Fin 3) = t.val / 32 ∧ win0_4.index t (1 : Fin 3) = 0
    ∧ win0_4.index t (2 : Fin 3) = 0 :=
  (by decide +kernel : ∀ t : Fin grid0.N, _)
theorem idx5 : ∀ t : Fin cfg0.N, win0_5.index t (0 : Fin 3) = t.val / 32 ∧ win0_5.index t (1 : Fin 3) = t.val % 32
    ∧ win0_5.index t (2 : Fin 3) = 0 :=
  (by decide +kernel : ∀ t : Fin grid0.N, _)
theorem coord : ∀ t : Fin cfg0.N, (grid0.coords t 1).val = t.val % 32 :=
  (by decide +kernel : ∀ t : Fin grid0.N, _)

theorem lt_N (t : Fin cfg0.N) : t.val < 4 * 32 := by have := t.isLt; have h : cfg0.N = 4 * 32 := N_0; omega

/-- The call's three arguments, as it finds them. -/
abbrev U : S2x4x8192x704.Idx → EReal := m ((c : Thread nD τ).loc main_arg0)
abbrev W : S4x3x704.Idx → EReal := m ((c : Thread nD τ).loc main_arg1)
abbrev Bias : S4x1x704.Idx → EReal := m ((c : Thread nD τ).loc main_arg2)

/-- The block of a grid point. -/
def blockOf (t : Fin cfg0.N) : Fin 4 := ⟨t.val / 32, by have := lt_N t; omega⟩

theorem blk_before (t : Fin cfg0.N) (h : Fin 2) (r : Fin 16) (q : Fin 704) :
    (iblk m c 0 t : Vec Ideal S2x1x16x704 .f32) (ix4 h 0 r q)
      = U m c (ix4 h (blockOf t) ⟨16 * (16 * (t.val % 32) - 1) + r.val, by omega⟩ q) :=
  have e : (blockOf t).val = t.val / 32 := rfl
  congrArg (U m c) (put4 (idx0 t) 2 h 1 0 16 r 704 q)

theorem blk_here (t : Fin cfg0.N) (h : Fin 2) (r : Fin 256) (q : Fin 704) :
    (iblk m c 1 t : Vec Ideal S2x1x256x704 .f32) (ix4 h 0 r q)
      = U m c (ix4 h (blockOf t) ⟨256 * (t.val % 32) + r.val, by omega⟩ q) :=
  have e : (blockOf t).val = t.val / 32 := rfl
  congrArg (U m c) (put4 (idx1 t) 2 h 1 0 256 r 704 q)

theorem blk_after (t : Fin cfg0.N) (h : Fin 2) (r : Fin 16) (q : Fin 704) :
    (iblk m c 2 t : Vec Ideal S2x1x16x704 .f32) (ix4 h 0 r q)
      = U m c (ix4 h (blockOf t) ⟨16 * min (16 * (t.val % 32) + 16) 511 + r.val, by omega⟩ q) :=
  have e : (blockOf t).val = t.val / 32 := rfl
  congrArg (U m c) (put4 (idx2 t) 2 h 1 0 16 r 704 q)

theorem blk_w (t : Fin cfg0.N) (k : Fin 3) (q : Fin 704) :
    (iblk m c 3 t : Vec Ideal S1x3x704 .f32) (ix3 0 k q) = W m c (ix3 (blockOf t) k q) :=
  have e : (blockOf t).val = t.val / 32 := rfl
  congrArg (W m c) (put3 (idx3 t) 1 0 3 k 704 q)

theorem blk_bias (t : Fin cfg0.N) (q : Fin 704) :
    (iblk m c 4 t : Vec Ideal S1x1x704 .f32) (ix3 0 0 q) = Bias m c (ix3 (blockOf t) 0 q) :=
  have e : (blockOf t).val = t.val / 32 := rfl
  congrArg (Bias m c) (put3 (idx4 t) 1 0 1 0 704 q)

end Array

/-- Row `r - 1` of the first plane's block `b`, zero before its first row and after its last. -/
def padded (x : S2x4x8192x704.Idx → EReal) (b : Fin 4) (q : Fin 704) (r : ℕ) : EReal :=
  if h : 1 ≤ r ∧ r < 8193 then x (ix4 0 b ⟨r - 1, by omega⟩ q) else 0

/-- The convolution with its bias. -/
def conv (x : S2x4x8192x704.Idx → EReal) (w : S4x3x704.Idx → EReal) (b : S4x1x704.Idx → EReal)
    (j : Fin 4) (s : ℕ) (q : Fin 704) : EReal :=
  w (ix3 j 0 q) * padded x j q s + w (ix3 j 1 q) * padded x j q (s + 1) + w (ix3 j 2 q) * padded x j q (s + 2)
    + b (ix3 j 0 q)

def total (x : S2x4x8192x704.Idx → EReal) (w : S4x3x704.Idx → EReal) (b : S4x1x704.Idx → EReal) : S4x8192x704.Idx → EReal :=
  fun i => gated (conv x w b (i 0) (i 1).val (i 2)) (x (ix4 1 (i 0) (i 1) (i 2)))

section Array2

variable (m : (ℓ : Loc nD τ sig) → Buf (Elt Ideal) ℓ) (c : Dev nD)

/-- What a point holds of the rows around its tile. -/
theorem ext_pt (t : Fin cfg0.N) (r : Fin 288) (h : 15 ≤ r.val ∧ r.val < 273) (q : Fin 704) :
    k0_pay2 (grid0.coords t) (iblk m c 0 t) (iblk m c 2 t) (iblk m c 1 t) (ix2 r q)
      = padded (U m c) (blockOf t) q (256 * (t.val % 32) + r.val - 15) := by
  rw [ext_apply]
  have hc := coord t
  unfold padded
  by_cases h1 : r.val < 16
  · rw [dif_pos h1]
    by_cases h0 : (grid0.coords t 1).val = 0
    · rw [if_pos h0, dif_neg (by omega)]
    · rw [if_neg h0, dif_pos (by omega), blk_before]
      exact congrArg (fun s => U m c (ix4 0 (blockOf t) s q)) (Fin.ext (by dsimp only; omega))
  · rw [dif_neg h1]
    by_cases h2 : r.val - 16 < 256
    · rw [dif_pos h2, dif_pos (by omega), blk_here]
      exact congrArg (fun s => U m c (ix4 0 (blockOf t) s q)) (Fin.ext (by dsimp only; omega))
    · rw [dif_neg h2]
      by_cases h0 : (grid0.coords t 1).val = 31
      · rw [if_pos h0, dif_neg (by omega)]
      · rw [if_neg h0, dif_pos (by omega), blk_after]
        exact congrArg (fun s => U m c (ix4 0 (blockOf t) s q)) (Fin.ext (by dsimp only; omega))

theorem out_apply (i : grid0.Coords) (x0 : Vec Ideal S2x1x16x704 .f32) (x1 : Vec Ideal S2x1x256x704 .f32)
    (x2 : Vec Ideal S2x1x16x704 .f32) (x3 : Vec Ideal S1x3x704 .f32) (x4 : Vec Ideal S1x1x704 .f32) (r : Fin 256) (q : Fin 704) :
    out0_5 i x0 x1 x2 x3 x4 (ix3 0 r q)
      = gated (x3 (ix3 0 0 q) * k0_pay2 i x0 x2 x1 (ix2 ⟨15 + r.val, by omega⟩ q)
          + x3 (ix3 0 1 q) * k0_pay2 i x0 x2 x1 (ix2 ⟨16 + r.val, by omega⟩ q)
          + x3 (ix3 0 2 q) * k0_pay2 i x0 x2 x1 (ix2 ⟨17 + r.val, by omega⟩ q) + x4 (ix3 0 0 q))
        (x1 (ix4 1 0 r q)) := by
  unfold out0_5
  rw [View.canon_unit_zero hz3, View.ld_unit_zero (S := S2x1x16x704) hz4, View.ld_unit_zero (S := S2x1x16x704) hz4,
    View.ld_unit_zero (S := S2x1x256x704) hz4, View.ld_unit_zero (S := S1x1x704) hz3, pay1_apply, pay3_apply, pay4_apply, pay5_apply]
  have e0 : View.ld x3 r0_2 (ix3 0 0 q) = x3 (ix3 0 0 q) :=
    (show View.ld x3 r0_2 _ = x3 (r0_2.idx _) from rfl).trans (congrArg x3 (funext fun a => Fin.ext (by
      match a with
      | ⟨0, _⟩ => rfl
      | ⟨1, _⟩ => rfl
      | ⟨2, _⟩ => show 0 + 1 * q.val = q.val; omega)))
  have e1 : View.ld x3 r0_3 (ix3 0 0 q) = x3 (ix3 0 1 q) :=
    (show View.ld x3 r0_3 _ = x3 (r0_3.idx _) from rfl).trans (congrArg x3 (funext fun a => Fin.ext (by
      match a with
      | ⟨0, _⟩ => rfl
      | ⟨1, _⟩ => rfl
      | ⟨2, _⟩ => show 0 + 1 * q.val = q.val; omega)))
  have e2 : View.ld x3 r0_4 (ix3 0 0 q) = x3 (ix3 0 2 q) :=
    (show View.ld x3 r0_4 _ = x3 (r0_4.idx _) from rfl).trans (congrArg x3 (funext fun a => Fin.ext (by
      match a with
      | ⟨0, _⟩ => rfl
      | ⟨1, _⟩ => rfl
      | ⟨2, _⟩ => show 0 + 1 * q.val = q.val; omega)))
  have e3 : View.ld x1 r0_6 (ix4 0 0 r q) = x1 (ix4 1 0 r q) :=
    (show View.ld x1 r0_6 _ = x1 (r0_6.idx _) from rfl).trans (congrArg x1 (funext fun a => Fin.ext (by
      match a with
      | ⟨0, _⟩ => rfl
      | ⟨1, _⟩ => rfl
      | ⟨2, _⟩ => show 0 + 1 * r.val = r.val; omega
      | ⟨3, _⟩ => show 0 + 1 * q.val = q.val; omega)))
  rw [e0, e1, e2, e3]

theorem flushed (t : Fin cfg0.N) :
    (dats m 0 c).flushed 5 t = ((cfg0.win 5).blk t).view.read (Elt Ideal) (total (U m c) (W m c) (Bias m c)) := by
  have ht := lt_N t
  obtain ⟨e0, e1, e2⟩ := idx5 t
  rw [Value.flushed5 m c t]
  funext j
  obtain ⟨p, q, rfl⟩ : ∃ (p : Fin 256) (q : Fin 704), j = ix3 0 p q :=
    ⟨j 1, j 2, (eq_ix3 j).trans (congrArg (fun a : Fin 1 => ix3 a (j 1) (j 2)) (Subsingleton.elim _ _))⟩
  show out0_5 (F := Ideal) _ _ _ _ _ _ (ix3 0 p q) = total (U m c) (W m c) (Bias m c) (((cfg0.win 5).blk t).view.emb (ix3 0 p q))
  have he : ((cfg0.win 5).blk t).view.emb (ix3 0 p q)
      = ix3 (blockOf t) ⟨256 * (t.val % 32) + p.val, by omega⟩ q :=
    have e : (blockOf t).val = t.val / 32 := rfl
    put3 (idx5 t) 1 0 256 p 704 q
  rw [he, out_apply, ext_pt m c t _ (by dsimp only; omega), ext_pt m c t _ (by dsimp only; omega),
    ext_pt m c t _ (by dsimp only; omega), blk_w, blk_w, blk_w, blk_bias, blk_here]
  have f0 : 256 * (t.val % 32) + (15 + p.val) - 15 = 256 * (t.val % 32) + p.val := by omega
  have f1 : 256 * (t.val % 32) + (16 + p.val) - 15 = 256 * (t.val % 32) + p.val + 1 := by omega
  have f2 : 256 * (t.val % 32) + (17 + p.val) - 15 = 256 * (t.val % 32) + p.val + 2 := by omega
  dsimp only
  rw [f0, f1, f2]
  rfl

/-- The point that writes an element back. -/
def pt (i : S4x8192x704.Idx) : Fin cfg0.N :=
  ⟨32 * (i 0).val + (i 1).val / 256, by
    have h0 : (i 0).val < 4 := (i 0).isLt
    have h1 : (i 1).val < 8192 := (i 1).isLt
    have h : cfg0.N = 4 * 32 := N_0
    omega⟩

theorem cover (i : S4x8192x704.Idx) : ∃ t : Fin cfg0.N, (cfg0.win 5).flush t = true ∧ i ∈ ((cfg0.win 5).blk t).view.set := by
  refine ⟨pt i, flush0_5 _, mem_at _ (ix3 0 ⟨(i 1).val % 256, Nat.mod_lt _ (by norm_num)⟩ (i 2) : S1x256x704.Idx) ?_⟩
  have h1 : (i 1).val < 8192 := (i 1).isLt
  have hp : (pt i).val = 32 * (i 0).val + (i 1).val / 256 := rfl
  exact (put3 (a := i 0) (b := i 1) (c := i 2) (idx5 (pt i)) 1 0 256 ((i 1).val % 256) 704 (i 2).val).trans (eq_ix3 i).symm

theorem final : (dats m 0 c).arrAt 5 cfg0.N = total (U m c) (W m c) (Bias m c) :=
  (dats m 0 c).arrAt_eq_of_cover 5 _ (fun t _ => flushed m c t) cover

end Array2

/-! ### The reference -/

section Reference

open Cert.MidRefIdeal.Read

/-- A row of the first plane. -/
theorem plane (x0 : S2x4x8192x704.Idx → EReal) (j : Fin 4) (s : Fin 8192) (q : Fin 704) :
    val_main_v1 (F := Ideal) x0 (ix3 j s q) = x0 (ix4 0 j s q) := by
  pointwise [val_main_v1, val_main_v0]

/-- The row before, and the row after. -/
theorem before (x0 : S2x4x8192x704.Idx → EReal) (j : Fin 4) (s : Fin 8192) (q : Fin 704) :
    val_main_v5 (F := Ideal) x0 (ix3 j s q) = padded x0 j q s.val := by
  pointwise [val_main_v5, val_main_v4, val_main_v3, val_main_cst, val_main_v1, val_main_v0]
  unfold padded
  have hs := s.isLt
  by_cases h : s.val < 1
  · rw [dif_pos h, dif_neg (by omega)]
  · rw [dif_neg h, dif_pos (by omega)]

theorem after (x0 : S2x4x8192x704.Idx → EReal) (j : Fin 4) (s : Fin 8192) (q : Fin 704) :
    val_main_v15 (F := Ideal) x0 (ix3 j s q) = padded x0 j q (s.val + 2) := by
  pointwise [val_main_v15, val_main_v14, val_main_v13, val_main_cst_0, val_main_v1, val_main_v0]
  unfold padded
  have hs := s.isLt
  by_cases h : s.val < 8191
  · rw [dif_pos h, dif_pos (by omega)]
    exact congrArg (fun r => x0 (ix4 0 j r q)) (Fin.ext (by dsimp only; omega))
  · rw [dif_neg h, dif_neg (by omega)]

theorem reference (x0 : S2x4x8192x704.Idx → EReal) (x1 : S4x3x704.Idx → EReal) (x2 : S4x1x704.Idx → EReal)
    (j : Fin 4) (s : Fin 8192) (q : Fin 704) :
    val_main_v25 (F := Ideal) x0 x1 x2 (ix3 j s q) = total x0 x1 x2 (ix3 j s q) := by
  have h1 := plane x0 j s q
  have h2 := before x0 j s q
  have h3 := after x0 j s q
  pointwise [val_main_v25, val_main_v24, val_main_v23, val_main_v22, val_main_v21, val_main_call0_v5, val_main_call0_v4,
    val_main_call0_v3, val_main_call0_v2, val_main_call0_v1, val_main_call0_v0, val_main_call0_cst, val_main_call0_cst_0,
    val_main_v20, val_main_v19, val_main_v18, val_main_v17, val_main_v16, val_main_v12, val_main_v11, val_main_v10,
    val_main_v9, val_main_v8, val_main_v7, val_main_v6, val_main_v2]
  have h0 : padded x0 j q (s.val + 1) = x0 (ix4 0 j s q) := by
    unfold padded
    rw [dif_pos ⟨by omega, by omega⟩]
    exact congrArg (fun r => x0 (ix4 0 j r q)) (Fin.ext (by dsimp only; omega))
  rw [h1, h2, h3, ← h0]
  rfl

end Reference

theorem algebraic : algebraic_MidIdeal_MidRefIdeal := by
  intro m g m' g' _ hagree
  refine ⟨fun c => total (U m c) (W m c) (Bias m c),
    (θ_run _ _ _).mono (fun r h c => ⟨(h c).1.trans (final m c), (h c).2⟩) (Value.run_blocks m g),
    (θ_run _ _ _).mono (fun r h c => ?_) (Cert.MidRefIdeal.Value.run m' g')⟩
  obtain ⟨a0, a1, a2⟩ := hagree c
  obtain ⟨u, uargs⟩ := h c
  refine ⟨(u.trans (Cert.MidRefIdeal.Read.val_main_v25_eq _ _)).trans ?_, uargs⟩
  rw [a0, a1, a2]
  funext i
  rw [eq_ix3 i]
  exact reference _ _ _ _ _ _

theorem frame_reference : quiescent_MidRefIdeal := fun m g _ =>
  (θ_run _ _ _).mono (fun r h => ⟨fun c => (h c).2, sem_eq_zero_of_no_sems (by decide) r.2⟩) (Cert.MidRefIdeal.Value.run m g)

end Cert.Proof.Mid

end
-- ==== Proof.Down.lean ====
/-
  The feed-forward down-projection and the residual it feeds: the call adds the product of one block of columns after
  another in its scratch, then writes the sum and the residual plus the gated sum; the reference contracts both axes
  at once.
-/
module

public import proofs.«01_k».proof.Defs
public import proofs.«01_k».proof.Proof.Place
public import proofs.«01_k».proof.Proof.Gen.DownIdeal.Value
public import proofs.«01_k».proof.Proof.Gen.DownRefIdeal.Run
public import proofs.«01_k».proof.Proof.Gen.DownRefIdeal.Read
public import Idealize.ShloMosaic.Lib.TwoAxisContraction

@[expose] public section

set_option maxRecDepth 16384

noncomputable section

namespace Cert.Proof.Down

open Idealize.ShloMosaic Idealize.ShloMosaic.TcCoe Idealize.SL.Sem
open Cert.DownIdeal Cert.DownIdeal.Gen
open Idealize.ShloMosaic.Pipeline (Dat)
open scoped BigOperators

section Pieces
variable {F : FTy → Type} [FloatOps F]
variable (c : Dev nD) (i : grid0.Coords) (a5 : Memref sig .tc .vmem S1x1024x704 .bf16) (h5 : a5.IsWhole)
  (a6 : Memref sig .tc .vmem S1x704x1024 .bf16) (h6 : a6.IsWhole) (a7 : Memref sig .tc .vmem S1024x1024 .f32) (h7 : a7.IsWhole)
  (a8 : Memref sig .tc .vmem S1x1024 .f32) (h8 : a8.IsWhole) (a9 : Memref sig .tc .vmem S1024x1024 .f32) (h9 : a9.IsWhole)
  (a10 : Memref sig .tc .vmem S1024x1024 .f32) (h10 : a10.IsWhole) (a11 : Memref sig .tc .vmem S1024x1024 .f32) (h11 : a11.IsWhole)
  (x0 : Vec F S1x1024x704 .bf16) (x1 : Vec F S1x704x1024 .bf16) (x2 : Vec F S1024x1024 .f32) (x3 : Vec F S1x1024 .f32)
  (xs : Vec F S1024x1024 .f32)

theorem acc_A (h : cond0_0 i) (h' : ¬cond0_1 i) :
    sout0_A_0 c i a5 h5 a6 h6 a7 h7 a8 h8 a9 h9 a10 h10 a11 h11 h h' x0 x1 x2 x3 = k0_pay2 k0_pay1 x0 x1 := by
  unfold sout0_A_0
  rw [View.read_writes_eq_canon _ _ _ (scover0_A_0 c i a5 h5 a6 h6 a7 h7 a8 h8 a9 h9 a10 h10 a11 h11 h h' x0 x1 x2 x3)]
  unfold kernelRun0_A
  dsimp only
  sl_unfold_words
  rw [View.canon_cons_unit_zero (S := S1024x1024) hz, View.readCov_unit_zero (S := S1024x1024) _ hz]
  simp only [View.readAt_eq_ld, h5.read_unread, h6.read_unread, View.ld_unit_zero (S := S1x1024x704) hz3,
    View.ld_unit_zero (S := S1x704x1024) hz3]

theorem acc_B (h : ¬cond0_0 i) (h' : ¬cond0_1 i) :
    sout0_B_0 c i a5 h5 a6 h6 a7 h7 a8 h8 a9 h9 a10 h10 a11 h11 h h' x0 x1 x2 x3 xs = k0_pay2 xs x0 x1 := by
  unfold sout0_B_0
  rw [View.read_writes_eq_canon _ _ _ (scover0_B_0 c i a5 h5 a6 h6 a7 h7 a8 h8 a9 h9 a10 h10 a11 h11 h h' x0 x1 x2 x3 xs)]
  unfold kernelRun0_B
  dsimp only
  sl_unfold_words
  rw [View.canon_unit_zero hz]
  simp only [View.readAt_eq_ld, h5.read_unread, h6.read_unread, h11.read_unread, View.ld_unit_zero (S := S1x1024x704) hz3,
    View.ld_unit_zero (S := S1x704x1024) hz3, View.ld_unit_zero (S := S1024x1024) hz]

theorem acc_C (h : ¬cond0_0 i) (h' : cond0_1 i) :
    sout0_C_0 c i a5 h5 a6 h6 a7 h7 a8 h8 a9 h9 a10 h10 a11 h11 h h' x0 x1 x2 x3 xs = k0_pay2 xs x0 x1 := by
  unfold sout0_C_0
  rw [View.read_writes_eq_canon _ _ _ (scover0_C_0 c i a5 h5 a6 h6 a7 h7 a8 h8 a9 h9 a10 h10 a11 h11 h h' x0 x1 x2 x3 xs)]
  unfold kernelRun0_C
  dsimp only
  sl_unfold_words
  rw [View.canon_unit_zero hz]
  simp only [View.readAt_eq_ld, h5.read_unread, h6.read_unread, h11.read_unread, View.ld_unit_zero (S := S1x1024x704) hz3,
    View.ld_unit_zero (S := S1x704x1024) hz3, View.ld_unit_zero (S := S1024x1024) hz]

theorem sum_C (h : ¬cond0_0 i) (h' : cond0_1 i) :
    out0_C_5 c i a5 h5 a6 h6 a7 h7 a8 h8 a9 h9 a10 h10 a11 h11 h h' x0 x1 x2 x3 xs = k0_pay2 xs x0 x1 := by
  unfold out0_C_5
  rw [View.read_writes_eq_canon _ _ _ (cover0_C_5 c i a5 h5 a6 h6 a7 h7 a8 h8 a9 h9 a10 h10 a11 h11 h h' x0 x1 x2 x3 xs)]
  unfold kernelRun0_C
  dsimp only
  sl_unfold_words
  rw [View.canon_unit_zero hz, View.readCov_unit_zero (S := S1024x1024) _ hz]
  simp only [View.readAt_eq_ld, h5.read_unread, h6.read_unread, h11.read_unread, View.ld_unit_zero (S := S1x1024x704) hz3,
    View.ld_unit_zero (S := S1x704x1024) hz3, View.ld_unit_zero (S := S1024x1024) hz]

theorem res_C (h : ¬cond0_0 i) (h' : cond0_1 i) :
    out0_C_4 c i a5 h5 a6 h6 a7 h7 a8 h8 a9 h9 a10 h10 a11 h11 h h' x0 x1 x2 x3 xs = k0_pay3 x2 x3 (k0_pay2 xs x0 x1) := by
  unfold out0_C_4
  rw [View.read_writes_eq_canon _ _ _ (cover0_C_4 c i a5 h5 a6 h6 a7 h7 a8 h8 a9 h9 a10 h10 a11 h11 h h' x0 x1 x2 x3 xs)]
  unfold kernelRun0_C
  dsimp only
  sl_unfold_words
  rw [View.canon_unit_zero hz, View.readCov_unit_zero (S := S1024x1024) _ hz]
  simp only [View.readAt_eq_ld, h5.read_unread, h6.read_unread, h7.read_unread, h8.read_unread, h11.read_unread,
    View.ld_unit_zero (S := S1x1024x704) hz3, View.ld_unit_zero (S := S1x704x1024) hz3, View.ld_unit_zero (S := S1024x1024) hz,
    View.ld_unit_zero (S := S1x1024) hz]

end Pieces

theorem pay1_apply (r d : Fin 1024) : k0_pay1 (F := Ideal) (ix2 r d) = 0 := by
  pointwise [k0_pay1]

theorem pay2_apply (xs : Vec Ideal S1024x1024 .f32) (x0 : Vec Ideal S1x1024x704 .bf16) (x1 : Vec Ideal S1x704x1024 .bf16)
    (r d : Fin 1024) :
    k0_pay2 xs x0 x1 (ix2 r d) = xs (ix2 r d) + ∑ k : Fin 704, x0 (ix3 0 r k) * x1 (ix3 0 k d) := by
  pointwise [k0_pay2]

theorem pay3_apply (x2 : Vec Ideal S1024x1024 .f32) (x3 : Vec Ideal S1x1024 .f32) (y : Vec Ideal S1024x1024 .f32)
    (r d : Fin 1024) :
    k0_pay3 x2 x3 y (ix2 r d) = x2 (ix2 r d) + x3 (ix2 0 d) * y (ix2 r d) := by
  pointwise [k0_pay3]

/-! ### The call's arrays -/

section Array

variable (m : (ℓ : Loc nD τ sig) → Buf (Elt Ideal) ℓ) (c : Dev nD)

theorem idx0 : ∀ t : Fin cfg0.N, win0_0.index t (0 : Fin 3) = t.val % 4 ∧ win0_0.index t (1 : Fin 3) = t.val / 4
    ∧ win0_0.index t (2 : Fin 3) = 0 :=
  (by decide +kernel : ∀ t : Fin grid0.N, _)
theorem idx1 : ∀ t : Fin cfg0.N, win0_1.index t (0 : Fin 3) = t.val % 4 ∧ win0_1.index t (1 : Fin 3) = 0
    ∧ win0_1.index t (2 : Fin 3) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val / 4 ∧ win0_4.index t (1 : Fin 2) = 0 :=
  (by decide +kernel : ∀ t : Fin grid0.N, _)
theorem idx5 : ∀ t : Fin cfg0.N, win0_5.index t (0 : Fin 2) = t.val / 4 ∧ win0_5.index t (1 : Fin 2) = 0 :=
  (by decide +kernel : ∀ t : Fin grid0.N, _)

theorem lt32 (t : Fin cfg0.N) : t.val < 32 := by have := t.isLt; have h : cfg0.N = 32 := N_0; omega

/-- The columns, the weights, the residual and the gate, as the call finds them. -/
abbrev A : S4x8192x704.Idx → EReal := m ((c : Thread nD τ).loc main_arg0)
abbrev W : S4x704x1024.Idx → EReal := m ((c : Thread nD τ).loc main_arg1)
abbrev X : S8192x1024.Idx → EReal := m ((c : Thread nD τ).loc main_arg2)
abbrev G : S1x1024.Idx → EReal := m ((c : Thread nD τ).loc main_arg3)

theorem blk_a (t : Fin cfg0.N) (r : Fin 1024) (k : Fin 704) :
    (iblk m c 0 t : Vec Ideal S1x1024x704 .bf16) (ix3 0 r k)
      = A m c (ix3 ⟨t.val % 4, by omega⟩ ⟨1024 * (t.val / 4) + r.val, by have := lt32 t; omega⟩ k) :=
  congrArg (A m c) (put3 (idx0 t) 1 0 1024 r 704 k)

theorem blk_w (t : Fin cfg0.N) (k : Fin 704) (d : Fin 1024) :
    (iblk m c 1 t : Vec Ideal S1x704x1024 .bf16) (ix3 0 k d) = W m c (ix3 ⟨t.val % 4, by omega⟩ k d) :=
  congrArg (W m c) (put3 (idx1 t) 1 0 704 k 1024 d)

theorem blk_x (t : Fin cfg0.N) (r d : Fin 1024) :
    (iblk m c 2 t : Vec Ideal S1024x1024 .f32) (ix2 r d)
      = X m c (ix2 ⟨1024 * (t.val / 4) + r.val, by have := lt32 t; omega⟩ d) :=
  congrArg (X m c) (put2 (idx2 t) 1024 r 1024 d)

theorem blk_g (t : Fin cfg0.N) (d : Fin 1024) :
    (iblk m c 3 t : Vec Ideal S1x1024 .f32) (ix2 0 d) = G m c (ix2 0 d) :=
  congrArg (G m c) (put2 (idx3 t) 1 0 1024 d)

/-- What one block of columns contributes at row `s`, column `d`. -/
def term (b s : ℕ) (d : Fin 1024) : EReal :=
  if h : b < 4 ∧ s < 8192 then ∑ k : Fin 704, A m c (ix3 ⟨b, h.1⟩ ⟨s, h.2⟩ k) * W m c (ix3 ⟨b, h.1⟩ k d) else 0

theorem step (t : Fin cfg0.N) (xs : Vec Ideal S1024x1024 .f32) (r d : Fin 1024) :
    k0_pay2 xs (iblk m c 0 t) (iblk m c 1 t) (ix2 r d)
      = xs (ix2 r d) + term m c (t.val % 4) (1024 * (t.val / 4) + r.val) d := by
  have ht := lt32 t
  rw [pay2_apply]
  unfold term
  rw [dif_pos ⟨by omega, by omega⟩]
  exact congrArg _ (Finset.sum_congr rfl fun k _ => congrArg₂ _ (blk_a m c t r k) (blk_w m c t k d))

/-- After a point the scratch holds the blocks of columns seen so far. -/
theorem scratch (r d : Fin 1024) : ∀ (n : ℕ) (h : n < cfg0.N),
    (outsAt0 m c n h).2.2 (ix2 r d) = ∑ b ∈ Finset.range (n % 4 + 1), term m c b (1024 * (n / 4) + r.val) d := by
  intro n
  induction n with
  | zero =>
    intro h
    rw [outsAt0_A m c ⟨0, h⟩ rfl (by dsimp only; omega)]
    dsimp only
    rw [acc_A, step, pay1_apply, zero_add, Finset.sum_range_one]
    rfl
  | succ n ih =>
    intro h
    by_cases h0 : (n + 1) % 4 = 0
    · rw [outsAt0_A m c ⟨n + 1, h⟩ h0 (by dsimp only; omega)]
      dsimp only
      rw [acc_A, step, pay1_apply, zero_add]
      dsimp only
      rw [h0, Finset.sum_range_one]
    · have e := ih (Nat.lt_of_succ_lt h)
      have hd : (n + 1) / 4 = n / 4 := by omega
      have hm : (n + 1) % 4 = n % 4 + 1 := by omega
      by_cases h1 : (n + 1) % 4 = 3
      · rw [outsAt0_C m c ⟨n + 1, h⟩ h0 h1]
        dsimp only
        rw [acc_C, step]
        dsimp only
        rw [hd, hm, Finset.sum_range_succ]
        exact congrArg (· + _) e
      · rw [outsAt0_B m c ⟨n + 1, h⟩ h0 h1]
        dsimp only
        rw [acc_B, step]
        dsimp only
        rw [hd, hm, Finset.sum_range_succ]
        exact congrArg (· + _) e

/-- The sum over all blocks and columns. -/
def total : S8192x1024.Idx → EReal := fun i =>
  ∑ b : Fin 4, ∑ k : Fin 704, A m c (ix3 b (i 0) k) * W m c (ix3 b k (i 1))

/-- The residual plus the gated sum. -/
def resid : S8192x1024.Idx → EReal := fun i => X m c i + G m c (ix2 0 (i 1)) * total m c i

theorem total_eq (s : Fin 8192) (d : Fin 1024) :
    total m c (ix2 s d) = ∑ b ∈ Finset.range 4, term m c b s.val d := by
  rw [← Fin.sum_univ_eq_sum_range (fun b => term m c b s.val d) 4]
  refine Finset.sum_congr rfl fun b _ => ?_
  unfold term
  rw [dif_pos ⟨b.isLt, s.isLt⟩]
  rfl

/-- What the last point of a row tile has summed. -/
theorem summed (t : Fin cfg0.N) (h3 : t.val % 4 = 3) (hs : t.val - 1 < cfg0.N) (r d : Fin 1024) :
    k0_pay2 (outsAt0 m c (t.val - 1) hs).2.2 (iblk m c 0 t) (iblk m c 1 t) (ix2 r d)
      = total m c (ix2 ⟨1024 * (t.val / 4) + r.val, by have := lt32 t; omega⟩ d) := by
  rw [total_eq, step, scratch m c r d (t.val - 1) hs, h3,
    show (t.val - 1) % 4 + 1 = 3 by omega, show (t.val - 1) / 4 = t.val / 4 by omega]
  exact (Finset.sum_range_succ _ 3).symm

theorem flushed5 (t : Fin cfg0.N) (hf : (cfg0.win 5).flush t = true) :
    (dats m 0 c).flushed 5 t = ((cfg0.win 5).blk t).view.read (Elt Ideal) (total m c) := by
  have ht := lt32 t
  have h3 : t.val % 4 = 3 := (flush0_5 t).mp hf
  obtain ⟨e0, e1⟩ := idx5 t
  have hs : t.val - 1 < cfg0.N := Nat.lt_of_le_of_lt (Nat.sub_le _ _) t.isLt
  rw [Value.flushed5_C m c t (by omega) h3, sum_C]
  funext j
  obtain ⟨r, d, rfl⟩ : ∃ (r : Fin 1024) (d : Fin 1024), j = ix2 r d := ⟨j 0, j 1, eq_ix2 j⟩
  show k0_pay2 (F := Ideal) _ _ _ (ix2 r d) = total m c (((cfg0.win 5).blk t).view.emb (ix2 r d))
  have he : ((cfg0.win 5).blk t).view.emb (ix2 r d) = ix2 ⟨1024 * (t.val / 4) + r.val, by omega⟩ d :=
    put2 (idx5 t) 1024 r 1024 d
  rw [he]
  exact summed m c t h3 hs r d

theorem flushed4 (t : Fin cfg0.N) (hf : (cfg0.win 4).flush t = true) :
    (dats m 0 c).flushed 4 t = ((cfg0.win 4).blk t).view.read (Elt Ideal) (resid m c) := by
  have ht := lt32 t
  have h3 : t.val % 4 = 3 := (flush0_4 t).mp hf
  obtain ⟨e0, e1⟩ := idx4 t
  have hs : t.val - 1 < cfg0.N := Nat.lt_of_le_of_lt (Nat.sub_le _ _) t.isLt
  rw [Value.flushed4_C m c t (by omega) h3, res_C]
  funext j
  obtain ⟨r, d, rfl⟩ : ∃ (r : Fin 1024) (d : Fin 1024), j = ix2 r d := ⟨j 0, j 1, eq_ix2 j⟩
  show k0_pay3 (F := Ideal) _ _ _ (ix2 r d) = resid m c (((cfg0.win 4).blk t).view.emb (ix2 r d))
  have he : ((cfg0.win 4).blk t).view.emb (ix2 r d) = ix2 ⟨1024 * (t.val / 4) + r.val, by omega⟩ d :=
    put2 (idx4 t) 1024 r 1024 d
  rw [he, pay3_apply]
  exact congrArg₂ (· + ·) (blk_x m c t r d) (congrArg₂ (· * ·) (blk_g m c t d) (summed m c t h3 hs r d))

theorem final5 : (dats m 0 c).arrAt 5 cfg0.N = total m c :=
  (dats m 0 c).arrAt_eq_of_cover 5 _ (fun t hf => flushed5 m c t hf) fun i => (Value.covered_iff5 i).2 (by
    have h0 : (i 0).val < 8192 := (i 0).isLt; have h1 : (i 1).val < 1024 := (i 1).isLt; omega)

theorem final4 : (dats m 0 c).arrAt 4 cfg0.N = resid m c :=
  (dats m 0 c).arrAt_eq_of_cover 4 _ (fun t hf => flushed4 m c t hf) fun i => (Value.covered_iff4 i).2 (by
    have h0 : (i 0).val < 8192 := (i 0).isLt; have h1 : (i 1).val < 1024 := (i 1).isLt; omega)

end Array

/-! ### The reference -/

theorem reference (x0 : S4x8192x704.Idx → EReal) (x1 : S4x704x1024.Idx → EReal) (s : Fin 8192) (d : Fin 1024) :
    Cert.DownRefIdeal.Read.val_main_v2 (F := Ideal) x0 x1 (ix2 s d)
      = ∑ b : Fin 4, ∑ k : Fin 704, x0 (ix3 b s k) * x1 (ix3 b k d) := by
  unfold Cert.DownRefIdeal.Read.val_main_v2
  simp only [Host.dotGeneral]
  rw [Ideal.dotGeneral_apply, ValueIdx.sum_contr2 _ 4 704 rfl rfl rfl]
  refine Finset.sum_congr rfl fun b _ => Finset.sum_congr rfl fun k _ => ?_
  have q0 := ValueIdx.contrEquiv2_symm_val0 Cert.DownRefIdeal.dot_S4x8192x704_S4x704x1024_S8192x1024_02_01_1_2_n_n 4 704 rfl rfl rfl (b, k)
  have q1 := ValueIdx.contrEquiv2_symm_val1 Cert.DownRefIdeal.dot_S4x8192x704_S4x704x1024_S8192x1024_02_01_1_2_n_n 4 704 rfl rfl rfl (b, k)
  generalize (ValueIdx.contrEquiv2 Cert.DownRefIdeal.dot_S4x8192x704_S4x704x1024_S8192x1024_02_01_1_2_n_n 4 704 rfl rfl rfl).symm (b, k) = q at q0 q1 ⊢
  have l : Cert.DownRefIdeal.dot_S4x8192x704_S4x704x1024_S8192x1024_02_01_1_2_n_n.lhsIdx (ix2 s d) q = (ix3 b s k : Cert.DownRefIdeal.S4x8192x704.Idx) := funext fun a => Fin.ext (by
    match a with
    | ⟨0, _⟩ => exact q0
    | ⟨1, _⟩ => rfl
    | ⟨2, _⟩ => exact q1)
  have w : Cert.DownRefIdeal.dot_S4x8192x704_S4x704x1024_S8192x1024_02_01_1_2_n_n.rhsIdx (ix2 s d) q = (ix3 b k d : Cert.DownRefIdeal.S4x704x1024.Idx) := funext fun a => Fin.ext (by
    match a with
    | ⟨0, _⟩ => exact q0
    | ⟨1, _⟩ => exact q1
    | ⟨2, _⟩ => rfl)
  rw [l, w]
  rfl

theorem algebraic : algebraic_DownIdeal_DownRefIdeal := by
  intro m g m' g' _ hagree
  refine ⟨fun c => resid m c, fun c => total m c,
    (θ_run _ _ _).mono (fun r h c => ⟨(h c).1.trans (final4 m c), (h c).2.1.trans (final5 m c), (h c).2.2⟩) (Value.run_blocks m g),
    (θ_run _ _ _).mono (fun r h c => ?_) (Cert.DownRefIdeal.Value.run m' g')⟩
  obtain ⟨a0, a1, a2, a3⟩ := hagree c
  obtain ⟨u, v, uargs⟩ := h c
  refine ⟨(u.trans (Cert.DownRefIdeal.Read.val_main_v5_eq _ _ _ _)).trans ?_,
    (v.trans (Cert.DownRefIdeal.Read.val_main_v2_eq _ _)).trans ?_, uargs⟩
  · rw [a0, a1, a2, a3]
    funext j
    obtain ⟨s, d, rfl⟩ : ∃ (s : Fin 8192) (d : Fin 1024), j = ix2 s d := ⟨j 0, j 1, eq_ix2 j⟩
    rw [Cert.DownRefIdeal.Read.val_main_v5_apply, Cert.DownRefIdeal.Read.val_main_v4_apply,
      Cert.DownRefIdeal.Read.val_main_v3_apply]
    refine congrArg₂ (· + ·) rfl (congrArg₂ (· * ·) (congrArg (G m c) ?_) (reference _ _ s d))
    funext a; apply Fin.ext
    match a with
    | ⟨0, _⟩ => rfl
    | ⟨1, _⟩ => rfl
  · rw [a0, a1]
    funext j
    obtain ⟨s, d, rfl⟩ : ∃ (s : Fin 8192) (d : Fin 1024), j = ix2 s d := ⟨j 0, j 1, eq_ix2 j⟩
    exact reference _ _ s d

theorem frame_reference : quiescent_DownRefIdeal := fun m g _ =>
  (θ_run _ _ _).mono (fun r h => ⟨fun c => (h c).2.2, sem_eq_zero_of_no_sems (by decide) r.2⟩) (Cert.DownRefIdeal.Value.run m g)

end Cert.Proof.Down

end
-- ==== Proof.OdMid.lean ====
/-
  The short gated convolution: the product of the second and third parts of a row is convolved over three
  neighbouring rows, a bias added, and the first part multiplied on. A grid point holds one tile of sixteen rows
  on either side of its 256, and so every row its convolution reads.
-/
module

public import proofs.«01_k».proof.Defs
public import proofs.«01_k».proof.Proof.Place
public import proofs.«01_k».proof.Proof.Gen.OdMidIdeal.Value
public import proofs.«01_k».proof.Proof.Gen.OdMidRefIdeal.Run
public import proofs.«01_k».proof.Proof.Gen.OdMidRefIdeal.Read

@[expose] public section

set_option maxRecDepth 16384

noncomputable section

namespace Cert.Proof.OdMid

open Idealize.ShloMosaic Idealize.ShloMosaic.TcCoe Idealize.SL.Sem
open Cert.OdMidIdeal Cert.OdMidIdeal.Gen
open Idealize.ShloMosaic.Pipeline (Dat)
open scoped BigOperators

theorem hz2 : (![0, 0] : Fin 2 → Nat) = fun _ => 0 := funext fun a => by fin_cases a <;> rfl

/-- The two comparisons of the second grid coordinate, as a condition on the number. -/
theorem first_word : ∀ k : Fin 32, Scalar.cmpi .eq (BitVec.ofNat 32 k.val) 0#32 = if k.val = 0 then 1#1 else 0#1 := by decide
theorem last_word : ∀ k : Fin 32, Scalar.cmpi .eq (BitVec.ofNat 32 k.val) 31#32 = if k.val = 31 then 1#1 else 0#1 := by decide

/-- Row `r` of the 288 that point `k` holds of one part: the tile before, the 256 rows, the tile after. -/
def held (k : ℕ) (v : Vec Ideal S16x1024 .f32) (x : Vec Ideal S256x1024 .f32) (w : Vec Ideal S16x1024 .f32)
    (r : Fin 288) (q : Fin 1024) : EReal :=
  if h : r.val < 16 then (if k = 0 then 0 else v (ix2 ⟨r.val, h⟩ q))
  else if h' : r.val - 16 < 256 then x (ix2 ⟨r.val - 16, h'⟩ q)
  else (if k = 31 then 0 else w (ix2 ⟨r.val - 16 - 256, by omega⟩ q))

theorem ext_apply (i : grid0.Coords) (v1 v5 : Vec Ideal S16x1024 .f32) (v8 : Vec Ideal S256x1024 .f32)
    (v11 v15 : Vec Ideal S16x1024 .f32) (v18 : Vec Ideal S256x1024 .f32) (r : Fin 288) (q : Fin 1024) :
    k0_pay2 i v1 v5 v8 v11 v15 v18 (ix2 r q) = held (i 1).val v1 v8 v5 r q * held (i 1).val v11 v18 v15 r q := by
  pointwise [k0_pay2]
  rw [first_word (i 1), last_word (i 1)]
  unfold held
  by_cases h : r.val < 16
  · simp only [dif_pos h]
    by_cases h0 : (i 1).val = 0
    · simp only [if_pos h0]; rfl
    · simp only [if_neg h0]; rfl
  · simp only [dif_neg h]
    by_cases h' : r.val - 16 < 256
    · simp only [dif_pos h']
    · simp only [dif_neg h']
      by_cases h0 : (i 1).val = 31
      · simp only [if_pos h0]; rfl
      · simp only [if_neg h0]; rfl

theorem pay3_apply (i : grid0.Coords) (v1 v5 : Vec Ideal S16x1024 .f32) (v8 : Vec Ideal S256x1024 .f32)
    (v11 v15 : Vec Ideal S16x1024 .f32) (v18 : Vec Ideal S256x1024 .f32) (v21 v25 : Vec Ideal S1x1024 .f32)
    (r : Fin 256) (q : Fin 1024) :
    k0_pay3 i v1 v5 v8 v11 v15 v18 v21 v25 (ix2 ⟨16 + r.val, by omega⟩ q)
      = v21 (ix2 0 q) * k0_pay2 i v1 v5 v8 v11 v15 v18 (ix2 ⟨15 + r.val, by omega⟩ q)
        + v25 (ix2 0 q) * k0_pay2 i v1 v5 v8 v11 v15 v18 (ix2 ⟨16 + r.val, by omega⟩ q) := by
  pointwise [k0_pay3]
  have e1 : (⟨(16 + r.val + 288 - 1) % 288, Nat.mod_lt _ (by norm_num)⟩ : Fin 288) = ⟨15 + r.val, by omega⟩ :=
    Fin.ext (by dsimp only; omega)
  have e2 : (⟨(16 + r.val + 288) % 288, Nat.mod_lt _ (by norm_num)⟩ : Fin 288) = ⟨16 + r.val, by omega⟩ :=
    Fin.ext (by dsimp only; omega)
  rw [e1, e2]

theorem pay1_apply (v20 v29 : FVec Ideal S288x1024 .f32) (v30 v36 : Vec Ideal S1x1024 .f32) (v39 : Vec Ideal S256x1024 .f32)
    (r : Fin 256) (q : Fin 1024) :
    k0_pay1 v20 v29 v30 v36 v39 (ix2 r q)
      = v39 (ix2 r q) * (v29 (ix2 ⟨16 + r.val, by omega⟩ q) + v30 (ix2 0 q) * v20 (ix2 ⟨17 + r.val, by omega⟩ q)
        + v36 (ix2 0 q)) := by
  pointwise [k0_pay1]
  have e : (⟨(16 + r.val + 288 - 287) % 288, Nat.mod_lt _ (by norm_num)⟩ : Fin 288) = ⟨17 + r.val, by omega⟩ :=
    Fin.ext (by dsimp only; omega)
  rw [e]

/-! ### The call's array -/

section Array

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 16 * t.val - 1 ∧ win0_1.index t (1 : Fin 2) = 1 :=
  (by decide +kernel : ∀ t : Fin grid0.N, _)
theorem idx2 : ∀ t : Fin cfg0.N, win0_2.index t (0 : Fin 2) = t.val ∧ win0_2.index t (1 : Fin 2) = 1 :=
  (by decide +kernel : ∀ t : Fin grid0.N, _)
theorem idx3 : ∀ t : Fin cfg0.N, win0_3.index t (0 : Fin 2) = min (16 * t.val + 16) 511 ∧ win0_3.index t (1 : Fin 2) = 1 :=
  (by decide +kernel : ∀ t : Fin grid0.N, _)
theorem idx4 : ∀ t : Fin cfg0.N, win0_4.index t (0 : Fin 2) = 16 * t.val - 1 ∧ win0_4.index t (1 : Fin 2) = 2 :=
  (by decide +kernel : ∀ t : Fin grid0.N, _)
theorem idx5 : ∀ t : Fin cfg0.N, win0_5.index t (0 : Fin 2) = t.val ∧ win0_5.index t (1 : Fin 2) = 2 :=
  (by decide +kernel : ∀ t : Fin grid0.N, _)
theorem idx6 : ∀ t : Fin cfg0.N, win0_6.index t (0 : Fin 2) = min (16 * t.val + 16) 511 ∧ win0_6.index t (1 : Fin 2) = 2 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem coord : ∀ t : Fin cfg0.N, (grid0.coords t 1).val = t.val :=
  (by decide +kernel : ∀ t : Fin grid0.N, _)

theorem lt_N (t : Fin cfg0.N) : t.val < 32 := by have := t.isLt; have h : cfg0.N = 32 := N_0; omega

/-- The call's three arguments, as it finds them. -/
abbrev X : S8192x3072.Idx → EReal := m ((c : Thread nD τ).loc main_arg0)
abbrev W : S3x1024.Idx → EReal := m ((c : Thread nD τ).loc main_arg1)
abbrev Bias : S1x1024.Idx → EReal := m ((c : Thread nD τ).loc main_arg2)

theorem here_b (t : Fin cfg0.N) (r : Fin 256) (d : Fin 1024) :
    (iblk m c 0 t : Vec Ideal S256x1024 .f32) (ix2 r d)
      = X m c (ix2 ⟨256 * t.val + r.val, by have := lt_N t; omega⟩ ⟨d.val, by omega⟩) :=
  congrArg (X m c) (put2 (idx0 t) 256 r 1024 d)

theorem before_c (t : Fin cfg0.N) (r : Fin 16) (d : Fin 1024) :
    (iblk m c 1 t : Vec Ideal S16x1024 .f32) (ix2 r d)
      = X m c (ix2 ⟨16 * (16 * t.val - 1) + r.val, by have := lt_N t; omega⟩ ⟨1024 + d.val, by omega⟩) :=
  congrArg (X m c) (put2 (idx1 t) 16 r 1024 d)

theorem here_c (t : Fin cfg0.N) (r : Fin 256) (d : Fin 1024) :
    (iblk m c 2 t : Vec Ideal S256x1024 .f32) (ix2 r d)
      = X m c (ix2 ⟨256 * t.val + r.val, by have := lt_N t; omega⟩ ⟨1024 + d.val, by omega⟩) :=
  congrArg (X m c) (put2 (idx2 t) 256 r 1024 d)

theorem after_c (t : Fin cfg0.N) (r : Fin 16) (d : Fin 1024) :
    (iblk m c 3 t : Vec Ideal S16x1024 .f32) (ix2 r d)
      = X m c (ix2 ⟨16 * min (16 * t.val + 16) 511 + r.val, by have := lt_N t; omega⟩ ⟨1024 + d.val, by omega⟩) :=
  congrArg (X m c) (put2 (idx3 t) 16 r 1024 d)

theorem before_u (t : Fin cfg0.N) (r : Fin 16) (d : Fin 1024) :
    (iblk m c 4 t : Vec Ideal S16x1024 .f32) (ix2 r d)
      = X m c (ix2 ⟨16 * (16 * t.val - 1) + r.val, by have := lt_N t; omega⟩ ⟨2048 + d.val, by omega⟩) :=
  congrArg (X m c) (put2 (idx4 t) 16 r 1024 d)

theorem here_u (t : Fin cfg0.N) (r : Fin 256) (d : Fin 1024) :
    (iblk m c 5 t : Vec Ideal S256x1024 .f32) (ix2 r d)
      = X m c (ix2 ⟨256 * t.val + r.val, by have := lt_N t; omega⟩ ⟨2048 + d.val, by omega⟩) :=
  congrArg (X m c) (put2 (idx5 t) 256 r 1024 d)

theorem after_u (t : Fin cfg0.N) (r : Fin 16) (d : Fin 1024) :
    (iblk m c 6 t : Vec Ideal S16x1024 .f32) (ix2 r d)
      = X m c (ix2 ⟨16 * min (16 * t.val + 16) 511 + r.val, by have := lt_N t; omega⟩ ⟨2048 + d.val, by omega⟩) :=
  congrArg (X m c) (put2 (idx6 t) 16 r 1024 d)

theorem blk_w (t : Fin cfg0.N) (k : Fin 3) (d : Fin 1024) :
    (iblk m c 7 t : Vec Ideal S3x1024 .f32) (ix2 k d) = W m c (ix2 k d) :=
  congrArg (W m c) (put2 (idx7 t) 3 k 1024 d)

theorem blk_bias (t : Fin cfg0.N) (d : Fin 1024) :
    (iblk m c 8 t : Vec Ideal S1x1024 .f32) (ix2 0 d) = Bias m c (ix2 0 d) :=
  congrArg (Bias m c) (put2 (idx8 t) 1 0 1024 d)

end Array

/-- Row `r - 1` of the product, zero before its first row and after its last. -/
def padded (x : S8192x3072.Idx → EReal) (q : Fin 1024) (r : ℕ) : EReal :=
  if h : 1 ≤ r ∧ r < 8193 then
    x (ix2 ⟨r - 1, by omega⟩ ⟨1024 + q.val, by omega⟩) * x (ix2 ⟨r - 1, by omega⟩ ⟨2048 + q.val, by omega⟩)
  else 0

/-- The convolution with its bias. -/
def conv (x : S8192x3072.Idx → EReal) (w : S3x1024.Idx → EReal) (b : S1x1024.Idx → EReal) (s : ℕ) (q : Fin 1024) : EReal :=
  w (ix2 0 q) * padded x q s + w (ix2 1 q) * padded x q (s + 1) + w (ix2 2 q) * padded x q (s + 2) + b (ix2 0 q)

/-- The element at row `s`, column `q`. -/
def elem (x : S8192x3072.Idx → EReal) (w : S3x1024.Idx → EReal) (b : S1x1024.Idx → EReal) (s : Fin 8192) (q : Fin 1024) : EReal :=
  x (ix2 s ⟨q.val, by omega⟩) * conv x w b s.val q

def total (x : S8192x3072.Idx → EReal) (w : S3x1024.Idx → EReal) (b : S1x1024.Idx → EReal) : S8192x1024.Idx → EReal :=
  fun i => elem x w b (i 0) (i 1)

section Array2

variable (m : (ℓ : Loc nD τ sig) → Buf (Elt Ideal) ℓ) (c : Dev nD)

/-- What a point holds of the rows around its tile. -/
theorem ext_pt (t : Fin cfg0.N) (r : Fin 288) (h : 15 ≤ r.val ∧ r.val < 273) (q : Fin 1024) :
    k0_pay2 (grid0.coords t) (iblk m c 1 t) (iblk m c 3 t) (iblk m c 2 t) (iblk m c 4 t) (iblk m c 6 t) (iblk m c 5 t) (ix2 r q)
      = padded (X m c) q (256 * t.val + r.val - 15) := by
  rw [ext_apply]
  have hc := coord t
  have hN := lt_N t
  unfold padded held
  by_cases h1 : r.val < 16
  · simp only [dif_pos h1]
    by_cases h0 : (grid0.coords t 1).val = 0
    · simp only [if_pos h0]
      rw [dif_neg (by omega), mul_zero]
    · simp only [if_neg h0]
      rw [dif_pos (by omega), before_c, before_u]
      exact congrArg (fun s => X m c (ix2 s _) * X m c (ix2 s _)) (Fin.ext (by dsimp only; omega))
  · simp only [dif_neg h1]
    by_cases h2 : r.val - 16 < 256
    · simp only [dif_pos h2]
      rw [dif_pos (by omega), here_c, here_u]
      exact congrArg (fun s => X m c (ix2 s _) * X m c (ix2 s _)) (Fin.ext (by dsimp only; omega))
    · simp only [dif_neg h2]
      by_cases h0 : (grid0.coords t 1).val = 31
      · simp only [if_pos h0]
        rw [dif_neg (by omega), mul_zero]
      · simp only [if_neg h0]
        rw [dif_pos (by omega), after_c, after_u]
        exact congrArg (fun s => X m c (ix2 s _) * X m c (ix2 s _)) (Fin.ext (by dsimp only; omega))

theorem out_apply (i : grid0.Coords) (x0 : Vec Ideal S256x1024 .f32) (x1 : Vec Ideal S16x1024 .f32) (x2 : Vec Ideal S256x1024 .f32)
    (x3 x4 : Vec Ideal S16x1024 .f32) (x5 : Vec Ideal S256x1024 .f32) (x6 : Vec Ideal S16x1024 .f32) (x7 : Vec Ideal S3x1024 .f32)
    (x8 : Vec Ideal S1x1024 .f32) (r : Fin 256) (q : Fin 1024) :
    out0_9 i x0 x1 x2 x3 x4 x5 x6 x7 x8 (ix2 r q)
      = x0 (ix2 r q) * (x7 (ix2 0 q) * k0_pay2 i x1 x3 x2 x4 x6 x5 (ix2 ⟨15 + r.val, by omega⟩ q)
          + x7 (ix2 1 q) * k0_pay2 i x1 x3 x2 x4 x6 x5 (ix2 ⟨16 + r.val, by omega⟩ q)
          + x7 (ix2 2 q) * k0_pay2 i x1 x3 x2 x4 x6 x5 (ix2 ⟨17 + r.val, by omega⟩ q) + x8 (ix2 0 q)) := by
  unfold out0_9
  rw [View.canon_unit_zero hz2]
  simp only [View.ld_unit_zero (S := S16x1024) hz2, View.ld_unit_zero (S := S256x1024) hz2, View.ld_unit_zero (S := S1x1024) hz2]
  rw [pay1_apply, pay3_apply]
  have e0 : View.ld x7 r0_2 (ix2 0 q) = x7 (ix2 0 q) :=
    (show View.ld x7 r0_2 _ = x7 (r0_2.idx _) from rfl).trans (congrArg x7 (funext fun a => Fin.ext (by
      match a with
      | ⟨0, _⟩ => rfl
      | ⟨1, _⟩ => show 0 + 1 * q.val = q.val; omega)))
  have e1 : View.ld x7 r0_3 (ix2 0 q) = x7 (ix2 1 q) :=
    (show View.ld x7 r0_3 _ = x7 (r0_3.idx _) from rfl).trans (congrArg x7 (funext fun a => Fin.ext (by
      match a with
      | ⟨0, _⟩ => rfl
      | ⟨1, _⟩ => show 0 + 1 * q.val = q.val; omega)))
  have e2 : View.ld x7 r0_4 (ix2 0 q) = x7 (ix2 2 q) :=
    (show View.ld x7 r0_4 _ = x7 (r0_4.idx _) from rfl).trans (congrArg x7 (funext fun a => Fin.ext (by
      match a with
      | ⟨0, _⟩ => rfl
      | ⟨1, _⟩ => show 0 + 1 * q.val = q.val; omega)))
  rw [e0, e1, e2]

theorem emb9 (t : Fin cfg0.N) (p : Fin 256) (q : Fin 1024) :
    ((cfg0.win 9).blk t).view.emb (ix2 p q) = ix2 ⟨256 * t.val + p.val, by have := lt_N t; omega⟩ q :=
  put2 (idx9 t) 256 p 1024 q

theorem flushed (t : Fin cfg0.N) :
    (dats m 0 c).flushed 9 t = ((cfg0.win 9).blk t).view.read (Elt Ideal) (total (X m c) (W m c) (Bias m c)) := by
  rw [Value.flushed9 m c t]
  funext j
  obtain ⟨p, q, rfl⟩ : ∃ (p : Fin 256) (q : Fin 1024), j = ix2 p q := ⟨j 0, j 1, eq_ix2 j⟩
  show out0_9 (F := Ideal) _ _ _ _ _ _ _ _ _ _ (ix2 p q)
    = total (X m c) (W m c) (Bias m c) (((cfg0.win 9).blk t).view.emb (ix2 p q))
  rw [emb9, out_apply, ext_pt m c t _ (by dsimp only; omega), ext_pt m c t _ (by dsimp only; omega),
    ext_pt m c t _ (by dsimp only; omega), blk_w, blk_w, blk_w, blk_bias, here_b]
  have f0 : 256 * t.val + (15 + p.val) - 15 = 256 * t.val + p.val := by omega
  have f1 : 256 * t.val + (16 + p.val) - 15 = 256 * t.val + p.val + 1 := by omega
  have f2 : 256 * t.val + (17 + p.val) - 15 = 256 * t.val + p.val + 2 := by omega
  dsimp only
  rw [f0, f1, f2]
  rfl

/-- The point that writes a row back. -/
def pt (i : S8192x1024.Idx) : Fin cfg0.N :=
  ⟨(i 0).val / 256, by have h0 : (i 0).val < 8192 := (i 0).isLt; have hN : cfg0.N = 32 := N_0; rw [hN]; omega⟩

theorem cover (i : S8192x1024.Idx) : ∃ t : Fin cfg0.N, (cfg0.win 9).flush t = true ∧ i ∈ ((cfg0.win 9).blk t).view.set := by
  refine ⟨pt i, flush0_9 _, ?_⟩
  have h := ((cfg0.win 9).blk (pt i)).view.emb_mem_set (ix2 ⟨(i 0).val % 256, Nat.mod_lt _ (by norm_num)⟩ (i 1) : S256x1024.Idx)
  have hi : ((cfg0.win 9).blk (pt i)).view.emb (ix2 ⟨(i 0).val % 256, Nat.mod_lt _ (by norm_num)⟩ (i 1) : S256x1024.Idx) = i := by
    refine (emb9 _ _ _).trans (Eq.trans (congrArg (fun s => ix2 s (i 1)) (Fin.ext ?_)) (eq_ix2 i).symm)
    show 256 * ((i 0).val / 256) + (i 0).val % 256 = (i 0).val
    omega
  rwa [hi] at h

theorem final : (dats m 0 c).arrAt 9 cfg0.N = total (X m c) (W m c) (Bias m c) :=
  (dats m 0 c).arrAt_eq_of_cover 9 _ (fun t _ => flushed m c t) cover

end Array2

/-! ### The reference -/

section Reference

open Cert.OdMidRefIdeal.Read

/-- The product at a row. -/
theorem product (x0 : S8192x3072.Idx → EReal) (s : Fin 8192) (q : Fin 1024) :
    val_main_v3 (F := Ideal) x0 (ix2 s q) = padded x0 q (s.val + 1) := by
  pointwise [val_main_v3, val_main_v2, val_main_v1]
  unfold padded
  rw [dif_pos ⟨by omega, by omega⟩]
  exact congrArg (fun r => x0 (ix2 r _) * x0 (ix2 r _)) (Fin.ext (by dsimp only; omega))

/-- The row before, and the row after. -/
theorem before (x0 : S8192x3072.Idx → EReal) (s : Fin 8192) (q : Fin 1024) :
    val_main_v7 (F := Ideal) x0 (ix2 s q) = padded x0 q s.val := by
  have hs := s.isLt
  pointwise [val_main_v7, val_main_v6, val_main_v5, val_main_cst]
  by_cases h : s.val < 1
  · rw [dif_pos h]
    unfold padded
    rw [dif_neg (by omega)]
  · rw [dif_neg h, product]
    exact congrArg (padded x0 q) (by dsimp only; omega)

theorem after (x0 : S8192x3072.Idx → EReal) (s : Fin 8192) (q : Fin 1024) :
    val_main_v17 (F := Ideal) x0 (ix2 s q) = padded x0 q (s.val + 2) := by
  have hs := s.isLt
  pointwise [val_main_v17, val_main_v16, val_main_v15, val_main_cst_0]
  by_cases h : s.val < 8191
  · rw [dif_pos h, product]
    exact congrArg (padded x0 q) (by dsimp only; omega)
  · rw [dif_neg h]
    unfold padded
    rw [dif_neg (by omega)]

theorem reference (x0 : S8192x3072.Idx → EReal) (x1 : S3x1024.Idx → EReal) (x2 : S1x1024.Idx → EReal)
    (s : Fin 8192) (q : Fin 1024) :
    val_main_v24 (F := Ideal) x0 x1 x2 (ix2 s q) = total x0 x1 x2 (ix2 s q) := by
  have h1 := product x0 s q
  have h2 := before x0 s q
  have h3 := after x0 s q
  pointwise [val_main_v24, val_main_v23, val_main_v22, val_main_v21, val_main_v20, val_main_v19, val_main_v18, val_main_v14,
    val_main_v13, val_main_v12, val_main_v11, val_main_v10, val_main_v9, val_main_v8, val_main_v4, val_main_v0]
  rw [h1, h2, h3]
  rfl

end Reference

theorem algebraic : algebraic_OdMidIdeal_OdMidRefIdeal := by
  intro m g m' g' _ hagree
  refine ⟨fun c => total (X m c) (W m c) (Bias m c),
    (θ_run _ _ _).mono (fun r h c => ⟨(h c).1.trans (final m c), (h c).2⟩) (Value.run_blocks m g),
    (θ_run _ _ _).mono (fun r h c => ?_) (Cert.OdMidRefIdeal.Value.run m' g')⟩
  obtain ⟨a0, a1, a2⟩ := hagree c
  obtain ⟨u, uargs⟩ := h c
  refine ⟨(u.trans (Cert.OdMidRefIdeal.Read.val_main_v24_eq _ _ _)).trans ?_, uargs⟩
  rw [a0, a1, a2]
  funext i
  rw [eq_ix2 i]
  exact reference _ _ _ _ _

theorem frame_reference : quiescent_OdMidRefIdeal := fun m g _ =>
  (θ_run _ _ _).mono (fun r h => ⟨fun c => (h c).2, sem_eq_zero_of_no_sems (by decide) r.2⟩) (Cert.OdMidRefIdeal.Value.run m g)

end Cert.Proof.OdMid

end
-- ==== Proof.OdMidBwdPoint.lean ====
/-
  One grid point of the backward of the short gated convolution: what it leaves in its five output blocks,
  element by element, from the rows it has staged.
-/
module

public import proofs.«01_k».proof.Defs
public import proofs.«01_k».proof.Proof.OdMid
public import proofs.«01_k».proof.Proof.Gen.OdMidBwdIdeal.Value
public import Idealize.ShloMosaic.Lib.Pipeline.ReadBack

@[expose] public section

set_option maxRecDepth 16384

noncomputable section

namespace Cert.Proof.OdMidBwd

open Idealize.ShloMosaic Idealize.ShloMosaic.TcCoe Idealize.SL.Sem
open Cert.OdMidBwdIdeal Cert.OdMidBwdIdeal.Gen
open Cert.Proof.OdMid (hz2 first_word last_word held)
open Idealize.ShloMosaic.Pipeline (Dat)
open scoped BigOperators

/-! ### Reading a list of stored rows -/

section Lists
variable {F : FTy → Type} [FloatOps F]

theorem row_here (n : ℕ) (k : Fin 3) (hk : k.val = n) (P : Vec F S1x1024 .f32) (L : List (View.Piece (Elt F) S3x1024 .f32))
    (inb : ∀ a, (![n, 0] : Fin 2 → ℕ) a + (![1, 1024] : Fin 2 → ℕ) a ≤ S3x1024.size a) (q : Fin 1024) :
    View.canon (Val := Elt F) (⟨Rect.unit (s := S3x1024) ![n, 0] ![1, 1024] inb, P⟩ :: L) (ix2 k q) = P (ix2 0 q) := by
  have e : (Rect.unit (s := S3x1024) ![n, 0] ![1, 1024] inb).emb (ix2 0 q : S1x1024.Idx) = ix2 k q := by
    funext a; apply Fin.ext
    match a with
    | ⟨0, _⟩ => show n + 1 * 0 = k.val; omega
    | ⟨1, _⟩ => show 0 + 1 * q.val = q.val; omega
  have h := View.canon_cons_emb (Val := Elt F) (e := .f32) (Rect.unit (s := S3x1024) ![n, 0] ![1, 1024] inb) P L (ix2 0 q : S1x1024.Idx)
  rwa [e] at h

theorem row_skip (n : ℕ) (k : Fin 3) (hk : k.val ≠ n) (P : Vec F S1x1024 .f32) (L : List (View.Piece (Elt F) S3x1024 .f32))
    (inb : ∀ a, (![n, 0] : Fin 2 → ℕ) a + (![1, 1024] : Fin 2 → ℕ) a ≤ S3x1024.size a) (q : Fin 1024) :
    View.canon (Val := Elt F) (⟨Rect.unit (s := S3x1024) ![n, 0] ![1, 1024] inb, P⟩ :: L) (ix2 k q)
      = View.canon (Val := Elt F) L (ix2 k q) := by
  rw [View.canon_cons_of_not_mem]
  intro hm
  have h := (Rect.mem_set_unit (inb := inb)).mp hm 0
  have h1 : n ≤ k.val := h.1
  have h2 : k.val < n + 1 := h.2
  omega

theorem row_load (n : ℕ) (k : Fin 3) (hk : k.val = n) (x : Vec F S3x1024 .f32)
    (inb : ∀ a, (![n, 0] : Fin 2 → ℕ) a + (![1, 1024] : Fin 2 → ℕ) a ≤ S3x1024.size a) (q : Fin 1024) :
    View.ld x (Rect.unit (s := S3x1024) ![n, 0] ![1, 1024] inb) (ix2 0 q : S1x1024.Idx) = x (ix2 k q) :=
  (show View.ld x (Rect.unit (s := S3x1024) ![n, 0] ![1, 1024] inb) _ = x ((Rect.unit (s := S3x1024) ![n, 0] ![1, 1024] inb).idx _) from rfl).trans
    (congrArg x (funext fun a => Fin.ext (by
      match a with
      | ⟨0, _⟩ => show n + 1 * 0 = k.val; omega
      | ⟨1, _⟩ => show 0 + 1 * q.val = q.val; omega)))

/-- A load of some rows after the whole block has been filled reads the fill. -/
theorem fill_load (a : Memref sig .tc .vmem S3x1024 .f32) (x : Vec F S3x1024 .f32) (r : Rect S3x1024) :
    a.view.readCov (Val := Elt F) [⟨Rect.unit (s := S3x1024) ![0, 0] ![3, 1024] inb_S3x1024_S3x1024_0_0, x⟩] r.toLoadRect
      = View.ld (Val := Elt F) x r :=
  View.readCov_fill (Val := Elt F) (s := S3x1024) (off := ![0, 0]) a.view inb_S3x1024_S3x1024_0_0 x [] r (fun a => congrFun hz2 a)

end Lists

/-! ### The blocks a point leaves -/

section Pieces
variable {F : FTy → Type} [FloatOps F]

/-- The taps' rows as a point loads them. -/
abbrev tap0 (x : Vec F S3x1024 .f32) : Vec F S1x1024 .f32 := View.ld x (Rect.unit (s := S3x1024) ![0, 0] ![1, 1024] inb_S3x1024_S1x1024_0_0)
abbrev tap1 (x : Vec F S3x1024 .f32) : Vec F S1x1024 .f32 := View.ld x (Rect.unit (s := S3x1024) ![1, 0] ![1, 1024] inb_S3x1024_S1x1024_1_0)
abbrev tap2 (x : Vec F S3x1024 .f32) : Vec F S1x1024 .f32 := View.ld x (Rect.unit (s := S3x1024) ![2, 0] ![1, 1024] inb_S3x1024_S1x1024_2_0)

/-- The three rows of the fourth output block, each the row `xo` held before and what the point adds. -/
def taps (D G : FVec F S288x1024 .f32) (xo : Vec F S3x1024 .f32) (L : List (View.Piece (Elt F) S3x1024 .f32)) : Vec F S3x1024 .f32 :=
  View.canon (Val := Elt F) (⟨(Rect.unit (s := S3x1024) ![2, 0] ![1, 1024] inb_S3x1024_S1x1024_2_0), k0_pay2 G (k0_pay18 D) (tap2 xo)⟩
    :: ⟨(Rect.unit (s := S3x1024) ![1, 0] ![1, 1024] inb_S3x1024_S1x1024_1_0), k0_pay1 G (k0_pay18 D) (tap1 xo)⟩
    :: ⟨(Rect.unit (s := S3x1024) ![0, 0] ![1, 1024] inb_S3x1024_S1x1024_0_0), k0_pay20 G D (tap0 xo)⟩ :: L)

variable (c : Dev nD) (i : grid0.Coords)
  (a2 : Memref sig .tc .vmem S16x1024 .f32) (h2 : a2.IsWhole) (a3 : Memref sig .tc .vmem S256x1024 .f32) (h3 : a3.IsWhole)
  (a4 : Memref sig .tc .vmem S16x1024 .f32) (h4 : a4.IsWhole) (a5 : Memref sig .tc .vmem S16x1024 .f32) (h5 : a5.IsWhole)
  (a6 : Memref sig .tc .vmem S256x1024 .f32) (h6 : a6.IsWhole) (a7 : Memref sig .tc .vmem S16x1024 .f32) (h7 : a7.IsWhole)
  (a8 : Memref sig .tc .vmem S16x1024 .f32) (h8 : a8.IsWhole) (a9 : Memref sig .tc .vmem S256x1024 .f32) (h9 : a9.IsWhole)
  (a10 : Memref sig .tc .vmem S16x1024 .f32) (h10 : a10.IsWhole) (a11 : Memref sig .tc .vmem S16x1024 .f32) (h11 : a11.IsWhole)
  (a12 : Memref sig .tc .vmem S256x1024 .f32) (h12 : a12.IsWhole) (a13 : Memref sig .tc .vmem S16x1024 .f32) (h13 : a13.IsWhole)
  (a14 : Memref sig .tc .vmem S3x1024 .f32) (h14 : a14.IsWhole) (a15 : Memref sig .tc .vmem S1x1024 .f32) (h15 : a15.IsWhole)
  (a16 : Memref sig .tc .vmem S256x1024 .bf16) (h16 : a16.IsWhole) (a17 : Memref sig .tc .vmem S256x1024 .bf16) (h17 : a17.IsWhole)
  (a18 : Memref sig .tc .vmem S256x1024 .bf16) (h18 : a18.IsWhole) (a19 : Memref sig .tc .vmem S3x1024 .f32) (h19 : a19.IsWhole)
  (a20 : Memref sig .tc .vmem S1x1024 .f32) (h20 : a20.IsWhole)
  (x0 : Vec F S16x1024 .f32) (x1 : Vec F S256x1024 .f32) (x2 x3 : Vec F S16x1024 .f32) (x4 : Vec F S256x1024 .f32)
  (x5 x6 : Vec F S16x1024 .f32) (x7 : Vec F S256x1024 .f32) (x8 x9 : Vec F S16x1024 .f32) (x10 : Vec F S256x1024 .f32)
  (x11 : Vec F S16x1024 .f32) (x12 : Vec F S3x1024 .f32) (x13 : Vec F S1x1024 .f32) (xo17 : Vec F S3x1024 .f32) (xo18 : Vec F S1x1024 .f32)

/-- On the staged rows: the incoming gradient, the product and its convolution, the gradient at the convolution's
    result, and the first term of the gradient of the product. -/
abbrev M : FVec F S288x1024 .f32 := k0_pay9 (BitVec.ofNat 32 (i 1).val) x9 x11 x10
abbrev G : FVec F S288x1024 .f32 := k0_pay10 (k0_pay6 i x3 x5 x4) (k0_pay7 i x6) (k0_pay8 i x8) x7
abbrev conv14 : FVec F S288x1024 .f32 :=
  k0_pay11 (k0_pay6 i x3 x5 x4) (k0_pay7 i x6) (k0_pay8 i x8) x7 (tap0 x12) (tap1 x12) (tap2 x12) x13
abbrev D : FVec F S288x1024 .f32 := k0_pay12 (BitVec.ofNat 32 (i 1).val) (k0_pay5 i x0 x2 x1) x9 x11 x10
abbrev V : FVec F S288x1024 .f32 := k0_pay13 (BitVec.ofNat 32 (i 1).val) (k0_pay5 i x0 x2 x1) x9 x11 x10 (tap0 x12)

theorem blocks_A (h : cond0_0 i) (h' : cond0_1 i) :
    out0_A_14 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13
        = k0_pay15 (M i x9 x10 x11) (conv14 i x3 x4 x5 x6 x7 x8 x12 x13)
      ∧ out0_A_15 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13
        = k0_pay16 (D i x0 x1 x2 x9 x10 x11) (V i x0 x1 x2 x9 x10 x11 x12) (tap1 x12) (tap2 x12) x7
      ∧ out0_A_16 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13
        = k0_pay17 (D i x0 x1 x2 x9 x10 x11) (V i x0 x1 x2 x9 x10 x11 x12) (tap1 x12) (tap2 x12) x4
      ∧ out0_A_17 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13
        = taps (D i x0 x1 x2 x9 x10 x11) (G i x3 x4 x5 x6 x7 x8) k0_pay19 [⟨Rect.unit (s := S3x1024) ![0, 0] ![3, 1024] inb_S3x1024_S3x1024_0_0, k0_pay19⟩]
      ∧ out0_A_18 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13
        = k0_pay4 (k0_pay18 (D i x0 x1 x2 x9 x10 x11)) k0_pay3 := by
  refine ⟨(View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13)).trans ?_,
    (View.read_writes_eq_canon _ _ _ (cover0_A_15 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13)).trans ?_,
    (View.read_writes_eq_canon _ _ _ (cover0_A_16 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13)).trans ?_,
    (View.read_writes_eq_canon _ _ _ (cover0_A_17 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13)).trans ?_,
    (View.read_writes_eq_canon _ _ _ (cover0_A_18 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13)).trans ?_⟩
  all_goals
    unfold kernelRun0_A
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread,
      View.ld_unit_zero (S := S16x1024) hz2, View.ld_unit_zero (S := S256x1024) hz2, View.ld_unit_zero (S := S1x1024) hz2]
  · rw [View.canon_unit_zero (S := S256x1024) hz2]
  · rw [View.canon_unit_zero (S := S256x1024) hz2]
  · rw [View.canon_unit_zero (S := S256x1024) hz2]
  · rw [View.readCov_skip _ _ _ _ _ (show LoadRect.disj _ (Rect.unit (s := S3x1024) ![2, 0] ![1, 1024] inb_S3x1024_S1x1024_2_0).toLoadRect = true by decide),
      View.readCov_skip _ _ _ _ (Rect.unit (s := S3x1024) ![2, 0] ![1, 1024] inb_S3x1024_S1x1024_2_0).toLoadRect (by decide),
      View.readCov_skip _ _ _ _ (Rect.unit (s := S3x1024) ![1, 0] ![1, 1024] inb_S3x1024_S1x1024_1_0).toLoadRect (by decide),
      fill_load a19 (k0_pay19 (F := F)) (Rect.unit (s := S3x1024) ![0, 0] ![1, 1024] inb_S3x1024_S1x1024_0_0),
      fill_load a19 (k0_pay19 (F := F)) (Rect.unit (s := S3x1024) ![1, 0] ![1, 1024] inb_S3x1024_S1x1024_1_0),
      fill_load a19 (k0_pay19 (F := F)) (Rect.unit (s := S3x1024) ![2, 0] ![1, 1024] inb_S3x1024_S1x1024_2_0)]
    rfl
  · rw [View.canon_cons_unit_zero (S := S1x1024) hz2, View.readCov_unit_zero (S := S1x1024) _ hz2]

theorem blocks_B (h : ¬cond0_0 i) (h' : ¬cond0_1 i) :
    out0_B_14 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13 xo17 xo18
        = k0_pay15 (M i x9 x10 x11) (conv14 i x3 x4 x5 x6 x7 x8 x12 x13)
      ∧ out0_B_15 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13 xo17 xo18
        = k0_pay16 (D i x0 x1 x2 x9 x10 x11) (V i x0 x1 x2 x9 x10 x11 x12) (tap1 x12) (tap2 x12) x7
      ∧ out0_B_16 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13 xo17 xo18
        = k0_pay17 (D i x0 x1 x2 x9 x10 x11) (V i x0 x1 x2 x9 x10 x11 x12) (tap1 x12) (tap2 x12) x4
      ∧ out0_B_17 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13 xo17 xo18
        = taps (D i x0 x1 x2 x9 x10 x11) (G i x3 x4 x5 x6 x7 x8) xo17 []
      ∧ out0_B_18 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13 xo17 xo18
        = k0_pay4 (k0_pay18 (D i x0 x1 x2 x9 x10 x11)) xo18 := by
  refine ⟨(View.read_writes_eq_canon _ _ _ (cover0_B_14 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13 xo17 xo18)).trans ?_,
    (View.read_writes_eq_canon _ _ _ (cover0_B_15 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13 xo17 xo18)).trans ?_,
    (View.read_writes_eq_canon _ _ _ (cover0_B_16 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13 xo17 xo18)).trans ?_,
    (View.read_writes_eq_canon _ _ _ (cover0_B_17 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13 xo17 xo18)).trans ?_,
    (View.read_writes_eq_canon _ _ _ (cover0_B_18 c i a2 h2 a3 h3 a4 h4 a5 h5 a6 h6 a7 h7 a8 h8 a9 h9 a10 h10 a11 h11 a12 h12 a13 h13 a14 h14 a15 h15 a16 h16 a17 h17 a18 h18 a19 h19 a20 h20 h h' x0 x1 x2 x3 x4 x5 x6 x7 x8 x9 x10 x11 x12 x13 xo17 xo18)).trans ?_⟩
  all_goals
    unfold kernelRun0_B
    dsimp only
    sl_unfold_words
    simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, h19.read_unread, h20.read_unread,
      View.ld_unit_zero (S := S16x1024) hz2, View.ld_unit_zero (S := S256x1024) hz2, View.ld_unit_zero (S := S1x1024) hz2]
  · rw [View.canon_unit_zero (S := S256x1024) hz2]
  · rw [View.canon_unit_zero (S := S256x1024) hz2]
  · rw [View.canon_unit_zero (S := S256x1024) hz2]
  · rfl
  · rw [View.canon_unit_zero (S := S1x1024) hz2]

end Pieces

/-! ### What the pieces compute -/

theorem staged_apply (i : grid0.Coords) (v w : Vec Ideal S16x1024 .f32) (x : Vec Ideal S256x1024 .f32) (r : Fin 288) (q : Fin 1024) :
    k0_pay5 i v w x (ix2 r q) = held (i 1).val v x w r q := by
  pointwise [k0_pay5]
  rw [first_word (i 1), last_word (i 1)]
  unfold held
  by_cases h : r.val < 16
  · simp only [dif_pos h]
    by_cases h0 : (i 1).val = 0
    · simp only [if_pos h0]; rfl
    · simp only [if_neg h0]; rfl
  · simp only [dif_neg h]
    by_cases h' : r.val - 16 < 256
    · simp only [dif_pos h']
    · simp only [dif_neg h']
      by_cases h0 : (i 1).val = 31
      · simp only [if_pos h0]; rfl
      · simp only [if_neg h0]; rfl

theorem M_apply (i : grid0.Coords) (x9 : Vec Ideal S16x1024 .f32) (x10 : Vec Ideal S256x1024 .f32) (x11 : Vec Ideal S16x1024 .f32)
    (r : Fin 288) (q : Fin 1024) : M i x9 x10 x11 (ix2 r q) = held (i 1).val x9 x10 x11 r q :=
  staged_apply i x9 x11 x10 r q

theorem G_apply (i : grid0.Coords) (x3 : Vec Ideal S16x1024 .f32) (x4 : Vec Ideal S256x1024 .f32) (x5 x6 : Vec Ideal S16x1024 .f32)
    (x7 : Vec Ideal S256x1024 .f32) (x8 : Vec Ideal S16x1024 .f32) (r : Fin 288) (q : Fin 1024) :
    G i x3 x4 x5 x6 x7 x8 (ix2 r q) = held (i 1).val x3 x4 x5 r q * held (i 1).val x6 x7 x8 r q :=
  congrArg₂ (fun a b : EReal => a * b) (staged_apply i x3 x5 x4 r q) (staged_apply i x6 x8 x7 r q)

theorem D_apply (i : grid0.Coords) (x0 : Vec Ideal S16x1024 .f32) (x1 : Vec Ideal S256x1024 .f32) (x2 x9 : Vec Ideal S16x1024 .f32)
    (x10 : Vec Ideal S256x1024 .f32) (x11 : Vec Ideal S16x1024 .f32) (r : Fin 288) (q : Fin 1024) :
    D i x0 x1 x2 x9 x10 x11 (ix2 r q) = held (i 1).val x9 x10 x11 r q * held (i 1).val x0 x1 x2 r q :=
  congrArg₂ (fun a b : EReal => a * b) (staged_apply i x9 x11 x10 r q) (staged_apply i x0 x2 x1 r q)

/-- Rotations by one row, either way, seen from the tile's rows. -/
theorem back_one (r : Fin 256) : (⟨(16 + r.val + 288 - 1) % 288, Nat.mod_lt _ (by norm_num)⟩ : Fin 288) = ⟨15 + r.val, by omega⟩ :=
  Fin.ext (by dsimp only; omega)
theorem stay (r : Fin 256) : (⟨(16 + r.val + 288) % 288, Nat.mod_lt _ (by norm_num)⟩ : Fin 288) = ⟨16 + r.val, by omega⟩ :=
  Fin.ext (by dsimp only; omega)
theorem ahead_one (r : Fin 256) : (⟨(16 + r.val + 288 - 287) % 288, Nat.mod_lt _ (by norm_num)⟩ : Fin 288) = ⟨17 + r.val, by omega⟩ :=
  Fin.ext (by dsimp only; omega)

theorem conv_apply (C : FVec Ideal S288x1024 .f32) (v w : FVec Ideal S16x1024 .f32) (x : Vec Ideal S256x1024 .f32)
    (w0 w1 w2 b : Vec Ideal S1x1024 .f32) (r : Fin 256) (q : Fin 1024) :
    k0_pay11 C v w x w0 w1 w2 b (ix2 ⟨16 + r.val, by omega⟩ q)
      = w0 (ix2 0 q) * k0_pay10 C v w x (ix2 ⟨15 + r.val, by omega⟩ q) + w1 (ix2 0 q) * k0_pay10 C v w x (ix2 ⟨16 + r.val, by omega⟩ q)
        + w2 (ix2 0 q) * k0_pay10 C v w x (ix2 ⟨17 + r.val, by omega⟩ q) + b (ix2 0 q) := by
  pointwise [k0_pay11]
  rw [back_one, stay, ahead_one]

theorem dprod_apply (a : BitVec 32) (B : FVec Ideal S288x1024 .f32) (v w : Vec Ideal S16x1024 .f32) (x : Vec Ideal S256x1024 .f32)
    (w0 w1 w2 : Vec Ideal S1x1024 .f32) (r : Fin 256) (q : Fin 1024) :
    k0_pay14 (k0_pay12 a B v w x) (k0_pay13 a B v w x w0) w1 w2 (ix2 r q)
      = w0 (ix2 0 q) * k0_pay12 a B v w x (ix2 ⟨17 + r.val, by omega⟩ q) + w1 (ix2 0 q) * k0_pay12 a B v w x (ix2 ⟨16 + r.val, by omega⟩ q)
        + w2 (ix2 0 q) * k0_pay12 a B v w x (ix2 ⟨15 + r.val, by omega⟩ q) := by
  pointwise [k0_pay14, k0_pay13]
  rw [back_one, stay, ahead_one]

theorem first_apply (m s : FVec Ideal S288x1024 .f32) (r : Fin 256) (q : Fin 1024) :
    k0_pay15 m s (ix2 r q) = m (ix2 ⟨16 + r.val, by omega⟩ q) * s (ix2 ⟨16 + r.val, by omega⟩ q) := by
  pointwise [k0_pay15]

/-- A row of the fourth output block: what it held and the point's sum. -/
theorem taps_apply (D G : FVec Ideal S288x1024 .f32) (xo : Vec Ideal S3x1024 .f32) (L : List (View.Piece (Elt Ideal) S3x1024 .f32))
    (k : Fin 3) (q : Fin 1024) :
    taps D G xo L (ix2 k q)
      = xo (ix2 k q) + ∑ r : Fin 256, D (ix2 ⟨16 + r.val, by omega⟩ q) * G (ix2 ⟨15 + k.val + r.val, by omega⟩ q) := by
  unfold taps
  have hk : k = 0 ∨ k = 1 ∨ k = 2 := by omega
  rcases hk with rfl | rfl | rfl
  · refine (row_skip 2 0 (by decide) _ _ _ q).trans ((row_skip 1 0 (by decide) _ _ _ q).trans ((row_here 0 0 rfl _ _ _ q).trans ?_))
    have e := row_load 0 0 rfl xo inb_S3x1024_S1x1024_0_0 q
    pointwise [k0_pay20, k0_pay18]
    exact congrArg₂ (fun a b : EReal => a + b) e
      (Finset.sum_congr rfl fun r _ => congrArg (fun s => D (ix2 ⟨16 + r.val, by omega⟩ q) * G (ix2 s q)) (back_one r))
  · refine (row_skip 2 1 (by decide) _ _ _ q).trans ((row_here 1 1 rfl _ _ _ q).trans ?_)
    have e := row_load 1 1 rfl xo inb_S3x1024_S1x1024_1_0 q
    pointwise [k0_pay1, k0_pay18]
    exact congrArg₂ (fun a b : EReal => a + b) e
      (Finset.sum_congr rfl fun r _ => congrArg (fun s => D (ix2 ⟨16 + r.val, by omega⟩ q) * G (ix2 s q)) (stay r))
  · refine (row_here 2 2 rfl _ _ _ q).trans ?_
    have e := row_load 2 2 rfl xo inb_S3x1024_S1x1024_2_0 q
    pointwise [k0_pay2, k0_pay18]
    exact congrArg₂ (fun a b : EReal => a + b) e
      (Finset.sum_congr rfl fun r _ => congrArg (fun s => D (ix2 ⟨16 + r.val, by omega⟩ q) * G (ix2 s q)) (ahead_one r))

theorem bias_apply (D : FVec Ideal S288x1024 .f32) (y : Vec Ideal S1x1024 .f32) (q : Fin 1024) :
    k0_pay4 (k0_pay18 D) y (ix2 0 q) = y (ix2 0 q) + ∑ r : Fin 256, D (ix2 ⟨16 + r.val, by omega⟩ q) := by
  pointwise [k0_pay4, k0_pay18]

theorem zero_apply (k : Fin 3) (q : Fin 1024) : k0_pay19 (F := Ideal) (ix2 k q) = 0 := by
  pointwise [k0_pay19]

theorem zero'_apply (q : Fin 1024) : k0_pay3 (F := Ideal) (ix2 0 q) = 0 := by
  pointwise [k0_pay3]

end Cert.Proof.OdMidBwd

end
-- ==== Proof.OdMidBwdRef.lean ====
/-
  The gradients of the short gated convolution, as functions of its arguments, and that the reference
  computes them.
-/
module

public import proofs.«01_k».proof.Defs
public import proofs.«01_k».proof.Proof.Gen.OdMidBwdRefIdeal.Run
public import proofs.«01_k».proof.Proof.Gen.OdMidBwdRefIdeal.Read
public import Idealize.ShloMosaic.Lib.Pointwise
public import Idealize.ShloMosaic.Lib.Quiescent

@[expose] public section

set_option maxRecDepth 16384

noncomputable section

namespace Cert.Proof.OdMidBwd

open Idealize.ShloMosaic Idealize.ShloMosaic.TcCoe Idealize.SL.Sem
open Cert.OdMidBwdIdeal
open Idealize.ShloMosaic.Pipeline (Dat)
open scoped BigOperators

/-- Row `n - 1` of a column, zero before its first row and after its last. -/
def edge (f : Fin 8192 → EReal) (n : ℕ) : EReal := if h : 1 ≤ n ∧ n < 8193 then f ⟨n - 1, by omega⟩ else 0

theorem edge_row (f : Fin 8192 → EReal) (s : Fin 8192) : edge f (s.val + 1) = f s :=
  dif_pos (show 1 ≤ s.val + 1 ∧ s.val + 1 < 8193 by omega)

theorem edge_out (f : Fin 8192 → EReal) (n : ℕ) (h : n = 0 ∨ n = 8193) : edge f n = 0 := dif_neg (by omega)

section Spec

variable (x0 : S8192x3072.Idx → EReal) (x1 : S8192x1024.Idx → EReal) (x2 : S3x1024.Idx → EReal) (x3 : S1x1024.Idx → EReal)

/-- A column of each of the three parts of a row, and one of the incoming gradient. -/
def colB (q : Fin 1024) : ℕ → EReal := edge fun s => x0 (ix2 s ⟨q.val, by omega⟩)
def colC (q : Fin 1024) : ℕ → EReal := edge fun s => x0 (ix2 s ⟨1024 + q.val, by omega⟩)
def colU (q : Fin 1024) : ℕ → EReal := edge fun s => x0 (ix2 s ⟨2048 + q.val, by omega⟩)
def grad (q : Fin 1024) : ℕ → EReal := edge fun s => x1 (ix2 s q)

/-- What is convolved, and the gradient at the convolution's result. -/
def prod (q : Fin 1024) (n : ℕ) : EReal := colC x0 q n * colU x0 q n
def slope (q : Fin 1024) (n : ℕ) : EReal := grad x1 q n * colB x0 q n

/-- The convolution with its bias at row `s`, and the gradient of what is convolved. -/
def conv (q : Fin 1024) (s : ℕ) : EReal :=
  x2 (ix2 0 q) * prod x0 q s + x2 (ix2 1 q) * prod x0 q (s + 1) + x2 (ix2 2 q) * prod x0 q (s + 2) + x3 (ix2 0 q)
def dprod (q : Fin 1024) (s : ℕ) : EReal :=
  x2 (ix2 0 q) * slope x0 x1 q (s + 2) + x2 (ix2 1 q) * slope x0 x1 q (s + 1) + x2 (ix2 2 q) * slope x0 x1 q s

/-- The gradients of the three parts. -/
def dB : S8192x1024.Idx → EReal := fun i => grad x1 (i 1) ((i 0).val + 1) * conv x0 x2 x3 (i 1) (i 0).val
def dC : S8192x1024.Idx → EReal := fun i => dprod x0 x1 x2 (i 1) (i 0).val * colU x0 (i 1) ((i 0).val + 1)
def dU : S8192x1024.Idx → EReal := fun i => dprod x0 x1 x2 (i 1) (i 0).val * colC x0 (i 1) ((i 0).val + 1)

/-- The gradients of the taps and of the bias. -/
def term (k : Fin 3) (q : Fin 1024) (s : ℕ) : EReal := slope x0 x1 q (s + 1) * prod x0 q (s + k.val)
def term' (q : Fin 1024) (s : ℕ) : EReal := slope x0 x1 q (s + 1)
def dW : S3x1024.Idx → EReal := fun i => ∑ s ∈ Finset.range 8192, term x0 x1 (i 0) (i 1) s
def dBias : S1x1024.Idx → EReal := fun i => ∑ s ∈ Finset.range 8192, term' x0 x1 (i 1) s

end Spec

open Cert.OdMidBwdRefIdeal.Read

variable (x0 : S8192x3072.Idx → EReal) (x1 : S8192x1024.Idx → EReal) (x2 : S3x1024.Idx → EReal) (x3 : S1x1024.Idx → EReal)

theorem prod_out (q : Fin 1024) (n : ℕ) (h : n = 0 ∨ n = 8193) : prod x0 q n = 0 :=
  (congrArg (· * colU x0 q n) (edge_out _ n h)).trans (zero_mul _)

theorem slope_out (q : Fin 1024) (n : ℕ) (h : n = 0 ∨ n = 8193) : slope x0 x1 q n = 0 :=
  (congrArg (· * colB x0 q n) (edge_out _ n h)).trans (zero_mul _)

/-- A row of the product, the row before and the row after. -/
theorem prod_here (s : Fin 8192) (q : Fin 1024) : val_main_v3 (F := Ideal) x0 (ix2 s q) = prod x0 q (s.val + 1) := by
  unfold prod colC colU
  rw [edge_row, edge_row]
  pointwise [val_main_v3, val_main_v2, val_main_v1]

theorem prod_before (s : Fin 8192) (q : Fin 1024) : val_main_v7 (F := Ideal) x0 (ix2 s q) = prod x0 q s.val := by
  have hs := s.isLt
  pointwise [val_main_v7, val_main_v6, val_main_v5, val_main_cst]
  by_cases h : s.val < 1
  · rw [dif_pos h, prod_out x0 q s.val (by omega)]
  · rw [dif_neg h, prod_here]
    exact congrArg (prod x0 q) (by dsimp only; omega)

theorem prod_after (s : Fin 8192) (q : Fin 1024) : val_main_v18 (F := Ideal) x0 (ix2 s q) = prod x0 q (s.val + 2) := by
  have hs := s.isLt
  pointwise [val_main_v18, val_main_v17, val_main_v16, val_main_cst_1]
  by_cases h : s.val < 8191
  · rw [dif_pos h, prod_here]
    exact congrArg (prod x0 q) (by dsimp only; omega)
  · rw [dif_neg h, prod_out x0 q (s.val + 2) (by omega)]

theorem slope_here (s : Fin 8192) (q : Fin 1024) : val_main_v26 (F := Ideal) x0 x1 (ix2 s q) = slope x0 x1 q (s.val + 1) := by
  unfold slope grad colB
  rw [edge_row, edge_row, mul_comm]
  pointwise [val_main_v26, val_main_v0]

theorem conv_here (s : Fin 8192) (q : Fin 1024) : val_main_v24 (F := Ideal) x0 x2 x3 (ix2 s q) = conv x0 x2 x3 q s.val := by
  have h1 := prod_here x0 s q
  have h2 := prod_before x0 s q
  have h3 := prod_after x0 s q
  pointwise [val_main_v24, val_main_v23, val_main_v22, val_main_v21, val_main_v20, val_main_v15, val_main_v14, val_main_v13,
    val_main_v12, val_main_v11, val_main_v10, val_main_v9, val_main_v4]
  rw [h1, h2, h3]
  rfl

theorem dprod_here (s : Fin 8192) (q : Fin 1024) : val_main_v55 (F := Ideal) x0 x1 x2 (ix2 s q) = dprod x0 x1 x2 q s.val := by
  have hd := fun s => slope_here x0 x1 s q
  have hs := s.isLt
  pointwise [val_main_v55, val_main_v54, val_main_v53, val_main_v48, val_main_v47, val_main_v41, val_main_v40, val_main_v39,
    val_main_v37, val_main_v35, val_main_v31, val_main_v30, val_main_v15, val_main_v11, val_main_v4, val_main_cst_5, val_main_cst_10]
  simp only [hd]
  have e2 : (if h : 1 ≤ s.val ∧ s.val - 1 < 8191 then x2 (ix2 2 q) * slope x0 x1 q (s.val - 1 + 1) else 0)
      = x2 (ix2 2 q) * slope x0 x1 q s.val := by
    by_cases h : s.val = 0
    · rw [dif_neg (by omega), slope_out x0 x1 q s.val (Or.inl h), mul_zero]
    · rw [dif_pos (by omega), Nat.sub_add_cancel (by omega)]
  have e0 : (if h : s.val < 8191 then x2 (ix2 0 q) * slope x0 x1 q (1 + s.val + 1) else 0)
      = x2 (ix2 0 q) * slope x0 x1 q (s.val + 2) := by
    by_cases h : s.val < 8191
    · rw [dif_pos h, show 1 + s.val + 1 = s.val + 2 by omega]
    · rw [dif_neg h, slope_out x0 x1 q (s.val + 2) (by omega), mul_zero]
  rw [e2, e0, add_comm, add_comm (x2 (ix2 2 q) * _), ← add_assoc]
  rfl

/-- The gradients of the three parts, in the order they are returned. -/
theorem reference_b (s : Fin 8192) (q : Fin 1024) :
    val_main_v64 (F := Ideal) x0 x1 x2 x3 (ix2 s q) = dB x0 x1 x2 x3 (ix2 s q) := by
  have h := conv_here x0 x2 x3 s q
  show _ = grad x1 q (s.val + 1) * conv x0 x2 x3 q s.val
  rw [show grad x1 q (s.val + 1) = x1 (ix2 s q) from edge_row _ s]
  pointwise [val_main_v64, val_main_v61, val_main_v60, val_main_v27]
  rw [h]

theorem reference_c (s : Fin 8192) (q : Fin 1024) :
    val_main_v65 (F := Ideal) x0 x1 x2 x3 (ix2 s q) = dC x0 x1 x2 (ix2 s q) := by
  have h := dprod_here x0 x1 x2 s q
  show _ = dprod x0 x1 x2 q s.val * colU x0 q (s.val + 1)
  rw [show colU x0 q (s.val + 1) = x0 (ix2 s ⟨2048 + q.val, by omega⟩) from edge_row _ s, ← h]
  pointwise [val_main_v65, val_main_v62, val_main_v60, val_main_v59, val_main_v2]

theorem reference_u (s : Fin 8192) (q : Fin 1024) :
    val_main_v66 (F := Ideal) x0 x1 x2 x3 (ix2 s q) = dU x0 x1 x2 (ix2 s q) := by
  have h := dprod_here x0 x1 x2 s q
  show _ = dprod x0 x1 x2 q s.val * colC x0 q (s.val + 1)
  rw [show colC x0 q (s.val + 1) = x0 (ix2 s ⟨1024 + q.val, by omega⟩) from edge_row _ s, ← h, mul_comm]
  pointwise [val_main_v66, val_main_v63, val_main_v60, val_main_v58, val_main_v1]
  rw [dif_neg (by omega), dif_neg (by omega)]
  exact congrArg₂ (fun (a : Fin 3072) (b : Fin 1024) => x0 (ix2 s a) * val_main_v55 (F := Ideal) x0 x1 x2 (ix2 s b))
    (Fin.ext (by dsimp only; omega)) (Fin.ext (by dsimp only; omega))

/-- The gradients of the taps and of the bias. -/
theorem reference_taps (k : Fin 3) (q : Fin 1024) :
    val_main_v57 (F := Ideal) x0 x1 (ix2 k q) = dW x0 x1 (ix2 k q) := by
  show _ = ∑ s ∈ Finset.range 8192, term x0 x1 k q s
  rw [← Fin.sum_univ_eq_sum_range (fun s => term x0 x1 k q s) 8192]
  have s0 : ∀ s : Fin 8192, val_main_v49 (F := Ideal) x0 x1 (ix2 s q) = term x0 x1 0 q s.val := fun s =>
    congrArg₂ (fun a b : EReal => a * b) (slope_here x0 x1 s q) (prod_before x0 s q)
  have s1 : ∀ s : Fin 8192, val_main_v42 (F := Ideal) x0 x1 (ix2 s q) = term x0 x1 1 q s.val := fun s =>
    congrArg₂ (fun a b : EReal => a * b) (slope_here x0 x1 s q) (prod_here x0 s q)
  have s2 : ∀ s : Fin 8192, val_main_v32 (F := Ideal) x0 x1 (ix2 s q) = term x0 x1 2 q s.val := fun s =>
    congrArg₂ (fun a b : EReal => a * b) (slope_here x0 x1 s q) (prod_after x0 s q)
  pointwise [val_main_v57, val_main_v56, val_main_v46, val_main_v38, val_main_v34, val_main_v33, val_main_v45, val_main_v44, val_main_v43,
    val_main_v51, val_main_v50, val_main_cst_4, val_main_cst_6, val_main_cst_7, val_main_cst_8, val_main_cst_9, val_main_cst_11]
  simp only [s0, s1, s2]
  have hk : k = 0 ∨ k = 1 ∨ k = 2 := by omega
  rcases hk with rfl | rfl | rfl
  · simp
  · simp
  · simp

theorem reference_bias (k : Fin 1) (q : Fin 1024) : val_main_v29 (F := Ideal) x0 x1 (ix2 k q) = dBias x0 x1 (ix2 k q) := by
  obtain rfl : k = 0 := Subsingleton.elim k 0
  pointwise [val_main_v29, val_main_v28, val_main_cst_3]
  show _ = ∑ s ∈ Finset.range 8192, term' x0 x1 q s
  rw [← Fin.sum_univ_eq_sum_range (fun s => term' x0 x1 q s) 8192]
  exact Finset.sum_congr rfl fun s _ => slope_here x0 x1 s q

end Cert.Proof.OdMidBwd

end
-- ==== Proof.OdMidBwd.lean ====
/-
  The backward of the short gated convolution: the gradients of the three parts, row by row, and the gradients
  of the taps and of the bias, summed over all tiles.
-/
module

public import proofs.«01_k».proof.Proof.OdMidBwdPoint
public import proofs.«01_k».proof.Proof.OdMidBwdRef

@[expose] public section

set_option maxRecDepth 16384

noncomputable section

namespace Cert.Proof.OdMidBwd

open Idealize.ShloMosaic Idealize.ShloMosaic.TcCoe Idealize.SL.Sem
open Cert.OdMidBwdIdeal Cert.OdMidBwdIdeal.Gen
open Cert.Proof.OdMid (held)
open Idealize.ShloMosaic.Pipeline (Dat)
open scoped BigOperators

/-- What a point stages of a column, if its three blocks are the tile before, the tile's rows and the tile after. -/
theorem held_edge (i k : ℕ) (hi : i = k) (hk : k < 32) (v : Vec Ideal S16x1024 .f32) (x : Vec Ideal S256x1024 .f32) (w : Vec Ideal S16x1024 .f32)
    (f : Fin 8192 → EReal) (q : Fin 1024) (hv : ∀ s : Fin 16, v (ix2 s q) = f ⟨16 * (16 * k - 1) + s.val, by omega⟩)
    (hx : ∀ s : Fin 256, x (ix2 s q) = f ⟨256 * k + s.val, by omega⟩)
    (hw : ∀ s : Fin 16, w (ix2 s q) = f ⟨16 * min (16 * k + 16) 511 + s.val, by omega⟩)
    (r : Fin 288) (hr : 15 ≤ r.val ∧ r.val < 273) (n : ℕ) (hn : 256 * k + r.val = n + 15) : held i v x w r q = edge f n := by
  unfold held edge
  by_cases h1 : r.val < 16
  · rw [dif_pos h1]
    by_cases h0 : i = 0
    · rw [if_pos h0, dif_neg (by omega)]
    · rw [if_neg h0, dif_pos (by omega), hv]
      exact congrArg f (Fin.ext (by dsimp only; omega))
  · rw [dif_neg h1]
    by_cases h2 : r.val - 16 < 256
    · rw [dif_pos h2, dif_pos (by omega), hx]
      exact congrArg f (Fin.ext (by dsimp only; omega))
    · rw [dif_neg h2]
      by_cases h0 : i = 31
      · rw [if_pos h0, dif_neg (by omega)]
      · rw [if_neg h0, dif_pos (by omega), hw]
        exact congrArg f (Fin.ext (by dsimp only; omega))

theorem held_mid (i : ℕ) (v : Vec Ideal S16x1024 .f32) (x : Vec Ideal S256x1024 .f32) (w : Vec Ideal S16x1024 .f32) (r : Fin 256) (q : Fin 1024) :
    held i v x w ⟨16 + r.val, by omega⟩ q = x (ix2 r q) := by
  unfold held
  rw [dif_neg (by dsimp only; omega), dif_pos (by dsimp only; omega)]
  exact congrArg (fun s => x (ix2 s q)) (Fin.ext (by dsimp only; omega))

section Array

variable (m : (ℓ : Loc nD τ sig) → Buf (Elt Ideal) ℓ) (c : Dev nD)

/-- The blocks that the windows show a point. -/
theorem idx0 : ∀ t : Fin cfg0.N, win0_0.index t (0 : Fin 2) = 16 * t.val - 1 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = min (16 * t.val + 16) 511 ∧ win0_2.index t (1 : Fin 2) = 0 :=
  (by decide +kernel : ∀ t : Fin grid0.N, _)
theorem idx3 : ∀ t : Fin cfg0.N, win0_3.index t (0 : Fin 2) = 16 * t.val - 1 ∧ win0_3.index t (1 : Fin 2) = 1 :=
  (by decide +kernel : ∀ t : Fin grid0.N, _)
theorem idx4 : ∀ t : Fin cfg0.N, win0_4.index t (0 : Fin 2) = t.val ∧ win0_4.index t (1 : Fin 2) = 1 :=
  (by decide +kernel : ∀ t : Fin grid0.N, _)
theorem idx5 : ∀ t : Fin cfg0.N, win0_5.index t (0 : Fin 2) = min (16 * t.val + 16) 511 ∧ win0_5.index t (1 : Fin 2) = 1 :=
  (by decide +kernel : ∀ t : Fin grid0.N, _)
theorem idx6 : ∀ t : Fin cfg0.N, win0_6.index t (0 : Fin 2) = 16 * t.val - 1 ∧ win0_6.index t (1 : Fin 2) = 2 :=
  (by decide +kernel : ∀ t : Fin grid0.N, _)
theorem idx7 : ∀ t : Fin cfg0.N, win0_7.index t (0 : Fin 2) = t.val ∧ win0_7.index t (1 : Fin 2) = 2 :=
  (by decide +kernel : ∀ t : Fin grid0.N, _)
theorem idx8 : ∀ t : Fin cfg0.N, win0_8.index t (0 : Fin 2) = min (16 * t.val + 16) 511 ∧ win0_8.index t (1 : Fin 2) = 2 :=
  (by decide +kernel : ∀ t : Fin grid0.N, _)
theorem idx9 : ∀ t : Fin cfg0.N, win0_9.index t (0 : Fin 2) = 16 * t.val - 1 ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = min (16 * t.val + 16) 511 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem coord : ∀ t : Fin cfg0.N, (grid0.coords t 1).val = t.val := (by decide +kernel : ∀ t : Fin grid0.N, _)
theorem lt_N (t : Fin cfg0.N) : t.val < 32 := by have := t.isLt; have h : cfg0.N = 32 := N_0; omega

/-- The call's four arguments, as it finds them. -/
abbrev X : S8192x3072.Idx → EReal := m ((c : Thread nD τ).loc main_arg0)
abbrev Z : S8192x1024.Idx → EReal := m ((c : Thread nD τ).loc main_arg1)
abbrev W : S3x1024.Idx → EReal := m ((c : Thread nD τ).loc main_arg2)
abbrev Bias : S1x1024.Idx → EReal := m ((c : Thread nD τ).loc main_arg3)

theorem emb12 (t : Fin cfg0.N) (k : Fin 3) (q : Fin 1024) : ((cfg0.win 12).blk t).view.emb (ix2 k q) = ix2 k q :=
  put2 (idx12 t) 3 k 1024 q

theorem emb13 (t : Fin cfg0.N) (k : Fin 1) (q : Fin 1024) : ((cfg0.win 13).blk t).view.emb (ix2 k q) = ix2 k q :=
  put2 (idx13 t) 1 k 1024 q

theorem emb17 (t : Fin cfg0.N) (k : Fin 3) (q : Fin 1024) : ((cfg0.win 17).blk t).view.emb (ix2 k q) = ix2 k q :=
  put2 (idx17 t) 3 k 1024 q

theorem emb18 (t : Fin cfg0.N) (k : Fin 1) (q : Fin 1024) : ((cfg0.win 18).blk t).view.emb (ix2 k q) = ix2 k q :=
  put2 (idx18 t) 1 k 1024 q

theorem w_here (t : Fin cfg0.N) (k : Fin 3) (q : Fin 1024) : (iblk m c 12 t : Vec Ideal S3x1024 .f32) (ix2 k q) = W m c (ix2 k q) :=
  congrArg (W m c) (emb12 t k q)
theorem tap0_here (t : Fin cfg0.N) (q : Fin 1024) : tap0 (F := Ideal) (iblk m c 12 t) (ix2 0 q) = W m c (ix2 0 q) :=
  (row_load 0 0 rfl _ _ q).trans (w_here m c t 0 q)
theorem tap1_here (t : Fin cfg0.N) (q : Fin 1024) : tap1 (F := Ideal) (iblk m c 12 t) (ix2 0 q) = W m c (ix2 1 q) :=
  (row_load 1 1 rfl _ _ q).trans (w_here m c t 1 q)
theorem tap2_here (t : Fin cfg0.N) (q : Fin 1024) : tap2 (F := Ideal) (iblk m c 12 t) (ix2 0 q) = W m c (ix2 2 q) :=
  (row_load 2 2 rfl _ _ q).trans (w_here m c t 2 q)
theorem bias_here (t : Fin cfg0.N) (q : Fin 1024) : (iblk m c 13 t : Vec Ideal S1x1024 .f32) (ix2 0 q) = Bias m c (ix2 0 q) :=
  congrArg (Bias m c) (emb13 t 0 q)

/-! ### What a point stages -/

/-- What a point computes from its staged rows. -/
abbrev Mt (t : Fin cfg0.N) := M (grid0.coords t) (iblk m c 9 t) (iblk m c 10 t) (iblk m c 11 t)
abbrev Gt (t : Fin cfg0.N) := G (grid0.coords t) (iblk m c 3 t) (iblk m c 4 t) (iblk m c 5 t) (iblk m c 6 t) (iblk m c 7 t) (iblk m c 8 t)
abbrev Ct (t : Fin cfg0.N) := conv14 (grid0.coords t) (iblk m c 3 t) (iblk m c 4 t) (iblk m c 5 t) (iblk m c 6 t) (iblk m c 7 t) (iblk m c 8 t) (iblk m c 12 t) (iblk m c 13 t)
abbrev Dt (t : Fin cfg0.N) := D (grid0.coords t) (iblk m c 0 t) (iblk m c 1 t) (iblk m c 2 t) (iblk m c 9 t) (iblk m c 10 t) (iblk m c 11 t)
abbrev Vt (t : Fin cfg0.N) := V (grid0.coords t) (iblk m c 0 t) (iblk m c 1 t) (iblk m c 2 t) (iblk m c 9 t) (iblk m c 10 t) (iblk m c 11 t) (iblk m c 12 t)

section Staged

variable (t : Fin cfg0.N) (r : Fin 288) (n : ℕ) (hr : 15 ≤ r.val ∧ r.val < 273) (hn : 256 * t.val + r.val = n + 15) (q : Fin 1024)
include hr hn

theorem held_b :
    held (grid0.coords t 1).val (iblk m c 0 t) (iblk m c 1 t) (iblk m c 2 t) r q = colB (X m c) q n :=
  have ht := lt_N t
  held_edge _ t.val (coord t) ht _ _ _ _ q
    (fun s => congrArg (X m c) (put2 (idx0 t) 16 s 1024 q))
    (fun s => congrArg (X m c) (put2 (idx1 t) 256 s 1024 q))
    (fun s => congrArg (X m c) (put2 (idx2 t) 16 s 1024 q))
    r hr n hn

theorem held_c :
    held (grid0.coords t 1).val (iblk m c 3 t) (iblk m c 4 t) (iblk m c 5 t) r q = colC (X m c) q n :=
  have ht := lt_N t
  held_edge _ t.val (coord t) ht _ _ _ _ q
    (fun s => congrArg (X m c) (put2 (idx3 t) 16 s 1024 q))
    (fun s => congrArg (X m c) (put2 (idx4 t) 256 s 1024 q))
    (fun s => congrArg (X m c) (put2 (idx5 t) 16 s 1024 q))
    r hr n hn

theorem held_u :
    held (grid0.coords t 1).val (iblk m c 6 t) (iblk m c 7 t) (iblk m c 8 t) r q = colU (X m c) q n :=
  have ht := lt_N t
  held_edge _ t.val (coord t) ht _ _ _ _ q
    (fun s => congrArg (X m c) (put2 (idx6 t) 16 s 1024 q))
    (fun s => congrArg (X m c) (put2 (idx7 t) 256 s 1024 q))
    (fun s => congrArg (X m c) (put2 (idx8 t) 16 s 1024 q))
    r hr n hn

theorem held_z :
    held (grid0.coords t 1).val (iblk m c 9 t) (iblk m c 10 t) (iblk m c 11 t) r q = grad (Z m c) q n :=
  have ht := lt_N t
  held_edge _ t.val (coord t) ht _ _ _ _ q
    (fun s => congrArg (Z m c) (put2 (idx9 t) 16 s 1024 q))
    (fun s => congrArg (Z m c) (put2 (idx10 t) 256 s 1024 q))
    (fun s => congrArg (Z m c) (put2 (idx11 t) 16 s 1024 q))
    r hr n hn

theorem M_pt : Mt m c t (ix2 r q) = grad (Z m c) q n :=
  (M_apply _ _ _ _ r q).trans (held_z m c t r n hr hn q)

theorem G_pt : Gt m c t (ix2 r q) = prod (X m c) q n :=
  (G_apply _ _ _ _ _ _ _ r q).trans (congrArg₂ (fun a b : EReal => a * b) (held_c m c t r n hr hn q) (held_u m c t r n hr hn q))

theorem D_pt : Dt m c t (ix2 r q) = slope (X m c) (Z m c) q n :=
  (D_apply _ _ _ _ _ _ _ r q).trans (congrArg₂ (fun a b : EReal => a * b) (held_z m c t r n hr hn q) (held_b m c t r n hr hn q))

end Staged

/-! ### The gradients of the three parts -/

theorem row_lt (t : Fin cfg0.N) (r : Fin 256) : 256 * t.val + r.val < 8192 := by have := lt_N t; omega

theorem conv_pt (t : Fin cfg0.N) (r : Fin 256) (q : Fin 1024) :
    Ct m c t (ix2 ⟨16 + r.val, by omega⟩ q)
      = conv (X m c) (W m c) (Bias m c) q (256 * t.val + r.val) := by
  have g0 := G_pt m c t ⟨15 + r.val, by omega⟩ (256 * t.val + r.val) (by dsimp only; omega) (by dsimp only; omega) q
  have g1 := G_pt m c t ⟨16 + r.val, by omega⟩ (256 * t.val + r.val + 1) (by dsimp only; omega) (by dsimp only; omega) q
  have g2 := G_pt m c t ⟨17 + r.val, by omega⟩ (256 * t.val + r.val + 2) (by dsimp only; omega) (by dsimp only; omega) q
  unfold Gt G at g0 g1 g2
  unfold Ct conv14
  rw [conv_apply, tap0_here, tap1_here, tap2_here, bias_here, g0, g1, g2]
  rfl

theorem dprod_pt (t : Fin cfg0.N) (r : Fin 256) (q : Fin 1024) :
    k0_pay14 (Dt m c t) (Vt m c t)
        (tap1 (iblk m c 12 t)) (tap2 (iblk m c 12 t)) (ix2 r q)
      = dprod (X m c) (Z m c) (W m c) q (256 * t.val + r.val) := by
  have d0 := D_pt m c t ⟨15 + r.val, by omega⟩ (256 * t.val + r.val) (by dsimp only; omega) (by dsimp only; omega) q
  have d1 := D_pt m c t ⟨16 + r.val, by omega⟩ (256 * t.val + r.val + 1) (by dsimp only; omega) (by dsimp only; omega) q
  have d2 := D_pt m c t ⟨17 + r.val, by omega⟩ (256 * t.val + r.val + 2) (by dsimp only; omega) (by dsimp only; omega) q
  unfold Dt D at d0 d1 d2
  unfold Dt Vt D V
  rw [dprod_apply, tap0_here, tap1_here, tap2_here, d0, d1, d2]
  rfl

theorem b_pt (t : Fin cfg0.N) (r : Fin 256) (q : Fin 1024) :
    k0_pay15 (Mt m c t) (Ct m c t) (ix2 r q)
      = dB (X m c) (Z m c) (W m c) (Bias m c) (ix2 ⟨256 * t.val + r.val, row_lt t r⟩ q) :=
  (first_apply _ _ r q).trans (congrArg₂ (fun a b : EReal => a * b)
    (M_pt m c t ⟨16 + r.val, by omega⟩ (256 * t.val + r.val + 1) (by dsimp only; omega) (by dsimp only; omega) q) (conv_pt m c t r q))

theorem c_pt (t : Fin cfg0.N) (r : Fin 256) (q : Fin 1024) :
    k0_pay16 (Dt m c t) (Vt m c t)
        (tap1 (iblk m c 12 t)) (tap2 (iblk m c 12 t)) (iblk m c 7 t) (ix2 r q)
      = dC (X m c) (Z m c) (W m c) (ix2 ⟨256 * t.val + r.val, row_lt t r⟩ q) :=
  congrArg₂ (fun a b : EReal => a * b) (dprod_pt m c t r q)
    ((held_mid (grid0.coords t 1).val (iblk m c 6 t) _ (iblk m c 8 t) r q).symm.trans (held_u m c t ⟨16 + r.val, by omega⟩ (256 * t.val + r.val + 1) (by dsimp only; omega) (by dsimp only; omega) q))

theorem u_pt (t : Fin cfg0.N) (r : Fin 256) (q : Fin 1024) :
    k0_pay17 (Dt m c t) (Vt m c t)
        (tap1 (iblk m c 12 t)) (tap2 (iblk m c 12 t)) (iblk m c 4 t) (ix2 r q)
      = dU (X m c) (Z m c) (W m c) (ix2 ⟨256 * t.val + r.val, row_lt t r⟩ q) :=
  congrArg₂ (fun a b : EReal => a * b) (dprod_pt m c t r q)
    ((held_mid (grid0.coords t 1).val (iblk m c 3 t) _ (iblk m c 5 t) r q).symm.trans (held_c m c t ⟨16 + r.val, by omega⟩ (256 * t.val + r.val + 1) (by dsimp only; omega) (by dsimp only; omega) q))

theorem left (t : Fin cfg0.N) :
    (outsAt0 m c t.val t.isLt).1 = k0_pay15 (Mt m c t) (Ct m c t)
      ∧ (outsAt0 m c t.val t.isLt).2.1 = k0_pay16 (Dt m c t) (Vt m c t)
        (tap1 (iblk m c 12 t)) (tap2 (iblk m c 12 t)) (iblk m c 7 t)
      ∧ (outsAt0 m c t.val t.isLt).2.2.1 = k0_pay17 (Dt m c t) (Vt m c t)
        (tap1 (iblk m c 12 t)) (tap2 (iblk m c 12 t)) (iblk m c 4 t) := by
  by_cases h0 : t.val % 32 = 0
  · rw [outsAt0_A m c t h0 h0]
    dsimp only
    rw [(blocks_A ..).1, (blocks_A ..).2.1, (blocks_A ..).2.2.1]
    exact ⟨rfl, rfl, rfl⟩
  · rw [outsAt0_B m c t h0 h0]
    dsimp only
    rw [(blocks_B ..).1, (blocks_B ..).2.1, (blocks_B ..).2.2.1]
    exact ⟨rfl, rfl, rfl⟩

/-- The point that writes a row back, and the last point. -/
def pt (i : S8192x1024.Idx) : Fin cfg0.N :=
  ⟨(i 0).val / 256, by have h0 : (i 0).val < 8192 := (i 0).isLt; have hN : cfg0.N = 32 := N_0; rw [hN]; omega⟩

def lastPt : Fin cfg0.N := ⟨31, by have hN : cfg0.N = 32 := N_0; omega⟩

theorem pt_row (i : S8192x1024.Idx) : ix2 ⟨256 * (pt i).val + (i 0).val % 256, by have := lt_N (pt i); omega⟩ (i 1) = i :=
  (at2 i _ _ (show (i 0).val = 256 * ((i 0).val / 256) + (i 0).val % 256 by omega) rfl).symm

theorem emb14 (t : Fin cfg0.N) (p : Fin 256) (q : Fin 1024) :
    ((cfg0.win 14).blk t).view.emb (ix2 p q) = ix2 ⟨256 * t.val + p.val, by have := lt_N t; omega⟩ q :=
  put2 (idx14 t) 256 p 1024 q

theorem emb15 (t : Fin cfg0.N) (p : Fin 256) (q : Fin 1024) :
    ((cfg0.win 15).blk t).view.emb (ix2 p q) = ix2 ⟨256 * t.val + p.val, by have := lt_N t; omega⟩ q :=
  put2 (idx15 t) 256 p 1024 q

theorem emb16 (t : Fin cfg0.N) (p : Fin 256) (q : Fin 1024) :
    ((cfg0.win 16).blk t).view.emb (ix2 p q) = ix2 ⟨256 * t.val + p.val, by have := lt_N t; omega⟩ q :=
  put2 (idx16 t) 256 p 1024 q

theorem flushed14 (t : Fin cfg0.N) :
    (dats m 0 c).flushed 14 t = ((cfg0.win 14).blk t).view.read (Elt Ideal) (dB (X m c) (Z m c) (W m c) (Bias m c)) := by
  rw [Value.flushed14]
  funext j
  obtain ⟨p, q, rfl⟩ : ∃ (p : Fin 256) (q : Fin 1024), j = ix2 p q := ⟨j 0, j 1, eq_ix2 j⟩
  show (outsAt0 m c t.val t.isLt).1 (ix2 p q) = dB (X m c) (Z m c) (W m c) (Bias m c) (((cfg0.win 14).blk t).view.emb (ix2 p q))
  rw [emb14, (left m c t).1]
  exact b_pt m c t p q

theorem final14 : (dats m 0 c).arrAt 14 cfg0.N = dB (X m c) (Z m c) (W m c) (Bias m c) :=
  (dats m 0 c).arrAt_eq_of_cover 14 _ (fun t _ => flushed14 m c t) fun i =>
    ⟨pt i, flush0_14 _, (congrArg (· ∈ ((cfg0.win 14).blk (pt i)).view.set) ((emb14 (pt i) _ (i 1)).trans (pt_row i))).mp
      (((cfg0.win 14).blk (pt i)).view.emb_mem_set (ix2 ⟨(i 0).val % 256, Nat.mod_lt _ (by norm_num)⟩ (i 1) : S256x1024.Idx))⟩

theorem flushed15 (t : Fin cfg0.N) :
    (dats m 0 c).flushed 15 t = ((cfg0.win 15).blk t).view.read (Elt Ideal) (dC (X m c) (Z m c) (W m c)) := by
  rw [Value.flushed15]
  funext j
  obtain ⟨p, q, rfl⟩ : ∃ (p : Fin 256) (q : Fin 1024), j = ix2 p q := ⟨j 0, j 1, eq_ix2 j⟩
  show (outsAt0 m c t.val t.isLt).2.1 (ix2 p q) = dC (X m c) (Z m c) (W m c) (((cfg0.win 15).blk t).view.emb (ix2 p q))
  rw [emb15, (left m c t).2.1]
  exact c_pt m c t p q

theorem final15 : (dats m 0 c).arrAt 15 cfg0.N = dC (X m c) (Z m c) (W m c) :=
  (dats m 0 c).arrAt_eq_of_cover 15 _ (fun t _ => flushed15 m c t) fun i =>
    ⟨pt i, flush0_15 _, (congrArg (· ∈ ((cfg0.win 15).blk (pt i)).view.set) ((emb15 (pt i) _ (i 1)).trans (pt_row i))).mp
      (((cfg0.win 15).blk (pt i)).view.emb_mem_set (ix2 ⟨(i 0).val % 256, Nat.mod_lt _ (by norm_num)⟩ (i 1) : S256x1024.Idx))⟩

theorem flushed16 (t : Fin cfg0.N) :
    (dats m 0 c).flushed 16 t = ((cfg0.win 16).blk t).view.read (Elt Ideal) (dU (X m c) (Z m c) (W m c)) := by
  rw [Value.flushed16]
  funext j
  obtain ⟨p, q, rfl⟩ : ∃ (p : Fin 256) (q : Fin 1024), j = ix2 p q := ⟨j 0, j 1, eq_ix2 j⟩
  show (outsAt0 m c t.val t.isLt).2.2.1 (ix2 p q) = dU (X m c) (Z m c) (W m c) (((cfg0.win 16).blk t).view.emb (ix2 p q))
  rw [emb16, (left m c t).2.2]
  exact u_pt m c t p q

theorem final16 : (dats m 0 c).arrAt 16 cfg0.N = dU (X m c) (Z m c) (W m c) :=
  (dats m 0 c).arrAt_eq_of_cover 16 _ (fun t _ => flushed16 m c t) fun i =>
    ⟨pt i, flush0_16 _, (congrArg (· ∈ ((cfg0.win 16).blk (pt i)).view.set) ((emb16 (pt i) _ (i 1)).trans (pt_row i))).mp
      (((cfg0.win 16).blk (pt i)).view.emb_mem_set (ix2 ⟨(i 0).val % 256, Nat.mod_lt _ (by norm_num)⟩ (i 1) : S256x1024.Idx))⟩

/-! ### The sums over the tiles -/

theorem step_w (t : Fin cfg0.N) (xo : Vec Ideal S3x1024 .f32) (L : List (View.Piece (Elt Ideal) S3x1024 .f32)) (k : Fin 3) (q : Fin 1024) :
    taps (Dt m c t) (Gt m c t) xo L (ix2 k q)
      = xo (ix2 k q) + ∑ s ∈ Finset.range 256, term (X m c) (Z m c) k q (256 * t.val + s) := by
  rw [taps_apply, ← Fin.sum_univ_eq_sum_range (fun s => term (X m c) (Z m c) k q (256 * t.val + s)) 256]
  exact congrArg _ (Finset.sum_congr rfl fun r _ => congrArg₂ (fun a b : EReal => a * b)
    (D_pt m c t ⟨16 + r.val, by omega⟩ (256 * t.val + r.val + 1) (by dsimp only; omega) (by dsimp only; omega) q)
    (G_pt m c t ⟨15 + k.val + r.val, by omega⟩ (256 * t.val + r.val + k.val) (by dsimp only; omega) (by dsimp only; omega) q))

theorem step_b (t : Fin cfg0.N) (xo : Vec Ideal S1x1024 .f32) (q : Fin 1024) :
    k0_pay4 (k0_pay18 (Dt m c t)) xo (ix2 0 q)
      = xo (ix2 0 q) + ∑ s ∈ Finset.range 256, term' (X m c) (Z m c) q (256 * t.val + s) := by
  rw [bias_apply, ← Fin.sum_univ_eq_sum_range (fun s => term' (X m c) (Z m c) q (256 * t.val + s)) 256]
  exact congrArg _ (Finset.sum_congr rfl fun r _ =>
    D_pt m c t ⟨16 + r.val, by omega⟩ (256 * t.val + r.val + 1) (by dsimp only; omega) (by dsimp only; omega) q)

/-- The two sums over the tiles seen so far. -/
theorem kept : ∀ (n : ℕ) (h : n < cfg0.N),
    (∀ k q, (outsAt0 m c n h).2.2.2.1 (ix2 k q) = ∑ s ∈ Finset.range (256 * (n + 1)), term (X m c) (Z m c) k q s)
      ∧ ∀ q, (outsAt0 m c n h).2.2.2.2 (ix2 0 q) = ∑ s ∈ Finset.range (256 * (n + 1)), term' (X m c) (Z m c) q s := by
  intro n
  induction n with
  | zero =>
    intro h
    have e := outsAt0_A m c ⟨0, h⟩ rfl rfl
    dsimp only at e
    rw [e]
    dsimp only
    rw [(blocks_A ..).2.2.2.1, (blocks_A ..).2.2.2.2]
    refine ⟨fun k q => (step_w m c ⟨0, h⟩ _ _ k q).trans ?_, fun q => (step_b m c ⟨0, h⟩ _ q).trans ?_⟩
    · rw [zero_apply, zero_add]
      exact Finset.sum_congr rfl fun s _ => congrArg _ (Nat.zero_add s)
    · rw [zero'_apply, zero_add]
      exact Finset.sum_congr rfl fun s _ => congrArg _ (Nat.zero_add s)
  | succ n ih =>
    intro h
    have h0 : ¬(n + 1) % 32 = 0 := by have := lt_N ⟨n + 1, h⟩; dsimp only at this; omega
    have e := outsAt0_B m c ⟨n + 1, h⟩ h0 h0
    dsimp only at e
    obtain ⟨iw, ib⟩ := ih (Nat.lt_of_succ_lt h)
    rw [e]
    dsimp only
    rw [(blocks_B ..).2.2.2.1, (blocks_B ..).2.2.2.2]
    refine ⟨fun k q => (step_w m c ⟨n + 1, h⟩ _ _ k q).trans ?_, fun q => (step_b m c ⟨n + 1, h⟩ _ q).trans ?_⟩
    · rw [Nat.mul_add 256 (n + 1) 1, Nat.mul_one, Finset.sum_range_add]
      exact congrArg (· + _) (iw k q)
    · rw [Nat.mul_add 256 (n + 1) 1, Nat.mul_one, Finset.sum_range_add]
      exact congrArg (· + _) (ib q)

theorem final17 : (dats m 0 c).arrAt 17 cfg0.N = dW (X m c) (Z m c) := by
  refine (dats m 0 c).arrAt_eq_of_cover 17 _ (fun t hf => ?_) fun i =>
    ⟨lastPt, (flush0_17 _).mpr rfl, (congrArg (· ∈ ((cfg0.win 17).blk lastPt).view.set)
      ((emb17 _ (i 0) (i 1)).trans (eq_ix2 i).symm)).mp (((cfg0.win 17).blk lastPt).view.emb_mem_set (ix2 (i 0) (i 1) : S3x1024.Idx))⟩
  have h31 : t.val = 31 := by have := (flush0_17 t).mp hf; have := lt_N t; omega
  rw [Value.flushed17]
  funext j
  obtain ⟨k, q, rfl⟩ : ∃ (k : Fin 3) (q : Fin 1024), j = ix2 k q := ⟨j 0, j 1, eq_ix2 j⟩
  show (outsAt0 m c t.val t.isLt).2.2.2.1 (ix2 k q) = dW (X m c) (Z m c) (((cfg0.win 17).blk t).view.emb (ix2 k q))
  rw [emb17, (kept m c t.val t.isLt).1 k q, h31]
  rfl

theorem final18 : (dats m 0 c).arrAt 18 cfg0.N = dBias (X m c) (Z m c) := by
  refine (dats m 0 c).arrAt_eq_of_cover 18 _ (fun t hf => ?_) fun i =>
    ⟨lastPt, (flush0_18 _).mpr rfl, (congrArg (· ∈ ((cfg0.win 18).blk lastPt).view.set)
      ((emb18 _ (i 0) (i 1)).trans (eq_ix2 i).symm)).mp (((cfg0.win 18).blk lastPt).view.emb_mem_set (ix2 (i 0) (i 1) : S1x1024.Idx))⟩
  have h31 : t.val = 31 := by have := (flush0_18 t).mp hf; have := lt_N t; omega
  rw [Value.flushed18]
  funext j
  obtain ⟨k, q, rfl⟩ : ∃ (k : Fin 1) (q : Fin 1024), j = ix2 k q := ⟨j 0, j 1, eq_ix2 j⟩
  show (outsAt0 m c t.val t.isLt).2.2.2.2 (ix2 k q) = dBias (X m c) (Z m c) (((cfg0.win 18).blk t).view.emb (ix2 k q))
  rw [emb18, Subsingleton.elim k 0, (kept m c t.val t.isLt).2 q, h31]
  rfl

end Array

theorem algebraic : algebraic_OdMidBwdIdeal_OdMidBwdRefIdeal := by
  intro m g m' g' _ hagree
  refine ⟨fun c => dB (X m c) (Z m c) (W m c) (Bias m c), fun c => dC (X m c) (Z m c) (W m c), fun c => dU (X m c) (Z m c) (W m c),
    fun c => dW (X m c) (Z m c), fun c => dBias (X m c) (Z m c),
    (θ_run _ _ _).mono (fun r h c => ⟨(h c).1.trans (final14 m c), (h c).2.1.trans (final15 m c), (h c).2.2.1.trans (final16 m c),
      (h c).2.2.2.1.trans (final17 m c), (h c).2.2.2.2.1.trans (final18 m c), (h c).2.2.2.2.2⟩) (Value.run_blocks m g),
    (θ_run _ _ _).mono (fun r h c => ?_) (Cert.OdMidBwdRefIdeal.Value.run m' g')⟩
  obtain ⟨a0, a1, a2, a3⟩ := hagree c
  obtain ⟨hb, hc, hu, hw, hbias, args⟩ := h c
  refine ⟨(hb.trans (Cert.OdMidBwdRefIdeal.Read.val_main_v64_eq _ _)).trans ?_, (hc.trans (Cert.OdMidBwdRefIdeal.Read.val_main_v65_eq _ _)).trans ?_,
    (hu.trans (Cert.OdMidBwdRefIdeal.Read.val_main_v66_eq _ _)).trans ?_, (hw.trans (Cert.OdMidBwdRefIdeal.Read.val_main_v57_eq _ _)).trans ?_,
    (hbias.trans (Cert.OdMidBwdRefIdeal.Read.val_main_v29_eq _ _)).trans ?_, args⟩
  all_goals
    first | rw [a0, a1, a2, a3] | rw [a0, a1]
    funext i
    rw [eq_ix2 i]
  · exact reference_b _ _ _ _ _ _
  · exact reference_c _ _ _ _ _ _
  · exact reference_u _ _ _ _ _ _
  · exact reference_taps _ _ _ _
  · exact reference_bias _ _ _ _

theorem frame_reference : quiescent_OdMidBwdRefIdeal := fun m g _ =>
  (θ_run _ _ _).mono (fun r h => ⟨fun c => (h c).2.2.2.2.2, sem_eq_zero_of_no_sems (by decide) r.2⟩) (Cert.OdMidBwdRefIdeal.Value.run m g)

end Cert.Proof.OdMidBwd

end
-- ==== Proof.Norm.lean ====
/-
  The RMS norm with its gain and the modulation by scale and shift: the call takes 256 rows at a time, the reference
  all rows at once; both read one row for an element.
-/
module

public import proofs.«01_k».proof.Defs
public import proofs.«01_k».proof.Proof.Place
public import proofs.«01_k».proof.Proof.Gen.NormIdeal.Value
public import proofs.«01_k».proof.Proof.Gen.NormRefIdeal.Run
public import proofs.«01_k».proof.Proof.Gen.NormRefIdeal.Read

@[expose] public section

set_option maxRecDepth 16384

noncomputable section

namespace Cert.Proof.Norm

open Idealize.ShloMosaic Idealize.ShloMosaic.TcCoe Idealize.SL.Sem
open Cert.NormIdeal Cert.NormIdeal.Gen
open Idealize.ShloMosaic.Pipeline (Dat)
open scoped BigOperators

theorem hz2 : (![0, 0] : Fin 2 → Nat) = fun _ => 0 := funext fun a => by fin_cases a <;> rfl
/-- The reciprocal root of a row's mean square, plus the constant. -/
def root (x : Fin 1024 → EReal) : EReal :=
  Ideal.rsqrt (Ideal.div (∑ k, x k * x k) (Ideal.ofBits FTy.f32 0x44800000#32) + Ideal.ofBits FTy.f32 0x358637BD#32)

/-- The normed row at a column, modulated. -/
def normed (x : Fin 1024 → EReal) (g sc sh : EReal) (d : Fin 1024) : EReal := x d * root x * g * (1 + sc) + sh

theorem pay1_apply (x : Vec Ideal S256x1024 .f32) (g : Vec Ideal S1x1024 .f32) (sc sh : Vec Ideal S1x1x1024 .f32)
    (r : Fin 256) (d : Fin 1024) :
    k0_pay1 x g sc sh (ix2 r d)
      = normed (fun k => x (ix2 r k)) (g (ix2 0 d)) (sc (ix3 0 0 d)) (sh (ix3 0 0 d)) d := by
  pointwise [k0_pay1]
  rfl

section Array

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0
    ∧ win0_2.index t (2 : Fin 3) = 0 :=
  (by decide +kernel : ∀ t : Fin grid0.N, _)
theorem idx3 : ∀ t : Fin cfg0.N, win0_3.index t (0 : Fin 3) = 0 ∧ win0_3.index t (1 : Fin 3) = 0
    ∧ win0_3.index t (2 : Fin 3) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)

theorem lt_N (t : Fin cfg0.N) : t.val < 32 := by have := t.isLt; have h : cfg0.N = 32 := N_0; omega

/-- The call's arguments, as it finds them. -/
abbrev X : S8192x1024.Idx → EReal := m ((c : Thread nD τ).loc main_arg0)
abbrev G : S1x1024.Idx → EReal := m ((c : Thread nD τ).loc main_arg1)
abbrev Scale : S1x1x1024.Idx → EReal := m ((c : Thread nD τ).loc main_arg2)
abbrev Shift : S1x1x1024.Idx → EReal := m ((c : Thread nD τ).loc main_arg3)

theorem blk_x (t : Fin cfg0.N) (r : Fin 256) (d : Fin 1024) :
    (iblk m c 0 t : Vec Ideal S256x1024 .f32) (ix2 r d)
      = X m c (ix2 ⟨256 * t.val + r.val, by have := lt_N t; omega⟩ d) :=
  congrArg (X m c) (put2 (idx0 t) 256 r 1024 d)

theorem blk_g (t : Fin cfg0.N) (d : Fin 1024) :
    (iblk m c 1 t : Vec Ideal S1x1024 .f32) (ix2 0 d) = G m c (ix2 0 d) :=
  congrArg (G m c) (put2 (idx1 t) 1 0 1024 d)

theorem blk_scale (t : Fin cfg0.N) (d : Fin 1024) :
    (iblk m c 2 t : Vec Ideal S1x1x1024 .f32) (ix3 0 0 d) = Scale m c (ix3 0 0 d) :=
  congrArg (Scale m c) (put3 (idx2 t) 1 0 1 0 1024 d)

theorem blk_shift (t : Fin cfg0.N) (d : Fin 1024) :
    (iblk m c 3 t : Vec Ideal S1x1x1024 .f32) (ix3 0 0 d) = Shift m c (ix3 0 0 d) :=
  congrArg (Shift m c) (put3 (idx3 t) 1 0 1 0 1024 d)

end Array

def total (x : S8192x1024.Idx → EReal) (g : S1x1024.Idx → EReal) (sc sh : S1x1x1024.Idx → EReal) : S8192x1024.Idx → EReal :=
  fun i => normed (fun k => x (ix2 (i 0) k)) (g (ix2 0 (i 1))) (sc (ix3 0 0 (i 1))) (sh (ix3 0 0 (i 1))) (i 1)

section Array2

variable (m : (ℓ : Loc nD τ sig) → Buf (Elt Ideal) ℓ) (c : Dev nD)

theorem emb4 (t : Fin cfg0.N) (p : Fin 256) (q : Fin 1024) :
    ((cfg0.win 4).blk t).view.emb (ix2 p q) = ix2 ⟨256 * t.val + p.val, by have := lt_N t; omega⟩ q :=
  put2 (idx4 t) 256 p 1024 q

theorem flushed (t : Fin cfg0.N) :
    (dats m 0 c).flushed 4 t
      = ((cfg0.win 4).blk t).view.read (Elt Ideal) (total (X m c) (G m c) (Scale m c) (Shift m c)) := by
  rw [Value.flushed4 m c t]
  funext j
  obtain ⟨p, q, rfl⟩ : ∃ (p : Fin 256) (q : Fin 1024), j = ix2 p q := ⟨j 0, j 1, eq_ix2 j⟩
  show out0_4 (F := Ideal) _ _ _ _ (ix2 p q)
    = total (X m c) (G m c) (Scale m c) (Shift m c) (((cfg0.win 4).blk t).view.emb (ix2 p q))
  unfold out0_4
  rw [View.canon_unit_zero hz2, View.ld_unit_zero (S := S256x1024) hz2, View.ld_unit_zero (S := S1x1024) hz2,
    View.ld_unit_zero (S := S1x1x1024) hz3, View.ld_unit_zero (S := S1x1x1024) hz3, pay1_apply, emb4, blk_g, blk_scale, blk_shift]
  have e : (fun k => (iblk m c 0 t : Vec Ideal S256x1024 .f32) (ix2 p k)) = fun k => X m c (ix2 _ k) :=
    funext fun k => blk_x m c t p k
  rw [e]
  rfl

/-- The point that writes a row back. -/
def pt (i : S8192x1024.Idx) : Fin cfg0.N :=
  ⟨(i 0).val / 256, by have h0 : (i 0).val < 8192 := (i 0).isLt; have hN : cfg0.N = 32 := N_0; rw [hN]; omega⟩

theorem cover (i : S8192x1024.Idx) : ∃ t : Fin cfg0.N, (cfg0.win 4).flush t = true ∧ i ∈ ((cfg0.win 4).blk t).view.set := by
  refine ⟨pt i, flush0_4 _, ?_⟩
  have h := ((cfg0.win 4).blk (pt i)).view.emb_mem_set (ix2 ⟨(i 0).val % 256, Nat.mod_lt _ (by norm_num)⟩ (i 1) : S256x1024.Idx)
  have hi : ((cfg0.win 4).blk (pt i)).view.emb (ix2 ⟨(i 0).val % 256, Nat.mod_lt _ (by norm_num)⟩ (i 1) : S256x1024.Idx) = i := by
    refine (emb4 _ _ _).trans (Eq.trans (congrArg (fun s => ix2 s (i 1)) (Fin.ext ?_)) (eq_ix2 i).symm)
    show 256 * ((i 0).val / 256) + (i 0).val % 256 = (i 0).val
    omega
  rwa [hi] at h

theorem final : (dats m 0 c).arrAt 4 cfg0.N = total (X m c) (G m c) (Scale m c) (Shift m c) :=
  (dats m 0 c).arrAt_eq_of_cover 4 _ (fun t _ => flushed m c t) cover

end Array2

/-! ### The reference -/

theorem reference (x0 : S8192x1024.Idx → EReal) (x1 : S1x1024.Idx → EReal) (x2 x3 : S1x1x1024.Idx → EReal)
    (r : Fin 8192) (d : Fin 1024) :
    Cert.NormRefIdeal.Read.val_main_v20 (F := Ideal) x0 x1 x2 x3 (ix2 r d) = total x0 x1 x2 x3 (ix2 r d) := by
  open Cert.NormRefIdeal.Read in
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2]
  rfl

theorem algebraic : algebraic_NormIdeal_NormRefIdeal := by
  intro m g m' g' _ hagree
  refine ⟨fun c => total (X m c) (G m c) (Scale m c) (Shift m c),
    (θ_run _ _ _).mono (fun r h c => ⟨(h c).1.trans (final m c), (h c).2⟩) (Value.run_blocks m g),
    (θ_run _ _ _).mono (fun r h c => ?_) (Cert.NormRefIdeal.Value.run m' g')⟩
  obtain ⟨a0, a1, a2, a3⟩ := hagree c
  obtain ⟨u, uargs⟩ := h c
  refine ⟨(u.trans (Cert.NormRefIdeal.Read.val_main_v20_eq _ _ _ _)).trans ?_, uargs⟩
  rw [a0, a1, a2, a3]
  funext i
  rw [eq_ix2 i]
  exact reference _ _ _ _ _ _

theorem frame_reference : quiescent_NormRefIdeal := fun m g _ =>
  (θ_run _ _ _).mono (fun r h => ⟨fun c => (h c).2, sem_eq_zero_of_no_sems (by decide) r.2⟩) (Cert.NormRefIdeal.Value.run m g)

end Cert.Proof.Norm

end
-- ==== Proof.MixNorm.lean ====
/-
  The norm and the modulation of the rows of the context and of the latents together: the first tile of 256 rows is the
  context's and takes the first scale and shift, the others take the second; the reference joins the two parts.
-/
module

public import proofs.«01_k».proof.Defs
public import proofs.«01_k».proof.Proof.Place
public import proofs.«01_k».proof.Proof.Gen.MixNormIdeal.Value
public import proofs.«01_k».proof.Proof.Gen.MixNormRefIdeal.Run
public import proofs.«01_k».proof.Proof.Gen.MixNormRefIdeal.Read
public import proofs.«01_k».proof.Proof.Norm

@[expose] public section

set_option maxRecDepth 16384

noncomputable section

namespace Cert.Proof.MixNorm

open Idealize.ShloMosaic Idealize.ShloMosaic.TcCoe Idealize.SL.Sem
open Cert.MixNormIdeal Cert.MixNormIdeal.Gen
open Idealize.ShloMosaic.Pipeline (Dat)
open Cert.Proof.Norm (normed)
open scoped BigOperators

theorem hz2 : (![0, 0] : Fin 2 → Nat) = fun _ => 0 := funext fun a => by fin_cases a <;> rfl
/-- Which of the two rows of scale and shift a tile takes. -/
def part (n : ℕ) : Fin 2 := if n = 0 then 0 else 1

theorem pay1_apply (x : Vec Ideal S256x1024 .f32) (g : Vec Ideal S1x1024 .f32) (sc sh : Vec Ideal S1x1x1024 .f32)
    (r : Fin 256) (d : Fin 1024) :
    k0_pay1 x g sc sh (ix2 r d)
      = normed (fun k => x (ix2 r k)) (g (ix2 0 d)) (sc (ix3 0 0 d)) (sh (ix3 0 0 d)) d := by
  pointwise [k0_pay1]
  rfl

section Array

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = (part t.val).val ∧ win0_2.index t (1 : Fin 3) = 0
    ∧ win0_2.index t (2 : Fin 3) = 0 :=
  (by decide +kernel : ∀ t : Fin grid0.N, _)
theorem idx3 : ∀ t : Fin cfg0.N, win0_3.index t (0 : Fin 3) = (part t.val).val ∧ win0_3.index t (1 : Fin 3) = 0
    ∧ win0_3.index t (2 : Fin 3) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)

theorem lt_N (t : Fin cfg0.N) : t.val < 33 := by have := t.isLt; have h : cfg0.N = 33 := N_0; omega

/-- The call's arguments, as it finds them. -/
abbrev X : S8448x1024.Idx → EReal := m ((c : Thread nD τ).loc main_arg0)
abbrev G : S1x1024.Idx → EReal := m ((c : Thread nD τ).loc main_arg1)
abbrev Scale : S2x1x1024.Idx → EReal := m ((c : Thread nD τ).loc main_arg2)
abbrev Shift : S2x1x1024.Idx → EReal := m ((c : Thread nD τ).loc main_arg3)

theorem blk_x (t : Fin cfg0.N) (r : Fin 256) (d : Fin 1024) :
    (iblk m c 0 t : Vec Ideal S256x1024 .f32) (ix2 r d)
      = X m c (ix2 ⟨256 * t.val + r.val, by have := lt_N t; omega⟩ d) :=
  congrArg (X m c) (put2 (idx0 t) 256 r 1024 d)

theorem blk_g (t : Fin cfg0.N) (d : Fin 1024) :
    (iblk m c 1 t : Vec Ideal S1x1024 .f32) (ix2 0 d) = G m c (ix2 0 d) :=
  congrArg (G m c) (put2 (idx1 t) 1 0 1024 d)

theorem blk_scale (t : Fin cfg0.N) (d : Fin 1024) :
    (iblk m c 2 t : Vec Ideal S1x1x1024 .f32) (ix3 0 0 d) = Scale m c (ix3 (part t.val) 0 d) :=
  congrArg (Scale m c) (put3 (idx2 t) 1 0 1 0 1024 d)

theorem blk_shift (t : Fin cfg0.N) (d : Fin 1024) :
    (iblk m c 3 t : Vec Ideal S1x1x1024 .f32) (ix3 0 0 d) = Shift m c (ix3 (part t.val) 0 d) :=
  congrArg (Shift m c) (put3 (idx3 t) 1 0 1 0 1024 d)

end Array

def total (x : S8448x1024.Idx → EReal) (g : S1x1024.Idx → EReal) (sc sh : S2x1x1024.Idx → EReal) : S8448x1024.Idx → EReal :=
  fun i => normed (fun k => x (ix2 (i 0) k)) (g (ix2 0 (i 1))) (sc (ix3 (part ((i 0).val / 256)) 0 (i 1))) (sh (ix3 (part ((i 0).val / 256)) 0 (i 1))) (i 1)

section Array2

variable (m : (ℓ : Loc nD τ sig) → Buf (Elt Ideal) ℓ) (c : Dev nD)

theorem emb4 (t : Fin cfg0.N) (p : Fin 256) (q : Fin 1024) :
    ((cfg0.win 4).blk t).view.emb (ix2 p q) = ix2 ⟨256 * t.val + p.val, by have := lt_N t; omega⟩ q :=
  put2 (idx4 t) 256 p 1024 q

theorem flushed (t : Fin cfg0.N) :
    (dats m 0 c).flushed 4 t
      = ((cfg0.win 4).blk t).view.read (Elt Ideal) (total (X m c) (G m c) (Scale m c) (Shift m c)) := by
  rw [Value.flushed4 m c t]
  funext j
  obtain ⟨p, q, rfl⟩ : ∃ (p : Fin 256) (q : Fin 1024), j = ix2 p q := ⟨j 0, j 1, eq_ix2 j⟩
  show out0_4 (F := Ideal) _ _ _ _ (ix2 p q)
    = total (X m c) (G m c) (Scale m c) (Shift m c) (((cfg0.win 4).blk t).view.emb (ix2 p q))
  unfold out0_4
  rw [View.canon_unit_zero hz2, View.ld_unit_zero (S := S256x1024) hz2, View.ld_unit_zero (S := S1x1024) hz2,
    View.ld_unit_zero (S := S1x1x1024) hz3, View.ld_unit_zero (S := S1x1x1024) hz3, pay1_apply, emb4, blk_g, blk_scale, blk_shift]
  have e : (fun k => (iblk m c 0 t : Vec Ideal S256x1024 .f32) (ix2 p k)) = fun k => X m c (ix2 _ k) :=
    funext fun k => blk_x m c t p k
  rw [e]
  have e4 : (256 * t.val + p.val) / 256 = t.val := by omega
  show _ = normed _ _ (Scale m c (ix3 (part ((256 * t.val + p.val) / 256)) 0 q))
    (Shift m c (ix3 (part ((256 * t.val + p.val) / 256)) 0 q)) q
  rw [e4]
  rfl

/-- The point that writes a row back. -/
def pt (i : S8448x1024.Idx) : Fin cfg0.N :=
  ⟨(i 0).val / 256, by have h0 : (i 0).val < 8448 := (i 0).isLt; have hN : cfg0.N = 33 := N_0; rw [hN]; omega⟩

theorem cover (i : S8448x1024.Idx) : ∃ t : Fin cfg0.N, (cfg0.win 4).flush t = true ∧ i ∈ ((cfg0.win 4).blk t).view.set := by
  refine ⟨pt i, flush0_4 _, ?_⟩
  have h := ((cfg0.win 4).blk (pt i)).view.emb_mem_set (ix2 ⟨(i 0).val % 256, Nat.mod_lt _ (by norm_num)⟩ (i 1) : S256x1024.Idx)
  have hi : ((cfg0.win 4).blk (pt i)).view.emb (ix2 ⟨(i 0).val % 256, Nat.mod_lt _ (by norm_num)⟩ (i 1) : S256x1024.Idx) = i := by
    refine (emb4 _ _ _).trans (Eq.trans (congrArg (fun s => ix2 s (i 1)) (Fin.ext ?_)) (eq_ix2 i).symm)
    show 256 * ((i 0).val / 256) + (i 0).val % 256 = (i 0).val
    omega
  rwa [hi] at h

theorem final : (dats m 0 c).arrAt 4 cfg0.N = total (X m c) (G m c) (Scale m c) (Shift m c) :=
  (dats m 0 c).arrAt_eq_of_cover 4 _ (fun t _ => flushed m c t) cover

end Array2

/-! ### The reference -/

theorem reference (x0 : S8448x1024.Idx → EReal) (x1 : S1x1024.Idx → EReal) (x2 x3 : S2x1x1024.Idx → EReal)
    (r : Fin 8448) (d : Fin 1024) :
    Cert.MixNormRefIdeal.Read.val_main_v47 (F := Ideal) x0 x1 x2 x3 (ix2 r d) = total x0 x1 x2 x3 (ix2 r d) := by
  open Cert.MixNormRefIdeal.Read in
  pointwise [val_main_v47, val_main_v46, val_main_v45, val_main_v44, val_main_v43, val_main_v42, val_main_v41, val_main_v40,
    val_main_v39, val_main_v38, val_main_v37, val_main_v36, val_main_v35, val_main_v34, val_main_v33, val_main_v32,
    val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2, val_main_cst_3, val_main_cst_4, val_main_cst_5, val_main_cst_6]
  have e : total x0 x1 x2 x3 (ix2 r d) = normed (fun k => x0 (ix2 r k)) (x1 (ix2 0 d)) (x2 (ix3 (part (r.val / 256)) 0 d))
      (x3 (ix3 (part (r.val / 256)) 0 d)) d := rfl
  rw [e]
  unfold part
  by_cases h : r.val < 256
  · rw [dif_pos h, if_pos (by omega)]
    rfl
  · have hr : (⟨256 + (r.val - 256), by omega⟩ : Fin 8448) = r := Fin.ext (by dsimp only; omega)
    have h1 : ¬ r.val / 256 = 0 := by omega
    have e1 : ∀ r' : Fin 8448, r' = r → normed (fun k => x0 (ix2 r' k)) (x1 (ix2 0 d)) (x2 (ix3 1 0 d)) (x3 (ix3 1 0 d)) d
        = normed (fun k => x0 (ix2 r k)) (x1 (ix2 0 d)) (x2 (ix3 1 0 d)) (x3 (ix3 1 0 d)) d := by
      rintro _ rfl
      rfl
    rw [dif_neg h, if_neg h1]
    exact e1 _ hr

theorem algebraic : algebraic_MixNormIdeal_MixNormRefIdeal := by
  intro m g m' g' _ hagree
  refine ⟨fun c => total (X m c) (G m c) (Scale m c) (Shift m c),
    (θ_run _ _ _).mono (fun r h c => ⟨(h c).1.trans (final m c), (h c).2⟩) (Value.run_blocks m g),
    (θ_run _ _ _).mono (fun r h c => ?_) (Cert.MixNormRefIdeal.Value.run m' g')⟩
  obtain ⟨a0, a1, a2, a3⟩ := hagree c
  obtain ⟨u, uargs⟩ := h c
  refine ⟨(u.trans (Cert.MixNormRefIdeal.Read.val_main_v47_eq _ _ _ _)).trans ?_, uargs⟩
  rw [a0, a1, a2, a3]
  funext i
  rw [eq_ix2 i]
  exact reference _ _ _ _ _ _

theorem frame_reference : quiescent_MixNormRefIdeal := fun m g _ =>
  (θ_run _ _ _).mono (fun r h => ⟨fun c => (h c).2, sem_eq_zero_of_no_sems (by decide) r.2⟩) (Cert.MixNormRefIdeal.Value.run m g)

end Cert.Proof.MixNorm

end
-- ==== Proof.OdInDx.lean ====
/-
  The projection into the short convolution, gradient with respect to its input: the call adds the product of one tile of the contracted axis after
  another in its scratch; the reference contracts the axis at once.
-/
module

public import proofs.«01_k».proof.Defs
public import proofs.«01_k».proof.Proof.Place
public import proofs.«01_k».proof.Proof.Gen.OdInDxIdeal.Value
public import proofs.«01_k».proof.Proof.Gen.OdInDxRefIdeal.Run
public import proofs.«01_k».proof.Proof.Gen.OdInDxRefIdeal.Read

@[expose] public section

set_option maxRecDepth 16384

noncomputable section

namespace Cert.Proof.OdInDx

open Idealize.ShloMosaic Idealize.ShloMosaic.TcCoe Idealize.SL.Sem
open Cert.OdInDxIdeal Cert.OdInDxIdeal.Gen
open Idealize.ShloMosaic.Pipeline (Dat)
open scoped BigOperators

section Pieces
variable {F : FTy → Type} [FloatOps F]
variable (c : Dev nD) (i : grid0.Coords) (a3 : Memref sig .tc .vmem S1024x1536 .bf16) (h3 : a3.IsWhole)
  (a4 : Memref sig .tc .vmem S1024x1536 .bf16) (h4 : a4.IsWhole) (a5 : Memref sig .tc .vmem S1024x1024 .f32) (h5 : a5.IsWhole)
  (a6 : Memref sig .tc .vmem S1024x1024 .f32) (h6 : a6.IsWhole) (x0 : Vec F S1024x1536 .bf16) (x1 : Vec F S1024x1536 .bf16)
  (xs : Vec F S1024x1024 .f32)

theorem acc_A (h : cond0_0 i) (h' : ¬cond0_1 i) :
    sout0_A_0 c i a3 h3 a4 h4 a5 h5 a6 h6 h h' x0 x1 = k0_pay2 k0_pay1 x0 x1 := by
  unfold sout0_A_0
  rw [View.read_writes_eq_canon _ _ _ (scover0_A_0 c i a3 h3 a4 h4 a5 h5 a6 h6 h h' x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1536) hz,
    View.ld_unit_zero (S := S1024x1536) hz]

theorem acc_B (h : ¬cond0_0 i) (h' : cond0_1 i) :
    sout0_B_0 c i a3 h3 a4 h4 a5 h5 a6 h6 h h' x0 x1 xs = k0_pay2 xs x0 x1 := by
  unfold sout0_B_0
  rw [View.read_writes_eq_canon _ _ _ (scover0_B_0 c i a3 h3 a4 h4 a5 h5 a6 h6 h h' x0 x1 xs)]
  unfold kernelRun0_B
  dsimp only
  sl_unfold_words
  rw [View.canon_unit_zero hz]
  simp only [View.readAt_eq_ld, h3.read_unread, h4.read_unread, h6.read_unread, View.ld_unit_zero (S := S1024x1536) hz,
    View.ld_unit_zero (S := S1024x1536) hz, View.ld_unit_zero (S := S1024x1024) hz]

theorem out_B (h : ¬cond0_0 i) (h' : cond0_1 i) :
    out0_B_2 c i a3 h3 a4 h4 a5 h5 a6 h6 h h' x0 x1 xs = k0_pay2 xs x0 x1 := by
  unfold out0_B_2
  rw [View.read_writes_eq_canon _ _ _ (cover0_B_2 c i a3 h3 a4 h4 a5 h5 a6 h6 h h' x0 x1 xs)]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S1024x1536) hz,
    View.ld_unit_zero (S := S1024x1536) hz, View.ld_unit_zero (S := S1024x1024) hz]

end Pieces

theorem pay1_apply (p : Fin 1024) (q : Fin 1024) : k0_pay1 (F := Ideal) (ix2 p q) = 0 := by
  pointwise [k0_pay1]

theorem pay2_apply (xs : Vec Ideal S1024x1024 .f32) (x0 : Vec Ideal S1024x1536 .bf16) (x1 : Vec Ideal S1024x1536 .bf16)
    (p : Fin 1024) (q : Fin 1024) :
    k0_pay2 xs x0 x1 (ix2 p q) = xs (ix2 p q) + ∑ k : Fin 1536, x0 (ix2 p k) * x1 (ix2 q k) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val / 2 ∧ win0_0.index t (1 : Fin 2) = t.val % 2 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)
theorem idx2 : ∀ t : Fin cfg0.N, win0_2.index t (0 : Fin 2) = t.val / 2 ∧ win0_2.index t (1 : Fin 2) = 0 :=
  (by decide +kernel : ∀ t : Fin grid0.N, _)

theorem lt_N (t : Fin cfg0.N) : t.val < 16 := by have := t.isLt; have h : cfg0.N = 16 := N_0; omega

/-- The call's two arguments, as it finds them. -/
abbrev A : S8192x3072.Idx → EReal := m ((c : Thread nD τ).loc main_arg0)
abbrev B : S1024x3072.Idx → EReal := m ((c : Thread nD τ).loc main_arg1)

theorem blk_a (t : Fin cfg0.N) (u : Fin 1024) (v : Fin 1536) :
    (iblk m c 0 t : Vec Ideal S1024x1536 .bf16) (ix2 u v) = A m c (ix2 ⟨1024 * (t.val / 2) + u.val, by have := lt_N t; omega⟩ ⟨1536 * (t.val % 2) + v.val, by have := lt_N t; omega⟩) :=
  congrArg (A m c) (put2 (idx0 t) 1024 u 1536 v)

theorem blk_b (t : Fin cfg0.N) (u : Fin 1024) (v : Fin 1536) :
    (iblk m c 1 t : Vec Ideal S1024x1536 .bf16) (ix2 u v) = B m c (ix2 u ⟨1536 * (t.val % 2) + v.val, by have := lt_N t; omega⟩) :=
  congrArg (B m c) (put2 (idx1 t) 1024 u 1536 v)

/-- The whole array. -/
def total : S8192x1024.Idx → EReal := fun i => ∑ k : Fin 3072, A m c (ix2 (i 0) k) * B m c (ix2 (i 1) k)

/-- What position `s` of the contracted axis contributes at row `p`, column `q`. -/
def term (p q s : ℕ) : EReal :=
  if h : p < 8192 ∧ q < 1024 ∧ s < 3072 then A m c (ix2 ⟨p, h.1⟩ ⟨s, h.2.2⟩) * B m c (ix2 ⟨q, h.2.1⟩ ⟨s, h.2.2⟩) else 0

theorem step (t : Fin cfg0.N) (xs : Vec Ideal S1024x1024 .f32) (p : Fin 1024) (q : Fin 1024) :
    k0_pay2 xs (iblk m c 0 t) (iblk m c 1 t) (ix2 p q)
      = xs (ix2 p q) + ∑ k ∈ Finset.range 1536, term m c (1024 * (t.val / 2) + p.val) (q.val) (1536 * (t.val % 2) + k) := by
  have ht := lt_N t
  rw [pay2_apply, ← Fin.sum_univ_eq_sum_range (fun k => term m c (1024 * (t.val / 2) + p.val) (q.val) (1536 * (t.val % 2) + k)) 1536]
  refine congrArg _ (Finset.sum_congr rfl fun k _ => ?_)
  unfold term
  rw [dif_pos ⟨by omega, by omega, by omega⟩]
  exact congrArg₂ _ (blk_a m c t p k) (blk_b m c t q k)

theorem total_eq (p : Fin 8192) (q : Fin 1024) :
    total m c (ix2 p q) = ∑ s ∈ Finset.range 3072, term m c p.val q.val s := by
  rw [← Fin.sum_univ_eq_sum_range (term m c p.val q.val) 3072]
  refine Finset.sum_congr rfl fun s _ => ?_
  unfold term
  rw [dif_pos ⟨p.isLt, q.isLt, s.isLt⟩]
  rfl

/-- After a point the scratch holds the positions seen so far. -/
theorem scratch (p : Fin 1024) (q : Fin 1024) : ∀ (n : ℕ) (h : n < cfg0.N),
    (outsAt0 m c n h).2 (ix2 p q) = ∑ s ∈ Finset.range (1536 * (n % 2 + 1)), term m c (1024 * (n / 2) + p.val) (q.val) s := by
  intro n
  induction n with
  | zero =>
    intro h
    rw [outsAt0_A m c ⟨0, h⟩ rfl (by dsimp only; omega)]
    dsimp only
    rw [acc_A, step, pay1_apply, zero_add]
    exact Finset.sum_congr rfl fun k _ => congrArg _ (Nat.zero_add k)
  | succ n ih =>
    intro h
    by_cases h0 : (n + 1) % 2 = 0
    · rw [outsAt0_A m c ⟨n + 1, h⟩ h0 (by dsimp only; omega)]
      dsimp only
      rw [acc_A, step, pay1_apply, zero_add]
      dsimp only
      rw [h0]
      exact Finset.sum_congr rfl fun k _ => congrArg _ (Nat.zero_add k)
    · have e := ih (Nat.lt_of_succ_lt h)
      have hd : (n + 1) / 2 = n / 2 := by omega
      have hm : (n + 1) % 2 = n % 2 + 1 := by omega
      rw [outsAt0_B m c ⟨n + 1, h⟩ h0 (by dsimp only; omega)]
      dsimp only
      rw [acc_B, step]
      dsimp only
      rw [hd, hm, Nat.mul_add 1536 (n % 2 + 1) 1, Nat.mul_one, Finset.sum_range_add]
      exact congrArg (· + _) e

theorem flushed2 (t : Fin cfg0.N) (hf : (cfg0.win 2).flush t = true) :
    (dats m 0 c).flushed 2 t = ((cfg0.win 2).blk t).view.read (Elt Ideal) (total m c) := by
  have ht := lt_N t
  have hl : t.val % 2 = 1 := (flush0_2 t).mp hf
  obtain ⟨e0, e1⟩ := idx2 t
  have hs : t.val - 1 < cfg0.N := Nat.lt_of_le_of_lt (Nat.sub_le _ _) t.isLt
  rw [Value.flushed2_B m c t (by omega) hl, out_B]
  funext j
  obtain ⟨p, q, rfl⟩ : ∃ (p : Fin 1024) (q : Fin 1024), j = ix2 p q := ⟨j 0, j 1, eq_ix2 j⟩
  show k0_pay2 (F := Ideal) _ _ _ (ix2 p q) = total m c (((cfg0.win 2).blk t).view.emb (ix2 p q))
  have he : ((cfg0.win 2).blk t).view.emb (ix2 p q) = ix2 ⟨1024 * (t.val / 2) + p.val, by have := lt_N t; omega⟩ q :=
    put2 (idx2 t) 1024 p 1024 q
  rw [he, total_eq, step, scratch m c p q (t.val - 1) hs, hl,
    show (t.val - 1) % 2 + 1 = 1 by omega, show (t.val - 1) / 2 = t.val / 2 by omega]
  exact (Finset.sum_range_add (term m c (1024 * (t.val / 2) + p.val) (q.val)) 1536 1536).symm

theorem final2 : (dats m 0 c).arrAt 2 cfg0.N = total m c :=
  (dats m 0 c).arrAt_eq_of_cover 2 _ (fun t hf => flushed2 m c t hf) fun i => (Value.covered_iff2 i).2 (by
    have h0 : (i 0).val < 8192 := (i 0).isLt; have h1 : (i 1).val < 1024 := (i 1).isLt; omega)

end Array

/-! ### The reference -/

theorem reference (x0 : S8192x3072.Idx → EReal) (x1 : S1024x3072.Idx → EReal) (i : S8192x1024.Idx) :
    Cert.OdInDxRefIdeal.Read.val_main_v4 (F := Ideal) x0 x1 i = ∑ k : Fin 3072, x0 (ix2 (i 0) k) * x1 (ix2 (i 1) k) := by
  rw [Cert.OdInDxRefIdeal.Read.val_main_v4_apply]
  refine Finset.sum_congr rfl fun k _ => ?_
  exact congrArg₂ (· * ·) (congrArg x0 (at2 _ _ _ rfl rfl)) (congrArg x1 (at2 _ _ _ rfl rfl))

theorem algebraic : algebraic_OdInDxIdeal_OdInDxRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.OdInDxRefIdeal.Value.run m' g')⟩
  obtain ⟨a0, a1⟩ := hagree c
  obtain ⟨u, uargs⟩ := h c
  refine ⟨(u.trans (Cert.OdInDxRefIdeal.Read.val_main_v4_eq _ _)).trans ?_, uargs⟩
  rw [a0, a1]
  funext i
  exact reference _ _ i

theorem frame_reference : quiescent_OdInDxRefIdeal := fun m g _ =>
  (θ_run _ _ _).mono (fun r h => ⟨fun c => (h c).2, sem_eq_zero_of_no_sems (by decide) r.2⟩) (Cert.OdInDxRefIdeal.Value.run m g)

end Cert.Proof.OdInDx

end
-- ==== Proof.OdInDw.lean ====
/-
  The projection into the short convolution, gradient with respect to its weights: the call adds the product of one tile of the contracted axis after
  another in its scratch; the reference contracts the axis at once.
-/
module

public import proofs.«01_k».proof.Defs
public import proofs.«01_k».proof.Proof.Place
public import proofs.«01_k».proof.Proof.Gen.OdInDwIdeal.Value
public import proofs.«01_k».proof.Proof.Gen.OdInDwRefIdeal.Run
public import proofs.«01_k».proof.Proof.Gen.OdInDwRefIdeal.Read

@[expose] public section

set_option maxRecDepth 16384

noncomputable section

namespace Cert.Proof.OdInDw

open Idealize.ShloMosaic Idealize.ShloMosaic.TcCoe Idealize.SL.Sem
open Cert.OdInDwIdeal Cert.OdInDwIdeal.Gen
open Idealize.ShloMosaic.Pipeline (Dat)
open scoped BigOperators

section Pieces
variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole) (x0 : Vec F S2048x1024 .bf16) (x1 : Vec F S2048x1024 .bf16)
  (xs : Vec F S1024x1024 .f32)

theorem acc_A (h : cond0_0 i) (h' : ¬cond0_1 i) :
    sout0_A_0 c i a3 h3 a4 h4 a5 h5 a6 h6 h h' x0 x1 = k0_pay2 k0_pay1 x0 x1 := by
  unfold sout0_A_0
  rw [View.read_writes_eq_canon _ _ _ (scover0_A_0 c i a3 h3 a4 h4 a5 h5 a6 h6 h h' x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz,
    View.ld_unit_zero (S := S2048x1024) hz]

theorem acc_B (h : ¬cond0_0 i) (h' : ¬cond0_1 i) :
    sout0_B_0 c i a3 h3 a4 h4 a5 h5 a6 h6 h h' x0 x1 xs = k0_pay2 xs x0 x1 := by
  unfold sout0_B_0
  rw [View.read_writes_eq_canon _ _ _ (scover0_B_0 c i a3 h3 a4 h4 a5 h5 a6 h6 h h' x0 x1 xs)]
  unfold kernelRun0_B
  dsimp only
  sl_unfold_words
  rw [View.canon_unit_zero hz]
  simp only [View.readAt_eq_ld, h3.read_unread, h4.read_unread, h6.read_unread, View.ld_unit_zero (S := S2048x1024) hz,
    View.ld_unit_zero (S := S2048x1024) hz, View.ld_unit_zero (S := S1024x1024) hz]

theorem acc_C (h : ¬cond0_0 i) (h' : cond0_1 i) :
    sout0_C_0 c i a3 h3 a4 h4 a5 h5 a6 h6 h h' x0 x1 xs = k0_pay2 xs x0 x1 := by
  unfold sout0_C_0
  rw [View.read_writes_eq_canon _ _ _ (scover0_C_0 c i a3 h3 a4 h4 a5 h5 a6 h6 h h' x0 x1 xs)]
  unfold kernelRun0_C
  dsimp only
  sl_unfold_words
  rw [View.canon_unit_zero hz]
  simp only [View.readAt_eq_ld, h3.read_unread, h4.read_unread, h6.read_unread, View.ld_unit_zero (S := S2048x1024) hz,
    View.ld_unit_zero (S := S2048x1024) hz, View.ld_unit_zero (S := S1024x1024) hz]

theorem out_C (h : ¬cond0_0 i) (h' : cond0_1 i) :
    out0_C_2 c i a3 h3 a4 h4 a5 h5 a6 h6 h h' x0 x1 xs = k0_pay2 xs x0 x1 := by
  unfold out0_C_2
  rw [View.read_writes_eq_canon _ _ _ (cover0_C_2 c i a3 h3 a4 h4 a5 h5 a6 h6 h h' x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz,
    View.ld_unit_zero (S := S2048x1024) hz, View.ld_unit_zero (S := S1024x1024) hz]

end Pieces

theorem pay1_apply (p : Fin 1024) (q : Fin 1024) : k0_pay1 (F := Ideal) (ix2 p q) = 0 := by
  pointwise [k0_pay1]

theorem pay2_apply (xs : Vec Ideal S1024x1024 .f32) (x0 : Vec Ideal S2048x1024 .bf16) (x1 : Vec Ideal S2048x1024 .bf16)
    (p : Fin 1024) (q : Fin 1024) :
    k0_pay2 xs x0 x1 (ix2 p q) = xs (ix2 p q) + ∑ k : Fin 2048, x0 (ix2 k p) * x1 (ix2 k q) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 2) = t.val % 4 ∧ win0_1.index t (1 : Fin 2) = t.val / 4 :=
  (by decide +kernel : ∀ t : Fin grid0.N, _)
theorem idx2 : ∀ t : Fin cfg0.N, win0_2.index t (0 : Fin 2) = 0 ∧ win0_2.index t (1 : Fin 2) = t.val / 4 :=
  (by decide +kernel : ∀ t : Fin grid0.N, _)

theorem lt_N (t : Fin cfg0.N) : t.val < 12 := by have := t.isLt; have h : cfg0.N = 12 := N_0; omega

/-- The call's two arguments, as it finds them. -/
abbrev A : S8192x1024.Idx → EReal := m ((c : Thread nD τ).loc main_arg0)
abbrev B : S8192x3072.Idx → EReal := m ((c : Thread nD τ).loc main_arg1)

theorem blk_a (t : Fin cfg0.N) (u : Fin 2048) (v : Fin 1024) :
    (iblk m c 0 t : Vec Ideal S2048x1024 .bf16) (ix2 u v) = A m c (ix2 ⟨2048 * (t.val % 4) + u.val, by have := lt_N t; omega⟩ v) :=
  congrArg (A m c) (put2 (idx0 t) 2048 u 1024 v)

theorem blk_b (t : Fin cfg0.N) (u : Fin 2048) (v : Fin 1024) :
    (iblk m c 1 t : Vec Ideal S2048x1024 .bf16) (ix2 u v) = B m c (ix2 ⟨2048 * (t.val % 4) + u.val, by have := lt_N t; omega⟩ ⟨1024 * (t.val / 4) + v.val, by have := lt_N t; omega⟩) :=
  congrArg (B m c) (put2 (idx1 t) 2048 u 1024 v)

/-- The whole array. -/
def total : S1024x3072.Idx → EReal := fun i => ∑ k : Fin 8192, A m c (ix2 k (i 0)) * B m c (ix2 k (i 1))

/-- What position `s` of the contracted axis contributes at row `p`, column `q`. -/
def term (p q s : ℕ) : EReal :=
  if h : p < 1024 ∧ q < 3072 ∧ s < 8192 then A m c (ix2 ⟨s, h.2.2⟩ ⟨p, h.1⟩) * B m c (ix2 ⟨s, h.2.2⟩ ⟨q, h.2.1⟩) else 0

theorem step (t : Fin cfg0.N) (xs : Vec Ideal S1024x1024 .f32) (p : Fin 1024) (q : Fin 1024) :
    k0_pay2 xs (iblk m c 0 t) (iblk m c 1 t) (ix2 p q)
      = xs (ix2 p q) + ∑ k ∈ Finset.range 2048, term m c (p.val) (1024 * (t.val / 4) + q.val) (2048 * (t.val % 4) + k) := by
  have ht := lt_N t
  rw [pay2_apply, ← Fin.sum_univ_eq_sum_range (fun k => term m c (p.val) (1024 * (t.val / 4) + q.val) (2048 * (t.val % 4) + k)) 2048]
  refine congrArg _ (Finset.sum_congr rfl fun k _ => ?_)
  unfold term
  rw [dif_pos ⟨by omega, by omega, by omega⟩]
  exact congrArg₂ _ (blk_a m c t k p) (blk_b m c t k q)

theorem total_eq (p : Fin 1024) (q : Fin 3072) :
    total m c (ix2 p q) = ∑ s ∈ Finset.range 8192, term m c p.val q.val s := by
  rw [← Fin.sum_univ_eq_sum_range (term m c p.val q.val) 8192]
  refine Finset.sum_congr rfl fun s _ => ?_
  unfold term
  rw [dif_pos ⟨p.isLt, q.isLt, s.isLt⟩]
  rfl

/-- After a point the scratch holds the positions seen so far. -/
theorem scratch (p : Fin 1024) (q : Fin 1024) : ∀ (n : ℕ) (h : n < cfg0.N),
    (outsAt0 m c n h).2 (ix2 p q) = ∑ s ∈ Finset.range (2048 * (n % 4 + 1)), term m c (p.val) (1024 * (n / 4) + q.val) s := by
  intro n
  induction n with
  | zero =>
    intro h
    rw [outsAt0_A m c ⟨0, h⟩ rfl (by dsimp only; omega)]
    dsimp only
    rw [acc_A, step, pay1_apply, zero_add]
    exact Finset.sum_congr rfl fun k _ => congrArg _ (Nat.zero_add k)
  | succ n ih =>
    intro h
    by_cases h0 : (n + 1) % 4 = 0
    · rw [outsAt0_A m c ⟨n + 1, h⟩ h0 (by dsimp only; omega)]
      dsimp only
      rw [acc_A, step, pay1_apply, zero_add]
      dsimp only
      rw [h0]
      exact Finset.sum_congr rfl fun k _ => congrArg _ (Nat.zero_add k)
    · have e := ih (Nat.lt_of_succ_lt h)
      have hd : (n + 1) / 4 = n / 4 := by omega
      have hm : (n + 1) % 4 = n % 4 + 1 := by omega
      by_cases h1 : (n + 1) % 4 = 3
      · rw [outsAt0_C m c ⟨n + 1, h⟩ h0 h1]
        dsimp only
        rw [acc_C, step]
        dsimp only
        rw [hd, hm, Nat.mul_add 2048 (n % 4 + 1) 1, Nat.mul_one, Finset.sum_range_add]
        exact congrArg (· + _) e
      · rw [outsAt0_B m c ⟨n + 1, h⟩ h0 h1]
        dsimp only
        rw [acc_B, step]
        dsimp only
        rw [hd, hm, Nat.mul_add 2048 (n % 4 + 1) 1, Nat.mul_one, Finset.sum_range_add]
        exact congrArg (· + _) e

theorem flushed2 (t : Fin cfg0.N) (hf : (cfg0.win 2).flush t = true) :
    (dats m 0 c).flushed 2 t = ((cfg0.win 2).blk t).view.read (Elt Ideal) (total m c) := by
  have ht := lt_N t
  have hl : t.val % 4 = 3 := (flush0_2 t).mp hf
  obtain ⟨e0, e1⟩ := idx2 t
  have hs : t.val - 1 < cfg0.N := Nat.lt_of_le_of_lt (Nat.sub_le _ _) t.isLt
  rw [Value.flushed2_C m c t (by omega) hl, out_C]
  funext j
  obtain ⟨p, q, rfl⟩ : ∃ (p : Fin 1024) (q : Fin 1024), j = ix2 p q := ⟨j 0, j 1, eq_ix2 j⟩
  show k0_pay2 (F := Ideal) _ _ _ (ix2 p q) = total m c (((cfg0.win 2).blk t).view.emb (ix2 p q))
  have he : ((cfg0.win 2).blk t).view.emb (ix2 p q) = ix2 p ⟨1024 * (t.val / 4) + q.val, by have := lt_N t; omega⟩ :=
    put2 (idx2 t) 1024 p 1024 q
  rw [he, total_eq, step, scratch m c p q (t.val - 1) hs, hl,
    show (t.val - 1) % 4 + 1 = 3 by omega, show (t.val - 1) / 4 = t.val / 4 by omega]
  exact (Finset.sum_range_add (term m c (p.val) (1024 * (t.val / 4) + q.val)) 6144 2048).symm

theorem final2 : (dats m 0 c).arrAt 2 cfg0.N = total m c :=
  (dats m 0 c).arrAt_eq_of_cover 2 _ (fun t hf => flushed2 m c t hf) fun i => (Value.covered_iff2 i).2 (by
    have h0 : (i 0).val < 1024 := (i 0).isLt; have h1 : (i 1).val < 3072 := (i 1).isLt; omega)

end Array

/-! ### The reference -/

theorem reference (x0 : S8192x1024.Idx → EReal) (x1 : S8192x3072.Idx → EReal) (i : S1024x3072.Idx) :
    Cert.OdInDwRefIdeal.Read.val_main_v5 (F := Ideal) x0 x1 i = ∑ k : Fin 8192, x0 (ix2 k (i 0)) * x1 (ix2 k (i 1)) := by
  rw [Cert.OdInDwRefIdeal.Read.val_main_v5_apply, Cert.OdInDwRefIdeal.Read.val_main_v4_apply]
  refine Finset.sum_congr rfl fun k _ => ?_
  rw [mul_comm]
  exact congrArg₂ (· * ·) (congrArg x0 (at2 _ _ _ rfl rfl)) (congrArg x1 (at2 _ _ _ rfl rfl))

theorem algebraic : algebraic_OdInDwIdeal_OdInDwRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.OdInDwRefIdeal.Value.run m' g')⟩
  obtain ⟨a0, a1⟩ := hagree c
  obtain ⟨u, uargs⟩ := h c
  refine ⟨(u.trans (Cert.OdInDwRefIdeal.Read.val_main_v5_eq _ _)).trans ?_, uargs⟩
  rw [a0, a1]
  funext i
  exact reference _ _ i

theorem frame_reference : quiescent_OdInDwRefIdeal := fun m g _ =>
  (θ_run _ _ _).mono (fun r h => ⟨fun c => (h c).2, sem_eq_zero_of_no_sems (by decide) r.2⟩) (Cert.OdInDwRefIdeal.Value.run m g)

end Cert.Proof.OdInDw

end
-- ==== Proof.EvInDx.lean ====
/-
  The projection into the even layer's mixers, gradient with respect to its input: each grid point contracts the whole of the inner axis, so its
  product is the reference's on its tile.
-/
module

public import proofs.«01_k».proof.Defs
public import proofs.«01_k».proof.Proof.Place
public import proofs.«01_k».proof.Proof.Gen.EvInDxIdeal.Value
public import proofs.«01_k».proof.Proof.Gen.EvInDxRefIdeal.Run
public import proofs.«01_k».proof.Proof.Gen.EvInDxRefIdeal.Read

@[expose] public section

set_option maxRecDepth 16384

noncomputable section

namespace Cert.Proof.EvInDx

open Idealize.ShloMosaic Idealize.ShloMosaic.TcCoe Idealize.SL.Sem
open Cert.EvInDxIdeal Cert.EvInDxIdeal.Gen
open Idealize.ShloMosaic.Pipeline (Dat)
open scoped BigOperators

theorem out_A {F : FTy → Type} [FloatOps F] (c : Dev nD) (i : grid0.Coords)
    (a3 : Memref sig .tc .vmem S768x1792 .bf16) (h3 : a3.IsWhole) (a4 : Memref sig .tc .vmem S1024x1792 .bf16) (h4 : a4.IsWhole)
    (a5 : Memref sig .tc .vmem S768x1024 .f32) (h5 : a5.IsWhole) (a6 : Memref sig .tc .vmem S768x1024 .f32) (h6 : a6.IsWhole)
    (x0 : Vec F S768x1792 .bf16) (x1 : Vec F S1024x1792 .bf16) (h : cond0_0 i) (h' : cond0_1 i) :
    out0_A_2 c i a3 h3 a4 h4 a5 h5 a6 h6 h h' x0 x1 = k0_pay2 k0_pay1 x0 x1 := by
  unfold out0_A_2
  rw [View.read_writes_eq_canon _ _ _ (cover0_A_2 c i a3 h3 a4 h4 a5 h5 a6 h6 h h' x0 x1)]
  unfold kernelRun0_A
  dsimp only
  sl_unfold_words
  rw [View.canon_unit_zero hz, View.readCov_full (s := S768x1024), View.readCov_full (s := S768x1024)]
  simp only [View.readAt_eq_ld, h3.read_unread, h4.read_unread, View.ld_unit_zero (S := S768x1792) hz,
    View.ld_unit_zero (S := S1024x1792) hz]

theorem pay1_apply (p : Fin 768) (q : Fin 1024) : k0_pay1 (F := Ideal) (ix2 p q) = 0 := by
  pointwise [k0_pay1]

theorem pay2_apply (xs : Vec Ideal S768x1024 .f32) (x0 : Vec Ideal S768x1792 .bf16) (x1 : Vec Ideal S1024x1792 .bf16)
    (p : Fin 768) (q : Fin 1024) :
    k0_pay2 xs x0 x1 (ix2 p q) = xs (ix2 p q) + ∑ k : Fin 1792, x0 (ix2 p k) * x1 (ix2 q k) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem lt_N (t : Fin cfg0.N) : t.val < 11 := by have := t.isLt; have h : cfg0.N = 11 := N_0; omega

/-- The call's two arguments, as it finds them. -/
abbrev A : S8448x1792.Idx → EReal := m ((c : Thread nD τ).loc main_arg0)
abbrev B : S1024x1792.Idx → EReal := m ((c : Thread nD τ).loc main_arg1)

theorem blk_a (t : Fin cfg0.N) (u : Fin 768) (v : Fin 1792) :
    (iblk m c 0 t : Vec Ideal S768x1792 .bf16) (ix2 u v) = A m c (ix2 ⟨768 * (t.val) + u.val, by have := lt_N t; omega⟩ v) :=
  congrArg (A m c) (put2 (idx0 t) 768 u 1792 v)

theorem blk_b (t : Fin cfg0.N) (u : Fin 1024) (v : Fin 1792) :
    (iblk m c 1 t : Vec Ideal S1024x1792 .bf16) (ix2 u v) = B m c (ix2 u v) :=
  congrArg (B m c) (put2 (idx1 t) 1024 u 1792 v)

/-- The whole array. -/
def total : S8448x1024.Idx → EReal := fun i => ∑ k : Fin 1792, A m c (ix2 (i 0) k) * B m c (ix2 (i 1) k)

theorem product (t : Fin cfg0.N) (p : Fin 768) (q : Fin 1024) :
    k0_pay2 k0_pay1 (iblk m c 0 t) (iblk m c 1 t) (ix2 p q) = total m c (ix2 ⟨768 * (t.val) + p.val, by have := lt_N t; omega⟩ q) := by
  rw [pay2_apply, pay1_apply, zero_add]
  exact Finset.sum_congr rfl fun k _ => congrArg₂ _ (blk_a m c t p k) (blk_b m c t q k)

theorem emb2 (t : Fin cfg0.N) (p : Fin 768) (q : Fin 1024) :
    ((cfg0.win 2).blk t).view.emb (ix2 p q) = ix2 ⟨768 * (t.val) + p.val, by have := lt_N t; omega⟩ q :=
  put2 (idx2 t) 768 p 1024 q

theorem flushed2 (t : Fin cfg0.N) :
    (dats m 0 c).flushed 2 t = ((cfg0.win 2).blk t).view.read (Elt Ideal) (total m c) := by
  rw [Value.flushed2_A m c t, out_A]
  funext j
  obtain ⟨p, q, rfl⟩ : ∃ (p : Fin 768) (q : Fin 1024), j = ix2 p q := ⟨j 0, j 1, eq_ix2 j⟩
  exact (product m c t p q).trans (congrArg (total m c) (emb2 t p q).symm)

/-- The point that writes an element back. -/
def pt (i : S8448x1024.Idx) : Fin cfg0.N :=
  ⟨(i 0).val / 768, by
    have h0 : (i 0).val < 8448 := (i 0).isLt
    have h1 : (i 1).val < 1024 := (i 1).isLt
    have h : cfg0.N = 11 := N_0
    omega⟩

theorem cover2 (i : S8448x1024.Idx) :
    ∃ t : Fin cfg0.N, (cfg0.win 2).flush t = true ∧ i ∈ ((cfg0.win 2).blk t).view.set := by
  refine ⟨pt i, flush0_2 _, mem_at _ (ix2 ⟨(i 0).val % 768, Nat.mod_lt _ (by norm_num)⟩ ⟨(i 1).val % 1024, Nat.mod_lt _ (by norm_num)⟩ : S768x1024.Idx) ?_⟩
  have h0 : (i 0).val < 8448 := (i 0).isLt
  have h1 : (i 1).val < 1024 := (i 1).isLt
  have hp : (pt i).val = (i 0).val / 768 := rfl
  exact (put2 (a := i 0) (b := i 1) (idx2 (pt i)) 768 ((i 0).val % 768) 1024 ((i 1).val % 1024)).trans (eq_ix2 i).symm

theorem final2 : (dats m 0 c).arrAt 2 cfg0.N = total m c :=
  (dats m 0 c).arrAt_eq_of_cover 2 _ (fun t _ => flushed2 m c t) cover2

end Array

/-! ### The reference -/

theorem reference (x0 : S8448x1792.Idx → EReal) (x1 : S1024x1792.Idx → EReal) (i : S8448x1024.Idx) :
    Cert.EvInDxRefIdeal.Read.val_main_v4 (F := Ideal) x0 x1 i = ∑ k : Fin 1792, x0 (ix2 (i 0) k) * x1 (ix2 (i 1) k) := by
  rw [Cert.EvInDxRefIdeal.Read.val_main_v4_apply]
  refine Finset.sum_congr rfl fun k _ => ?_
  exact congrArg₂ (· * ·) (congrArg x0 (at2 _ _ _ rfl rfl)) (congrArg x1 (at2 _ _ _ rfl rfl))

theorem algebraic : algebraic_EvInDxIdeal_EvInDxRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.EvInDxRefIdeal.Value.run m' g')⟩
  obtain ⟨a0, a1⟩ := hagree c
  obtain ⟨u, uargs⟩ := h c
  refine ⟨(u.trans (Cert.EvInDxRefIdeal.Read.val_main_v4_eq _ _)).trans ?_, uargs⟩
  rw [a0, a1]
  funext i
  exact reference _ _ i

theorem frame_reference : quiescent_EvInDxRefIdeal := fun m g _ =>
  (θ_run _ _ _).mono (fun r h => ⟨fun c => (h c).2, sem_eq_zero_of_no_sems (by decide) r.2⟩) (Cert.EvInDxRefIdeal.Value.run m g)

end Cert.Proof.EvInDx

end
-- ==== Proof.EvInDw.lean ====
/-
  The projection into the even layer's mixers, gradient with respect to its weights: the call adds the product of one tile of the contracted axis after
  another in its scratch; the reference contracts the axis at once.
-/
module

public import proofs.«01_k».proof.Defs
public import proofs.«01_k».proof.Proof.Place
public import proofs.«01_k».proof.Proof.Gen.EvInDwIdeal.Value
public import proofs.«01_k».proof.Proof.Gen.EvInDwRefIdeal.Run
public import proofs.«01_k».proof.Proof.Gen.EvInDwRefIdeal.Read

@[expose] public section

set_option maxRecDepth 16384

noncomputable section

namespace Cert.Proof.EvInDw

open Idealize.ShloMosaic Idealize.ShloMosaic.TcCoe Idealize.SL.Sem
open Cert.EvInDwIdeal Cert.EvInDwIdeal.Gen
open Idealize.ShloMosaic.Pipeline (Dat)
open scoped BigOperators

section Pieces
variable {F : FTy → Type} [FloatOps F]
variable (c : Dev nD) (i : grid0.Coords) (a3 : Memref sig .tc .vmem S1408x1024 .bf16) (h3 : a3.IsWhole)
  (a4 : Memref sig .tc .vmem S1408x896 .bf16) (h4 : a4.IsWhole) (a5 : Memref sig .tc .vmem S1024x896 .f32) (h5 : a5.IsWhole)
  (a6 : Memref sig .tc .vmem S1024x896 .f32) (h6 : a6.IsWhole) (x0 : Vec F S1408x1024 .bf16) (x1 : Vec F S1408x896 .bf16)
  (xs : Vec F S1024x896 .f32)

theorem acc_A (h : cond0_0 i) (h' : ¬cond0_1 i) :
    sout0_A_0 c i a3 h3 a4 h4 a5 h5 a6 h6 h h' x0 x1 = k0_pay2 k0_pay1 x0 x1 := by
  unfold sout0_A_0
  rw [View.read_writes_eq_canon _ _ _ (scover0_A_0 c i a3 h3 a4 h4 a5 h5 a6 h6 h h' x0 x1)]
  unfold kernelRun0_A
  dsimp only
  sl_unfold_words
  rw [View.canon_cons_unit_zero (S := S1024x896) hz, View.readCov_unit_zero (S := S1024x896) _ hz]
  simp only [View.readAt_eq_ld, h3.read_unread, h4.read_unread, View.ld_unit_zero (S := S1408x1024) hz,
    View.ld_unit_zero (S := S1408x896) hz]

theorem acc_B (h : ¬cond0_0 i) (h' : ¬cond0_1 i) :
    sout0_B_0 c i a3 h3 a4 h4 a5 h5 a6 h6 h h' x0 x1 xs = k0_pay2 xs x0 x1 := by
  unfold sout0_B_0
  rw [View.read_writes_eq_canon _ _ _ (scover0_B_0 c i a3 h3 a4 h4 a5 h5 a6 h6 h h' x0 x1 xs)]
  unfold kernelRun0_B
  dsimp only
  sl_unfold_words
  rw [View.canon_unit_zero hz]
  simp only [View.readAt_eq_ld, h3.read_unread, h4.read_unread, h6.read_unread, View.ld_unit_zero (S := S1408x1024) hz,
    View.ld_unit_zero (S := S1408x896) hz, View.ld_unit_zero (S := S1024x896) hz]

theorem acc_C (h : ¬cond0_0 i) (h' : cond0_1 i) :
    sout0_C_0 c i a3 h3 a4 h4 a5 h5 a6 h6 h h' x0 x1 xs = k0_pay2 xs x0 x1 := by
  unfold sout0_C_0
  rw [View.read_writes_eq_canon _ _ _ (scover0_C_0 c i a3 h3 a4 h4 a5 h5 a6 h6 h h' x0 x1 xs)]
  unfold kernelRun0_C
  dsimp only
  sl_unfold_words
  rw [View.canon_unit_zero hz]
  simp only [View.readAt_eq_ld, h3.read_unread, h4.read_unread, h6.read_unread, View.ld_unit_zero (S := S1408x1024) hz,
    View.ld_unit_zero (S := S1408x896) hz, View.ld_unit_zero (S := S1024x896) hz]

theorem out_C (h : ¬cond0_0 i) (h' : cond0_1 i) :
    out0_C_2 c i a3 h3 a4 h4 a5 h5 a6 h6 h h' x0 x1 xs = k0_pay2 xs x0 x1 := by
  unfold out0_C_2
  rw [View.read_writes_eq_canon _ _ _ (cover0_C_2 c i a3 h3 a4 h4 a5 h5 a6 h6 h h' x0 x1 xs)]
  unfold kernelRun0_C
  dsimp only
  sl_unfold_words
  rw [View.canon_unit_zero hz, View.readCov_unit_zero (S := S1024x896) _ hz]
  simp only [View.readAt_eq_ld, h3.read_unread, h4.read_unread, h6.read_unread, View.ld_unit_zero (S := S1408x1024) hz,
    View.ld_unit_zero (S := S1408x896) hz, View.ld_unit_zero (S := S1024x896) hz]

end Pieces

theorem pay1_apply (p : Fin 1024) (q : Fin 896) : k0_pay1 (F := Ideal) (ix2 p q) = 0 := by
  pointwise [k0_pay1]

theorem pay2_apply (xs : Vec Ideal S1024x896 .f32) (x0 : Vec Ideal S1408x1024 .bf16) (x1 : Vec Ideal S1408x896 .bf16)
    (p : Fin 1024) (q : Fin 896) :
    k0_pay2 xs x0 x1 (ix2 p q) = xs (ix2 p q) + ∑ k : Fin 1408, x0 (ix2 k p) * x1 (ix2 k q) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val % 6 ∧ win0_0.index t (1 : Fin 2) = 0 :=
  (by decide +kernel : ∀ t : Fin grid0.N, _)
theorem idx1 : ∀ t : Fin cfg0.N, win0_1.index t (0 : Fin 2) = t.val % 6 ∧ win0_1.index t (1 : Fin 2) = t.val / 6 :=
  (by decide +kernel : ∀ t : Fin grid0.N, _)
theorem idx2 : ∀ t : Fin cfg0.N, win0_2.index t (0 : Fin 2) = 0 ∧ win0_2.index t (1 : Fin 2) = t.val / 6 :=
  (by decide +kernel : ∀ t : Fin grid0.N, _)

theorem lt_N (t : Fin cfg0.N) : t.val < 12 := by have := t.isLt; have h : cfg0.N = 12 := N_0; omega

/-- The call's two arguments, as it finds them. -/
abbrev A : S8448x1024.Idx → EReal := m ((c : Thread nD τ).loc main_arg0)
abbrev B : S8448x1792.Idx → EReal := m ((c : Thread nD τ).loc main_arg1)

theorem blk_a (t : Fin cfg0.N) (u : Fin 1408) (v : Fin 1024) :
    (iblk m c 0 t : Vec Ideal S1408x1024 .bf16) (ix2 u v) = A m c (ix2 ⟨1408 * (t.val % 6) + u.val, by have := lt_N t; omega⟩ v) :=
  congrArg (A m c) (put2 (idx0 t) 1408 u 1024 v)

theorem blk_b (t : Fin cfg0.N) (u : Fin 1408) (v : Fin 896) :
    (iblk m c 1 t : Vec Ideal S1408x896 .bf16) (ix2 u v) = B m c (ix2 ⟨1408 * (t.val % 6) + u.val, by have := lt_N t; omega⟩ ⟨896 * (t.val / 6) + v.val, by have := lt_N t; omega⟩) :=
  congrArg (B m c) (put2 (idx1 t) 1408 u 896 v)

/-- The whole array. -/
def total : S1024x1792.Idx → EReal := fun i => ∑ k : Fin 8448, A m c (ix2 k (i 0)) * B m c (ix2 k (i 1))

/-- What position `s` of the contracted axis contributes at row `p`, column `q`. -/
def term (p q s : ℕ) : EReal :=
  if h : p < 1024 ∧ q < 1792 ∧ s < 8448 then A m c (ix2 ⟨s, h.2.2⟩ ⟨p, h.1⟩) * B m c (ix2 ⟨s, h.2.2⟩ ⟨q, h.2.1⟩) else 0

theorem step (t : Fin cfg0.N) (xs : Vec Ideal S1024x896 .f32) (p : Fin 1024) (q : Fin 896) :
    k0_pay2 xs (iblk m c 0 t) (iblk m c 1 t) (ix2 p q)
      = xs (ix2 p q) + ∑ k ∈ Finset.range 1408, term m c (p.val) (896 * (t.val / 6) + q.val) (1408 * (t.val % 6) + k) := by
  have ht := lt_N t
  rw [pay2_apply, ← Fin.sum_univ_eq_sum_range (fun k => term m c (p.val) (896 * (t.val / 6) + q.val) (1408 * (t.val % 6) + k)) 1408]
  refine congrArg _ (Finset.sum_congr rfl fun k _ => ?_)
  unfold term
  rw [dif_pos ⟨by omega, by omega, by omega⟩]
  exact congrArg₂ _ (blk_a m c t k p) (blk_b m c t k q)

theorem total_eq (p : Fin 1024) (q : Fin 1792) :
    total m c (ix2 p q) = ∑ s ∈ Finset.range 8448, term m c p.val q.val s := by
  rw [← Fin.sum_univ_eq_sum_range (term m c p.val q.val) 8448]
  refine Finset.sum_congr rfl fun s _ => ?_
  unfold term
  rw [dif_pos ⟨p.isLt, q.isLt, s.isLt⟩]
  rfl

/-- After a point the scratch holds the positions seen so far. -/
theorem scratch (p : Fin 1024) (q : Fin 896) : ∀ (n : ℕ) (h : n < cfg0.N),
    (outsAt0 m c n h).2 (ix2 p q) = ∑ s ∈ Finset.range (1408 * (n % 6 + 1)), term m c (p.val) (896 * (n / 6) + q.val) s := by
  intro n
  induction n with
  | zero =>
    intro h
    rw [outsAt0_A m c ⟨0, h⟩ rfl (by dsimp only; omega)]
    dsimp only
    rw [acc_A, step, pay1_apply, zero_add]
    exact Finset.sum_congr rfl fun k _ => congrArg _ (Nat.zero_add k)
  | succ n ih =>
    intro h
    by_cases h0 : (n + 1) % 6 = 0
    · rw [outsAt0_A m c ⟨n + 1, h⟩ h0 (by dsimp only; omega)]
      dsimp only
      rw [acc_A, step, pay1_apply, zero_add]
      dsimp only
      rw [h0]
      exact Finset.sum_congr rfl fun k _ => congrArg _ (Nat.zero_add k)
    · have e := ih (Nat.lt_of_succ_lt h)
      have hd : (n + 1) / 6 = n / 6 := by omega
      have hm : (n + 1) % 6 = n % 6 + 1 := by omega
      by_cases h1 : (n + 1) % 6 = 5
      · rw [outsAt0_C m c ⟨n + 1, h⟩ h0 h1]
        dsimp only
        rw [acc_C, step]
        dsimp only
        rw [hd, hm, Nat.mul_add 1408 (n % 6 + 1) 1, Nat.mul_one, Finset.sum_range_add]
        exact congrArg (· + _) e
      · rw [outsAt0_B m c ⟨n + 1, h⟩ h0 h1]
        dsimp only
        rw [acc_B, step]
        dsimp only
        rw [hd, hm, Nat.mul_add 1408 (n % 6 + 1) 1, Nat.mul_one, Finset.sum_range_add]
        exact congrArg (· + _) e

theorem flushed2 (t : Fin cfg0.N) (hf : (cfg0.win 2).flush t = true) :
    (dats m 0 c).flushed 2 t = ((cfg0.win 2).blk t).view.read (Elt Ideal) (total m c) := by
  have ht := lt_N t
  have hl : t.val % 6 = 5 := (flush0_2 t).mp hf
  obtain ⟨e0, e1⟩ := idx2 t
  have hs : t.val - 1 < cfg0.N := Nat.lt_of_le_of_lt (Nat.sub_le _ _) t.isLt
  rw [Value.flushed2_C m c t (by omega) hl, out_C]
  funext j
  obtain ⟨p, q, rfl⟩ : ∃ (p : Fin 1024) (q : Fin 896), j = ix2 p q := ⟨j 0, j 1, eq_ix2 j⟩
  show k0_pay2 (F := Ideal) _ _ _ (ix2 p q) = total m c (((cfg0.win 2).blk t).view.emb (ix2 p q))
  have he : ((cfg0.win 2).blk t).view.emb (ix2 p q) = ix2 p ⟨896 * (t.val / 6) + q.val, by have := lt_N t; omega⟩ :=
    put2 (idx2 t) 1024 p 896 q
  rw [he, total_eq, step, scratch m c p q (t.val - 1) hs, hl,
    show (t.val - 1) % 6 + 1 = 5 by omega, show (t.val - 1) / 6 = t.val / 6 by omega]
  exact (Finset.sum_range_add (term m c (p.val) (896 * (t.val / 6) + q.val)) 7040 1408).symm

theorem final2 : (dats m 0 c).arrAt 2 cfg0.N = total m c :=
  (dats m 0 c).arrAt_eq_of_cover 2 _ (fun t hf => flushed2 m c t hf) fun i => (Value.covered_iff2 i).2 (by
    have h0 : (i 0).val < 1024 := (i 0).isLt; have h1 : (i 1).val < 1792 := (i 1).isLt; omega)

end Array

/-! ### The reference -/

theorem reference (x0 : S8448x1024.Idx → EReal) (x1 : S8448x1792.Idx → EReal) (i : S1024x1792.Idx) :
    Cert.EvInDwRefIdeal.Read.val_main_v5 (F := Ideal) x0 x1 i = ∑ k : Fin 8448, x0 (ix2 k (i 0)) * x1 (ix2 k (i 1)) := by
  rw [Cert.EvInDwRefIdeal.Read.val_main_v5_apply, Cert.EvInDwRefIdeal.Read.val_main_v4_apply]
  refine Finset.sum_congr rfl fun k _ => ?_
  rw [mul_comm]
  exact congrArg₂ (· * ·) (congrArg x0 (at2 _ _ _ rfl rfl)) (congrArg x1 (at2 _ _ _ rfl rfl))

theorem algebraic : algebraic_EvInDwIdeal_EvInDwRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.EvInDwRefIdeal.Value.run m' g')⟩
  obtain ⟨a0, a1⟩ := hagree c
  obtain ⟨u, uargs⟩ := h c
  refine ⟨(u.trans (Cert.EvInDwRefIdeal.Read.val_main_v5_eq _ _)).trans ?_, uargs⟩
  rw [a0, a1]
  funext i
  exact reference _ _ i

theorem frame_reference : quiescent_EvInDwRefIdeal := fun m g _ =>
  (θ_run _ _ _).mono (fun r h => ⟨fun c => (h c).2, sem_eq_zero_of_no_sems (by decide) r.2⟩) (Cert.EvInDwRefIdeal.Value.run m g)

end Cert.Proof.EvInDw

end
-- ==== Proof.EvUqDx.lean ====
/-
  The projection up to the queries, gradient with respect to its input: each grid point contracts the whole of the inner axis, so its
  product is the reference's on its tile.
-/
module

public import proofs.«01_k».proof.Defs
public import proofs.«01_k».proof.Proof.Place
public import proofs.«01_k».proof.Proof.Gen.EvUqDxIdeal.Value
public import proofs.«01_k».proof.Proof.Gen.EvUqDxRefIdeal.Run
public import proofs.«01_k».proof.Proof.Gen.EvUqDxRefIdeal.Read

@[expose] public section

set_option maxRecDepth 16384

noncomputable section

namespace Cert.Proof.EvUqDx

open Idealize.ShloMosaic Idealize.ShloMosaic.TcCoe Idealize.SL.Sem
open Cert.EvUqDxIdeal Cert.EvUqDxIdeal.Gen
open Idealize.ShloMosaic.Pipeline (Dat)
open scoped BigOperators

theorem out_A {F : FTy → Type} [FloatOps F] (c : Dev nD) (i : grid0.Coords)
    (a3 : Memref sig .tc .vmem S768x1024 .bf16) (h3 : a3.IsWhole) (a4 : Memref sig .tc .vmem S384x1024 .bf16) (h4 : a4.IsWhole)
    (a5 : Memref sig .tc .vmem S768x384 .f32) (h5 : a5.IsWhole) (a6 : Memref sig .tc .vmem S768x384 .f32) (h6 : a6.IsWhole)
    (x0 : Vec F S768x1024 .bf16) (x1 : Vec F S384x1024 .bf16) (h : cond0_0 i) (h' : cond0_1 i) :
    out0_A_2 c i a3 h3 a4 h4 a5 h5 a6 h6 h h' x0 x1 = k0_pay2 k0_pay1 x0 x1 := by
  unfold out0_A_2
  rw [View.read_writes_eq_canon _ _ _ (cover0_A_2 c i a3 h3 a4 h4 a5 h5 a6 h6 h h' x0 x1)]
  unfold kernelRun0_A
  dsimp only
  sl_unfold_words
  rw [View.canon_unit_zero hz, View.readCov_full (s := S768x384), View.readCov_full (s := S768x384)]
  simp only [View.readAt_eq_ld, h3.read_unread, h4.read_unread, View.ld_unit_zero (S := S768x1024) hz,
    View.ld_unit_zero (S := S384x1024) hz]

theorem pay1_apply (p : Fin 768) (q : Fin 384) : k0_pay1 (F := Ideal) (ix2 p q) = 0 := by
  pointwise [k0_pay1]

theorem pay2_apply (xs : Vec Ideal S768x384 .f32) (x0 : Vec Ideal S768x1024 .bf16) (x1 : Vec Ideal S384x1024 .bf16)
    (p : Fin 768) (q : Fin 384) :
    k0_pay2 xs x0 x1 (ix2 p q) = xs (ix2 p q) + ∑ k : Fin 1024, x0 (ix2 p k) * x1 (ix2 q k) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem lt_N (t : Fin cfg0.N) : t.val < 11 := by have := t.isLt; have h : cfg0.N = 11 := N_0; omega

/-- The call's two arguments, as it finds them. -/
abbrev A : S8448x1024.Idx → EReal := m ((c : Thread nD τ).loc main_arg0)
abbrev B : S384x1024.Idx → EReal := m ((c : Thread nD τ).loc main_arg1)

theorem blk_a (t : Fin cfg0.N) (u : Fin 768) (v : Fin 1024) :
    (iblk m c 0 t : Vec Ideal S768x1024 .bf16) (ix2 u v) = A m c (ix2 ⟨768 * (t.val) + u.val, by have := lt_N t; omega⟩ v) :=
  congrArg (A m c) (put2 (idx0 t) 768 u 1024 v)

theorem blk_b (t : Fin cfg0.N) (u : Fin 384) (v : Fin 1024) :
    (iblk m c 1 t : Vec Ideal S384x1024 .bf16) (ix2 u v) = B m c (ix2 u v) :=
  congrArg (B m c) (put2 (idx1 t) 384 u 1024 v)

/-- The whole array. -/
def total : S8448x384.Idx → EReal := fun i => ∑ k : Fin 1024, A m c (ix2 (i 0) k) * B m c (ix2 (i 1) k)

theorem product (t : Fin cfg0.N) (p : Fin 768) (q : Fin 384) :
    k0_pay2 k0_pay1 (iblk m c 0 t) (iblk m c 1 t) (ix2 p q) = total m c (ix2 ⟨768 * (t.val) + p.val, by have := lt_N t; omega⟩ q) := by
  rw [pay2_apply, pay1_apply, zero_add]
  exact Finset.sum_congr rfl fun k _ => congrArg₂ _ (blk_a m c t p k) (blk_b m c t q k)

theorem emb2 (t : Fin cfg0.N) (p : Fin 768) (q : Fin 384) :
    ((cfg0.win 2).blk t).view.emb (ix2 p q) = ix2 ⟨768 * (t.val) + p.val, by have := lt_N t; omega⟩ q :=
  put2 (idx2 t) 768 p 384 q

theorem flushed2 (t : Fin cfg0.N) :
    (dats m 0 c).flushed 2 t = ((cfg0.win 2).blk t).view.read (Elt Ideal) (total m c) := by
  rw [Value.flushed2_A m c t, out_A]
  funext j
  obtain ⟨p, q, rfl⟩ : ∃ (p : Fin 768) (q : Fin 384), j = ix2 p q := ⟨j 0, j 1, eq_ix2 j⟩
  exact (product m c t p q).trans (congrArg (total m c) (emb2 t p q).symm)

/-- The point that writes an element back. -/
def pt (i : S8448x384.Idx) : Fin cfg0.N :=
  ⟨(i 0).val / 768, by
    have h0 : (i 0).val < 8448 := (i 0).isLt
    have h1 : (i 1).val < 384 := (i 1).isLt
    have h : cfg0.N = 11 := N_0
    omega⟩

theorem cover2 (i : S8448x384.Idx) :
    ∃ t : Fin cfg0.N, (cfg0.win 2).flush t = true ∧ i ∈ ((cfg0.win 2).blk t).view.set := by
  refine ⟨pt i, flush0_2 _, mem_at _ (ix2 ⟨(i 0).val % 768, Nat.mod_lt _ (by norm_num)⟩ ⟨(i 1).val % 384, Nat.mod_lt _ (by norm_num)⟩ : S768x384.Idx) ?_⟩
  have h0 : (i 0).val < 8448 := (i 0).isLt
  have h1 : (i 1).val < 384 := (i 1).isLt
  have hp : (pt i).val = (i 0).val / 768 := rfl
  exact (put2 (a := i 0) (b := i 1) (idx2 (pt i)) 768 ((i 0).val % 768) 384 ((i 1).val % 384)).trans (eq_ix2 i).symm

theorem final2 : (dats m 0 c).arrAt 2 cfg0.N = total m c :=
  (dats m 0 c).arrAt_eq_of_cover 2 _ (fun t _ => flushed2 m c t) cover2

end Array

/-! ### The reference -/

theorem reference (x0 : S8448x1024.Idx → EReal) (x1 : S384x1024.Idx → EReal) (i : S8448x384.Idx) :
    Cert.EvUqDxRefIdeal.Read.val_main_v4 (F := Ideal) x0 x1 i = ∑ k : Fin 1024, x0 (ix2 (i 0) k) * x1 (ix2 (i 1) k) := by
  rw [Cert.EvUqDxRefIdeal.Read.val_main_v4_apply]
  refine Finset.sum_congr rfl fun k _ => ?_
  exact congrArg₂ (· * ·) (congrArg x0 (at2 _ _ _ rfl rfl)) (congrArg x1 (at2 _ _ _ rfl rfl))

theorem algebraic : algebraic_EvUqDxIdeal_EvUqDxRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.EvUqDxRefIdeal.Value.run m' g')⟩
  obtain ⟨a0, a1⟩ := hagree c
  obtain ⟨u, uargs⟩ := h c
  refine ⟨(u.trans (Cert.EvUqDxRefIdeal.Read.val_main_v4_eq _ _)).trans ?_, uargs⟩
  rw [a0, a1]
  funext i
  exact reference _ _ i

theorem frame_reference : quiescent_EvUqDxRefIdeal := fun m g _ =>
  (θ_run _ _ _).mono (fun r h => ⟨fun c => (h c).2, sem_eq_zero_of_no_sems (by decide) r.2⟩) (Cert.EvUqDxRefIdeal.Value.run m g)

end Cert.Proof.EvUqDx

end
-- ==== Proof.EvUqDw.lean ====
/-
  The projection up to the queries, gradient with respect to its weights: the call adds the product of one tile of the contracted axis after
  another in its scratch; the reference contracts the axis at once.
-/
module

public import proofs.«01_k».proof.Defs
public import proofs.«01_k».proof.Proof.Place
public import proofs.«01_k».proof.Proof.Gen.EvUqDwIdeal.Value
public import proofs.«01_k».proof.Proof.Gen.EvUqDwRefIdeal.Run
public import proofs.«01_k».proof.Proof.Gen.EvUqDwRefIdeal.Read

@[expose] public section

set_option maxRecDepth 16384

noncomputable section

namespace Cert.Proof.EvUqDw

open Idealize.ShloMosaic Idealize.ShloMosaic.TcCoe Idealize.SL.Sem
open Cert.EvUqDwIdeal Cert.EvUqDwIdeal.Gen
open Idealize.ShloMosaic.Pipeline (Dat)
open scoped BigOperators

section Pieces
variable {F : FTy → Type} [FloatOps F]
variable (c : Dev nD) (i : grid0.Coords) (a3 : Memref sig .tc .vmem S1408x384 .bf16) (h3 : a3.IsWhole)
  (a4 : Memref sig .tc .vmem S1408x1024 .bf16) (h4 : a4.IsWhole) (a5 : Memref sig .tc .vmem S384x1024 .f32) (h5 : a5.IsWhole)
  (a6 : Memref sig .tc .vmem S384x1024 .f32) (h6 : a6.IsWhole) (x0 : Vec F S1408x384 .bf16) (x1 : Vec F S1408x1024 .bf16)
  (xs : Vec F S384x1024 .f32)

theorem acc_A (h : cond0_0 i) (h' : ¬cond0_1 i) :
    sout0_A_0 c i a3 h3 a4 h4 a5 h5 a6 h6 h h' x0 x1 = k0_pay2 k0_pay1 x0 x1 := by
  unfold sout0_A_0
  rw [View.read_writes_eq_canon _ _ _ (scover0_A_0 c i a3 h3 a4 h4 a5 h5 a6 h6 h h' x0 x1)]
  unfold kernelRun0_A
  dsimp only
  sl_unfold_words
  rw [View.canon_cons_unit_zero (S := S384x1024) hz, View.readCov_unit_zero (S := S384x1024) _ hz]
  simp only [View.readAt_eq_ld, h3.read_unread, h4.read_unread, View.ld_unit_zero (S := S1408x384) hz,
    View.ld_unit_zero (S := S1408x1024) hz]

theorem acc_B (h : ¬cond0_0 i) (h' : ¬cond0_1 i) :
    sout0_B_0 c i a3 h3 a4 h4 a5 h5 a6 h6 h h' x0 x1 xs = k0_pay2 xs x0 x1 := by
  unfold sout0_B_0
  rw [View.read_writes_eq_canon _ _ _ (scover0_B_0 c i a3 h3 a4 h4 a5 h5 a6 h6 h h' x0 x1 xs)]
  unfold kernelRun0_B
  dsimp only
  sl_unfold_words
  rw [View.canon_unit_zero hz]
  simp only [View.readAt_eq_ld, h3.read_unread, h4.read_unread, h6.read_unread, View.ld_unit_zero (S := S1408x384) hz,
    View.ld_unit_zero (S := S1408x1024) hz, View.ld_unit_zero (S := S384x1024) hz]

theorem acc_C (h : ¬cond0_0 i) (h' : cond0_1 i) :
    sout0_C_0 c i a3 h3 a4 h4 a5 h5 a6 h6 h h' x0 x1 xs = k0_pay2 xs x0 x1 := by
  unfold sout0_C_0
  rw [View.read_writes_eq_canon _ _ _ (scover0_C_0 c i a3 h3 a4 h4 a5 h5 a6 h6 h h' x0 x1 xs)]
  unfold kernelRun0_C
  dsimp only
  sl_unfold_words
  rw [View.canon_unit_zero hz]
  simp only [View.readAt_eq_ld, h3.read_unread, h4.read_unread, h6.read_unread, View.ld_unit_zero (S := S1408x384) hz,
    View.ld_unit_zero (S := S1408x1024) hz, View.ld_unit_zero (S := S384x1024) hz]

theorem out_C (h : ¬cond0_0 i) (h' : cond0_1 i) :
    out0_C_2 c i a3 h3 a4 h4 a5 h5 a6 h6 h h' x0 x1 xs = k0_pay2 xs x0 x1 := by
  unfold out0_C_2
  rw [View.read_writes_eq_canon _ _ _ (cover0_C_2 c i a3 h3 a4 h4 a5 h5 a6 h6 h h' x0 x1 xs)]
  unfold kernelRun0_C
  dsimp only
  sl_unfold_words
  rw [View.canon_unit_zero hz, View.readCov_unit_zero (S := S384x1024) _ hz]
  simp only [View.readAt_eq_ld, h3.read_unread, h4.read_unread, h6.read_unread, View.ld_unit_zero (S := S1408x384) hz,
    View.ld_unit_zero (S := S1408x1024) hz, View.ld_unit_zero (S := S384x1024) hz]

end Pieces

theorem pay1_apply (p : Fin 384) (q : Fin 1024) : k0_pay1 (F := Ideal) (ix2 p q) = 0 := by
  pointwise [k0_pay1]

theorem pay2_apply (xs : Vec Ideal S384x1024 .f32) (x0 : Vec Ideal S1408x384 .bf16) (x1 : Vec Ideal S1408x1024 .bf16)
    (p : Fin 384) (q : Fin 1024) :
    k0_pay2 xs x0 x1 (ix2 p q) = xs (ix2 p q) + ∑ k : Fin 1408, x0 (ix2 k p) * x1 (ix2 k q) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val % 6 ∧ win0_0.index t (1 : Fin 2) = 0 :=
  (by decide +kernel : ∀ t : Fin grid0.N, _)
theorem idx1 : ∀ t : Fin cfg0.N, win0_1.index t (0 : Fin 2) = t.val % 6 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem lt_N (t : Fin cfg0.N) : t.val < 6 := by have := t.isLt; have h : cfg0.N = 6 := N_0; omega

/-- The call's two arguments, as it finds them. -/
abbrev A : S8448x384.Idx → EReal := m ((c : Thread nD τ).loc main_arg0)
abbrev B : S8448x1024.Idx → EReal := m ((c : Thread nD τ).loc main_arg1)

theorem blk_a (t : Fin cfg0.N) (u : Fin 1408) (v : Fin 384) :
    (iblk m c 0 t : Vec Ideal S1408x384 .bf16) (ix2 u v) = A m c (ix2 ⟨1408 * (t.val % 6) + u.val, by have := lt_N t; omega⟩ v) :=
  congrArg (A m c) (put2 (idx0 t) 1408 u 384 v)

theorem blk_b (t : Fin cfg0.N) (u : Fin 1408) (v : Fin 1024) :
    (iblk m c 1 t : Vec Ideal S1408x1024 .bf16) (ix2 u v) = B m c (ix2 ⟨1408 * (t.val % 6) + u.val, by have := lt_N t; omega⟩ v) :=
  congrArg (B m c) (put2 (idx1 t) 1408 u 1024 v)

/-- The whole array. -/
def total : S384x1024.Idx → EReal := fun i => ∑ k : Fin 8448, A m c (ix2 k (i 0)) * B m c (ix2 k (i 1))

/-- What position `s` of the contracted axis contributes at row `p`, column `q`. -/
def term (p q s : ℕ) : EReal :=
  if h : p < 384 ∧ q < 1024 ∧ s < 8448 then A m c (ix2 ⟨s, h.2.2⟩ ⟨p, h.1⟩) * B m c (ix2 ⟨s, h.2.2⟩ ⟨q, h.2.1⟩) else 0

theorem step (t : Fin cfg0.N) (xs : Vec Ideal S384x1024 .f32) (p : Fin 384) (q : Fin 1024) :
    k0_pay2 xs (iblk m c 0 t) (iblk m c 1 t) (ix2 p q)
      = xs (ix2 p q) + ∑ k ∈ Finset.range 1408, term m c (p.val) (q.val) (1408 * (t.val % 6) + k) := by
  have ht := lt_N t
  rw [pay2_apply, ← Fin.sum_univ_eq_sum_range (fun k => term m c (p.val) (q.val) (1408 * (t.val % 6) + k)) 1408]
  refine congrArg _ (Finset.sum_congr rfl fun k _ => ?_)
  unfold term
  rw [dif_pos ⟨by omega, by omega, by omega⟩]
  exact congrArg₂ _ (blk_a m c t k p) (blk_b m c t k q)

theorem total_eq (p : Fin 384) (q : Fin 1024) :
    total m c (ix2 p q) = ∑ s ∈ Finset.range 8448, term m c p.val q.val s := by
  rw [← Fin.sum_univ_eq_sum_range (term m c p.val q.val) 8448]
  refine Finset.sum_congr rfl fun s _ => ?_
  unfold term
  rw [dif_pos ⟨p.isLt, q.isLt, s.isLt⟩]
  rfl

/-- After a point the scratch holds the positions seen so far. -/
theorem scratch (p : Fin 384) (q : Fin 1024) : ∀ (n : ℕ) (h : n < cfg0.N),
    (outsAt0 m c n h).2 (ix2 p q) = ∑ s ∈ Finset.range (1408 * (n % 6 + 1)), term m c (p.val) (q.val) s := by
  intro n
  induction n with
  | zero =>
    intro h
    rw [outsAt0_A m c ⟨0, h⟩ rfl (by dsimp only; omega)]
    dsimp only
    rw [acc_A, step, pay1_apply, zero_add]
    exact Finset.sum_congr rfl fun k _ => congrArg _ (Nat.zero_add k)
  | succ n ih =>
    intro h
    by_cases h0 : (n + 1) % 6 = 0
    · rw [outsAt0_A m c ⟨n + 1, h⟩ h0 (by dsimp only; omega)]
      dsimp only
      rw [acc_A, step, pay1_apply, zero_add]
      dsimp only
      rw [h0]
      exact Finset.sum_congr rfl fun k _ => congrArg _ (Nat.zero_add k)
    · have e := ih (Nat.lt_of_succ_lt h)
      have hm : (n + 1) % 6 = n % 6 + 1 := by omega
      by_cases h1 : (n + 1) % 6 = 5
      · rw [outsAt0_C m c ⟨n + 1, h⟩ h0 h1]
        dsimp only
        rw [acc_C, step]
        dsimp only
        rw [hm, Nat.mul_add 1408 (n % 6 + 1) 1, Nat.mul_one, Finset.sum_range_add]
        exact congrArg (· + _) e
      · rw [outsAt0_B m c ⟨n + 1, h⟩ h0 h1]
        dsimp only
        rw [acc_B, step]
        dsimp only
        rw [hm, Nat.mul_add 1408 (n % 6 + 1) 1, Nat.mul_one, Finset.sum_range_add]
        exact congrArg (· + _) e

theorem flushed2 (t : Fin cfg0.N) (hf : (cfg0.win 2).flush t = true) :
    (dats m 0 c).flushed 2 t = ((cfg0.win 2).blk t).view.read (Elt Ideal) (total m c) := by
  have ht := lt_N t
  have hl : t.val % 6 = 5 := (flush0_2 t).mp hf
  obtain ⟨e0, e1⟩ := idx2 t
  have hs : t.val - 1 < cfg0.N := Nat.lt_of_le_of_lt (Nat.sub_le _ _) t.isLt
  rw [Value.flushed2_C m c t (by omega) hl, out_C]
  funext j
  obtain ⟨p, q, rfl⟩ : ∃ (p : Fin 384) (q : Fin 1024), j = ix2 p q := ⟨j 0, j 1, eq_ix2 j⟩
  show k0_pay2 (F := Ideal) _ _ _ (ix2 p q) = total m c (((cfg0.win 2).blk t).view.emb (ix2 p q))
  have he : ((cfg0.win 2).blk t).view.emb (ix2 p q) = ix2 p q :=
    put2 (idx2 t) 384 p 1024 q
  rw [he, total_eq, step, scratch m c p q (t.val - 1) hs, hl,
    show (t.val - 1) % 6 + 1 = 5 by omega]
  exact (Finset.sum_range_add (term m c (p.val) (q.val)) 7040 1408).symm

theorem final2 : (dats m 0 c).arrAt 2 cfg0.N = total m c :=
  (dats m 0 c).arrAt_eq_of_cover 2 _ (fun t hf => flushed2 m c t hf) fun i => (Value.covered_iff2 i).2 (by
    have h0 : (i 0).val < 384 := (i 0).isLt; have h1 : (i 1).val < 1024 := (i 1).isLt; omega)

end Array

/-! ### The reference -/

theorem reference (x0 : S8448x384.Idx → EReal) (x1 : S8448x1024.Idx → EReal) (i : S384x1024.Idx) :
    Cert.EvUqDwRefIdeal.Read.val_main_v5 (F := Ideal) x0 x1 i = ∑ k : Fin 8448, x0 (ix2 k (i 0)) * x1 (ix2 k (i 1)) := by
  rw [Cert.EvUqDwRefIdeal.Read.val_main_v5_apply, Cert.EvUqDwRefIdeal.Read.val_main_v4_apply]
  refine Finset.sum_congr rfl fun k _ => ?_
  rw [mul_comm]
  exact congrArg₂ (· * ·) (congrArg x0 (at2 _ _ _ rfl rfl)) (congrArg x1 (at2 _ _ _ rfl rfl))

theorem algebraic : algebraic_EvUqDwIdeal_EvUqDwRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.EvUqDwRefIdeal.Value.run m' g')⟩
  obtain ⟨a0, a1⟩ := hagree c
  obtain ⟨u, uargs⟩ := h c
  refine ⟨(u.trans (Cert.EvUqDwRefIdeal.Read.val_main_v5_eq _ _)).trans ?_, uargs⟩
  rw [a0, a1]
  funext i
  exact reference _ _ i

theorem frame_reference : quiescent_EvUqDwRefIdeal := fun m g _ =>
  (θ_run _ _ _).mono (fun r h => ⟨fun c => (h c).2, sem_eq_zero_of_no_sems (by decide) r.2⟩) (Cert.EvUqDwRefIdeal.Value.run m g)

end Cert.Proof.EvUqDw

end
-- ==== Proof.EvUkvDx.lean ====
/-
  The projection up to keys and values, gradient with respect to its input: each grid point contracts the whole of the inner axis, so its
  product is the reference's on its tile.
-/
module

public import proofs.«01_k».proof.Defs
public import proofs.«01_k».proof.Proof.Place
public import proofs.«01_k».proof.Proof.Gen.EvUkvDxIdeal.Value
public import proofs.«01_k».proof.Proof.Gen.EvUkvDxRefIdeal.Run
public import proofs.«01_k».proof.Proof.Gen.EvUkvDxRefIdeal.Read

@[expose] public section

set_option maxRecDepth 16384

noncomputable section

namespace Cert.Proof.EvUkvDx

open Idealize.ShloMosaic Idealize.ShloMosaic.TcCoe Idealize.SL.Sem
open Cert.EvUkvDxIdeal Cert.EvUkvDxIdeal.Gen
open Idealize.ShloMosaic.Pipeline (Dat)
open scoped BigOperators

theorem out_A {F : FTy → Type} [FloatOps F] (c : Dev nD) (i : grid0.Coords)
    (a3 : Memref sig .tc .vmem S768x1024 .bf16) (h3 : a3.IsWhole) (a4 : Memref sig .tc .vmem S256x1024 .bf16) (h4 : a4.IsWhole)
    (a5 : Memref sig .tc .vmem S768x256 .f32) (h5 : a5.IsWhole) (a6 : Memref sig .tc .vmem S768x256 .f32) (h6 : a6.IsWhole)
    (x0 : Vec F S768x1024 .bf16) (x1 : Vec F S256x1024 .bf16) (h : cond0_0 i) (h' : cond0_1 i) :
    out0_A_2 c i a3 h3 a4 h4 a5 h5 a6 h6 h h' x0 x1 = k0_pay2 k0_pay1 x0 x1 := by
  unfold out0_A_2
  rw [View.read_writes_eq_canon _ _ _ (cover0_A_2 c i a3 h3 a4 h4 a5 h5 a6 h6 h h' x0 x1)]
  unfold kernelRun0_A
  dsimp only
  sl_unfold_words
  rw [View.canon_unit_zero hz, View.readCov_full (s := S768x256), View.readCov_full (s := S768x256)]
  simp only [View.readAt_eq_ld, h3.read_unread, h4.read_unread, View.ld_unit_zero (S := S768x1024) hz,
    View.ld_unit_zero (S := S256x1024) hz]

theorem pay1_apply (p : Fin 768) (q : Fin 256) : k0_pay1 (F := Ideal) (ix2 p q) = 0 := by
  pointwise [k0_pay1]

theorem pay2_apply (xs : Vec Ideal S768x256 .f32) (x0 : Vec Ideal S768x1024 .bf16) (x1 : Vec Ideal S256x1024 .bf16)
    (p : Fin 768) (q : Fin 256) :
    k0_pay2 xs x0 x1 (ix2 p q) = xs (ix2 p q) + ∑ k : Fin 1024, x0 (ix2 p k) * x1 (ix2 q k) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem lt_N (t : Fin cfg0.N) : t.val < 11 := by have := t.isLt; have h : cfg0.N = 11 := N_0; omega

/-- The call's two arguments, as it finds them. -/
abbrev A : S8448x1024.Idx → EReal := m ((c : Thread nD τ).loc main_arg0)
abbrev B : S256x1024.Idx → EReal := m ((c : Thread nD τ).loc main_arg1)

theorem blk_a (t : Fin cfg0.N) (u : Fin 768) (v : Fin 1024) :
    (iblk m c 0 t : Vec Ideal S768x1024 .bf16) (ix2 u v) = A m c (ix2 ⟨768 * (t.val) + u.val, by have := lt_N t; omega⟩ v) :=
  congrArg (A m c) (put2 (idx0 t) 768 u 1024 v)

theorem blk_b (t : Fin cfg0.N) (u : Fin 256) (v : Fin 1024) :
    (iblk m c 1 t : Vec Ideal S256x1024 .bf16) (ix2 u v) = B m c (ix2 u v) :=
  congrArg (B m c) (put2 (idx1 t) 256 u 1024 v)

/-- The whole array. -/
def total : S8448x256.Idx → EReal := fun i => ∑ k : Fin 1024, A m c (ix2 (i 0) k) * B m c (ix2 (i 1) k)

theorem product (t : Fin cfg0.N) (p : Fin 768) (q : Fin 256) :
    k0_pay2 k0_pay1 (iblk m c 0 t) (iblk m c 1 t) (ix2 p q) = total m c (ix2 ⟨768 * (t.val) + p.val, by have := lt_N t; omega⟩ q) := by
  rw [pay2_apply, pay1_apply, zero_add]
  exact Finset.sum_congr rfl fun k _ => congrArg₂ _ (blk_a m c t p k) (blk_b m c t q k)

theorem emb2 (t : Fin cfg0.N) (p : Fin 768) (q : Fin 256) :
    ((cfg0.win 2).blk t).view.emb (ix2 p q) = ix2 ⟨768 * (t.val) + p.val, by have := lt_N t; omega⟩ q :=
  put2 (idx2 t) 768 p 256 q

theorem flushed2 (t : Fin cfg0.N) :
    (dats m 0 c).flushed 2 t = ((cfg0.win 2).blk t).view.read (Elt Ideal) (total m c) := by
  rw [Value.flushed2_A m c t, out_A]
  funext j
  obtain ⟨p, q, rfl⟩ : ∃ (p : Fin 768) (q : Fin 256), j = ix2 p q := ⟨j 0, j 1, eq_ix2 j⟩
  exact (product m c t p q).trans (congrArg (total m c) (emb2 t p q).symm)

/-- The point that writes an element back. -/
def pt (i : S8448x256.Idx) : Fin cfg0.N :=
  ⟨(i 0).val / 768, by
    have h0 : (i 0).val < 8448 := (i 0).isLt
    have h1 : (i 1).val < 256 := (i 1).isLt
    have h : cfg0.N = 11 := N_0
    omega⟩

theorem cover2 (i : S8448x256.Idx) :
    ∃ t : Fin cfg0.N, (cfg0.win 2).flush t = true ∧ i ∈ ((cfg0.win 2).blk t).view.set := by
  refine ⟨pt i, flush0_2 _, mem_at _ (ix2 ⟨(i 0).val % 768, Nat.mod_lt _ (by norm_num)⟩ ⟨(i 1).val % 256, Nat.mod_lt _ (by norm_num)⟩ : S768x256.Idx) ?_⟩
  have h0 : (i 0).val < 8448 := (i 0).isLt
  have h1 : (i 1).val < 256 := (i 1).isLt
  have hp : (pt i).val = (i 0).val / 768 := rfl
  exact (put2 (a := i 0) (b := i 1) (idx2 (pt i)) 768 ((i 0).val % 768) 256 ((i 1).val % 256)).trans (eq_ix2 i).symm

theorem final2 : (dats m 0 c).arrAt 2 cfg0.N = total m c :=
  (dats m 0 c).arrAt_eq_of_cover 2 _ (fun t _ => flushed2 m c t) cover2

end Array

/-! ### The reference -/

theorem reference (x0 : S8448x1024.Idx → EReal) (x1 : S256x1024.Idx → EReal) (i : S8448x256.Idx) :
    Cert.EvUkvDxRefIdeal.Read.val_main_v4 (F := Ideal) x0 x1 i = ∑ k : Fin 1024, x0 (ix2 (i 0) k) * x1 (ix2 (i 1) k) := by
  rw [Cert.EvUkvDxRefIdeal.Read.val_main_v4_apply]
  refine Finset.sum_congr rfl fun k _ => ?_
  exact congrArg₂ (· * ·) (congrArg x0 (at2 _ _ _ rfl rfl)) (congrArg x1 (at2 _ _ _ rfl rfl))

theorem algebraic : algebraic_EvUkvDxIdeal_EvUkvDxRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.EvUkvDxRefIdeal.Value.run m' g')⟩
  obtain ⟨a0, a1⟩ := hagree c
  obtain ⟨u, uargs⟩ := h c
  refine ⟨(u.trans (Cert.EvUkvDxRefIdeal.Read.val_main_v4_eq _ _)).trans ?_, uargs⟩
  rw [a0, a1]
  funext i
  exact reference _ _ i

theorem frame_reference : quiescent_EvUkvDxRefIdeal := fun m g _ =>
  (θ_run _ _ _).mono (fun r h => ⟨fun c => (h c).2, sem_eq_zero_of_no_sems (by decide) r.2⟩) (Cert.EvUkvDxRefIdeal.Value.run m g)

end Cert.Proof.EvUkvDx

end
-- ==== Proof.EvUkvDw.lean ====
/-
  The projection up to keys and values, gradient with respect to its weights: the call adds the product of one tile of the contracted axis after
  another in its scratch; the reference contracts the axis at once.
-/
module

public import proofs.«01_k».proof.Defs
public import proofs.«01_k».proof.Proof.Place
public import proofs.«01_k».proof.Proof.Gen.EvUkvDwIdeal.Value
public import proofs.«01_k».proof.Proof.Gen.EvUkvDwRefIdeal.Run
public import proofs.«01_k».proof.Proof.Gen.EvUkvDwRefIdeal.Read

@[expose] public section

set_option maxRecDepth 16384

noncomputable section

namespace Cert.Proof.EvUkvDw

open Idealize.ShloMosaic Idealize.ShloMosaic.TcCoe Idealize.SL.Sem
open Cert.EvUkvDwIdeal Cert.EvUkvDwIdeal.Gen
open Idealize.ShloMosaic.Pipeline (Dat)
open scoped BigOperators

section Pieces
variable {F : FTy → Type} [FloatOps F]
variable (c : Dev nD) (i : grid0.Coords) (a3 : Memref sig .tc .vmem S1408x256 .bf16) (h3 : a3.IsWhole)
  (a4 : Memref sig .tc .vmem S1408x1024 .bf16) (h4 : a4.IsWhole) (a5 : Memref sig .tc .vmem S256x1024 .f32) (h5 : a5.IsWhole)
  (a6 : Memref sig .tc .vmem S256x1024 .f32) (h6 : a6.IsWhole) (x0 : Vec F S1408x256 .bf16) (x1 : Vec F S1408x1024 .bf16)
  (xs : Vec F S256x1024 .f32)

theorem acc_A (h : cond0_0 i) (h' : ¬cond0_1 i) :
    sout0_A_0 c i a3 h3 a4 h4 a5 h5 a6 h6 h h' x0 x1 = k0_pay2 k0_pay1 x0 x1 := by
  unfold sout0_A_0
  rw [View.read_writes_eq_canon _ _ _ (scover0_A_0 c i a3 h3 a4 h4 a5 h5 a6 h6 h h' x0 x1)]
  unfold kernelRun0_A
  dsimp only
  sl_unfold_words
  rw [View.canon_cons_unit_zero (S := S256x1024) hz, View.readCov_unit_zero (S := S256x1024) _ hz]
  simp only [View.readAt_eq_ld, h3.read_unread, h4.read_unread, View.ld_unit_zero (S := S1408x256) hz,
    View.ld_unit_zero (S := S1408x1024) hz]

theorem acc_B (h : ¬cond0_0 i) (h' : ¬cond0_1 i) :
    sout0_B_0 c i a3 h3 a4 h4 a5 h5 a6 h6 h h' x0 x1 xs = k0_pay2 xs x0 x1 := by
  unfold sout0_B_0
  rw [View.read_writes_eq_canon _ _ _ (scover0_B_0 c i a3 h3 a4 h4 a5 h5 a6 h6 h h' x0 x1 xs)]
  unfold kernelRun0_B
  dsimp only
  sl_unfold_words
  rw [View.canon_unit_zero hz]
  simp only [View.readAt_eq_ld, h3.read_unread, h4.read_unread, h6.read_unread, View.ld_unit_zero (S := S1408x256) hz,
    View.ld_unit_zero (S := S1408x1024) hz, View.ld_unit_zero (S := S256x1024) hz]

theorem acc_C (h : ¬cond0_0 i) (h' : cond0_1 i) :
    sout0_C_0 c i a3 h3 a4 h4 a5 h5 a6 h6 h h' x0 x1 xs = k0_pay2 xs x0 x1 := by
  unfold sout0_C_0
  rw [View.read_writes_eq_canon _ _ _ (scover0_C_0 c i a3 h3 a4 h4 a5 h5 a6 h6 h h' x0 x1 xs)]
  unfold kernelRun0_C
  dsimp only
  sl_unfold_words
  rw [View.canon_unit_zero hz]
  simp only [View.readAt_eq_ld, h3.read_unread, h4.read_unread, h6.read_unread, View.ld_unit_zero (S := S1408x256) hz,
    View.ld_unit_zero (S := S1408x1024) hz, View.ld_unit_zero (S := S256x1024) hz]

theorem out_C (h : ¬cond0_0 i) (h' : cond0_1 i) :
    out0_C_2 c i a3 h3 a4 h4 a5 h5 a6 h6 h h' x0 x1 xs = k0_pay2 xs x0 x1 := by
  unfold out0_C_2
  rw [View.read_writes_eq_canon _ _ _ (cover0_C_2 c i a3 h3 a4 h4 a5 h5 a6 h6 h h' x0 x1 xs)]
  unfold kernelRun0_C
  dsimp only
  sl_unfold_words
  rw [View.canon_unit_zero hz, View.readCov_unit_zero (S := S256x1024) _ hz]
  simp only [View.readAt_eq_ld, h3.read_unread, h4.read_unread, h6.read_unread, View.ld_unit_zero (S := S1408x256) hz,
    View.ld_unit_zero (S := S1408x1024) hz, View.ld_unit_zero (S := S256x1024) hz]

end Pieces

theorem pay1_apply (p : Fin 256) (q : Fin 1024) : k0_pay1 (F := Ideal) (ix2 p q) = 0 := by
  pointwise [k0_pay1]

theorem pay2_apply (xs : Vec Ideal S256x1024 .f32) (x0 : Vec Ideal S1408x256 .bf16) (x1 : Vec Ideal S1408x1024 .bf16)
    (p : Fin 256) (q : Fin 1024) :
    k0_pay2 xs x0 x1 (ix2 p q) = xs (ix2 p q) + ∑ k : Fin 1408, x0 (ix2 k p) * x1 (ix2 k q) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val % 6 ∧ win0_0.index t (1 : Fin 2) = 0 :=
  (by decide +kernel : ∀ t : Fin grid0.N, _)
theorem idx1 : ∀ t : Fin cfg0.N, win0_1.index t (0 : Fin 2) = t.val % 6 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem lt_N (t : Fin cfg0.N) : t.val < 6 := by have := t.isLt; have h : cfg0.N = 6 := N_0; omega

/-- The call's two arguments, as it finds them. -/
abbrev A : S8448x256.Idx → EReal := m ((c : Thread nD τ).loc main_arg0)
abbrev B : S8448x1024.Idx → EReal := m ((c : Thread nD τ).loc main_arg1)

theorem blk_a (t : Fin cfg0.N) (u : Fin 1408) (v : Fin 256) :
    (iblk m c 0 t : Vec Ideal S1408x256 .bf16) (ix2 u v) = A m c (ix2 ⟨1408 * (t.val % 6) + u.val, by have := lt_N t; omega⟩ v) :=
  congrArg (A m c) (put2 (idx0 t) 1408 u 256 v)

theorem blk_b (t : Fin cfg0.N) (u : Fin 1408) (v : Fin 1024) :
    (iblk m c 1 t : Vec Ideal S1408x1024 .bf16) (ix2 u v) = B m c (ix2 ⟨1408 * (t.val % 6) + u.val, by have := lt_N t; omega⟩ v) :=
  congrArg (B m c) (put2 (idx1 t) 1408 u 1024 v)

/-- The whole array. -/
def total : S256x1024.Idx → EReal := fun i => ∑ k : Fin 8448, A m c (ix2 k (i 0)) * B m c (ix2 k (i 1))

/-- What position `s` of the contracted axis contributes at row `p`, column `q`. -/
def term (p q s : ℕ) : EReal :=
  if h : p < 256 ∧ q < 1024 ∧ s < 8448 then A m c (ix2 ⟨s, h.2.2⟩ ⟨p, h.1⟩) * B m c (ix2 ⟨s, h.2.2⟩ ⟨q, h.2.1⟩) else 0

theorem step (t : Fin cfg0.N) (xs : Vec Ideal S256x1024 .f32) (p : Fin 256) (q : Fin 1024) :
    k0_pay2 xs (iblk m c 0 t) (iblk m c 1 t) (ix2 p q)
      = xs (ix2 p q) + ∑ k ∈ Finset.range 1408, term m c (p.val) (q.val) (1408 * (t.val % 6) + k) := by
  have ht := lt_N t
  rw [pay2_apply, ← Fin.sum_univ_eq_sum_range (fun k => term m c (p.val) (q.val) (1408 * (t.val % 6) + k)) 1408]
  refine congrArg _ (Finset.sum_congr rfl fun k _ => ?_)
  unfold term
  rw [dif_pos ⟨by omega, by omega, by omega⟩]
  exact congrArg₂ _ (blk_a m c t k p) (blk_b m c t k q)

theorem total_eq (p : Fin 256) (q : Fin 1024) :
    total m c (ix2 p q) = ∑ s ∈ Finset.range 8448, term m c p.val q.val s := by
  rw [← Fin.sum_univ_eq_sum_range (term m c p.val q.val) 8448]
  refine Finset.sum_congr rfl fun s _ => ?_
  unfold term
  rw [dif_pos ⟨p.isLt, q.isLt, s.isLt⟩]
  rfl

/-- After a point the scratch holds the positions seen so far. -/
theorem scratch (p : Fin 256) (q : Fin 1024) : ∀ (n : ℕ) (h : n < cfg0.N),
    (outsAt0 m c n h).2 (ix2 p q) = ∑ s ∈ Finset.range (1408 * (n % 6 + 1)), term m c (p.val) (q.val) s := by
  intro n
  induction n with
  | zero =>
    intro h
    rw [outsAt0_A m c ⟨0, h⟩ rfl (by dsimp only; omega)]
    dsimp only
    rw [acc_A, step, pay1_apply, zero_add]
    exact Finset.sum_congr rfl fun k _ => congrArg _ (Nat.zero_add k)
  | succ n ih =>
    intro h
    by_cases h0 : (n + 1) % 6 = 0
    · rw [outsAt0_A m c ⟨n + 1, h⟩ h0 (by dsimp only; omega)]
      dsimp only
      rw [acc_A, step, pay1_apply, zero_add]
      dsimp only
      rw [h0]
      exact Finset.sum_congr rfl fun k _ => congrArg _ (Nat.zero_add k)
    · have e := ih (Nat.lt_of_succ_lt h)
      have hm : (n + 1) % 6 = n % 6 + 1 := by omega
      by_cases h1 : (n + 1) % 6 = 5
      · rw [outsAt0_C m c ⟨n + 1, h⟩ h0 h1]
        dsimp only
        rw [acc_C, step]
        dsimp only
        rw [hm, Nat.mul_add 1408 (n % 6 + 1) 1, Nat.mul_one, Finset.sum_range_add]
        exact congrArg (· + _) e
      · rw [outsAt0_B m c ⟨n + 1, h⟩ h0 h1]
        dsimp only
        rw [acc_B, step]
        dsimp only
        rw [hm, Nat.mul_add 1408 (n % 6 + 1) 1, Nat.mul_one, Finset.sum_range_add]
        exact congrArg (· + _) e

theorem flushed2 (t : Fin cfg0.N) (hf : (cfg0.win 2).flush t = true) :
    (dats m 0 c).flushed 2 t = ((cfg0.win 2).blk t).view.read (Elt Ideal) (total m c) := by
  have ht := lt_N t
  have hl : t.val % 6 = 5 := (flush0_2 t).mp hf
  obtain ⟨e0, e1⟩ := idx2 t
  have hs : t.val - 1 < cfg0.N := Nat.lt_of_le_of_lt (Nat.sub_le _ _) t.isLt
  rw [Value.flushed2_C m c t (by omega) hl, out_C]
  funext j
  obtain ⟨p, q, rfl⟩ : ∃ (p : Fin 256) (q : Fin 1024), j = ix2 p q := ⟨j 0, j 1, eq_ix2 j⟩
  show k0_pay2 (F := Ideal) _ _ _ (ix2 p q) = total m c (((cfg0.win 2).blk t).view.emb (ix2 p q))
  have he : ((cfg0.win 2).blk t).view.emb (ix2 p q) = ix2 p q :=
    put2 (idx2 t) 256 p 1024 q
  rw [he, total_eq, step, scratch m c p q (t.val - 1) hs, hl,
    show (t.val - 1) % 6 + 1 = 5 by omega]
  exact (Finset.sum_range_add (term m c (p.val) (q.val)) 7040 1408).symm

theorem final2 : (dats m 0 c).arrAt 2 cfg0.N = total m c :=
  (dats m 0 c).arrAt_eq_of_cover 2 _ (fun t hf => flushed2 m c t hf) fun i => (Value.covered_iff2 i).2 (by
    have h0 : (i 0).val < 256 := (i 0).isLt; have h1 : (i 1).val < 1024 := (i 1).isLt; omega)

end Array

/-! ### The reference -/

theorem reference (x0 : S8448x256.Idx → EReal) (x1 : S8448x1024.Idx → EReal) (i : S256x1024.Idx) :
    Cert.EvUkvDwRefIdeal.Read.val_main_v5 (F := Ideal) x0 x1 i = ∑ k : Fin 8448, x0 (ix2 k (i 0)) * x1 (ix2 k (i 1)) := by
  rw [Cert.EvUkvDwRefIdeal.Read.val_main_v5_apply, Cert.EvUkvDwRefIdeal.Read.val_main_v4_apply]
  refine Finset.sum_congr rfl fun k _ => ?_
  rw [mul_comm]
  exact congrArg₂ (· * ·) (congrArg x0 (at2 _ _ _ rfl rfl)) (congrArg x1 (at2 _ _ _ rfl rfl))

theorem algebraic : algebraic_EvUkvDwIdeal_EvUkvDwRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.EvUkvDwRefIdeal.Value.run m' g')⟩
  obtain ⟨a0, a1⟩ := hagree c
  obtain ⟨u, uargs⟩ := h c
  refine ⟨(u.trans (Cert.EvUkvDwRefIdeal.Read.val_main_v5_eq _ _)).trans ?_, uargs⟩
  rw [a0, a1]
  funext i
  exact reference _ _ i

theorem frame_reference : quiescent_EvUkvDwRefIdeal := fun m g _ =>
  (θ_run _ _ _).mono (fun r h => ⟨fun c => (h c).2, sem_eq_zero_of_no_sems (by decide) r.2⟩) (Cert.EvUkvDwRefIdeal.Value.run m g)

end Cert.Proof.EvUkvDw

end
-- ==== Proof.OdOutDx.lean ====
/-
  The projection out of the short convolution, gradient with respect to its input: each grid point contracts the whole of the inner axis, so its
  product is the reference's on its tile.
-/
module

public import proofs.«01_k».proof.Defs
public import proofs.«01_k».proof.Proof.Place
public import proofs.«01_k».proof.Proof.Gen.OdOutDxIdeal.Value
public import proofs.«01_k».proof.Proof.Gen.OdOutDxRefIdeal.Run
public import proofs.«01_k».proof.Proof.Gen.OdOutDxRefIdeal.Read

@[expose] public section

set_option maxRecDepth 16384

noncomputable section

namespace Cert.Proof.OdOutDx

open Idealize.ShloMosaic Idealize.ShloMosaic.TcCoe Idealize.SL.Sem
open Cert.OdOutDxIdeal Cert.OdOutDxIdeal.Gen
open Idealize.ShloMosaic.Pipeline (Dat)
open scoped BigOperators

theorem out_A {F : FTy → Type} [FloatOps F] (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x0 : Vec F S1024x1024 .bf16) (x1 : Vec F S1024x1024 .bf16) (h : cond0_0 i) (h' : cond0_1 i) :
    out0_A_2 c i a3 h3 a4 h4 a5 h5 a6 h6 h h' x0 x1 = k0_pay2 k0_pay1 x0 x1 := by
  unfold out0_A_2
  rw [View.read_writes_eq_canon _ _ _ (cover0_A_2 c i a3 h3 a4 h4 a5 h5 a6 h6 h h' x0 x1)]
  unfold kernelRun0_A
  dsimp only
  sl_unfold_words
  rw [View.canon_unit_zero hz, View.readCov_full (s := S1024x1024), View.readCov_full (s := S1024x1024)]
  simp only [View.readAt_eq_ld, h3.read_unread, h4.read_unread, View.ld_unit_zero (S := S1024x1024) hz,
    View.ld_unit_zero (S := S1024x1024) hz]

theorem pay1_apply (p : Fin 1024) (q : Fin 1024) : k0_pay1 (F := Ideal) (ix2 p q) = 0 := by
  pointwise [k0_pay1]

theorem pay2_apply (xs : Vec Ideal S1024x1024 .f32) (x0 : Vec Ideal S1024x1024 .bf16) (x1 : Vec Ideal S1024x1024 .bf16)
    (p : Fin 1024) (q : Fin 1024) :
    k0_pay2 xs x0 x1 (ix2 p q) = xs (ix2 p q) + ∑ k : Fin 1024, x0 (ix2 p k) * x1 (ix2 q k) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem lt_N (t : Fin cfg0.N) : t.val < 8 := by have := t.isLt; have h : cfg0.N = 8 := N_0; omega

/-- The call's two arguments, as it finds them. -/
abbrev A : S8192x1024.Idx → EReal := m ((c : Thread nD τ).loc main_arg0)
abbrev B : S1024x1024.Idx → EReal := m ((c : Thread nD τ).loc main_arg1)

theorem blk_a (t : Fin cfg0.N) (u : Fin 1024) (v : Fin 1024) :
    (iblk m c 0 t : Vec Ideal S1024x1024 .bf16) (ix2 u v) = A m c (ix2 ⟨1024 * (t.val) + u.val, by have := lt_N t; omega⟩ v) :=
  congrArg (A m c) (put2 (idx0 t) 1024 u 1024 v)

theorem blk_b (t : Fin cfg0.N) (u : Fin 1024) (v : Fin 1024) :
    (iblk m c 1 t : Vec Ideal S1024x1024 .bf16) (ix2 u v) = B m c (ix2 u v) :=
  congrArg (B m c) (put2 (idx1 t) 1024 u 1024 v)

/-- The whole array. -/
def total : S8192x1024.Idx → EReal := fun i => ∑ k : Fin 1024, A m c (ix2 (i 0) k) * B m c (ix2 (i 1) k)

theorem product (t : Fin cfg0.N) (p : Fin 1024) (q : Fin 1024) :
    k0_pay2 k0_pay1 (iblk m c 0 t) (iblk m c 1 t) (ix2 p q) = total m c (ix2 ⟨1024 * (t.val) + p.val, by have := lt_N t; omega⟩ q) := by
  rw [pay2_apply, pay1_apply, zero_add]
  exact Finset.sum_congr rfl fun k _ => congrArg₂ _ (blk_a m c t p k) (blk_b m c t q k)

theorem emb2 (t : Fin cfg0.N) (p : Fin 1024) (q : Fin 1024) :
    ((cfg0.win 2).blk t).view.emb (ix2 p q) = ix2 ⟨1024 * (t.val) + p.val, by have := lt_N t; omega⟩ q :=
  put2 (idx2 t) 1024 p 1024 q

theorem flushed2 (t : Fin cfg0.N) :
    (dats m 0 c).flushed 2 t = ((cfg0.win 2).blk t).view.read (Elt Ideal) (total m c) := by
  rw [Value.flushed2_A m c t, out_A]
  funext j
  obtain ⟨p, q, rfl⟩ : ∃ (p : Fin 1024) (q : Fin 1024), j = ix2 p q := ⟨j 0, j 1, eq_ix2 j⟩
  exact (product m c t p q).trans (congrArg (total m c) (emb2 t p q).symm)

/-- The point that writes an element back. -/
def pt (i : S8192x1024.Idx) : Fin cfg0.N :=
  ⟨(i 0).val / 1024, by
    have h0 : (i 0).val < 8192 := (i 0).isLt
    have h1 : (i 1).val < 1024 := (i 1).isLt
    have h : cfg0.N = 8 := N_0
    omega⟩

theorem cover2 (i : S8192x1024.Idx) :
    ∃ t : Fin cfg0.N, (cfg0.win 2).flush t = true ∧ i ∈ ((cfg0.win 2).blk t).view.set := by
  refine ⟨pt i, flush0_2 _, mem_at _ (ix2 ⟨(i 0).val % 1024, Nat.mod_lt _ (by norm_num)⟩ ⟨(i 1).val % 1024, Nat.mod_lt _ (by norm_num)⟩ : S1024x1024.Idx) ?_⟩
  have h0 : (i 0).val < 8192 := (i 0).isLt
  have h1 : (i 1).val < 1024 := (i 1).isLt
  have hp : (pt i).val = (i 0).val / 1024 := rfl
  exact (put2 (a := i 0) (b := i 1) (idx2 (pt i)) 1024 ((i 0).val % 1024) 1024 ((i 1).val % 1024)).trans (eq_ix2 i).symm

theorem final2 : (dats m 0 c).arrAt 2 cfg0.N = total m c :=
  (dats m 0 c).arrAt_eq_of_cover 2 _ (fun t _ => flushed2 m c t) cover2

end Array

/-! ### The reference -/

theorem reference (x0 : S8192x1024.Idx → EReal) (x1 : S1024x1024.Idx → EReal) (i : S8192x1024.Idx) :
    Cert.OdOutDxRefIdeal.Read.val_main_v4 (F := Ideal) x0 x1 i = ∑ k : Fin 1024, x0 (ix2 (i 0) k) * x1 (ix2 (i 1) k) := by
  rw [Cert.OdOutDxRefIdeal.Read.val_main_v4_apply]
  refine Finset.sum_congr rfl fun k _ => ?_
  exact congrArg₂ (· * ·) (congrArg x0 (at2 _ _ _ rfl rfl)) (congrArg x1 (at2 _ _ _ rfl rfl))

theorem algebraic : algebraic_OdOutDxIdeal_OdOutDxRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.OdOutDxRefIdeal.Value.run m' g')⟩
  obtain ⟨a0, a1⟩ := hagree c
  obtain ⟨u, uargs⟩ := h c
  refine ⟨(u.trans (Cert.OdOutDxRefIdeal.Read.val_main_v4_eq _ _)).trans ?_, uargs⟩
  rw [a0, a1]
  funext i
  exact reference _ _ i

theorem frame_reference : quiescent_OdOutDxRefIdeal := fun m g _ =>
  (θ_run _ _ _).mono (fun r h => ⟨fun c => (h c).2, sem_eq_zero_of_no_sems (by decide) r.2⟩) (Cert.OdOutDxRefIdeal.Value.run m g)

end Cert.Proof.OdOutDx

end
-- ==== Proof.OdOutDw.lean ====
/-
  The projection out of the short convolution, gradient with respect to its weights: the call adds the product of one tile of the contracted axis after
  another in its scratch; the reference contracts the axis at once.
-/
module

public import proofs.«01_k».proof.Defs
public import proofs.«01_k».proof.Proof.Place
public import proofs.«01_k».proof.Proof.Gen.OdOutDwIdeal.Value
public import proofs.«01_k».proof.Proof.Gen.OdOutDwRefIdeal.Run
public import proofs.«01_k».proof.Proof.Gen.OdOutDwRefIdeal.Read

@[expose] public section

set_option maxRecDepth 16384

noncomputable section

namespace Cert.Proof.OdOutDw

open Idealize.ShloMosaic Idealize.ShloMosaic.TcCoe Idealize.SL.Sem
open Cert.OdOutDwIdeal Cert.OdOutDwIdeal.Gen
open Idealize.ShloMosaic.Pipeline (Dat)
open scoped BigOperators

section Pieces
variable {F : FTy → Type} [FloatOps F]
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole) (x0 : Vec F S2048x1024 .bf16) (x1 : Vec F S2048x1024 .bf16)
  (xs : Vec F S1024x1024 .f32)

theorem acc_A (h : cond0_0 i) (h' : ¬cond0_1 i) :
    sout0_A_0 c i a3 h3 a4 h4 a5 h5 a6 h6 h h' x0 x1 = k0_pay2 k0_pay1 x0 x1 := by
  unfold sout0_A_0
  rw [View.read_writes_eq_canon _ _ _ (scover0_A_0 c i a3 h3 a4 h4 a5 h5 a6 h6 h h' x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz,
    View.ld_unit_zero (S := S2048x1024) hz]

theorem acc_B (h : ¬cond0_0 i) (h' : ¬cond0_1 i) :
    sout0_B_0 c i a3 h3 a4 h4 a5 h5 a6 h6 h h' x0 x1 xs = k0_pay2 xs x0 x1 := by
  unfold sout0_B_0
  rw [View.read_writes_eq_canon _ _ _ (scover0_B_0 c i a3 h3 a4 h4 a5 h5 a6 h6 h h' x0 x1 xs)]
  unfold kernelRun0_B
  dsimp only
  sl_unfold_words
  rw [View.canon_unit_zero hz]
  simp only [View.readAt_eq_ld, h3.read_unread, h4.read_unread, h6.read_unread, View.ld_unit_zero (S := S2048x1024) hz,
    View.ld_unit_zero (S := S2048x1024) hz, View.ld_unit_zero (S := S1024x1024) hz]

theorem acc_C (h : ¬cond0_0 i) (h' : cond0_1 i) :
    sout0_C_0 c i a3 h3 a4 h4 a5 h5 a6 h6 h h' x0 x1 xs = k0_pay2 xs x0 x1 := by
  unfold sout0_C_0
  rw [View.read_writes_eq_canon _ _ _ (scover0_C_0 c i a3 h3 a4 h4 a5 h5 a6 h6 h h' x0 x1 xs)]
  unfold kernelRun0_C
  dsimp only
  sl_unfold_words
  rw [View.canon_unit_zero hz]
  simp only [View.readAt_eq_ld, h3.read_unread, h4.read_unread, h6.read_unread, View.ld_unit_zero (S := S2048x1024) hz,
    View.ld_unit_zero (S := S2048x1024) hz, View.ld_unit_zero (S := S1024x1024) hz]

theorem out_C (h : ¬cond0_0 i) (h' : cond0_1 i) :
    out0_C_2 c i a3 h3 a4 h4 a5 h5 a6 h6 h h' x0 x1 xs = k0_pay2 xs x0 x1 := by
  unfold out0_C_2
  rw [View.read_writes_eq_canon _ _ _ (cover0_C_2 c i a3 h3 a4 h4 a5 h5 a6 h6 h h' x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz,
    View.ld_unit_zero (S := S2048x1024) hz, View.ld_unit_zero (S := S1024x1024) hz]

end Pieces

theorem pay1_apply (p : Fin 1024) (q : Fin 1024) : k0_pay1 (F := Ideal) (ix2 p q) = 0 := by
  pointwise [k0_pay1]

theorem pay2_apply (xs : Vec Ideal S1024x1024 .f32) (x0 : Vec Ideal S2048x1024 .bf16) (x1 : Vec Ideal S2048x1024 .bf16)
    (p : Fin 1024) (q : Fin 1024) :
    k0_pay2 xs x0 x1 (ix2 p q) = xs (ix2 p q) + ∑ k : Fin 2048, x0 (ix2 k p) * x1 (ix2 k q) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

theorem lt_N (t : Fin cfg0.N) : t.val < 4 := by have := t.isLt; have h : cfg0.N = 4 := N_0; omega

/-- The call's two arguments, as it finds them. -/
abbrev A : S8192x1024.Idx → EReal := m ((c : Thread nD τ).loc main_arg0)
abbrev B : S8192x1024.Idx → EReal := m ((c : Thread nD τ).loc main_arg1)

theorem blk_a (t : Fin cfg0.N) (u : Fin 2048) (v : Fin 1024) :
    (iblk m c 0 t : Vec Ideal S2048x1024 .bf16) (ix2 u v) = A m c (ix2 ⟨2048 * (t.val % 4) + u.val, by have := lt_N t; omega⟩ v) :=
  congrArg (A m c) (put2 (idx0 t) 2048 u 1024 v)

theorem blk_b (t : Fin cfg0.N) (u : Fin 2048) (v : Fin 1024) :
    (iblk m c 1 t : Vec Ideal S2048x1024 .bf16) (ix2 u v) = B m c (ix2 ⟨2048 * (t.val % 4) + u.val, by have := lt_N t; omega⟩ v) :=
  congrArg (B m c) (put2 (idx1 t) 2048 u 1024 v)

/-- The whole array. -/
def total : S1024x1024.Idx → EReal := fun i => ∑ k : Fin 8192, A m c (ix2 k (i 0)) * B m c (ix2 k (i 1))

/-- What position `s` of the contracted axis contributes at row `p`, column `q`. -/
def term (p q s : ℕ) : EReal :=
  if h : p < 1024 ∧ q < 1024 ∧ s < 8192 then A m c (ix2 ⟨s, h.2.2⟩ ⟨p, h.1⟩) * B m c (ix2 ⟨s, h.2.2⟩ ⟨q, h.2.1⟩) else 0

theorem step (t : Fin cfg0.N) (xs : Vec Ideal S1024x1024 .f32) (p : Fin 1024) (q : Fin 1024) :
    k0_pay2 xs (iblk m c 0 t) (iblk m c 1 t) (ix2 p q)
      = xs (ix2 p q) + ∑ k ∈ Finset.range 2048, term m c (p.val) (q.val) (2048 * (t.val % 4) + k) := by
  have ht := lt_N t
  rw [pay2_apply, ← Fin.sum_univ_eq_sum_range (fun k => term m c (p.val) (q.val) (2048 * (t.val % 4) + k)) 2048]
  refine congrArg _ (Finset.sum_congr rfl fun k _ => ?_)
  unfold term
  rw [dif_pos ⟨by omega, by omega, by omega⟩]
  exact congrArg₂ _ (blk_a m c t k p) (blk_b m c t k q)

theorem total_eq (p : Fin 1024) (q : Fin 1024) :
    total m c (ix2 p q) = ∑ s ∈ Finset.range 8192, term m c p.val q.val s := by
  rw [← Fin.sum_univ_eq_sum_range (term m c p.val q.val) 8192]
  refine Finset.sum_congr rfl fun s _ => ?_
  unfold term
  rw [dif_pos ⟨p.isLt, q.isLt, s.isLt⟩]
  rfl

/-- After a point the scratch holds the positions seen so far. -/
theorem scratch (p : Fin 1024) (q : Fin 1024) : ∀ (n : ℕ) (h : n < cfg0.N),
    (outsAt0 m c n h).2 (ix2 p q) = ∑ s ∈ Finset.range (2048 * (n % 4 + 1)), term m c (p.val) (q.val) s := by
  intro n
  induction n with
  | zero =>
    intro h
    rw [outsAt0_A m c ⟨0, h⟩ rfl (by dsimp only; omega)]
    dsimp only
    rw [acc_A, step, pay1_apply, zero_add]
    exact Finset.sum_congr rfl fun k _ => congrArg _ (Nat.zero_add k)
  | succ n ih =>
    intro h
    by_cases h0 : (n + 1) % 4 = 0
    · rw [outsAt0_A m c ⟨n + 1, h⟩ h0 (by dsimp only; omega)]
      dsimp only
      rw [acc_A, step, pay1_apply, zero_add]
      dsimp only
      rw [h0]
      exact Finset.sum_congr rfl fun k _ => congrArg _ (Nat.zero_add k)
    · have e := ih (Nat.lt_of_succ_lt h)
      have hm : (n + 1) % 4 = n % 4 + 1 := by omega
      by_cases h1 : (n + 1) % 4 = 3
      · rw [outsAt0_C m c ⟨n + 1, h⟩ h0 h1]
        dsimp only
        rw [acc_C, step]
        dsimp only
        rw [hm, Nat.mul_add 2048 (n % 4 + 1) 1, Nat.mul_one, Finset.sum_range_add]
        exact congrArg (· + _) e
      · rw [outsAt0_B m c ⟨n + 1, h⟩ h0 h1]
        dsimp only
        rw [acc_B, step]
        dsimp only
        rw [hm, Nat.mul_add 2048 (n % 4 + 1) 1, Nat.mul_one, Finset.sum_range_add]
        exact congrArg (· + _) e

theorem flushed2 (t : Fin cfg0.N) (hf : (cfg0.win 2).flush t = true) :
    (dats m 0 c).flushed 2 t = ((cfg0.win 2).blk t).view.read (Elt Ideal) (total m c) := by
  have ht := lt_N t
  have hl : t.val % 4 = 3 := (flush0_2 t).mp hf
  obtain ⟨e0, e1⟩ := idx2 t
  have hs : t.val - 1 < cfg0.N := Nat.lt_of_le_of_lt (Nat.sub_le _ _) t.isLt
  rw [Value.flushed2_C m c t (by omega) hl, out_C]
  funext j
  obtain ⟨p, q, rfl⟩ : ∃ (p : Fin 1024) (q : Fin 1024), j = ix2 p q := ⟨j 0, j 1, eq_ix2 j⟩
  show k0_pay2 (F := Ideal) _ _ _ (ix2 p q) = total m c (((cfg0.win 2).blk t).view.emb (ix2 p q))
  have he : ((cfg0.win 2).blk t).view.emb (ix2 p q) = ix2 p q :=
    put2 (idx2 t) 1024 p 1024 q
  rw [he, total_eq, step, scratch m c p q (t.val - 1) hs, hl,
    show (t.val - 1) % 4 + 1 = 3 by omega]
  exact (Finset.sum_range_add (term m c (p.val) (q.val)) 6144 2048).symm

theorem final2 : (dats m 0 c).arrAt 2 cfg0.N = total m c :=
  (dats m 0 c).arrAt_eq_of_cover 2 _ (fun t hf => flushed2 m c t hf) fun i => (Value.covered_iff2 i).2 (by
    have h0 : (i 0).val < 1024 := (i 0).isLt; have h1 : (i 1).val < 1024 := (i 1).isLt; omega)

end Array

/-! ### The reference -/

theorem reference (x0 : S8192x1024.Idx → EReal) (x1 : S8192x1024.Idx → EReal) (i : S1024x1024.Idx) :
    Cert.OdOutDwRefIdeal.Read.val_main_v5 (F := Ideal) x0 x1 i = ∑ k : Fin 8192, x0 (ix2 k (i 0)) * x1 (ix2 k (i 1)) := by
  rw [Cert.OdOutDwRefIdeal.Read.val_main_v5_apply, Cert.OdOutDwRefIdeal.Read.val_main_v4_apply]
  refine Finset.sum_congr rfl fun k _ => ?_
  rw [mul_comm]
  exact congrArg₂ (· * ·) (congrArg x0 (at2 _ _ _ rfl rfl)) (congrArg x1 (at2 _ _ _ rfl rfl))

theorem algebraic : algebraic_OdOutDwIdeal_OdOutDwRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.OdOutDwRefIdeal.Value.run m' g')⟩
  obtain ⟨a0, a1⟩ := hagree c
  obtain ⟨u, uargs⟩ := h c
  refine ⟨(u.trans (Cert.OdOutDwRefIdeal.Read.val_main_v5_eq _ _)).trans ?_, uargs⟩
  rw [a0, a1]
  funext i
  exact reference _ _ i

theorem frame_reference : quiescent_OdOutDwRefIdeal := fun m g _ =>
  (θ_run _ _ _).mono (fun r h => ⟨fun c => (h c).2, sem_eq_zero_of_no_sems (by decide) r.2⟩) (Cert.OdOutDwRefIdeal.Value.run m g)

end Cert.Proof.OdOutDw

end
-- ==== Proof.EvOutDx.lean ====
/-
  The projection out of the even layer's mixers, gradient with respect to its input: each grid point contracts the whole of the inner axis, so its
  product is the reference's on its tile.
-/
module

public import proofs.«01_k».proof.Defs
public import proofs.«01_k».proof.Proof.Place
public import proofs.«01_k».proof.Proof.Gen.EvOutDxIdeal.Value
public import proofs.«01_k».proof.Proof.Gen.EvOutDxRefIdeal.Run
public import proofs.«01_k».proof.Proof.Gen.EvOutDxRefIdeal.Read

@[expose] public section

set_option maxRecDepth 16384

noncomputable section

namespace Cert.Proof.EvOutDx

open Idealize.ShloMosaic Idealize.ShloMosaic.TcCoe Idealize.SL.Sem
open Cert.EvOutDxIdeal Cert.EvOutDxIdeal.Gen
open Idealize.ShloMosaic.Pipeline (Dat)
open scoped BigOperators

theorem out_A {F : FTy → Type} [FloatOps F] (c : Dev nD) (i : grid0.Coords)
    (a3 : Memref sig .tc .vmem S1024x1024 .bf16) (h3 : a3.IsWhole) (a4 : Memref sig .tc .vmem S768x1024 .bf16) (h4 : a4.IsWhole)
    (a5 : Memref sig .tc .vmem S1024x768 .f32) (h5 : a5.IsWhole) (a6 : Memref sig .tc .vmem S1024x768 .f32) (h6 : a6.IsWhole)
    (x0 : Vec F S1024x1024 .bf16) (x1 : Vec F S768x1024 .bf16) (h : cond0_0 i) (h' : cond0_1 i) :
    out0_A_2 c i a3 h3 a4 h4 a5 h5 a6 h6 h h' x0 x1 = k0_pay2 k0_pay1 x0 x1 := by
  unfold out0_A_2
  rw [View.read_writes_eq_canon _ _ _ (cover0_A_2 c i a3 h3 a4 h4 a5 h5 a6 h6 h h' x0 x1)]
  unfold kernelRun0_A
  dsimp only
  sl_unfold_words
  rw [View.canon_unit_zero hz, View.readCov_full (s := S1024x768), View.readCov_full (s := S1024x768)]
  simp only [View.readAt_eq_ld, h3.read_unread, h4.read_unread, View.ld_unit_zero (S := S1024x1024) hz,
    View.ld_unit_zero (S := S768x1024) hz]

theorem pay1_apply (p : Fin 1024) (q : Fin 768) : k0_pay1 (F := Ideal) (ix2 p q) = 0 := by
  pointwise [k0_pay1]

theorem pay2_apply (xs : Vec Ideal S1024x768 .f32) (x0 : Vec Ideal S1024x1024 .bf16) (x1 : Vec Ideal S768x1024 .bf16)
    (p : Fin 1024) (q : Fin 768) :
    k0_pay2 xs x0 x1 (ix2 p q) = xs (ix2 p q) + ∑ k : Fin 1024, x0 (ix2 p k) * x1 (ix2 q k) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)
theorem idx2 : ∀ t : Fin cfg0.N, win0_2.index t (0 : Fin 2) = t.val / 2 ∧ win0_2.index t (1 : Fin 2) = t.val % 2 :=
  (by decide +kernel : ∀ t : Fin grid0.N, _)

theorem lt_N (t : Fin cfg0.N) : t.val < 16 := by have := t.isLt; have h : cfg0.N = 16 := N_0; omega

/-- The call's two arguments, as it finds them. -/
abbrev A : S8192x1024.Idx → EReal := m ((c : Thread nD τ).loc main_arg0)
abbrev B : S1536x1024.Idx → EReal := m ((c : Thread nD τ).loc main_arg1)

theorem blk_a (t : Fin cfg0.N) (u : Fin 1024) (v : Fin 1024) :
    (iblk m c 0 t : Vec Ideal S1024x1024 .bf16) (ix2 u v) = A m c (ix2 ⟨1024 * (t.val / 2) + u.val, by have := lt_N t; omega⟩ v) :=
  congrArg (A m c) (put2 (idx0 t) 1024 u 1024 v)

theorem blk_b (t : Fin cfg0.N) (u : Fin 768) (v : Fin 1024) :
    (iblk m c 1 t : Vec Ideal S768x1024 .bf16) (ix2 u v) = B m c (ix2 ⟨768 * (t.val % 2) + u.val, by have := lt_N t; omega⟩ v) :=
  congrArg (B m c) (put2 (idx1 t) 768 u 1024 v)

/-- The whole array. -/
def total : S8192x1536.Idx → EReal := fun i => ∑ k : Fin 1024, A m c (ix2 (i 0) k) * B m c (ix2 (i 1) k)

theorem product (t : Fin cfg0.N) (p : Fin 1024) (q : Fin 768) :
    k0_pay2 k0_pay1 (iblk m c 0 t) (iblk m c 1 t) (ix2 p q) = total m c (ix2 ⟨1024 * (t.val / 2) + p.val, by have := lt_N t; omega⟩ ⟨768 * (t.val % 2) + q.val, by have := lt_N t; omega⟩) := by
  rw [pay2_apply, pay1_apply, zero_add]
  exact Finset.sum_congr rfl fun k _ => congrArg₂ _ (blk_a m c t p k) (blk_b m c t q k)

theorem emb2 (t : Fin cfg0.N) (p : Fin 1024) (q : Fin 768) :
    ((cfg0.win 2).blk t).view.emb (ix2 p q) = ix2 ⟨1024 * (t.val / 2) + p.val, by have := lt_N t; omega⟩ ⟨768 * (t.val % 2) + q.val, by have := lt_N t; omega⟩ :=
  put2 (idx2 t) 1024 p 768 q

theorem flushed2 (t : Fin cfg0.N) :
    (dats m 0 c).flushed 2 t = ((cfg0.win 2).blk t).view.read (Elt Ideal) (total m c) := by
  rw [Value.flushed2_A m c t, out_A]
  funext j
  obtain ⟨p, q, rfl⟩ : ∃ (p : Fin 1024) (q : Fin 768), j = ix2 p q := ⟨j 0, j 1, eq_ix2 j⟩
  exact (product m c t p q).trans (congrArg (total m c) (emb2 t p q).symm)

/-- The point that writes an element back. -/
def pt (i : S8192x1536.Idx) : Fin cfg0.N :=
  ⟨(i 0).val / 1024 * 2 + (i 1).val / 768, by
    have h0 : (i 0).val < 8192 := (i 0).isLt
    have h1 : (i 1).val < 1536 := (i 1).isLt
    have h : cfg0.N = 16 := N_0
    omega⟩

theorem cover2 (i : S8192x1536.Idx) :
    ∃ t : Fin cfg0.N, (cfg0.win 2).flush t = true ∧ i ∈ ((cfg0.win 2).blk t).view.set := by
  refine ⟨pt i, flush0_2 _, mem_at _ (ix2 ⟨(i 0).val % 1024, Nat.mod_lt _ (by norm_num)⟩ ⟨(i 1).val % 768, Nat.mod_lt _ (by norm_num)⟩ : S1024x768.Idx) ?_⟩
  have h0 : (i 0).val < 8192 := (i 0).isLt
  have h1 : (i 1).val < 1536 := (i 1).isLt
  have hp : (pt i).val = (i 0).val / 1024 * 2 + (i 1).val / 768 := rfl
  exact (put2 (a := i 0) (b := i 1) (idx2 (pt i)) 1024 ((i 0).val % 1024) 768 ((i 1).val % 768)).trans (eq_ix2 i).symm

theorem final2 : (dats m 0 c).arrAt 2 cfg0.N = total m c :=
  (dats m 0 c).arrAt_eq_of_cover 2 _ (fun t _ => flushed2 m c t) cover2

end Array

/-! ### The reference -/

theorem reference (x0 : S8192x1024.Idx → EReal) (x1 : S1536x1024.Idx → EReal) (i : S8192x1536.Idx) :
    Cert.EvOutDxRefIdeal.Read.val_main_v4 (F := Ideal) x0 x1 i = ∑ k : Fin 1024, x0 (ix2 (i 0) k) * x1 (ix2 (i 1) k) := by
  rw [Cert.EvOutDxRefIdeal.Read.val_main_v4_apply]
  refine Finset.sum_congr rfl fun k _ => ?_
  exact congrArg₂ (· * ·) (congrArg x0 (at2 _ _ _ rfl rfl)) (congrArg x1 (at2 _ _ _ rfl rfl))

theorem algebraic : algebraic_EvOutDxIdeal_EvOutDxRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.EvOutDxRefIdeal.Value.run m' g')⟩
  obtain ⟨a0, a1⟩ := hagree c
  obtain ⟨u, uargs⟩ := h c
  refine ⟨(u.trans (Cert.EvOutDxRefIdeal.Read.val_main_v4_eq _ _)).trans ?_, uargs⟩
  rw [a0, a1]
  funext i
  exact reference _ _ i

theorem frame_reference : quiescent_EvOutDxRefIdeal := fun m g _ =>
  (θ_run _ _ _).mono (fun r h => ⟨fun c => (h c).2, sem_eq_zero_of_no_sems (by decide) r.2⟩) (Cert.EvOutDxRefIdeal.Value.run m g)

end Cert.Proof.EvOutDx

end
-- ==== Proof.EvOutDw.lean ====
/-
  The projection out of the even layer's mixers, gradient with respect to its weights: the call adds the product of one tile of the contracted axis after
  another in its scratch; the reference contracts the axis at once.
-/
module

public import proofs.«01_k».proof.Defs
public import proofs.«01_k».proof.Proof.Place
public import proofs.«01_k».proof.Proof.Gen.EvOutDwIdeal.Value
public import proofs.«01_k».proof.Proof.Gen.EvOutDwRefIdeal.Run
public import proofs.«01_k».proof.Proof.Gen.EvOutDwRefIdeal.Read

@[expose] public section

set_option maxRecDepth 16384

noncomputable section

namespace Cert.Proof.EvOutDw

open Idealize.ShloMosaic Idealize.ShloMosaic.TcCoe Idealize.SL.Sem
open Cert.EvOutDwIdeal Cert.EvOutDwIdeal.Gen
open Idealize.ShloMosaic.Pipeline (Dat)
open scoped BigOperators

section Pieces
variable {F : FTy → Type} [FloatOps F]
variable (c : Dev nD) (i : grid0.Coords) (a3 : Memref sig .tc .vmem S2048x768 .bf16) (h3 : a3.IsWhole)
  (a4 : Memref sig .tc .vmem S2048x1024 .bf16) (h4 : a4.IsWhole) (a5 : Memref sig .tc .vmem S768x1024 .f32) (h5 : a5.IsWhole)
  (a6 : Memref sig .tc .vmem S768x1024 .f32) (h6 : a6.IsWhole) (x0 : Vec F S2048x768 .bf16) (x1 : Vec F S2048x1024 .bf16)
  (xs : Vec F S768x1024 .f32)

theorem acc_A (h : cond0_0 i) (h' : ¬cond0_1 i) :
    sout0_A_0 c i a3 h3 a4 h4 a5 h5 a6 h6 h h' x0 x1 = k0_pay2 k0_pay1 x0 x1 := by
  unfold sout0_A_0
  rw [View.read_writes_eq_canon _ _ _ (scover0_A_0 c i a3 h3 a4 h4 a5 h5 a6 h6 h h' x0 x1)]
  unfold kernelRun0_A
  dsimp only
  sl_unfold_words
  rw [View.canon_cons_unit_zero (S := S768x1024) hz, View.readCov_unit_zero (S := S768x1024) _ hz]
  simp only [View.readAt_eq_ld, h3.read_unread, h4.read_unread, View.ld_unit_zero (S := S2048x768) hz,
    View.ld_unit_zero (S := S2048x1024) hz]

theorem acc_B (h : ¬cond0_0 i) (h' : ¬cond0_1 i) :
    sout0_B_0 c i a3 h3 a4 h4 a5 h5 a6 h6 h h' x0 x1 xs = k0_pay2 xs x0 x1 := by
  unfold sout0_B_0
  rw [View.read_writes_eq_canon _ _ _ (scover0_B_0 c i a3 h3 a4 h4 a5 h5 a6 h6 h h' x0 x1 xs)]
  unfold kernelRun0_B
  dsimp only
  sl_unfold_words
  rw [View.canon_unit_zero hz]
  simp only [View.readAt_eq_ld, h3.read_unread, h4.read_unread, h6.read_unread, View.ld_unit_zero (S := S2048x768) hz,
    View.ld_unit_zero (S := S2048x1024) hz, View.ld_unit_zero (S := S768x1024) hz]

theorem acc_C (h : ¬cond0_0 i) (h' : cond0_1 i) :
    sout0_C_0 c i a3 h3 a4 h4 a5 h5 a6 h6 h h' x0 x1 xs = k0_pay2 xs x0 x1 := by
  unfold sout0_C_0
  rw [View.read_writes_eq_canon _ _ _ (scover0_C_0 c i a3 h3 a4 h4 a5 h5 a6 h6 h h' x0 x1 xs)]
  unfold kernelRun0_C
  dsimp only
  sl_unfold_words
  rw [View.canon_unit_zero hz]
  simp only [View.readAt_eq_ld, h3.read_unread, h4.read_unread, h6.read_unread, View.ld_unit_zero (S := S2048x768) hz,
    View.ld_unit_zero (S := S2048x1024) hz, View.ld_unit_zero (S := S768x1024) hz]

theorem out_C (h : ¬cond0_0 i) (h' : cond0_1 i) :
    out0_C_2 c i a3 h3 a4 h4 a5 h5 a6 h6 h h' x0 x1 xs = k0_pay2 xs x0 x1 := by
  unfold out0_C_2
  rw [View.read_writes_eq_canon _ _ _ (cover0_C_2 c i a3 h3 a4 h4 a5 h5 a6 h6 h h' x0 x1 xs)]
  unfold kernelRun0_C
  dsimp only
  sl_unfold_words
  rw [View.canon_unit_zero hz, View.readCov_unit_zero (S := S768x1024) _ hz]
  simp only [View.readAt_eq_ld, h3.read_unread, h4.read_unread, h6.read_unread, View.ld_unit_zero (S := S2048x768) hz,
    View.ld_unit_zero (S := S2048x1024) hz, View.ld_unit_zero (S := S768x1024) hz]

end Pieces

theorem pay1_apply (p : Fin 768) (q : Fin 1024) : k0_pay1 (F := Ideal) (ix2 p q) = 0 := by
  pointwise [k0_pay1]

theorem pay2_apply (xs : Vec Ideal S768x1024 .f32) (x0 : Vec Ideal S2048x768 .bf16) (x1 : Vec Ideal S2048x1024 .bf16)
    (p : Fin 768) (q : Fin 1024) :
    k0_pay2 xs x0 x1 (ix2 p q) = xs (ix2 p q) + ∑ k : Fin 2048, x0 (ix2 k p) * x1 (ix2 k q) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)

theorem lt_N (t : Fin cfg0.N) : t.val < 8 := by have := t.isLt; have h : cfg0.N = 8 := N_0; omega

/-- The call's two arguments, as it finds them. -/
abbrev A : S8192x1536.Idx → EReal := m ((c : Thread nD τ).loc main_arg0)
abbrev B : S8192x1024.Idx → EReal := m ((c : Thread nD τ).loc main_arg1)

theorem blk_a (t : Fin cfg0.N) (u : Fin 2048) (v : Fin 768) :
    (iblk m c 0 t : Vec Ideal S2048x768 .bf16) (ix2 u v) = A m c (ix2 ⟨2048 * (t.val % 4) + u.val, by have := lt_N t; omega⟩ ⟨768 * (t.val / 4) + v.val, by have := lt_N t; omega⟩) :=
  congrArg (A m c) (put2 (idx0 t) 2048 u 768 v)

theorem blk_b (t : Fin cfg0.N) (u : Fin 2048) (v : Fin 1024) :
    (iblk m c 1 t : Vec Ideal S2048x1024 .bf16) (ix2 u v) = B m c (ix2 ⟨2048 * (t.val % 4) + u.val, by have := lt_N t; omega⟩ v) :=
  congrArg (B m c) (put2 (idx1 t) 2048 u 1024 v)

/-- The whole array. -/
def total : S1536x1024.Idx → EReal := fun i => ∑ k : Fin 8192, A m c (ix2 k (i 0)) * B m c (ix2 k (i 1))

/-- What position `s` of the contracted axis contributes at row `p`, column `q`. -/
def term (p q s : ℕ) : EReal :=
  if h : p < 1536 ∧ q < 1024 ∧ s < 8192 then A m c (ix2 ⟨s, h.2.2⟩ ⟨p, h.1⟩) * B m c (ix2 ⟨s, h.2.2⟩ ⟨q, h.2.1⟩) else 0

theorem step (t : Fin cfg0.N) (xs : Vec Ideal S768x1024 .f32) (p : Fin 768) (q : Fin 1024) :
    k0_pay2 xs (iblk m c 0 t) (iblk m c 1 t) (ix2 p q)
      = xs (ix2 p q) + ∑ k ∈ Finset.range 2048, term m c (768 * (t.val / 4) + p.val) (q.val) (2048 * (t.val % 4) + k) := by
  have ht := lt_N t
  rw [pay2_apply, ← Fin.sum_univ_eq_sum_range (fun k => term m c (768 * (t.val / 4) + p.val) (q.val) (2048 * (t.val % 4) + k)) 2048]
  refine congrArg _ (Finset.sum_congr rfl fun k _ => ?_)
  unfold term
  rw [dif_pos ⟨by omega, by omega, by omega⟩]
  exact congrArg₂ _ (blk_a m c t k p) (blk_b m c t k q)

theorem total_eq (p : Fin 1536) (q : Fin 1024) :
    total m c (ix2 p q) = ∑ s ∈ Finset.range 8192, term m c p.val q.val s := by
  rw [← Fin.sum_univ_eq_sum_range (term m c p.val q.val) 8192]
  refine Finset.sum_congr rfl fun s _ => ?_
  unfold term
  rw [dif_pos ⟨p.isLt, q.isLt, s.isLt⟩]
  rfl

/-- After a point the scratch holds the positions seen so far. -/
theorem scratch (p : Fin 768) (q : Fin 1024) : ∀ (n : ℕ) (h : n < cfg0.N),
    (outsAt0 m c n h).2 (ix2 p q) = ∑ s ∈ Finset.range (2048 * (n % 4 + 1)), term m c (768 * (n / 4) + p.val) (q.val) s := by
  intro n
  induction n with
  | zero =>
    intro h
    rw [outsAt0_A m c ⟨0, h⟩ rfl (by dsimp only; omega)]
    dsimp only
    rw [acc_A, step, pay1_apply, zero_add]
    exact Finset.sum_congr rfl fun k _ => congrArg _ (Nat.zero_add k)
  | succ n ih =>
    intro h
    by_cases h0 : (n + 1) % 4 = 0
    · rw [outsAt0_A m c ⟨n + 1, h⟩ h0 (by dsimp only; omega)]
      dsimp only
      rw [acc_A, step, pay1_apply, zero_add]
      dsimp only
      rw [h0]
      exact Finset.sum_congr rfl fun k _ => congrArg _ (Nat.zero_add k)
    · have e := ih (Nat.lt_of_succ_lt h)
      have hd : (n + 1) / 4 = n / 4 := by omega
      have hm : (n + 1) % 4 = n % 4 + 1 := by omega
      by_cases h1 : (n + 1) % 4 = 3
      · rw [outsAt0_C m c ⟨n + 1, h⟩ h0 h1]
        dsimp only
        rw [acc_C, step]
        dsimp only
        rw [hd, hm, Nat.mul_add 2048 (n % 4 + 1) 1, Nat.mul_one, Finset.sum_range_add]
        exact congrArg (· + _) e
      · rw [outsAt0_B m c ⟨n + 1, h⟩ h0 h1]
        dsimp only
        rw [acc_B, step]
        dsimp only
        rw [hd, hm, Nat.mul_add 2048 (n % 4 + 1) 1, Nat.mul_one, Finset.sum_range_add]
        exact congrArg (· + _) e

theorem flushed2 (t : Fin cfg0.N) (hf : (cfg0.win 2).flush t = true) :
    (dats m 0 c).flushed 2 t = ((cfg0.win 2).blk t).view.read (Elt Ideal) (total m c) := by
  have ht := lt_N t
  have hl : t.val % 4 = 3 := (flush0_2 t).mp hf
  obtain ⟨e0, e1⟩ := idx2 t
  have hs : t.val - 1 < cfg0.N := Nat.lt_of_le_of_lt (Nat.sub_le _ _) t.isLt
  rw [Value.flushed2_C m c t (by omega) hl, out_C]
  funext j
  obtain ⟨p, q, rfl⟩ : ∃ (p : Fin 768) (q : Fin 1024), j = ix2 p q := ⟨j 0, j 1, eq_ix2 j⟩
  show k0_pay2 (F := Ideal) _ _ _ (ix2 p q) = total m c (((cfg0.win 2).blk t).view.emb (ix2 p q))
  have he : ((cfg0.win 2).blk t).view.emb (ix2 p q) = ix2 ⟨768 * (t.val / 4) + p.val, by have := lt_N t; omega⟩ q :=
    put2 (idx2 t) 768 p 1024 q
  rw [he, total_eq, step, scratch m c p q (t.val - 1) hs, hl,
    show (t.val - 1) % 4 + 1 = 3 by omega, show (t.val - 1) / 4 = t.val / 4 by omega]
  exact (Finset.sum_range_add (term m c (768 * (t.val / 4) + p.val) (q.val)) 6144 2048).symm

theorem final2 : (dats m 0 c).arrAt 2 cfg0.N = total m c :=
  (dats m 0 c).arrAt_eq_of_cover 2 _ (fun t hf => flushed2 m c t hf) fun i => (Value.covered_iff2 i).2 (by
    have h0 : (i 0).val < 1536 := (i 0).isLt; have h1 : (i 1).val < 1024 := (i 1).isLt; omega)

end Array

/-! ### The reference -/

theorem reference (x0 : S8192x1536.Idx → EReal) (x1 : S8192x1024.Idx → EReal) (i : S1536x1024.Idx) :
    Cert.EvOutDwRefIdeal.Read.val_main_v5 (F := Ideal) x0 x1 i = ∑ k : Fin 8192, x0 (ix2 k (i 0)) * x1 (ix2 k (i 1)) := by
  rw [Cert.EvOutDwRefIdeal.Read.val_main_v5_apply, Cert.EvOutDwRefIdeal.Read.val_main_v4_apply]
  refine Finset.sum_congr rfl fun k _ => ?_
  rw [mul_comm]
  exact congrArg₂ (· * ·) (congrArg x0 (at2 _ _ _ rfl rfl)) (congrArg x1 (at2 _ _ _ rfl rfl))

theorem algebraic : algebraic_EvOutDwIdeal_EvOutDwRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.EvOutDwRefIdeal.Value.run m' g')⟩
  obtain ⟨a0, a1⟩ := hagree c
  obtain ⟨u, uargs⟩ := h c
  refine ⟨(u.trans (Cert.EvOutDwRefIdeal.Read.val_main_v5_eq _ _)).trans ?_, uargs⟩
  rw [a0, a1]
  funext i
  exact reference _ _ i

theorem frame_reference : quiescent_EvOutDwRefIdeal := fun m g _ =>
  (θ_run _ _ _).mono (fun r h => ⟨fun c => (h c).2, sem_eq_zero_of_no_sems (by decide) r.2⟩) (Cert.EvOutDwRefIdeal.Value.run m g)

end Cert.Proof.EvOutDw

end
-- ==== Proof.OdIn.lean ====
/-
  The projection into the short convolution: each grid point contracts the whole of the inner axis, so its
  product is the reference's on its tile.
-/
module

public import proofs.«01_k».proof.Defs
public import proofs.«01_k».proof.Proof.Place
public import proofs.«01_k».proof.Proof.Gen.OdInIdeal.Value
public import proofs.«01_k».proof.Proof.Gen.OdInRefIdeal.Run
public import proofs.«01_k».proof.Proof.Gen.OdInRefIdeal.Read

@[expose] public section

set_option maxRecDepth 16384

noncomputable section

namespace Cert.Proof.OdIn

open Idealize.ShloMosaic Idealize.ShloMosaic.TcCoe Idealize.SL.Sem
open Cert.OdInIdeal Cert.OdInIdeal.Gen
open Idealize.ShloMosaic.Pipeline (Dat)
open scoped BigOperators

theorem out_A {F : FTy → Type} [FloatOps F] (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x0 : Vec F S1024x1024 .bf16) (x1 : Vec F S1024x1024 .bf16) (h : cond0_0 i) (h' : cond0_1 i) :
    out0_A_2 c i a3 h3 a4 h4 a5 h5 a6 h6 h h' x0 x1 = k0_pay2 k0_pay1 x0 x1 := by
  unfold out0_A_2
  rw [View.read_writes_eq_canon _ _ _ (cover0_A_2 c i a3 h3 a4 h4 a5 h5 a6 h6 h h' x0 x1)]
  unfold kernelRun0_A
  dsimp only
  sl_unfold_words
  rw [View.canon_unit_zero hz, View.readCov_full (s := S1024x1024), View.readCov_full (s := S1024x1024)]
  simp only [View.readAt_eq_ld, h3.read_unread, h4.read_unread, View.ld_unit_zero (S := S1024x1024) hz,
    View.ld_unit_zero (S := S1024x1024) hz]

theorem pay1_apply (p : Fin 1024) (q : Fin 1024) : k0_pay1 (F := Ideal) (ix2 p q) = 0 := by
  pointwise [k0_pay1]

theorem pay2_apply (xs : Vec Ideal S1024x1024 .f32) (x0 : Vec Ideal S1024x1024 .bf16) (x1 : Vec Ideal S1024x1024 .bf16)
    (p : Fin 1024) (q : Fin 1024) :
    k0_pay2 xs x0 x1 (ix2 p q) = xs (ix2 p q) + ∑ k : Fin 1024, x0 (ix2 p k) * x1 (ix2 k q) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val / 3 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 3 :=
  (by decide +kernel : ∀ t : Fin grid0.N, _)
theorem idx2 : ∀ t : Fin cfg0.N, win0_2.index t (0 : Fin 2) = t.val / 3 ∧ win0_2.index t (1 : Fin 2) = t.val % 3 :=
  (by decide +kernel : ∀ t : Fin grid0.N, _)

theorem lt_N (t : Fin cfg0.N) : t.val < 24 := by have := t.isLt; have h : cfg0.N = 24 := N_0; omega

/-- The call's two arguments, as it finds them. -/
abbrev A : S8192x1024.Idx → EReal := m ((c : Thread nD τ).loc main_arg0)
abbrev B : S1024x3072.Idx → EReal := m ((c : Thread nD τ).loc main_arg1)

theorem blk_a (t : Fin cfg0.N) (u : Fin 1024) (v : Fin 1024) :
    (iblk m c 0 t : Vec Ideal S1024x1024 .bf16) (ix2 u v) = A m c (ix2 ⟨1024 * (t.val / 3) + u.val, by have := lt_N t; omega⟩ v) :=
  congrArg (A m c) (put2 (idx0 t) 1024 u 1024 v)

theorem blk_b (t : Fin cfg0.N) (u : Fin 1024) (v : Fin 1024) :
    (iblk m c 1 t : Vec Ideal S1024x1024 .bf16) (ix2 u v) = B m c (ix2 u ⟨1024 * (t.val % 3) + v.val, by have := lt_N t; omega⟩) :=
  congrArg (B m c) (put2 (idx1 t) 1024 u 1024 v)

/-- The whole array. -/
def total : S8192x3072.Idx → EReal := fun i => ∑ k : Fin 1024, A m c (ix2 (i 0) k) * B m c (ix2 k (i 1))

theorem product (t : Fin cfg0.N) (p : Fin 1024) (q : Fin 1024) :
    k0_pay2 k0_pay1 (iblk m c 0 t) (iblk m c 1 t) (ix2 p q) = total m c (ix2 ⟨1024 * (t.val / 3) + p.val, by have := lt_N t; omega⟩ ⟨1024 * (t.val % 3) + q.val, by have := lt_N t; omega⟩) := by
  rw [pay2_apply, pay1_apply, zero_add]
  exact Finset.sum_congr rfl fun k _ => congrArg₂ _ (blk_a m c t p k) (blk_b m c t k q)

theorem emb2 (t : Fin cfg0.N) (p : Fin 1024) (q : Fin 1024) :
    ((cfg0.win 2).blk t).view.emb (ix2 p q) = ix2 ⟨1024 * (t.val / 3) + p.val, by have := lt_N t; omega⟩ ⟨1024 * (t.val % 3) + q.val, by have := lt_N t; omega⟩ :=
  put2 (idx2 t) 1024 p 1024 q

theorem flushed2 (t : Fin cfg0.N) :
    (dats m 0 c).flushed 2 t = ((cfg0.win 2).blk t).view.read (Elt Ideal) (total m c) := by
  rw [Value.flushed2_A m c t, out_A]
  funext j
  obtain ⟨p, q, rfl⟩ : ∃ (p : Fin 1024) (q : Fin 1024), j = ix2 p q := ⟨j 0, j 1, eq_ix2 j⟩
  exact (product m c t p q).trans (congrArg (total m c) (emb2 t p q).symm)

/-- The point that writes an element back. -/
def pt (i : S8192x3072.Idx) : Fin cfg0.N :=
  ⟨(i 0).val / 1024 * 3 + (i 1).val / 1024, by
    have h0 : (i 0).val < 8192 := (i 0).isLt
    have h1 : (i 1).val < 3072 := (i 1).isLt
    have h : cfg0.N = 24 := N_0
    omega⟩

theorem cover2 (i : S8192x3072.Idx) :
    ∃ t : Fin cfg0.N, (cfg0.win 2).flush t = true ∧ i ∈ ((cfg0.win 2).blk t).view.set := by
  refine ⟨pt i, flush0_2 _, mem_at _ (ix2 ⟨(i 0).val % 1024, Nat.mod_lt _ (by norm_num)⟩ ⟨(i 1).val % 1024, Nat.mod_lt _ (by norm_num)⟩ : S1024x1024.Idx) ?_⟩
  have h0 : (i 0).val < 8192 := (i 0).isLt
  have h1 : (i 1).val < 3072 := (i 1).isLt
  have hp : (pt i).val = (i 0).val / 1024 * 3 + (i 1).val / 1024 := rfl
  exact (put2 (a := i 0) (b := i 1) (idx2 (pt i)) 1024 ((i 0).val % 1024) 1024 ((i 1).val % 1024)).trans (eq_ix2 i).symm

theorem final2 : (dats m 0 c).arrAt 2 cfg0.N = total m c :=
  (dats m 0 c).arrAt_eq_of_cover 2 _ (fun t _ => flushed2 m c t) cover2

end Array

/-! ### The reference -/

theorem reference (x0 : S8192x1024.Idx → EReal) (x1 : S1024x3072.Idx → EReal) (i : S8192x3072.Idx) :
    Cert.OdInRefIdeal.Read.val_main_v2 (F := Ideal) x0 x1 i = ∑ k : Fin 1024, x0 (ix2 (i 0) k) * x1 (ix2 k (i 1)) := by
  rw [Cert.OdInRefIdeal.Read.val_main_v2_apply]
  refine Finset.sum_congr rfl fun k _ => ?_
  exact congrArg₂ (· * ·) (congrArg x0 (at2 _ _ _ rfl rfl)) (congrArg x1 (at2 _ _ _ rfl rfl))

theorem algebraic : algebraic_OdInIdeal_OdInRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.OdInRefIdeal.Value.run m' g')⟩
  obtain ⟨a0, a1⟩ := hagree c
  obtain ⟨u, uargs⟩ := h c
  refine ⟨(u.trans (Cert.OdInRefIdeal.Read.val_main_v2_eq _ _)).trans ?_, uargs⟩
  rw [a0, a1]
  funext i
  exact reference _ _ i

theorem frame_reference : quiescent_OdInRefIdeal := fun m g _ =>
  (θ_run _ _ _).mono (fun r h => ⟨fun c => (h c).2, sem_eq_zero_of_no_sems (by decide) r.2⟩) (Cert.OdInRefIdeal.Value.run m g)

end Cert.Proof.OdIn

end
-- ==== Proof.EvIn.lean ====
/-
  The projection into the even layer's mixers: each grid point contracts the whole of the inner axis, so its
  product is the reference's on its tile.
-/
module

public import proofs.«01_k».proof.Defs
public import proofs.«01_k».proof.Proof.Place
public import proofs.«01_k».proof.Proof.Gen.EvInIdeal.Value
public import proofs.«01_k».proof.Proof.Gen.EvInRefIdeal.Run
public import proofs.«01_k».proof.Proof.Gen.EvInRefIdeal.Read

@[expose] public section

set_option maxRecDepth 16384

noncomputable section

namespace Cert.Proof.EvIn

open Idealize.ShloMosaic Idealize.ShloMosaic.TcCoe Idealize.SL.Sem
open Cert.EvInIdeal Cert.EvInIdeal.Gen
open Idealize.ShloMosaic.Pipeline (Dat)
open scoped BigOperators

theorem out_A {F : FTy → Type} [FloatOps F] (c : Dev nD) (i : grid0.Coords)
    (a3 : Memref sig .tc .vmem S768x1024 .bf16) (h3 : a3.IsWhole) (a4 : Memref sig .tc .vmem S1024x896 .bf16) (h4 : a4.IsWhole)
    (a5 : Memref sig .tc .vmem S768x896 .f32) (h5 : a5.IsWhole) (a6 : Memref sig .tc .vmem S768x896 .f32) (h6 : a6.IsWhole)
    (x0 : Vec F S768x1024 .bf16) (x1 : Vec F S1024x896 .bf16) (h : cond0_0 i) (h' : cond0_1 i) :
    out0_A_2 c i a3 h3 a4 h4 a5 h5 a6 h6 h h' x0 x1 = k0_pay2 k0_pay1 x0 x1 := by
  unfold out0_A_2
  rw [View.read_writes_eq_canon _ _ _ (cover0_A_2 c i a3 h3 a4 h4 a5 h5 a6 h6 h h' x0 x1)]
  unfold kernelRun0_A
  dsimp only
  sl_unfold_words
  rw [View.canon_unit_zero hz, View.readCov_full (s := S768x896), View.readCov_full (s := S768x896)]
  simp only [View.readAt_eq_ld, h3.read_unread, h4.read_unread, View.ld_unit_zero (S := S768x1024) hz,
    View.ld_unit_zero (S := S1024x896) hz]

theorem pay1_apply (p : Fin 768) (q : Fin 896) : k0_pay1 (F := Ideal) (ix2 p q) = 0 := by
  pointwise [k0_pay1]

theorem pay2_apply (xs : Vec Ideal S768x896 .f32) (x0 : Vec Ideal S768x1024 .bf16) (x1 : Vec Ideal S1024x896 .bf16)
    (p : Fin 768) (q : Fin 896) :
    k0_pay2 xs x0 x1 (ix2 p q) = xs (ix2 p q) + ∑ k : Fin 1024, x0 (ix2 p k) * x1 (ix2 k q) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)
theorem idx2 : ∀ t : Fin cfg0.N, win0_2.index t (0 : Fin 2) = t.val / 2 ∧ win0_2.index t (1 : Fin 2) = t.val % 2 :=
  (by decide +kernel : ∀ t : Fin grid0.N, _)

theorem lt_N (t : Fin cfg0.N) : t.val < 22 := by have := t.isLt; have h : cfg0.N = 22 := N_0; omega

/-- The call's two arguments, as it finds them. -/
abbrev A : S8448x1024.Idx → EReal := m ((c : Thread nD τ).loc main_arg0)
abbrev B : S1024x1792.Idx → EReal := m ((c : Thread nD τ).loc main_arg1)

theorem blk_a (t : Fin cfg0.N) (u : Fin 768) (v : Fin 1024) :
    (iblk m c 0 t : Vec Ideal S768x1024 .bf16) (ix2 u v) = A m c (ix2 ⟨768 * (t.val / 2) + u.val, by have := lt_N t; omega⟩ v) :=
  congrArg (A m c) (put2 (idx0 t) 768 u 1024 v)

theorem blk_b (t : Fin cfg0.N) (u : Fin 1024) (v : Fin 896) :
    (iblk m c 1 t : Vec Ideal S1024x896 .bf16) (ix2 u v) = B m c (ix2 u ⟨896 * (t.val % 2) + v.val, by have := lt_N t; omega⟩) :=
  congrArg (B m c) (put2 (idx1 t) 1024 u 896 v)

/-- The whole array. -/
def total : S8448x1792.Idx → EReal := fun i => ∑ k : Fin 1024, A m c (ix2 (i 0) k) * B m c (ix2 k (i 1))

theorem product (t : Fin cfg0.N) (p : Fin 768) (q : Fin 896) :
    k0_pay2 k0_pay1 (iblk m c 0 t) (iblk m c 1 t) (ix2 p q) = total m c (ix2 ⟨768 * (t.val / 2) + p.val, by have := lt_N t; omega⟩ ⟨896 * (t.val % 2) + q.val, by have := lt_N t; omega⟩) := by
  rw [pay2_apply, pay1_apply, zero_add]
  exact Finset.sum_congr rfl fun k _ => congrArg₂ _ (blk_a m c t p k) (blk_b m c t k q)

theorem emb2 (t : Fin cfg0.N) (p : Fin 768) (q : Fin 896) :
    ((cfg0.win 2).blk t).view.emb (ix2 p q) = ix2 ⟨768 * (t.val / 2) + p.val, by have := lt_N t; omega⟩ ⟨896 * (t.val % 2) + q.val, by have := lt_N t; omega⟩ :=
  put2 (idx2 t) 768 p 896 q

theorem flushed2 (t : Fin cfg0.N) :
    (dats m 0 c).flushed 2 t = ((cfg0.win 2).blk t).view.read (Elt Ideal) (total m c) := by
  rw [Value.flushed2_A m c t, out_A]
  funext j
  obtain ⟨p, q, rfl⟩ : ∃ (p : Fin 768) (q : Fin 896), j = ix2 p q := ⟨j 0, j 1, eq_ix2 j⟩
  exact (product m c t p q).trans (congrArg (total m c) (emb2 t p q).symm)

/-- The point that writes an element back. -/
def pt (i : S8448x1792.Idx) : Fin cfg0.N :=
  ⟨(i 0).val / 768 * 2 + (i 1).val / 896, by
    have h0 : (i 0).val < 8448 := (i 0).isLt
    have h1 : (i 1).val < 1792 := (i 1).isLt
    have h : cfg0.N = 22 := N_0
    omega⟩

theorem cover2 (i : S8448x1792.Idx) :
    ∃ t : Fin cfg0.N, (cfg0.win 2).flush t = true ∧ i ∈ ((cfg0.win 2).blk t).view.set := by
  refine ⟨pt i, flush0_2 _, mem_at _ (ix2 ⟨(i 0).val % 768, Nat.mod_lt _ (by norm_num)⟩ ⟨(i 1).val % 896, Nat.mod_lt _ (by norm_num)⟩ : S768x896.Idx) ?_⟩
  have h0 : (i 0).val < 8448 := (i 0).isLt
  have h1 : (i 1).val < 1792 := (i 1).isLt
  have hp : (pt i).val = (i 0).val / 768 * 2 + (i 1).val / 896 := rfl
  exact (put2 (a := i 0) (b := i 1) (idx2 (pt i)) 768 ((i 0).val % 768) 896 ((i 1).val % 896)).trans (eq_ix2 i).symm

theorem final2 : (dats m 0 c).arrAt 2 cfg0.N = total m c :=
  (dats m 0 c).arrAt_eq_of_cover 2 _ (fun t _ => flushed2 m c t) cover2

end Array

/-! ### The reference -/

theorem reference (x0 : S8448x1024.Idx → EReal) (x1 : S1024x1792.Idx → EReal) (i : S8448x1792.Idx) :
    Cert.EvInRefIdeal.Read.val_main_v2 (F := Ideal) x0 x1 i = ∑ k : Fin 1024, x0 (ix2 (i 0) k) * x1 (ix2 k (i 1)) := by
  rw [Cert.EvInRefIdeal.Read.val_main_v2_apply]
  refine Finset.sum_congr rfl fun k _ => ?_
  exact congrArg₂ (· * ·) (congrArg x0 (at2 _ _ _ rfl rfl)) (congrArg x1 (at2 _ _ _ rfl rfl))

theorem algebraic : algebraic_EvInIdeal_EvInRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.EvInRefIdeal.Value.run m' g')⟩
  obtain ⟨a0, a1⟩ := hagree c
  obtain ⟨u, uargs⟩ := h c
  refine ⟨(u.trans (Cert.EvInRefIdeal.Read.val_main_v2_eq _ _)).trans ?_, uargs⟩
  rw [a0, a1]
  funext i
  exact reference _ _ i

theorem frame_reference : quiescent_EvInRefIdeal := fun m g _ =>
  (θ_run _ _ _).mono (fun r h => ⟨fun c => (h c).2, sem_eq_zero_of_no_sems (by decide) r.2⟩) (Cert.EvInRefIdeal.Value.run m g)

end Cert.Proof.EvIn

end
-- ==== Proof.EvUq.lean ====
/-
  The projection up to the queries: each grid point contracts the whole of the inner axis, so its
  product is the reference's on its tile.
-/
module

public import proofs.«01_k».proof.Defs
public import proofs.«01_k».proof.Proof.Place
public import proofs.«01_k».proof.Proof.Gen.EvUqIdeal.Value
public import proofs.«01_k».proof.Proof.Gen.EvUqRefIdeal.Run
public import proofs.«01_k».proof.Proof.Gen.EvUqRefIdeal.Read

@[expose] public section

set_option maxRecDepth 16384

noncomputable section

namespace Cert.Proof.EvUq

open Idealize.ShloMosaic Idealize.ShloMosaic.TcCoe Idealize.SL.Sem
open Cert.EvUqIdeal Cert.EvUqIdeal.Gen
open Idealize.ShloMosaic.Pipeline (Dat)
open scoped BigOperators

theorem out_A {F : FTy → Type} [FloatOps F] (c : Dev nD) (i : grid0.Coords)
    (a3 : Memref sig .tc .vmem S768x384 .bf16) (h3 : a3.IsWhole) (a4 : Memref sig .tc .vmem S384x1024 .bf16) (h4 : a4.IsWhole)
    (a5 : Memref sig .tc .vmem S768x1024 .f32) (h5 : a5.IsWhole) (a6 : Memref sig .tc .vmem S768x1024 .f32) (h6 : a6.IsWhole)
    (x0 : Vec F S768x384 .bf16) (x1 : Vec F S384x1024 .bf16) (h : cond0_0 i) (h' : cond0_1 i) :
    out0_A_2 c i a3 h3 a4 h4 a5 h5 a6 h6 h h' x0 x1 = k0_pay2 k0_pay1 x0 x1 := by
  unfold out0_A_2
  rw [View.read_writes_eq_canon _ _ _ (cover0_A_2 c i a3 h3 a4 h4 a5 h5 a6 h6 h h' x0 x1)]
  unfold kernelRun0_A
  dsimp only
  sl_unfold_words
  rw [View.canon_unit_zero hz, View.readCov_full (s := S768x1024), View.readCov_full (s := S768x1024)]
  simp only [View.readAt_eq_ld, h3.read_unread, h4.read_unread, View.ld_unit_zero (S := S768x384) hz,
    View.ld_unit_zero (S := S384x1024) hz]

theorem pay1_apply (p : Fin 768) (q : Fin 1024) : k0_pay1 (F := Ideal) (ix2 p q) = 0 := by
  pointwise [k0_pay1]

theorem pay2_apply (xs : Vec Ideal S768x1024 .f32) (x0 : Vec Ideal S768x384 .bf16) (x1 : Vec Ideal S384x1024 .bf16)
    (p : Fin 768) (q : Fin 1024) :
    k0_pay2 xs x0 x1 (ix2 p q) = xs (ix2 p q) + ∑ k : Fin 384, x0 (ix2 p k) * x1 (ix2 k q) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem lt_N (t : Fin cfg0.N) : t.val < 11 := by have := t.isLt; have h : cfg0.N = 11 := N_0; omega

/-- The call's two arguments, as it finds them. -/
abbrev A : S8448x384.Idx → EReal := m ((c : Thread nD τ).loc main_arg0)
abbrev B : S384x1024.Idx → EReal := m ((c : Thread nD τ).loc main_arg1)

theorem blk_a (t : Fin cfg0.N) (u : Fin 768) (v : Fin 384) :
    (iblk m c 0 t : Vec Ideal S768x384 .bf16) (ix2 u v) = A m c (ix2 ⟨768 * (t.val) + u.val, by have := lt_N t; omega⟩ v) :=
  congrArg (A m c) (put2 (idx0 t) 768 u 384 v)

theorem blk_b (t : Fin cfg0.N) (u : Fin 384) (v : Fin 1024) :
    (iblk m c 1 t : Vec Ideal S384x1024 .bf16) (ix2 u v) = B m c (ix2 u v) :=
  congrArg (B m c) (put2 (idx1 t) 384 u 1024 v)

/-- The whole array. -/
def total : S8448x1024.Idx → EReal := fun i => ∑ k : Fin 384, A m c (ix2 (i 0) k) * B m c (ix2 k (i 1))

theorem product (t : Fin cfg0.N) (p : Fin 768) (q : Fin 1024) :
    k0_pay2 k0_pay1 (iblk m c 0 t) (iblk m c 1 t) (ix2 p q) = total m c (ix2 ⟨768 * (t.val) + p.val, by have := lt_N t; omega⟩ q) := by
  rw [pay2_apply, pay1_apply, zero_add]
  exact Finset.sum_congr rfl fun k _ => congrArg₂ _ (blk_a m c t p k) (blk_b m c t k q)

theorem emb2 (t : Fin cfg0.N) (p : Fin 768) (q : Fin 1024) :
    ((cfg0.win 2).blk t).view.emb (ix2 p q) = ix2 ⟨768 * (t.val) + p.val, by have := lt_N t; omega⟩ q :=
  put2 (idx2 t) 768 p 1024 q

theorem flushed2 (t : Fin cfg0.N) :
    (dats m 0 c).flushed 2 t = ((cfg0.win 2).blk t).view.read (Elt Ideal) (total m c) := by
  rw [Value.flushed2_A m c t, out_A]
  funext j
  obtain ⟨p, q, rfl⟩ : ∃ (p : Fin 768) (q : Fin 1024), j = ix2 p q := ⟨j 0, j 1, eq_ix2 j⟩
  exact (product m c t p q).trans (congrArg (total m c) (emb2 t p q).symm)

/-- The point that writes an element back. -/
def pt (i : S8448x1024.Idx) : Fin cfg0.N :=
  ⟨(i 0).val / 768, by
    have h0 : (i 0).val < 8448 := (i 0).isLt
    have h1 : (i 1).val < 1024 := (i 1).isLt
    have h : cfg0.N = 11 := N_0
    omega⟩

theorem cover2 (i : S8448x1024.Idx) :
    ∃ t : Fin cfg0.N, (cfg0.win 2).flush t = true ∧ i ∈ ((cfg0.win 2).blk t).view.set := by
  refine ⟨pt i, flush0_2 _, mem_at _ (ix2 ⟨(i 0).val % 768, Nat.mod_lt _ (by norm_num)⟩ ⟨(i 1).val % 1024, Nat.mod_lt _ (by norm_num)⟩ : S768x1024.Idx) ?_⟩
  have h0 : (i 0).val < 8448 := (i 0).isLt
  have h1 : (i 1).val < 1024 := (i 1).isLt
  have hp : (pt i).val = (i 0).val / 768 := rfl
  exact (put2 (a := i 0) (b := i 1) (idx2 (pt i)) 768 ((i 0).val % 768) 1024 ((i 1).val % 1024)).trans (eq_ix2 i).symm

theorem final2 : (dats m 0 c).arrAt 2 cfg0.N = total m c :=
  (dats m 0 c).arrAt_eq_of_cover 2 _ (fun t _ => flushed2 m c t) cover2

end Array

/-! ### The reference -/

theorem reference (x0 : S8448x384.Idx → EReal) (x1 : S384x1024.Idx → EReal) (i : S8448x1024.Idx) :
    Cert.EvUqRefIdeal.Read.val_main_v2 (F := Ideal) x0 x1 i = ∑ k : Fin 384, x0 (ix2 (i 0) k) * x1 (ix2 k (i 1)) := by
  rw [Cert.EvUqRefIdeal.Read.val_main_v2_apply]
  refine Finset.sum_congr rfl fun k _ => ?_
  exact congrArg₂ (· * ·) (congrArg x0 (at2 _ _ _ rfl rfl)) (congrArg x1 (at2 _ _ _ rfl rfl))

theorem algebraic : algebraic_EvUqIdeal_EvUqRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.EvUqRefIdeal.Value.run m' g')⟩
  obtain ⟨a0, a1⟩ := hagree c
  obtain ⟨u, uargs⟩ := h c
  refine ⟨(u.trans (Cert.EvUqRefIdeal.Read.val_main_v2_eq _ _)).trans ?_, uargs⟩
  rw [a0, a1]
  funext i
  exact reference _ _ i

theorem frame_reference : quiescent_EvUqRefIdeal := fun m g _ =>
  (θ_run _ _ _).mono (fun r h => ⟨fun c => (h c).2, sem_eq_zero_of_no_sems (by decide) r.2⟩) (Cert.EvUqRefIdeal.Value.run m g)

end Cert.Proof.EvUq

end
-- ==== Proof.EvUkv.lean ====
/-
  The projection up to keys and values: each grid point contracts the whole of the inner axis, so its
  product is the reference's on its tile.
-/
module

public import proofs.«01_k».proof.Defs
public import proofs.«01_k».proof.Proof.Place
public import proofs.«01_k».proof.Proof.Gen.EvUkvIdeal.Value
public import proofs.«01_k».proof.Proof.Gen.EvUkvRefIdeal.Run
public import proofs.«01_k».proof.Proof.Gen.EvUkvRefIdeal.Read

@[expose] public section

set_option maxRecDepth 16384

noncomputable section

namespace Cert.Proof.EvUkv

open Idealize.ShloMosaic Idealize.ShloMosaic.TcCoe Idealize.SL.Sem
open Cert.EvUkvIdeal Cert.EvUkvIdeal.Gen
open Idealize.ShloMosaic.Pipeline (Dat)
open scoped BigOperators

theorem out_A {F : FTy → Type} [FloatOps F] (c : Dev nD) (i : grid0.Coords)
    (a3 : Memref sig .tc .vmem S768x256 .bf16) (h3 : a3.IsWhole) (a4 : Memref sig .tc .vmem S256x1024 .bf16) (h4 : a4.IsWhole)
    (a5 : Memref sig .tc .vmem S768x1024 .f32) (h5 : a5.IsWhole) (a6 : Memref sig .tc .vmem S768x1024 .f32) (h6 : a6.IsWhole)
    (x0 : Vec F S768x256 .bf16) (x1 : Vec F S256x1024 .bf16) (h : cond0_0 i) (h' : cond0_1 i) :
    out0_A_2 c i a3 h3 a4 h4 a5 h5 a6 h6 h h' x0 x1 = k0_pay2 k0_pay1 x0 x1 := by
  unfold out0_A_2
  rw [View.read_writes_eq_canon _ _ _ (cover0_A_2 c i a3 h3 a4 h4 a5 h5 a6 h6 h h' x0 x1)]
  unfold kernelRun0_A
  dsimp only
  sl_unfold_words
  rw [View.canon_unit_zero hz, View.readCov_full (s := S768x1024), View.readCov_full (s := S768x1024)]
  simp only [View.readAt_eq_ld, h3.read_unread, h4.read_unread, View.ld_unit_zero (S := S768x256) hz,
    View.ld_unit_zero (S := S256x1024) hz]

theorem pay1_apply (p : Fin 768) (q : Fin 1024) : k0_pay1 (F := Ideal) (ix2 p q) = 0 := by
  pointwise [k0_pay1]

theorem pay2_apply (xs : Vec Ideal S768x1024 .f32) (x0 : Vec Ideal S768x256 .bf16) (x1 : Vec Ideal S256x1024 .bf16)
    (p : Fin 768) (q : Fin 1024) :
    k0_pay2 xs x0 x1 (ix2 p q) = xs (ix2 p q) + ∑ k : Fin 256, x0 (ix2 p k) * x1 (ix2 k q) := by
  pointwise [k0_pay2]

/-! ### The call's array -/

section Array

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem lt_N (t : Fin cfg0.N) : t.val < 11 := by have := t.isLt; have h : cfg0.N = 11 := N_0; omega

/-- The call's two arguments, as it finds them. -/
abbrev A : S8448x256.Idx → EReal := m ((c : Thread nD τ).loc main_arg0)
abbrev B : S256x1024.Idx → EReal := m ((c : Thread nD τ).loc main_arg1)

theorem blk_a (t : Fin cfg0.N) (u : Fin 768) (v : Fin 256) :
    (iblk m c 0 t : Vec Ideal S768x256 .bf16) (ix2 u v) = A m c (ix2 ⟨768 * (t.val) + u.val, by have := lt_N t; omega⟩ v) :=
  congrArg (A m c) (put2 (idx0 t) 768 u 256 v)

theorem blk_b (t : Fin cfg0.N) (u : Fin 256) (v : Fin 1024) :
    (iblk m c 1 t : Vec Ideal S256x1024 .bf16) (ix2 u v) = B m c (ix2 u v) :=
  congrArg (B m c) (put2 (idx1 t) 256 u 1024 v)

/-- The whole array. -/
def total : S8448x1024.Idx → EReal := fun i => ∑ k : Fin 256, A m c (ix2 (i 0) k) * B m c (ix2 k (i 1))

theorem product (t : Fin cfg0.N) (p : Fin 768) (q : Fin 1024) :
    k0_pay2 k0_pay1 (iblk m c 0 t) (iblk m c 1 t) (ix2 p q) = total m c (ix2 ⟨768 * (t.val) + p.val, by have := lt_N t; omega⟩ q) := by
  rw [pay2_apply, pay1_apply, zero_add]
  exact Finset.sum_congr rfl fun k _ => congrArg₂ _ (blk_a m c t p k) (blk_b m c t k q)

theorem emb2 (t : Fin cfg0.N) (p : Fin 768) (q : Fin 1024) :
    ((cfg0.win 2).blk t).view.emb (ix2 p q) = ix2 ⟨768 * (t.val) + p.val, by have := lt_N t; omega⟩ q :=
  put2 (idx2 t) 768 p 1024 q

theorem flushed2 (t : Fin cfg0.N) :
    (dats m 0 c).flushed 2 t = ((cfg0.win 2).blk t).view.read (Elt Ideal) (total m c) := by
  rw [Value.flushed2_A m c t, out_A]
  funext j
  obtain ⟨p, q, rfl⟩ : ∃ (p : Fin 768) (q : Fin 1024), j = ix2 p q := ⟨j 0, j 1, eq_ix2 j⟩
  exact (product m c t p q).trans (congrArg (total m c) (emb2 t p q).symm)

/-- The point that writes an element back. -/
def pt (i : S8448x1024.Idx) : Fin cfg0.N :=
  ⟨(i 0).val / 768, by
    have h0 : (i 0).val < 8448 := (i 0).isLt
    have h1 : (i 1).val < 1024 := (i 1).isLt
    have h : cfg0.N = 11 := N_0
    omega⟩

theorem cover2 (i : S8448x1024.Idx) :
    ∃ t : Fin cfg0.N, (cfg0.win 2).flush t = true ∧ i ∈ ((cfg0.win 2).blk t).view.set := by
  refine ⟨pt i, flush0_2 _, mem_at _ (ix2 ⟨(i 0).val % 768, Nat.mod_lt _ (by norm_num)⟩ ⟨(i 1).val % 1024, Nat.mod_lt _ (by norm_num)⟩ : S768x1024.Idx) ?_⟩
  have h0 : (i 0).val < 8448 := (i 0).isLt
  have h1 : (i 1).val < 1024 := (i 1).isLt
  have hp : (pt i).val = (i 0).val / 768 := rfl
  exact (put2 (a := i 0) (b := i 1) (idx2 (pt i)) 768 ((i 0).val % 768) 1024 ((i 1).val % 1024)).trans (eq_ix2 i).symm

theorem final2 : (dats m 0 c).arrAt 2 cfg0.N = total m c :=
  (dats m 0 c).arrAt_eq_of_cover 2 _ (fun t _ => flushed2 m c t) cover2

end Array

/-! ### The reference -/

theorem reference (x0 : S8448x256.Idx → EReal) (x1 : S256x1024.Idx → EReal) (i : S8448x1024.Idx) :
    Cert.EvUkvRefIdeal.Read.val_main_v2 (F := Ideal) x0 x1 i = ∑ k : Fin 256, x0 (ix2 (i 0) k) * x1 (ix2 k (i 1)) := by
  rw [Cert.EvUkvRefIdeal.Read.val_main_v2_apply]
  refine Finset.sum_congr rfl fun k _ => ?_
  exact congrArg₂ (· * ·) (congrArg x0 (at2 _ _ _ rfl rfl)) (congrArg x1 (at2 _ _ _ rfl rfl))

theorem algebraic : algebraic_EvUkvIdeal_EvUkvRefIdeal := by
  intro m g m' g' _ hagree
  refine ⟨fun c => total m c, (θ_run _ _ _).mono (fun r h c => ⟨(h c).1.trans (final2 m c), (h c).2⟩) (Value.run_blocks m g),
    (θ_run _ _ _).mono (fun r h c => ?_) (Cert.EvUkvRefIdeal.Value.run m' g')⟩
  obtain ⟨a0, a1⟩ := hagree c
  obtain ⟨u, uargs⟩ := h c
  refine ⟨(u.trans (Cert.EvUkvRefIdeal.Read.val_main_v2_eq _ _)).trans ?_, uargs⟩
  rw [a0, a1]
  funext i
  exact reference _ _ i

theorem frame_reference : quiescent_EvUkvRefIdeal := fun m g _ =>
  (θ_run _ _ _).mono (fun r h => ⟨fun c => (h c).2, sem_eq_zero_of_no_sems (by decide) r.2⟩) (Cert.EvUkvRefIdeal.Value.run m g)

end Cert.Proof.EvUkv

end
-- ==== Proof.OdOut.lean ====
/-
  The projection out of the short convolution with gate and residual: each grid point contracts the whole of the inner axis, so its
  product is the reference's on its tile.
-/
module

public import proofs.«01_k».proof.Defs
public import proofs.«01_k».proof.Proof.Place
public import proofs.«01_k».proof.Proof.Gen.OdOutIdeal.Value
public import proofs.«01_k».proof.Proof.Gen.OdOutRefIdeal.Run
public import proofs.«01_k».proof.Proof.Gen.OdOutRefIdeal.Read

@[expose] public section

set_option maxRecDepth 16384

noncomputable section

namespace Cert.Proof.OdOut

open Idealize.ShloMosaic Idealize.ShloMosaic.TcCoe Idealize.SL.Sem
open Cert.OdOutIdeal Cert.OdOutIdeal.Gen
open Idealize.ShloMosaic.Pipeline (Dat)
open scoped BigOperators

section Pieces
variable {F : FTy → Type} [FloatOps F] (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1x1024 .f32) (h6 : a6.IsWhole)
  (a7 : Memref sig .tc .vmem S1024x1024 .f32) (h7 : a7.IsWhole) (a8 : Memref sig .tc .vmem S1024x1024 .f32) (h8 : a8.IsWhole)
  (a9 : Memref sig .tc .vmem S1024x1024 .f32) (h9 : a9.IsWhole)
  (x0 : Vec F S1024x1024 .bf16) (x1 : Vec F S1024x1024 .bf16) (x2 : Vec F S1024x1024 .f32) (x3 : Vec F S1x1024 .f32) (h : cond0_0 i) (h' : cond0_1 i)

theorem sum_A : out0_A_5 c i a3 h3 a4 h4 a5 h5 a6 h6 a7 h7 a8 h8 a9 h9 h h' x0 x1 x2 x3 = k0_pay2 k0_pay1 x0 x1 := by
  unfold out0_A_5
  rw [View.read_writes_eq_canon _ _ _ (cover0_A_5 c i a3 h3 a4 h4 a5 h5 a6 h6 a7 h7 a8 h8 a9 h9 h h' x0 x1 x2 x3)]
  unfold kernelRun0_A
  dsimp only
  sl_unfold_words
  rw [View.canon_unit_zero hz, View.readCov_full (s := S1024x1024), View.readCov_full (s := S1024x1024)]
  simp only [View.readAt_eq_ld, h3.read_unread, h4.read_unread, View.ld_unit_zero (S := S1024x1024) hz,
    View.ld_unit_zero (S := S1024x1024) hz]

theorem res_A : out0_A_4 c i a3 h3 a4 h4 a5 h5 a6 h6 a7 h7 a8 h8 a9 h9 h h' x0 x1 x2 x3
    = k0_pay3 x2 x3 (k0_pay2 k0_pay1 x0 x1) := by
  unfold out0_A_4
  rw [View.read_writes_eq_canon _ _ _ (cover0_A_4 c i a3 h3 a4 h4 a5 h5 a6 h6 a7 h7 a8 h8 a9 h9 h h' x0 x1 x2 x3)]
  unfold kernelRun0_A
  dsimp only
  sl_unfold_words
  rw [View.canon_unit_zero hz, View.readCov_full (s := S1024x1024), View.readCov_full (s := S1024x1024)]
  simp only [View.readAt_eq_ld, h3.read_unread, h4.read_unread, h5.read_unread, h6.read_unread,
    View.ld_unit_zero (S := S1024x1024) hz, View.ld_unit_zero (S := S1024x1024) hz, View.ld_unit_zero (S := S1024x1024) hz,
    View.ld_unit_zero (S := S1x1024) hz]

end Pieces

theorem pay1_apply (p : Fin 1024) (q : Fin 1024) : k0_pay1 (F := Ideal) (ix2 p q) = 0 := by
  pointwise [k0_pay1]

theorem pay2_apply (xs : Vec Ideal S1024x1024 .f32) (x0 : Vec Ideal S1024x1024 .bf16) (x1 : Vec Ideal S1024x1024 .bf16)
    (p : Fin 1024) (q : Fin 1024) :
    k0_pay2 xs x0 x1 (ix2 p q) = xs (ix2 p q) + ∑ k : Fin 1024, x0 (ix2 p k) * x1 (ix2 k q) := by
  pointwise [k0_pay2]

theorem pay3_apply (x2 : Vec Ideal S1024x1024 .f32) (x3 : Vec Ideal S1x1024 .f32) (y : Vec Ideal S1024x1024 .f32)
    (p : Fin 1024) (q : Fin 1024) :
    k0_pay3 x2 x3 y (ix2 p q) = x2 (ix2 p q) + x3 (ix2 0 q) * y (ix2 p q) := by
  pointwise [k0_pay3]

/-! ### The call's array -/

section Array

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem lt_N (t : Fin cfg0.N) : t.val < 8 := by have := t.isLt; have h : cfg0.N = 8 := N_0; omega

/-- The call's two arguments, as it finds them. -/
abbrev A : S8192x1024.Idx → EReal := m ((c : Thread nD τ).loc main_arg0)
abbrev B : S1024x1024.Idx → EReal := m ((c : Thread nD τ).loc main_arg1)

theorem blk_a (t : Fin cfg0.N) (u : Fin 1024) (v : Fin 1024) :
    (iblk m c 0 t : Vec Ideal S1024x1024 .bf16) (ix2 u v) = A m c (ix2 ⟨1024 * (t.val) + u.val, by have := lt_N t; omega⟩ v) :=
  congrArg (A m c) (put2 (idx0 t) 1024 u 1024 v)

theorem blk_b (t : Fin cfg0.N) (u : Fin 1024) (v : Fin 1024) :
    (iblk m c 1 t : Vec Ideal S1024x1024 .bf16) (ix2 u v) = B m c (ix2 u v) :=
  congrArg (B m c) (put2 (idx1 t) 1024 u 1024 v)

/-- The whole array. -/
def total : S8192x1024.Idx → EReal := fun i => ∑ k : Fin 1024, A m c (ix2 (i 0) k) * B m c (ix2 k (i 1))

theorem product (t : Fin cfg0.N) (p : Fin 1024) (q : Fin 1024) :
    k0_pay2 k0_pay1 (iblk m c 0 t) (iblk m c 1 t) (ix2 p q) = total m c (ix2 ⟨1024 * (t.val) + p.val, by have := lt_N t; omega⟩ q) := by
  rw [pay2_apply, pay1_apply, zero_add]
  exact Finset.sum_congr rfl fun k _ => congrArg₂ _ (blk_a m c t p k) (blk_b m c t k q)

theorem emb5 (t : Fin cfg0.N) (p : Fin 1024) (q : Fin 1024) :
    ((cfg0.win 5).blk t).view.emb (ix2 p q) = ix2 ⟨1024 * (t.val) + p.val, by have := lt_N t; omega⟩ q :=
  put2 (idx5 t) 1024 p 1024 q

theorem flushed5 (t : Fin cfg0.N) :
    (dats m 0 c).flushed 5 t = ((cfg0.win 5).blk t).view.read (Elt Ideal) (total m c) := by
  rw [Value.flushed5_A m c t, sum_A]
  funext j
  obtain ⟨p, q, rfl⟩ : ∃ (p : Fin 1024) (q : Fin 1024), j = ix2 p q := ⟨j 0, j 1, eq_ix2 j⟩
  exact (product m c t p q).trans (congrArg (total m c) (emb5 t p q).symm)

/-- The residual, as the call finds it, and the gate. -/
abbrev X : S8192x1024.Idx → EReal := m ((c : Thread nD τ).loc main_arg2)
abbrev G : S1x1024.Idx → EReal := m ((c : Thread nD τ).loc main_arg3)

theorem blk_x (t : Fin cfg0.N) (u : Fin 1024) (v : Fin 1024) :
    (iblk m c 2 t : Vec Ideal S1024x1024 .f32) (ix2 u v) = X m c (ix2 ⟨1024 * (t.val) + u.val, by have := lt_N t; omega⟩ v) :=
  congrArg (X m c) (put2 (idx2 t) 1024 u 1024 v)

theorem blk_g (t : Fin cfg0.N) (u : Fin 1) (v : Fin 1024) :
    (iblk m c 3 t : Vec Ideal S1x1024 .f32) (ix2 u v) = G m c (ix2 u v) :=
  congrArg (G m c) (put2 (idx3 t) 1 u 1024 v)

/-- The residual plus the gated product. -/
def resid : S8192x1024.Idx → EReal := fun i => X m c i + G m c (ix2 0 (i 1)) * total m c i

theorem emb4 (t : Fin cfg0.N) (p : Fin 1024) (q : Fin 1024) :
    ((cfg0.win 4).blk t).view.emb (ix2 p q) = ix2 ⟨1024 * (t.val) + p.val, by have := lt_N t; omega⟩ q :=
  put2 (idx4 t) 1024 p 1024 q

theorem flushed4 (t : Fin cfg0.N) :
    (dats m 0 c).flushed 4 t = ((cfg0.win 4).blk t).view.read (Elt Ideal) (resid m c) := by
  rw [Value.flushed4_A m c t, res_A]
  funext j
  obtain ⟨p, q, rfl⟩ : ∃ (p : Fin 1024) (q : Fin 1024), j = ix2 p q := ⟨j 0, j 1, eq_ix2 j⟩
  show k0_pay3 (F := Ideal) _ _ _ (ix2 p q) = resid m c (((cfg0.win 4).blk t).view.emb (ix2 p q))
  rw [emb4, pay3_apply]
  exact congrArg₂ (· + ·) (blk_x m c t p q) (congrArg₂ (· * ·) (blk_g m c t 0 q) (product m c t p q))

/-- The point that writes an element back. -/
def pt (i : S8192x1024.Idx) : Fin cfg0.N :=
  ⟨(i 0).val / 1024, by
    have h0 : (i 0).val < 8192 := (i 0).isLt
    have h1 : (i 1).val < 1024 := (i 1).isLt
    have h : cfg0.N = 8 := N_0
    omega⟩

theorem cover5 (i : S8192x1024.Idx) :
    ∃ t : Fin cfg0.N, (cfg0.win 5).flush t = true ∧ i ∈ ((cfg0.win 5).blk t).view.set := by
  refine ⟨pt i, flush0_5 _, mem_at _ (ix2 ⟨(i 0).val % 1024, Nat.mod_lt _ (by norm_num)⟩ ⟨(i 1).val % 1024, Nat.mod_lt _ (by norm_num)⟩ : S1024x1024.Idx) ?_⟩
  have h0 : (i 0).val < 8192 := (i 0).isLt
  have h1 : (i 1).val < 1024 := (i 1).isLt
  have hp : (pt i).val = (i 0).val / 1024 := rfl
  exact (put2 (a := i 0) (b := i 1) (idx5 (pt i)) 1024 ((i 0).val % 1024) 1024 ((i 1).val % 1024)).trans (eq_ix2 i).symm

theorem final5 : (dats m 0 c).arrAt 5 cfg0.N = total m c :=
  (dats m 0 c).arrAt_eq_of_cover 5 _ (fun t _ => flushed5 m c t) cover5

theorem cover4 (i : S8192x1024.Idx) :
    ∃ t : Fin cfg0.N, (cfg0.win 4).flush t = true ∧ i ∈ ((cfg0.win 4).blk t).view.set := by
  refine ⟨pt i, flush0_4 _, mem_at _ (ix2 ⟨(i 0).val % 1024, Nat.mod_lt _ (by norm_num)⟩ ⟨(i 1).val % 1024, Nat.mod_lt _ (by norm_num)⟩ : S1024x1024.Idx) ?_⟩
  have h0 : (i 0).val < 8192 := (i 0).isLt
  have h1 : (i 1).val < 1024 := (i 1).isLt
  have hp : (pt i).val = (i 0).val / 1024 := rfl
  exact (put2 (a := i 0) (b := i 1) (idx4 (pt i)) 1024 ((i 0).val % 1024) 1024 ((i 1).val % 1024)).trans (eq_ix2 i).symm

theorem final4 : (dats m 0 c).arrAt 4 cfg0.N = resid m c :=
  (dats m 0 c).arrAt_eq_of_cover 4 _ (fun t _ => flushed4 m c t) cover4

end Array

/-! ### The reference -/

theorem reference (x0 : S8192x1024.Idx → EReal) (x1 : S1024x1024.Idx → EReal) (i : S8192x1024.Idx) :
    Cert.OdOutRefIdeal.Read.val_main_v2 (F := Ideal) x0 x1 i = ∑ k : Fin 1024, x0 (ix2 (i 0) k) * x1 (ix2 k (i 1)) := by
  rw [Cert.OdOutRefIdeal.Read.val_main_v2_apply]
  refine Finset.sum_congr rfl fun k _ => ?_
  exact congrArg₂ (· * ·) (congrArg x0 (at2 _ _ _ rfl rfl)) (congrArg x1 (at2 _ _ _ rfl rfl))

theorem algebraic : algebraic_OdOutIdeal_OdOutRefIdeal := by
  intro m g m' g' _ hagree
  refine ⟨fun c => resid m c, fun c => total m c,
    (θ_run _ _ _).mono (fun r h c => ⟨(h c).1.trans (final4 m c), (h c).2.1.trans (final5 m c), (h c).2.2⟩) (Value.run_blocks m g),
    (θ_run _ _ _).mono (fun r h c => ?_) (Cert.OdOutRefIdeal.Value.run m' g')⟩
  obtain ⟨a0, a1, a2, a3⟩ := hagree c
  obtain ⟨u, v, uargs⟩ := h c
  refine ⟨(u.trans (Cert.OdOutRefIdeal.Read.val_main_v5_eq _ _ _ _)).trans ?_,
    (v.trans (Cert.OdOutRefIdeal.Read.val_main_v2_eq _ _)).trans ?_, uargs⟩
  · rw [a0, a1, a2, a3]
    funext i
    rw [Cert.OdOutRefIdeal.Read.val_main_v5_apply, Cert.OdOutRefIdeal.Read.val_main_v4_apply,
      Cert.OdOutRefIdeal.Read.val_main_v3_apply]
    refine congrArg₂ (· + ·) rfl (congrArg₂ (· * ·) (congrArg (G m c) ?_) (reference _ _ i))
    funext a; apply Fin.ext
    match a with
    | ⟨0, _⟩ => rfl
    | ⟨1, _⟩ => rfl
  · rw [a0, a1]
    funext i
    exact reference _ _ i

theorem frame_reference : quiescent_OdOutRefIdeal := fun m g _ =>
  (θ_run _ _ _).mono (fun r h => ⟨fun c => (h c).2.2, sem_eq_zero_of_no_sems (by decide) r.2⟩) (Cert.OdOutRefIdeal.Value.run m g)

end Cert.Proof.OdOut

end
-- ==== Proof.EvOut.lean ====
/-
  The projection out of the even layer's mixers with gate and residual: each grid point contracts the whole of the inner axis, so its
  product is the reference's on its tile.
-/
module

public import proofs.«01_k».proof.Defs
public import proofs.«01_k».proof.Proof.Place
public import proofs.«01_k».proof.Proof.Gen.EvOutIdeal.Value
public import proofs.«01_k».proof.Proof.Gen.EvOutRefIdeal.Run
public import proofs.«01_k».proof.Proof.Gen.EvOutRefIdeal.Read

@[expose] public section

set_option maxRecDepth 16384

noncomputable section

namespace Cert.Proof.EvOut

open Idealize.ShloMosaic Idealize.ShloMosaic.TcCoe Idealize.SL.Sem
open Cert.EvOutIdeal Cert.EvOutIdeal.Gen
open Idealize.ShloMosaic.Pipeline (Dat)
open scoped BigOperators

section Pieces
variable {F : FTy → Type} [FloatOps F] (c : Dev nD) (i : grid0.Coords)
  (a3 : Memref sig .tc .vmem S1024x1536 .bf16) (h3 : a3.IsWhole) (a4 : Memref sig .tc .vmem S1536x1024 .bf16) (h4 : a4.IsWhole)
  (a5 : Memref sig .tc .vmem S1024x1024 .f32) (h5 : a5.IsWhole) (a6 : Memref sig .tc .vmem S1x1024 .f32) (h6 : a6.IsWhole)
  (a7 : Memref sig .tc .vmem S1024x1024 .f32) (h7 : a7.IsWhole) (a8 : Memref sig .tc .vmem S1024x1024 .f32) (h8 : a8.IsWhole)
  (a9 : Memref sig .tc .vmem S1024x1024 .f32) (h9 : a9.IsWhole)
  (x0 : Vec F S1024x1536 .bf16) (x1 : Vec F S1536x1024 .bf16) (x2 : Vec F S1024x1024 .f32) (x3 : Vec F S1x1024 .f32) (h : cond0_0 i) (h' : cond0_1 i)

theorem sum_A : out0_A_5 c i a3 h3 a4 h4 a5 h5 a6 h6 a7 h7 a8 h8 a9 h9 h h' x0 x1 x2 x3 = k0_pay2 k0_pay1 x0 x1 := by
  unfold out0_A_5
  rw [View.read_writes_eq_canon _ _ _ (cover0_A_5 c i a3 h3 a4 h4 a5 h5 a6 h6 a7 h7 a8 h8 a9 h9 h h' x0 x1 x2 x3)]
  unfold kernelRun0_A
  dsimp only
  sl_unfold_words
  rw [View.canon_unit_zero hz, View.readCov_full (s := S1024x1024), View.readCov_full (s := S1024x1024)]
  simp only [View.readAt_eq_ld, h3.read_unread, h4.read_unread, View.ld_unit_zero (S := S1024x1536) hz,
    View.ld_unit_zero (S := S1536x1024) hz]

theorem res_A : out0_A_4 c i a3 h3 a4 h4 a5 h5 a6 h6 a7 h7 a8 h8 a9 h9 h h' x0 x1 x2 x3
    = k0_pay3 x2 x3 (k0_pay2 k0_pay1 x0 x1) := by
  unfold out0_A_4
  rw [View.read_writes_eq_canon _ _ _ (cover0_A_4 c i a3 h3 a4 h4 a5 h5 a6 h6 a7 h7 a8 h8 a9 h9 h h' x0 x1 x2 x3)]
  unfold kernelRun0_A
  dsimp only
  sl_unfold_words
  rw [View.canon_unit_zero hz, View.readCov_full (s := S1024x1024), View.readCov_full (s := S1024x1024)]
  simp only [View.readAt_eq_ld, h3.read_unread, h4.read_unread, h5.read_unread, h6.read_unread,
    View.ld_unit_zero (S := S1024x1536) hz, View.ld_unit_zero (S := S1536x1024) hz, View.ld_unit_zero (S := S1024x1024) hz,
    View.ld_unit_zero (S := S1x1024) hz]

end Pieces

theorem pay1_apply (p : Fin 1024) (q : Fin 1024) : k0_pay1 (F := Ideal) (ix2 p q) = 0 := by
  pointwise [k0_pay1]

theorem pay2_apply (xs : Vec Ideal S1024x1024 .f32) (x0 : Vec Ideal S1024x1536 .bf16) (x1 : Vec Ideal S1536x1024 .bf16)
    (p : Fin 1024) (q : Fin 1024) :
    k0_pay2 xs x0 x1 (ix2 p q) = xs (ix2 p q) + ∑ k : Fin 1536, x0 (ix2 p k) * x1 (ix2 k q) := by
  pointwise [k0_pay2]

theorem pay3_apply (x2 : Vec Ideal S1024x1024 .f32) (x3 : Vec Ideal S1x1024 .f32) (y : Vec Ideal S1024x1024 .f32)
    (p : Fin 1024) (q : Fin 1024) :
    k0_pay3 x2 x3 y (ix2 p q) = x2 (ix2 p q) + x3 (ix2 0 q) * y (ix2 p q) := by
  pointwise [k0_pay3]

/-! ### The call's array -/

section Array

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem lt_N (t : Fin cfg0.N) : t.val < 8 := by have := t.isLt; have h : cfg0.N = 8 := N_0; omega

/-- The call's two arguments, as it finds them. -/
abbrev A : S8192x1536.Idx → EReal := m ((c : Thread nD τ).loc main_arg0)
abbrev B : S1536x1024.Idx → EReal := m ((c : Thread nD τ).loc main_arg1)

theorem blk_a (t : Fin cfg0.N) (u : Fin 1024) (v : Fin 1536) :
    (iblk m c 0 t : Vec Ideal S1024x1536 .bf16) (ix2 u v) = A m c (ix2 ⟨1024 * (t.val) + u.val, by have := lt_N t; omega⟩ v) :=
  congrArg (A m c) (put2 (idx0 t) 1024 u 1536 v)

theorem blk_b (t : Fin cfg0.N) (u : Fin 1536) (v : Fin 1024) :
    (iblk m c 1 t : Vec Ideal S1536x1024 .bf16) (ix2 u v) = B m c (ix2 u v) :=
  congrArg (B m c) (put2 (idx1 t) 1536 u 1024 v)

/-- The whole array. -/
def total : S8192x1024.Idx → EReal := fun i => ∑ k : Fin 1536, A m c (ix2 (i 0) k) * B m c (ix2 k (i 1))

theorem product (t : Fin cfg0.N) (p : Fin 1024) (q : Fin 1024) :
    k0_pay2 k0_pay1 (iblk m c 0 t) (iblk m c 1 t) (ix2 p q) = total m c (ix2 ⟨1024 * (t.val) + p.val, by have := lt_N t; omega⟩ q) := by
  rw [pay2_apply, pay1_apply, zero_add]
  exact Finset.sum_congr rfl fun k _ => congrArg₂ _ (blk_a m c t p k) (blk_b m c t k q)

theorem emb5 (t : Fin cfg0.N) (p : Fin 1024) (q : Fin 1024) :
    ((cfg0.win 5).blk t).view.emb (ix2 p q) = ix2 ⟨1024 * (t.val) + p.val, by have := lt_N t; omega⟩ q :=
  put2 (idx5 t) 1024 p 1024 q

theorem flushed5 (t : Fin cfg0.N) :
    (dats m 0 c).flushed 5 t = ((cfg0.win 5).blk t).view.read (Elt Ideal) (total m c) := by
  rw [Value.flushed5_A m c t, sum_A]
  funext j
  obtain ⟨p, q, rfl⟩ : ∃ (p : Fin 1024) (q : Fin 1024), j = ix2 p q := ⟨j 0, j 1, eq_ix2 j⟩
  exact (product m c t p q).trans (congrArg (total m c) (emb5 t p q).symm)

/-- The residual, as the call finds it, and the gate. -/
abbrev X : S8192x1024.Idx → EReal := m ((c : Thread nD τ).loc main_arg2)
abbrev G : S1x1024.Idx → EReal := m ((c : Thread nD τ).loc main_arg3)

theorem blk_x (t : Fin cfg0.N) (u : Fin 1024) (v : Fin 1024) :
    (iblk m c 2 t : Vec Ideal S1024x1024 .f32) (ix2 u v) = X m c (ix2 ⟨1024 * (t.val) + u.val, by have := lt_N t; omega⟩ v) :=
  congrArg (X m c) (put2 (idx2 t) 1024 u 1024 v)

theorem blk_g (t : Fin cfg0.N) (u : Fin 1) (v : Fin 1024) :
    (iblk m c 3 t : Vec Ideal S1x1024 .f32) (ix2 u v) = G m c (ix2 u v) :=
  congrArg (G m c) (put2 (idx3 t) 1 u 1024 v)

/-- The residual plus the gated product. -/
def resid : S8192x1024.Idx → EReal := fun i => X m c i + G m c (ix2 0 (i 1)) * total m c i

theorem emb4 (t : Fin cfg0.N) (p : Fin 1024) (q : Fin 1024) :
    ((cfg0.win 4).blk t).view.emb (ix2 p q) = ix2 ⟨1024 * (t.val) + p.val, by have := lt_N t; omega⟩ q :=
  put2 (idx4 t) 1024 p 1024 q

theorem flushed4 (t : Fin cfg0.N) :
    (dats m 0 c).flushed 4 t = ((cfg0.win 4).blk t).view.read (Elt Ideal) (resid m c) := by
  rw [Value.flushed4_A m c t, res_A]
  funext j
  obtain ⟨p, q, rfl⟩ : ∃ (p : Fin 1024) (q : Fin 1024), j = ix2 p q := ⟨j 0, j 1, eq_ix2 j⟩
  show k0_pay3 (F := Ideal) _ _ _ (ix2 p q) = resid m c (((cfg0.win 4).blk t).view.emb (ix2 p q))
  rw [emb4, pay3_apply]
  exact congrArg₂ (· + ·) (blk_x m c t p q) (congrArg₂ (· * ·) (blk_g m c t 0 q) (product m c t p q))

/-- The point that writes an element back. -/
def pt (i : S8192x1024.Idx) : Fin cfg0.N :=
  ⟨(i 0).val / 1024, by
    have h0 : (i 0).val < 8192 := (i 0).isLt
    have h1 : (i 1).val < 1024 := (i 1).isLt
    have h : cfg0.N = 8 := N_0
    omega⟩

theorem cover5 (i : S8192x1024.Idx) :
    ∃ t : Fin cfg0.N, (cfg0.win 5).flush t = true ∧ i ∈ ((cfg0.win 5).blk t).view.set := by
  refine ⟨pt i, flush0_5 _, mem_at _ (ix2 ⟨(i 0).val % 1024, Nat.mod_lt _ (by norm_num)⟩ ⟨(i 1).val % 1024, Nat.mod_lt _ (by norm_num)⟩ : S1024x1024.Idx) ?_⟩
  have h0 : (i 0).val < 8192 := (i 0).isLt
  have h1 : (i 1).val < 1024 := (i 1).isLt
  have hp : (pt i).val = (i 0).val / 1024 := rfl
  exact (put2 (a := i 0) (b := i 1) (idx5 (pt i)) 1024 ((i 0).val % 1024) 1024 ((i 1).val % 1024)).trans (eq_ix2 i).symm

theorem final5 : (dats m 0 c).arrAt 5 cfg0.N = total m c :=
  (dats m 0 c).arrAt_eq_of_cover 5 _ (fun t _ => flushed5 m c t) cover5

theorem cover4 (i : S8192x1024.Idx) :
    ∃ t : Fin cfg0.N, (cfg0.win 4).flush t = true ∧ i ∈ ((cfg0.win 4).blk t).view.set := by
  refine ⟨pt i, flush0_4 _, mem_at _ (ix2 ⟨(i 0).val % 1024, Nat.mod_lt _ (by norm_num)⟩ ⟨(i 1).val % 1024, Nat.mod_lt _ (by norm_num)⟩ : S1024x1024.Idx) ?_⟩
  have h0 : (i 0).val < 8192 := (i 0).isLt
  have h1 : (i 1).val < 1024 := (i 1).isLt
  have hp : (pt i).val = (i 0).val / 1024 := rfl
  exact (put2 (a := i 0) (b := i 1) (idx4 (pt i)) 1024 ((i 0).val % 1024) 1024 ((i 1).val % 1024)).trans (eq_ix2 i).symm

theorem final4 : (dats m 0 c).arrAt 4 cfg0.N = resid m c :=
  (dats m 0 c).arrAt_eq_of_cover 4 _ (fun t _ => flushed4 m c t) cover4

end Array

/-! ### The reference -/

theorem reference (x0 : S8192x1536.Idx → EReal) (x1 : S1536x1024.Idx → EReal) (i : S8192x1024.Idx) :
    Cert.EvOutRefIdeal.Read.val_main_v2 (F := Ideal) x0 x1 i = ∑ k : Fin 1536, x0 (ix2 (i 0) k) * x1 (ix2 k (i 1)) := by
  rw [Cert.EvOutRefIdeal.Read.val_main_v2_apply]
  refine Finset.sum_congr rfl fun k _ => ?_
  exact congrArg₂ (· * ·) (congrArg x0 (at2 _ _ _ rfl rfl)) (congrArg x1 (at2 _ _ _ rfl rfl))

theorem algebraic : algebraic_EvOutIdeal_EvOutRefIdeal := by
  intro m g m' g' _ hagree
  refine ⟨fun c => resid m c, fun c => total m c,
    (θ_run _ _ _).mono (fun r h c => ⟨(h c).1.trans (final4 m c), (h c).2.1.trans (final5 m c), (h c).2.2⟩) (Value.run_blocks m g),
    (θ_run _ _ _).mono (fun r h c => ?_) (Cert.EvOutRefIdeal.Value.run m' g')⟩
  obtain ⟨a0, a1, a2, a3⟩ := hagree c
  obtain ⟨u, v, uargs⟩ := h c
  refine ⟨(u.trans (Cert.EvOutRefIdeal.Read.val_main_v5_eq _ _ _ _)).trans ?_,
    (v.trans (Cert.EvOutRefIdeal.Read.val_main_v2_eq _ _)).trans ?_, uargs⟩
  · rw [a0, a1, a2, a3]
    funext i
    rw [Cert.EvOutRefIdeal.Read.val_main_v5_apply, Cert.EvOutRefIdeal.Read.val_main_v4_apply,
      Cert.EvOutRefIdeal.Read.val_main_v3_apply]
    refine congrArg₂ (· + ·) rfl (congrArg₂ (· * ·) (congrArg (G m c) ?_) (reference _ _ i))
    funext a; apply Fin.ext
    match a with
    | ⟨0, _⟩ => rfl
    | ⟨1, _⟩ => rfl
  · rw [a0, a1]
    funext i
    exact reference _ _ i

theorem frame_reference : quiescent_EvOutRefIdeal := fun m g _ =>
  (θ_run _ _ _).mono (fun r h => ⟨fun c => (h c).2.2, sem_eq_zero_of_no_sems (by decide) r.2⟩) (Cert.EvOutRefIdeal.Value.run m g)

end Cert.Proof.EvOut

end
-- ==== Proof.lean ====
/- The certificate: the attention computes its reference's four results, and each further call its own reference's result. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference
public import proofs.«01_k».proof.Proof.Gen.Reference.Run
public import proofs.«01_k».proof.Proof.Run
public import proofs.«01_k».proof.Proof.Finite
public import proofs.«01_k».proof.Proof.Gen.Pre_finite
public import proofs.«01_k».proof.Proof.Gen.MidBwd.Frame
public import proofs.«01_k».proof.Proof.Gen.MidBwdIdeal.Value
public import proofs.«01_k».proof.Proof.Gen.MidBwdRefIdeal.Run
public import proofs.«01_k».proof.Proof.Gen.MidBwdRefIdeal.Read
public import proofs.«01_k».proof.Proof.MidBwd
public import proofs.«01_k».proof.Proof.Gen.UpDx.Frame
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.UpDx
public import proofs.«01_k».proof.Proof.Gen.UpDw.Frame
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.UpDw
public import proofs.«01_k».proof.Proof.Gen.DownDx.Frame
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.DownDx
public import proofs.«01_k».proof.Proof.Gen.DownDw.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.DownDw
public import proofs.«01_k».proof.Proof.Gen.GateBwd.Frame
public import proofs.«01_k».proof.Proof.Gen.GateBwdIdeal.Value
public import proofs.«01_k».proof.Proof.Gen.GateBwdRefIdeal.Run
public import proofs.«01_k».proof.Proof.Gen.GateBwdRefIdeal.Read
public import proofs.«01_k».proof.Proof.GateBwd
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import proofs.«01_k».proof.Proof.Up
public import proofs.«01_k».proof.Proof.Gen.Mid.Frame
public import proofs.«01_k».proof.Proof.Gen.MidIdeal.Value
public import proofs.«01_k».proof.Proof.Gen.MidRefIdeal.Run
public import proofs.«01_k».proof.Proof.Gen.MidRefIdeal.Read
public import proofs.«01_k».proof.Proof.Mid
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Down
public import proofs.«01_k».proof.Proof.Gen.OdMid.Frame
public import proofs.«01_k».proof.Proof.Gen.OdMidIdeal.Value
public import proofs.«01_k».proof.Proof.Gen.OdMidRefIdeal.Run
public import proofs.«01_k».proof.Proof.Gen.OdMidRefIdeal.Read
public import proofs.«01_k».proof.Proof.OdMid
public import proofs.«01_k».proof.Proof.Gen.OdMidBwd.Frame
public import proofs.«01_k».proof.Proof.Gen.OdMidBwdIdeal.Value
public import proofs.«01_k».proof.Proof.Gen.OdMidBwdRefIdeal.Run
public import proofs.«01_k».proof.Proof.Gen.OdMidBwdRefIdeal.Read
public import proofs.«01_k».proof.Proof.OdMidBwd
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import proofs.«01_k».proof.Proof.Norm
public import proofs.«01_k».proof.Proof.Gen.MixNorm.Frame
public import proofs.«01_k».proof.Proof.Gen.MixNormIdeal.Value
public import proofs.«01_k».proof.Proof.Gen.MixNormRefIdeal.Run
public import proofs.«01_k».proof.Proof.Gen.MixNormRefIdeal.Read
public import proofs.«01_k».proof.Proof.MixNorm
public import proofs.«01_k».proof.Proof.Gen.OdInDx.Frame
public import proofs.«01_k».proof.Proof.Gen.OdInDxIdeal.Value
public import proofs.«01_k».proof.Proof.Gen.OdInDxRefIdeal.Run
public import proofs.«01_k».proof.Proof.Gen.OdInDxRefIdeal.Read
public import proofs.«01_k».proof.Proof.OdInDx
public import proofs.«01_k».proof.Proof.Gen.OdInDw.Frame
public import proofs.«01_k».proof.Proof.Gen.OdInDwIdeal.Value
public import proofs.«01_k».proof.Proof.Gen.OdInDwRefIdeal.Run
public import proofs.«01_k».proof.Proof.Gen.OdInDwRefIdeal.Read
public import proofs.«01_k».proof.Proof.OdInDw
public import proofs.«01_k».proof.Proof.Gen.EvInDx.Frame
public import proofs.«01_k».proof.Proof.Gen.EvInDxIdeal.Value
public import proofs.«01_k».proof.Proof.Gen.EvInDxRefIdeal.Run
public import proofs.«01_k».proof.Proof.Gen.EvInDxRefIdeal.Read
public import proofs.«01_k».proof.Proof.EvInDx
public import proofs.«01_k».proof.Proof.Gen.EvInDw.Frame
public import proofs.«01_k».proof.Proof.Gen.EvInDwIdeal.Value
public import proofs.«01_k».proof.Proof.Gen.EvInDwRefIdeal.Run
public import proofs.«01_k».proof.Proof.Gen.EvInDwRefIdeal.Read
public import proofs.«01_k».proof.Proof.EvInDw
public import proofs.«01_k».proof.Proof.Gen.EvUqDx.Frame
public import proofs.«01_k».proof.Proof.Gen.EvUqDxIdeal.Value
public import proofs.«01_k».proof.Proof.Gen.EvUqDxRefIdeal.Run
public import proofs.«01_k».proof.Proof.Gen.EvUqDxRefIdeal.Read
public import proofs.«01_k».proof.Proof.EvUqDx
public import proofs.«01_k».proof.Proof.Gen.EvUqDw.Frame
public import proofs.«01_k».proof.Proof.Gen.EvUqDwIdeal.Value
public import proofs.«01_k».proof.Proof.Gen.EvUqDwRefIdeal.Run
public import proofs.«01_k».proof.Proof.Gen.EvUqDwRefIdeal.Read
public import proofs.«01_k».proof.Proof.EvUqDw
public import proofs.«01_k».proof.Proof.Gen.EvUkvDx.Frame
public import proofs.«01_k».proof.Proof.Gen.EvUkvDxIdeal.Value
public import proofs.«01_k».proof.Proof.Gen.EvUkvDxRefIdeal.Run
public import proofs.«01_k».proof.Proof.Gen.EvUkvDxRefIdeal.Read
public import proofs.«01_k».proof.Proof.EvUkvDx
public import proofs.«01_k».proof.Proof.Gen.EvUkvDw.Frame
public import proofs.«01_k».proof.Proof.Gen.EvUkvDwIdeal.Value
public import proofs.«01_k».proof.Proof.Gen.EvUkvDwRefIdeal.Run
public import proofs.«01_k».proof.Proof.Gen.EvUkvDwRefIdeal.Read
public import proofs.«01_k».proof.Proof.EvUkvDw
public import proofs.«01_k».proof.Proof.Gen.OdOutDx.Frame
public import proofs.«01_k».proof.Proof.Gen.OdOutDxIdeal.Value
public import proofs.«01_k».proof.Proof.Gen.OdOutDxRefIdeal.Run
public import proofs.«01_k».proof.Proof.Gen.OdOutDxRefIdeal.Read
public import proofs.«01_k».proof.Proof.OdOutDx
public import proofs.«01_k».proof.Proof.Gen.OdOutDw.Frame
public import proofs.«01_k».proof.Proof.Gen.OdOutDwIdeal.Value
public import proofs.«01_k».proof.Proof.Gen.OdOutDwRefIdeal.Run
public import proofs.«01_k».proof.Proof.Gen.OdOutDwRefIdeal.Read
public import proofs.«01_k».proof.Proof.OdOutDw
public import proofs.«01_k».proof.Proof.Gen.EvOutDx.Frame
public import proofs.«01_k».proof.Proof.Gen.EvOutDxIdeal.Value
public import proofs.«01_k».proof.Proof.Gen.EvOutDxRefIdeal.Run
public import proofs.«01_k».proof.Proof.Gen.EvOutDxRefIdeal.Read
public import proofs.«01_k».proof.Proof.EvOutDx
public import proofs.«01_k».proof.Proof.Gen.EvOutDw.Frame
public import proofs.«01_k».proof.Proof.Gen.EvOutDwIdeal.Value
public import proofs.«01_k».proof.Proof.Gen.EvOutDwRefIdeal.Run
public import proofs.«01_k».proof.Proof.Gen.EvOutDwRefIdeal.Read
public import proofs.«01_k».proof.Proof.EvOutDw
public import proofs.«01_k».proof.Proof.Gen.OdIn.Frame
public import proofs.«01_k».proof.Proof.Gen.OdInIdeal.Value
public import proofs.«01_k».proof.Proof.Gen.OdInRefIdeal.Run
public import proofs.«01_k».proof.Proof.Gen.OdInRefIdeal.Read
public import proofs.«01_k».proof.Proof.OdIn
public import proofs.«01_k».proof.Proof.Gen.EvIn.Frame
public import proofs.«01_k».proof.Proof.Gen.EvInIdeal.Value
public import proofs.«01_k».proof.Proof.Gen.EvInRefIdeal.Run
public import proofs.«01_k».proof.Proof.Gen.EvInRefIdeal.Read
public import proofs.«01_k».proof.Proof.EvIn
public import proofs.«01_k».proof.Proof.Gen.EvUq.Frame
public import proofs.«01_k».proof.Proof.Gen.EvUqIdeal.Value
public import proofs.«01_k».proof.Proof.Gen.EvUqRefIdeal.Run
public import proofs.«01_k».proof.Proof.Gen.EvUqRefIdeal.Read
public import proofs.«01_k».proof.Proof.EvUq
public import proofs.«01_k».proof.Proof.Gen.EvUkv.Frame
public import proofs.«01_k».proof.Proof.Gen.EvUkvIdeal.Value
public import proofs.«01_k».proof.Proof.Gen.EvUkvRefIdeal.Run
public import proofs.«01_k».proof.Proof.Gen.EvUkvRefIdeal.Read
public import proofs.«01_k».proof.Proof.EvUkv
public import proofs.«01_k».proof.Proof.Gen.OdOut.Frame
public import proofs.«01_k».proof.Proof.Gen.OdOutIdeal.Value
public import proofs.«01_k».proof.Proof.Gen.OdOutRefIdeal.Run
public import proofs.«01_k».proof.Proof.Gen.OdOutRefIdeal.Read
public import proofs.«01_k».proof.Proof.OdOut
public import proofs.«01_k».proof.Proof.Gen.EvOut.Frame
public import proofs.«01_k».proof.Proof.Gen.EvOutIdeal.Value
public import proofs.«01_k».proof.Proof.Gen.EvOutRefIdeal.Run
public import proofs.«01_k».proof.Proof.Gen.EvOutRefIdeal.Read
public import proofs.«01_k».proof.Proof.EvOut
public import proofs.«01_k».proof.Proof.Gen.Pre_finite_mid
public import Idealize.ShloMosaic.Adequacy
public import Idealize.ShloMosaic.Init

@[expose] public section

noncomputable section

namespace Cert.Proof

open Idealize.ShloMosaic Idealize.SL.Sem
open Cert.Proof.Host Cert.Proof.RefValue

/-- The four results, as arrays: what the reference computes from the arguments is what the kernel leaves. -/
theorem results (m : (ℓ : Loc KernelIdeal.nD KernelIdeal.τ KernelIdeal.sig) → Buf (Elt Ideal) ℓ) (g : Dev KernelIdeal.nD → PrngReg)
    (hm : Pre_KernelIdeal_finite m) (c : Dev KernelIdeal.nD)
    (x0 : (⟨ReferenceIdeal.S8192x8x96, .f32⟩ : BufTy).Contents (Elt Ideal)) (x1 : (⟨ReferenceIdeal.S8448x8x96, .f32⟩ : BufTy).Contents (Elt Ideal))
    (x2 : (⟨ReferenceIdeal.S8448x8x64, .f32⟩ : BufTy).Contents (Elt Ideal)) (x3 : (⟨ReferenceIdeal.S8192x8x64, .f32⟩ : BufTy).Contents (Elt Ideal))
    (e0 : x0 = m ((c.tc : Thread KernelIdeal.nD KernelIdeal.τ).loc KernelIdeal.main_arg0))
    (e1 : x1 = m ((c.tc : Thread KernelIdeal.nD KernelIdeal.τ).loc KernelIdeal.main_arg1))
    (e2 : x2 = m ((c.tc : Thread KernelIdeal.nD KernelIdeal.τ).loc KernelIdeal.main_arg2))
    (e3 : x3 = m ((c.tc : Thread KernelIdeal.nD KernelIdeal.τ).loc KernelIdeal.main_arg3)) :
    ReferenceIdeal.Read.val_main_v32 (F := Ideal) x0 x1 x2 = KernelIdeal.Gen.W14 m g c (Proc.devRef .tc KernelIdeal.main_v22)
    ∧ ReferenceIdeal.Read.val_main_v54 (F := Ideal) x0 x1 x2 x3 = KernelIdeal.Gen.W14 m g c (Proc.devRef .tc KernelIdeal.main_v26)
    ∧ ReferenceIdeal.Read.val_main_v52 (F := Ideal) x0 x1 x2 x3 = KernelIdeal.Gen.W14 m g c (Proc.devRef .tc KernelIdeal.main_v28)
    ∧ ReferenceIdeal.Read.val_main_v36 (F := Ideal) x0 x1 x3 = KernelIdeal.Gen.W14 m g c (Proc.devRef .tc KernelIdeal.main_v30) := by
  obtain ⟨q, k, v, ct, ha⟩ := Finite.args m hm c
  have h0 : R3 (a := 8192) (b := 8) (c := 96) x0 q := by rw [e0]; exact Finite.r3_of_holds ha.hq
  have h1 : R3 (a := 8448) (b := 8) (c := 96) x1 k := by rw [e1]; exact Finite.r3_of_holds ha.hk
  have h2 : R3 (a := 8448) (b := 8) (c := 64) x2 v := by rw [e2]; exact Finite.r3_of_holds ha.hv
  have h3 : R3 (a := 8192) (b := 8) (c := 64) x3 ct := by rw [e3]; exact Finite.r3_of_holds ha.hct
  obtain ⟨μ, hμ⟩ := max_real h0 h1
  refine ⟨?_, ?_, ?_, ?_⟩
  · refine Finite.eq_of_nums (v32 h0 h1 h2 hμ) fun i n x => ?_
    refine (w14_o g ha i n x).trans (congrArg _ ?_)
    rw [Algebra.out_eq q k v _ _ _ x.isLt]
    exact Finset.sum_congr rfl fun j _ => by rw [Algebra.ref_weight]
  · refine Finite.eq_of_nums (v54 h0 h1 h2 h3 hμ) fun i n x => ?_
    exact (w14_dq g ha i n x).trans (congrArg _ (Algebra.dq_eq q k v ct μ _ _ _ x.isLt))
  · refine Finite.eq_of_nums (v52 h0 h1 h2 h3 hμ) fun i n x => ?_
    exact (w14_dk g ha i n x).trans (congrArg _ (Algebra.dk_eq q k v ct μ _ _ _ x.isLt))
  · refine Finite.eq_of_nums (v36 h0 h1 h3 hμ) fun i n x => ?_
    refine (w14_dv g ha i n x).trans (congrArg _ ?_)
    rw [Algebra.dv_eq q k ct _ _ _ x.isLt]
    exact Finset.sum_congr rfl fun j _ => by rw [Algebra.ref_weight]

/-- The kernel and the reference end with equal results. -/
theorem algebraic : algebraic_KernelIdeal_ReferenceIdeal_pre_finite := by
  intro m g m' g' hm hagree
  refine ⟨fun c => KernelIdeal.Gen.W14 m g c (Proc.devRef .tc KernelIdeal.main_v22), fun c => KernelIdeal.Gen.W14 m g c (Proc.devRef .tc KernelIdeal.main_v26),
    fun c => KernelIdeal.Gen.W14 m g c (Proc.devRef .tc KernelIdeal.main_v28), fun c => KernelIdeal.Gen.W14 m g c (Proc.devRef .tc KernelIdeal.main_v30),
    Run.run m g, (θ_run _ _ _).mono (fun r hr c => ?_) (ReferenceIdeal.Value.run m' g')⟩
  obtain ⟨a0, a1, a2, a3⟩ := hagree c
  obtain ⟨r0, r1, r2, r3⟩ := results m g hm c _ _ _ _ a0 a1 a2 a3
  obtain ⟨u0, u1, u2, u3, uargs⟩ := hr c
  exact ⟨(u0.trans (ReferenceIdeal.Read.val_main_v32_eq _ _ _)).trans r0, (u1.trans (ReferenceIdeal.Read.val_main_v54_eq m' c)).trans r1,
    (u2.trans (ReferenceIdeal.Read.val_main_v52_eq m' c)).trans r2, (u3.trans (ReferenceIdeal.Read.val_main_v36_eq _ _ _)).trans r3, uargs⟩

theorem frame_reference_ideal : quiescent_ReferenceIdeal := fun m g _ =>
  (θ_run _ _ _).mono (fun r h => ⟨fun c => (h c).2.2.2.2, sem_eq_zero_of_no_sems (by decide) r.2⟩) (ReferenceIdeal.Value.run m g)

theorem frame_reference : quiescent_Reference := fun m g _ =>
  (θ_run _ _ _).mono (fun r h => ⟨fun c => (h c).2.2.2.2, sem_eq_zero_of_no_sems (by decide) r.2⟩) (Reference.Value.run m g)

/-- The two rounded constants are those of `1 / ln 2` and `ln 2`. -/
theorem preserves : preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

theorem claim : Cert.Claim :=
  ⟨Cert.Kernel.Gen.facts, Cert.KernelIdeal.Gen.facts, Cert.ReferenceIdeal.Gen.facts, Cert.Reference.Gen.facts, Cert.MidBwd.Gen.facts,
    Cert.MidBwdIdeal.Gen.facts, Cert.MidBwdRefIdeal.Gen.facts, Cert.UpDx.Gen.facts, Cert.UpDxIdeal.Gen.facts,
    Cert.UpDxRefIdeal.Gen.facts, Cert.UpDw.Gen.facts, Cert.UpDwIdeal.Gen.facts, Cert.UpDwRefIdeal.Gen.facts, Cert.DownDx.Gen.facts,
    Cert.DownDxIdeal.Gen.facts, Cert.DownDxRefIdeal.Gen.facts, Cert.DownDw.Gen.facts, Cert.DownDwIdeal.Gen.facts,
    Cert.DownDwRefIdeal.Gen.facts, Cert.GateBwd.Gen.facts, Cert.GateBwdIdeal.Gen.facts, Cert.GateBwdRefIdeal.Gen.facts,
    Cert.Up.Gen.facts, Cert.UpIdeal.Gen.facts, Cert.UpRefIdeal.Gen.facts, Cert.Mid.Gen.facts, Cert.MidIdeal.Gen.facts,
    Cert.MidRefIdeal.Gen.facts, Cert.Down.Gen.facts, Cert.DownIdeal.Gen.facts, Cert.DownRefIdeal.Gen.facts, Cert.OdMid.Gen.facts,
    Cert.OdMidIdeal.Gen.facts, Cert.OdMidRefIdeal.Gen.facts, Cert.OdMidBwd.Gen.facts, Cert.OdMidBwdIdeal.Gen.facts,
    Cert.OdMidBwdRefIdeal.Gen.facts, Cert.Norm.Gen.facts, Cert.NormIdeal.Gen.facts, Cert.NormRefIdeal.Gen.facts,
    Cert.MixNorm.Gen.facts, Cert.MixNormIdeal.Gen.facts, Cert.MixNormRefIdeal.Gen.facts, Cert.OdInDx.Gen.facts,
    Cert.OdInDxIdeal.Gen.facts, Cert.OdInDxRefIdeal.Gen.facts, Cert.OdInDw.Gen.facts, Cert.OdInDwIdeal.Gen.facts,
    Cert.OdInDwRefIdeal.Gen.facts, Cert.EvInDx.Gen.facts, Cert.EvInDxIdeal.Gen.facts, Cert.EvInDxRefIdeal.Gen.facts,
    Cert.EvInDw.Gen.facts, Cert.EvInDwIdeal.Gen.facts, Cert.EvInDwRefIdeal.Gen.facts, Cert.EvUqDx.Gen.facts,
    Cert.EvUqDxIdeal.Gen.facts, Cert.EvUqDxRefIdeal.Gen.facts, Cert.EvUqDw.Gen.facts, Cert.EvUqDwIdeal.Gen.facts,
    Cert.EvUqDwRefIdeal.Gen.facts, Cert.EvUkvDx.Gen.facts, Cert.EvUkvDxIdeal.Gen.facts, Cert.EvUkvDxRefIdeal.Gen.facts,
    Cert.EvUkvDw.Gen.facts, Cert.EvUkvDwIdeal.Gen.facts, Cert.EvUkvDwRefIdeal.Gen.facts, Cert.OdOutDx.Gen.facts,
    Cert.OdOutDxIdeal.Gen.facts, Cert.OdOutDxRefIdeal.Gen.facts, Cert.OdOutDw.Gen.facts, Cert.OdOutDwIdeal.Gen.facts,
    Cert.OdOutDwRefIdeal.Gen.facts, Cert.EvOutDx.Gen.facts, Cert.EvOutDxIdeal.Gen.facts, Cert.EvOutDxRefIdeal.Gen.facts,
    Cert.EvOutDw.Gen.facts, Cert.EvOutDwIdeal.Gen.facts, Cert.EvOutDwRefIdeal.Gen.facts, Cert.OdIn.Gen.facts,
    Cert.OdInIdeal.Gen.facts, Cert.OdInRefIdeal.Gen.facts, Cert.EvIn.Gen.facts, Cert.EvInIdeal.Gen.facts, Cert.EvInRefIdeal.Gen.facts,
    Cert.EvUq.Gen.facts, Cert.EvUqIdeal.Gen.facts, Cert.EvUqRefIdeal.Gen.facts, Cert.EvUkv.Gen.facts, Cert.EvUkvIdeal.Gen.facts,
    Cert.EvUkvRefIdeal.Gen.facts, Cert.OdOut.Gen.facts, Cert.OdOutIdeal.Gen.facts, Cert.OdOutRefIdeal.Gen.facts, Cert.EvOut.Gen.facts,
    Cert.EvOutIdeal.Gen.facts, Cert.EvOutRefIdeal.Gen.facts, Cert.Pre_finite.Gen.facts, Cert.Pre_finite_mid.Gen.facts, fun m g _ =>
    Cert.Kernel.Gen.frame m g, fun m g _ => Cert.KernelIdeal.Gen.frame m g, fun m g _ => Cert.KernelIdeal.Gen.frame m g,
    frame_reference_ideal, fun m g _ => frame_reference_ideal m g trivial, frame_reference, fun m g _ => Cert.MidBwd.Gen.frame m g,
    fun m g _ => Cert.MidBwdIdeal.Gen.frame m g, fun m g _ => Cert.MidBwdIdeal.Gen.frame m g, MidBwd.frame_reference, fun m g _ =>
    MidBwd.frame_reference m g trivial, fun m g _ => Cert.UpDx.Gen.frame m g, fun m g _ => Cert.UpDxIdeal.Gen.frame m g,
    UpDx.frame_reference, fun m g _ => Cert.UpDw.Gen.frame m g, fun m g _ => Cert.UpDwIdeal.Gen.frame m g, UpDw.frame_reference, fun m
    g _ => Cert.DownDx.Gen.frame m g, fun m g _ => Cert.DownDxIdeal.Gen.frame m g, DownDx.frame_reference, fun m g _ =>
    Cert.DownDw.Gen.frame m g, fun m g _ => Cert.DownDwIdeal.Gen.frame m g, DownDw.frame_reference, fun m g _ =>
    Cert.GateBwd.Gen.frame m g, fun m g _ => Cert.GateBwdIdeal.Gen.frame m g, GateBwd.frame_reference, fun m g _ => Cert.Up.Gen.frame
    m g, fun m g _ => Cert.UpIdeal.Gen.frame m g, Up.frame_reference, fun m g _ => Cert.Mid.Gen.frame m g, fun m g _ =>
    Cert.MidIdeal.Gen.frame m g, Mid.frame_reference, fun m g _ => Cert.Down.Gen.frame m g, fun m g _ => Cert.DownIdeal.Gen.frame m g,
    Down.frame_reference, fun m g _ => Cert.OdMid.Gen.frame m g, fun m g _ => Cert.OdMidIdeal.Gen.frame m g, OdMid.frame_reference,
    fun m g _ => Cert.OdMidBwd.Gen.frame m g, fun m g _ => Cert.OdMidBwdIdeal.Gen.frame m g, OdMidBwd.frame_reference, fun m g _ =>
    Cert.Norm.Gen.frame m g, fun m g _ => Cert.NormIdeal.Gen.frame m g, Norm.frame_reference, fun m g _ => Cert.MixNorm.Gen.frame m g,
    fun m g _ => Cert.MixNormIdeal.Gen.frame m g, MixNorm.frame_reference, fun m g _ => Cert.OdInDx.Gen.frame m g, fun m g _ =>
    Cert.OdInDxIdeal.Gen.frame m g, OdInDx.frame_reference, fun m g _ => Cert.OdInDw.Gen.frame m g, fun m g _ =>
    Cert.OdInDwIdeal.Gen.frame m g, OdInDw.frame_reference, fun m g _ => Cert.EvInDx.Gen.frame m g, fun m g _ =>
    Cert.EvInDxIdeal.Gen.frame m g, EvInDx.frame_reference, fun m g _ => Cert.EvInDw.Gen.frame m g, fun m g _ =>
    Cert.EvInDwIdeal.Gen.frame m g, EvInDw.frame_reference, fun m g _ => Cert.EvUqDx.Gen.frame m g, fun m g _ =>
    Cert.EvUqDxIdeal.Gen.frame m g, EvUqDx.frame_reference, fun m g _ => Cert.EvUqDw.Gen.frame m g, fun m g _ =>
    Cert.EvUqDwIdeal.Gen.frame m g, EvUqDw.frame_reference, fun m g _ => Cert.EvUkvDx.Gen.frame m g, fun m g _ =>
    Cert.EvUkvDxIdeal.Gen.frame m g, EvUkvDx.frame_reference, fun m g _ => Cert.EvUkvDw.Gen.frame m g, fun m g _ =>
    Cert.EvUkvDwIdeal.Gen.frame m g, EvUkvDw.frame_reference, fun m g _ => Cert.OdOutDx.Gen.frame m g, fun m g _ =>
    Cert.OdOutDxIdeal.Gen.frame m g, OdOutDx.frame_reference, fun m g _ => Cert.OdOutDw.Gen.frame m g, fun m g _ =>
    Cert.OdOutDwIdeal.Gen.frame m g, OdOutDw.frame_reference, fun m g _ => Cert.EvOutDx.Gen.frame m g, fun m g _ =>
    Cert.EvOutDxIdeal.Gen.frame m g, EvOutDx.frame_reference, fun m g _ => Cert.EvOutDw.Gen.frame m g, fun m g _ =>
    Cert.EvOutDwIdeal.Gen.frame m g, EvOutDw.frame_reference, fun m g _ => Cert.OdIn.Gen.frame m g, fun m g _ =>
    Cert.OdInIdeal.Gen.frame m g, OdIn.frame_reference, fun m g _ => Cert.EvIn.Gen.frame m g, fun m g _ => Cert.EvInIdeal.Gen.frame m
    g, EvIn.frame_reference, fun m g _ => Cert.EvUq.Gen.frame m g, fun m g _ => Cert.EvUqIdeal.Gen.frame m g, EvUq.frame_reference,
    fun m g _ => Cert.EvUkv.Gen.frame m g, fun m g _ => Cert.EvUkvIdeal.Gen.frame m g, EvUkv.frame_reference, fun m g _ =>
    Cert.OdOut.Gen.frame m g, fun m g _ => Cert.OdOutIdeal.Gen.frame m g, OdOut.frame_reference, fun m g _ => Cert.EvOut.Gen.frame m
    g, fun m g _ => Cert.EvOutIdeal.Gen.frame m g, EvOut.frame_reference, preserves, trivial, algebraic, trivial, MidBwd.algebraic,
    trivial, UpDx.algebraic, trivial, UpDw.algebraic, trivial, DownDx.algebraic, trivial, DownDw.algebraic, trivial,
    GateBwd.algebraic, trivial, Up.algebraic, trivial, Mid.algebraic, trivial, Down.algebraic, trivial, OdMid.algebraic, trivial,
    OdMidBwd.algebraic, trivial, Norm.algebraic, trivial, MixNorm.algebraic, trivial, OdInDx.algebraic, trivial, OdInDw.algebraic,
    trivial, EvInDx.algebraic, trivial, EvInDw.algebraic, trivial, EvUqDx.algebraic, trivial, EvUqDw.algebraic, trivial,
    EvUkvDx.algebraic, trivial, EvUkvDw.algebraic, trivial, OdOutDx.algebraic, trivial, OdOutDw.algebraic, trivial, EvOutDx.algebraic,
    trivial, EvOutDw.algebraic, trivial, OdIn.algebraic, trivial, EvIn.algebraic, trivial, EvUq.algebraic, trivial, EvUkv.algebraic,
    trivial, OdOut.algebraic, trivial, EvOut.algebraic⟩

end Cert.Proof

end
